-- ==== Defs.lean ====
def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_CfLnKernel [hPre_cfln_finite : Cert.Pre_cfln_finite.Facts] (m : (ℓ : Loc Cert.CfLnKernel.nD Cert.CfLnKernel.τ Cert.CfLnKernel.sig) → Buf (Elt Bits) ℓ) : Prop :=
  ∀ c : Dev Cert.CfLnKernel.nD,
    (Cert.Pre_cfln_finite.fn (F := Bits) (m ((c.tc : Thread Cert.CfLnKernel.nD Cert.CfLnKernel.τ).loc Cert.CfLnKernel.main_arg0)) (m ((c.tc : Thread Cert.CfLnKernel.nD Cert.CfLnKernel.τ).loc Cert.CfLnKernel.main_arg1)) (m ((c.tc : Thread Cert.CfLnKernel.nD Cert.CfLnKernel.τ).loc Cert.CfLnKernel.main_arg2)) (m ((c.tc : Thread Cert.CfLnKernel.nD Cert.CfLnKernel.τ).loc Cert.CfLnKernel.main_arg3)) (m ((c.tc : Thread Cert.CfLnKernel.nD Cert.CfLnKernel.τ).loc Cert.CfLnKernel.main_arg4)) (m ((c.tc : Thread Cert.CfLnKernel.nD Cert.CfLnKernel.τ).loc Cert.CfLnKernel.main_arg5))) = (fun _ => 1#1)

def Pre_CfLnKernelIdeal [hPre_cfln_finite : Cert.Pre_cfln_finite.Facts] (m : (ℓ : Loc Cert.CfLnKernelIdeal.nD Cert.CfLnKernelIdeal.τ Cert.CfLnKernelIdeal.sig) → Buf (Elt Ideal) ℓ) : Prop :=
  ∀ c : Dev Cert.CfLnKernelIdeal.nD,
    (Cert.Pre_cfln_finite.fn (F := Ideal) (m ((c.tc : Thread Cert.CfLnKernelIdeal.nD Cert.CfLnKernelIdeal.τ).loc Cert.CfLnKernelIdeal.main_arg0)) (m ((c.tc : Thread Cert.CfLnKernelIdeal.nD Cert.CfLnKernelIdeal.τ).loc Cert.CfLnKernelIdeal.main_arg1)) (m ((c.tc : Thread Cert.CfLnKernelIdeal.nD Cert.CfLnKernelIdeal.τ).loc Cert.CfLnKernelIdeal.main_arg2)) (m ((c.tc : Thread Cert.CfLnKernelIdeal.nD Cert.CfLnKernelIdeal.τ).loc Cert.CfLnKernelIdeal.main_arg3)) (m ((c.tc : Thread Cert.CfLnKernelIdeal.nD Cert.CfLnKernelIdeal.τ).loc Cert.CfLnKernelIdeal.main_arg4)) (m ((c.tc : Thread Cert.CfLnKernelIdeal.nD Cert.CfLnKernelIdeal.τ).loc Cert.CfLnKernelIdeal.main_arg5))) = (fun _ => 1#1)

def Pre_CfLnReferenceIdeal [hPre_cfln_finite : Cert.Pre_cfln_finite.Facts] (m : (ℓ : Loc Cert.CfLnReferenceIdeal.nD Cert.CfLnReferenceIdeal.τ Cert.CfLnReferenceIdeal.sig) → Buf (Elt Ideal) ℓ) : Prop :=
  ∀ c : Dev Cert.CfLnReferenceIdeal.nD,
    (Cert.Pre_cfln_finite.fn (F := Ideal) (m ((c.tc : Thread Cert.CfLnReferenceIdeal.nD Cert.CfLnReferenceIdeal.τ).loc Cert.CfLnReferenceIdeal.main_arg0)) (m ((c.tc : Thread Cert.CfLnReferenceIdeal.nD Cert.CfLnReferenceIdeal.τ).loc Cert.CfLnReferenceIdeal.main_arg1)) (m ((c.tc : Thread Cert.CfLnReferenceIdeal.nD Cert.CfLnReferenceIdeal.τ).loc Cert.CfLnReferenceIdeal.main_arg2)) (m ((c.tc : Thread Cert.CfLnReferenceIdeal.nD Cert.CfLnReferenceIdeal.τ).loc Cert.CfLnReferenceIdeal.main_arg3)) (m ((c.tc : Thread Cert.CfLnReferenceIdeal.nD Cert.CfLnReferenceIdeal.τ).loc Cert.CfLnReferenceIdeal.main_arg4)) (m ((c.tc : Thread Cert.CfLnReferenceIdeal.nD Cert.CfLnReferenceIdeal.τ).loc Cert.CfLnReferenceIdeal.main_arg5))) = (fun _ => 1#1)

def Pre_SguKernel [hPre_sgu_finite : Cert.Pre_sgu_finite.Facts] (m : (ℓ : Loc Cert.SguKernel.nD Cert.SguKernel.τ Cert.SguKernel.sig) → Buf (Elt Bits) ℓ) : Prop :=
  ∀ c : Dev Cert.SguKernel.nD,
    (Cert.Pre_sgu_finite.fn (F := Bits) (m ((c.tc : Thread Cert.SguKernel.nD Cert.SguKernel.τ).loc Cert.SguKernel.main_arg0)) (m ((c.tc : Thread Cert.SguKernel.nD Cert.SguKernel.τ).loc Cert.SguKernel.main_arg1)) (m ((c.tc : Thread Cert.SguKernel.nD Cert.SguKernel.τ).loc Cert.SguKernel.main_arg2)) (m ((c.tc : Thread Cert.SguKernel.nD Cert.SguKernel.τ).loc Cert.SguKernel.main_arg3)) (m ((c.tc : Thread Cert.SguKernel.nD Cert.SguKernel.τ).loc Cert.SguKernel.main_arg4)) (m ((c.tc : Thread Cert.SguKernel.nD Cert.SguKernel.τ).loc Cert.SguKernel.main_arg5))) = (fun _ => 1#1)

def Pre_SguKernelIdeal [hPre_sgu_finite : Cert.Pre_sgu_finite.Facts] (m : (ℓ : Loc Cert.SguKernelIdeal.nD Cert.SguKernelIdeal.τ Cert.SguKernelIdeal.sig) → Buf (Elt Ideal) ℓ) : Prop :=
  ∀ c : Dev Cert.SguKernelIdeal.nD,
    (Cert.Pre_sgu_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))) = (fun _ => 1#1)

def Pre_SguReferenceIdeal [hPre_sgu_finite : Cert.Pre_sgu_finite.Facts] (m : (ℓ : Loc Cert.SguReferenceIdeal.nD Cert.SguReferenceIdeal.τ Cert.SguReferenceIdeal.sig) → Buf (Elt Ideal) ℓ) : Prop :=
  ∀ c : Dev Cert.SguReferenceIdeal.nD,
    (Cert.Pre_sgu_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))) = (fun _ => 1#1)

def Pre_SwigluKernel [hPre_swiglu_finite : Cert.Pre_swiglu_finite.Facts] (m : (ℓ : Loc Cert.SwigluKernel.nD Cert.SwigluKernel.τ Cert.SwigluKernel.sig) → Buf (Elt Bits) ℓ) : Prop :=
  ∀ c : Dev Cert.SwigluKernel.nD,
    (Cert.Pre_swiglu_finite.fn (F := Bits) (m ((c.tc : Thread Cert.SwigluKernel.nD Cert.SwigluKernel.τ).loc Cert.SwigluKernel.main_arg0)) (m ((c.tc : Thread Cert.SwigluKernel.nD Cert.SwigluKernel.τ).loc Cert.SwigluKernel.main_arg1)) (m ((c.tc : Thread Cert.SwigluKernel.nD Cert.SwigluKernel.τ).loc Cert.SwigluKernel.main_arg2)) (m ((c.tc : Thread Cert.SwigluKernel.nD Cert.SwigluKernel.τ).loc Cert.SwigluKernel.main_arg3))) = (fun _ => 1#1)

def Pre_SwigluKernelIdeal [hPre_swiglu_finite : Cert.Pre_swiglu_finite.Facts] (m : (ℓ : Loc Cert.SwigluKernelIdeal.nD Cert.SwigluKernelIdeal.τ Cert.SwigluKernelIdeal.sig) → Buf (Elt Ideal) ℓ) : Prop :=
  ∀ c : Dev Cert.SwigluKernelIdeal.nD,
    (Cert.Pre_swiglu_finite.fn (F := Ideal) (m ((c.tc : Thread Cert.SwigluKernelIdeal.nD Cert.SwigluKernelIdeal.τ).loc Cert.SwigluKernelIdeal.main_arg0)) (m ((c.tc : Thread Cert.SwigluKernelIdeal.nD Cert.SwigluKernelIdeal.τ).loc Cert.SwigluKernelIdeal.main_arg1)) (m ((c.tc : Thread Cert.SwigluKernelIdeal.nD Cert.SwigluKernelIdeal.τ).loc Cert.SwigluKernelIdeal.main_arg2)) (m ((c.tc : Thread Cert.SwigluKernelIdeal.nD Cert.SwigluKernelIdeal.τ).loc Cert.SwigluKernelIdeal.main_arg3))) = (fun _ => 1#1)

def Pre_SwigluReferenceIdeal [hPre_swiglu_finite : Cert.Pre_swiglu_finite.Facts] (m : (ℓ : Loc Cert.SwigluReferenceIdeal.nD Cert.SwigluReferenceIdeal.τ Cert.SwigluReferenceIdeal.sig) → Buf (Elt Ideal) ℓ) : Prop :=
  ∀ c : Dev Cert.SwigluReferenceIdeal.nD,
    (Cert.Pre_swiglu_finite.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1)) (m ((c.tc : Thread Cert.SwigluReferenceIdeal.nD Cert.SwigluReferenceIdeal.τ).loc Cert.SwigluReferenceIdeal.main_arg2)) (m ((c.tc : Thread Cert.SwigluReferenceIdeal.nD Cert.SwigluReferenceIdeal.τ).loc Cert.SwigluReferenceIdeal.main_arg3))) = (fun _ => 1#1)

def Pre_LossKernel [hPre_loss_finite : Cert.Pre_loss_finite.Facts] (m : (ℓ : Loc Cert.LossKernel.nD Cert.LossKernel.τ Cert.LossKernel.sig) → Buf (Elt Bits) ℓ) : Prop :=
  ∀ c : Dev Cert.LossKernel.nD,
    (Cert.Pre_loss_finite.fn (F := Bits) (m ((c.tc : Thread Cert.LossKernel.nD Cert.LossKernel.τ).loc Cert.LossKernel.main_arg0)) (m ((c.tc : Thread Cert.LossKernel.nD Cert.LossKernel.τ).loc Cert.LossKernel.main_arg1)) (m ((c.tc : Thread Cert.LossKernel.nD Cert.LossKernel.τ).loc Cert.LossKernel.main_arg2))) = (fun _ => 1#1)

def Pre_LossKernelIdeal [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_RmsPleKernel [hPre_rmsple_finite : Cert.Pre_rmsple_finite.Facts] (m : (ℓ : Loc Cert.RmsPleKernel.nD Cert.RmsPleKernel.τ Cert.RmsPleKernel.sig) → Buf (Elt Bits) ℓ) : Prop :=
  ∀ c : Dev Cert.RmsPleKernel.nD,
    (Cert.Pre_rmsple_finite.fn (F := Bits) (m ((c.tc : Thread Cert.RmsPleKernel.nD Cert.RmsPleKernel.τ).loc Cert.RmsPleKernel.main_arg0)) (m ((c.tc : Thread Cert.RmsPleKernel.nD Cert.RmsPleKernel.τ).loc Cert.RmsPleKernel.main_arg1)) (m ((c.tc : Thread Cert.RmsPleKernel.nD Cert.RmsPleKernel.τ).loc Cert.RmsPleKernel.main_arg2)) (m ((c.tc : Thread Cert.RmsPleKernel.nD Cert.RmsPleKernel.τ).loc Cert.RmsPleKernel.main_arg3)) (m ((c.tc : Thread Cert.RmsPleKernel.nD Cert.RmsPleKernel.τ).loc Cert.RmsPleKernel.main_arg4)) (m ((c.tc : Thread Cert.RmsPleKernel.nD Cert.RmsPleKernel.τ).loc Cert.RmsPleKernel.main_arg5))) = (fun _ => 1#1)

def Pre_RmsPleKernelIdeal [hPre_rmsple_finite : Cert.Pre_rmsple_finite.Facts] (m : (ℓ : Loc Cert.RmsPleKernelIdeal.nD Cert.RmsPleKernelIdeal.τ Cert.RmsPleKernelIdeal.sig) → Buf (Elt Ideal) ℓ) : Prop :=
  ∀ c : Dev Cert.RmsPleKernelIdeal.nD,
    (Cert.Pre_rmsple_finite.fn (F := Ideal) (m ((c.tc : Thread Cert.RmsPleKernelIdeal.nD Cert.RmsPleKernelIdeal.τ).loc Cert.RmsPleKernelIdeal.main_arg0)) (m ((c.tc : Thread Cert.RmsPleKernelIdeal.nD Cert.RmsPleKernelIdeal.τ).loc Cert.RmsPleKernelIdeal.main_arg1)) (m ((c.tc : Thread Cert.RmsPleKernelIdeal.nD Cert.RmsPleKernelIdeal.τ).loc Cert.RmsPleKernelIdeal.main_arg2)) (m ((c.tc : Thread Cert.RmsPleKernelIdeal.nD Cert.RmsPleKernelIdeal.τ).loc Cert.RmsPleKernelIdeal.main_arg3)) (m ((c.tc : Thread Cert.RmsPleKernelIdeal.nD Cert.RmsPleKernelIdeal.τ).loc Cert.RmsPleKernelIdeal.main_arg4)) (m ((c.tc : Thread Cert.RmsPleKernelIdeal.nD Cert.RmsPleKernelIdeal.τ).loc Cert.RmsPleKernelIdeal.main_arg5))) = (fun _ => 1#1)

def Pre_RmsPleReferenceIdeal [hPre_rmsple_finite : Cert.Pre_rmsple_finite.Facts] (m : (ℓ : Loc Cert.RmsPleReferenceIdeal.nD Cert.RmsPleReferenceIdeal.τ Cert.RmsPleReferenceIdeal.sig) → Buf (Elt Ideal) ℓ) : Prop :=
  ∀ c : Dev Cert.RmsPleReferenceIdeal.nD,
    (Cert.Pre_rmsple_finite.fn (F := Ideal) (m ((c.tc : Thread Cert.RmsPleReferenceIdeal.nD Cert.RmsPleReferenceIdeal.τ).loc Cert.RmsPleReferenceIdeal.main_arg0)) (m ((c.tc : Thread Cert.RmsPleReferenceIdeal.nD Cert.RmsPleReferenceIdeal.τ).loc Cert.RmsPleReferenceIdeal.main_arg1)) (m ((c.tc : Thread Cert.RmsPleReferenceIdeal.nD Cert.RmsPleReferenceIdeal.τ).loc Cert.RmsPleReferenceIdeal.main_arg2)) (m ((c.tc : Thread Cert.RmsPleReferenceIdeal.nD Cert.RmsPleReferenceIdeal.τ).loc Cert.RmsPleReferenceIdeal.main_arg3)) (m ((c.tc : Thread Cert.RmsPleReferenceIdeal.nD Cert.RmsPleReferenceIdeal.τ).loc Cert.RmsPleReferenceIdeal.main_arg4)) (m ((c.tc : Thread Cert.RmsPleReferenceIdeal.nD Cert.RmsPleReferenceIdeal.τ).loc Cert.RmsPleReferenceIdeal.main_arg5))) = (fun _ => 1#1)

def Pre_RmsKernel [hPre_rms_finite : Cert.Pre_rms_finite.Facts] (m : (ℓ : Loc Cert.RmsKernel.nD Cert.RmsKernel.τ Cert.RmsKernel.sig) → Buf (Elt Bits) ℓ) : Prop :=
  ∀ c : Dev Cert.RmsKernel.nD,
    (Cert.Pre_rms_finite.fn (F := Bits) (m ((c.tc : Thread Cert.RmsKernel.nD Cert.RmsKernel.τ).loc Cert.RmsKernel.main_arg0)) (m ((c.tc : Thread Cert.RmsKernel.nD Cert.RmsKernel.τ).loc Cert.RmsKernel.main_arg1)) (m ((c.tc : Thread Cert.RmsKernel.nD Cert.RmsKernel.τ).loc Cert.RmsKernel.main_arg2)) (m ((c.tc : Thread Cert.RmsKernel.nD Cert.RmsKernel.τ).loc Cert.RmsKernel.main_arg3))) = (fun _ => 1#1)

def Pre_RmsKernelIdeal [hPre_rms_finite : Cert.Pre_rms_finite.Facts] (m : (ℓ : Loc Cert.RmsKernelIdeal.nD Cert.RmsKernelIdeal.τ Cert.RmsKernelIdeal.sig) → Buf (Elt Ideal) ℓ) : Prop :=
  ∀ c : Dev Cert.RmsKernelIdeal.nD,
    (Cert.Pre_rms_finite.fn (F := Ideal) (m ((c.tc : Thread Cert.RmsKernelIdeal.nD Cert.RmsKernelIdeal.τ).loc Cert.RmsKernelIdeal.main_arg0)) (m ((c.tc : Thread Cert.RmsKernelIdeal.nD Cert.RmsKernelIdeal.τ).loc Cert.RmsKernelIdeal.main_arg1)) (m ((c.tc : Thread Cert.RmsKernelIdeal.nD Cert.RmsKernelIdeal.τ).loc Cert.RmsKernelIdeal.main_arg2)) (m ((c.tc : Thread Cert.RmsKernelIdeal.nD Cert.RmsKernelIdeal.τ).loc Cert.RmsKernelIdeal.main_arg3))) = (fun _ => 1#1)

def Pre_RmsReferenceIdeal [hPre_rms_finite : Cert.Pre_rms_finite.Facts] (m : (ℓ : Loc Cert.RmsReferenceIdeal.nD Cert.RmsReferenceIdeal.τ Cert.RmsReferenceIdeal.sig) → Buf (Elt Ideal) ℓ) : Prop :=
  ∀ c : Dev Cert.RmsReferenceIdeal.nD,
    (Cert.Pre_rms_finite.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3))) = (fun _ => 1#1)

def Pre_PoolKernel [hPre_pool_finite : Cert.Pre_pool_finite.Facts] (m : (ℓ : Loc Cert.PoolKernel.nD Cert.PoolKernel.τ Cert.PoolKernel.sig) → Buf (Elt Bits) ℓ) : Prop :=
  ∀ c : Dev Cert.PoolKernel.nD,
    (Cert.Pre_pool_finite.fn (F := Bits) (m ((c.tc : Thread Cert.PoolKernel.nD Cert.PoolKernel.τ).loc Cert.PoolKernel.main_arg0)) (m ((c.tc : Thread Cert.PoolKernel.nD Cert.PoolKernel.τ).loc Cert.PoolKernel.main_arg1)) (m ((c.tc : Thread Cert.PoolKernel.nD Cert.PoolKernel.τ).loc Cert.PoolKernel.main_arg2)) (m ((c.tc : Thread Cert.PoolKernel.nD Cert.PoolKernel.τ).loc Cert.PoolKernel.main_arg3))) = (fun _ => 1#1)

def Pre_PoolKernelIdeal [hPre_pool_finite : Cert.Pre_pool_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))) = (fun _ => 1#1)

def Pre_PoolReferenceIdeal [hPre_pool_finite : Cert.Pre_pool_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))) = (fun _ => 1#1)

def Pre_CfConvKernel [hPre_cfconv_finite : Cert.Pre_cfconv_finite.Facts] (m : (ℓ : Loc Cert.CfConvKernel.nD Cert.CfConvKernel.τ Cert.CfConvKernel.sig) → Buf (Elt Bits) ℓ) : Prop :=
  ∀ c : Dev Cert.CfConvKernel.nD,
    (Cert.Pre_cfconv_finite.fn (F := Bits) (m ((c.tc : Thread Cert.CfConvKernel.nD Cert.CfConvKernel.τ).loc Cert.CfConvKernel.main_arg0)) (m ((c.tc : Thread Cert.CfConvKernel.nD Cert.CfConvKernel.τ).loc Cert.CfConvKernel.main_arg1)) (m ((c.tc : Thread Cert.CfConvKernel.nD Cert.CfConvKernel.τ).loc Cert.CfConvKernel.main_arg2))) = (fun _ => 1#1)

def Pre_CfConvKernelIdeal [hPre_cfconv_finite : Cert.Pre_cfconv_finite.Facts] (m : (ℓ : Loc Cert.CfConvKernelIdeal.nD Cert.CfConvKernelIdeal.τ Cert.CfConvKernelIdeal.sig) → Buf (Elt Ideal) ℓ) : Prop :=
  ∀ c : Dev Cert.CfConvKernelIdeal.nD,
    (Cert.Pre_cfconv_finite.fn (F := Ideal) (m ((c.tc : Thread Cert.CfConvKernelIdeal.nD Cert.CfConvKernelIdeal.τ).loc Cert.CfConvKernelIdeal.main_arg0)) (m ((c.tc : Thread Cert.CfConvKernelIdeal.nD Cert.CfConvKernelIdeal.τ).loc Cert.CfConvKernelIdeal.main_arg1)) (m ((c.tc : Thread Cert.CfConvKernelIdeal.nD Cert.CfConvKernelIdeal.τ).loc Cert.CfConvKernelIdeal.main_arg2))) = (fun _ => 1#1)

def Pre_CfConvReferenceIdeal [hPre_cfconv_finite : Cert.Pre_cfconv_finite.Facts] (m : (ℓ : Loc Cert.CfConvReferenceIdeal.nD Cert.CfConvReferenceIdeal.τ Cert.CfConvReferenceIdeal.sig) → Buf (Elt Ideal) ℓ) : Prop :=
  ∀ c : Dev Cert.CfConvReferenceIdeal.nD,
    (Cert.Pre_cfconv_finite.fn (F := Ideal) (m ((c.tc : Thread Cert.CfConvReferenceIdeal.nD Cert.CfConvReferenceIdeal.τ).loc Cert.CfConvReferenceIdeal.main_arg0)) (m ((c.tc : Thread Cert.CfConvReferenceIdeal.nD Cert.CfConvReferenceIdeal.τ).loc Cert.CfConvReferenceIdeal.main_arg1)) (m ((c.tc : Thread Cert.CfConvReferenceIdeal.nD Cert.CfConvReferenceIdeal.τ).loc Cert.CfConvReferenceIdeal.main_arg2))) = (fun _ => 1#1)

def Pre_ShortKernel [hPre_short_finite : Cert.Pre_short_finite.Facts] (m : (ℓ : Loc Cert.ShortKernel.nD Cert.ShortKernel.τ Cert.ShortKernel.sig) → Buf (Elt Bits) ℓ) : Prop :=
  ∀ c : Dev Cert.ShortKernel.nD,
    (Cert.Pre_short_finite.fn (F := Bits) (m ((c.tc : Thread Cert.ShortKernel.nD Cert.ShortKernel.τ).loc Cert.ShortKernel.main_arg0)) (m ((c.tc : Thread Cert.ShortKernel.nD Cert.ShortKernel.τ).loc Cert.ShortKernel.main_arg1)) (m ((c.tc : Thread Cert.ShortKernel.nD Cert.ShortKernel.τ).loc Cert.ShortKernel.main_arg2))) = (fun _ => 1#1)

def Pre_ShortKernelIdeal [hPre_short_finite : Cert.Pre_short_finite.Facts] (m : (ℓ : Loc Cert.ShortKernelIdeal.nD Cert.ShortKernelIdeal.τ Cert.ShortKernelIdeal.sig) → Buf (Elt Ideal) ℓ) : Prop :=
  ∀ c : Dev Cert.ShortKernelIdeal.nD,
    (Cert.Pre_short_finite.fn (F := Ideal) (m ((c.tc : Thread Cert.ShortKernelIdeal.nD Cert.ShortKernelIdeal.τ).loc Cert.ShortKernelIdeal.main_arg0)) (m ((c.tc : Thread Cert.ShortKernelIdeal.nD Cert.ShortKernelIdeal.τ).loc Cert.ShortKernelIdeal.main_arg1)) (m ((c.tc : Thread Cert.ShortKernelIdeal.nD Cert.ShortKernelIdeal.τ).loc Cert.ShortKernelIdeal.main_arg2))) = (fun _ => 1#1)

def Pre_ShortReferenceIdeal [hPre_short_finite : Cert.Pre_short_finite.Facts] (m : (ℓ : Loc Cert.ShortReferenceIdeal.nD Cert.ShortReferenceIdeal.τ Cert.ShortReferenceIdeal.sig) → Buf (Elt Ideal) ℓ) : Prop :=
  ∀ c : Dev Cert.ShortReferenceIdeal.nD,
    (Cert.Pre_short_finite.fn (F := Ideal) (m ((c.tc : Thread Cert.ShortReferenceIdeal.nD Cert.ShortReferenceIdeal.τ).loc Cert.ShortReferenceIdeal.main_arg0)) (m ((c.tc : Thread Cert.ShortReferenceIdeal.nD Cert.ShortReferenceIdeal.τ).loc Cert.ShortReferenceIdeal.main_arg1)) (m ((c.tc : Thread Cert.ShortReferenceIdeal.nD Cert.ShortReferenceIdeal.τ).loc Cert.ShortReferenceIdeal.main_arg2))) = (fun _ => 1#1)

def Pre_RmsFKernel (m : (ℓ : Loc Cert.RmsFKernel.nD Cert.RmsFKernel.τ Cert.RmsFKernel.sig) → Buf (Elt Bits) ℓ) : Prop :=
  True

def Pre_RmsFKernelIdeal (m : (ℓ : Loc Cert.RmsFKernelIdeal.nD Cert.RmsFKernelIdeal.τ Cert.RmsFKernelIdeal.sig) → Buf (Elt Ideal) ℓ) : Prop :=
  True

def Pre_RmsFReferenceIdeal (m : (ℓ : Loc Cert.RmsFReferenceIdeal.nD Cert.RmsFReferenceIdeal.τ Cert.RmsFReferenceIdeal.sig) → Buf (Elt Ideal) ℓ) : Prop :=
  True

def Pre_CfLnFKernel (m : (ℓ : Loc Cert.CfLnFKernel.nD Cert.CfLnFKernel.τ Cert.CfLnFKernel.sig) → Buf (Elt Bits) ℓ) : Prop :=
  True

def Pre_CfLnFKernelIdeal (m : (ℓ : Loc Cert.CfLnFKernelIdeal.nD Cert.CfLnFKernelIdeal.τ Cert.CfLnFKernelIdeal.sig) → Buf (Elt Ideal) ℓ) : Prop :=
  True

def Pre_CfLnFReferenceIdeal (m : (ℓ : Loc Cert.CfLnFReferenceIdeal.nD Cert.CfLnFReferenceIdeal.τ Cert.CfLnFReferenceIdeal.sig) → Buf (Elt Ideal) ℓ) : Prop :=
  True

def Pre_SguFKernel (m : (ℓ : Loc Cert.SguFKernel.nD Cert.SguFKernel.τ Cert.SguFKernel.sig) → Buf (Elt Bits) ℓ) : Prop :=
  True

def Pre_SguFKernelIdeal (m : (ℓ : Loc Cert.SguFKernelIdeal.nD Cert.SguFKernelIdeal.τ Cert.SguFKernelIdeal.sig) → Buf (Elt Ideal) ℓ) : Prop :=
  True

def Pre_SguFReferenceIdeal (m : (ℓ : Loc Cert.SguFReferenceIdeal.nD Cert.SguFReferenceIdeal.τ Cert.SguFReferenceIdeal.sig) → Buf (Elt Ideal) ℓ) : Prop :=
  True

def Pre_PoolFKernel [hPre_poolf_finite : Cert.Pre_poolf_finite.Facts] (m : (ℓ : Loc Cert.PoolFKernel.nD Cert.PoolFKernel.τ Cert.PoolFKernel.sig) → Buf (Elt Bits) ℓ) : Prop :=
  ∀ c : Dev Cert.PoolFKernel.nD,
    (Cert.Pre_poolf_finite.fn (F := Bits) (m ((c.tc : Thread Cert.PoolFKernel.nD Cert.PoolFKernel.τ).loc Cert.PoolFKernel.main_arg0)) (m ((c.tc : Thread Cert.PoolFKernel.nD Cert.PoolFKernel.τ).loc Cert.PoolFKernel.main_arg1)) (m ((c.tc : Thread Cert.PoolFKernel.nD Cert.PoolFKernel.τ).loc Cert.PoolFKernel.main_arg2))) = (fun _ => 1#1)

def Pre_PoolFKernelIdeal [hPre_poolf_finite : Cert.Pre_poolf_finite.Facts] (m : (ℓ : Loc Cert.PoolFKernelIdeal.nD Cert.PoolFKernelIdeal.τ Cert.PoolFKernelIdeal.sig) → Buf (Elt Ideal) ℓ) : Prop :=
  ∀ c : Dev Cert.PoolFKernelIdeal.nD,
    (Cert.Pre_poolf_finite.fn (F := Ideal) (m ((c.tc : Thread Cert.PoolFKernelIdeal.nD Cert.PoolFKernelIdeal.τ).loc Cert.PoolFKernelIdeal.main_arg0)) (m ((c.tc : Thread Cert.PoolFKernelIdeal.nD Cert.PoolFKernelIdeal.τ).loc Cert.PoolFKernelIdeal.main_arg1)) (m ((c.tc : Thread Cert.PoolFKernelIdeal.nD Cert.PoolFKernelIdeal.τ).loc Cert.PoolFKernelIdeal.main_arg2))) = (fun _ => 1#1)

def Pre_PoolFReferenceIdeal [hPre_poolf_finite : Cert.Pre_poolf_finite.Facts] (m : (ℓ : Loc Cert.PoolFReferenceIdeal.nD Cert.PoolFReferenceIdeal.τ Cert.PoolFReferenceIdeal.sig) → Buf (Elt Ideal) ℓ) : Prop :=
  ∀ c : Dev Cert.PoolFReferenceIdeal.nD,
    (Cert.Pre_poolf_finite.fn (F := Ideal) (m ((c.tc : Thread Cert.PoolFReferenceIdeal.nD Cert.PoolFReferenceIdeal.τ).loc Cert.PoolFReferenceIdeal.main_arg0)) (m ((c.tc : Thread Cert.PoolFReferenceIdeal.nD Cert.PoolFReferenceIdeal.τ).loc Cert.PoolFReferenceIdeal.main_arg1)) (m ((c.tc : Thread Cert.PoolFReferenceIdeal.nD Cert.PoolFReferenceIdeal.τ).loc Cert.PoolFReferenceIdeal.main_arg2))) = (fun _ => 1#1)

def Pre_SwigluFKernel (m : (ℓ : Loc Cert.SwigluFKernel.nD Cert.SwigluFKernel.τ Cert.SwigluFKernel.sig) → Buf (Elt Bits) ℓ) : Prop :=
  True

def Pre_SwigluFKernelIdeal (m : (ℓ : Loc Cert.SwigluFKernelIdeal.nD Cert.SwigluFKernelIdeal.τ Cert.SwigluFKernelIdeal.sig) → Buf (Elt Ideal) ℓ) : Prop :=
  True

def Pre_SwigluFReferenceIdeal (m : (ℓ : Loc Cert.SwigluFReferenceIdeal.nD Cert.SwigluFReferenceIdeal.τ Cert.SwigluFReferenceIdeal.sig) → Buf (Elt Ideal) ℓ) : Prop :=
  True

def Pre_PleFKernel (m : (ℓ : Loc Cert.PleFKernel.nD Cert.PleFKernel.τ Cert.PleFKernel.sig) → Buf (Elt Bits) ℓ) : Prop :=
  True

def Pre_PleFKernelIdeal (m : (ℓ : Loc Cert.PleFKernelIdeal.nD Cert.PleFKernelIdeal.τ Cert.PleFKernelIdeal.sig) → Buf (Elt Ideal) ℓ) : Prop :=
  True

def Pre_PleFReferenceIdeal (m : (ℓ : Loc Cert.PleFReferenceIdeal.nD Cert.PleFReferenceIdeal.τ Cert.PleFReferenceIdeal.sig) → Buf (Elt Ideal) ℓ) : Prop :=
  True

def Pre_CfConvFKernel (m : (ℓ : Loc Cert.CfConvFKernel.nD Cert.CfConvFKernel.τ Cert.CfConvFKernel.sig) → Buf (Elt Bits) ℓ) : Prop :=
  True

def Pre_CfConvFKernelIdeal (m : (ℓ : Loc Cert.CfConvFKernelIdeal.nD Cert.CfConvFKernelIdeal.τ Cert.CfConvFKernelIdeal.sig) → Buf (Elt Ideal) ℓ) : Prop :=
  True

def Pre_CfConvFReferenceIdeal (m : (ℓ : Loc Cert.CfConvFReferenceIdeal.nD Cert.CfConvFReferenceIdeal.τ Cert.CfConvFReferenceIdeal.sig) → Buf (Elt Ideal) ℓ) : Prop :=
  True

def Pre_ShortFKernel (m : (ℓ : Loc Cert.ShortFKernel.nD Cert.ShortFKernel.τ Cert.ShortFKernel.sig) → Buf (Elt Bits) ℓ) : Prop :=
  True

def Pre_ShortFKernelIdeal (m : (ℓ : Loc Cert.ShortFKernelIdeal.nD Cert.ShortFKernelIdeal.τ Cert.ShortFKernelIdeal.sig) → Buf (Elt Ideal) ℓ) : Prop :=
  True

def Pre_ShortFReferenceIdeal (m : (ℓ : Loc Cert.ShortFReferenceIdeal.nD Cert.ShortFReferenceIdeal.τ Cert.ShortFReferenceIdeal.sig) → Buf (Elt Ideal) ℓ) : Prop :=
  True

def Pre_WGradKernel (m : (ℓ : Loc Cert.WGradKernel.nD Cert.WGradKernel.τ Cert.WGradKernel.sig) → Buf (Elt Bits) ℓ) : Prop :=
  True

def Pre_WGradKernelIdeal (m : (ℓ : Loc Cert.WGradKernelIdeal.nD Cert.WGradKernelIdeal.τ Cert.WGradKernelIdeal.sig) → Buf (Elt Ideal) ℓ) : Prop :=
  True

def Pre_WGradReferenceIdeal (m : (ℓ : Loc Cert.WGradReferenceIdeal.nD Cert.WGradReferenceIdeal.τ Cert.WGradReferenceIdeal.sig) → Buf (Elt Ideal) ℓ) : Prop :=
  True

def Pre_ResidKernel (m : (ℓ : Loc Cert.ResidKernel.nD Cert.ResidKernel.τ Cert.ResidKernel.sig) → Buf (Elt Bits) ℓ) : Prop :=
  True

def Pre_ResidKernelIdeal (m : (ℓ : Loc Cert.ResidKernelIdeal.nD Cert.ResidKernelIdeal.τ Cert.ResidKernelIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_AGradKernel (m : (ℓ : Loc Cert.AGradKernel.nD Cert.AGradKernel.τ Cert.AGradKernel.sig) → Buf (Elt Bits) ℓ) : Prop :=
  True

def Pre_AGradKernelIdeal (m : (ℓ : Loc Cert.AGradKernelIdeal.nD Cert.AGradKernelIdeal.τ Cert.AGradKernelIdeal.sig) → Buf (Elt Ideal) ℓ) : Prop :=
  True

def Pre_AGradReferenceIdeal (m : (ℓ : Loc Cert.AGradReferenceIdeal.nD Cert.AGradReferenceIdeal.τ Cert.AGradReferenceIdeal.sig) → Buf (Elt Ideal) ℓ) : Prop :=
  True

def Pre_FGradKernel (m : (ℓ : Loc Cert.FGradKernel.nD Cert.FGradKernel.τ Cert.FGradKernel.sig) → Buf (Elt Bits) ℓ) : Prop :=
  True

def Pre_FGradKernelIdeal (m : (ℓ : Loc Cert.FGradKernelIdeal.nD Cert.FGradKernelIdeal.τ Cert.FGradKernelIdeal.sig) → Buf (Elt Ideal) ℓ) : Prop :=
  True

def Pre_FGradReferenceIdeal (m : (ℓ : Loc Cert.FGradReferenceIdeal.nD Cert.FGradReferenceIdeal.τ Cert.FGradReferenceIdeal.sig) → Buf (Elt Ideal) ℓ) : Prop :=
  True

def Pre_Sum8Kernel (m : (ℓ : Loc Cert.Sum8Kernel.nD Cert.Sum8Kernel.τ Cert.Sum8Kernel.sig) → Buf (Elt Bits) ℓ) : Prop :=
  True

def Pre_Sum8KernelIdeal (m : (ℓ : Loc Cert.Sum8KernelIdeal.nD Cert.Sum8KernelIdeal.τ Cert.Sum8KernelIdeal.sig) → Buf (Elt Ideal) ℓ) : Prop :=
  True

def Pre_Sum8ReferenceIdeal (m : (ℓ : Loc Cert.Sum8ReferenceIdeal.nD Cert.Sum8ReferenceIdeal.τ Cert.Sum8ReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2))
      ∧ r.2.sem = fun _ => 0)

def quiescent_CfLnKernel [hCfLnKernel : Cert.CfLnKernel.Facts] [hPre_cfln_finite : Cert.Pre_cfln_finite.Facts] : Prop :=
  ∀ (m : (ℓ : Loc Cert.CfLnKernel.nD Cert.CfLnKernel.τ Cert.CfLnKernel.sig) → Buf (Elt Bits) ℓ) (g : Dev Cert.CfLnKernel.nD → PrngReg), Pre_CfLnKernel m →
    θ_run (Cert.CfLnKernel.defs (F := Bits)) (onTc (τ := Cert.CfLnKernel.τ) (Cert.CfLnKernel.main (F := Bits))) ⟨m, fun _ => 0, g⟩ (fun r => (∀ c : Dev Cert.CfLnKernel.nD,
      r.2.mem ((c.tc : Thread Cert.CfLnKernel.nD Cert.CfLnKernel.τ).loc Cert.CfLnKernel.main_arg0) = m ((c.tc : Thread Cert.CfLnKernel.nD Cert.CfLnKernel.τ).loc Cert.CfLnKernel.main_arg0)
      ∧ r.2.mem ((c.tc : Thread Cert.CfLnKernel.nD Cert.CfLnKernel.τ).loc Cert.CfLnKernel.main_arg1) = m ((c.tc : Thread Cert.CfLnKernel.nD Cert.CfLnKernel.τ).loc Cert.CfLnKernel.main_arg1)
      ∧ r.2.mem ((c.tc : Thread Cert.CfLnKernel.nD Cert.CfLnKernel.τ).loc Cert.CfLnKernel.main_arg2) = m ((c.tc : Thread Cert.CfLnKernel.nD Cert.CfLnKernel.τ).loc Cert.CfLnKernel.main_arg2)
      ∧ r.2.mem ((c.tc : Thread Cert.CfLnKernel.nD Cert.CfLnKernel.τ).loc Cert.CfLnKernel.main_arg3) = m ((c.tc : Thread Cert.CfLnKernel.nD Cert.CfLnKernel.τ).loc Cert.CfLnKernel.main_arg3)
      ∧ r.2.mem ((c.tc : Thread Cert.CfLnKernel.nD Cert.CfLnKernel.τ).loc Cert.CfLnKernel.main_arg4) = m ((c.tc : Thread Cert.CfLnKernel.nD Cert.CfLnKernel.τ).loc Cert.CfLnKernel.main_arg4)
      ∧ r.2.mem ((c.tc : Thread Cert.CfLnKernel.nD Cert.CfLnKernel.τ).loc Cert.CfLnKernel.main_arg5) = m ((c.tc : Thread Cert.CfLnKernel.nD Cert.CfLnKernel.τ).loc Cert.CfLnKernel.main_arg5))
      ∧ r.2.sem = fun _ => 0)

def quiescent_CfLnKernelIdeal [hCfLnKernelIdeal : Cert.CfLnKernelIdeal.Facts] [hPre_cfln_finite : Cert.Pre_cfln_finite.Facts] : Prop :=
  ∀ (m : (ℓ : Loc Cert.CfLnKernelIdeal.nD Cert.CfLnKernelIdeal.τ Cert.CfLnKernelIdeal.sig) → Buf (Elt Ideal) ℓ) (g : Dev Cert.CfLnKernelIdeal.nD → PrngReg), Pre_CfLnKernelIdeal m →
    θ_run (Cert.CfLnKernelIdeal.defs (F := Ideal)) (onTc (τ := Cert.CfLnKernelIdeal.τ) (Cert.CfLnKernelIdeal.main (F := Ideal))) ⟨m, fun _ => 0, g⟩ (fun r => (∀ c : Dev Cert.CfLnKernelIdeal.nD,
      r.2.mem ((c.tc : Thread Cert.CfLnKernelIdeal.nD Cert.CfLnKernelIdeal.τ).loc Cert.CfLnKernelIdeal.main_arg0) = m ((c.tc : Thread Cert.CfLnKernelIdeal.nD Cert.CfLnKernelIdeal.τ).loc Cert.CfLnKernelIdeal.main_arg0)
      ∧ r.2.mem ((c.tc : Thread Cert.CfLnKernelIdeal.nD Cert.CfLnKernelIdeal.τ).loc Cert.CfLnKernelIdeal.main_arg1) = m ((c.tc : Thread Cert.CfLnKernelIdeal.nD Cert.CfLnKernelIdeal.τ).loc Cert.CfLnKernelIdeal.main_arg1)
      ∧ r.2.mem ((c.tc : Thread Cert.CfLnKernelIdeal.nD Cert.CfLnKernelIdeal.τ).loc Cert.CfLnKernelIdeal.main_arg2) = m ((c.tc : Thread Cert.CfLnKernelIdeal.nD Cert.CfLnKernelIdeal.τ).loc Cert.CfLnKernelIdeal.main_arg2)
      ∧ r.2.mem ((c.tc : Thread Cert.CfLnKernelIdeal.nD Cert.CfLnKernelIdeal.τ).loc Cert.CfLnKernelIdeal.main_arg3) = m ((c.tc : Thread Cert.CfLnKernelIdeal.nD Cert.CfLnKernelIdeal.τ).loc Cert.CfLnKernelIdeal.main_arg3)
      ∧ r.2.mem ((c.tc : Thread Cert.CfLnKernelIdeal.nD Cert.CfLnKernelIdeal.τ).loc Cert.CfLnKernelIdeal.main_arg4) = m ((c.tc : Thread Cert.CfLnKernelIdeal.nD Cert.CfLnKernelIdeal.τ).loc Cert.CfLnKernelIdeal.main_arg4)
      ∧ r.2.mem ((c.tc : Thread Cert.CfLnKernelIdeal.nD Cert.CfLnKernelIdeal.τ).loc Cert.CfLnKernelIdeal.main_arg5) = m ((c.tc : Thread Cert.CfLnKernelIdeal.nD Cert.CfLnKernelIdeal.τ).loc Cert.CfLnKernelIdeal.main_arg5))
      ∧ r.2.sem = fun _ => 0)

def quiescent_CfLnReferenceIdeal [hCfLnReferenceIdeal : Cert.CfLnReferenceIdeal.Facts] [hPre_cfln_finite : Cert.Pre_cfln_finite.Facts] : Prop :=
  ∀ (m : (ℓ : Loc Cert.CfLnReferenceIdeal.nD Cert.CfLnReferenceIdeal.τ Cert.CfLnReferenceIdeal.sig) → Buf (Elt Ideal) ℓ) (g : Dev Cert.CfLnReferenceIdeal.nD → PrngReg), Pre_CfLnReferenceIdeal m →
    θ_run (Cert.CfLnReferenceIdeal.defs (F := Ideal)) (onTc (τ := Cert.CfLnReferenceIdeal.τ) (Cert.CfLnReferenceIdeal.main (F := Ideal))) ⟨m, fun _ => 0, g⟩ (fun r => (∀ c : Dev Cert.CfLnReferenceIdeal.nD,
      r.2.mem ((c.tc : Thread Cert.CfLnReferenceIdeal.nD Cert.CfLnReferenceIdeal.τ).loc Cert.CfLnReferenceIdeal.main_arg0) = m ((c.tc : Thread Cert.CfLnReferenceIdeal.nD Cert.CfLnReferenceIdeal.τ).loc Cert.CfLnReferenceIdeal.main_arg0)
      ∧ r.2.mem ((c.tc : Thread Cert.CfLnReferenceIdeal.nD Cert.CfLnReferenceIdeal.τ).loc Cert.CfLnReferenceIdeal.main_arg1) = m ((c.tc : Thread Cert.CfLnReferenceIdeal.nD Cert.CfLnReferenceIdeal.τ).loc Cert.CfLnReferenceIdeal.main_arg1)
      ∧ r.2.mem ((c.tc : Thread Cert.CfLnReferenceIdeal.nD Cert.CfLnReferenceIdeal.τ).loc Cert.CfLnReferenceIdeal.main_arg2) = m ((c.tc : Thread Cert.CfLnReferenceIdeal.nD Cert.CfLnReferenceIdeal.τ).loc Cert.CfLnReferenceIdeal.main_arg2)
      ∧ r.2.mem ((c.tc : Thread Cert.CfLnReferenceIdeal.nD Cert.CfLnReferenceIdeal.τ).loc Cert.CfLnReferenceIdeal.main_arg3) = m ((c.tc : Thread Cert.CfLnReferenceIdeal.nD Cert.CfLnReferenceIdeal.τ).loc Cert.CfLnReferenceIdeal.main_arg3)
      ∧ r.2.mem ((c.tc : Thread Cert.CfLnReferenceIdeal.nD Cert.CfLnReferenceIdeal.τ).loc Cert.CfLnReferenceIdeal.main_arg4) = m ((c.tc : Thread Cert.CfLnReferenceIdeal.nD Cert.CfLnReferenceIdeal.τ).loc Cert.CfLnReferenceIdeal.main_arg4)
      ∧ r.2.mem ((c.tc : Thread Cert.CfLnReferenceIdeal.nD Cert.CfLnReferenceIdeal.τ).loc Cert.CfLnReferenceIdeal.main_arg5) = m ((c.tc : Thread Cert.CfLnReferenceIdeal.nD Cert.CfLnReferenceIdeal.τ).loc Cert.CfLnReferenceIdeal.main_arg5))
      ∧ r.2.sem = fun _ => 0)

def quiescent_SguKernel [hSguKernel : Cert.SguKernel.Facts] [hPre_sgu_finite : Cert.Pre_sgu_finite.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5))
      ∧ r.2.sem = fun _ => 0)

def quiescent_SguKernelIdeal [hSguKernelIdeal : Cert.SguKernelIdeal.Facts] [hPre_sgu_finite : Cert.Pre_sgu_finite.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguReferenceIdeal [hSguReferenceIdeal : Cert.SguReferenceIdeal.Facts] [hPre_sgu_finite : Cert.Pre_sgu_finite.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_SwigluKernel [hSwigluKernel : Cert.SwigluKernel.Facts] [hPre_swiglu_finite : Cert.Pre_swiglu_finite.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0)
      ∧ r.2.mem ((c.tc : Thread Cert.SwigluKernel.nD Cert.SwigluKernel.τ).loc Cert.SwigluKernel.main_arg1) = m ((c.tc : Thread Cert.SwigluKernel.nD Cert.SwigluKernel.τ).loc Cert.SwigluKernel.main_arg1)
      ∧ r.2.mem ((c.tc : Thread Cert.SwigluKernel.nD Cert.SwigluKernel.τ).loc Cert.SwigluKernel.main_arg2) = m ((c.tc : Thread Cert.SwigluKernel.nD Cert.SwigluKernel.τ).loc Cert.SwigluKernel.main_arg2)
      ∧ r.2.mem ((c.tc : Thread Cert.SwigluKernel.nD Cert.SwigluKernel.τ).loc Cert.SwigluKernel.main_arg3) = m ((c.tc : Thread Cert.SwigluKernel.nD Cert.SwigluKernel.τ).loc Cert.SwigluKernel.main_arg3))
      ∧ r.2.sem = fun _ => 0)

def quiescent_SwigluKernelIdeal [hSwigluKernelIdeal : Cert.SwigluKernelIdeal.Facts] [hPre_swiglu_finite : Cert.Pre_swiglu_finite.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
      ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2)
      ∧ r.2.mem ((c.tc : Thread Cert.SwigluKernelIdeal.nD Cert.SwigluKernelIdeal.τ).loc Cert.SwigluKernelIdeal.main_arg3) = m ((c.tc : Thread Cert.SwigluKernelIdeal.nD Cert.SwigluKernelIdeal.τ).loc Cert.SwigluKernelIdeal.main_arg3))
      ∧ r.2.sem = fun _ => 0)

def quiescent_SwigluReferenceIdeal [hSwigluReferenceIdeal : Cert.SwigluReferenceIdeal.Facts] [hPre_swiglu_finite : Cert.Pre_swiglu_finite.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2)
      ∧ r.2.mem ((c.tc : Thread Cert.SwigluReferenceIdeal.nD Cert.SwigluReferenceIdeal.τ).loc Cert.SwigluReferenceIdeal.main_arg3) = m ((c.tc : Thread Cert.SwigluReferenceIdeal.nD Cert.SwigluReferenceIdeal.τ).loc Cert.SwigluReferenceIdeal.main_arg3))
      ∧ r.2.sem = fun _ => 0)

def quiescent_LossKernel [hLossKernel : Cert.LossKernel.Facts] [hPre_loss_finite : Cert.Pre_loss_finite.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_RmsPleKernel [hRmsPleKernel : Cert.RmsPleKernel.Facts] [hPre_rmsple_finite : Cert.Pre_rmsple_finite.Facts] : Prop :=
  ∀ (m : (ℓ : Loc Cert.RmsPleKernel.nD Cert.RmsPleKernel.τ Cert.RmsPleKernel.sig) → Buf (Elt Bits) ℓ) (g : Dev Cert.RmsPleKernel.nD → PrngReg), Pre_RmsPleKernel m →
    θ_run (Cert.RmsPleKernel.defs (F := Bits)) (onTc (τ := Cert.RmsPleKernel.τ) (Cert.RmsPleKernel.main (F := Bits))) ⟨m, fun _ => 0, g⟩ (fun r => (∀ c : Dev Cert.RmsPleKernel.nD,
      r.2.mem ((c.tc : Thread Cert.RmsPleKernel.nD Cert.RmsPleKernel.τ).loc Cert.RmsPleKernel.main_arg0) = m ((c.tc : Thread Cert.RmsPleKernel.nD Cert.RmsPleKernel.τ).loc Cert.RmsPleKernel.main_arg0)
      ∧ r.2.mem ((c.tc : Thread Cert.RmsPleKernel.nD Cert.RmsPleKernel.τ).loc Cert.RmsPleKernel.main_arg1) = m ((c.tc : Thread Cert.RmsPleKernel.nD Cert.RmsPleKernel.τ).loc Cert.RmsPleKernel.main_arg1)
      ∧ r.2.mem ((c.tc : Thread Cert.RmsPleKernel.nD Cert.RmsPleKernel.τ).loc Cert.RmsPleKernel.main_arg2) = m ((c.tc : Thread Cert.RmsPleKernel.nD Cert.RmsPleKernel.τ).loc Cert.RmsPleKernel.main_arg2)
      ∧ r.2.mem ((c.tc : Thread Cert.RmsPleKernel.nD Cert.RmsPleKernel.τ).loc Cert.RmsPleKernel.main_arg3) = m ((c.tc : Thread Cert.RmsPleKernel.nD Cert.RmsPleKernel.τ).loc Cert.RmsPleKernel.main_arg3)
      ∧ r.2.mem ((c.tc : Thread Cert.RmsPleKernel.nD Cert.RmsPleKernel.τ).loc Cert.RmsPleKernel.main_arg4) = m ((c.tc : Thread Cert.RmsPleKernel.nD Cert.RmsPleKernel.τ).loc Cert.RmsPleKernel.main_arg4)
      ∧ r.2.mem ((c.tc : Thread Cert.RmsPleKernel.nD Cert.RmsPleKernel.τ).loc Cert.RmsPleKernel.main_arg5) = m ((c.tc : Thread Cert.RmsPleKernel.nD Cert.RmsPleKernel.τ).loc Cert.RmsPleKernel.main_arg5))
      ∧ r.2.sem = fun _ => 0)

def quiescent_RmsPleKernelIdeal [hRmsPleKernelIdeal : Cert.RmsPleKernelIdeal.Facts] [hPre_rmsple_finite : Cert.Pre_rmsple_finite.Facts] : Prop :=
  ∀ (m : (ℓ : Loc Cert.RmsPleKernelIdeal.nD Cert.RmsPleKernelIdeal.τ Cert.RmsPleKernelIdeal.sig) → Buf (Elt Ideal) ℓ) (g : Dev Cert.RmsPleKernelIdeal.nD → PrngReg), Pre_RmsPleKernelIdeal m →
    θ_run (Cert.RmsPleKernelIdeal.defs (F := Ideal)) (onTc (τ := Cert.RmsPleKernelIdeal.τ) (Cert.RmsPleKernelIdeal.main (F := Ideal))) ⟨m, fun _ => 0, g⟩ (fun r => (∀ c : Dev Cert.RmsPleKernelIdeal.nD,
      r.2.mem ((c.tc : Thread Cert.RmsPleKernelIdeal.nD Cert.RmsPleKernelIdeal.τ).loc Cert.RmsPleKernelIdeal.main_arg0) = m ((c.tc : Thread Cert.RmsPleKernelIdeal.nD Cert.RmsPleKernelIdeal.τ).loc Cert.RmsPleKernelIdeal.main_arg0)
      ∧ r.2.mem ((c.tc : Thread Cert.RmsPleKernelIdeal.nD Cert.RmsPleKernelIdeal.τ).loc Cert.RmsPleKernelIdeal.main_arg1) = m ((c.tc : Thread Cert.RmsPleKernelIdeal.nD Cert.RmsPleKernelIdeal.τ).loc Cert.RmsPleKernelIdeal.main_arg1)
      ∧ r.2.mem ((c.tc : Thread Cert.RmsPleKernelIdeal.nD Cert.RmsPleKernelIdeal.τ).loc Cert.RmsPleKernelIdeal.main_arg2) = m ((c.tc : Thread Cert.RmsPleKernelIdeal.nD Cert.RmsPleKernelIdeal.τ).loc Cert.RmsPleKernelIdeal.main_arg2)
      ∧ r.2.mem ((c.tc : Thread Cert.RmsPleKernelIdeal.nD Cert.RmsPleKernelIdeal.τ).loc Cert.RmsPleKernelIdeal.main_arg3) = m ((c.tc : Thread Cert.RmsPleKernelIdeal.nD Cert.RmsPleKernelIdeal.τ).loc Cert.RmsPleKernelIdeal.main_arg3)
      ∧ r.2.mem ((c.tc : Thread Cert.RmsPleKernelIdeal.nD Cert.RmsPleKernelIdeal.τ).loc Cert.RmsPleKernelIdeal.main_arg4) = m ((c.tc : Thread Cert.RmsPleKernelIdeal.nD Cert.RmsPleKernelIdeal.τ).loc Cert.RmsPleKernelIdeal.main_arg4)
      ∧ r.2.mem ((c.tc : Thread Cert.RmsPleKernelIdeal.nD Cert.RmsPleKernelIdeal.τ).loc Cert.RmsPleKernelIdeal.main_arg5) = m ((c.tc : Thread Cert.RmsPleKernelIdeal.nD Cert.RmsPleKernelIdeal.τ).loc Cert.RmsPleKernelIdeal.main_arg5))
      ∧ r.2.sem = fun _ => 0)

def quiescent_RmsPleReferenceIdeal [hRmsPleReferenceIdeal : Cert.RmsPleReferenceIdeal.Facts] [hPre_rmsple_finite : Cert.Pre_rmsple_finite.Facts] : Prop :=
  ∀ (m : (ℓ : Loc Cert.RmsPleReferenceIdeal.nD Cert.RmsPleReferenceIdeal.τ Cert.RmsPleReferenceIdeal.sig) → Buf (Elt Ideal) ℓ) (g : Dev Cert.RmsPleReferenceIdeal.nD → PrngReg), Pre_RmsPleReferenceIdeal m →
    θ_run (Cert.RmsPleReferenceIdeal.defs (F := Ideal)) (onTc (τ := Cert.RmsPleReferenceIdeal.τ) (Cert.RmsPleReferenceIdeal.main (F := Ideal))) ⟨m, fun _ => 0, g⟩ (fun r => (∀ c : Dev Cert.RmsPleReferenceIdeal.nD,
      r.2.mem ((c.tc : Thread Cert.RmsPleReferenceIdeal.nD Cert.RmsPleReferenceIdeal.τ).loc Cert.RmsPleReferenceIdeal.main_arg0) = m ((c.tc : Thread Cert.RmsPleReferenceIdeal.nD Cert.RmsPleReferenceIdeal.τ).loc Cert.RmsPleReferenceIdeal.main_arg0)
      ∧ r.2.mem ((c.tc : Thread Cert.RmsPleReferenceIdeal.nD Cert.RmsPleReferenceIdeal.τ).loc Cert.RmsPleReferenceIdeal.main_arg1) = m ((c.tc : Thread Cert.RmsPleReferenceIdeal.nD Cert.RmsPleReferenceIdeal.τ).loc Cert.RmsPleReferenceIdeal.main_arg1)
      ∧ r.2.mem ((c.tc : Thread Cert.RmsPleReferenceIdeal.nD Cert.RmsPleReferenceIdeal.τ).loc Cert.RmsPleReferenceIdeal.main_arg2) = m ((c.tc : Thread Cert.RmsPleReferenceIdeal.nD Cert.RmsPleReferenceIdeal.τ).loc Cert.RmsPleReferenceIdeal.main_arg2)
      ∧ r.2.mem ((c.tc : Thread Cert.RmsPleReferenceIdeal.nD Cert.RmsPleReferenceIdeal.τ).loc Cert.RmsPleReferenceIdeal.main_arg3) = m ((c.tc : Thread Cert.RmsPleReferenceIdeal.nD Cert.RmsPleReferenceIdeal.τ).loc Cert.RmsPleReferenceIdeal.main_arg3)
      ∧ r.2.mem ((c.tc : Thread Cert.RmsPleReferenceIdeal.nD Cert.RmsPleReferenceIdeal.τ).loc Cert.RmsPleReferenceIdeal.main_arg4) = m ((c.tc : Thread Cert.RmsPleReferenceIdeal.nD Cert.RmsPleReferenceIdeal.τ).loc Cert.RmsPleReferenceIdeal.main_arg4)
      ∧ r.2.mem ((c.tc : Thread Cert.RmsPleReferenceIdeal.nD Cert.RmsPleReferenceIdeal.τ).loc Cert.RmsPleReferenceIdeal.main_arg5) = m ((c.tc : Thread Cert.RmsPleReferenceIdeal.nD Cert.RmsPleReferenceIdeal.τ).loc Cert.RmsPleReferenceIdeal.main_arg5))
      ∧ r.2.sem = fun _ => 0)

def quiescent_RmsKernel [hRmsKernel : Cert.RmsKernel.Facts] [hPre_rms_finite : Cert.Pre_rms_finite.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1)
      ∧ r.2.mem ((c.tc : Thread Cert.RmsKernel.nD Cert.RmsKernel.τ).loc Cert.RmsKernel.main_arg2) = m ((c.tc : Thread Cert.RmsKernel.nD Cert.RmsKernel.τ).loc Cert.RmsKernel.main_arg2)
      ∧ r.2.mem ((c.tc : Thread Cert.RmsKernel.nD Cert.RmsKernel.τ).loc Cert.RmsKernel.main_arg3) = m ((c.tc : Thread Cert.RmsKernel.nD Cert.RmsKernel.τ).loc Cert.RmsKernel.main_arg3))
      ∧ r.2.sem = fun _ => 0)

def quiescent_RmsKernelIdeal [hRmsKernelIdeal : Cert.RmsKernelIdeal.Facts] [hPre_rms_finite : Cert.Pre_rms_finite.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ r.2.sem = fun _ => 0)

def quiescent_RmsReferenceIdeal [hRmsReferenceIdeal : Cert.RmsReferenceIdeal.Facts] [hPre_rms_finite : Cert.Pre_rms_finite.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3))
      ∧ r.2.sem = fun _ => 0)

def quiescent_PoolKernel [hPoolKernel : Cert.PoolKernel.Facts] [hPre_pool_finite : Cert.Pre_pool_finite.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] [hPre_pool_finite : Cert.Pre_pool_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_CfConvKernel [hCfConvKernel : Cert.CfConvKernel.Facts] [hPre_cfconv_finite : Cert.Pre_cfconv_finite.Facts] : Prop :=
  ∀ (m : (ℓ : Loc Cert.CfConvKernel.nD Cert.CfConvKernel.τ Cert.CfConvKernel.sig) → Buf (Elt Bits) ℓ) (g : Dev Cert.CfConvKernel.nD → PrngReg), Pre_CfConvKernel m →
    θ_run (Cert.CfConvKernel.defs (F := Bits)) (onTc (τ := Cert.CfConvKernel.τ) (Cert.CfConvKernel.main (F := Bits))) ⟨m, fun _ => 0, g⟩ (fun r => (∀ c : Dev Cert.CfConvKernel.nD,
      r.2.mem ((c.tc : Thread Cert.CfConvKernel.nD Cert.CfConvKernel.τ).loc Cert.CfConvKernel.main_arg0) = m ((c.tc : Thread Cert.CfConvKernel.nD Cert.CfConvKernel.τ).loc Cert.CfConvKernel.main_arg0)
      ∧ r.2.mem ((c.tc : Thread Cert.CfConvKernel.nD Cert.CfConvKernel.τ).loc Cert.CfConvKernel.main_arg1) = m ((c.tc : Thread Cert.CfConvKernel.nD Cert.CfConvKernel.τ).loc Cert.CfConvKernel.main_arg1)
      ∧ r.2.mem ((c.tc : Thread Cert.CfConvKernel.nD Cert.CfConvKernel.τ).loc Cert.CfConvKernel.main_arg2) = m ((c.tc : Thread Cert.CfConvKernel.nD Cert.CfConvKernel.τ).loc Cert.CfConvKernel.main_arg2))
      ∧ r.2.sem = fun _ => 0)

def quiescent_CfConvKernelIdeal [hCfConvKernelIdeal : Cert.CfConvKernelIdeal.Facts] [hPre_cfconv_finite : Cert.Pre_cfconv_finite.Facts] : Prop :=
  ∀ (m : (ℓ : Loc Cert.CfConvKernelIdeal.nD Cert.CfConvKernelIdeal.τ Cert.CfConvKernelIdeal.sig) → Buf (Elt Ideal) ℓ) (g : Dev Cert.CfConvKernelIdeal.nD → PrngReg), Pre_CfConvKernelIdeal m →
    θ_run (Cert.CfConvKernelIdeal.defs (F := Ideal)) (onTc (τ := Cert.CfConvKernelIdeal.τ) (Cert.CfConvKernelIdeal.main (F := Ideal))) ⟨m, fun _ => 0, g⟩ (fun r => (∀ c : Dev Cert.CfConvKernelIdeal.nD,
      r.2.mem ((c.tc : Thread Cert.CfConvKernelIdeal.nD Cert.CfConvKernelIdeal.τ).loc Cert.CfConvKernelIdeal.main_arg0) = m ((c.tc : Thread Cert.CfConvKernelIdeal.nD Cert.CfConvKernelIdeal.τ).loc Cert.CfConvKernelIdeal.main_arg0)
      ∧ r.2.mem ((c.tc : Thread Cert.CfConvKernelIdeal.nD Cert.CfConvKernelIdeal.τ).loc Cert.CfConvKernelIdeal.main_arg1) = m ((c.tc : Thread Cert.CfConvKernelIdeal.nD Cert.CfConvKernelIdeal.τ).loc Cert.CfConvKernelIdeal.main_arg1)
      ∧ r.2.mem ((c.tc : Thread Cert.CfConvKernelIdeal.nD Cert.CfConvKernelIdeal.τ).loc Cert.CfConvKernelIdeal.main_arg2) = m ((c.tc : Thread Cert.CfConvKernelIdeal.nD Cert.CfConvKernelIdeal.τ).loc Cert.CfConvKernelIdeal.main_arg2))
      ∧ r.2.sem = fun _ => 0)

def quiescent_CfConvReferenceIdeal [hCfConvReferenceIdeal : Cert.CfConvReferenceIdeal.Facts] [hPre_cfconv_finite : Cert.Pre_cfconv_finite.Facts] : Prop :=
  ∀ (m : (ℓ : Loc Cert.CfConvReferenceIdeal.nD Cert.CfConvReferenceIdeal.τ Cert.CfConvReferenceIdeal.sig) → Buf (Elt Ideal) ℓ) (g : Dev Cert.CfConvReferenceIdeal.nD → PrngReg), Pre_CfConvReferenceIdeal m →
    θ_run (Cert.CfConvReferenceIdeal.defs (F := Ideal)) (onTc (τ := Cert.CfConvReferenceIdeal.τ) (Cert.CfConvReferenceIdeal.main (F := Ideal))) ⟨m, fun _ => 0, g⟩ (fun r => (∀ c : Dev Cert.CfConvReferenceIdeal.nD,
      r.2.mem ((c.tc : Thread Cert.CfConvReferenceIdeal.nD Cert.CfConvReferenceIdeal.τ).loc Cert.CfConvReferenceIdeal.main_arg0) = m ((c.tc : Thread Cert.CfConvReferenceIdeal.nD Cert.CfConvReferenceIdeal.τ).loc Cert.CfConvReferenceIdeal.main_arg0)
      ∧ r.2.mem ((c.tc : Thread Cert.CfConvReferenceIdeal.nD Cert.CfConvReferenceIdeal.τ).loc Cert.CfConvReferenceIdeal.main_arg1) = m ((c.tc : Thread Cert.CfConvReferenceIdeal.nD Cert.CfConvReferenceIdeal.τ).loc Cert.CfConvReferenceIdeal.main_arg1)
      ∧ r.2.mem ((c.tc : Thread Cert.CfConvReferenceIdeal.nD Cert.CfConvReferenceIdeal.τ).loc Cert.CfConvReferenceIdeal.main_arg2) = m ((c.tc : Thread Cert.CfConvReferenceIdeal.nD Cert.CfConvReferenceIdeal.τ).loc Cert.CfConvReferenceIdeal.main_arg2))
      ∧ r.2.sem = fun _ => 0)

def quiescent_ShortKernel [hShortKernel : Cert.ShortKernel.Facts] [hPre_short_finite : Cert.Pre_short_finite.Facts] : Prop :=
  ∀ (m : (ℓ : Loc Cert.ShortKernel.nD Cert.ShortKernel.τ Cert.ShortKernel.sig) → Buf (Elt Bits) ℓ) (g : Dev Cert.ShortKernel.nD → PrngReg), Pre_ShortKernel m →
    θ_run (Cert.ShortKernel.defs (F := Bits)) (onTc (τ := Cert.ShortKernel.τ) (Cert.ShortKernel.main (F := Bits))) ⟨m, fun _ => 0, g⟩ (fun r => (∀ c : Dev Cert.ShortKernel.nD,
      r.2.mem ((c.tc : Thread Cert.ShortKernel.nD Cert.ShortKernel.τ).loc Cert.ShortKernel.main_arg0) = m ((c.tc : Thread Cert.ShortKernel.nD Cert.ShortKernel.τ).loc Cert.ShortKernel.main_arg0)
      ∧ r.2.mem ((c.tc : Thread Cert.ShortKernel.nD Cert.ShortKernel.τ).loc Cert.ShortKernel.main_arg1) = m ((c.tc : Thread Cert.ShortKernel.nD Cert.ShortKernel.τ).loc Cert.ShortKernel.main_arg1)
      ∧ r.2.mem ((c.tc : Thread Cert.ShortKernel.nD Cert.ShortKernel.τ).loc Cert.ShortKernel.main_arg2) = m ((c.tc : Thread Cert.ShortKernel.nD Cert.ShortKernel.τ).loc Cert.ShortKernel.main_arg2))
      ∧ r.2.sem = fun _ => 0)

def quiescent_ShortKernelIdeal [hShortKernelIdeal : Cert.ShortKernelIdeal.Facts] [hPre_short_finite : Cert.Pre_short_finite.Facts] : Prop :=
  ∀ (m : (ℓ : Loc Cert.ShortKernelIdeal.nD Cert.ShortKernelIdeal.τ Cert.ShortKernelIdeal.sig) → Buf (Elt Ideal) ℓ) (g : Dev Cert.ShortKernelIdeal.nD → PrngReg), Pre_ShortKernelIdeal m →
    θ_run (Cert.ShortKernelIdeal.defs (F := Ideal)) (onTc (τ := Cert.ShortKernelIdeal.τ) (Cert.ShortKernelIdeal.main (F := Ideal))) ⟨m, fun _ => 0, g⟩ (fun r => (∀ c : Dev Cert.ShortKernelIdeal.nD,
      r.2.mem ((c.tc : Thread Cert.ShortKernelIdeal.nD Cert.ShortKernelIdeal.τ).loc Cert.ShortKernelIdeal.main_arg0) = m ((c.tc : Thread Cert.ShortKernelIdeal.nD Cert.ShortKernelIdeal.τ).loc Cert.ShortKernelIdeal.main_arg0)
      ∧ r.2.mem ((c.tc : Thread Cert.ShortKernelIdeal.nD Cert.ShortKernelIdeal.τ).loc Cert.ShortKernelIdeal.main_arg1) = m ((c.tc : Thread Cert.ShortKernelIdeal.nD Cert.ShortKernelIdeal.τ).loc Cert.ShortKernelIdeal.main_arg1)
      ∧ r.2.mem ((c.tc : Thread Cert.ShortKernelIdeal.nD Cert.ShortKernelIdeal.τ).loc Cert.ShortKernelIdeal.main_arg2) = m ((c.tc : Thread Cert.ShortKernelIdeal.nD Cert.ShortKernelIdeal.τ).loc Cert.ShortKernelIdeal.main_arg2))
      ∧ r.2.sem = fun _ => 0)

def quiescent_ShortReferenceIdeal [hShortReferenceIdeal : Cert.ShortReferenceIdeal.Facts] [hPre_short_finite : Cert.Pre_short_finite.Facts] : Prop :=
  ∀ (m : (ℓ : Loc Cert.ShortReferenceIdeal.nD Cert.ShortReferenceIdeal.τ Cert.ShortReferenceIdeal.sig) → Buf (Elt Ideal) ℓ) (g : Dev Cert.ShortReferenceIdeal.nD → PrngReg), Pre_ShortReferenceIdeal m →
    θ_run (Cert.ShortReferenceIdeal.defs (F := Ideal)) (onTc (τ := Cert.ShortReferenceIdeal.τ) (Cert.ShortReferenceIdeal.main (F := Ideal))) ⟨m, fun _ => 0, g⟩ (fun r => (∀ c : Dev Cert.ShortReferenceIdeal.nD,
      r.2.mem ((c.tc : Thread Cert.ShortReferenceIdeal.nD Cert.ShortReferenceIdeal.τ).loc Cert.ShortReferenceIdeal.main_arg0) = m ((c.tc : Thread Cert.ShortReferenceIdeal.nD Cert.ShortReferenceIdeal.τ).loc Cert.ShortReferenceIdeal.main_arg0)
      ∧ r.2.mem ((c.tc : Thread Cert.ShortReferenceIdeal.nD Cert.ShortReferenceIdeal.τ).loc Cert.ShortReferenceIdeal.main_arg1) = m ((c.tc : Thread Cert.ShortReferenceIdeal.nD Cert.ShortReferenceIdeal.τ).loc Cert.ShortReferenceIdeal.main_arg1)
      ∧ r.2.mem ((c.tc : Thread Cert.ShortReferenceIdeal.nD Cert.ShortReferenceIdeal.τ).loc Cert.ShortReferenceIdeal.main_arg2) = m ((c.tc : Thread Cert.ShortReferenceIdeal.nD Cert.ShortReferenceIdeal.τ).loc Cert.ShortReferenceIdeal.main_arg2))
      ∧ r.2.sem = fun _ => 0)

def quiescent_RmsFKernel [hRmsFKernel : Cert.RmsFKernel.Facts] : Prop :=
  ∀ (m : (ℓ : Loc Cert.RmsFKernel.nD Cert.RmsFKernel.τ Cert.RmsFKernel.sig) → Buf (Elt Bits) ℓ) (g : Dev Cert.RmsFKernel.nD → PrngReg), Pre_RmsFKernel m →
    θ_run (Cert.RmsFKernel.defs (F := Bits)) (onTc (τ := Cert.RmsFKernel.τ) (Cert.RmsFKernel.main (F := Bits))) ⟨m, fun _ => 0, g⟩ (fun r => (∀ c : Dev Cert.RmsFKernel.nD,
      r.2.mem ((c.tc : Thread Cert.RmsFKernel.nD Cert.RmsFKernel.τ).loc Cert.RmsFKernel.main_arg0) = m ((c.tc : Thread Cert.RmsFKernel.nD Cert.RmsFKernel.τ).loc Cert.RmsFKernel.main_arg0)
      ∧ r.2.mem ((c.tc : Thread Cert.RmsFKernel.nD Cert.RmsFKernel.τ).loc Cert.RmsFKernel.main_arg1) = m ((c.tc : Thread Cert.RmsFKernel.nD Cert.RmsFKernel.τ).loc Cert.RmsFKernel.main_arg1))
      ∧ r.2.sem = fun _ => 0)

def quiescent_RmsFKernelIdeal [hRmsFKernelIdeal : Cert.RmsFKernelIdeal.Facts] : Prop :=
  ∀ (m : (ℓ : Loc Cert.RmsFKernelIdeal.nD Cert.RmsFKernelIdeal.τ Cert.RmsFKernelIdeal.sig) → Buf (Elt Ideal) ℓ) (g : Dev Cert.RmsFKernelIdeal.nD → PrngReg), Pre_RmsFKernelIdeal m →
    θ_run (Cert.RmsFKernelIdeal.defs (F := Ideal)) (onTc (τ := Cert.RmsFKernelIdeal.τ) (Cert.RmsFKernelIdeal.main (F := Ideal))) ⟨m, fun _ => 0, g⟩ (fun r => (∀ c : Dev Cert.RmsFKernelIdeal.nD,
      r.2.mem ((c.tc : Thread Cert.RmsFKernelIdeal.nD Cert.RmsFKernelIdeal.τ).loc Cert.RmsFKernelIdeal.main_arg0) = m ((c.tc : Thread Cert.RmsFKernelIdeal.nD Cert.RmsFKernelIdeal.τ).loc Cert.RmsFKernelIdeal.main_arg0)
      ∧ r.2.mem ((c.tc : Thread Cert.RmsFKernelIdeal.nD Cert.RmsFKernelIdeal.τ).loc Cert.RmsFKernelIdeal.main_arg1) = m ((c.tc : Thread Cert.RmsFKernelIdeal.nD Cert.RmsFKernelIdeal.τ).loc Cert.RmsFKernelIdeal.main_arg1))
      ∧ r.2.sem = fun _ => 0)

def quiescent_RmsFReferenceIdeal [hRmsFReferenceIdeal : Cert.RmsFReferenceIdeal.Facts] : Prop :=
  ∀ (m : (ℓ : Loc Cert.RmsFReferenceIdeal.nD Cert.RmsFReferenceIdeal.τ Cert.RmsFReferenceIdeal.sig) → Buf (Elt Ideal) ℓ) (g : Dev Cert.RmsFReferenceIdeal.nD → PrngReg), Pre_RmsFReferenceIdeal m →
    θ_run (Cert.RmsFReferenceIdeal.defs (F := Ideal)) (onTc (τ := Cert.RmsFReferenceIdeal.τ) (Cert.RmsFReferenceIdeal.main (F := Ideal))) ⟨m, fun _ => 0, g⟩ (fun r => (∀ c : Dev Cert.RmsFReferenceIdeal.nD,
      r.2.mem ((c.tc : Thread Cert.RmsFReferenceIdeal.nD Cert.RmsFReferenceIdeal.τ).loc Cert.RmsFReferenceIdeal.main_arg0) = m ((c.tc : Thread Cert.RmsFReferenceIdeal.nD Cert.RmsFReferenceIdeal.τ).loc Cert.RmsFReferenceIdeal.main_arg0)
      ∧ r.2.mem ((c.tc : Thread Cert.RmsFReferenceIdeal.nD Cert.RmsFReferenceIdeal.τ).loc Cert.RmsFReferenceIdeal.main_arg1) = m ((c.tc : Thread Cert.RmsFReferenceIdeal.nD Cert.RmsFReferenceIdeal.τ).loc Cert.RmsFReferenceIdeal.main_arg1))
      ∧ r.2.sem = fun _ => 0)

def quiescent_CfLnFKernel [hCfLnFKernel : Cert.CfLnFKernel.Facts] : Prop :=
  ∀ (m : (ℓ : Loc Cert.CfLnFKernel.nD Cert.CfLnFKernel.τ Cert.CfLnFKernel.sig) → Buf (Elt Bits) ℓ) (g : Dev Cert.CfLnFKernel.nD → PrngReg), Pre_CfLnFKernel m →
    θ_run (Cert.CfLnFKernel.defs (F := Bits)) (onTc (τ := Cert.CfLnFKernel.τ) (Cert.CfLnFKernel.main (F := Bits))) ⟨m, fun _ => 0, g⟩ (fun r => (∀ c : Dev Cert.CfLnFKernel.nD,
      r.2.mem ((c.tc : Thread Cert.CfLnFKernel.nD Cert.CfLnFKernel.τ).loc Cert.CfLnFKernel.main_arg0) = m ((c.tc : Thread Cert.CfLnFKernel.nD Cert.CfLnFKernel.τ).loc Cert.CfLnFKernel.main_arg0)
      ∧ r.2.mem ((c.tc : Thread Cert.CfLnFKernel.nD Cert.CfLnFKernel.τ).loc Cert.CfLnFKernel.main_arg1) = m ((c.tc : Thread Cert.CfLnFKernel.nD Cert.CfLnFKernel.τ).loc Cert.CfLnFKernel.main_arg1)
      ∧ r.2.mem ((c.tc : Thread Cert.CfLnFKernel.nD Cert.CfLnFKernel.τ).loc Cert.CfLnFKernel.main_arg2) = m ((c.tc : Thread Cert.CfLnFKernel.nD Cert.CfLnFKernel.τ).loc Cert.CfLnFKernel.main_arg2)
      ∧ r.2.mem ((c.tc : Thread Cert.CfLnFKernel.nD Cert.CfLnFKernel.τ).loc Cert.CfLnFKernel.main_arg3) = m ((c.tc : Thread Cert.CfLnFKernel.nD Cert.CfLnFKernel.τ).loc Cert.CfLnFKernel.main_arg3)
      ∧ r.2.mem ((c.tc : Thread Cert.CfLnFKernel.nD Cert.CfLnFKernel.τ).loc Cert.CfLnFKernel.main_arg4) = m ((c.tc : Thread Cert.CfLnFKernel.nD Cert.CfLnFKernel.τ).loc Cert.CfLnFKernel.main_arg4))
      ∧ r.2.sem = fun _ => 0)

def quiescent_CfLnFKernelIdeal [hCfLnFKernelIdeal : Cert.CfLnFKernelIdeal.Facts] : Prop :=
  ∀ (m : (ℓ : Loc Cert.CfLnFKernelIdeal.nD Cert.CfLnFKernelIdeal.τ Cert.CfLnFKernelIdeal.sig) → Buf (Elt Ideal) ℓ) (g : Dev Cert.CfLnFKernelIdeal.nD → PrngReg), Pre_CfLnFKernelIdeal m →
    θ_run (Cert.CfLnFKernelIdeal.defs (F := Ideal)) (onTc (τ := Cert.CfLnFKernelIdeal.τ) (Cert.CfLnFKernelIdeal.main (F := Ideal))) ⟨m, fun _ => 0, g⟩ (fun r => (∀ c : Dev Cert.CfLnFKernelIdeal.nD,
      r.2.mem ((c.tc : Thread Cert.CfLnFKernelIdeal.nD Cert.CfLnFKernelIdeal.τ).loc Cert.CfLnFKernelIdeal.main_arg0) = m ((c.tc : Thread Cert.CfLnFKernelIdeal.nD Cert.CfLnFKernelIdeal.τ).loc Cert.CfLnFKernelIdeal.main_arg0)
      ∧ r.2.mem ((c.tc : Thread Cert.CfLnFKernelIdeal.nD Cert.CfLnFKernelIdeal.τ).loc Cert.CfLnFKernelIdeal.main_arg1) = m ((c.tc : Thread Cert.CfLnFKernelIdeal.nD Cert.CfLnFKernelIdeal.τ).loc Cert.CfLnFKernelIdeal.main_arg1)
      ∧ r.2.mem ((c.tc : Thread Cert.CfLnFKernelIdeal.nD Cert.CfLnFKernelIdeal.τ).loc Cert.CfLnFKernelIdeal.main_arg2) = m ((c.tc : Thread Cert.CfLnFKernelIdeal.nD Cert.CfLnFKernelIdeal.τ).loc Cert.CfLnFKernelIdeal.main_arg2)
      ∧ r.2.mem ((c.tc : Thread Cert.CfLnFKernelIdeal.nD Cert.CfLnFKernelIdeal.τ).loc Cert.CfLnFKernelIdeal.main_arg3) = m ((c.tc : Thread Cert.CfLnFKernelIdeal.nD Cert.CfLnFKernelIdeal.τ).loc Cert.CfLnFKernelIdeal.main_arg3)
      ∧ r.2.mem ((c.tc : Thread Cert.CfLnFKernelIdeal.nD Cert.CfLnFKernelIdeal.τ).loc Cert.CfLnFKernelIdeal.main_arg4) = m ((c.tc : Thread Cert.CfLnFKernelIdeal.nD Cert.CfLnFKernelIdeal.τ).loc Cert.CfLnFKernelIdeal.main_arg4))
      ∧ r.2.sem = fun _ => 0)

def quiescent_CfLnFReferenceIdeal [hCfLnFReferenceIdeal : Cert.CfLnFReferenceIdeal.Facts] : Prop :=
  ∀ (m : (ℓ : Loc Cert.CfLnFReferenceIdeal.nD Cert.CfLnFReferenceIdeal.τ Cert.CfLnFReferenceIdeal.sig) → Buf (Elt Ideal) ℓ) (g : Dev Cert.CfLnFReferenceIdeal.nD → PrngReg), Pre_CfLnFReferenceIdeal m →
    θ_run (Cert.CfLnFReferenceIdeal.defs (F := Ideal)) (onTc (τ := Cert.CfLnFReferenceIdeal.τ) (Cert.CfLnFReferenceIdeal.main (F := Ideal))) ⟨m, fun _ => 0, g⟩ (fun r => (∀ c : Dev Cert.CfLnFReferenceIdeal.nD,
      r.2.mem ((c.tc : Thread Cert.CfLnFReferenceIdeal.nD Cert.CfLnFReferenceIdeal.τ).loc Cert.CfLnFReferenceIdeal.main_arg0) = m ((c.tc : Thread Cert.CfLnFReferenceIdeal.nD Cert.CfLnFReferenceIdeal.τ).loc Cert.CfLnFReferenceIdeal.main_arg0)
      ∧ r.2.mem ((c.tc : Thread Cert.CfLnFReferenceIdeal.nD Cert.CfLnFReferenceIdeal.τ).loc Cert.CfLnFReferenceIdeal.main_arg1) = m ((c.tc : Thread Cert.CfLnFReferenceIdeal.nD Cert.CfLnFReferenceIdeal.τ).loc Cert.CfLnFReferenceIdeal.main_arg1)
      ∧ r.2.mem ((c.tc : Thread Cert.CfLnFReferenceIdeal.nD Cert.CfLnFReferenceIdeal.τ).loc Cert.CfLnFReferenceIdeal.main_arg2) = m ((c.tc : Thread Cert.CfLnFReferenceIdeal.nD Cert.CfLnFReferenceIdeal.τ).loc Cert.CfLnFReferenceIdeal.main_arg2)
      ∧ r.2.mem ((c.tc : Thread Cert.CfLnFReferenceIdeal.nD Cert.CfLnFReferenceIdeal.τ).loc Cert.CfLnFReferenceIdeal.main_arg3) = m ((c.tc : Thread Cert.CfLnFReferenceIdeal.nD Cert.CfLnFReferenceIdeal.τ).loc Cert.CfLnFReferenceIdeal.main_arg3)
      ∧ r.2.mem ((c.tc : Thread Cert.CfLnFReferenceIdeal.nD Cert.CfLnFReferenceIdeal.τ).loc Cert.CfLnFReferenceIdeal.main_arg4) = m ((c.tc : Thread Cert.CfLnFReferenceIdeal.nD Cert.CfLnFReferenceIdeal.τ).loc Cert.CfLnFReferenceIdeal.main_arg4))
      ∧ r.2.sem = fun _ => 0)

def quiescent_SguFKernel [hSguFKernel : Cert.SguFKernel.Facts] : Prop :=
  ∀ (m : (ℓ : Loc Cert.SguFKernel.nD Cert.SguFKernel.τ Cert.SguFKernel.sig) → Buf (Elt Bits) ℓ) (g : Dev Cert.SguFKernel.nD → PrngReg), Pre_SguFKernel m →
    θ_run (Cert.SguFKernel.defs (F := Bits)) (onTc (τ := Cert.SguFKernel.τ) (Cert.SguFKernel.main (F := Bits))) ⟨m, fun _ => 0, g⟩ (fun r => (∀ c : Dev Cert.SguFKernel.nD,
      r.2.mem ((c.tc : Thread Cert.SguFKernel.nD Cert.SguFKernel.τ).loc Cert.SguFKernel.main_arg0) = m ((c.tc : Thread Cert.SguFKernel.nD Cert.SguFKernel.τ).loc Cert.SguFKernel.main_arg0)
      ∧ r.2.mem ((c.tc : Thread Cert.SguFKernel.nD Cert.SguFKernel.τ).loc Cert.SguFKernel.main_arg1) = m ((c.tc : Thread Cert.SguFKernel.nD Cert.SguFKernel.τ).loc Cert.SguFKernel.main_arg1)
      ∧ r.2.mem ((c.tc : Thread Cert.SguFKernel.nD Cert.SguFKernel.τ).loc Cert.SguFKernel.main_arg2) = m ((c.tc : Thread Cert.SguFKernel.nD Cert.SguFKernel.τ).loc Cert.SguFKernel.main_arg2)
      ∧ r.2.mem ((c.tc : Thread Cert.SguFKernel.nD Cert.SguFKernel.τ).loc Cert.SguFKernel.main_arg3) = m ((c.tc : Thread Cert.SguFKernel.nD Cert.SguFKernel.τ).loc Cert.SguFKernel.main_arg3)
      ∧ r.2.mem ((c.tc : Thread Cert.SguFKernel.nD Cert.SguFKernel.τ).loc Cert.SguFKernel.main_arg4) = m ((c.tc : Thread Cert.SguFKernel.nD Cert.SguFKernel.τ).loc Cert.SguFKernel.main_arg4))
      ∧ r.2.sem = fun _ => 0)

def quiescent_SguFKernelIdeal [hSguFKernelIdeal : Cert.SguFKernelIdeal.Facts] : Prop :=
  ∀ (m : (ℓ : Loc Cert.SguFKernelIdeal.nD Cert.SguFKernelIdeal.τ Cert.SguFKernelIdeal.sig) → Buf (Elt Ideal) ℓ) (g : Dev Cert.SguFKernelIdeal.nD → PrngReg), Pre_SguFKernelIdeal m →
    θ_run (Cert.SguFKernelIdeal.defs (F := Ideal)) (onTc (τ := Cert.SguFKernelIdeal.τ) (Cert.SguFKernelIdeal.main (F := Ideal))) ⟨m, fun _ => 0, g⟩ (fun r => (∀ c : Dev Cert.SguFKernelIdeal.nD,
      r.2.mem ((c.tc : Thread Cert.SguFKernelIdeal.nD Cert.SguFKernelIdeal.τ).loc Cert.SguFKernelIdeal.main_arg0) = m ((c.tc : Thread Cert.SguFKernelIdeal.nD Cert.SguFKernelIdeal.τ).loc Cert.SguFKernelIdeal.main_arg0)
      ∧ r.2.mem ((c.tc : Thread Cert.SguFKernelIdeal.nD Cert.SguFKernelIdeal.τ).loc Cert.SguFKernelIdeal.main_arg1) = m ((c.tc : Thread Cert.SguFKernelIdeal.nD Cert.SguFKernelIdeal.τ).loc Cert.SguFKernelIdeal.main_arg1)
      ∧ r.2.mem ((c.tc : Thread Cert.SguFKernelIdeal.nD Cert.SguFKernelIdeal.τ).loc Cert.SguFKernelIdeal.main_arg2) = m ((c.tc : Thread Cert.SguFKernelIdeal.nD Cert.SguFKernelIdeal.τ).loc Cert.SguFKernelIdeal.main_arg2)
      ∧ r.2.mem ((c.tc : Thread Cert.SguFKernelIdeal.nD Cert.SguFKernelIdeal.τ).loc Cert.SguFKernelIdeal.main_arg3) = m ((c.tc : Thread Cert.SguFKernelIdeal.nD Cert.SguFKernelIdeal.τ).loc Cert.SguFKernelIdeal.main_arg3)
      ∧ r.2.mem ((c.tc : Thread Cert.SguFKernelIdeal.nD Cert.SguFKernelIdeal.τ).loc Cert.SguFKernelIdeal.main_arg4) = m ((c.tc : Thread Cert.SguFKernelIdeal.nD Cert.SguFKernelIdeal.τ).loc Cert.SguFKernelIdeal.main_arg4))
      ∧ r.2.sem = fun _ => 0)

def quiescent_SguFReferenceIdeal [hSguFReferenceIdeal : Cert.SguFReferenceIdeal.Facts] : Prop :=
  ∀ (m : (ℓ : Loc Cert.SguFReferenceIdeal.nD Cert.SguFReferenceIdeal.τ Cert.SguFReferenceIdeal.sig) → Buf (Elt Ideal) ℓ) (g : Dev Cert.SguFReferenceIdeal.nD → PrngReg), Pre_SguFReferenceIdeal m →
    θ_run (Cert.SguFReferenceIdeal.defs (F := Ideal)) (onTc (τ := Cert.SguFReferenceIdeal.τ) (Cert.SguFReferenceIdeal.main (F := Ideal))) ⟨m, fun _ => 0, g⟩ (fun r => (∀ c : Dev Cert.SguFReferenceIdeal.nD,
      r.2.mem ((c.tc : Thread Cert.SguFReferenceIdeal.nD Cert.SguFReferenceIdeal.τ).loc Cert.SguFReferenceIdeal.main_arg0) = m ((c.tc : Thread Cert.SguFReferenceIdeal.nD Cert.SguFReferenceIdeal.τ).loc Cert.SguFReferenceIdeal.main_arg0)
      ∧ r.2.mem ((c.tc : Thread Cert.SguFReferenceIdeal.nD Cert.SguFReferenceIdeal.τ).loc Cert.SguFReferenceIdeal.main_arg1) = m ((c.tc : Thread Cert.SguFReferenceIdeal.nD Cert.SguFReferenceIdeal.τ).loc Cert.SguFReferenceIdeal.main_arg1)
      ∧ r.2.mem ((c.tc : Thread Cert.SguFReferenceIdeal.nD Cert.SguFReferenceIdeal.τ).loc Cert.SguFReferenceIdeal.main_arg2) = m ((c.tc : Thread Cert.SguFReferenceIdeal.nD Cert.SguFReferenceIdeal.τ).loc Cert.SguFReferenceIdeal.main_arg2)
      ∧ r.2.mem ((c.tc : Thread Cert.SguFReferenceIdeal.nD Cert.SguFReferenceIdeal.τ).loc Cert.SguFReferenceIdeal.main_arg3) = m ((c.tc : Thread Cert.SguFReferenceIdeal.nD Cert.SguFReferenceIdeal.τ).loc Cert.SguFReferenceIdeal.main_arg3)
      ∧ r.2.mem ((c.tc : Thread Cert.SguFReferenceIdeal.nD Cert.SguFReferenceIdeal.τ).loc Cert.SguFReferenceIdeal.main_arg4) = m ((c.tc : Thread Cert.SguFReferenceIdeal.nD Cert.SguFReferenceIdeal.τ).loc Cert.SguFReferenceIdeal.main_arg4))
      ∧ r.2.sem = fun _ => 0)

def quiescent_PoolFKernel [hPoolFKernel : Cert.PoolFKernel.Facts] [hPre_poolf_finite : Cert.Pre_poolf_finite.Facts] : Prop :=
  ∀ (m : (ℓ : Loc Cert.PoolFKernel.nD Cert.PoolFKernel.τ Cert.PoolFKernel.sig) → Buf (Elt Bits) ℓ) (g : Dev Cert.PoolFKernel.nD → PrngReg), Pre_PoolFKernel m →
    θ_run (Cert.PoolFKernel.defs (F := Bits)) (onTc (τ := Cert.PoolFKernel.τ) (Cert.PoolFKernel.main (F := Bits))) ⟨m, fun _ => 0, g⟩ (fun r => (∀ c : Dev Cert.PoolFKernel.nD,
      r.2.mem ((c.tc : Thread Cert.PoolFKernel.nD Cert.PoolFKernel.τ).loc Cert.PoolFKernel.main_arg0) = m ((c.tc : Thread Cert.PoolFKernel.nD Cert.PoolFKernel.τ).loc Cert.PoolFKernel.main_arg0)
      ∧ r.2.mem ((c.tc : Thread Cert.PoolFKernel.nD Cert.PoolFKernel.τ).loc Cert.PoolFKernel.main_arg1) = m ((c.tc : Thread Cert.PoolFKernel.nD Cert.PoolFKernel.τ).loc Cert.PoolFKernel.main_arg1)
      ∧ r.2.mem ((c.tc : Thread Cert.PoolFKernel.nD Cert.PoolFKernel.τ).loc Cert.PoolFKernel.main_arg2) = m ((c.tc : Thread Cert.PoolFKernel.nD Cert.PoolFKernel.τ).loc Cert.PoolFKernel.main_arg2))
      ∧ r.2.sem = fun _ => 0)

def quiescent_PoolFKernelIdeal [hPoolFKernelIdeal : Cert.PoolFKernelIdeal.Facts] [hPre_poolf_finite : Cert.Pre_poolf_finite.Facts] : Prop :=
  ∀ (m : (ℓ : Loc Cert.PoolFKernelIdeal.nD Cert.PoolFKernelIdeal.τ Cert.PoolFKernelIdeal.sig) → Buf (Elt Ideal) ℓ) (g : Dev Cert.PoolFKernelIdeal.nD → PrngReg), Pre_PoolFKernelIdeal m →
    θ_run (Cert.PoolFKernelIdeal.defs (F := Ideal)) (onTc (τ := Cert.PoolFKernelIdeal.τ) (Cert.PoolFKernelIdeal.main (F := Ideal))) ⟨m, fun _ => 0, g⟩ (fun r => (∀ c : Dev Cert.PoolFKernelIdeal.nD,
      r.2.mem ((c.tc : Thread Cert.PoolFKernelIdeal.nD Cert.PoolFKernelIdeal.τ).loc Cert.PoolFKernelIdeal.main_arg0) = m ((c.tc : Thread Cert.PoolFKernelIdeal.nD Cert.PoolFKernelIdeal.τ).loc Cert.PoolFKernelIdeal.main_arg0)
      ∧ r.2.mem ((c.tc : Thread Cert.PoolFKernelIdeal.nD Cert.PoolFKernelIdeal.τ).loc Cert.PoolFKernelIdeal.main_arg1) = m ((c.tc : Thread Cert.PoolFKernelIdeal.nD Cert.PoolFKernelIdeal.τ).loc Cert.PoolFKernelIdeal.main_arg1)
      ∧ r.2.mem ((c.tc : Thread Cert.PoolFKernelIdeal.nD Cert.PoolFKernelIdeal.τ).loc Cert.PoolFKernelIdeal.main_arg2) = m ((c.tc : Thread Cert.PoolFKernelIdeal.nD Cert.PoolFKernelIdeal.τ).loc Cert.PoolFKernelIdeal.main_arg2))
      ∧ r.2.sem = fun _ => 0)

def quiescent_PoolFReferenceIdeal [hPoolFReferenceIdeal : Cert.PoolFReferenceIdeal.Facts] [hPre_poolf_finite : Cert.Pre_poolf_finite.Facts] : Prop :=
  ∀ (m : (ℓ : Loc Cert.PoolFReferenceIdeal.nD Cert.PoolFReferenceIdeal.τ Cert.PoolFReferenceIdeal.sig) → Buf (Elt Ideal) ℓ) (g : Dev Cert.PoolFReferenceIdeal.nD → PrngReg), Pre_PoolFReferenceIdeal m →
    θ_run (Cert.PoolFReferenceIdeal.defs (F := Ideal)) (onTc (τ := Cert.PoolFReferenceIdeal.τ) (Cert.PoolFReferenceIdeal.main (F := Ideal))) ⟨m, fun _ => 0, g⟩ (fun r => (∀ c : Dev Cert.PoolFReferenceIdeal.nD,
      r.2.mem ((c.tc : Thread Cert.PoolFReferenceIdeal.nD Cert.PoolFReferenceIdeal.τ).loc Cert.PoolFReferenceIdeal.main_arg0) = m ((c.tc : Thread Cert.PoolFReferenceIdeal.nD Cert.PoolFReferenceIdeal.τ).loc Cert.PoolFReferenceIdeal.main_arg0)
      ∧ r.2.mem ((c.tc : Thread Cert.PoolFReferenceIdeal.nD Cert.PoolFReferenceIdeal.τ).loc Cert.PoolFReferenceIdeal.main_arg1) = m ((c.tc : Thread Cert.PoolFReferenceIdeal.nD Cert.PoolFReferenceIdeal.τ).loc Cert.PoolFReferenceIdeal.main_arg1)
      ∧ r.2.mem ((c.tc : Thread Cert.PoolFReferenceIdeal.nD Cert.PoolFReferenceIdeal.τ).loc Cert.PoolFReferenceIdeal.main_arg2) = m ((c.tc : Thread Cert.PoolFReferenceIdeal.nD Cert.PoolFReferenceIdeal.τ).loc Cert.PoolFReferenceIdeal.main_arg2))
      ∧ r.2.sem = fun _ => 0)

def quiescent_SwigluFKernel [hSwigluFKernel : Cert.SwigluFKernel.Facts] : Prop :=
  ∀ (m : (ℓ : Loc Cert.SwigluFKernel.nD Cert.SwigluFKernel.τ Cert.SwigluFKernel.sig) → Buf (Elt Bits) ℓ) (g : Dev Cert.SwigluFKernel.nD → PrngReg), Pre_SwigluFKernel m →
    θ_run (Cert.SwigluFKernel.defs (F := Bits)) (onTc (τ := Cert.SwigluFKernel.τ) (Cert.SwigluFKernel.main (F := Bits))) ⟨m, fun _ => 0, g⟩ (fun r => (∀ c : Dev Cert.SwigluFKernel.nD,
      r.2.mem ((c.tc : Thread Cert.SwigluFKernel.nD Cert.SwigluFKernel.τ).loc Cert.SwigluFKernel.main_arg0) = m ((c.tc : Thread Cert.SwigluFKernel.nD Cert.SwigluFKernel.τ).loc Cert.SwigluFKernel.main_arg0)
      ∧ r.2.mem ((c.tc : Thread Cert.SwigluFKernel.nD Cert.SwigluFKernel.τ).loc Cert.SwigluFKernel.main_arg1) = m ((c.tc : Thread Cert.SwigluFKernel.nD Cert.SwigluFKernel.τ).loc Cert.SwigluFKernel.main_arg1)
      ∧ r.2.mem ((c.tc : Thread Cert.SwigluFKernel.nD Cert.SwigluFKernel.τ).loc Cert.SwigluFKernel.main_arg2) = m ((c.tc : Thread Cert.SwigluFKernel.nD Cert.SwigluFKernel.τ).loc Cert.SwigluFKernel.main_arg2))
      ∧ r.2.sem = fun _ => 0)

def quiescent_SwigluFKernelIdeal [hSwigluFKernelIdeal : Cert.SwigluFKernelIdeal.Facts] : Prop :=
  ∀ (m : (ℓ : Loc Cert.SwigluFKernelIdeal.nD Cert.SwigluFKernelIdeal.τ Cert.SwigluFKernelIdeal.sig) → Buf (Elt Ideal) ℓ) (g : Dev Cert.SwigluFKernelIdeal.nD → PrngReg), Pre_SwigluFKernelIdeal m →
    θ_run (Cert.SwigluFKernelIdeal.defs (F := Ideal)) (onTc (τ := Cert.SwigluFKernelIdeal.τ) (Cert.SwigluFKernelIdeal.main (F := Ideal))) ⟨m, fun _ => 0, g⟩ (fun r => (∀ c : Dev Cert.SwigluFKernelIdeal.nD,
      r.2.mem ((c.tc : Thread Cert.SwigluFKernelIdeal.nD Cert.SwigluFKernelIdeal.τ).loc Cert.SwigluFKernelIdeal.main_arg0) = m ((c.tc : Thread Cert.SwigluFKernelIdeal.nD Cert.SwigluFKernelIdeal.τ).loc Cert.SwigluFKernelIdeal.main_arg0)
      ∧ r.2.mem ((c.tc : Thread Cert.SwigluFKernelIdeal.nD Cert.SwigluFKernelIdeal.τ).loc Cert.SwigluFKernelIdeal.main_arg1) = m ((c.tc : Thread Cert.SwigluFKernelIdeal.nD Cert.SwigluFKernelIdeal.τ).loc Cert.SwigluFKernelIdeal.main_arg1)
      ∧ r.2.mem ((c.tc : Thread Cert.SwigluFKernelIdeal.nD Cert.SwigluFKernelIdeal.τ).loc Cert.SwigluFKernelIdeal.main_arg2) = m ((c.tc : Thread Cert.SwigluFKernelIdeal.nD Cert.SwigluFKernelIdeal.τ).loc Cert.SwigluFKernelIdeal.main_arg2))
      ∧ r.2.sem = fun _ => 0)

def quiescent_SwigluFReferenceIdeal [hSwigluFReferenceIdeal : Cert.SwigluFReferenceIdeal.Facts] : Prop :=
  ∀ (m : (ℓ : Loc Cert.SwigluFReferenceIdeal.nD Cert.SwigluFReferenceIdeal.τ Cert.SwigluFReferenceIdeal.sig) → Buf (Elt Ideal) ℓ) (g : Dev Cert.SwigluFReferenceIdeal.nD → PrngReg), Pre_SwigluFReferenceIdeal m →
    θ_run (Cert.SwigluFReferenceIdeal.defs (F := Ideal)) (onTc (τ := Cert.SwigluFReferenceIdeal.τ) (Cert.SwigluFReferenceIdeal.main (F := Ideal))) ⟨m, fun _ => 0, g⟩ (fun r => (∀ c : Dev Cert.SwigluFReferenceIdeal.nD,
      r.2.mem ((c.tc : Thread Cert.SwigluFReferenceIdeal.nD Cert.SwigluFReferenceIdeal.τ).loc Cert.SwigluFReferenceIdeal.main_arg0) = m ((c.tc : Thread Cert.SwigluFReferenceIdeal.nD Cert.SwigluFReferenceIdeal.τ).loc Cert.SwigluFReferenceIdeal.main_arg0)
      ∧ r.2.mem ((c.tc : Thread Cert.SwigluFReferenceIdeal.nD Cert.SwigluFReferenceIdeal.τ).loc Cert.SwigluFReferenceIdeal.main_arg1) = m ((c.tc : Thread Cert.SwigluFReferenceIdeal.nD Cert.SwigluFReferenceIdeal.τ).loc Cert.SwigluFReferenceIdeal.main_arg1)
      ∧ r.2.mem ((c.tc : Thread Cert.SwigluFReferenceIdeal.nD Cert.SwigluFReferenceIdeal.τ).loc Cert.SwigluFReferenceIdeal.main_arg2) = m ((c.tc : Thread Cert.SwigluFReferenceIdeal.nD Cert.SwigluFReferenceIdeal.τ).loc Cert.SwigluFReferenceIdeal.main_arg2))
      ∧ r.2.sem = fun _ => 0)

def quiescent_PleFKernel [hPleFKernel : Cert.PleFKernel.Facts] : Prop :=
  ∀ (m : (ℓ : Loc Cert.PleFKernel.nD Cert.PleFKernel.τ Cert.PleFKernel.sig) → Buf (Elt Bits) ℓ) (g : Dev Cert.PleFKernel.nD → PrngReg), Pre_PleFKernel m →
    θ_run (Cert.PleFKernel.defs (F := Bits)) (onTc (τ := Cert.PleFKernel.τ) (Cert.PleFKernel.main (F := Bits))) ⟨m, fun _ => 0, g⟩ (fun r => (∀ c : Dev Cert.PleFKernel.nD,
      r.2.mem ((c.tc : Thread Cert.PleFKernel.nD Cert.PleFKernel.τ).loc Cert.PleFKernel.main_arg0) = m ((c.tc : Thread Cert.PleFKernel.nD Cert.PleFKernel.τ).loc Cert.PleFKernel.main_arg0)
      ∧ r.2.mem ((c.tc : Thread Cert.PleFKernel.nD Cert.PleFKernel.τ).loc Cert.PleFKernel.main_arg1) = m ((c.tc : Thread Cert.PleFKernel.nD Cert.PleFKernel.τ).loc Cert.PleFKernel.main_arg1)
      ∧ r.2.mem ((c.tc : Thread Cert.PleFKernel.nD Cert.PleFKernel.τ).loc Cert.PleFKernel.main_arg2) = m ((c.tc : Thread Cert.PleFKernel.nD Cert.PleFKernel.τ).loc Cert.PleFKernel.main_arg2)
      ∧ r.2.mem ((c.tc : Thread Cert.PleFKernel.nD Cert.PleFKernel.τ).loc Cert.PleFKernel.main_arg3) = m ((c.tc : Thread Cert.PleFKernel.nD Cert.PleFKernel.τ).loc Cert.PleFKernel.main_arg3))
      ∧ r.2.sem = fun _ => 0)

def quiescent_PleFKernelIdeal [hPleFKernelIdeal : Cert.PleFKernelIdeal.Facts] : Prop :=
  ∀ (m : (ℓ : Loc Cert.PleFKernelIdeal.nD Cert.PleFKernelIdeal.τ Cert.PleFKernelIdeal.sig) → Buf (Elt Ideal) ℓ) (g : Dev Cert.PleFKernelIdeal.nD → PrngReg), Pre_PleFKernelIdeal m →
    θ_run (Cert.PleFKernelIdeal.defs (F := Ideal)) (onTc (τ := Cert.PleFKernelIdeal.τ) (Cert.PleFKernelIdeal.main (F := Ideal))) ⟨m, fun _ => 0, g⟩ (fun r => (∀ c : Dev Cert.PleFKernelIdeal.nD,
      r.2.mem ((c.tc : Thread Cert.PleFKernelIdeal.nD Cert.PleFKernelIdeal.τ).loc Cert.PleFKernelIdeal.main_arg0) = m ((c.tc : Thread Cert.PleFKernelIdeal.nD Cert.PleFKernelIdeal.τ).loc Cert.PleFKernelIdeal.main_arg0)
      ∧ r.2.mem ((c.tc : Thread Cert.PleFKernelIdeal.nD Cert.PleFKernelIdeal.τ).loc Cert.PleFKernelIdeal.main_arg1) = m ((c.tc : Thread Cert.PleFKernelIdeal.nD Cert.PleFKernelIdeal.τ).loc Cert.PleFKernelIdeal.main_arg1)
      ∧ r.2.mem ((c.tc : Thread Cert.PleFKernelIdeal.nD Cert.PleFKernelIdeal.τ).loc Cert.PleFKernelIdeal.main_arg2) = m ((c.tc : Thread Cert.PleFKernelIdeal.nD Cert.PleFKernelIdeal.τ).loc Cert.PleFKernelIdeal.main_arg2)
      ∧ r.2.mem ((c.tc : Thread Cert.PleFKernelIdeal.nD Cert.PleFKernelIdeal.τ).loc Cert.PleFKernelIdeal.main_arg3) = m ((c.tc : Thread Cert.PleFKernelIdeal.nD Cert.PleFKernelIdeal.τ).loc Cert.PleFKernelIdeal.main_arg3))
      ∧ r.2.sem = fun _ => 0)

def quiescent_PleFReferenceIdeal [hPleFReferenceIdeal : Cert.PleFReferenceIdeal.Facts] : Prop :=
  ∀ (m : (ℓ : Loc Cert.PleFReferenceIdeal.nD Cert.PleFReferenceIdeal.τ Cert.PleFReferenceIdeal.sig) → Buf (Elt Ideal) ℓ) (g : Dev Cert.PleFReferenceIdeal.nD → PrngReg), Pre_PleFReferenceIdeal m →
    θ_run (Cert.PleFReferenceIdeal.defs (F := Ideal)) (onTc (τ := Cert.PleFReferenceIdeal.τ) (Cert.PleFReferenceIdeal.main (F := Ideal))) ⟨m, fun _ => 0, g⟩ (fun r => (∀ c : Dev Cert.PleFReferenceIdeal.nD,
      r.2.mem ((c.tc : Thread Cert.PleFReferenceIdeal.nD Cert.PleFReferenceIdeal.τ).loc Cert.PleFReferenceIdeal.main_arg0) = m ((c.tc : Thread Cert.PleFReferenceIdeal.nD Cert.PleFReferenceIdeal.τ).loc Cert.PleFReferenceIdeal.main_arg0)
      ∧ r.2.mem ((c.tc : Thread Cert.PleFReferenceIdeal.nD Cert.PleFReferenceIdeal.τ).loc Cert.PleFReferenceIdeal.main_arg1) = m ((c.tc : Thread Cert.PleFReferenceIdeal.nD Cert.PleFReferenceIdeal.τ).loc Cert.PleFReferenceIdeal.main_arg1)
      ∧ r.2.mem ((c.tc : Thread Cert.PleFReferenceIdeal.nD Cert.PleFReferenceIdeal.τ).loc Cert.PleFReferenceIdeal.main_arg2) = m ((c.tc : Thread Cert.PleFReferenceIdeal.nD Cert.PleFReferenceIdeal.τ).loc Cert.PleFReferenceIdeal.main_arg2)
      ∧ r.2.mem ((c.tc : Thread Cert.PleFReferenceIdeal.nD Cert.PleFReferenceIdeal.τ).loc Cert.PleFReferenceIdeal.main_arg3) = m ((c.tc : Thread Cert.PleFReferenceIdeal.nD Cert.PleFReferenceIdeal.τ).loc Cert.PleFReferenceIdeal.main_arg3))
      ∧ r.2.sem = fun _ => 0)

def quiescent_CfConvFKernel [hCfConvFKernel : Cert.CfConvFKernel.Facts] : Prop :=
  ∀ (m : (ℓ : Loc Cert.CfConvFKernel.nD Cert.CfConvFKernel.τ Cert.CfConvFKernel.sig) → Buf (Elt Bits) ℓ) (g : Dev Cert.CfConvFKernel.nD → PrngReg), Pre_CfConvFKernel m →
    θ_run (Cert.CfConvFKernel.defs (F := Bits)) (onTc (τ := Cert.CfConvFKernel.τ) (Cert.CfConvFKernel.main (F := Bits))) ⟨m, fun _ => 0, g⟩ (fun r => (∀ c : Dev Cert.CfConvFKernel.nD,
      r.2.mem ((c.tc : Thread Cert.CfConvFKernel.nD Cert.CfConvFKernel.τ).loc Cert.CfConvFKernel.main_arg0) = m ((c.tc : Thread Cert.CfConvFKernel.nD Cert.CfConvFKernel.τ).loc Cert.CfConvFKernel.main_arg0)
      ∧ r.2.mem ((c.tc : Thread Cert.CfConvFKernel.nD Cert.CfConvFKernel.τ).loc Cert.CfConvFKernel.main_arg1) = m ((c.tc : Thread Cert.CfConvFKernel.nD Cert.CfConvFKernel.τ).loc Cert.CfConvFKernel.main_arg1)
      ∧ r.2.mem ((c.tc : Thread Cert.CfConvFKernel.nD Cert.CfConvFKernel.τ).loc Cert.CfConvFKernel.main_arg2) = m ((c.tc : Thread Cert.CfConvFKernel.nD Cert.CfConvFKernel.τ).loc Cert.CfConvFKernel.main_arg2))
      ∧ r.2.sem = fun _ => 0)

def quiescent_CfConvFKernelIdeal [hCfConvFKernelIdeal : Cert.CfConvFKernelIdeal.Facts] : Prop :=
  ∀ (m : (ℓ : Loc Cert.CfConvFKernelIdeal.nD Cert.CfConvFKernelIdeal.τ Cert.CfConvFKernelIdeal.sig) → Buf (Elt Ideal) ℓ) (g : Dev Cert.CfConvFKernelIdeal.nD → PrngReg), Pre_CfConvFKernelIdeal m →
    θ_run (Cert.CfConvFKernelIdeal.defs (F := Ideal)) (onTc (τ := Cert.CfConvFKernelIdeal.τ) (Cert.CfConvFKernelIdeal.main (F := Ideal))) ⟨m, fun _ => 0, g⟩ (fun r => (∀ c : Dev Cert.CfConvFKernelIdeal.nD,
      r.2.mem ((c.tc : Thread Cert.CfConvFKernelIdeal.nD Cert.CfConvFKernelIdeal.τ).loc Cert.CfConvFKernelIdeal.main_arg0) = m ((c.tc : Thread Cert.CfConvFKernelIdeal.nD Cert.CfConvFKernelIdeal.τ).loc Cert.CfConvFKernelIdeal.main_arg0)
      ∧ r.2.mem ((c.tc : Thread Cert.CfConvFKernelIdeal.nD Cert.CfConvFKernelIdeal.τ).loc Cert.CfConvFKernelIdeal.main_arg1) = m ((c.tc : Thread Cert.CfConvFKernelIdeal.nD Cert.CfConvFKernelIdeal.τ).loc Cert.CfConvFKernelIdeal.main_arg1)
      ∧ r.2.mem ((c.tc : Thread Cert.CfConvFKernelIdeal.nD Cert.CfConvFKernelIdeal.τ).loc Cert.CfConvFKernelIdeal.main_arg2) = m ((c.tc : Thread Cert.CfConvFKernelIdeal.nD Cert.CfConvFKernelIdeal.τ).loc Cert.CfConvFKernelIdeal.main_arg2))
      ∧ r.2.sem = fun _ => 0)

def quiescent_CfConvFReferenceIdeal [hCfConvFReferenceIdeal : Cert.CfConvFReferenceIdeal.Facts] : Prop :=
  ∀ (m : (ℓ : Loc Cert.CfConvFReferenceIdeal.nD Cert.CfConvFReferenceIdeal.τ Cert.CfConvFReferenceIdeal.sig) → Buf (Elt Ideal) ℓ) (g : Dev Cert.CfConvFReferenceIdeal.nD → PrngReg), Pre_CfConvFReferenceIdeal m →
    θ_run (Cert.CfConvFReferenceIdeal.defs (F := Ideal)) (onTc (τ := Cert.CfConvFReferenceIdeal.τ) (Cert.CfConvFReferenceIdeal.main (F := Ideal))) ⟨m, fun _ => 0, g⟩ (fun r => (∀ c : Dev Cert.CfConvFReferenceIdeal.nD,
      r.2.mem ((c.tc : Thread Cert.CfConvFReferenceIdeal.nD Cert.CfConvFReferenceIdeal.τ).loc Cert.CfConvFReferenceIdeal.main_arg0) = m ((c.tc : Thread Cert.CfConvFReferenceIdeal.nD Cert.CfConvFReferenceIdeal.τ).loc Cert.CfConvFReferenceIdeal.main_arg0)
      ∧ r.2.mem ((c.tc : Thread Cert.CfConvFReferenceIdeal.nD Cert.CfConvFReferenceIdeal.τ).loc Cert.CfConvFReferenceIdeal.main_arg1) = m ((c.tc : Thread Cert.CfConvFReferenceIdeal.nD Cert.CfConvFReferenceIdeal.τ).loc Cert.CfConvFReferenceIdeal.main_arg1)
      ∧ r.2.mem ((c.tc : Thread Cert.CfConvFReferenceIdeal.nD Cert.CfConvFReferenceIdeal.τ).loc Cert.CfConvFReferenceIdeal.main_arg2) = m ((c.tc : Thread Cert.CfConvFReferenceIdeal.nD Cert.CfConvFReferenceIdeal.τ).loc Cert.CfConvFReferenceIdeal.main_arg2))
      ∧ r.2.sem = fun _ => 0)

def quiescent_ShortFKernel [hShortFKernel : Cert.ShortFKernel.Facts] : Prop :=
  ∀ (m : (ℓ : Loc Cert.ShortFKernel.nD Cert.ShortFKernel.τ Cert.ShortFKernel.sig) → Buf (Elt Bits) ℓ) (g : Dev Cert.ShortFKernel.nD → PrngReg), Pre_ShortFKernel m →
    θ_run (Cert.ShortFKernel.defs (F := Bits)) (onTc (τ := Cert.ShortFKernel.τ) (Cert.ShortFKernel.main (F := Bits))) ⟨m, fun _ => 0, g⟩ (fun r => (∀ c : Dev Cert.ShortFKernel.nD,
      r.2.mem ((c.tc : Thread Cert.ShortFKernel.nD Cert.ShortFKernel.τ).loc Cert.ShortFKernel.main_arg0) = m ((c.tc : Thread Cert.ShortFKernel.nD Cert.ShortFKernel.τ).loc Cert.ShortFKernel.main_arg0)
      ∧ r.2.mem ((c.tc : Thread Cert.ShortFKernel.nD Cert.ShortFKernel.τ).loc Cert.ShortFKernel.main_arg1) = m ((c.tc : Thread Cert.ShortFKernel.nD Cert.ShortFKernel.τ).loc Cert.ShortFKernel.main_arg1))
      ∧ r.2.sem = fun _ => 0)

def quiescent_ShortFKernelIdeal [hShortFKernelIdeal : Cert.ShortFKernelIdeal.Facts] : Prop :=
  ∀ (m : (ℓ : Loc Cert.ShortFKernelIdeal.nD Cert.ShortFKernelIdeal.τ Cert.ShortFKernelIdeal.sig) → Buf (Elt Ideal) ℓ) (g : Dev Cert.ShortFKernelIdeal.nD → PrngReg), Pre_ShortFKernelIdeal m →
    θ_run (Cert.ShortFKernelIdeal.defs (F := Ideal)) (onTc (τ := Cert.ShortFKernelIdeal.τ) (Cert.ShortFKernelIdeal.main (F := Ideal))) ⟨m, fun _ => 0, g⟩ (fun r => (∀ c : Dev Cert.ShortFKernelIdeal.nD,
      r.2.mem ((c.tc : Thread Cert.ShortFKernelIdeal.nD Cert.ShortFKernelIdeal.τ).loc Cert.ShortFKernelIdeal.main_arg0) = m ((c.tc : Thread Cert.ShortFKernelIdeal.nD Cert.ShortFKernelIdeal.τ).loc Cert.ShortFKernelIdeal.main_arg0)
      ∧ r.2.mem ((c.tc : Thread Cert.ShortFKernelIdeal.nD Cert.ShortFKernelIdeal.τ).loc Cert.ShortFKernelIdeal.main_arg1) = m ((c.tc : Thread Cert.ShortFKernelIdeal.nD Cert.ShortFKernelIdeal.τ).loc Cert.ShortFKernelIdeal.main_arg1))
      ∧ r.2.sem = fun _ => 0)

def quiescent_ShortFReferenceIdeal [hShortFReferenceIdeal : Cert.ShortFReferenceIdeal.Facts] : Prop :=
  ∀ (m : (ℓ : Loc Cert.ShortFReferenceIdeal.nD Cert.ShortFReferenceIdeal.τ Cert.ShortFReferenceIdeal.sig) → Buf (Elt Ideal) ℓ) (g : Dev Cert.ShortFReferenceIdeal.nD → PrngReg), Pre_ShortFReferenceIdeal m →
    θ_run (Cert.ShortFReferenceIdeal.defs (F := Ideal)) (onTc (τ := Cert.ShortFReferenceIdeal.τ) (Cert.ShortFReferenceIdeal.main (F := Ideal))) ⟨m, fun _ => 0, g⟩ (fun r => (∀ c : Dev Cert.ShortFReferenceIdeal.nD,
      r.2.mem ((c.tc : Thread Cert.ShortFReferenceIdeal.nD Cert.ShortFReferenceIdeal.τ).loc Cert.ShortFReferenceIdeal.main_arg0) = m ((c.tc : Thread Cert.ShortFReferenceIdeal.nD Cert.ShortFReferenceIdeal.τ).loc Cert.ShortFReferenceIdeal.main_arg0)
      ∧ r.2.mem ((c.tc : Thread Cert.ShortFReferenceIdeal.nD Cert.ShortFReferenceIdeal.τ).loc Cert.ShortFReferenceIdeal.main_arg1) = m ((c.tc : Thread Cert.ShortFReferenceIdeal.nD Cert.ShortFReferenceIdeal.τ).loc Cert.ShortFReferenceIdeal.main_arg1))
      ∧ r.2.sem = fun _ => 0)

def quiescent_WGradKernel [hWGradKernel : Cert.WGradKernel.Facts] : Prop :=
  ∀ (m : (ℓ : Loc Cert.WGradKernel.nD Cert.WGradKernel.τ Cert.WGradKernel.sig) → Buf (Elt Bits) ℓ) (g : Dev Cert.WGradKernel.nD → PrngReg), Pre_WGradKernel m →
    θ_run (Cert.WGradKernel.defs (F := Bits)) (onTc (τ := Cert.WGradKernel.τ) (Cert.WGradKernel.main (F := Bits))) ⟨m, fun _ => 0, g⟩ (fun r => (∀ c : Dev Cert.WGradKernel.nD,
      r.2.mem ((c.tc : Thread Cert.WGradKernel.nD Cert.WGradKernel.τ).loc Cert.WGradKernel.main_arg0) = m ((c.tc : Thread Cert.WGradKernel.nD Cert.WGradKernel.τ).loc Cert.WGradKernel.main_arg0)
      ∧ r.2.mem ((c.tc : Thread Cert.WGradKernel.nD Cert.WGradKernel.τ).loc Cert.WGradKernel.main_arg1) = m ((c.tc : Thread Cert.WGradKernel.nD Cert.WGradKernel.τ).loc Cert.WGradKernel.main_arg1))
      ∧ r.2.sem = fun _ => 0)

def quiescent_WGradKernelIdeal [hWGradKernelIdeal : Cert.WGradKernelIdeal.Facts] : Prop :=
  ∀ (m : (ℓ : Loc Cert.WGradKernelIdeal.nD Cert.WGradKernelIdeal.τ Cert.WGradKernelIdeal.sig) → Buf (Elt Ideal) ℓ) (g : Dev Cert.WGradKernelIdeal.nD → PrngReg), Pre_WGradKernelIdeal m →
    θ_run (Cert.WGradKernelIdeal.defs (F := Ideal)) (onTc (τ := Cert.WGradKernelIdeal.τ) (Cert.WGradKernelIdeal.main (F := Ideal))) ⟨m, fun _ => 0, g⟩ (fun r => (∀ c : Dev Cert.WGradKernelIdeal.nD,
      r.2.mem ((c.tc : Thread Cert.WGradKernelIdeal.nD Cert.WGradKernelIdeal.τ).loc Cert.WGradKernelIdeal.main_arg0) = m ((c.tc : Thread Cert.WGradKernelIdeal.nD Cert.WGradKernelIdeal.τ).loc Cert.WGradKernelIdeal.main_arg0)
      ∧ r.2.mem ((c.tc : Thread Cert.WGradKernelIdeal.nD Cert.WGradKernelIdeal.τ).loc Cert.WGradKernelIdeal.main_arg1) = m ((c.tc : Thread Cert.WGradKernelIdeal.nD Cert.WGradKernelIdeal.τ).loc Cert.WGradKernelIdeal.main_arg1))
      ∧ r.2.sem = fun _ => 0)

def quiescent_WGradReferenceIdeal [hWGradReferenceIdeal : Cert.WGradReferenceIdeal.Facts] : Prop :=
  ∀ (m : (ℓ : Loc Cert.WGradReferenceIdeal.nD Cert.WGradReferenceIdeal.τ Cert.WGradReferenceIdeal.sig) → Buf (Elt Ideal) ℓ) (g : Dev Cert.WGradReferenceIdeal.nD → PrngReg), Pre_WGradReferenceIdeal m →
    θ_run (Cert.WGradReferenceIdeal.defs (F := Ideal)) (onTc (τ := Cert.WGradReferenceIdeal.τ) (Cert.WGradReferenceIdeal.main (F := Ideal))) ⟨m, fun _ => 0, g⟩ (fun r => (∀ c : Dev Cert.WGradReferenceIdeal.nD,
      r.2.mem ((c.tc : Thread Cert.WGradReferenceIdeal.nD Cert.WGradReferenceIdeal.τ).loc Cert.WGradReferenceIdeal.main_arg0) = m ((c.tc : Thread Cert.WGradReferenceIdeal.nD Cert.WGradReferenceIdeal.τ).loc Cert.WGradReferenceIdeal.main_arg0)
      ∧ r.2.mem ((c.tc : Thread Cert.WGradReferenceIdeal.nD Cert.WGradReferenceIdeal.τ).loc Cert.WGradReferenceIdeal.main_arg1) = m ((c.tc : Thread Cert.WGradReferenceIdeal.nD Cert.WGradReferenceIdeal.τ).loc Cert.WGradReferenceIdeal.main_arg1))
      ∧ r.2.sem = fun _ => 0)

def quiescent_ResidKernel [hResidKernel : Cert.ResidKernel.Facts] : Prop :=
  ∀ (m : (ℓ : Loc Cert.ResidKernel.nD Cert.ResidKernel.τ Cert.ResidKernel.sig) → Buf (Elt Bits) ℓ) (g : Dev Cert.ResidKernel.nD → PrngReg), Pre_ResidKernel m →
    θ_run (Cert.ResidKernel.defs (F := Bits)) (onTc (τ := Cert.ResidKernel.τ) (Cert.ResidKernel.main (F := Bits))) ⟨m, fun _ => 0, g⟩ (fun r => (∀ c : Dev Cert.ResidKernel.nD,
      r.2.mem ((c.tc : Thread Cert.ResidKernel.nD Cert.ResidKernel.τ).loc Cert.ResidKernel.main_arg0) = m ((c.tc : Thread Cert.ResidKernel.nD Cert.ResidKernel.τ).loc Cert.ResidKernel.main_arg0)
      ∧ r.2.mem ((c.tc : Thread Cert.ResidKernel.nD Cert.ResidKernel.τ).loc Cert.ResidKernel.main_arg1) = m ((c.tc : Thread Cert.ResidKernel.nD Cert.ResidKernel.τ).loc Cert.ResidKernel.main_arg1)
      ∧ r.2.mem ((c.tc : Thread Cert.ResidKernel.nD Cert.ResidKernel.τ).loc Cert.ResidKernel.main_arg2) = m ((c.tc : Thread Cert.ResidKernel.nD Cert.ResidKernel.τ).loc Cert.ResidKernel.main_arg2))
      ∧ r.2.sem = fun _ => 0)

def quiescent_ResidKernelIdeal [hResidKernelIdeal : Cert.ResidKernelIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg), Pre_ResidKernelIdeal m →
    θ_run (Cert.ResidKernelIdeal.defs (F := Ideal)) (onTc (τ := Cert.ResidKernelIdeal.τ) (Cert.ResidKernelIdeal.main (F := Ideal))) ⟨m, fun _ => 0, g⟩ (fun r => (∀ c : Dev Cert.ResidKernelIdeal.nD,
      r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
      ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
      ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2))
      ∧ r.2.sem = fun _ => 0)

def quiescent_AGradKernel [hAGradKernel : Cert.AGradKernel.Facts] : Prop :=
  ∀ (m : (ℓ : Loc Cert.AGradKernel.nD Cert.AGradKernel.τ Cert.AGradKernel.sig) → Buf (Elt Bits) ℓ) (g : Dev Cert.AGradKernel.nD → PrngReg), Pre_AGradKernel m →
    θ_run (Cert.AGradKernel.defs (F := Bits)) (onTc (τ := Cert.AGradKernel.τ) (Cert.AGradKernel.main (F := Bits))) ⟨m, fun _ => 0, g⟩ (fun r => (∀ c : Dev Cert.AGradKernel.nD,
      r.2.mem ((c.tc : Thread Cert.AGradKernel.nD Cert.AGradKernel.τ).loc Cert.AGradKernel.main_arg0) = m ((c.tc : Thread Cert.AGradKernel.nD Cert.AGradKernel.τ).loc Cert.AGradKernel.main_arg0)
      ∧ r.2.mem ((c.tc : Thread Cert.AGradKernel.nD Cert.AGradKernel.τ).loc Cert.AGradKernel.main_arg1) = m ((c.tc : Thread Cert.AGradKernel.nD Cert.AGradKernel.τ).loc Cert.AGradKernel.main_arg1))
      ∧ r.2.sem = fun _ => 0)

def quiescent_AGradKernelIdeal [hAGradKernelIdeal : Cert.AGradKernelIdeal.Facts] : Prop :=
  ∀ (m : (ℓ : Loc Cert.AGradKernelIdeal.nD Cert.AGradKernelIdeal.τ Cert.AGradKernelIdeal.sig) → Buf (Elt Ideal) ℓ) (g : Dev Cert.AGradKernelIdeal.nD → PrngReg), Pre_AGradKernelIdeal m →
    θ_run (Cert.AGradKernelIdeal.defs (F := Ideal)) (onTc (τ := Cert.AGradKernelIdeal.τ) (Cert.AGradKernelIdeal.main (F := Ideal))) ⟨m, fun _ => 0, g⟩ (fun r => (∀ c : Dev Cert.AGradKernelIdeal.nD,
      r.2.mem ((c.tc : Thread Cert.AGradKernelIdeal.nD Cert.AGradKernelIdeal.τ).loc Cert.AGradKernelIdeal.main_arg0) = m ((c.tc : Thread Cert.AGradKernelIdeal.nD Cert.AGradKernelIdeal.τ).loc Cert.AGradKernelIdeal.main_arg0)
      ∧ r.2.mem ((c.tc : Thread Cert.AGradKernelIdeal.nD Cert.AGradKernelIdeal.τ).loc Cert.AGradKernelIdeal.main_arg1) = m ((c.tc : Thread Cert.AGradKernelIdeal.nD Cert.AGradKernelIdeal.τ).loc Cert.AGradKernelIdeal.main_arg1))
      ∧ r.2.sem = fun _ => 0)

def quiescent_AGradReferenceIdeal [hAGradReferenceIdeal : Cert.AGradReferenceIdeal.Facts] : Prop :=
  ∀ (m : (ℓ : Loc Cert.AGradReferenceIdeal.nD Cert.AGradReferenceIdeal.τ Cert.AGradReferenceIdeal.sig) → Buf (Elt Ideal) ℓ) (g : Dev Cert.AGradReferenceIdeal.nD → PrngReg), Pre_AGradReferenceIdeal m →
    θ_run (Cert.AGradReferenceIdeal.defs (F := Ideal)) (onTc (τ := Cert.AGradReferenceIdeal.τ) (Cert.AGradReferenceIdeal.main (F := Ideal))) ⟨m, fun _ => 0, g⟩ (fun r => (∀ c : Dev Cert.AGradReferenceIdeal.nD,
      r.2.mem ((c.tc : Thread Cert.AGradReferenceIdeal.nD Cert.AGradReferenceIdeal.τ).loc Cert.AGradReferenceIdeal.main_arg0) = m ((c.tc : Thread Cert.AGradReferenceIdeal.nD Cert.AGradReferenceIdeal.τ).loc Cert.AGradReferenceIdeal.main_arg0)
      ∧ r.2.mem ((c.tc : Thread Cert.AGradReferenceIdeal.nD Cert.AGradReferenceIdeal.τ).loc Cert.AGradReferenceIdeal.main_arg1) = m ((c.tc : Thread Cert.AGradReferenceIdeal.nD Cert.AGradReferenceIdeal.τ).loc Cert.AGradReferenceIdeal.main_arg1))
      ∧ r.2.sem = fun _ => 0)

def quiescent_FGradKernel [hFGradKernel : Cert.FGradKernel.Facts] : Prop :=
  ∀ (m : (ℓ : Loc Cert.FGradKernel.nD Cert.FGradKernel.τ Cert.FGradKernel.sig) → Buf (Elt Bits) ℓ) (g : Dev Cert.FGradKernel.nD → PrngReg), Pre_FGradKernel m →
    θ_run (Cert.FGradKernel.defs (F := Bits)) (onTc (τ := Cert.FGradKernel.τ) (Cert.FGradKernel.main (F := Bits))) ⟨m, fun _ => 0, g⟩ (fun r => (∀ c : Dev Cert.FGradKernel.nD,
      r.2.mem ((c.tc : Thread Cert.FGradKernel.nD Cert.FGradKernel.τ).loc Cert.FGradKernel.main_arg0) = m ((c.tc : Thread Cert.FGradKernel.nD Cert.FGradKernel.τ).loc Cert.FGradKernel.main_arg0)
      ∧ r.2.mem ((c.tc : Thread Cert.FGradKernel.nD Cert.FGradKernel.τ).loc Cert.FGradKernel.main_arg1) = m ((c.tc : Thread Cert.FGradKernel.nD Cert.FGradKernel.τ).loc Cert.FGradKernel.main_arg1)
      ∧ r.2.mem ((c.tc : Thread Cert.FGradKernel.nD Cert.FGradKernel.τ).loc Cert.FGradKernel.main_arg2) = m ((c.tc : Thread Cert.FGradKernel.nD Cert.FGradKernel.τ).loc Cert.FGradKernel.main_arg2)
      ∧ r.2.mem ((c.tc : Thread Cert.FGradKernel.nD Cert.FGradKernel.τ).loc Cert.FGradKernel.main_arg3) = m ((c.tc : Thread Cert.FGradKernel.nD Cert.FGradKernel.τ).loc Cert.FGradKernel.main_arg3))
      ∧ r.2.sem = fun _ => 0)

def quiescent_FGradKernelIdeal [hFGradKernelIdeal : Cert.FGradKernelIdeal.Facts] : Prop :=
  ∀ (m : (ℓ : Loc Cert.FGradKernelIdeal.nD Cert.FGradKernelIdeal.τ Cert.FGradKernelIdeal.sig) → Buf (Elt Ideal) ℓ) (g : Dev Cert.FGradKernelIdeal.nD → PrngReg), Pre_FGradKernelIdeal m →
    θ_run (Cert.FGradKernelIdeal.defs (F := Ideal)) (onTc (τ := Cert.FGradKernelIdeal.τ) (Cert.FGradKernelIdeal.main (F := Ideal))) ⟨m, fun _ => 0, g⟩ (fun r => (∀ c : Dev Cert.FGradKernelIdeal.nD,
      r.2.mem ((c.tc : Thread Cert.FGradKernelIdeal.nD Cert.FGradKernelIdeal.τ).loc Cert.FGradKernelIdeal.main_arg0) = m ((c.tc : Thread Cert.FGradKernelIdeal.nD Cert.FGradKernelIdeal.τ).loc Cert.FGradKernelIdeal.main_arg0)
      ∧ r.2.mem ((c.tc : Thread Cert.FGradKernelIdeal.nD Cert.FGradKernelIdeal.τ).loc Cert.FGradKernelIdeal.main_arg1) = m ((c.tc : Thread Cert.FGradKernelIdeal.nD Cert.FGradKernelIdeal.τ).loc Cert.FGradKernelIdeal.main_arg1)
      ∧ r.2.mem ((c.tc : Thread Cert.FGradKernelIdeal.nD Cert.FGradKernelIdeal.τ).loc Cert.FGradKernelIdeal.main_arg2) = m ((c.tc : Thread Cert.FGradKernelIdeal.nD Cert.FGradKernelIdeal.τ).loc Cert.FGradKernelIdeal.main_arg2)
      ∧ r.2.mem ((c.tc : Thread Cert.FGradKernelIdeal.nD Cert.FGradKernelIdeal.τ).loc Cert.FGradKernelIdeal.main_arg3) = m ((c.tc : Thread Cert.FGradKernelIdeal.nD Cert.FGradKernelIdeal.τ).loc Cert.FGradKernelIdeal.main_arg3))
      ∧ r.2.sem = fun _ => 0)

def quiescent_FGradReferenceIdeal [hFGradReferenceIdeal : Cert.FGradReferenceIdeal.Facts] : Prop :=
  ∀ (m : (ℓ : Loc Cert.FGradReferenceIdeal.nD Cert.FGradReferenceIdeal.τ Cert.FGradReferenceIdeal.sig) → Buf (Elt Ideal) ℓ) (g : Dev Cert.FGradReferenceIdeal.nD → PrngReg), Pre_FGradReferenceIdeal m →
    θ_run (Cert.FGradReferenceIdeal.defs (F := Ideal)) (onTc (τ := Cert.FGradReferenceIdeal.τ) (Cert.FGradReferenceIdeal.main (F := Ideal))) ⟨m, fun _ => 0, g⟩ (fun r => (∀ c : Dev Cert.FGradReferenceIdeal.nD,
      r.2.mem ((c.tc : Thread Cert.FGradReferenceIdeal.nD Cert.FGradReferenceIdeal.τ).loc Cert.FGradReferenceIdeal.main_arg0) = m ((c.tc : Thread Cert.FGradReferenceIdeal.nD Cert.FGradReferenceIdeal.τ).loc Cert.FGradReferenceIdeal.main_arg0)
      ∧ r.2.mem ((c.tc : Thread Cert.FGradReferenceIdeal.nD Cert.FGradReferenceIdeal.τ).loc Cert.FGradReferenceIdeal.main_arg1) = m ((c.tc : Thread Cert.FGradReferenceIdeal.nD Cert.FGradReferenceIdeal.τ).loc Cert.FGradReferenceIdeal.main_arg1)
      ∧ r.2.mem ((c.tc : Thread Cert.FGradReferenceIdeal.nD Cert.FGradReferenceIdeal.τ).loc Cert.FGradReferenceIdeal.main_arg2) = m ((c.tc : Thread Cert.FGradReferenceIdeal.nD Cert.FGradReferenceIdeal.τ).loc Cert.FGradReferenceIdeal.main_arg2)
      ∧ r.2.mem ((c.tc : Thread Cert.FGradReferenceIdeal.nD Cert.FGradReferenceIdeal.τ).loc Cert.FGradReferenceIdeal.main_arg3) = m ((c.tc : Thread Cert.FGradReferenceIdeal.nD Cert.FGradReferenceIdeal.τ).loc Cert.FGradReferenceIdeal.main_arg3))
      ∧ r.2.sem = fun _ => 0)

def quiescent_Sum8Kernel [hSum8Kernel : Cert.Sum8Kernel.Facts] : Prop :=
  ∀ (m : (ℓ : Loc Cert.Sum8Kernel.nD Cert.Sum8Kernel.τ Cert.Sum8Kernel.sig) → Buf (Elt Bits) ℓ) (g : Dev Cert.Sum8Kernel.nD → PrngReg), Pre_Sum8Kernel m →
    θ_run (Cert.Sum8Kernel.defs (F := Bits)) (onTc (τ := Cert.Sum8Kernel.τ) (Cert.Sum8Kernel.main (F := Bits))) ⟨m, fun _ => 0, g⟩ (fun r => (∀ c : Dev Cert.Sum8Kernel.nD,
      r.2.mem ((c.tc : Thread Cert.Sum8Kernel.nD Cert.Sum8Kernel.τ).loc Cert.Sum8Kernel.main_arg0) = m ((c.tc : Thread Cert.Sum8Kernel.nD Cert.Sum8Kernel.τ).loc Cert.Sum8Kernel.main_arg0))
      ∧ r.2.sem = fun _ => 0)

def quiescent_Sum8KernelIdeal [hSum8KernelIdeal : Cert.Sum8KernelIdeal.Facts] : Prop :=
  ∀ (m : (ℓ : Loc Cert.Sum8KernelIdeal.nD Cert.Sum8KernelIdeal.τ Cert.Sum8KernelIdeal.sig) → Buf (Elt Ideal) ℓ) (g : Dev Cert.Sum8KernelIdeal.nD → PrngReg), Pre_Sum8KernelIdeal m →
    θ_run (Cert.Sum8KernelIdeal.defs (F := Ideal)) (onTc (τ := Cert.Sum8KernelIdeal.τ) (Cert.Sum8KernelIdeal.main (F := Ideal))) ⟨m, fun _ => 0, g⟩ (fun r => (∀ c : Dev Cert.Sum8KernelIdeal.nD,
      r.2.mem ((c.tc : Thread Cert.Sum8KernelIdeal.nD Cert.Sum8KernelIdeal.τ).loc Cert.Sum8KernelIdeal.main_arg0) = m ((c.tc : Thread Cert.Sum8KernelIdeal.nD Cert.Sum8KernelIdeal.τ).loc Cert.Sum8KernelIdeal.main_arg0))
      ∧ r.2.sem = fun _ => 0)

def quiescent_Sum8ReferenceIdeal [hSum8ReferenceIdeal : Cert.Sum8ReferenceIdeal.Facts] : Prop :=
  ∀ (m : (ℓ : Loc Cert.Sum8ReferenceIdeal.nD Cert.Sum8ReferenceIdeal.τ Cert.Sum8ReferenceIdeal.sig) → Buf (Elt Ideal) ℓ) (g : Dev Cert.Sum8ReferenceIdeal.nD → PrngReg), Pre_Sum8ReferenceIdeal m →
    θ_run (Cert.Sum8ReferenceIdeal.defs (F := Ideal)) (onTc (τ := Cert.Sum8ReferenceIdeal.τ) (Cert.Sum8ReferenceIdeal.main (F := Ideal))) ⟨m, fun _ => 0, g⟩ (fun r => (∀ c : Dev Cert.Sum8ReferenceIdeal.nD,
      r.2.mem ((c.tc : Thread Cert.Sum8ReferenceIdeal.nD Cert.Sum8ReferenceIdeal.τ).loc Cert.Sum8ReferenceIdeal.main_arg0) = m ((c.tc : Thread Cert.Sum8ReferenceIdeal.nD Cert.Sum8ReferenceIdeal.τ).loc Cert.Sum8ReferenceIdeal.main_arg0))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)) →
    ∃ (v0 : (c : Dev Cert.PleKernelIdeal.nD) → Buf (Elt Ideal) ((c.tc : Thread Cert.PleKernelIdeal.nD Cert.PleKernelIdeal.τ).loc Cert.PleKernelIdeal.main_v0_0)) (v1 : (c : Dev Cert.PleKernelIdeal.nD) → Buf (Elt Ideal) ((c.tc : Thread Cert.PleKernelIdeal.nD Cert.PleKernelIdeal.τ).loc Cert.PleKernelIdeal.main_v0_1)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v0_0) = v0 c
          ∧ r.2.mem ((c.tc : Thread Cert.PleKernelIdeal.nD Cert.PleKernelIdeal.τ).loc Cert.PleKernelIdeal.main_v0_1) = v1 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v15) = v0 c
          ∧ r.2.mem ((c.tc : Thread Cert.PleReferenceIdeal.nD Cert.PleReferenceIdeal.τ).loc Cert.PleReferenceIdeal.main_v16) = v1 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2))

def preserves_CfLnKernel_CfLnKernelIdeal : Prop :=
  True

def algebraic_CfLnKernelIdeal_CfLnReferenceIdeal [hCfLnKernelIdeal : Cert.CfLnKernelIdeal.Facts] [hCfLnReferenceIdeal : Cert.CfLnReferenceIdeal.Facts] [hPre_cfln_finite : Cert.Pre_cfln_finite.Facts] : Prop :=
  ∀ (m : (ℓ : Loc Cert.CfLnKernelIdeal.nD Cert.CfLnKernelIdeal.τ Cert.CfLnKernelIdeal.sig) → Buf (Elt Ideal) ℓ) (g : Dev Cert.CfLnKernelIdeal.nD → PrngReg)
    (m' : (ℓ : Loc Cert.CfLnReferenceIdeal.nD Cert.CfLnReferenceIdeal.τ Cert.CfLnReferenceIdeal.sig) → Buf (Elt Ideal) ℓ) (g' : Dev Cert.CfLnReferenceIdeal.nD → PrngReg), Pre_CfLnKernelIdeal m →
    (∀ c : Dev Cert.CfLnKernelIdeal.nD,
      m' ((c.tc : Thread Cert.CfLnReferenceIdeal.nD Cert.CfLnReferenceIdeal.τ).loc Cert.CfLnReferenceIdeal.main_arg0) = m ((c.tc : Thread Cert.CfLnKernelIdeal.nD Cert.CfLnKernelIdeal.τ).loc Cert.CfLnKernelIdeal.main_arg0)
      ∧ m' ((c.tc : Thread Cert.CfLnReferenceIdeal.nD Cert.CfLnReferenceIdeal.τ).loc Cert.CfLnReferenceIdeal.main_arg1) = m ((c.tc : Thread Cert.CfLnKernelIdeal.nD Cert.CfLnKernelIdeal.τ).loc Cert.CfLnKernelIdeal.main_arg1)
      ∧ m' ((c.tc : Thread Cert.CfLnReferenceIdeal.nD Cert.CfLnReferenceIdeal.τ).loc Cert.CfLnReferenceIdeal.main_arg2) = m ((c.tc : Thread Cert.CfLnKernelIdeal.nD Cert.CfLnKernelIdeal.τ).loc Cert.CfLnKernelIdeal.main_arg2)
      ∧ m' ((c.tc : Thread Cert.CfLnReferenceIdeal.nD Cert.CfLnReferenceIdeal.τ).loc Cert.CfLnReferenceIdeal.main_arg3) = m ((c.tc : Thread Cert.CfLnKernelIdeal.nD Cert.CfLnKernelIdeal.τ).loc Cert.CfLnKernelIdeal.main_arg3)
      ∧ m' ((c.tc : Thread Cert.CfLnReferenceIdeal.nD Cert.CfLnReferenceIdeal.τ).loc Cert.CfLnReferenceIdeal.main_arg4) = m ((c.tc : Thread Cert.CfLnKernelIdeal.nD Cert.CfLnKernelIdeal.τ).loc Cert.CfLnKernelIdeal.main_arg4)
      ∧ m' ((c.tc : Thread Cert.CfLnReferenceIdeal.nD Cert.CfLnReferenceIdeal.τ).loc Cert.CfLnReferenceIdeal.main_arg5) = m ((c.tc : Thread Cert.CfLnKernelIdeal.nD Cert.CfLnKernelIdeal.τ).loc Cert.CfLnKernelIdeal.main_arg5)) →
    ∃ (v0 : (c : Dev Cert.CfLnKernelIdeal.nD) → Buf (Elt Ideal) ((c.tc : Thread Cert.CfLnKernelIdeal.nD Cert.CfLnKernelIdeal.τ).loc Cert.CfLnKernelIdeal.main_v236_0)) (v1 : (c : Dev Cert.CfLnKernelIdeal.nD) → Buf (Elt Ideal) ((c.tc : Thread Cert.CfLnKernelIdeal.nD Cert.CfLnKernelIdeal.τ).loc Cert.CfLnKernelIdeal.main_v236_1)) (v2 : (c : Dev Cert.CfLnKernelIdeal.nD) → Buf (Elt Ideal) ((c.tc : Thread Cert.CfLnKernelIdeal.nD Cert.CfLnKernelIdeal.τ).loc Cert.CfLnKernelIdeal.main_v236_2)) (v3 : (c : Dev Cert.CfLnKernelIdeal.nD) → Buf (Elt Ideal) ((c.tc : Thread Cert.CfLnKernelIdeal.nD Cert.CfLnKernelIdeal.τ).loc Cert.CfLnKernelIdeal.main_v236_3)),
      θ_run (Cert.CfLnKernelIdeal.defs (F := Ideal)) (onTc (τ := Cert.CfLnKernelIdeal.τ) (Cert.CfLnKernelIdeal.main (F := Ideal))) ⟨m, fun _ => 0, g⟩ (fun r => ∀ c : Dev Cert.CfLnKernelIdeal.nD,
          r.2.mem ((c.tc : Thread Cert.CfLnKernelIdeal.nD Cert.CfLnKernelIdeal.τ).loc Cert.CfLnKernelIdeal.main_v236_0) = v0 c
          ∧ r.2.mem ((c.tc : Thread Cert.CfLnKernelIdeal.nD Cert.CfLnKernelIdeal.τ).loc Cert.CfLnKernelIdeal.main_v236_1) = v1 c
          ∧ r.2.mem ((c.tc : Thread Cert.CfLnKernelIdeal.nD Cert.CfLnKernelIdeal.τ).loc Cert.CfLnKernelIdeal.main_v236_2) = v2 c
          ∧ r.2.mem ((c.tc : Thread Cert.CfLnKernelIdeal.nD Cert.CfLnKernelIdeal.τ).loc Cert.CfLnKernelIdeal.main_v236_3) = v3 c
          ∧ r.2.mem ((c.tc : Thread Cert.CfLnKernelIdeal.nD Cert.CfLnKernelIdeal.τ).loc Cert.CfLnKernelIdeal.main_arg0) = m ((c.tc : Thread Cert.CfLnKernelIdeal.nD Cert.CfLnKernelIdeal.τ).loc Cert.CfLnKernelIdeal.main_arg0)
          ∧ r.2.mem ((c.tc : Thread Cert.CfLnKernelIdeal.nD Cert.CfLnKernelIdeal.τ).loc Cert.CfLnKernelIdeal.main_arg1) = m ((c.tc : Thread Cert.CfLnKernelIdeal.nD Cert.CfLnKernelIdeal.τ).loc Cert.CfLnKernelIdeal.main_arg1)
          ∧ r.2.mem ((c.tc : Thread Cert.CfLnKernelIdeal.nD Cert.CfLnKernelIdeal.τ).loc Cert.CfLnKernelIdeal.main_arg2) = m ((c.tc : Thread Cert.CfLnKernelIdeal.nD Cert.CfLnKernelIdeal.τ).loc Cert.CfLnKernelIdeal.main_arg2)
          ∧ r.2.mem ((c.tc : Thread Cert.CfLnKernelIdeal.nD Cert.CfLnKernelIdeal.τ).loc Cert.CfLnKernelIdeal.main_arg3) = m ((c.tc : Thread Cert.CfLnKernelIdeal.nD Cert.CfLnKernelIdeal.τ).loc Cert.CfLnKernelIdeal.main_arg3)
          ∧ r.2.mem ((c.tc : Thread Cert.CfLnKernelIdeal.nD Cert.CfLnKernelIdeal.τ).loc Cert.CfLnKernelIdeal.main_arg4) = m ((c.tc : Thread Cert.CfLnKernelIdeal.nD Cert.CfLnKernelIdeal.τ).loc Cert.CfLnKernelIdeal.main_arg4)
          ∧ r.2.mem ((c.tc : Thread Cert.CfLnKernelIdeal.nD Cert.CfLnKernelIdeal.τ).loc Cert.CfLnKernelIdeal.main_arg5) = m ((c.tc : Thread Cert.CfLnKernelIdeal.nD Cert.CfLnKernelIdeal.τ).loc Cert.CfLnKernelIdeal.main_arg5))
      ∧ θ_run (Cert.CfLnReferenceIdeal.defs (F := Ideal)) (onTc (τ := Cert.CfLnReferenceIdeal.τ) (Cert.CfLnReferenceIdeal.main (F := Ideal))) ⟨m', fun _ => 0, g'⟩ (fun r => ∀ c : Dev Cert.CfLnReferenceIdeal.nD,
          r.2.mem ((c.tc : Thread Cert.CfLnReferenceIdeal.nD Cert.CfLnReferenceIdeal.τ).loc Cert.CfLnReferenceIdeal.main_v292) = v0 c
          ∧ r.2.mem ((c.tc : Thread Cert.CfLnReferenceIdeal.nD Cert.CfLnReferenceIdeal.τ).loc Cert.CfLnReferenceIdeal.main_v296) = v1 c
          ∧ r.2.mem ((c.tc : Thread Cert.CfLnReferenceIdeal.nD Cert.CfLnReferenceIdeal.τ).loc Cert.CfLnReferenceIdeal.main_v297) = v2 c
          ∧ r.2.mem ((c.tc : Thread Cert.CfLnReferenceIdeal.nD Cert.CfLnReferenceIdeal.τ).loc Cert.CfLnReferenceIdeal.main_v298) = v3 c
          ∧ r.2.mem ((c.tc : Thread Cert.CfLnReferenceIdeal.nD Cert.CfLnReferenceIdeal.τ).loc Cert.CfLnReferenceIdeal.main_arg0) = m' ((c.tc : Thread Cert.CfLnReferenceIdeal.nD Cert.CfLnReferenceIdeal.τ).loc Cert.CfLnReferenceIdeal.main_arg0)
          ∧ r.2.mem ((c.tc : Thread Cert.CfLnReferenceIdeal.nD Cert.CfLnReferenceIdeal.τ).loc Cert.CfLnReferenceIdeal.main_arg1) = m' ((c.tc : Thread Cert.CfLnReferenceIdeal.nD Cert.CfLnReferenceIdeal.τ).loc Cert.CfLnReferenceIdeal.main_arg1)
          ∧ r.2.mem ((c.tc : Thread Cert.CfLnReferenceIdeal.nD Cert.CfLnReferenceIdeal.τ).loc Cert.CfLnReferenceIdeal.main_arg2) = m' ((c.tc : Thread Cert.CfLnReferenceIdeal.nD Cert.CfLnReferenceIdeal.τ).loc Cert.CfLnReferenceIdeal.main_arg2)
          ∧ r.2.mem ((c.tc : Thread Cert.CfLnReferenceIdeal.nD Cert.CfLnReferenceIdeal.τ).loc Cert.CfLnReferenceIdeal.main_arg3) = m' ((c.tc : Thread Cert.CfLnReferenceIdeal.nD Cert.CfLnReferenceIdeal.τ).loc Cert.CfLnReferenceIdeal.main_arg3)
          ∧ r.2.mem ((c.tc : Thread Cert.CfLnReferenceIdeal.nD Cert.CfLnReferenceIdeal.τ).loc Cert.CfLnReferenceIdeal.main_arg4) = m' ((c.tc : Thread Cert.CfLnReferenceIdeal.nD Cert.CfLnReferenceIdeal.τ).loc Cert.CfLnReferenceIdeal.main_arg4)
          ∧ r.2.mem ((c.tc : Thread Cert.CfLnReferenceIdeal.nD Cert.CfLnReferenceIdeal.τ).loc Cert.CfLnReferenceIdeal.main_arg5) = m' ((c.tc : Thread Cert.CfLnReferenceIdeal.nD Cert.CfLnReferenceIdeal.τ).loc Cert.CfLnReferenceIdeal.main_arg5))

def preserves_SguKernel_SguKernelIdeal : Prop :=
  IdealRules.named_const.Statement Cert.SguKernelIdeal.κ "gelu_c" .f32 0x3D372713#32 ((8943 / 200000 : ℝ) : EReal)
  ∧ IdealRules.named_const.Statement Cert.SguKernelIdeal.κ "gelu_3c" .f32 0x3E095D4F#32 ((26829 / 200000 : ℝ) : EReal)

def algebraic_SguKernelIdeal_SguReferenceIdeal [hSguKernelIdeal : Cert.SguKernelIdeal.Facts] [hSguReferenceIdeal : Cert.SguReferenceIdeal.Facts] [hPre_sgu_finite : Cert.Pre_sgu_finite.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)) →
    ∃ (v0 : (c : Dev Cert.SguKernelIdeal.nD) → Buf (Elt Ideal) ((c.tc : Thread Cert.SguKernelIdeal.nD Cert.SguKernelIdeal.τ).loc Cert.SguKernelIdeal.main_v4_0)) (v1 : (c : Dev Cert.SguKernelIdeal.nD) → Buf (Elt Ideal) ((c.tc : Thread Cert.SguKernelIdeal.nD Cert.SguKernelIdeal.τ).loc Cert.SguKernelIdeal.main_v4_1)) (v2 : (c : Dev Cert.SguKernelIdeal.nD) → Buf (Elt Ideal) ((c.tc : Thread Cert.SguKernelIdeal.nD Cert.SguKernelIdeal.τ).loc Cert.SguKernelIdeal.main_v4_2)) (v3 : (c : Dev Cert.SguKernelIdeal.nD) → Buf (Elt Ideal) ((c.tc : Thread Cert.SguKernelIdeal.nD Cert.SguKernelIdeal.τ).loc Cert.SguKernelIdeal.main_v4_3)) (v4 : (c : Dev Cert.SguKernelIdeal.nD) → Buf (Elt Ideal) ((c.tc : Thread Cert.SguKernelIdeal.nD Cert.SguKernelIdeal.τ).loc Cert.SguKernelIdeal.main_v4_4)) (v5 : (c : Dev Cert.SguKernelIdeal.nD) → Buf (Elt Ideal) ((c.tc : Thread Cert.SguKernelIdeal.nD Cert.SguKernelIdeal.τ).loc Cert.SguKernelIdeal.main_v4_5)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v4_0) = v0 c
          ∧ r.2.mem ((c.tc : Thread Cert.SguKernelIdeal.nD Cert.SguKernelIdeal.τ).loc Cert.SguKernelIdeal.main_v4_1) = v1 c
          ∧ r.2.mem ((c.tc : Thread Cert.SguKernelIdeal.nD Cert.SguKernelIdeal.τ).loc Cert.SguKernelIdeal.main_v4_2) = v2 c
          ∧ r.2.mem ((c.tc : Thread Cert.SguKernelIdeal.nD Cert.SguKernelIdeal.τ).loc Cert.SguKernelIdeal.main_v4_3) = v3 c
          ∧ r.2.mem ((c.tc : Thread Cert.SguKernelIdeal.nD Cert.SguKernelIdeal.τ).loc Cert.SguKernelIdeal.main_v4_4) = v4 c
          ∧ r.2.mem ((c.tc : Thread Cert.SguKernelIdeal.nD Cert.SguKernelIdeal.τ).loc Cert.SguKernelIdeal.main_v4_5) = v5 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v130) = v0 c
          ∧ r.2.mem ((c.tc : Thread Cert.SguReferenceIdeal.nD Cert.SguReferenceIdeal.τ).loc Cert.SguReferenceIdeal.main_v132) = v1 c
          ∧ r.2.mem ((c.tc : Thread Cert.SguReferenceIdeal.nD Cert.SguReferenceIdeal.τ).loc Cert.SguReferenceIdeal.main_v133) = v2 c
          ∧ r.2.mem ((c.tc : Thread Cert.SguReferenceIdeal.nD Cert.SguReferenceIdeal.τ).loc Cert.SguReferenceIdeal.main_v134) = v3 c
          ∧ r.2.mem ((c.tc : Thread Cert.SguReferenceIdeal.nD Cert.SguReferenceIdeal.τ).loc Cert.SguReferenceIdeal.main_v82) = v4 c
          ∧ r.2.mem ((c.tc : Thread Cert.SguReferenceIdeal.nD Cert.SguReferenceIdeal.τ).loc Cert.SguReferenceIdeal.main_v135) = v5 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5))

def preserves_SwigluKernel_SwigluKernelIdeal : Prop :=
  True

def algebraic_SwigluKernelIdeal_SwigluReferenceIdeal [hSwigluKernelIdeal : Cert.SwigluKernelIdeal.Facts] [hSwigluReferenceIdeal : Cert.SwigluReferenceIdeal.Facts] [hPre_swiglu_finite : Cert.Pre_swiglu_finite.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)
      ∧ m' ((c.tc : Thread Cert.SwigluReferenceIdeal.nD Cert.SwigluReferenceIdeal.τ).loc Cert.SwigluReferenceIdeal.main_arg1) = m ((c.tc : Thread Cert.SwigluKernelIdeal.nD Cert.SwigluKernelIdeal.τ).loc Cert.SwigluKernelIdeal.main_arg1)
      ∧ m' ((c.tc : Thread Cert.SwigluReferenceIdeal.nD Cert.SwigluReferenceIdeal.τ).loc Cert.SwigluReferenceIdeal.main_arg2) = m ((c.tc : Thread Cert.SwigluKernelIdeal.nD Cert.SwigluKernelIdeal.τ).loc Cert.SwigluKernelIdeal.main_arg2)
      ∧ m' ((c.tc : Thread Cert.SwigluReferenceIdeal.nD Cert.SwigluReferenceIdeal.τ).loc Cert.SwigluReferenceIdeal.main_arg3) = m ((c.tc : Thread Cert.SwigluKernelIdeal.nD Cert.SwigluKernelIdeal.τ).loc Cert.SwigluKernelIdeal.main_arg3)) →
    ∃ (v0 : (c : Dev Cert.SwigluKernelIdeal.nD) → Buf (Elt Ideal) ((c.tc : Thread Cert.SwigluKernelIdeal.nD Cert.SwigluKernelIdeal.τ).loc Cert.SwigluKernelIdeal.main_v4_0)) (v1 : (c : Dev Cert.SwigluKernelIdeal.nD) → Buf (Elt Ideal) ((c.tc : Thread Cert.SwigluKernelIdeal.nD Cert.SwigluKernelIdeal.τ).loc Cert.SwigluKernelIdeal.main_v4_1)) (v2 : (c : Dev Cert.SwigluKernelIdeal.nD) → Buf (Elt Ideal) ((c.tc : Thread Cert.SwigluKernelIdeal.nD Cert.SwigluKernelIdeal.τ).loc Cert.SwigluKernelIdeal.main_v4_2)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v4_0) = v0 c
          ∧ r.2.mem ((c.tc : Thread Cert.SwigluKernelIdeal.nD Cert.SwigluKernelIdeal.τ).loc Cert.SwigluKernelIdeal.main_v4_1) = v1 c
          ∧ r.2.mem ((c.tc : Thread Cert.SwigluKernelIdeal.nD Cert.SwigluKernelIdeal.τ).loc Cert.SwigluKernelIdeal.main_v4_2) = v2 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
          ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
          ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2)
          ∧ r.2.mem ((c.tc : Thread Cert.SwigluKernelIdeal.nD Cert.SwigluKernelIdeal.τ).loc Cert.SwigluKernelIdeal.main_arg3) = m ((c.tc : Thread Cert.SwigluKernelIdeal.nD Cert.SwigluKernelIdeal.τ).loc Cert.SwigluKernelIdeal.main_arg3))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v12) = v0 c
          ∧ r.2.mem ((c.tc : Thread Cert.SwigluReferenceIdeal.nD Cert.SwigluReferenceIdeal.τ).loc Cert.SwigluReferenceIdeal.main_v13) = v1 c
          ∧ r.2.mem ((c.tc : Thread Cert.SwigluReferenceIdeal.nD Cert.SwigluReferenceIdeal.τ).loc Cert.SwigluReferenceIdeal.main_v14) = v2 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2)
          ∧ r.2.mem ((c.tc : Thread Cert.SwigluReferenceIdeal.nD Cert.SwigluReferenceIdeal.τ).loc Cert.SwigluReferenceIdeal.main_arg3) = m' ((c.tc : Thread Cert.SwigluReferenceIdeal.nD Cert.SwigluReferenceIdeal.τ).loc Cert.SwigluReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v53) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_RmsPleKernel_RmsPleKernelIdeal : Prop :=
  True

def algebraic_RmsPleKernelIdeal_RmsPleReferenceIdeal [hRmsPleKernelIdeal : Cert.RmsPleKernelIdeal.Facts] [hRmsPleReferenceIdeal : Cert.RmsPleReferenceIdeal.Facts] [hPre_rmsple_finite : Cert.Pre_rmsple_finite.Facts] : Prop :=
  ∀ (m : (ℓ : Loc Cert.RmsPleKernelIdeal.nD Cert.RmsPleKernelIdeal.τ Cert.RmsPleKernelIdeal.sig) → Buf (Elt Ideal) ℓ) (g : Dev Cert.RmsPleKernelIdeal.nD → PrngReg)
    (m' : (ℓ : Loc Cert.RmsPleReferenceIdeal.nD Cert.RmsPleReferenceIdeal.τ Cert.RmsPleReferenceIdeal.sig) → Buf (Elt Ideal) ℓ) (g' : Dev Cert.RmsPleReferenceIdeal.nD → PrngReg), Pre_RmsPleKernelIdeal m →
    (∀ c : Dev Cert.RmsPleKernelIdeal.nD,
      m' ((c.tc : Thread Cert.RmsPleReferenceIdeal.nD Cert.RmsPleReferenceIdeal.τ).loc Cert.RmsPleReferenceIdeal.main_arg0) = m ((c.tc : Thread Cert.RmsPleKernelIdeal.nD Cert.RmsPleKernelIdeal.τ).loc Cert.RmsPleKernelIdeal.main_arg0)
      ∧ m' ((c.tc : Thread Cert.RmsPleReferenceIdeal.nD Cert.RmsPleReferenceIdeal.τ).loc Cert.RmsPleReferenceIdeal.main_arg1) = m ((c.tc : Thread Cert.RmsPleKernelIdeal.nD Cert.RmsPleKernelIdeal.τ).loc Cert.RmsPleKernelIdeal.main_arg1)
      ∧ m' ((c.tc : Thread Cert.RmsPleReferenceIdeal.nD Cert.RmsPleReferenceIdeal.τ).loc Cert.RmsPleReferenceIdeal.main_arg2) = m ((c.tc : Thread Cert.RmsPleKernelIdeal.nD Cert.RmsPleKernelIdeal.τ).loc Cert.RmsPleKernelIdeal.main_arg2)
      ∧ m' ((c.tc : Thread Cert.RmsPleReferenceIdeal.nD Cert.RmsPleReferenceIdeal.τ).loc Cert.RmsPleReferenceIdeal.main_arg3) = m ((c.tc : Thread Cert.RmsPleKernelIdeal.nD Cert.RmsPleKernelIdeal.τ).loc Cert.RmsPleKernelIdeal.main_arg3)
      ∧ m' ((c.tc : Thread Cert.RmsPleReferenceIdeal.nD Cert.RmsPleReferenceIdeal.τ).loc Cert.RmsPleReferenceIdeal.main_arg4) = m ((c.tc : Thread Cert.RmsPleKernelIdeal.nD Cert.RmsPleKernelIdeal.τ).loc Cert.RmsPleKernelIdeal.main_arg4)
      ∧ m' ((c.tc : Thread Cert.RmsPleReferenceIdeal.nD Cert.RmsPleReferenceIdeal.τ).loc Cert.RmsPleReferenceIdeal.main_arg5) = m ((c.tc : Thread Cert.RmsPleKernelIdeal.nD Cert.RmsPleKernelIdeal.τ).loc Cert.RmsPleKernelIdeal.main_arg5)) →
    ∃ (v0 : (c : Dev Cert.RmsPleKernelIdeal.nD) → Buf (Elt Ideal) ((c.tc : Thread Cert.RmsPleKernelIdeal.nD Cert.RmsPleKernelIdeal.τ).loc Cert.RmsPleKernelIdeal.main_v1_0)) (v1 : (c : Dev Cert.RmsPleKernelIdeal.nD) → Buf (Elt Ideal) ((c.tc : Thread Cert.RmsPleKernelIdeal.nD Cert.RmsPleKernelIdeal.τ).loc Cert.RmsPleKernelIdeal.main_v1_1)) (v2 : (c : Dev Cert.RmsPleKernelIdeal.nD) → Buf (Elt Ideal) ((c.tc : Thread Cert.RmsPleKernelIdeal.nD Cert.RmsPleKernelIdeal.τ).loc Cert.RmsPleKernelIdeal.main_v1_2)) (v3 : (c : Dev Cert.RmsPleKernelIdeal.nD) → Buf (Elt Ideal) ((c.tc : Thread Cert.RmsPleKernelIdeal.nD Cert.RmsPleKernelIdeal.τ).loc Cert.RmsPleKernelIdeal.main_v1_3)) (v4 : (c : Dev Cert.RmsPleKernelIdeal.nD) → Buf (Elt Ideal) ((c.tc : Thread Cert.RmsPleKernelIdeal.nD Cert.RmsPleKernelIdeal.τ).loc Cert.RmsPleKernelIdeal.main_v1_4)),
      θ_run (Cert.RmsPleKernelIdeal.defs (F := Ideal)) (onTc (τ := Cert.RmsPleKernelIdeal.τ) (Cert.RmsPleKernelIdeal.main (F := Ideal))) ⟨m, fun _ => 0, g⟩ (fun r => ∀ c : Dev Cert.RmsPleKernelIdeal.nD,
          r.2.mem ((c.tc : Thread Cert.RmsPleKernelIdeal.nD Cert.RmsPleKernelIdeal.τ).loc Cert.RmsPleKernelIdeal.main_v1_0) = v0 c
          ∧ r.2.mem ((c.tc : Thread Cert.RmsPleKernelIdeal.nD Cert.RmsPleKernelIdeal.τ).loc Cert.RmsPleKernelIdeal.main_v1_1) = v1 c
          ∧ r.2.mem ((c.tc : Thread Cert.RmsPleKernelIdeal.nD Cert.RmsPleKernelIdeal.τ).loc Cert.RmsPleKernelIdeal.main_v1_2) = v2 c
          ∧ r.2.mem ((c.tc : Thread Cert.RmsPleKernelIdeal.nD Cert.RmsPleKernelIdeal.τ).loc Cert.RmsPleKernelIdeal.main_v1_3) = v3 c
          ∧ r.2.mem ((c.tc : Thread Cert.RmsPleKernelIdeal.nD Cert.RmsPleKernelIdeal.τ).loc Cert.RmsPleKernelIdeal.main_v1_4) = v4 c
          ∧ r.2.mem ((c.tc : Thread Cert.RmsPleKernelIdeal.nD Cert.RmsPleKernelIdeal.τ).loc Cert.RmsPleKernelIdeal.main_arg0) = m ((c.tc : Thread Cert.RmsPleKernelIdeal.nD Cert.RmsPleKernelIdeal.τ).loc Cert.RmsPleKernelIdeal.main_arg0)
          ∧ r.2.mem ((c.tc : Thread Cert.RmsPleKernelIdeal.nD Cert.RmsPleKernelIdeal.τ).loc Cert.RmsPleKernelIdeal.main_arg1) = m ((c.tc : Thread Cert.RmsPleKernelIdeal.nD Cert.RmsPleKernelIdeal.τ).loc Cert.RmsPleKernelIdeal.main_arg1)
          ∧ r.2.mem ((c.tc : Thread Cert.RmsPleKernelIdeal.nD Cert.RmsPleKernelIdeal.τ).loc Cert.RmsPleKernelIdeal.main_arg2) = m ((c.tc : Thread Cert.RmsPleKernelIdeal.nD Cert.RmsPleKernelIdeal.τ).loc Cert.RmsPleKernelIdeal.main_arg2)
          ∧ r.2.mem ((c.tc : Thread Cert.RmsPleKernelIdeal.nD Cert.RmsPleKernelIdeal.τ).loc Cert.RmsPleKernelIdeal.main_arg3) = m ((c.tc : Thread Cert.RmsPleKernelIdeal.nD Cert.RmsPleKernelIdeal.τ).loc Cert.RmsPleKernelIdeal.main_arg3)
          ∧ r.2.mem ((c.tc : Thread Cert.RmsPleKernelIdeal.nD Cert.RmsPleKernelIdeal.τ).loc Cert.RmsPleKernelIdeal.main_arg4) = m ((c.tc : Thread Cert.RmsPleKernelIdeal.nD Cert.RmsPleKernelIdeal.τ).loc Cert.RmsPleKernelIdeal.main_arg4)
          ∧ r.2.mem ((c.tc : Thread Cert.RmsPleKernelIdeal.nD Cert.RmsPleKernelIdeal.τ).loc Cert.RmsPleKernelIdeal.main_arg5) = m ((c.tc : Thread Cert.RmsPleKernelIdeal.nD Cert.RmsPleKernelIdeal.τ).loc Cert.RmsPleKernelIdeal.main_arg5))
      ∧ θ_run (Cert.RmsPleReferenceIdeal.defs (F := Ideal)) (onTc (τ := Cert.RmsPleReferenceIdeal.τ) (Cert.RmsPleReferenceIdeal.main (F := Ideal))) ⟨m', fun _ => 0, g'⟩ (fun r => ∀ c : Dev Cert.RmsPleReferenceIdeal.nD,
          r.2.mem ((c.tc : Thread Cert.RmsPleReferenceIdeal.nD Cert.RmsPleReferenceIdeal.τ).loc Cert.RmsPleReferenceIdeal.main_v37) = v0 c
          ∧ r.2.mem ((c.tc : Thread Cert.RmsPleReferenceIdeal.nD Cert.RmsPleReferenceIdeal.τ).loc Cert.RmsPleReferenceIdeal.main_v53) = v1 c
          ∧ r.2.mem ((c.tc : Thread Cert.RmsPleReferenceIdeal.nD Cert.RmsPleReferenceIdeal.τ).loc Cert.RmsPleReferenceIdeal.main_v54) = v2 c
          ∧ r.2.mem ((c.tc : Thread Cert.RmsPleReferenceIdeal.nD Cert.RmsPleReferenceIdeal.τ).loc Cert.RmsPleReferenceIdeal.main_v55) = v3 c
          ∧ r.2.mem ((c.tc : Thread Cert.RmsPleReferenceIdeal.nD Cert.RmsPleReferenceIdeal.τ).loc Cert.RmsPleReferenceIdeal.main_v56) = v4 c
          ∧ r.2.mem ((c.tc : Thread Cert.RmsPleReferenceIdeal.nD Cert.RmsPleReferenceIdeal.τ).loc Cert.RmsPleReferenceIdeal.main_arg0) = m' ((c.tc : Thread Cert.RmsPleReferenceIdeal.nD Cert.RmsPleReferenceIdeal.τ).loc Cert.RmsPleReferenceIdeal.main_arg0)
          ∧ r.2.mem ((c.tc : Thread Cert.RmsPleReferenceIdeal.nD Cert.RmsPleReferenceIdeal.τ).loc Cert.RmsPleReferenceIdeal.main_arg1) = m' ((c.tc : Thread Cert.RmsPleReferenceIdeal.nD Cert.RmsPleReferenceIdeal.τ).loc Cert.RmsPleReferenceIdeal.main_arg1)
          ∧ r.2.mem ((c.tc : Thread Cert.RmsPleReferenceIdeal.nD Cert.RmsPleReferenceIdeal.τ).loc Cert.RmsPleReferenceIdeal.main_arg2) = m' ((c.tc : Thread Cert.RmsPleReferenceIdeal.nD Cert.RmsPleReferenceIdeal.τ).loc Cert.RmsPleReferenceIdeal.main_arg2)
          ∧ r.2.mem ((c.tc : Thread Cert.RmsPleReferenceIdeal.nD Cert.RmsPleReferenceIdeal.τ).loc Cert.RmsPleReferenceIdeal.main_arg3) = m' ((c.tc : Thread Cert.RmsPleReferenceIdeal.nD Cert.RmsPleReferenceIdeal.τ).loc Cert.RmsPleReferenceIdeal.main_arg3)
          ∧ r.2.mem ((c.tc : Thread Cert.RmsPleReferenceIdeal.nD Cert.RmsPleReferenceIdeal.τ).loc Cert.RmsPleReferenceIdeal.main_arg4) = m' ((c.tc : Thread Cert.RmsPleReferenceIdeal.nD Cert.RmsPleReferenceIdeal.τ).loc Cert.RmsPleReferenceIdeal.main_arg4)
          ∧ r.2.mem ((c.tc : Thread Cert.RmsPleReferenceIdeal.nD Cert.RmsPleReferenceIdeal.τ).loc Cert.RmsPleReferenceIdeal.main_arg5) = m' ((c.tc : Thread Cert.RmsPleReferenceIdeal.nD Cert.RmsPleReferenceIdeal.τ).loc Cert.RmsPleReferenceIdeal.main_arg5))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] [hPre_rms_finite : Cert.Pre_rms_finite.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)
      ∧ m' ((c.tc : Thread Cert.RmsReferenceIdeal.nD Cert.RmsReferenceIdeal.τ).loc Cert.RmsReferenceIdeal.main_arg2) = m ((c.tc : Thread Cert.RmsKernelIdeal.nD Cert.RmsKernelIdeal.τ).loc Cert.RmsKernelIdeal.main_arg2)
      ∧ m' ((c.tc : Thread Cert.RmsReferenceIdeal.nD Cert.RmsReferenceIdeal.τ).loc Cert.RmsReferenceIdeal.main_arg3) = m ((c.tc : Thread Cert.RmsKernelIdeal.nD Cert.RmsKernelIdeal.τ).loc Cert.RmsKernelIdeal.main_arg3)) →
    ∃ (v0 : (c : Dev Cert.RmsKernelIdeal.nD) → Buf (Elt Ideal) ((c.tc : Thread Cert.RmsKernelIdeal.nD Cert.RmsKernelIdeal.τ).loc Cert.RmsKernelIdeal.main_v1_0)) (v1 : (c : Dev Cert.RmsKernelIdeal.nD) → Buf (Elt Ideal) ((c.tc : Thread Cert.RmsKernelIdeal.nD Cert.RmsKernelIdeal.τ).loc Cert.RmsKernelIdeal.main_v1_1)) (v2 : (c : Dev Cert.RmsKernelIdeal.nD) → Buf (Elt Ideal) ((c.tc : Thread Cert.RmsKernelIdeal.nD Cert.RmsKernelIdeal.τ).loc Cert.RmsKernelIdeal.main_v1_2)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v1_0) = v0 c
          ∧ r.2.mem ((c.tc : Thread Cert.RmsKernelIdeal.nD Cert.RmsKernelIdeal.τ).loc Cert.RmsKernelIdeal.main_v1_1) = v1 c
          ∧ r.2.mem ((c.tc : Thread Cert.RmsKernelIdeal.nD Cert.RmsKernelIdeal.τ).loc Cert.RmsKernelIdeal.main_v1_2) = v2 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
          ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
          ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v37) = v0 c
          ∧ r.2.mem ((c.tc : Thread Cert.RmsReferenceIdeal.nD Cert.RmsReferenceIdeal.τ).loc Cert.RmsReferenceIdeal.main_v38) = v1 c
          ∧ r.2.mem ((c.tc : Thread Cert.RmsReferenceIdeal.nD Cert.RmsReferenceIdeal.τ).loc Cert.RmsReferenceIdeal.main_v39) = v2 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2)
          ∧ r.2.mem ((c.tc : Thread Cert.RmsReferenceIdeal.nD Cert.RmsReferenceIdeal.τ).loc Cert.RmsReferenceIdeal.main_arg3) = m' ((c.tc : Thread Cert.RmsReferenceIdeal.nD Cert.RmsReferenceIdeal.τ).loc Cert.RmsReferenceIdeal.main_arg3))

def preserves_PoolKernel_PoolKernelIdeal : Prop :=
  True

def algebraic_PoolKernelIdeal_PoolReferenceIdeal [hPoolKernelIdeal : Cert.PoolKernelIdeal.Facts] [hPoolReferenceIdeal : Cert.PoolReferenceIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v2_0)) (v1 : (c : Dev Cert.PoolKernelIdeal.nD) → Buf (Elt Ideal) ((c.tc : Thread Cert.PoolKernelIdeal.nD Cert.PoolKernelIdeal.τ).loc Cert.PoolKernelIdeal.main_v2_1)) (v2 : (c : Dev Cert.PoolKernelIdeal.nD) → Buf (Elt Ideal) ((c.tc : Thread Cert.PoolKernelIdeal.nD Cert.PoolKernelIdeal.τ).loc Cert.PoolKernelIdeal.main_v2_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v2_0) = v0 c
          ∧ r.2.mem ((c.tc : Thread Cert.PoolKernelIdeal.nD Cert.PoolKernelIdeal.τ).loc Cert.PoolKernelIdeal.main_v2_1) = v1 c
          ∧ r.2.mem ((c.tc : Thread Cert.PoolKernelIdeal.nD Cert.PoolKernelIdeal.τ).loc Cert.PoolKernelIdeal.main_v2_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v135) = v0 c
          ∧ r.2.mem ((c.tc : Thread Cert.PoolReferenceIdeal.nD Cert.PoolReferenceIdeal.τ).loc Cert.PoolReferenceIdeal.main_v83) = v1 c
          ∧ r.2.mem ((c.tc : Thread Cert.PoolReferenceIdeal.nD Cert.PoolReferenceIdeal.τ).loc Cert.PoolReferenceIdeal.main_v136) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_CfConvKernel_CfConvKernelIdeal : Prop :=
  True

def algebraic_CfConvKernelIdeal_CfConvReferenceIdeal [hCfConvKernelIdeal : Cert.CfConvKernelIdeal.Facts] [hCfConvReferenceIdeal : Cert.CfConvReferenceIdeal.Facts] [hPre_cfconv_finite : Cert.Pre_cfconv_finite.Facts] : Prop :=
  ∀ (m : (ℓ : Loc Cert.CfConvKernelIdeal.nD Cert.CfConvKernelIdeal.τ Cert.CfConvKernelIdeal.sig) → Buf (Elt Ideal) ℓ) (g : Dev Cert.CfConvKernelIdeal.nD → PrngReg)
    (m' : (ℓ : Loc Cert.CfConvReferenceIdeal.nD Cert.CfConvReferenceIdeal.τ Cert.CfConvReferenceIdeal.sig) → Buf (Elt Ideal) ℓ) (g' : Dev Cert.CfConvReferenceIdeal.nD → PrngReg), Pre_CfConvKernelIdeal m →
    (∀ c : Dev Cert.CfConvKernelIdeal.nD,
      m' ((c.tc : Thread Cert.CfConvReferenceIdeal.nD Cert.CfConvReferenceIdeal.τ).loc Cert.CfConvReferenceIdeal.main_arg0) = m ((c.tc : Thread Cert.CfConvKernelIdeal.nD Cert.CfConvKernelIdeal.τ).loc Cert.CfConvKernelIdeal.main_arg0)
      ∧ m' ((c.tc : Thread Cert.CfConvReferenceIdeal.nD Cert.CfConvReferenceIdeal.τ).loc Cert.CfConvReferenceIdeal.main_arg1) = m ((c.tc : Thread Cert.CfConvKernelIdeal.nD Cert.CfConvKernelIdeal.τ).loc Cert.CfConvKernelIdeal.main_arg1)
      ∧ m' ((c.tc : Thread Cert.CfConvReferenceIdeal.nD Cert.CfConvReferenceIdeal.τ).loc Cert.CfConvReferenceIdeal.main_arg2) = m ((c.tc : Thread Cert.CfConvKernelIdeal.nD Cert.CfConvKernelIdeal.τ).loc Cert.CfConvKernelIdeal.main_arg2)) →
    ∃ (v0 : (c : Dev Cert.CfConvKernelIdeal.nD) → Buf (Elt Ideal) ((c.tc : Thread Cert.CfConvKernelIdeal.nD Cert.CfConvKernelIdeal.τ).loc Cert.CfConvKernelIdeal.main_v0_0)) (v1 : (c : Dev Cert.CfConvKernelIdeal.nD) → Buf (Elt Ideal) ((c.tc : Thread Cert.CfConvKernelIdeal.nD Cert.CfConvKernelIdeal.τ).loc Cert.CfConvKernelIdeal.main_v0_1)) (v2 : (c : Dev Cert.CfConvKernelIdeal.nD) → Buf (Elt Ideal) ((c.tc : Thread Cert.CfConvKernelIdeal.nD Cert.CfConvKernelIdeal.τ).loc Cert.CfConvKernelIdeal.main_v0_2)),
      θ_run (Cert.CfConvKernelIdeal.defs (F := Ideal)) (onTc (τ := Cert.CfConvKernelIdeal.τ) (Cert.CfConvKernelIdeal.main (F := Ideal))) ⟨m, fun _ => 0, g⟩ (fun r => ∀ c : Dev Cert.CfConvKernelIdeal.nD,
          r.2.mem ((c.tc : Thread Cert.CfConvKernelIdeal.nD Cert.CfConvKernelIdeal.τ).loc Cert.CfConvKernelIdeal.main_v0_0) = v0 c
          ∧ r.2.mem ((c.tc : Thread Cert.CfConvKernelIdeal.nD Cert.CfConvKernelIdeal.τ).loc Cert.CfConvKernelIdeal.main_v0_1) = v1 c
          ∧ r.2.mem ((c.tc : Thread Cert.CfConvKernelIdeal.nD Cert.CfConvKernelIdeal.τ).loc Cert.CfConvKernelIdeal.main_v0_2) = v2 c
          ∧ r.2.mem ((c.tc : Thread Cert.CfConvKernelIdeal.nD Cert.CfConvKernelIdeal.τ).loc Cert.CfConvKernelIdeal.main_arg0) = m ((c.tc : Thread Cert.CfConvKernelIdeal.nD Cert.CfConvKernelIdeal.τ).loc Cert.CfConvKernelIdeal.main_arg0)
          ∧ r.2.mem ((c.tc : Thread Cert.CfConvKernelIdeal.nD Cert.CfConvKernelIdeal.τ).loc Cert.CfConvKernelIdeal.main_arg1) = m ((c.tc : Thread Cert.CfConvKernelIdeal.nD Cert.CfConvKernelIdeal.τ).loc Cert.CfConvKernelIdeal.main_arg1)
          ∧ r.2.mem ((c.tc : Thread Cert.CfConvKernelIdeal.nD Cert.CfConvKernelIdeal.τ).loc Cert.CfConvKernelIdeal.main_arg2) = m ((c.tc : Thread Cert.CfConvKernelIdeal.nD Cert.CfConvKernelIdeal.τ).loc Cert.CfConvKernelIdeal.main_arg2))
      ∧ θ_run (Cert.CfConvReferenceIdeal.defs (F := Ideal)) (onTc (τ := Cert.CfConvReferenceIdeal.τ) (Cert.CfConvReferenceIdeal.main (F := Ideal))) ⟨m', fun _ => 0, g'⟩ (fun r => ∀ c : Dev Cert.CfConvReferenceIdeal.nD,
          r.2.mem ((c.tc : Thread Cert.CfConvReferenceIdeal.nD Cert.CfConvReferenceIdeal.τ).loc Cert.CfConvReferenceIdeal.main_v583) = v0 c
          ∧ r.2.mem ((c.tc : Thread Cert.CfConvReferenceIdeal.nD Cert.CfConvReferenceIdeal.τ).loc Cert.CfConvReferenceIdeal.main_v584) = v1 c
          ∧ r.2.mem ((c.tc : Thread Cert.CfConvReferenceIdeal.nD Cert.CfConvReferenceIdeal.τ).loc Cert.CfConvReferenceIdeal.main_v574) = v2 c
          ∧ r.2.mem ((c.tc : Thread Cert.CfConvReferenceIdeal.nD Cert.CfConvReferenceIdeal.τ).loc Cert.CfConvReferenceIdeal.main_arg0) = m' ((c.tc : Thread Cert.CfConvReferenceIdeal.nD Cert.CfConvReferenceIdeal.τ).loc Cert.CfConvReferenceIdeal.main_arg0)
          ∧ r.2.mem ((c.tc : Thread Cert.CfConvReferenceIdeal.nD Cert.CfConvReferenceIdeal.τ).loc Cert.CfConvReferenceIdeal.main_arg1) = m' ((c.tc : Thread Cert.CfConvReferenceIdeal.nD Cert.CfConvReferenceIdeal.τ).loc Cert.CfConvReferenceIdeal.main_arg1)
          ∧ r.2.mem ((c.tc : Thread Cert.CfConvReferenceIdeal.nD Cert.CfConvReferenceIdeal.τ).loc Cert.CfConvReferenceIdeal.main_arg2) = m' ((c.tc : Thread Cert.CfConvReferenceIdeal.nD Cert.CfConvReferenceIdeal.τ).loc Cert.CfConvReferenceIdeal.main_arg2))

def preserves_ShortKernel_ShortKernelIdeal : Prop :=
  True

def algebraic_ShortKernelIdeal_ShortReferenceIdeal [hShortKernelIdeal : Cert.ShortKernelIdeal.Facts] [hShortReferenceIdeal : Cert.ShortReferenceIdeal.Facts] [hPre_short_finite : Cert.Pre_short_finite.Facts] : Prop :=
  ∀ (m : (ℓ : Loc Cert.ShortKernelIdeal.nD Cert.ShortKernelIdeal.τ Cert.ShortKernelIdeal.sig) → Buf (Elt Ideal) ℓ) (g : Dev Cert.ShortKernelIdeal.nD → PrngReg)
    (m' : (ℓ : Loc Cert.ShortReferenceIdeal.nD Cert.ShortReferenceIdeal.τ Cert.ShortReferenceIdeal.sig) → Buf (Elt Ideal) ℓ) (g' : Dev Cert.ShortReferenceIdeal.nD → PrngReg), Pre_ShortKernelIdeal m →
    (∀ c : Dev Cert.ShortKernelIdeal.nD,
      m' ((c.tc : Thread Cert.ShortReferenceIdeal.nD Cert.ShortReferenceIdeal.τ).loc Cert.ShortReferenceIdeal.main_arg0) = m ((c.tc : Thread Cert.ShortKernelIdeal.nD Cert.ShortKernelIdeal.τ).loc Cert.ShortKernelIdeal.main_arg0)
      ∧ m' ((c.tc : Thread Cert.ShortReferenceIdeal.nD Cert.ShortReferenceIdeal.τ).loc Cert.ShortReferenceIdeal.main_arg1) = m ((c.tc : Thread Cert.ShortKernelIdeal.nD Cert.ShortKernelIdeal.τ).loc Cert.ShortKernelIdeal.main_arg1)
      ∧ m' ((c.tc : Thread Cert.ShortReferenceIdeal.nD Cert.ShortReferenceIdeal.τ).loc Cert.ShortReferenceIdeal.main_arg2) = m ((c.tc : Thread Cert.ShortKernelIdeal.nD Cert.ShortKernelIdeal.τ).loc Cert.ShortKernelIdeal.main_arg2)) →
    ∃ (v0 : (c : Dev Cert.ShortKernelIdeal.nD) → Buf (Elt Ideal) ((c.tc : Thread Cert.ShortKernelIdeal.nD Cert.ShortKernelIdeal.τ).loc Cert.ShortKernelIdeal.main_v1_0)) (v1 : (c : Dev Cert.ShortKernelIdeal.nD) → Buf (Elt Ideal) ((c.tc : Thread Cert.ShortKernelIdeal.nD Cert.ShortKernelIdeal.τ).loc Cert.ShortKernelIdeal.main_v1_1)) (v2 : (c : Dev Cert.ShortKernelIdeal.nD) → Buf (Elt Ideal) ((c.tc : Thread Cert.ShortKernelIdeal.nD Cert.ShortKernelIdeal.τ).loc Cert.ShortKernelIdeal.main_v1_2)) (v3 : (c : Dev Cert.ShortKernelIdeal.nD) → Buf (Elt Ideal) ((c.tc : Thread Cert.ShortKernelIdeal.nD Cert.ShortKernelIdeal.τ).loc Cert.ShortKernelIdeal.main_v1_3)),
      θ_run (Cert.ShortKernelIdeal.defs (F := Ideal)) (onTc (τ := Cert.ShortKernelIdeal.τ) (Cert.ShortKernelIdeal.main (F := Ideal))) ⟨m, fun _ => 0, g⟩ (fun r => ∀ c : Dev Cert.ShortKernelIdeal.nD,
          r.2.mem ((c.tc : Thread Cert.ShortKernelIdeal.nD Cert.ShortKernelIdeal.τ).loc Cert.ShortKernelIdeal.main_v1_0) = v0 c
          ∧ r.2.mem ((c.tc : Thread Cert.ShortKernelIdeal.nD Cert.ShortKernelIdeal.τ).loc Cert.ShortKernelIdeal.main_v1_1) = v1 c
          ∧ r.2.mem ((c.tc : Thread Cert.ShortKernelIdeal.nD Cert.ShortKernelIdeal.τ).loc Cert.ShortKernelIdeal.main_v1_2) = v2 c
          ∧ r.2.mem ((c.tc : Thread Cert.ShortKernelIdeal.nD Cert.ShortKernelIdeal.τ).loc Cert.ShortKernelIdeal.main_v1_3) = v3 c
          ∧ r.2.mem ((c.tc : Thread Cert.ShortKernelIdeal.nD Cert.ShortKernelIdeal.τ).loc Cert.ShortKernelIdeal.main_arg0) = m ((c.tc : Thread Cert.ShortKernelIdeal.nD Cert.ShortKernelIdeal.τ).loc Cert.ShortKernelIdeal.main_arg0)
          ∧ r.2.mem ((c.tc : Thread Cert.ShortKernelIdeal.nD Cert.ShortKernelIdeal.τ).loc Cert.ShortKernelIdeal.main_arg1) = m ((c.tc : Thread Cert.ShortKernelIdeal.nD Cert.ShortKernelIdeal.τ).loc Cert.ShortKernelIdeal.main_arg1)
          ∧ r.2.mem ((c.tc : Thread Cert.ShortKernelIdeal.nD Cert.ShortKernelIdeal.τ).loc Cert.ShortKernelIdeal.main_arg2) = m ((c.tc : Thread Cert.ShortKernelIdeal.nD Cert.ShortKernelIdeal.τ).loc Cert.ShortKernelIdeal.main_arg2))
      ∧ θ_run (Cert.ShortReferenceIdeal.defs (F := Ideal)) (onTc (τ := Cert.ShortReferenceIdeal.τ) (Cert.ShortReferenceIdeal.main (F := Ideal))) ⟨m', fun _ => 0, g'⟩ (fun r => ∀ c : Dev Cert.ShortReferenceIdeal.nD,
          r.2.mem ((c.tc : Thread Cert.ShortReferenceIdeal.nD Cert.ShortReferenceIdeal.τ).loc Cert.ShortReferenceIdeal.main_v74) = v0 c
          ∧ r.2.mem ((c.tc : Thread Cert.ShortReferenceIdeal.nD Cert.ShortReferenceIdeal.τ).loc Cert.ShortReferenceIdeal.main_v75) = v1 c
          ∧ r.2.mem ((c.tc : Thread Cert.ShortReferenceIdeal.nD Cert.ShortReferenceIdeal.τ).loc Cert.ShortReferenceIdeal.main_v76) = v2 c
          ∧ r.2.mem ((c.tc : Thread Cert.ShortReferenceIdeal.nD Cert.ShortReferenceIdeal.τ).loc Cert.ShortReferenceIdeal.main_v65) = v3 c
          ∧ r.2.mem ((c.tc : Thread Cert.ShortReferenceIdeal.nD Cert.ShortReferenceIdeal.τ).loc Cert.ShortReferenceIdeal.main_arg0) = m' ((c.tc : Thread Cert.ShortReferenceIdeal.nD Cert.ShortReferenceIdeal.τ).loc Cert.ShortReferenceIdeal.main_arg0)
          ∧ r.2.mem ((c.tc : Thread Cert.ShortReferenceIdeal.nD Cert.ShortReferenceIdeal.τ).loc Cert.ShortReferenceIdeal.main_arg1) = m' ((c.tc : Thread Cert.ShortReferenceIdeal.nD Cert.ShortReferenceIdeal.τ).loc Cert.ShortReferenceIdeal.main_arg1)
          ∧ r.2.mem ((c.tc : Thread Cert.ShortReferenceIdeal.nD Cert.ShortReferenceIdeal.τ).loc Cert.ShortReferenceIdeal.main_arg2) = m' ((c.tc : Thread Cert.ShortReferenceIdeal.nD Cert.ShortReferenceIdeal.τ).loc Cert.ShortReferenceIdeal.main_arg2))

def preserves_RmsFKernel_RmsFKernelIdeal : Prop :=
  True

def algebraic_RmsFKernelIdeal_RmsFReferenceIdeal [hRmsFKernelIdeal : Cert.RmsFKernelIdeal.Facts] [hRmsFReferenceIdeal : Cert.RmsFReferenceIdeal.Facts] : Prop :=
  ∀ (m : (ℓ : Loc Cert.RmsFKernelIdeal.nD Cert.RmsFKernelIdeal.τ Cert.RmsFKernelIdeal.sig) → Buf (Elt Ideal) ℓ) (g : Dev Cert.RmsFKernelIdeal.nD → PrngReg)
    (m' : (ℓ : Loc Cert.RmsFReferenceIdeal.nD Cert.RmsFReferenceIdeal.τ Cert.RmsFReferenceIdeal.sig) → Buf (Elt Ideal) ℓ) (g' : Dev Cert.RmsFReferenceIdeal.nD → PrngReg), Pre_RmsFKernelIdeal m →
    (∀ c : Dev Cert.RmsFKernelIdeal.nD,
      m' ((c.tc : Thread Cert.RmsFReferenceIdeal.nD Cert.RmsFReferenceIdeal.τ).loc Cert.RmsFReferenceIdeal.main_arg0) = m ((c.tc : Thread Cert.RmsFKernelIdeal.nD Cert.RmsFKernelIdeal.τ).loc Cert.RmsFKernelIdeal.main_arg0)
      ∧ m' ((c.tc : Thread Cert.RmsFReferenceIdeal.nD Cert.RmsFReferenceIdeal.τ).loc Cert.RmsFReferenceIdeal.main_arg1) = m ((c.tc : Thread Cert.RmsFKernelIdeal.nD Cert.RmsFKernelIdeal.τ).loc Cert.RmsFKernelIdeal.main_arg1)) →
    ∃ (v0 : (c : Dev Cert.RmsFKernelIdeal.nD) → Buf (Elt Ideal) ((c.tc : Thread Cert.RmsFKernelIdeal.nD Cert.RmsFKernelIdeal.τ).loc Cert.RmsFKernelIdeal.main_v1)),
      θ_run (Cert.RmsFKernelIdeal.defs (F := Ideal)) (onTc (τ := Cert.RmsFKernelIdeal.τ) (Cert.RmsFKernelIdeal.main (F := Ideal))) ⟨m, fun _ => 0, g⟩ (fun r => ∀ c : Dev Cert.RmsFKernelIdeal.nD,
          r.2.mem ((c.tc : Thread Cert.RmsFKernelIdeal.nD Cert.RmsFKernelIdeal.τ).loc Cert.RmsFKernelIdeal.main_v1) = v0 c
          ∧ r.2.mem ((c.tc : Thread Cert.RmsFKernelIdeal.nD Cert.RmsFKernelIdeal.τ).loc Cert.RmsFKernelIdeal.main_arg0) = m ((c.tc : Thread Cert.RmsFKernelIdeal.nD Cert.RmsFKernelIdeal.τ).loc Cert.RmsFKernelIdeal.main_arg0)
          ∧ r.2.mem ((c.tc : Thread Cert.RmsFKernelIdeal.nD Cert.RmsFKernelIdeal.τ).loc Cert.RmsFKernelIdeal.main_arg1) = m ((c.tc : Thread Cert.RmsFKernelIdeal.nD Cert.RmsFKernelIdeal.τ).loc Cert.RmsFKernelIdeal.main_arg1))
      ∧ θ_run (Cert.RmsFReferenceIdeal.defs (F := Ideal)) (onTc (τ := Cert.RmsFReferenceIdeal.τ) (Cert.RmsFReferenceIdeal.main (F := Ideal))) ⟨m', fun _ => 0, g'⟩ (fun r => ∀ c : Dev Cert.RmsFReferenceIdeal.nD,
          r.2.mem ((c.tc : Thread Cert.RmsFReferenceIdeal.nD Cert.RmsFReferenceIdeal.τ).loc Cert.RmsFReferenceIdeal.main_v13) = v0 c
          ∧ r.2.mem ((c.tc : Thread Cert.RmsFReferenceIdeal.nD Cert.RmsFReferenceIdeal.τ).loc Cert.RmsFReferenceIdeal.main_arg0) = m' ((c.tc : Thread Cert.RmsFReferenceIdeal.nD Cert.RmsFReferenceIdeal.τ).loc Cert.RmsFReferenceIdeal.main_arg0)
          ∧ r.2.mem ((c.tc : Thread Cert.RmsFReferenceIdeal.nD Cert.RmsFReferenceIdeal.τ).loc Cert.RmsFReferenceIdeal.main_arg1) = m' ((c.tc : Thread Cert.RmsFReferenceIdeal.nD Cert.RmsFReferenceIdeal.τ).loc Cert.RmsFReferenceIdeal.main_arg1))

def preserves_CfLnFKernel_CfLnFKernelIdeal : Prop :=
  True

def algebraic_CfLnFKernelIdeal_CfLnFReferenceIdeal [hCfLnFKernelIdeal : Cert.CfLnFKernelIdeal.Facts] [hCfLnFReferenceIdeal : Cert.CfLnFReferenceIdeal.Facts] : Prop :=
  ∀ (m : (ℓ : Loc Cert.CfLnFKernelIdeal.nD Cert.CfLnFKernelIdeal.τ Cert.CfLnFKernelIdeal.sig) → Buf (Elt Ideal) ℓ) (g : Dev Cert.CfLnFKernelIdeal.nD → PrngReg)
    (m' : (ℓ : Loc Cert.CfLnFReferenceIdeal.nD Cert.CfLnFReferenceIdeal.τ Cert.CfLnFReferenceIdeal.sig) → Buf (Elt Ideal) ℓ) (g' : Dev Cert.CfLnFReferenceIdeal.nD → PrngReg), Pre_CfLnFKernelIdeal m →
    (∀ c : Dev Cert.CfLnFKernelIdeal.nD,
      m' ((c.tc : Thread Cert.CfLnFReferenceIdeal.nD Cert.CfLnFReferenceIdeal.τ).loc Cert.CfLnFReferenceIdeal.main_arg0) = m ((c.tc : Thread Cert.CfLnFKernelIdeal.nD Cert.CfLnFKernelIdeal.τ).loc Cert.CfLnFKernelIdeal.main_arg0)
      ∧ m' ((c.tc : Thread Cert.CfLnFReferenceIdeal.nD Cert.CfLnFReferenceIdeal.τ).loc Cert.CfLnFReferenceIdeal.main_arg1) = m ((c.tc : Thread Cert.CfLnFKernelIdeal.nD Cert.CfLnFKernelIdeal.τ).loc Cert.CfLnFKernelIdeal.main_arg1)
      ∧ m' ((c.tc : Thread Cert.CfLnFReferenceIdeal.nD Cert.CfLnFReferenceIdeal.τ).loc Cert.CfLnFReferenceIdeal.main_arg2) = m ((c.tc : Thread Cert.CfLnFKernelIdeal.nD Cert.CfLnFKernelIdeal.τ).loc Cert.CfLnFKernelIdeal.main_arg2)
      ∧ m' ((c.tc : Thread Cert.CfLnFReferenceIdeal.nD Cert.CfLnFReferenceIdeal.τ).loc Cert.CfLnFReferenceIdeal.main_arg3) = m ((c.tc : Thread Cert.CfLnFKernelIdeal.nD Cert.CfLnFKernelIdeal.τ).loc Cert.CfLnFKernelIdeal.main_arg3)
      ∧ m' ((c.tc : Thread Cert.CfLnFReferenceIdeal.nD Cert.CfLnFReferenceIdeal.τ).loc Cert.CfLnFReferenceIdeal.main_arg4) = m ((c.tc : Thread Cert.CfLnFKernelIdeal.nD Cert.CfLnFKernelIdeal.τ).loc Cert.CfLnFKernelIdeal.main_arg4)) →
    ∃ (v0 : (c : Dev Cert.CfLnFKernelIdeal.nD) → Buf (Elt Ideal) ((c.tc : Thread Cert.CfLnFKernelIdeal.nD Cert.CfLnFKernelIdeal.τ).loc Cert.CfLnFKernelIdeal.main_v235)),
      θ_run (Cert.CfLnFKernelIdeal.defs (F := Ideal)) (onTc (τ := Cert.CfLnFKernelIdeal.τ) (Cert.CfLnFKernelIdeal.main (F := Ideal))) ⟨m, fun _ => 0, g⟩ (fun r => ∀ c : Dev Cert.CfLnFKernelIdeal.nD,
          r.2.mem ((c.tc : Thread Cert.CfLnFKernelIdeal.nD Cert.CfLnFKernelIdeal.τ).loc Cert.CfLnFKernelIdeal.main_v235) = v0 c
          ∧ r.2.mem ((c.tc : Thread Cert.CfLnFKernelIdeal.nD Cert.CfLnFKernelIdeal.τ).loc Cert.CfLnFKernelIdeal.main_arg0) = m ((c.tc : Thread Cert.CfLnFKernelIdeal.nD Cert.CfLnFKernelIdeal.τ).loc Cert.CfLnFKernelIdeal.main_arg0)
          ∧ r.2.mem ((c.tc : Thread Cert.CfLnFKernelIdeal.nD Cert.CfLnFKernelIdeal.τ).loc Cert.CfLnFKernelIdeal.main_arg1) = m ((c.tc : Thread Cert.CfLnFKernelIdeal.nD Cert.CfLnFKernelIdeal.τ).loc Cert.CfLnFKernelIdeal.main_arg1)
          ∧ r.2.mem ((c.tc : Thread Cert.CfLnFKernelIdeal.nD Cert.CfLnFKernelIdeal.τ).loc Cert.CfLnFKernelIdeal.main_arg2) = m ((c.tc : Thread Cert.CfLnFKernelIdeal.nD Cert.CfLnFKernelIdeal.τ).loc Cert.CfLnFKernelIdeal.main_arg2)
          ∧ r.2.mem ((c.tc : Thread Cert.CfLnFKernelIdeal.nD Cert.CfLnFKernelIdeal.τ).loc Cert.CfLnFKernelIdeal.main_arg3) = m ((c.tc : Thread Cert.CfLnFKernelIdeal.nD Cert.CfLnFKernelIdeal.τ).loc Cert.CfLnFKernelIdeal.main_arg3)
          ∧ r.2.mem ((c.tc : Thread Cert.CfLnFKernelIdeal.nD Cert.CfLnFKernelIdeal.τ).loc Cert.CfLnFKernelIdeal.main_arg4) = m ((c.tc : Thread Cert.CfLnFKernelIdeal.nD Cert.CfLnFKernelIdeal.τ).loc Cert.CfLnFKernelIdeal.main_arg4))
      ∧ θ_run (Cert.CfLnFReferenceIdeal.defs (F := Ideal)) (onTc (τ := Cert.CfLnFReferenceIdeal.τ) (Cert.CfLnFReferenceIdeal.main (F := Ideal))) ⟨m', fun _ => 0, g'⟩ (fun r => ∀ c : Dev Cert.CfLnFReferenceIdeal.nD,
          r.2.mem ((c.tc : Thread Cert.CfLnFReferenceIdeal.nD Cert.CfLnFReferenceIdeal.τ).loc Cert.CfLnFReferenceIdeal.main_v256) = v0 c
          ∧ r.2.mem ((c.tc : Thread Cert.CfLnFReferenceIdeal.nD Cert.CfLnFReferenceIdeal.τ).loc Cert.CfLnFReferenceIdeal.main_arg0) = m' ((c.tc : Thread Cert.CfLnFReferenceIdeal.nD Cert.CfLnFReferenceIdeal.τ).loc Cert.CfLnFReferenceIdeal.main_arg0)
          ∧ r.2.mem ((c.tc : Thread Cert.CfLnFReferenceIdeal.nD Cert.CfLnFReferenceIdeal.τ).loc Cert.CfLnFReferenceIdeal.main_arg1) = m' ((c.tc : Thread Cert.CfLnFReferenceIdeal.nD Cert.CfLnFReferenceIdeal.τ).loc Cert.CfLnFReferenceIdeal.main_arg1)
          ∧ r.2.mem ((c.tc : Thread Cert.CfLnFReferenceIdeal.nD Cert.CfLnFReferenceIdeal.τ).loc Cert.CfLnFReferenceIdeal.main_arg2) = m' ((c.tc : Thread Cert.CfLnFReferenceIdeal.nD Cert.CfLnFReferenceIdeal.τ).loc Cert.CfLnFReferenceIdeal.main_arg2)
          ∧ r.2.mem ((c.tc : Thread Cert.CfLnFReferenceIdeal.nD Cert.CfLnFReferenceIdeal.τ).loc Cert.CfLnFReferenceIdeal.main_arg3) = m' ((c.tc : Thread Cert.CfLnFReferenceIdeal.nD Cert.CfLnFReferenceIdeal.τ).loc Cert.CfLnFReferenceIdeal.main_arg3)
          ∧ r.2.mem ((c.tc : Thread Cert.CfLnFReferenceIdeal.nD Cert.CfLnFReferenceIdeal.τ).loc Cert.CfLnFReferenceIdeal.main_arg4) = m' ((c.tc : Thread Cert.CfLnFReferenceIdeal.nD Cert.CfLnFReferenceIdeal.τ).loc Cert.CfLnFReferenceIdeal.main_arg4))

def preserves_SguFKernel_SguFKernelIdeal : Prop :=
  IdealRules.named_const.Statement Cert.SguFKernelIdeal.κ "gelu_c" .f32 0x3D372713#32 ((8943 / 200000 : ℝ) : EReal)

def algebraic_SguFKernelIdeal_SguFReferenceIdeal [hSguFKernelIdeal : Cert.SguFKernelIdeal.Facts] [hSguFReferenceIdeal : Cert.SguFReferenceIdeal.Facts] : Prop :=
  ∀ (m : (ℓ : Loc Cert.SguFKernelIdeal.nD Cert.SguFKernelIdeal.τ Cert.SguFKernelIdeal.sig) → Buf (Elt Ideal) ℓ) (g : Dev Cert.SguFKernelIdeal.nD → PrngReg)
    (m' : (ℓ : Loc Cert.SguFReferenceIdeal.nD Cert.SguFReferenceIdeal.τ Cert.SguFReferenceIdeal.sig) → Buf (Elt Ideal) ℓ) (g' : Dev Cert.SguFReferenceIdeal.nD → PrngReg), Pre_SguFKernelIdeal m →
    (∀ c : Dev Cert.SguFKernelIdeal.nD,
      m' ((c.tc : Thread Cert.SguFReferenceIdeal.nD Cert.SguFReferenceIdeal.τ).loc Cert.SguFReferenceIdeal.main_arg0) = m ((c.tc : Thread Cert.SguFKernelIdeal.nD Cert.SguFKernelIdeal.τ).loc Cert.SguFKernelIdeal.main_arg0)
      ∧ m' ((c.tc : Thread Cert.SguFReferenceIdeal.nD Cert.SguFReferenceIdeal.τ).loc Cert.SguFReferenceIdeal.main_arg1) = m ((c.tc : Thread Cert.SguFKernelIdeal.nD Cert.SguFKernelIdeal.τ).loc Cert.SguFKernelIdeal.main_arg1)
      ∧ m' ((c.tc : Thread Cert.SguFReferenceIdeal.nD Cert.SguFReferenceIdeal.τ).loc Cert.SguFReferenceIdeal.main_arg2) = m ((c.tc : Thread Cert.SguFKernelIdeal.nD Cert.SguFKernelIdeal.τ).loc Cert.SguFKernelIdeal.main_arg2)
      ∧ m' ((c.tc : Thread Cert.SguFReferenceIdeal.nD Cert.SguFReferenceIdeal.τ).loc Cert.SguFReferenceIdeal.main_arg3) = m ((c.tc : Thread Cert.SguFKernelIdeal.nD Cert.SguFKernelIdeal.τ).loc Cert.SguFKernelIdeal.main_arg3)
      ∧ m' ((c.tc : Thread Cert.SguFReferenceIdeal.nD Cert.SguFReferenceIdeal.τ).loc Cert.SguFReferenceIdeal.main_arg4) = m ((c.tc : Thread Cert.SguFKernelIdeal.nD Cert.SguFKernelIdeal.τ).loc Cert.SguFKernelIdeal.main_arg4)) →
    ∃ (v0 : (c : Dev Cert.SguFKernelIdeal.nD) → Buf (Elt Ideal) ((c.tc : Thread Cert.SguFKernelIdeal.nD Cert.SguFKernelIdeal.τ).loc Cert.SguFKernelIdeal.main_v3)),
      θ_run (Cert.SguFKernelIdeal.defs (F := Ideal)) (onTc (τ := Cert.SguFKernelIdeal.τ) (Cert.SguFKernelIdeal.main (F := Ideal))) ⟨m, fun _ => 0, g⟩ (fun r => ∀ c : Dev Cert.SguFKernelIdeal.nD,
          r.2.mem ((c.tc : Thread Cert.SguFKernelIdeal.nD Cert.SguFKernelIdeal.τ).loc Cert.SguFKernelIdeal.main_v3) = v0 c
          ∧ r.2.mem ((c.tc : Thread Cert.SguFKernelIdeal.nD Cert.SguFKernelIdeal.τ).loc Cert.SguFKernelIdeal.main_arg0) = m ((c.tc : Thread Cert.SguFKernelIdeal.nD Cert.SguFKernelIdeal.τ).loc Cert.SguFKernelIdeal.main_arg0)
          ∧ r.2.mem ((c.tc : Thread Cert.SguFKernelIdeal.nD Cert.SguFKernelIdeal.τ).loc Cert.SguFKernelIdeal.main_arg1) = m ((c.tc : Thread Cert.SguFKernelIdeal.nD Cert.SguFKernelIdeal.τ).loc Cert.SguFKernelIdeal.main_arg1)
          ∧ r.2.mem ((c.tc : Thread Cert.SguFKernelIdeal.nD Cert.SguFKernelIdeal.τ).loc Cert.SguFKernelIdeal.main_arg2) = m ((c.tc : Thread Cert.SguFKernelIdeal.nD Cert.SguFKernelIdeal.τ).loc Cert.SguFKernelIdeal.main_arg2)
          ∧ r.2.mem ((c.tc : Thread Cert.SguFKernelIdeal.nD Cert.SguFKernelIdeal.τ).loc Cert.SguFKernelIdeal.main_arg3) = m ((c.tc : Thread Cert.SguFKernelIdeal.nD Cert.SguFKernelIdeal.τ).loc Cert.SguFKernelIdeal.main_arg3)
          ∧ r.2.mem ((c.tc : Thread Cert.SguFKernelIdeal.nD Cert.SguFKernelIdeal.τ).loc Cert.SguFKernelIdeal.main_arg4) = m ((c.tc : Thread Cert.SguFKernelIdeal.nD Cert.SguFKernelIdeal.τ).loc Cert.SguFKernelIdeal.main_arg4))
      ∧ θ_run (Cert.SguFReferenceIdeal.defs (F := Ideal)) (onTc (τ := Cert.SguFReferenceIdeal.τ) (Cert.SguFReferenceIdeal.main (F := Ideal))) ⟨m', fun _ => 0, g'⟩ (fun r => ∀ c : Dev Cert.SguFReferenceIdeal.nD,
          r.2.mem ((c.tc : Thread Cert.SguFReferenceIdeal.nD Cert.SguFReferenceIdeal.τ).loc Cert.SguFReferenceIdeal.main_v55) = v0 c
          ∧ r.2.mem ((c.tc : Thread Cert.SguFReferenceIdeal.nD Cert.SguFReferenceIdeal.τ).loc Cert.SguFReferenceIdeal.main_arg0) = m' ((c.tc : Thread Cert.SguFReferenceIdeal.nD Cert.SguFReferenceIdeal.τ).loc Cert.SguFReferenceIdeal.main_arg0)
          ∧ r.2.mem ((c.tc : Thread Cert.SguFReferenceIdeal.nD Cert.SguFReferenceIdeal.τ).loc Cert.SguFReferenceIdeal.main_arg1) = m' ((c.tc : Thread Cert.SguFReferenceIdeal.nD Cert.SguFReferenceIdeal.τ).loc Cert.SguFReferenceIdeal.main_arg1)
          ∧ r.2.mem ((c.tc : Thread Cert.SguFReferenceIdeal.nD Cert.SguFReferenceIdeal.τ).loc Cert.SguFReferenceIdeal.main_arg2) = m' ((c.tc : Thread Cert.SguFReferenceIdeal.nD Cert.SguFReferenceIdeal.τ).loc Cert.SguFReferenceIdeal.main_arg2)
          ∧ r.2.mem ((c.tc : Thread Cert.SguFReferenceIdeal.nD Cert.SguFReferenceIdeal.τ).loc Cert.SguFReferenceIdeal.main_arg3) = m' ((c.tc : Thread Cert.SguFReferenceIdeal.nD Cert.SguFReferenceIdeal.τ).loc Cert.SguFReferenceIdeal.main_arg3)
          ∧ r.2.mem ((c.tc : Thread Cert.SguFReferenceIdeal.nD Cert.SguFReferenceIdeal.τ).loc Cert.SguFReferenceIdeal.main_arg4) = m' ((c.tc : Thread Cert.SguFReferenceIdeal.nD Cert.SguFReferenceIdeal.τ).loc Cert.SguFReferenceIdeal.main_arg4))

def preserves_PoolFKernel_PoolFKernelIdeal : Prop :=
  True

def algebraic_PoolFKernelIdeal_PoolFReferenceIdeal [hPoolFKernelIdeal : Cert.PoolFKernelIdeal.Facts] [hPoolFReferenceIdeal : Cert.PoolFReferenceIdeal.Facts] [hPre_poolf_finite : Cert.Pre_poolf_finite.Facts] : Prop :=
  ∀ (m : (ℓ : Loc Cert.PoolFKernelIdeal.nD Cert.PoolFKernelIdeal.τ Cert.PoolFKernelIdeal.sig) → Buf (Elt Ideal) ℓ) (g : Dev Cert.PoolFKernelIdeal.nD → PrngReg)
    (m' : (ℓ : Loc Cert.PoolFReferenceIdeal.nD Cert.PoolFReferenceIdeal.τ Cert.PoolFReferenceIdeal.sig) → Buf (Elt Ideal) ℓ) (g' : Dev Cert.PoolFReferenceIdeal.nD → PrngReg), Pre_PoolFKernelIdeal m →
    (∀ c : Dev Cert.PoolFKernelIdeal.nD,
      m' ((c.tc : Thread Cert.PoolFReferenceIdeal.nD Cert.PoolFReferenceIdeal.τ).loc Cert.PoolFReferenceIdeal.main_arg0) = m ((c.tc : Thread Cert.PoolFKernelIdeal.nD Cert.PoolFKernelIdeal.τ).loc Cert.PoolFKernelIdeal.main_arg0)
      ∧ m' ((c.tc : Thread Cert.PoolFReferenceIdeal.nD Cert.PoolFReferenceIdeal.τ).loc Cert.PoolFReferenceIdeal.main_arg1) = m ((c.tc : Thread Cert.PoolFKernelIdeal.nD Cert.PoolFKernelIdeal.τ).loc Cert.PoolFKernelIdeal.main_arg1)
      ∧ m' ((c.tc : Thread Cert.PoolFReferenceIdeal.nD Cert.PoolFReferenceIdeal.τ).loc Cert.PoolFReferenceIdeal.main_arg2) = m ((c.tc : Thread Cert.PoolFKernelIdeal.nD Cert.PoolFKernelIdeal.τ).loc Cert.PoolFKernelIdeal.main_arg2)) →
    ∃ (v0 : (c : Dev Cert.PoolFKernelIdeal.nD) → Buf (Elt Ideal) ((c.tc : Thread Cert.PoolFKernelIdeal.nD Cert.PoolFKernelIdeal.τ).loc Cert.PoolFKernelIdeal.main_v1)),
      θ_run (Cert.PoolFKernelIdeal.defs (F := Ideal)) (onTc (τ := Cert.PoolFKernelIdeal.τ) (Cert.PoolFKernelIdeal.main (F := Ideal))) ⟨m, fun _ => 0, g⟩ (fun r => ∀ c : Dev Cert.PoolFKernelIdeal.nD,
          r.2.mem ((c.tc : Thread Cert.PoolFKernelIdeal.nD Cert.PoolFKernelIdeal.τ).loc Cert.PoolFKernelIdeal.main_v1) = v0 c
          ∧ r.2.mem ((c.tc : Thread Cert.PoolFKernelIdeal.nD Cert.PoolFKernelIdeal.τ).loc Cert.PoolFKernelIdeal.main_arg0) = m ((c.tc : Thread Cert.PoolFKernelIdeal.nD Cert.PoolFKernelIdeal.τ).loc Cert.PoolFKernelIdeal.main_arg0)
          ∧ r.2.mem ((c.tc : Thread Cert.PoolFKernelIdeal.nD Cert.PoolFKernelIdeal.τ).loc Cert.PoolFKernelIdeal.main_arg1) = m ((c.tc : Thread Cert.PoolFKernelIdeal.nD Cert.PoolFKernelIdeal.τ).loc Cert.PoolFKernelIdeal.main_arg1)
          ∧ r.2.mem ((c.tc : Thread Cert.PoolFKernelIdeal.nD Cert.PoolFKernelIdeal.τ).loc Cert.PoolFKernelIdeal.main_arg2) = m ((c.tc : Thread Cert.PoolFKernelIdeal.nD Cert.PoolFKernelIdeal.τ).loc Cert.PoolFKernelIdeal.main_arg2))
      ∧ θ_run (Cert.PoolFReferenceIdeal.defs (F := Ideal)) (onTc (τ := Cert.PoolFReferenceIdeal.τ) (Cert.PoolFReferenceIdeal.main (F := Ideal))) ⟨m', fun _ => 0, g'⟩ (fun r => ∀ c : Dev Cert.PoolFReferenceIdeal.nD,
          r.2.mem ((c.tc : Thread Cert.PoolFReferenceIdeal.nD Cert.PoolFReferenceIdeal.τ).loc Cert.PoolFReferenceIdeal.main_v66) = v0 c
          ∧ r.2.mem ((c.tc : Thread Cert.PoolFReferenceIdeal.nD Cert.PoolFReferenceIdeal.τ).loc Cert.PoolFReferenceIdeal.main_arg0) = m' ((c.tc : Thread Cert.PoolFReferenceIdeal.nD Cert.PoolFReferenceIdeal.τ).loc Cert.PoolFReferenceIdeal.main_arg0)
          ∧ r.2.mem ((c.tc : Thread Cert.PoolFReferenceIdeal.nD Cert.PoolFReferenceIdeal.τ).loc Cert.PoolFReferenceIdeal.main_arg1) = m' ((c.tc : Thread Cert.PoolFReferenceIdeal.nD Cert.PoolFReferenceIdeal.τ).loc Cert.PoolFReferenceIdeal.main_arg1)
          ∧ r.2.mem ((c.tc : Thread Cert.PoolFReferenceIdeal.nD Cert.PoolFReferenceIdeal.τ).loc Cert.PoolFReferenceIdeal.main_arg2) = m' ((c.tc : Thread Cert.PoolFReferenceIdeal.nD Cert.PoolFReferenceIdeal.τ).loc Cert.PoolFReferenceIdeal.main_arg2))

def preserves_SwigluFKernel_SwigluFKernelIdeal : Prop :=
  True

def algebraic_SwigluFKernelIdeal_SwigluFReferenceIdeal [hSwigluFKernelIdeal : Cert.SwigluFKernelIdeal.Facts] [hSwigluFReferenceIdeal : Cert.SwigluFReferenceIdeal.Facts] : Prop :=
  ∀ (m : (ℓ : Loc Cert.SwigluFKernelIdeal.nD Cert.SwigluFKernelIdeal.τ Cert.SwigluFKernelIdeal.sig) → Buf (Elt Ideal) ℓ) (g : Dev Cert.SwigluFKernelIdeal.nD → PrngReg)
    (m' : (ℓ : Loc Cert.SwigluFReferenceIdeal.nD Cert.SwigluFReferenceIdeal.τ Cert.SwigluFReferenceIdeal.sig) → Buf (Elt Ideal) ℓ) (g' : Dev Cert.SwigluFReferenceIdeal.nD → PrngReg), Pre_SwigluFKernelIdeal m →
    (∀ c : Dev Cert.SwigluFKernelIdeal.nD,
      m' ((c.tc : Thread Cert.SwigluFReferenceIdeal.nD Cert.SwigluFReferenceIdeal.τ).loc Cert.SwigluFReferenceIdeal.main_arg0) = m ((c.tc : Thread Cert.SwigluFKernelIdeal.nD Cert.SwigluFKernelIdeal.τ).loc Cert.SwigluFKernelIdeal.main_arg0)
      ∧ m' ((c.tc : Thread Cert.SwigluFReferenceIdeal.nD Cert.SwigluFReferenceIdeal.τ).loc Cert.SwigluFReferenceIdeal.main_arg1) = m ((c.tc : Thread Cert.SwigluFKernelIdeal.nD Cert.SwigluFKernelIdeal.τ).loc Cert.SwigluFKernelIdeal.main_arg1)
      ∧ m' ((c.tc : Thread Cert.SwigluFReferenceIdeal.nD Cert.SwigluFReferenceIdeal.τ).loc Cert.SwigluFReferenceIdeal.main_arg2) = m ((c.tc : Thread Cert.SwigluFKernelIdeal.nD Cert.SwigluFKernelIdeal.τ).loc Cert.SwigluFKernelIdeal.main_arg2)) →
    ∃ (v0 : (c : Dev Cert.SwigluFKernelIdeal.nD) → Buf (Elt Ideal) ((c.tc : Thread Cert.SwigluFKernelIdeal.nD Cert.SwigluFKernelIdeal.τ).loc Cert.SwigluFKernelIdeal.main_v8_0)) (v1 : (c : Dev Cert.SwigluFKernelIdeal.nD) → Buf (Elt Ideal) ((c.tc : Thread Cert.SwigluFKernelIdeal.nD Cert.SwigluFKernelIdeal.τ).loc Cert.SwigluFKernelIdeal.main_v8_1)) (v2 : (c : Dev Cert.SwigluFKernelIdeal.nD) → Buf (Elt Ideal) ((c.tc : Thread Cert.SwigluFKernelIdeal.nD Cert.SwigluFKernelIdeal.τ).loc Cert.SwigluFKernelIdeal.main_v8_2)),
      θ_run (Cert.SwigluFKernelIdeal.defs (F := Ideal)) (onTc (τ := Cert.SwigluFKernelIdeal.τ) (Cert.SwigluFKernelIdeal.main (F := Ideal))) ⟨m, fun _ => 0, g⟩ (fun r => ∀ c : Dev Cert.SwigluFKernelIdeal.nD,
          r.2.mem ((c.tc : Thread Cert.SwigluFKernelIdeal.nD Cert.SwigluFKernelIdeal.τ).loc Cert.SwigluFKernelIdeal.main_v8_0) = v0 c
          ∧ r.2.mem ((c.tc : Thread Cert.SwigluFKernelIdeal.nD Cert.SwigluFKernelIdeal.τ).loc Cert.SwigluFKernelIdeal.main_v8_1) = v1 c
          ∧ r.2.mem ((c.tc : Thread Cert.SwigluFKernelIdeal.nD Cert.SwigluFKernelIdeal.τ).loc Cert.SwigluFKernelIdeal.main_v8_2) = v2 c
          ∧ r.2.mem ((c.tc : Thread Cert.SwigluFKernelIdeal.nD Cert.SwigluFKernelIdeal.τ).loc Cert.SwigluFKernelIdeal.main_arg0) = m ((c.tc : Thread Cert.SwigluFKernelIdeal.nD Cert.SwigluFKernelIdeal.τ).loc Cert.SwigluFKernelIdeal.main_arg0)
          ∧ r.2.mem ((c.tc : Thread Cert.SwigluFKernelIdeal.nD Cert.SwigluFKernelIdeal.τ).loc Cert.SwigluFKernelIdeal.main_arg1) = m ((c.tc : Thread Cert.SwigluFKernelIdeal.nD Cert.SwigluFKernelIdeal.τ).loc Cert.SwigluFKernelIdeal.main_arg1)
          ∧ r.2.mem ((c.tc : Thread Cert.SwigluFKernelIdeal.nD Cert.SwigluFKernelIdeal.τ).loc Cert.SwigluFKernelIdeal.main_arg2) = m ((c.tc : Thread Cert.SwigluFKernelIdeal.nD Cert.SwigluFKernelIdeal.τ).loc Cert.SwigluFKernelIdeal.main_arg2))
      ∧ θ_run (Cert.SwigluFReferenceIdeal.defs (F := Ideal)) (onTc (τ := Cert.SwigluFReferenceIdeal.τ) (Cert.SwigluFReferenceIdeal.main (F := Ideal))) ⟨m', fun _ => 0, g'⟩ (fun r => ∀ c : Dev Cert.SwigluFReferenceIdeal.nD,
          r.2.mem ((c.tc : Thread Cert.SwigluFReferenceIdeal.nD Cert.SwigluFReferenceIdeal.τ).loc Cert.SwigluFReferenceIdeal.main_v6) = v0 c
          ∧ r.2.mem ((c.tc : Thread Cert.SwigluFReferenceIdeal.nD Cert.SwigluFReferenceIdeal.τ).loc Cert.SwigluFReferenceIdeal.main_v7) = v1 c
          ∧ r.2.mem ((c.tc : Thread Cert.SwigluFReferenceIdeal.nD Cert.SwigluFReferenceIdeal.τ).loc Cert.SwigluFReferenceIdeal.main_v8) = v2 c
          ∧ r.2.mem ((c.tc : Thread Cert.SwigluFReferenceIdeal.nD Cert.SwigluFReferenceIdeal.τ).loc Cert.SwigluFReferenceIdeal.main_arg0) = m' ((c.tc : Thread Cert.SwigluFReferenceIdeal.nD Cert.SwigluFReferenceIdeal.τ).loc Cert.SwigluFReferenceIdeal.main_arg0)
          ∧ r.2.mem ((c.tc : Thread Cert.SwigluFReferenceIdeal.nD Cert.SwigluFReferenceIdeal.τ).loc Cert.SwigluFReferenceIdeal.main_arg1) = m' ((c.tc : Thread Cert.SwigluFReferenceIdeal.nD Cert.SwigluFReferenceIdeal.τ).loc Cert.SwigluFReferenceIdeal.main_arg1)
          ∧ r.2.mem ((c.tc : Thread Cert.SwigluFReferenceIdeal.nD Cert.SwigluFReferenceIdeal.τ).loc Cert.SwigluFReferenceIdeal.main_arg2) = m' ((c.tc : Thread Cert.SwigluFReferenceIdeal.nD Cert.SwigluFReferenceIdeal.τ).loc Cert.SwigluFReferenceIdeal.main_arg2))

def preserves_PleFKernel_PleFKernelIdeal : Prop :=
  True

def algebraic_PleFKernelIdeal_PleFReferenceIdeal [hPleFKernelIdeal : Cert.PleFKernelIdeal.Facts] [hPleFReferenceIdeal : Cert.PleFReferenceIdeal.Facts] : Prop :=
  ∀ (m : (ℓ : Loc Cert.PleFKernelIdeal.nD Cert.PleFKernelIdeal.τ Cert.PleFKernelIdeal.sig) → Buf (Elt Ideal) ℓ) (g : Dev Cert.PleFKernelIdeal.nD → PrngReg)
    (m' : (ℓ : Loc Cert.PleFReferenceIdeal.nD Cert.PleFReferenceIdeal.τ Cert.PleFReferenceIdeal.sig) → Buf (Elt Ideal) ℓ) (g' : Dev Cert.PleFReferenceIdeal.nD → PrngReg), Pre_PleFKernelIdeal m →
    (∀ c : Dev Cert.PleFKernelIdeal.nD,
      m' ((c.tc : Thread Cert.PleFReferenceIdeal.nD Cert.PleFReferenceIdeal.τ).loc Cert.PleFReferenceIdeal.main_arg0) = m ((c.tc : Thread Cert.PleFKernelIdeal.nD Cert.PleFKernelIdeal.τ).loc Cert.PleFKernelIdeal.main_arg0)
      ∧ m' ((c.tc : Thread Cert.PleFReferenceIdeal.nD Cert.PleFReferenceIdeal.τ).loc Cert.PleFReferenceIdeal.main_arg1) = m ((c.tc : Thread Cert.PleFKernelIdeal.nD Cert.PleFKernelIdeal.τ).loc Cert.PleFKernelIdeal.main_arg1)
      ∧ m' ((c.tc : Thread Cert.PleFReferenceIdeal.nD Cert.PleFReferenceIdeal.τ).loc Cert.PleFReferenceIdeal.main_arg2) = m ((c.tc : Thread Cert.PleFKernelIdeal.nD Cert.PleFKernelIdeal.τ).loc Cert.PleFKernelIdeal.main_arg2)
      ∧ m' ((c.tc : Thread Cert.PleFReferenceIdeal.nD Cert.PleFReferenceIdeal.τ).loc Cert.PleFReferenceIdeal.main_arg3) = m ((c.tc : Thread Cert.PleFKernelIdeal.nD Cert.PleFKernelIdeal.τ).loc Cert.PleFKernelIdeal.main_arg3)) →
    ∃ (v0 : (c : Dev Cert.PleFKernelIdeal.nD) → Buf (Elt Ideal) ((c.tc : Thread Cert.PleFKernelIdeal.nD Cert.PleFKernelIdeal.τ).loc Cert.PleFKernelIdeal.main_v4_0)) (v1 : (c : Dev Cert.PleFKernelIdeal.nD) → Buf (Elt Ideal) ((c.tc : Thread Cert.PleFKernelIdeal.nD Cert.PleFKernelIdeal.τ).loc Cert.PleFKernelIdeal.main_v4_1)),
      θ_run (Cert.PleFKernelIdeal.defs (F := Ideal)) (onTc (τ := Cert.PleFKernelIdeal.τ) (Cert.PleFKernelIdeal.main (F := Ideal))) ⟨m, fun _ => 0, g⟩ (fun r => ∀ c : Dev Cert.PleFKernelIdeal.nD,
          r.2.mem ((c.tc : Thread Cert.PleFKernelIdeal.nD Cert.PleFKernelIdeal.τ).loc Cert.PleFKernelIdeal.main_v4_0) = v0 c
          ∧ r.2.mem ((c.tc : Thread Cert.PleFKernelIdeal.nD Cert.PleFKernelIdeal.τ).loc Cert.PleFKernelIdeal.main_v4_1) = v1 c
          ∧ r.2.mem ((c.tc : Thread Cert.PleFKernelIdeal.nD Cert.PleFKernelIdeal.τ).loc Cert.PleFKernelIdeal.main_arg0) = m ((c.tc : Thread Cert.PleFKernelIdeal.nD Cert.PleFKernelIdeal.τ).loc Cert.PleFKernelIdeal.main_arg0)
          ∧ r.2.mem ((c.tc : Thread Cert.PleFKernelIdeal.nD Cert.PleFKernelIdeal.τ).loc Cert.PleFKernelIdeal.main_arg1) = m ((c.tc : Thread Cert.PleFKernelIdeal.nD Cert.PleFKernelIdeal.τ).loc Cert.PleFKernelIdeal.main_arg1)
          ∧ r.2.mem ((c.tc : Thread Cert.PleFKernelIdeal.nD Cert.PleFKernelIdeal.τ).loc Cert.PleFKernelIdeal.main_arg2) = m ((c.tc : Thread Cert.PleFKernelIdeal.nD Cert.PleFKernelIdeal.τ).loc Cert.PleFKernelIdeal.main_arg2)
          ∧ r.2.mem ((c.tc : Thread Cert.PleFKernelIdeal.nD Cert.PleFKernelIdeal.τ).loc Cert.PleFKernelIdeal.main_arg3) = m ((c.tc : Thread Cert.PleFKernelIdeal.nD Cert.PleFKernelIdeal.τ).loc Cert.PleFKernelIdeal.main_arg3))
      ∧ θ_run (Cert.PleFReferenceIdeal.defs (F := Ideal)) (onTc (τ := Cert.PleFReferenceIdeal.τ) (Cert.PleFReferenceIdeal.main (F := Ideal))) ⟨m', fun _ => 0, g'⟩ (fun r => ∀ c : Dev Cert.PleFReferenceIdeal.nD,
          r.2.mem ((c.tc : Thread Cert.PleFReferenceIdeal.nD Cert.PleFReferenceIdeal.τ).loc Cert.PleFReferenceIdeal.main_v10) = v0 c
          ∧ r.2.mem ((c.tc : Thread Cert.PleFReferenceIdeal.nD Cert.PleFReferenceIdeal.τ).loc Cert.PleFReferenceIdeal.main_v11) = v1 c
          ∧ r.2.mem ((c.tc : Thread Cert.PleFReferenceIdeal.nD Cert.PleFReferenceIdeal.τ).loc Cert.PleFReferenceIdeal.main_arg0) = m' ((c.tc : Thread Cert.PleFReferenceIdeal.nD Cert.PleFReferenceIdeal.τ).loc Cert.PleFReferenceIdeal.main_arg0)
          ∧ r.2.mem ((c.tc : Thread Cert.PleFReferenceIdeal.nD Cert.PleFReferenceIdeal.τ).loc Cert.PleFReferenceIdeal.main_arg1) = m' ((c.tc : Thread Cert.PleFReferenceIdeal.nD Cert.PleFReferenceIdeal.τ).loc Cert.PleFReferenceIdeal.main_arg1)
          ∧ r.2.mem ((c.tc : Thread Cert.PleFReferenceIdeal.nD Cert.PleFReferenceIdeal.τ).loc Cert.PleFReferenceIdeal.main_arg2) = m' ((c.tc : Thread Cert.PleFReferenceIdeal.nD Cert.PleFReferenceIdeal.τ).loc Cert.PleFReferenceIdeal.main_arg2)
          ∧ r.2.mem ((c.tc : Thread Cert.PleFReferenceIdeal.nD Cert.PleFReferenceIdeal.τ).loc Cert.PleFReferenceIdeal.main_arg3) = m' ((c.tc : Thread Cert.PleFReferenceIdeal.nD Cert.PleFReferenceIdeal.τ).loc Cert.PleFReferenceIdeal.main_arg3))

def preserves_CfConvFKernel_CfConvFKernelIdeal : Prop :=
  True

def algebraic_CfConvFKernelIdeal_CfConvFReferenceIdeal [hCfConvFKernelIdeal : Cert.CfConvFKernelIdeal.Facts] [hCfConvFReferenceIdeal : Cert.CfConvFReferenceIdeal.Facts] : Prop :=
  ∀ (m : (ℓ : Loc Cert.CfConvFKernelIdeal.nD Cert.CfConvFKernelIdeal.τ Cert.CfConvFKernelIdeal.sig) → Buf (Elt Ideal) ℓ) (g : Dev Cert.CfConvFKernelIdeal.nD → PrngReg)
    (m' : (ℓ : Loc Cert.CfConvFReferenceIdeal.nD Cert.CfConvFReferenceIdeal.τ Cert.CfConvFReferenceIdeal.sig) → Buf (Elt Ideal) ℓ) (g' : Dev Cert.CfConvFReferenceIdeal.nD → PrngReg), Pre_CfConvFKernelIdeal m →
    (∀ c : Dev Cert.CfConvFKernelIdeal.nD,
      m' ((c.tc : Thread Cert.CfConvFReferenceIdeal.nD Cert.CfConvFReferenceIdeal.τ).loc Cert.CfConvFReferenceIdeal.main_arg0) = m ((c.tc : Thread Cert.CfConvFKernelIdeal.nD Cert.CfConvFKernelIdeal.τ).loc Cert.CfConvFKernelIdeal.main_arg0)
      ∧ m' ((c.tc : Thread Cert.CfConvFReferenceIdeal.nD Cert.CfConvFReferenceIdeal.τ).loc Cert.CfConvFReferenceIdeal.main_arg1) = m ((c.tc : Thread Cert.CfConvFKernelIdeal.nD Cert.CfConvFKernelIdeal.τ).loc Cert.CfConvFKernelIdeal.main_arg1)
      ∧ m' ((c.tc : Thread Cert.CfConvFReferenceIdeal.nD Cert.CfConvFReferenceIdeal.τ).loc Cert.CfConvFReferenceIdeal.main_arg2) = m ((c.tc : Thread Cert.CfConvFKernelIdeal.nD Cert.CfConvFKernelIdeal.τ).loc Cert.CfConvFKernelIdeal.main_arg2)) →
    ∃ (v0 : (c : Dev Cert.CfConvFKernelIdeal.nD) → Buf (Elt Ideal) ((c.tc : Thread Cert.CfConvFKernelIdeal.nD Cert.CfConvFKernelIdeal.τ).loc Cert.CfConvFKernelIdeal.main_v1)),
      θ_run (Cert.CfConvFKernelIdeal.defs (F := Ideal)) (onTc (τ := Cert.CfConvFKernelIdeal.τ) (Cert.CfConvFKernelIdeal.main (F := Ideal))) ⟨m, fun _ => 0, g⟩ (fun r => ∀ c : Dev Cert.CfConvFKernelIdeal.nD,
          r.2.mem ((c.tc : Thread Cert.CfConvFKernelIdeal.nD Cert.CfConvFKernelIdeal.τ).loc Cert.CfConvFKernelIdeal.main_v1) = v0 c
          ∧ r.2.mem ((c.tc : Thread Cert.CfConvFKernelIdeal.nD Cert.CfConvFKernelIdeal.τ).loc Cert.CfConvFKernelIdeal.main_arg0) = m ((c.tc : Thread Cert.CfConvFKernelIdeal.nD Cert.CfConvFKernelIdeal.τ).loc Cert.CfConvFKernelIdeal.main_arg0)
          ∧ r.2.mem ((c.tc : Thread Cert.CfConvFKernelIdeal.nD Cert.CfConvFKernelIdeal.τ).loc Cert.CfConvFKernelIdeal.main_arg1) = m ((c.tc : Thread Cert.CfConvFKernelIdeal.nD Cert.CfConvFKernelIdeal.τ).loc Cert.CfConvFKernelIdeal.main_arg1)
          ∧ r.2.mem ((c.tc : Thread Cert.CfConvFKernelIdeal.nD Cert.CfConvFKernelIdeal.τ).loc Cert.CfConvFKernelIdeal.main_arg2) = m ((c.tc : Thread Cert.CfConvFKernelIdeal.nD Cert.CfConvFKernelIdeal.τ).loc Cert.CfConvFKernelIdeal.main_arg2))
      ∧ θ_run (Cert.CfConvFReferenceIdeal.defs (F := Ideal)) (onTc (τ := Cert.CfConvFReferenceIdeal.τ) (Cert.CfConvFReferenceIdeal.main (F := Ideal))) ⟨m', fun _ => 0, g'⟩ (fun r => ∀ c : Dev Cert.CfConvFReferenceIdeal.nD,
          r.2.mem ((c.tc : Thread Cert.CfConvFReferenceIdeal.nD Cert.CfConvFReferenceIdeal.τ).loc Cert.CfConvFReferenceIdeal.main_v232) = v0 c
          ∧ r.2.mem ((c.tc : Thread Cert.CfConvFReferenceIdeal.nD Cert.CfConvFReferenceIdeal.τ).loc Cert.CfConvFReferenceIdeal.main_arg0) = m' ((c.tc : Thread Cert.CfConvFReferenceIdeal.nD Cert.CfConvFReferenceIdeal.τ).loc Cert.CfConvFReferenceIdeal.main_arg0)
          ∧ r.2.mem ((c.tc : Thread Cert.CfConvFReferenceIdeal.nD Cert.CfConvFReferenceIdeal.τ).loc Cert.CfConvFReferenceIdeal.main_arg1) = m' ((c.tc : Thread Cert.CfConvFReferenceIdeal.nD Cert.CfConvFReferenceIdeal.τ).loc Cert.CfConvFReferenceIdeal.main_arg1)
          ∧ r.2.mem ((c.tc : Thread Cert.CfConvFReferenceIdeal.nD Cert.CfConvFReferenceIdeal.τ).loc Cert.CfConvFReferenceIdeal.main_arg2) = m' ((c.tc : Thread Cert.CfConvFReferenceIdeal.nD Cert.CfConvFReferenceIdeal.τ).loc Cert.CfConvFReferenceIdeal.main_arg2))

def preserves_ShortFKernel_ShortFKernelIdeal : Prop :=
  True

def algebraic_ShortFKernelIdeal_ShortFReferenceIdeal [hShortFKernelIdeal : Cert.ShortFKernelIdeal.Facts] [hShortFReferenceIdeal : Cert.ShortFReferenceIdeal.Facts] : Prop :=
  ∀ (m : (ℓ : Loc Cert.ShortFKernelIdeal.nD Cert.ShortFKernelIdeal.τ Cert.ShortFKernelIdeal.sig) → Buf (Elt Ideal) ℓ) (g : Dev Cert.ShortFKernelIdeal.nD → PrngReg)
    (m' : (ℓ : Loc Cert.ShortFReferenceIdeal.nD Cert.ShortFReferenceIdeal.τ Cert.ShortFReferenceIdeal.sig) → Buf (Elt Ideal) ℓ) (g' : Dev Cert.ShortFReferenceIdeal.nD → PrngReg), Pre_ShortFKernelIdeal m →
    (∀ c : Dev Cert.ShortFKernelIdeal.nD,
      m' ((c.tc : Thread Cert.ShortFReferenceIdeal.nD Cert.ShortFReferenceIdeal.τ).loc Cert.ShortFReferenceIdeal.main_arg0) = m ((c.tc : Thread Cert.ShortFKernelIdeal.nD Cert.ShortFKernelIdeal.τ).loc Cert.ShortFKernelIdeal.main_arg0)
      ∧ m' ((c.tc : Thread Cert.ShortFReferenceIdeal.nD Cert.ShortFReferenceIdeal.τ).loc Cert.ShortFReferenceIdeal.main_arg1) = m ((c.tc : Thread Cert.ShortFKernelIdeal.nD Cert.ShortFKernelIdeal.τ).loc Cert.ShortFKernelIdeal.main_arg1)) →
    ∃ (v0 : (c : Dev Cert.ShortFKernelIdeal.nD) → Buf (Elt Ideal) ((c.tc : Thread Cert.ShortFKernelIdeal.nD Cert.ShortFKernelIdeal.τ).loc Cert.ShortFKernelIdeal.main_v0)),
      θ_run (Cert.ShortFKernelIdeal.defs (F := Ideal)) (onTc (τ := Cert.ShortFKernelIdeal.τ) (Cert.ShortFKernelIdeal.main (F := Ideal))) ⟨m, fun _ => 0, g⟩ (fun r => ∀ c : Dev Cert.ShortFKernelIdeal.nD,
          r.2.mem ((c.tc : Thread Cert.ShortFKernelIdeal.nD Cert.ShortFKernelIdeal.τ).loc Cert.ShortFKernelIdeal.main_v0) = v0 c
          ∧ r.2.mem ((c.tc : Thread Cert.ShortFKernelIdeal.nD Cert.ShortFKernelIdeal.τ).loc Cert.ShortFKernelIdeal.main_arg0) = m ((c.tc : Thread Cert.ShortFKernelIdeal.nD Cert.ShortFKernelIdeal.τ).loc Cert.ShortFKernelIdeal.main_arg0)
          ∧ r.2.mem ((c.tc : Thread Cert.ShortFKernelIdeal.nD Cert.ShortFKernelIdeal.τ).loc Cert.ShortFKernelIdeal.main_arg1) = m ((c.tc : Thread Cert.ShortFKernelIdeal.nD Cert.ShortFKernelIdeal.τ).loc Cert.ShortFKernelIdeal.main_arg1))
      ∧ θ_run (Cert.ShortFReferenceIdeal.defs (F := Ideal)) (onTc (τ := Cert.ShortFReferenceIdeal.τ) (Cert.ShortFReferenceIdeal.main (F := Ideal))) ⟨m', fun _ => 0, g'⟩ (fun r => ∀ c : Dev Cert.ShortFReferenceIdeal.nD,
          r.2.mem ((c.tc : Thread Cert.ShortFReferenceIdeal.nD Cert.ShortFReferenceIdeal.τ).loc Cert.ShortFReferenceIdeal.main_v30) = v0 c
          ∧ r.2.mem ((c.tc : Thread Cert.ShortFReferenceIdeal.nD Cert.ShortFReferenceIdeal.τ).loc Cert.ShortFReferenceIdeal.main_arg0) = m' ((c.tc : Thread Cert.ShortFReferenceIdeal.nD Cert.ShortFReferenceIdeal.τ).loc Cert.ShortFReferenceIdeal.main_arg0)
          ∧ r.2.mem ((c.tc : Thread Cert.ShortFReferenceIdeal.nD Cert.ShortFReferenceIdeal.τ).loc Cert.ShortFReferenceIdeal.main_arg1) = m' ((c.tc : Thread Cert.ShortFReferenceIdeal.nD Cert.ShortFReferenceIdeal.τ).loc Cert.ShortFReferenceIdeal.main_arg1))

def preserves_WGradKernel_WGradKernelIdeal : Prop :=
  True

def algebraic_WGradKernelIdeal_WGradReferenceIdeal [hWGradKernelIdeal : Cert.WGradKernelIdeal.Facts] [hWGradReferenceIdeal : Cert.WGradReferenceIdeal.Facts] : Prop :=
  ∀ (m : (ℓ : Loc Cert.WGradKernelIdeal.nD Cert.WGradKernelIdeal.τ Cert.WGradKernelIdeal.sig) → Buf (Elt Ideal) ℓ) (g : Dev Cert.WGradKernelIdeal.nD → PrngReg)
    (m' : (ℓ : Loc Cert.WGradReferenceIdeal.nD Cert.WGradReferenceIdeal.τ Cert.WGradReferenceIdeal.sig) → Buf (Elt Ideal) ℓ) (g' : Dev Cert.WGradReferenceIdeal.nD → PrngReg), Pre_WGradKernelIdeal m →
    (∀ c : Dev Cert.WGradKernelIdeal.nD,
      m' ((c.tc : Thread Cert.WGradReferenceIdeal.nD Cert.WGradReferenceIdeal.τ).loc Cert.WGradReferenceIdeal.main_arg0) = m ((c.tc : Thread Cert.WGradKernelIdeal.nD Cert.WGradKernelIdeal.τ).loc Cert.WGradKernelIdeal.main_arg0)
      ∧ m' ((c.tc : Thread Cert.WGradReferenceIdeal.nD Cert.WGradReferenceIdeal.τ).loc Cert.WGradReferenceIdeal.main_arg1) = m ((c.tc : Thread Cert.WGradKernelIdeal.nD Cert.WGradKernelIdeal.τ).loc Cert.WGradKernelIdeal.main_arg1)) →
    ∃ (v0 : (c : Dev Cert.WGradKernelIdeal.nD) → Buf (Elt Ideal) ((c.tc : Thread Cert.WGradKernelIdeal.nD Cert.WGradKernelIdeal.τ).loc Cert.WGradKernelIdeal.main_v0)),
      θ_run (Cert.WGradKernelIdeal.defs (F := Ideal)) (onTc (τ := Cert.WGradKernelIdeal.τ) (Cert.WGradKernelIdeal.main (F := Ideal))) ⟨m, fun _ => 0, g⟩ (fun r => ∀ c : Dev Cert.WGradKernelIdeal.nD,
          r.2.mem ((c.tc : Thread Cert.WGradKernelIdeal.nD Cert.WGradKernelIdeal.τ).loc Cert.WGradKernelIdeal.main_v0) = v0 c
          ∧ r.2.mem ((c.tc : Thread Cert.WGradKernelIdeal.nD Cert.WGradKernelIdeal.τ).loc Cert.WGradKernelIdeal.main_arg0) = m ((c.tc : Thread Cert.WGradKernelIdeal.nD Cert.WGradKernelIdeal.τ).loc Cert.WGradKernelIdeal.main_arg0)
          ∧ r.2.mem ((c.tc : Thread Cert.WGradKernelIdeal.nD Cert.WGradKernelIdeal.τ).loc Cert.WGradKernelIdeal.main_arg1) = m ((c.tc : Thread Cert.WGradKernelIdeal.nD Cert.WGradKernelIdeal.τ).loc Cert.WGradKernelIdeal.main_arg1))
      ∧ θ_run (Cert.WGradReferenceIdeal.defs (F := Ideal)) (onTc (τ := Cert.WGradReferenceIdeal.τ) (Cert.WGradReferenceIdeal.main (F := Ideal))) ⟨m', fun _ => 0, g'⟩ (fun r => ∀ c : Dev Cert.WGradReferenceIdeal.nD,
          r.2.mem ((c.tc : Thread Cert.WGradReferenceIdeal.nD Cert.WGradReferenceIdeal.τ).loc Cert.WGradReferenceIdeal.main_v8) = v0 c
          ∧ r.2.mem ((c.tc : Thread Cert.WGradReferenceIdeal.nD Cert.WGradReferenceIdeal.τ).loc Cert.WGradReferenceIdeal.main_arg0) = m' ((c.tc : Thread Cert.WGradReferenceIdeal.nD Cert.WGradReferenceIdeal.τ).loc Cert.WGradReferenceIdeal.main_arg0)
          ∧ r.2.mem ((c.tc : Thread Cert.WGradReferenceIdeal.nD Cert.WGradReferenceIdeal.τ).loc Cert.WGradReferenceIdeal.main_arg1) = m' ((c.tc : Thread Cert.WGradReferenceIdeal.nD Cert.WGradReferenceIdeal.τ).loc Cert.WGradReferenceIdeal.main_arg1))

def preserves_ResidKernel_ResidKernelIdeal : Prop :=
  True

def algebraic_ResidKernelIdeal_ResidReferenceIdeal [hResidKernelIdeal : Cert.ResidKernelIdeal.Facts] [hResidReferenceIdeal : Cert.ResidReferenceIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidKernelIdeal m →
    (∀ c : Dev Cert.ResidKernelIdeal.nD,
      m' ((c.tc : Thread Cert.ResidReferenceIdeal.nD Cert.ResidReferenceIdeal.τ).loc Cert.ResidReferenceIdeal.main_arg0) = m ((c.tc : Thread Cert.ResidKernelIdeal.nD Cert.ResidKernelIdeal.τ).loc Cert.ResidKernelIdeal.main_arg0)
      ∧ m' ((c.tc : Thread Cert.ResidReferenceIdeal.nD Cert.ResidReferenceIdeal.τ).loc Cert.ResidReferenceIdeal.main_arg1) = m ((c.tc : Thread Cert.ResidKernelIdeal.nD Cert.ResidKernelIdeal.τ).loc Cert.ResidKernelIdeal.main_arg1)
      ∧ m' ((c.tc : Thread Cert.ResidReferenceIdeal.nD Cert.ResidReferenceIdeal.τ).loc Cert.ResidReferenceIdeal.main_arg2) = m ((c.tc : Thread Cert.ResidKernelIdeal.nD Cert.ResidKernelIdeal.τ).loc Cert.ResidKernelIdeal.main_arg2)) →
    ∃ (v0 : (c : Dev Cert.ResidKernelIdeal.nD) → Buf (Elt Ideal) ((c.tc : Thread Cert.ResidKernelIdeal.nD Cert.ResidKernelIdeal.τ).loc Cert.ResidKernelIdeal.main_v4)),
      θ_run (Cert.ResidKernelIdeal.defs (F := Ideal)) (onTc (τ := Cert.ResidKernelIdeal.τ) (Cert.ResidKernelIdeal.main (F := Ideal))) ⟨m, fun _ => 0, g⟩ (fun r => ∀ c : Dev Cert.ResidKernelIdeal.nD,
          r.2.mem ((c.tc : Thread Cert.ResidKernelIdeal.nD Cert.ResidKernelIdeal.τ).loc Cert.ResidKernelIdeal.main_v4) = v0 c
          ∧ r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
          ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
          ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v2) = v0 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2))

def preserves_AGradKernel_AGradKernelIdeal : Prop :=
  True

def algebraic_AGradKernelIdeal_AGradReferenceIdeal [hAGradKernelIdeal : Cert.AGradKernelIdeal.Facts] [hAGradReferenceIdeal : Cert.AGradReferenceIdeal.Facts] : Prop :=
  ∀ (m : (ℓ : Loc Cert.AGradKernelIdeal.nD Cert.AGradKernelIdeal.τ Cert.AGradKernelIdeal.sig) → Buf (Elt Ideal) ℓ) (g : Dev Cert.AGradKernelIdeal.nD → PrngReg)
    (m' : (ℓ : Loc Cert.AGradReferenceIdeal.nD Cert.AGradReferenceIdeal.τ Cert.AGradReferenceIdeal.sig) → Buf (Elt Ideal) ℓ) (g' : Dev Cert.AGradReferenceIdeal.nD → PrngReg), Pre_AGradKernelIdeal m →
    (∀ c : Dev Cert.AGradKernelIdeal.nD,
      m' ((c.tc : Thread Cert.AGradReferenceIdeal.nD Cert.AGradReferenceIdeal.τ).loc Cert.AGradReferenceIdeal.main_arg0) = m ((c.tc : Thread Cert.AGradKernelIdeal.nD Cert.AGradKernelIdeal.τ).loc Cert.AGradKernelIdeal.main_arg0)
      ∧ m' ((c.tc : Thread Cert.AGradReferenceIdeal.nD Cert.AGradReferenceIdeal.τ).loc Cert.AGradReferenceIdeal.main_arg1) = m ((c.tc : Thread Cert.AGradKernelIdeal.nD Cert.AGradKernelIdeal.τ).loc Cert.AGradKernelIdeal.main_arg1)) →
    ∃ (v0 : (c : Dev Cert.AGradKernelIdeal.nD) → Buf (Elt Ideal) ((c.tc : Thread Cert.AGradKernelIdeal.nD Cert.AGradKernelIdeal.τ).loc Cert.AGradKernelIdeal.main_v4)),
      θ_run (Cert.AGradKernelIdeal.defs (F := Ideal)) (onTc (τ := Cert.AGradKernelIdeal.τ) (Cert.AGradKernelIdeal.main (F := Ideal))) ⟨m, fun _ => 0, g⟩ (fun r => ∀ c : Dev Cert.AGradKernelIdeal.nD,
          r.2.mem ((c.tc : Thread Cert.AGradKernelIdeal.nD Cert.AGradKernelIdeal.τ).loc Cert.AGradKernelIdeal.main_v4) = v0 c
          ∧ r.2.mem ((c.tc : Thread Cert.AGradKernelIdeal.nD Cert.AGradKernelIdeal.τ).loc Cert.AGradKernelIdeal.main_arg0) = m ((c.tc : Thread Cert.AGradKernelIdeal.nD Cert.AGradKernelIdeal.τ).loc Cert.AGradKernelIdeal.main_arg0)
          ∧ r.2.mem ((c.tc : Thread Cert.AGradKernelIdeal.nD Cert.AGradKernelIdeal.τ).loc Cert.AGradKernelIdeal.main_arg1) = m ((c.tc : Thread Cert.AGradKernelIdeal.nD Cert.AGradKernelIdeal.τ).loc Cert.AGradKernelIdeal.main_arg1))
      ∧ θ_run (Cert.AGradReferenceIdeal.defs (F := Ideal)) (onTc (τ := Cert.AGradReferenceIdeal.τ) (Cert.AGradReferenceIdeal.main (F := Ideal))) ⟨m', fun _ => 0, g'⟩ (fun r => ∀ c : Dev Cert.AGradReferenceIdeal.nD,
          r.2.mem ((c.tc : Thread Cert.AGradReferenceIdeal.nD Cert.AGradReferenceIdeal.τ).loc Cert.AGradReferenceIdeal.main_v4) = v0 c
          ∧ r.2.mem ((c.tc : Thread Cert.AGradReferenceIdeal.nD Cert.AGradReferenceIdeal.τ).loc Cert.AGradReferenceIdeal.main_arg0) = m' ((c.tc : Thread Cert.AGradReferenceIdeal.nD Cert.AGradReferenceIdeal.τ).loc Cert.AGradReferenceIdeal.main_arg0)
          ∧ r.2.mem ((c.tc : Thread Cert.AGradReferenceIdeal.nD Cert.AGradReferenceIdeal.τ).loc Cert.AGradReferenceIdeal.main_arg1) = m' ((c.tc : Thread Cert.AGradReferenceIdeal.nD Cert.AGradReferenceIdeal.τ).loc Cert.AGradReferenceIdeal.main_arg1))

def preserves_FGradKernel_FGradKernelIdeal : Prop :=
  True

def algebraic_FGradKernelIdeal_FGradReferenceIdeal [hFGradKernelIdeal : Cert.FGradKernelIdeal.Facts] [hFGradReferenceIdeal : Cert.FGradReferenceIdeal.Facts] : Prop :=
  ∀ (m : (ℓ : Loc Cert.FGradKernelIdeal.nD Cert.FGradKernelIdeal.τ Cert.FGradKernelIdeal.sig) → Buf (Elt Ideal) ℓ) (g : Dev Cert.FGradKernelIdeal.nD → PrngReg)
    (m' : (ℓ : Loc Cert.FGradReferenceIdeal.nD Cert.FGradReferenceIdeal.τ Cert.FGradReferenceIdeal.sig) → Buf (Elt Ideal) ℓ) (g' : Dev Cert.FGradReferenceIdeal.nD → PrngReg), Pre_FGradKernelIdeal m →
    (∀ c : Dev Cert.FGradKernelIdeal.nD,
      m' ((c.tc : Thread Cert.FGradReferenceIdeal.nD Cert.FGradReferenceIdeal.τ).loc Cert.FGradReferenceIdeal.main_arg0) = m ((c.tc : Thread Cert.FGradKernelIdeal.nD Cert.FGradKernelIdeal.τ).loc Cert.FGradKernelIdeal.main_arg0)
      ∧ m' ((c.tc : Thread Cert.FGradReferenceIdeal.nD Cert.FGradReferenceIdeal.τ).loc Cert.FGradReferenceIdeal.main_arg1) = m ((c.tc : Thread Cert.FGradKernelIdeal.nD Cert.FGradKernelIdeal.τ).loc Cert.FGradKernelIdeal.main_arg1)
      ∧ m' ((c.tc : Thread Cert.FGradReferenceIdeal.nD Cert.FGradReferenceIdeal.τ).loc Cert.FGradReferenceIdeal.main_arg2) = m ((c.tc : Thread Cert.FGradKernelIdeal.nD Cert.FGradKernelIdeal.τ).loc Cert.FGradKernelIdeal.main_arg2)
      ∧ m' ((c.tc : Thread Cert.FGradReferenceIdeal.nD Cert.FGradReferenceIdeal.τ).loc Cert.FGradReferenceIdeal.main_arg3) = m ((c.tc : Thread Cert.FGradKernelIdeal.nD Cert.FGradKernelIdeal.τ).loc Cert.FGradKernelIdeal.main_arg3)) →
    ∃ (v0 : (c : Dev Cert.FGradKernelIdeal.nD) → Buf (Elt Ideal) ((c.tc : Thread Cert.FGradKernelIdeal.nD Cert.FGradKernelIdeal.τ).loc Cert.FGradKernelIdeal.main_v8)),
      θ_run (Cert.FGradKernelIdeal.defs (F := Ideal)) (onTc (τ := Cert.FGradKernelIdeal.τ) (Cert.FGradKernelIdeal.main (F := Ideal))) ⟨m, fun _ => 0, g⟩ (fun r => ∀ c : Dev Cert.FGradKernelIdeal.nD,
          r.2.mem ((c.tc : Thread Cert.FGradKernelIdeal.nD Cert.FGradKernelIdeal.τ).loc Cert.FGradKernelIdeal.main_v8) = v0 c
          ∧ r.2.mem ((c.tc : Thread Cert.FGradKernelIdeal.nD Cert.FGradKernelIdeal.τ).loc Cert.FGradKernelIdeal.main_arg0) = m ((c.tc : Thread Cert.FGradKernelIdeal.nD Cert.FGradKernelIdeal.τ).loc Cert.FGradKernelIdeal.main_arg0)
          ∧ r.2.mem ((c.tc : Thread Cert.FGradKernelIdeal.nD Cert.FGradKernelIdeal.τ).loc Cert.FGradKernelIdeal.main_arg1) = m ((c.tc : Thread Cert.FGradKernelIdeal.nD Cert.FGradKernelIdeal.τ).loc Cert.FGradKernelIdeal.main_arg1)
          ∧ r.2.mem ((c.tc : Thread Cert.FGradKernelIdeal.nD Cert.FGradKernelIdeal.τ).loc Cert.FGradKernelIdeal.main_arg2) = m ((c.tc : Thread Cert.FGradKernelIdeal.nD Cert.FGradKernelIdeal.τ).loc Cert.FGradKernelIdeal.main_arg2)
          ∧ r.2.mem ((c.tc : Thread Cert.FGradKernelIdeal.nD Cert.FGradKernelIdeal.τ).loc Cert.FGradKernelIdeal.main_arg3) = m ((c.tc : Thread Cert.FGradKernelIdeal.nD Cert.FGradKernelIdeal.τ).loc Cert.FGradKernelIdeal.main_arg3))
      ∧ θ_run (Cert.FGradReferenceIdeal.defs (F := Ideal)) (onTc (τ := Cert.FGradReferenceIdeal.τ) (Cert.FGradReferenceIdeal.main (F := Ideal))) ⟨m', fun _ => 0, g'⟩ (fun r => ∀ c : Dev Cert.FGradReferenceIdeal.nD,
          r.2.mem ((c.tc : Thread Cert.FGradReferenceIdeal.nD Cert.FGradReferenceIdeal.τ).loc Cert.FGradReferenceIdeal.main_v8) = v0 c
          ∧ r.2.mem ((c.tc : Thread Cert.FGradReferenceIdeal.nD Cert.FGradReferenceIdeal.τ).loc Cert.FGradReferenceIdeal.main_arg0) = m' ((c.tc : Thread Cert.FGradReferenceIdeal.nD Cert.FGradReferenceIdeal.τ).loc Cert.FGradReferenceIdeal.main_arg0)
          ∧ r.2.mem ((c.tc : Thread Cert.FGradReferenceIdeal.nD Cert.FGradReferenceIdeal.τ).loc Cert.FGradReferenceIdeal.main_arg1) = m' ((c.tc : Thread Cert.FGradReferenceIdeal.nD Cert.FGradReferenceIdeal.τ).loc Cert.FGradReferenceIdeal.main_arg1)
          ∧ r.2.mem ((c.tc : Thread Cert.FGradReferenceIdeal.nD Cert.FGradReferenceIdeal.τ).loc Cert.FGradReferenceIdeal.main_arg2) = m' ((c.tc : Thread Cert.FGradReferenceIdeal.nD Cert.FGradReferenceIdeal.τ).loc Cert.FGradReferenceIdeal.main_arg2)
          ∧ r.2.mem ((c.tc : Thread Cert.FGradReferenceIdeal.nD Cert.FGradReferenceIdeal.τ).loc Cert.FGradReferenceIdeal.main_arg3) = m' ((c.tc : Thread Cert.FGradReferenceIdeal.nD Cert.FGradReferenceIdeal.τ).loc Cert.FGradReferenceIdeal.main_arg3))

def preserves_Sum8Kernel_Sum8KernelIdeal : Prop :=
  True

def algebraic_Sum8KernelIdeal_Sum8ReferenceIdeal [hSum8KernelIdeal : Cert.Sum8KernelIdeal.Facts] [hSum8ReferenceIdeal : Cert.Sum8ReferenceIdeal.Facts] : Prop :=
  ∀ (m : (ℓ : Loc Cert.Sum8KernelIdeal.nD Cert.Sum8KernelIdeal.τ Cert.Sum8KernelIdeal.sig) → Buf (Elt Ideal) ℓ) (g : Dev Cert.Sum8KernelIdeal.nD → PrngReg)
    (m' : (ℓ : Loc Cert.Sum8ReferenceIdeal.nD Cert.Sum8ReferenceIdeal.τ Cert.Sum8ReferenceIdeal.sig) → Buf (Elt Ideal) ℓ) (g' : Dev Cert.Sum8ReferenceIdeal.nD → PrngReg), Pre_Sum8KernelIdeal m →
    (∀ c : Dev Cert.Sum8KernelIdeal.nD,
      m' ((c.tc : Thread Cert.Sum8ReferenceIdeal.nD Cert.Sum8ReferenceIdeal.τ).loc Cert.Sum8ReferenceIdeal.main_arg0) = m ((c.tc : Thread Cert.Sum8KernelIdeal.nD Cert.Sum8KernelIdeal.τ).loc Cert.Sum8KernelIdeal.main_arg0)) →
    ∃ (v0 : (c : Dev Cert.Sum8KernelIdeal.nD) → Buf (Elt Ideal) ((c.tc : Thread Cert.Sum8KernelIdeal.nD Cert.Sum8KernelIdeal.τ).loc Cert.Sum8KernelIdeal.main_v0)),
      θ_run (Cert.Sum8KernelIdeal.defs (F := Ideal)) (onTc (τ := Cert.Sum8KernelIdeal.τ) (Cert.Sum8KernelIdeal.main (F := Ideal))) ⟨m, fun _ => 0, g⟩ (fun r => ∀ c : Dev Cert.Sum8KernelIdeal.nD,
          r.2.mem ((c.tc : Thread Cert.Sum8KernelIdeal.nD Cert.Sum8KernelIdeal.τ).loc Cert.Sum8KernelIdeal.main_v0) = v0 c
          ∧ r.2.mem ((c.tc : Thread Cert.Sum8KernelIdeal.nD Cert.Sum8KernelIdeal.τ).loc Cert.Sum8KernelIdeal.main_arg0) = m ((c.tc : Thread Cert.Sum8KernelIdeal.nD Cert.Sum8KernelIdeal.τ).loc Cert.Sum8KernelIdeal.main_arg0))
      ∧ θ_run (Cert.Sum8ReferenceIdeal.defs (F := Ideal)) (onTc (τ := Cert.Sum8ReferenceIdeal.τ) (Cert.Sum8ReferenceIdeal.main (F := Ideal))) ⟨m', fun _ => 0, g'⟩ (fun r => ∀ c : Dev Cert.Sum8ReferenceIdeal.nD,
          r.2.mem ((c.tc : Thread Cert.Sum8ReferenceIdeal.nD Cert.Sum8ReferenceIdeal.τ).loc Cert.Sum8ReferenceIdeal.main_v1) = v0 c
          ∧ r.2.mem ((c.tc : Thread Cert.Sum8ReferenceIdeal.nD Cert.Sum8ReferenceIdeal.τ).loc Cert.Sum8ReferenceIdeal.main_arg0) = m' ((c.tc : Thread Cert.Sum8ReferenceIdeal.nD Cert.Sum8ReferenceIdeal.τ).loc Cert.Sum8ReferenceIdeal.main_arg0))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hPleKernel : Cert.PleKernel.Facts) (hPleKernelIdeal : Cert.PleKernelIdeal.Facts) (hPleReferenceIdeal : Cert.PleReferenceIdeal.Facts) (hCfLnKernel : Cert.CfLnKernel.Facts) (hCfLnKernelIdeal : Cert.CfLnKernelIdeal.Facts) (hCfLnReferenceIdeal : Cert.CfLnReferenceIdeal.Facts) (hSguKernel : Cert.SguKernel.Facts) (hSguKernelIdeal : Cert.SguKernelIdeal.Facts) (hSguReferenceIdeal : Cert.SguReferenceIdeal.Facts) (hSwigluKernel : Cert.SwigluKernel.Facts) (hSwigluKernelIdeal : Cert.SwigluKernelIdeal.Facts) (hSwigluReferenceIdeal : Cert.SwigluReferenceIdeal.Facts) (hLossKernel : Cert.LossKernel.Facts) (hLossKernelIdeal : Cert.LossKernelIdeal.Facts) (hLossReferenceIdeal : Cert.LossReferenceIdeal.Facts) (hRmsPleKernel : Cert.RmsPleKernel.Facts) (hRmsPleKernelIdeal : Cert.RmsPleKernelIdeal.Facts) (hRmsPleReferenceIdeal : Cert.RmsPleReferenceIdeal.Facts) (hRmsKernel : Cert.RmsKernel.Facts) (hRmsKernelIdeal : Cert.RmsKernelIdeal.Facts) (hRmsReferenceIdeal : Cert.RmsReferenceIdeal.Facts) (hPoolKernel : Cert.PoolKernel.Facts) (hPoolKernelIdeal : Cert.PoolKernelIdeal.Facts) (hPoolReferenceIdeal : Cert.PoolReferenceIdeal.Facts) (hCfConvKernel : Cert.CfConvKernel.Facts) (hCfConvKernelIdeal : Cert.CfConvKernelIdeal.Facts) (hCfConvReferenceIdeal : Cert.CfConvReferenceIdeal.Facts) (hShortKernel : Cert.ShortKernel.Facts) (hShortKernelIdeal : Cert.ShortKernelIdeal.Facts) (hShortReferenceIdeal : Cert.ShortReferenceIdeal.Facts) (hRmsFKernel : Cert.RmsFKernel.Facts) (hRmsFKernelIdeal : Cert.RmsFKernelIdeal.Facts) (hRmsFReferenceIdeal : Cert.RmsFReferenceIdeal.Facts) (hCfLnFKernel : Cert.CfLnFKernel.Facts) (hCfLnFKernelIdeal : Cert.CfLnFKernelIdeal.Facts) (hCfLnFReferenceIdeal : Cert.CfLnFReferenceIdeal.Facts) (hSguFKernel : Cert.SguFKernel.Facts) (hSguFKernelIdeal : Cert.SguFKernelIdeal.Facts) (hSguFReferenceIdeal : Cert.SguFReferenceIdeal.Facts) (hPoolFKernel : Cert.PoolFKernel.Facts) (hPoolFKernelIdeal : Cert.PoolFKernelIdeal.Facts) (hPoolFReferenceIdeal : Cert.PoolFReferenceIdeal.Facts) (hSwigluFKernel : Cert.SwigluFKernel.Facts) (hSwigluFKernelIdeal : Cert.SwigluFKernelIdeal.Facts) (hSwigluFReferenceIdeal : Cert.SwigluFReferenceIdeal.Facts) (hPleFKernel : Cert.PleFKernel.Facts) (hPleFKernelIdeal : Cert.PleFKernelIdeal.Facts) (hPleFReferenceIdeal : Cert.PleFReferenceIdeal.Facts) (hCfConvFKernel : Cert.CfConvFKernel.Facts) (hCfConvFKernelIdeal : Cert.CfConvFKernelIdeal.Facts) (hCfConvFReferenceIdeal : Cert.CfConvFReferenceIdeal.Facts) (hShortFKernel : Cert.ShortFKernel.Facts) (hShortFKernelIdeal : Cert.ShortFKernelIdeal.Facts) (hShortFReferenceIdeal : Cert.ShortFReferenceIdeal.Facts) (hWGradKernel : Cert.WGradKernel.Facts) (hWGradKernelIdeal : Cert.WGradKernelIdeal.Facts) (hWGradReferenceIdeal : Cert.WGradReferenceIdeal.Facts) (hResidKernel : Cert.ResidKernel.Facts) (hResidKernelIdeal : Cert.ResidKernelIdeal.Facts) (hResidReferenceIdeal : Cert.ResidReferenceIdeal.Facts) (hAGradKernel : Cert.AGradKernel.Facts) (hAGradKernelIdeal : Cert.AGradKernelIdeal.Facts) (hAGradReferenceIdeal : Cert.AGradReferenceIdeal.Facts) (hFGradKernel : Cert.FGradKernel.Facts) (hFGradKernelIdeal : Cert.FGradKernelIdeal.Facts) (hFGradReferenceIdeal : Cert.FGradReferenceIdeal.Facts) (hSum8Kernel : Cert.Sum8Kernel.Facts) (hSum8KernelIdeal : Cert.Sum8KernelIdeal.Facts) (hSum8ReferenceIdeal : Cert.Sum8ReferenceIdeal.Facts) (hAdamKernel : Cert.AdamKernel.Facts) (hAdamKernelIdeal : Cert.AdamKernelIdeal.Facts) (hAdamReferenceIdeal : Cert.AdamReferenceIdeal.Facts) (hPre_cfln_finite : Cert.Pre_cfln_finite.Facts) (hPre_sgu_finite : Cert.Pre_sgu_finite.Facts) (hPre_swiglu_finite : Cert.Pre_swiglu_finite.Facts) (hPre_loss_finite : Cert.Pre_loss_finite.Facts) (hPre_rmsple_finite : Cert.Pre_rmsple_finite.Facts) (hPre_rms_finite : Cert.Pre_rms_finite.Facts) (hPre_pool_finite : Cert.Pre_pool_finite.Facts) (hPre_cfconv_finite : Cert.Pre_cfconv_finite.Facts) (hPre_short_finite : Cert.Pre_short_finite.Facts) (hPre_poolf_finite : Cert.Pre_poolf_finite.Facts),
    quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_CfLnKernel (hCfLnKernel := hCfLnKernel) (hPre_cfln_finite := hPre_cfln_finite)
    ∧ quiescent_CfLnKernelIdeal (hCfLnKernelIdeal := hCfLnKernelIdeal) (hPre_cfln_finite := hPre_cfln_finite)
    ∧ quiescent_CfLnReferenceIdeal (hCfLnReferenceIdeal := hCfLnReferenceIdeal) (hPre_cfln_finite := hPre_cfln_finite)
    ∧ quiescent_SguKernel (hSguKernel := hSguKernel) (hPre_sgu_finite := hPre_sgu_finite)
    ∧ quiescent_SguKernelIdeal (hSguKernelIdeal := hSguKernelIdeal) (hPre_sgu_finite := hPre_sgu_finite)
    ∧ quiescent_SguReferenceIdeal (hSguReferenceIdeal := hSguReferenceIdeal) (hPre_sgu_finite := hPre_sgu_finite)
    ∧ quiescent_SwigluKernel (hSwigluKernel := hSwigluKernel) (hPre_swiglu_finite := hPre_swiglu_finite)
    ∧ quiescent_SwigluKernelIdeal (hSwigluKernelIdeal := hSwigluKernelIdeal) (hPre_swiglu_finite := hPre_swiglu_finite)
    ∧ quiescent_SwigluReferenceIdeal (hSwigluReferenceIdeal := hSwigluReferenceIdeal) (hPre_swiglu_finite := hPre_swiglu_finite)
    ∧ quiescent_LossKernel (hLossKernel := hLossKernel) (hPre_loss_finite := hPre_loss_finite)
    ∧ quiescent_LossKernelIdeal (hLossKernelIdeal := hLossKernelIdeal) (hPre_loss_finite := hPre_loss_finite)
    ∧ quiescent_LossReferenceIdeal (hLossReferenceIdeal := hLossReferenceIdeal) (hPre_loss_finite := hPre_loss_finite)
    ∧ quiescent_RmsPleKernel (hRmsPleKernel := hRmsPleKernel) (hPre_rmsple_finite := hPre_rmsple_finite)
    ∧ quiescent_RmsPleKernelIdeal (hRmsPleKernelIdeal := hRmsPleKernelIdeal) (hPre_rmsple_finite := hPre_rmsple_finite)
    ∧ quiescent_RmsPleReferenceIdeal (hRmsPleReferenceIdeal := hRmsPleReferenceIdeal) (hPre_rmsple_finite := hPre_rmsple_finite)
    ∧ quiescent_RmsKernel (hRmsKernel := hRmsKernel) (hPre_rms_finite := hPre_rms_finite)
    ∧ quiescent_RmsKernelIdeal (hRmsKernelIdeal := hRmsKernelIdeal) (hPre_rms_finite := hPre_rms_finite)
    ∧ quiescent_RmsReferenceIdeal (hRmsReferenceIdeal := hRmsReferenceIdeal) (hPre_rms_finite := hPre_rms_finite)
    ∧ quiescent_PoolKernel (hPoolKernel := hPoolKernel) (hPre_pool_finite := hPre_pool_finite)
    ∧ quiescent_PoolKernelIdeal (hPoolKernelIdeal := hPoolKernelIdeal) (hPre_pool_finite := hPre_pool_finite)
    ∧ quiescent_PoolReferenceIdeal (hPoolReferenceIdeal := hPoolReferenceIdeal) (hPre_pool_finite := hPre_pool_finite)
    ∧ quiescent_CfConvKernel (hCfConvKernel := hCfConvKernel) (hPre_cfconv_finite := hPre_cfconv_finite)
    ∧ quiescent_CfConvKernelIdeal (hCfConvKernelIdeal := hCfConvKernelIdeal) (hPre_cfconv_finite := hPre_cfconv_finite)
    ∧ quiescent_CfConvReferenceIdeal (hCfConvReferenceIdeal := hCfConvReferenceIdeal) (hPre_cfconv_finite := hPre_cfconv_finite)
    ∧ quiescent_ShortKernel (hShortKernel := hShortKernel) (hPre_short_finite := hPre_short_finite)
    ∧ quiescent_ShortKernelIdeal (hShortKernelIdeal := hShortKernelIdeal) (hPre_short_finite := hPre_short_finite)
    ∧ quiescent_ShortReferenceIdeal (hShortReferenceIdeal := hShortReferenceIdeal) (hPre_short_finite := hPre_short_finite)
    ∧ quiescent_RmsFKernel (hRmsFKernel := hRmsFKernel)
    ∧ quiescent_RmsFKernelIdeal (hRmsFKernelIdeal := hRmsFKernelIdeal)
    ∧ quiescent_RmsFReferenceIdeal (hRmsFReferenceIdeal := hRmsFReferenceIdeal)
    ∧ quiescent_CfLnFKernel (hCfLnFKernel := hCfLnFKernel)
    ∧ quiescent_CfLnFKernelIdeal (hCfLnFKernelIdeal := hCfLnFKernelIdeal)
    ∧ quiescent_CfLnFReferenceIdeal (hCfLnFReferenceIdeal := hCfLnFReferenceIdeal)
    ∧ quiescent_SguFKernel (hSguFKernel := hSguFKernel)
    ∧ quiescent_SguFKernelIdeal (hSguFKernelIdeal := hSguFKernelIdeal)
    ∧ quiescent_SguFReferenceIdeal (hSguFReferenceIdeal := hSguFReferenceIdeal)
    ∧ quiescent_PoolFKernel (hPoolFKernel := hPoolFKernel) (hPre_poolf_finite := hPre_poolf_finite)
    ∧ quiescent_PoolFKernelIdeal (hPoolFKernelIdeal := hPoolFKernelIdeal) (hPre_poolf_finite := hPre_poolf_finite)
    ∧ quiescent_PoolFReferenceIdeal (hPoolFReferenceIdeal := hPoolFReferenceIdeal) (hPre_poolf_finite := hPre_poolf_finite)
    ∧ quiescent_SwigluFKernel (hSwigluFKernel := hSwigluFKernel)
    ∧ quiescent_SwigluFKernelIdeal (hSwigluFKernelIdeal := hSwigluFKernelIdeal)
    ∧ quiescent_SwigluFReferenceIdeal (hSwigluFReferenceIdeal := hSwigluFReferenceIdeal)
    ∧ quiescent_PleFKernel (hPleFKernel := hPleFKernel)
    ∧ quiescent_PleFKernelIdeal (hPleFKernelIdeal := hPleFKernelIdeal)
    ∧ quiescent_PleFReferenceIdeal (hPleFReferenceIdeal := hPleFReferenceIdeal)
    ∧ quiescent_CfConvFKernel (hCfConvFKernel := hCfConvFKernel)
    ∧ quiescent_CfConvFKernelIdeal (hCfConvFKernelIdeal := hCfConvFKernelIdeal)
    ∧ quiescent_CfConvFReferenceIdeal (hCfConvFReferenceIdeal := hCfConvFReferenceIdeal)
    ∧ quiescent_ShortFKernel (hShortFKernel := hShortFKernel)
    ∧ quiescent_ShortFKernelIdeal (hShortFKernelIdeal := hShortFKernelIdeal)
    ∧ quiescent_ShortFReferenceIdeal (hShortFReferenceIdeal := hShortFReferenceIdeal)
    ∧ quiescent_WGradKernel (hWGradKernel := hWGradKernel)
    ∧ quiescent_WGradKernelIdeal (hWGradKernelIdeal := hWGradKernelIdeal)
    ∧ quiescent_WGradReferenceIdeal (hWGradReferenceIdeal := hWGradReferenceIdeal)
    ∧ quiescent_ResidKernel (hResidKernel := hResidKernel)
    ∧ quiescent_ResidKernelIdeal (hResidKernelIdeal := hResidKernelIdeal)
    ∧ quiescent_ResidReferenceIdeal (hResidReferenceIdeal := hResidReferenceIdeal)
    ∧ quiescent_AGradKernel (hAGradKernel := hAGradKernel)
    ∧ quiescent_AGradKernelIdeal (hAGradKernelIdeal := hAGradKernelIdeal)
    ∧ quiescent_AGradReferenceIdeal (hAGradReferenceIdeal := hAGradReferenceIdeal)
    ∧ quiescent_FGradKernel (hFGradKernel := hFGradKernel)
    ∧ quiescent_FGradKernelIdeal (hFGradKernelIdeal := hFGradKernelIdeal)
    ∧ quiescent_FGradReferenceIdeal (hFGradReferenceIdeal := hFGradReferenceIdeal)
    ∧ quiescent_Sum8Kernel (hSum8Kernel := hSum8Kernel)
    ∧ quiescent_Sum8KernelIdeal (hSum8KernelIdeal := hSum8KernelIdeal)
    ∧ quiescent_Sum8ReferenceIdeal (hSum8ReferenceIdeal := hSum8ReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_PleKernel_PleKernelIdeal
    ∧ algebraic_PleKernelIdeal_PleReferenceIdeal (hPleKernelIdeal := hPleKernelIdeal) (hPleReferenceIdeal := hPleReferenceIdeal)
    ∧ preserves_CfLnKernel_CfLnKernelIdeal
    ∧ algebraic_CfLnKernelIdeal_CfLnReferenceIdeal (hCfLnKernelIdeal := hCfLnKernelIdeal) (hCfLnReferenceIdeal := hCfLnReferenceIdeal) (hPre_cfln_finite := hPre_cfln_finite)
    ∧ preserves_SguKernel_SguKernelIdeal
    ∧ algebraic_SguKernelIdeal_SguReferenceIdeal (hSguKernelIdeal := hSguKernelIdeal) (hSguReferenceIdeal := hSguReferenceIdeal) (hPre_sgu_finite := hPre_sgu_finite)
    ∧ preserves_SwigluKernel_SwigluKernelIdeal
    ∧ algebraic_SwigluKernelIdeal_SwigluReferenceIdeal (hSwigluKernelIdeal := hSwigluKernelIdeal) (hSwigluReferenceIdeal := hSwigluReferenceIdeal) (hPre_swiglu_finite := hPre_swiglu_finite)
    ∧ preserves_LossKernel_LossKernelIdeal
    ∧ algebraic_LossKernelIdeal_LossReferenceIdeal (hLossKernelIdeal := hLossKernelIdeal) (hLossReferenceIdeal := hLossReferenceIdeal) (hPre_loss_finite := hPre_loss_finite)
    ∧ preserves_RmsPleKernel_RmsPleKernelIdeal
    ∧ algebraic_RmsPleKernelIdeal_RmsPleReferenceIdeal (hRmsPleKernelIdeal := hRmsPleKernelIdeal) (hRmsPleReferenceIdeal := hRmsPleReferenceIdeal) (hPre_rmsple_finite := hPre_rmsple_finite)
    ∧ preserves_RmsKernel_RmsKernelIdeal
    ∧ algebraic_RmsKernelIdeal_RmsReferenceIdeal (hRmsKernelIdeal := hRmsKernelIdeal) (hRmsReferenceIdeal := hRmsReferenceIdeal) (hPre_rms_finite := hPre_rms_finite)
    ∧ preserves_PoolKernel_PoolKernelIdeal
    ∧ algebraic_PoolKernelIdeal_PoolReferenceIdeal (hPoolKernelIdeal := hPoolKernelIdeal) (hPoolReferenceIdeal := hPoolReferenceIdeal) (hPre_pool_finite := hPre_pool_finite)
    ∧ preserves_CfConvKernel_CfConvKernelIdeal
    ∧ algebraic_CfConvKernelIdeal_CfConvReferenceIdeal (hCfConvKernelIdeal := hCfConvKernelIdeal) (hCfConvReferenceIdeal := hCfConvReferenceIdeal) (hPre_cfconv_finite := hPre_cfconv_finite)
    ∧ preserves_ShortKernel_ShortKernelIdeal
    ∧ algebraic_ShortKernelIdeal_ShortReferenceIdeal (hShortKernelIdeal := hShortKernelIdeal) (hShortReferenceIdeal := hShortReferenceIdeal) (hPre_short_finite := hPre_short_finite)
    ∧ preserves_RmsFKernel_RmsFKernelIdeal
    ∧ algebraic_RmsFKernelIdeal_RmsFReferenceIdeal (hRmsFKernelIdeal := hRmsFKernelIdeal) (hRmsFReferenceIdeal := hRmsFReferenceIdeal)
    ∧ preserves_CfLnFKernel_CfLnFKernelIdeal
    ∧ algebraic_CfLnFKernelIdeal_CfLnFReferenceIdeal (hCfLnFKernelIdeal := hCfLnFKernelIdeal) (hCfLnFReferenceIdeal := hCfLnFReferenceIdeal)
    ∧ preserves_SguFKernel_SguFKernelIdeal
    ∧ algebraic_SguFKernelIdeal_SguFReferenceIdeal (hSguFKernelIdeal := hSguFKernelIdeal) (hSguFReferenceIdeal := hSguFReferenceIdeal)
    ∧ preserves_PoolFKernel_PoolFKernelIdeal
    ∧ algebraic_PoolFKernelIdeal_PoolFReferenceIdeal (hPoolFKernelIdeal := hPoolFKernelIdeal) (hPoolFReferenceIdeal := hPoolFReferenceIdeal) (hPre_poolf_finite := hPre_poolf_finite)
    ∧ preserves_SwigluFKernel_SwigluFKernelIdeal
    ∧ algebraic_SwigluFKernelIdeal_SwigluFReferenceIdeal (hSwigluFKernelIdeal := hSwigluFKernelIdeal) (hSwigluFReferenceIdeal := hSwigluFReferenceIdeal)
    ∧ preserves_PleFKernel_PleFKernelIdeal
    ∧ algebraic_PleFKernelIdeal_PleFReferenceIdeal (hPleFKernelIdeal := hPleFKernelIdeal) (hPleFReferenceIdeal := hPleFReferenceIdeal)
    ∧ preserves_CfConvFKernel_CfConvFKernelIdeal
    ∧ algebraic_CfConvFKernelIdeal_CfConvFReferenceIdeal (hCfConvFKernelIdeal := hCfConvFKernelIdeal) (hCfConvFReferenceIdeal := hCfConvFReferenceIdeal)
    ∧ preserves_ShortFKernel_ShortFKernelIdeal
    ∧ algebraic_ShortFKernelIdeal_ShortFReferenceIdeal (hShortFKernelIdeal := hShortFKernelIdeal) (hShortFReferenceIdeal := hShortFReferenceIdeal)
    ∧ preserves_WGradKernel_WGradKernelIdeal
    ∧ algebraic_WGradKernelIdeal_WGradReferenceIdeal (hWGradKernelIdeal := hWGradKernelIdeal) (hWGradReferenceIdeal := hWGradReferenceIdeal)
    ∧ preserves_ResidKernel_ResidKernelIdeal
    ∧ algebraic_ResidKernelIdeal_ResidReferenceIdeal (hResidKernelIdeal := hResidKernelIdeal) (hResidReferenceIdeal := hResidReferenceIdeal)
    ∧ preserves_AGradKernel_AGradKernelIdeal
    ∧ algebraic_AGradKernelIdeal_AGradReferenceIdeal (hAGradKernelIdeal := hAGradKernelIdeal) (hAGradReferenceIdeal := hAGradReferenceIdeal)
    ∧ preserves_FGradKernel_FGradKernelIdeal
    ∧ algebraic_FGradKernelIdeal_FGradReferenceIdeal (hFGradKernelIdeal := hFGradKernelIdeal) (hFGradReferenceIdeal := hFGradReferenceIdeal)
    ∧ preserves_Sum8Kernel_Sum8KernelIdeal
    ∧ algebraic_Sum8KernelIdeal_Sum8ReferenceIdeal (hSum8KernelIdeal := hSum8KernelIdeal) (hSum8ReferenceIdeal := hSum8ReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_cfconv_finite.lean ====
abbrev S4096x4096 : Shape := ⟨2, ![4096, 4096]⟩
abbrev S4096x512 : Shape := ⟨2, ![4096, 512]⟩
abbrev S31x512 : Shape := ⟨2, ![31, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S31x512 : S_.BroadcastsInDim S31x512 (![] : Fin 0 → Fin S31x512.rank)
  reducesTo_S31x512_S_d0_1 : S31x512.ReducesTo [0, 1] S_

variable [Facts]

def fn {F : FTy → Type} [FloatOps F] (main_arg0 : FVec F S4096x4096 .f32) (main_arg1 : FVec F S4096x512 .f32) (main_arg2 : FVec F S31x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S31x512 .f32 := Host.absf main_arg2
  let main_cst_2 : FVec F S_ .f32 := constant S_ .f32 0x7F800000#32
  let main_v10 : FVec F S31x512 .f32 := broadcastInDim S31x512 ![] bcast_S_S31x512 main_cst_2
  let main_v11 : IVec S31x512 1 := cmpf .olt main_v9 main_v10
  let main_c_3 : IVec S_ 1 := constantI S_ 1 1#1
  let main_v12 : IVec S_ 1 := (fun x v => Host.reduce IntOp.andi x v reducesTo_S31x512_S_d0_1 h_S_) main_v11 main_c_3
  let main_v13 : IVec S_ 1 := andi main_v8 main_v12
  main_v13
-- ==== Pre_cfln_finite.lean ====
abbrev S4096x4096 : Shape := ⟨2, ![4096, 4096]⟩
abbrev S31x512 : Shape := ⟨2, ![31, 512]⟩
abbrev S512 : Shape := ⟨1, ![512]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S31x512 : S_.BroadcastsInDim S31x512 (![] : Fin 0 → Fin S31x512.rank)
  reducesTo_S31x512_S_d0_1 : S31x512.ReducesTo [0, 1] S_
  bcast_S_S512 : S_.BroadcastsInDim S512 (![] : Fin 0 → Fin S512.rank)
  reducesTo_S512_S_d0 : S512.ReducesTo [0] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S512 .f32) (main_arg5 : FVec F S512 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4096x4096 .f32) (main_arg1 : FVec F S31x512 .f32) (main_arg2 : FVec F S512 .f32) (main_arg3 : FVec F S4096x2048 .bf16) (main_arg4 : FVec F S512 .f32) (main_arg5 : FVec F S512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S31x512 .f32 := Host.absf main_arg1
  let main_cst_0 : FVec F S_ .f32 := constant S_ .f32 0x7F800000#32
  let main_v5 : FVec F S31x512 .f32 := broadcastInDim S31x512 ![] bcast_S_S31x512 main_cst_0
  let main_v6 : IVec S31x512 1 := cmpf .olt main_v4 main_v5
  let main_c_1 : IVec S_ 1 := constantI S_ 1 1#1
  let main_v7 : IVec S_ 1 := (fun x v => Host.reduce IntOp.andi x v reducesTo_S31x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4096x2048 .bf16 := Host.absf main_arg3
  let main_cst_4 : FVec F S_ .bf16 := constant S_ .bf16 0x7F80#16
  let main_v15 : FVec F S4096x2048 .bf16 := broadcastInDim S4096x2048 ![] bcast_S_S4096x2048 main_cst_4
  let main_v16 : IVec S4096x2048 1 := cmpf .olt main_v14 main_v15
  fn_part1 (F := F) main_arg4 main_arg5 main_v13 main_v16
-- ==== Pre_loss_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_pool_finite.lean ====
abbrev S4096x4096 : Shape := ⟨2, ![4096, 4096]⟩
abbrev S4096x2048 : Shape := ⟨2, ![4096, 2048]⟩
abbrev S4x128x128 : Shape := ⟨3, ![4, 128, 128]⟩
abbrev S512 : Shape := ⟨1, ![512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x4096 .f32) (main_arg1 : FVec F S4096x2048 .bf16) (main_arg2 : FVec F S4x128x128 .f32) (main_arg3 : FVec F S512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Pre_poolf_finite.lean ====
abbrev S4096x4096 : Shape := ⟨2, ![4096, 4096]⟩
abbrev S4x128x128 : Shape := ⟨3, ![4, 128, 128]⟩
abbrev S512 : Shape := ⟨1, ![512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4x128x128 .f32) (main_arg2 : FVec F S512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Pre_rms_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .bf16) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .bf16 := Host.absf main_arg2
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_rmsple_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .bf16) (main_arg3 : FVec F S4096x2048 .f32) (main_arg4 : FVec F S4096x2048 .bf16) (main_arg5 : FVec F S4096x2048 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .bf16 := Host.absf main_arg2
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_sgu_finite.lean ====
abbrev S4096x4096 : Shape := ⟨2, ![4096, 4096]⟩
abbrev S4096x2048 : Shape := ⟨2, ![4096, 2048]⟩
abbrev S4x128 : Shape := ⟨2, ![4, 128]⟩
abbrev S4x128x128 : Shape := ⟨3, ![4, 128, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_arg4 : FVec F S4x128x128 .f32) (main_arg5 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  main_v28

def fn {F : FTy → Type} [FloatOps F] (main_arg0 : FVec F S4096x4096 .f32) (main_arg1 : FVec F S4096x2048 .bf16) (main_arg2 : FVec F S4x128 .f32) (main_arg3 : FVec F S4x128 .f32) (main_arg4 : FVec F S4x128x128 .f32) (main_arg5 : FVec F S4x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_v13 main_v16
-- ==== Pre_short_finite.lean ====
abbrev S4096x4096 : Shape := ⟨2, ![4096, 4096]⟩
abbrev S4096x2048 : Shape := ⟨2, ![4096, 2048]⟩
abbrev S3x512 : Shape := ⟨2, ![3, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S3x512 : S_.BroadcastsInDim S3x512 (![] : Fin 0 → Fin S3x512.rank)
  reducesTo_S3x512_S_d0_1 : S3x512.ReducesTo [0, 1] S_

variable [Facts]

def fn {F : FTy → Type} [FloatOps F] (main_arg0 : FVec F S4096x4096 .f32) (main_arg1 : FVec F S4096x2048 .bf16) (main_arg2 : FVec F S3x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S3x512 .f32 := Host.absf main_arg2
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  main_v13
-- ==== Pre_swiglu_finite.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  main_v18

def fn {F : FTy → Type} [FloatOps F] (main_arg0 : FVec F S4096x2048 .bf16) (main_arg1 : FVec F S5632x2048 .f32) (main_arg2 : FVec F S4096x5632 .bf16) (main_arg3 : FVec F S4096x5632 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4096x5632 .bf16 := Host.absf main_arg2
  let main_cst_2 : FVec F S_ .bf16 := constant S_ .bf16 0x7F80#16
  let main_v10 : FVec F S4096x5632 .bf16 := broadcastInDim S4096x5632 ![] bcast_S_S4096x5632 main_cst_2
  let main_v11 : IVec S4096x5632 1 := cmpf .olt main_v9 main_v10
  let main_c_3 : IVec S_ 1 := constantI S_ 1 1#1
  let main_v12 : IVec S_ 1 := (fun x v => Host.reduce IntOp.andi x v reducesTo_S4096x5632_S_d0_1 h_S_) main_v11 main_c_3
  let main_v13 : IVec S_ 1 := andi main_v8 main_v12
  let main_v14 : FVec F S4096x5632 .bf16 := Host.absf main_arg3
  let main_cst_4 : FVec F S_ .bf16 := constant S_ .bf16 0x7F80#16
  let main_v15 : FVec F S4096x5632 .bf16 := broadcastInDim S4096x5632 ![] bcast_S_S4096x5632 main_cst_4
  let main_v16 : IVec S4096x5632 1 := cmpf .olt main_v14 main_v15
  fn_part1 (F := F) main_v13 main_v16
-- ==== PleKernel.lean ====
abbrev S4096x2048 : Shape := ⟨2, ![4096, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleReferenceIdeal.lean ====
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== CfLnKernel.lean ====
abbrev S4096x4096 : Shape := ⟨2, ![4096, 4096]⟩
abbrev S31x512 : Shape := ⟨2, ![31, 512]⟩
abbrev S512 : Shape := ⟨1, ![512]⟩
abbrev S4096x2048 : Shape := ⟨2, ![4096, 2048]⟩
abbrev S4096x1024 : Shape := ⟨2, ![4096, 1024]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S512x512 : Shape := ⟨2, ![512, 512]⟩
abbrev S512x1 : Shape := ⟨2, ![512, 1]⟩

abbrev nBuf : Space → Nat
  | .hbm => 250
  | .vmem => 11
  | .smem => 0
  | _ => 0

abbrev hbmTy0_0 (i : Nat) : BufTy := match i % 128 with
  | 0 => ⟨S4096x4096, .f32⟩
  | 1 => ⟨S31x512, .f32⟩
  | 2 => ⟨S512, .f32⟩
  | 3 => ⟨S4096x2048, .bf16⟩
  | 4 => ⟨S512, .f32⟩
  | 5 => ⟨S512, .f32⟩
  | 6 => ⟨S4096x1024, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S_, .f32⟩
  | 19 => ⟨S30x512, .f32⟩
  | 20 => ⟨S4126x512, .f32⟩
  | 21 => ⟨S1x512, .f32⟩
  | 22 => ⟨S512, .f32⟩
  | 23 => ⟨S4096x512, .f32⟩
  | 24 => ⟨S1x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S1x512, .f32⟩
  | 31 => ⟨S512, .f32⟩
  | 32 => ⟨S4096x512, .f32⟩
  | 33 => ⟨S1x512, .f32⟩
  | 34 => ⟨S4096x512, .f32⟩
  | 35 => ⟨S4096x512, .f32⟩
  | 36 => ⟨S4096x512, .f32⟩
  | 37 => ⟨S1x512, .f32⟩
  | 38 => ⟨S512, .f32⟩
  | 39 => ⟨S4096x512, .f32⟩
  | 40 => ⟨S1x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S4096x512, .f32⟩
  | 47 => ⟨S1x512, .f32⟩
  | 48 => ⟨S4096x512, .f32⟩
  | 49 => ⟨S4096x512, .f32⟩
  | 50 => ⟨S4096x512, .f32⟩
  | 51 => ⟨S1x512, .f32⟩
  | 52 => ⟨S512, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S1x512, .f32⟩
  | 66 => ⟨S512, .f32⟩
  | 67 => ⟨S4096x512, .f32⟩
  | 68 => ⟨S1x512, .f32⟩
  | 69 => ⟨S4096x512, .f32⟩
  | 70 => ⟨S4096x512, .f32⟩
  | 71 => ⟨S4096x512, .f32⟩
  | 72 => ⟨S1x512, .f32⟩
  | 73 => ⟨S512, .f32⟩
  | 74 => ⟨S4096x512, .f32⟩
  | 75 => ⟨S1x512, .f32⟩
  | 76 => ⟨S4096x512, .f32⟩
  | 77 => ⟨S4096x512, .f32⟩
  | 78 => ⟨S4096x512, .f32⟩
  | 79 => ⟨S1x512, .f32⟩
  | 80 => ⟨S512, .f32⟩
  | 81 => ⟨S4096x512, .f32⟩
  | 82 => ⟨S1x512, .f32⟩
  | 83 => ⟨S4096x512, .f32⟩
  | 84 => ⟨S4096x512, .f32⟩
  | 85 => ⟨S4096x512, .f32⟩
  | 86 => ⟨S1x512, .f32⟩
  | 87 => ⟨S512, .f32⟩
  | 88 => ⟨S4096x512, .f32⟩
  | 89 => ⟨S1x512, .f32⟩
  | 90 => ⟨S4096x512, .f32⟩
  | 91 => ⟨S4096x512, .f32⟩
  | 92 => ⟨S4096x512, .f32⟩
  | 93 => ⟨S1x512, .f32⟩
  | 94 => ⟨S512, .f32⟩
  | 95 => ⟨S4096x512, .f32⟩
  | 96 => ⟨S1x512, .f32⟩
  | 97 => ⟨S4096x512, .f32⟩
  | 98 => ⟨S4096x512, .f32⟩
  | 99 => ⟨S4096x512, .f32⟩
  | 100 => ⟨S1x512, .f32⟩
  | 101 => ⟨S512, .f32⟩
  | 102 => ⟨S4096x512, .f32⟩
  | 103 => ⟨S1x512, .f32⟩
  | 104 => ⟨S4096x512, .f32⟩
  | 105 => ⟨S4096x512, .f32⟩
  | 106 => ⟨S4096x512, .f32⟩
  | 107 => ⟨S1x512, .f32⟩
  | 108 => ⟨S512, .f32⟩
  | 109 => ⟨S4096x512, .f32⟩
  | 110 => ⟨S1x512, .f32⟩
  | 111 => ⟨S4096x512, .f32⟩
  | 112 => ⟨S4096x512, .f32⟩
  | 113 => ⟨S4096x512, .f32⟩
  | 114 => ⟨S1x512, .f32⟩
  | 115 => ⟨S512, .f32⟩
  | 116 => ⟨S4096x512, .f32⟩
  | 117 => ⟨S1x512, .f32⟩
  | 118 => ⟨S4096x512, .f32⟩
  | 119 => ⟨S4096x512, .f32⟩
  | 120 => ⟨S4096x512, .f32⟩
  | 121 => ⟨S1x512, .f32⟩
  | 122 => ⟨S512, .f32⟩
  | 123 => ⟨S4096x512, .f32⟩
  | 124 => ⟨S1x512, .f32⟩
  | 125 => ⟨S4096x512, .f32⟩
  | 126 => ⟨S4096x512, .f32⟩
  | 127 => ⟨S4096x512, .f32⟩
  | _ => ⟨S4096x4096, .f32⟩

abbrev hbmTy0_1 (i : Nat) : BufTy := match i % 128 with
  | 0 => ⟨S1x512, .f32⟩
  | 1 => ⟨S512, .f32⟩
  | 2 => ⟨S4096x512, .f32⟩
  | 3 => ⟨S1x512, .f32⟩
  | 4 => ⟨S4096x512, .f32⟩
  | 5 => ⟨S4096x512, .f32⟩
  | 6 => ⟨S4096x512, .f32⟩
  | 7 => ⟨S1x512, .f32⟩
  | 8 => ⟨S512, .f32⟩
  | 9 => ⟨S4096x512, .f32⟩
  | 10 => ⟨S1x512, .f32⟩
  | 11 => ⟨S4096x512, .f32⟩
  | 12 => ⟨S4096x512, .f32⟩
  | 13 => ⟨S4096x512, .f32⟩
  | 14 => ⟨S1x512, .f32⟩
  | 15 => ⟨S512, .f32⟩
  | 16 => ⟨S4096x512, .f32⟩
  | 17 => ⟨S1x512, .f32⟩
  | 18 => ⟨S4096x512, .f32⟩
  | 19 => ⟨S4096x512, .f32⟩
  | 20 => ⟨S4096x512, .f32⟩
  | 21 => ⟨S1x512, .f32⟩
  | 22 => ⟨S512, .f32⟩
  | 23 => ⟨S4096x512, .f32⟩
  | 24 => ⟨S1x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S4096x512, .f32⟩
  | 31 => ⟨S1x512, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S4096x512, .f32⟩
  | 38 => ⟨S1x512, .f32⟩
  | 39 => ⟨S4096x512, .f32⟩
  | 40 => ⟨S4096x512, .f32⟩
  | 41 => ⟨S4096x512, .f32⟩
  | 42 => ⟨S1x512, .f32⟩
  | 43 => ⟨S512, .f32⟩
  | 44 => ⟨S4096x512, .f32⟩
  | 45 => ⟨S1x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S4096x512, .f32⟩
  | 59 => ⟨S1x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S4096x512, .f32⟩
  | 66 => ⟨S1x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S4096x512, .f32⟩
  | 73 => ⟨S1x512, .f32⟩
  | 74 => ⟨S4096x512, .f32⟩
  | 75 => ⟨S4096x512, .f32⟩
  | 76 => ⟨S4096x512, .f32⟩
  | 77 => ⟨S1x512, .f32⟩
  | 78 => ⟨S512, .f32⟩
  | 79 => ⟨S4096x512, .f32⟩
  | 80 => ⟨S1x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S4096x512, .f32⟩
  | 87 => ⟨S1x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S4096x512, .f32⟩
  | 94 => ⟨S1x512, .f32⟩
  | 95 => ⟨S4096x512, .f32⟩
  | 96 => ⟨S4096x512, .f32⟩
  | 97 => ⟨S4096x512, .f32⟩
  | 98 => ⟨S1x512, .f32⟩
  | 99 => ⟨S512, .f32⟩
  | 100 => ⟨S4096x512, .f32⟩
  | 101 => ⟨S1x512, .f32⟩
  | 102 => ⟨S4096x512, .f32⟩
  | 103 => ⟨S4096x512, .f32⟩
  | 104 => ⟨S4096x512, .f32⟩
  | 105 => ⟨S1x512, .f32⟩
  | 106 => ⟨S512, .f32⟩
  | 107 => ⟨S4096x512, .f32⟩
  | 108 => ⟨S1x512, .f32⟩
  | 109 => ⟨S4096x512, .f32⟩
  | 110 => ⟨S4096x512, .f32⟩
  | 111 => ⟨S4096x512, .f32⟩
  | 112 => ⟨S1x512, .f32⟩
  | 113 => ⟨S4096x512, .f32⟩
  | 114 => ⟨S4096x512, .f32⟩
  | 115 => ⟨S4096x512, .bf16⟩
  | 116 => ⟨S1x512, .f32⟩
  | 117 => ⟨S1x512, .f32⟩
  | 118 => ⟨S4096x512, .f32⟩
  | 119 => ⟨S1x512, .f32⟩
  | 120 => ⟨S1x512, .f32⟩
  | 121 => ⟨S1x512, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236_0 : Ref sig .tc := ⟨.hbm, 246, rfl⟩
abbrev main_v236_1 : Ref sig .tc := ⟨.hbm, 247, rfl⟩
abbrev main_v236_2 : Ref sig .tc := ⟨.hbm, 248, rfl⟩
abbrev main_v236_3 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== CfLnReferenceIdeal.lean ====
abbrev S4096x4096 : Shape := ⟨2, ![4096, 4096]⟩
abbrev S31x512 : Shape := ⟨2, ![31, 512]⟩
abbrev S512 : Shape := ⟨1, ![512]⟩
abbrev S4096x2048 : Shape := ⟨2, ![4096, 2048]⟩
abbrev S4096x1024 : Shape := ⟨2, ![4096, 1024]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S4096 : Shape := ⟨1, ![4096]⟩
abbrev S4096x1 : Shape := ⟨2, ![4096, 1]⟩

abbrev nBuf : Space → Nat
  | .hbm => 342
  | .vmem => 0
  | .smem => 0
  | _ => 0

abbrev hbmTy0_0 (i : Nat) : BufTy := match i % 128 with
  | 0 => ⟨S4096x4096, .f32⟩
  | 1 => ⟨S31x512, .f32⟩
  | 2 => ⟨S512, .f32⟩
  | 3 => ⟨S4096x2048, .bf16⟩
  | 4 => ⟨S512, .f32⟩
  | 5 => ⟨S512, .f32⟩
  | 6 => ⟨S4096x1024, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S_, .f32⟩
  | 19 => ⟨S30x512, .f32⟩
  | 20 => ⟨S4126x512, .f32⟩
  | 21 => ⟨S1x512, .f32⟩
  | 22 => ⟨S512, .f32⟩
  | 23 => ⟨S4096x512, .f32⟩
  | 24 => ⟨S1x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S1x512, .f32⟩
  | 31 => ⟨S512, .f32⟩
  | 32 => ⟨S4096x512, .f32⟩
  | 33 => ⟨S1x512, .f32⟩
  | 34 => ⟨S4096x512, .f32⟩
  | 35 => ⟨S4096x512, .f32⟩
  | 36 => ⟨S4096x512, .f32⟩
  | 37 => ⟨S1x512, .f32⟩
  | 38 => ⟨S512, .f32⟩
  | 39 => ⟨S4096x512, .f32⟩
  | 40 => ⟨S1x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S4096x512, .f32⟩
  | 47 => ⟨S1x512, .f32⟩
  | 48 => ⟨S4096x512, .f32⟩
  | 49 => ⟨S4096x512, .f32⟩
  | 50 => ⟨S4096x512, .f32⟩
  | 51 => ⟨S1x512, .f32⟩
  | 52 => ⟨S512, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S1x512, .f32⟩
  | 66 => ⟨S512, .f32⟩
  | 67 => ⟨S4096x512, .f32⟩
  | 68 => ⟨S1x512, .f32⟩
  | 69 => ⟨S4096x512, .f32⟩
  | 70 => ⟨S4096x512, .f32⟩
  | 71 => ⟨S4096x512, .f32⟩
  | 72 => ⟨S1x512, .f32⟩
  | 73 => ⟨S512, .f32⟩
  | 74 => ⟨S4096x512, .f32⟩
  | 75 => ⟨S1x512, .f32⟩
  | 76 => ⟨S4096x512, .f32⟩
  | 77 => ⟨S4096x512, .f32⟩
  | 78 => ⟨S4096x512, .f32⟩
  | 79 => ⟨S1x512, .f32⟩
  | 80 => ⟨S512, .f32⟩
  | 81 => ⟨S4096x512, .f32⟩
  | 82 => ⟨S1x512, .f32⟩
  | 83 => ⟨S4096x512, .f32⟩
  | 84 => ⟨S4096x512, .f32⟩
  | 85 => ⟨S4096x512, .f32⟩
  | 86 => ⟨S1x512, .f32⟩
  | 87 => ⟨S512, .f32⟩
  | 88 => ⟨S4096x512, .f32⟩
  | 89 => ⟨S1x512, .f32⟩
  | 90 => ⟨S4096x512, .f32⟩
  | 91 => ⟨S4096x512, .f32⟩
  | 92 => ⟨S4096x512, .f32⟩
  | 93 => ⟨S1x512, .f32⟩
  | 94 => ⟨S512, .f32⟩
  | 95 => ⟨S4096x512, .f32⟩
  | 96 => ⟨S1x512, .f32⟩
  | 97 => ⟨S4096x512, .f32⟩
  | 98 => ⟨S4096x512, .f32⟩
  | 99 => ⟨S4096x512, .f32⟩
  | 100 => ⟨S1x512, .f32⟩
  | 101 => ⟨S512, .f32⟩
  | 102 => ⟨S4096x512, .f32⟩
  | 103 => ⟨S1x512, .f32⟩
  | 104 => ⟨S4096x512, .f32⟩
  | 105 => ⟨S4096x512, .f32⟩
  | 106 => ⟨S4096x512, .f32⟩
  | 107 => ⟨S1x512, .f32⟩
  | 108 => ⟨S512, .f32⟩
  | 109 => ⟨S4096x512, .f32⟩
  | 110 => ⟨S1x512, .f32⟩
  | 111 => ⟨S4096x512, .f32⟩
  | 112 => ⟨S4096x512, .f32⟩
  | 113 => ⟨S4096x512, .f32⟩
  | 114 => ⟨S1x512, .f32⟩
  | 115 => ⟨S512, .f32⟩
  | 116 => ⟨S4096x512, .f32⟩
  | 117 => ⟨S1x512, .f32⟩
  | 118 => ⟨S4096x512, .f32⟩
  | 119 => ⟨S4096x512, .f32⟩
  | 120 => ⟨S4096x512, .f32⟩
  | 121 => ⟨S1x512, .f32⟩
  | 122 => ⟨S512, .f32⟩
  | 123 => ⟨S4096x512, .f32⟩
  | 124 => ⟨S1x512, .f32⟩
  | 125 => ⟨S4096x512, .f32⟩
  | 126 => ⟨S4096x512, .f32⟩
  | 127 => ⟨S4096x512, .f32⟩
  | _ => ⟨S4096x4096, .f32⟩

abbrev hbmTy0_1 (i : Nat) : BufTy := match i % 128 with
  | 0 => ⟨S1x512, .f32⟩
  | 1 => ⟨S512, .f32⟩
  | 2 => ⟨S4096x512, .f32⟩
  | 3 => ⟨S1x512, .f32⟩
  | 4 => ⟨S4096x512, .f32⟩
  | 5 => ⟨S4096x512, .f32⟩
  | 6 => ⟨S4096x512, .f32⟩
  | 7 => ⟨S1x512, .f32⟩
  | 8 => ⟨S512, .f32⟩
  | 9 => ⟨S4096x512, .f32⟩
  | 10 => ⟨S1x512, .f32⟩
  | 11 => ⟨S4096x512, .f32⟩
  | 12 => ⟨S4096x512, .f32⟩
  | 13 => ⟨S4096x512, .f32⟩
  | 14 => ⟨S1x512, .f32⟩
  | 15 => ⟨S512, .f32⟩
  | 16 => ⟨S4096x512, .f32⟩
  | 17 => ⟨S1x512, .f32⟩
  | 18 => ⟨S4096x512, .f32⟩
  | 19 => ⟨S4096x512, .f32⟩
  | 20 => ⟨S4096x512, .f32⟩
  | 21 => ⟨S1x512, .f32⟩
  | 22 => ⟨S512, .f32⟩
  | 23 => ⟨S4096x512, .f32⟩
  | 24 => ⟨S1x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S4096x512, .f32⟩
  | 31 => ⟨S1x512, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S4096x512, .f32⟩
  | 38 => ⟨S1x512, .f32⟩
  | 39 => ⟨S4096x512, .f32⟩
  | 40 => ⟨S4096x512, .f32⟩
  | 41 => ⟨S4096x512, .f32⟩
  | 42 => ⟨S1x512, .f32⟩
  | 43 => ⟨S512, .f32⟩
  | 44 => ⟨S4096x512, .f32⟩
  | 45 => ⟨S1x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S4096x512, .f32⟩
  | 59 => ⟨S1x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S4096x512, .f32⟩
  | 66 => ⟨S1x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S4096x512, .f32⟩
  | 73 => ⟨S1x512, .f32⟩
  | 74 => ⟨S4096x512, .f32⟩
  | 75 => ⟨S4096x512, .f32⟩
  | 76 => ⟨S4096x512, .f32⟩
  | 77 => ⟨S1x512, .f32⟩
  | 78 => ⟨S512, .f32⟩
  | 79 => ⟨S4096x512, .f32⟩
  | 80 => ⟨S1x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S4096x512, .f32⟩
  | 87 => ⟨S1x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S4096x512, .f32⟩
  | 94 => ⟨S1x512, .f32⟩
  | 95 => ⟨S4096x512, .f32⟩
  | 96 => ⟨S4096x512, .f32⟩
  | 97 => ⟨S4096x512, .f32⟩
  | 98 => ⟨S1x512, .f32⟩
  | 99 => ⟨S512, .f32⟩
  | 100 => ⟨S4096x512, .f32⟩
  | 101 => ⟨S1x512, .f32⟩
  | 102 => ⟨S4096x512, .f32⟩
  | 103 => ⟨S4096x512, .f32⟩
  | 104 => ⟨S4096x512, .f32⟩
  | 105 => ⟨S1x512, .f32⟩
  | 106 => ⟨S512, .f32⟩
  | 107 => ⟨S4096x512, .f32⟩
  | 108 => ⟨S1x512, .f32⟩
  | 109 => ⟨S4096x512, .f32⟩
  | 110 => ⟨S4096x512, .f32⟩
  | 111 => ⟨S4096x512, .f32⟩
  | 112 => ⟨S1x512, .f32⟩
  | 113 => ⟨S4096x512, .f32⟩
  | 114 => ⟨S4096x512, .f32⟩
  | 115 => ⟨S_, .f32⟩
  | 116 => ⟨S4096, .f32⟩
  | 117 => ⟨S4096x1, .f32⟩
  | 118 => ⟨S_, .f32⟩
  | 119 => ⟨S4096x1, .f32⟩
  | 120 => ⟨S4096x1, .f32⟩
  | 121 => ⟨S4096x512, .f32⟩
  | 122 => ⟨S4096x512, .f32⟩
  | 123 => ⟨S4096x512, .f32⟩
  | 124 => ⟨S_, .f32⟩
  | 125 => ⟨S4096, .f32⟩
  | 126 => ⟨S4096x1, .f32⟩
  | 127 => ⟨S_, .f32⟩
  | _ => ⟨S4096x4096, .f32⟩

abbrev hbmTy0_2 (i : Nat) : BufTy := match i % 128 with
  | 0 => ⟨S4096x1, .f32⟩
  | 1 => ⟨S4096x1, .f32⟩
  | 2 => ⟨S_, .f32⟩
  | 3 => ⟨S4096x1, .f32⟩
  | 4 => ⟨S4096x1, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x512, .f32⟩
  | 11 => ⟨S4096x512, .f32⟩
  | 12 => ⟨S1x512, .f32⟩
  | 13 => ⟨S4096x512, .f32⟩
  | 14 => ⟨S4096x512, .f32⟩
  | 15 => ⟨S1x512, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S4096x512, .f32⟩
  | 30 => ⟨S4096x512, .f32⟩
  | 31 => ⟨S4096x512, .bf16⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S_, .f32⟩
  | 38 => ⟨S512, .f32⟩
  | 39 => ⟨S1x512, .f32⟩
  | 40 => ⟨S_, .f32⟩
  | 41 => ⟨S512, .f32⟩
  | 42 => ⟨S4096x512, .f32⟩
  | 43 => ⟨S_, .f32⟩
  | 44 => ⟨S512, .f32⟩
  | 45 => ⟨S1x512, .f32⟩
  | 46 => ⟨S4096x512, .f32⟩
  | 47 => ⟨S4096x512, .f32⟩
  | 48 => ⟨S_, .f32⟩
  | 49 => ⟨S512, .f32⟩
  | 50 => ⟨S4096x512, .f32⟩
  | 51 => ⟨S_, .f32⟩
  | 52 => ⟨S4096, .f32⟩
  | 53 => ⟨S4096x1, .f32⟩
  | 54 => ⟨S4096x512, .f32⟩
  | 55 => ⟨S4096x512, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096, .f32⟩
  | 62 => ⟨S4096x512, .f32⟩
  | 63 => ⟨S4096x512, .f32⟩
  | 64 => ⟨S4096x512, .f32⟩
  | 65 => ⟨S4096x512, .f32⟩
  | 66 => ⟨S4096x512, .f32⟩
  | 67 => ⟨S4096x512, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x512, .f32⟩
  | 77 => ⟨S4096x512, .f32⟩
  | 78 => ⟨S_, .f32⟩
  | 79 => ⟨S512, .f32⟩
  | 80 => ⟨S1x512, .f32⟩
  | 81 => ⟨S_, .f32⟩
  | 82 => ⟨S512, .f32⟩
  | 83 => ⟨S1x512, .f32⟩
  | 84 => ⟨S1x512, .f32⟩
  | 85 => ⟨S1x512, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_cst_4 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_cst_6 : Ref sig .tc := ⟨.hbm, 255, rfl⟩
abbrev main_v242 : Ref sig .tc := ⟨.hbm, 256, rfl⟩
abbrev main_v243 : Ref sig .tc := ⟨.hbm, 257, rfl⟩
abbrev main_cst_7 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_cst_8 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_v258_2 : Ref sig .tc := ⟨.hbm, 281, rfl⟩
abbrev main_call0_cst_1 : Ref sig .tc := ⟨.hbm, 282, rfl⟩
abbrev main_call0_v6 : Ref sig .tc := ⟨.hbm, 283, rfl⟩
abbrev main_call0_v7 : Ref sig .tc := ⟨.hbm, 284, rfl⟩
abbrev main_v258_1 : Ref sig .tc := ⟨.hbm, 285, rfl⟩
abbrev main_v258_0 : Ref sig .tc := ⟨.hbm, 286, rfl⟩
abbrev main_v259 : Ref sig .tc := ⟨.hbm, 287, rfl⟩
abbrev main_v260 : Ref sig .tc := ⟨.hbm, 288, rfl⟩
abbrev main_call1_v0 : Ref sig .tc := ⟨.hbm, 289, rfl⟩
abbrev main_call1_v1 : Ref sig .tc := ⟨.hbm, 290, rfl⟩
abbrev main_call1_v2 : Ref sig .tc := ⟨.hbm, 291, rfl⟩
abbrev main_v261 : Ref sig .tc := ⟨.hbm, 292, rfl⟩
abbrev main_cst_9 : Ref sig .tc := ⟨.hbm, 293, rfl⟩
abbrev main_v262 : Ref sig .tc := ⟨.hbm, 294, rfl⟩
abbrev main_v263 : Ref sig .tc := ⟨.hbm, 295, rfl⟩
abbrev main_cst_10 : Ref sig .tc := ⟨.hbm, 296, rfl⟩
abbrev main_v264 : Ref sig .tc := ⟨.hbm, 297, rfl⟩
abbrev main_v265 : Ref sig .tc := ⟨.hbm, 298, rfl⟩
abbrev main_cst_11 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_cst_12 : Ref sig .tc := ⟨.hbm, 304, rfl⟩
abbrev main_v270 : Ref sig .tc := ⟨.hbm, 305, rfl⟩
abbrev main_v271 : Ref sig .tc := ⟨.hbm, 306, rfl⟩
abbrev main_cst_13 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_cst_14 : Ref sig .tc := ⟨.hbm, 313, rfl⟩
abbrev main_v277 : Ref sig .tc := ⟨.hbm, 314, rfl⟩
abbrev main_v278 : Ref sig .tc := ⟨.hbm, 315, rfl⟩
abbrev main_cst_15 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_cst_16 : Ref sig .tc := ⟨.hbm, 324, rfl⟩
abbrev main_v286 : Ref sig .tc := ⟨.hbm, 325, rfl⟩
abbrev main_v287 : Ref sig .tc := ⟨.hbm, 326, rfl⟩
abbrev main_cst_17 : Ref sig .tc := ⟨.hbm, 327, rfl⟩
abbrev main_v288 : Ref sig .tc := ⟨.hbm, 328, rfl⟩
abbrev main_v289 : Ref sig .tc := ⟨.hbm, 329, rfl⟩
abbrev main_cst_18 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_cst_19 : Ref sig .tc := ⟨.hbm, 334, rfl⟩
abbrev main_v293 : Ref sig .tc := ⟨.hbm, 335, rfl⟩
abbrev main_v294 : Ref sig .tc := ⟨.hbm, 336, rfl⟩
abbrev main_cst_20 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩

abbrev nD : Nat := 1
abbrev τ : Topo := Topo.v7x

variable {F : FTy → Type} [FloatOps F]
-- ==== SguKernel.lean ====
abbrev S4096x4096 : Shape := ⟨2, ![4096, 4096]⟩
abbrev S4096x2048 : Shape := ⟨2, ![4096, 2048]⟩
abbrev S4x128 : Shape := ⟨2, ![4, 128]⟩
abbrev S4x128x128 : Shape := ⟨3, ![4, 128, 128]⟩
abbrev S4096x512 : Shape := ⟨2, ![4096, 512]⟩
abbrev S4x1x128 : Shape := ⟨3, ![4, 1, 128]⟩
abbrev S4x128x1 : Shape := ⟨3, ![4, 128, 1]⟩
abbrev S1024x128 : Shape := ⟨2, ![1024, 128]⟩
abbrev S1x1x128 : Shape := ⟨3, ![1, 1, 128]⟩
abbrev S1x128x128 : Shape := ⟨3, ![1, 128, 128]⟩
abbrev S1x128x1 : Shape := ⟨3, ![1, 128, 1]⟩
abbrev S128x128 : Shape := ⟨2, ![128, 128]⟩
abbrev S1x128 : Shape := ⟨2, ![1, 128]⟩
abbrev S128 : Shape := ⟨1, ![128]⟩
abbrev S128x1 : Shape := ⟨2, ![128, 1]⟩

abbrev nBuf : Space → Nat
  | .hbm => 16
  | .vmem => 27
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S4x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S4096x512, .bf16⟩
  | .hbm, ⟨7, _⟩ => ⟨S4x1x128, .f32⟩
  | .hbm, ⟨8, _⟩ => ⟨S4x1x128, .f32⟩
  | .hbm, ⟨9, _⟩ => ⟨S4x128x1, .f32⟩
  | .hbm, ⟨10, _⟩ => ⟨S4096x512, .bf16⟩
  | .hbm, ⟨11, _⟩ => ⟨S4096x512, .bf16⟩
  | .hbm, ⟨12, _⟩ => ⟨S4x1x128, .f32⟩
  | .hbm, ⟨13, _⟩ => ⟨S4x1x128, .f32⟩
  | .hbm, ⟨14, _⟩ => ⟨S4x128x128, .f32⟩
  | .hbm, ⟨15, _⟩ => ⟨S4x128x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .bf16⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x128x128, .f32⟩
  | .local _ .vmem, ⟨11, _⟩ => ⟨S1x128x128, .f32⟩
  | .local _ .vmem, ⟨12, _⟩ => ⟨S1x128x1, .f32⟩
  | .local _ .vmem, ⟨13, _⟩ => ⟨S1x128x1, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x128x128, .f32⟩
  | .local _ .vmem, ⟨23, _⟩ => ⟨S1x128x128, .f32⟩
  | .local _ .vmem, ⟨24, _⟩ => ⟨S1x128x1, .f32⟩
  | .local _ .vmem, ⟨25, _⟩ => ⟨S1x128x1, .f32⟩
  | .local _ .vmem, ⟨26, _⟩ => ⟨S128x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v1280 : BitVec 1 := Scalar.cmpi .eq arg1 c3_i32
  let v1281 : BitVec 32 := Scalar.extui v1280
  let c0_i32_519 : BitVec 32 := 0#32
  let v1282 : BitVec 1 := Scalar.cmpi .ne v1281 c0_i32_519
  v1282

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SguKernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== SguReferenceIdeal.lean ====
abbrev S4096x4096 : Shape := ⟨2, ![4096, 4096]⟩
abbrev S4096x2048 : Shape := ⟨2, ![4096, 2048]⟩
abbrev S4x128 : Shape := ⟨2, ![4, 128]⟩
abbrev S4x128x128 : Shape := ⟨3, ![4, 128, 128]⟩
abbrev S4096x1024 : Shape := ⟨2, ![4096, 1024]⟩
abbrev S_ : Shape := ⟨0, ![]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S128x4x1 : Shape := ⟨3, ![128, 4, 1]⟩
abbrev S1x128x4x1 : Shape := ⟨4, ![1, 128, 4, 1]⟩
abbrev S4x1x128 : Shape := ⟨3, ![4, 1, 128]⟩
abbrev S4x128x1 : Shape := ⟨3, ![4, 128, 1]⟩

abbrev nBuf : Space → Nat
  | .hbm => 187
  | .vmem => 0
  | .smem => 0
  | _ => 0

abbrev hbmTy0_0 (i : Nat) : BufTy := match i % 128 with
  | 0 => ⟨S4096x4096, .f32⟩
  | 1 => ⟨S4096x2048, .bf16⟩
  | 2 => ⟨S4x128, .f32⟩
  | 3 => ⟨S4x128, .f32⟩
  | 4 => ⟨S4x128x128, .f32⟩
  | 5 => ⟨S4x128, .f32⟩
  | 6 => ⟨S4096x1024, .f32⟩
  | 7 => ⟨S_, .f32⟩
  | 8 => ⟨S_, .f32⟩
  | 9 => ⟨S_, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x512, .f32⟩
  | 38 => ⟨S4096x512, .f32⟩
  | 39 => ⟨S4096x4x128, .f32⟩
  | 40 => ⟨S_, .f32⟩
  | 41 => ⟨S4096x4, .f32⟩
  | 42 => ⟨S4096x4x1, .f32⟩
  | 43 => ⟨S_, .f32⟩
  | 44 => ⟨S4096x4x1, .f32⟩
  | 45 => ⟨S4096x4x1, .f32⟩
  | 46 => ⟨S4096x4x128, .f32⟩
  | 47 => ⟨S4096x4x128, .f32⟩
  | 48 => ⟨S4096x4x128, .f32⟩
  | 49 => ⟨S_, .f32⟩
  | 50 => ⟨S4096x4, .f32⟩
  | 51 => ⟨S4096x4x1, .f32⟩
  | 52 => ⟨S_, .f32⟩
  | 53 => ⟨S4096x4x1, .f32⟩
  | 54 => ⟨S4096x4x1, .f32⟩
  | 55 => ⟨S_, .f32⟩
  | 56 => ⟨S4096x4x1, .f32⟩
  | 57 => ⟨S4096x4x1, .f32⟩
  | 58 => ⟨S4096x4x1, .f32⟩
  | 59 => ⟨S4096x4x1, .f32⟩
  | 60 => ⟨S_, .f32⟩
  | 61 => ⟨S4096x4x1, .f32⟩
  | 62 => ⟨S4096x4x1, .f32⟩
  | 63 => ⟨S4096x4x128, .f32⟩
  | 64 => ⟨S4096x4x128, .f32⟩
  | 65 => ⟨S1x4x128, .f32⟩
  | 66 => ⟨S4096x4x128, .f32⟩
  | 67 => ⟨S4096x4x128, .f32⟩
  | 68 => ⟨S1x4x128, .f32⟩
  | 69 => ⟨S4096x4x128, .f32⟩
  | 70 => ⟨S4096x4x128, .f32⟩
  | 71 => ⟨S32x128x4x128, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S1x128x128, .i1⟩
  | 84 => ⟨S_, .f32⟩
  | 85 => ⟨S4x128x128, .i1⟩
  | 86 => ⟨S4x128x128, .f32⟩
  | 87 => ⟨S4x128x128, .f32⟩
  | 88 => ⟨S_, .f32⟩
  | 89 => ⟨S4x128x128, .f32⟩
  | 90 => ⟨S4x32x128x128, .f32⟩
  | 91 => ⟨S32x128x4x128, .f32⟩
  | 92 => ⟨S128x4, .f32⟩
  | 93 => ⟨S128x4x1, .f32⟩
  | 94 => ⟨S1x128x4x1, .f32⟩
  | 95 => ⟨S32x128x4x128, .f32⟩
  | 96 => ⟨S32x128x4x128, .f32⟩
  | 97 => ⟨S32x128x4x128, .f32⟩
  | 98 => ⟨S32x128x4x128, .f32⟩
  | 99 => ⟨S4096x512, .f32⟩
  | 100 => ⟨S4096x512, .bf16⟩
  | 101 => ⟨S4096x512, .f32⟩
  | 102 => ⟨S32x128x4x128, .f32⟩
  | 103 => ⟨S32x128x4x128, .f32⟩
  | 104 => ⟨S32x128x4x128, .f32⟩
  | 105 => ⟨S4096x512, .f32⟩
  | 106 => ⟨S_, .f32⟩
  | 107 => ⟨S128x4, .f32⟩
  | 108 => ⟨S1x128x4x1, .f32⟩
  | 109 => ⟨S_, .f32⟩
  | 110 => ⟨S128x4, .f32⟩
  | 111 => ⟨S128x4x1, .f32⟩
  | 112 => ⟨S_, .f32⟩
  | 113 => ⟨S128x4, .f32⟩
  | 114 => ⟨S4x128, .f32⟩
  | 115 => ⟨S4x32x128x128, .f32⟩
  | 116 => ⟨S4x128x128, .f32⟩
  | 117 => ⟨S4x32x128x128, .f32⟩
  | 118 => ⟨S32x128x4x128, .f32⟩
  | 119 => ⟨S_, .f32⟩
  | 120 => ⟨S4x128x128, .f32⟩
  | 121 => ⟨S4x128x128, .f32⟩
  | 122 => ⟨S4096x4x128, .f32⟩
  | 123 => ⟨S_, .f32⟩
  | 124 => ⟨S4x128, .f32⟩
  | 125 => ⟨S1x4x128, .f32⟩
  | 126 => ⟨S_, .f32⟩
  | 127 => ⟨S4x128, .f32⟩
  | _ => ⟨S4096x4096, .f32⟩

abbrev hbmTy0_1 (i : Nat) : BufTy := match i % 128 with
  | 0 => ⟨S4096x4x128, .f32⟩
  | 1 => ⟨S_, .f32⟩
  | 2 => ⟨S4x128, .f32⟩
  | 3 => ⟨S1x4x128, .f32⟩
  | 4 => ⟨S4096x4x128, .f32⟩
  | 5 => ⟨S4096x4x128, .f32⟩
  | 6 => ⟨S_, .f32⟩
  | 7 => ⟨S4x128, .f32⟩
  | 8 => ⟨S4096x4x128, .f32⟩
  | 9 => ⟨S_, .f32⟩
  | 10 => ⟨S4096x4, .f32⟩
  | 11 => ⟨S4096x4x1, .f32⟩
  | 12 => ⟨S4096x4x128, .f32⟩
  | 13 => ⟨S4096x4x128, .f32⟩
  | 14 => ⟨S4096x4x1, .f32⟩
  | 15 => ⟨S_, .f32⟩
  | 16 => ⟨S4096x4x1, .f32⟩
  | 17 => ⟨S4096x4x1, .f32⟩
  | 18 => ⟨S_, .f32⟩
  | 19 => ⟨S4096x4, .f32⟩
  | 20 => ⟨S4096x4x128, .f32⟩
  | 21 => ⟨S4096x4x128, .f32⟩
  | 22 => ⟨S4096x4x128, .f32⟩
  | 23 => ⟨S4096x4x128, .f32⟩
  | 24 => ⟨S4096x4x128, .f32⟩
  | 25 => ⟨S4096x4x128, .f32⟩
  | 26 => ⟨S_, .f32⟩
  | 27 => ⟨S4096x4, .f32⟩
  | 28 => ⟨S4096x4x1, .f32⟩
  | 29 => ⟨S_, .f32⟩
  | 30 => ⟨S4096x4x1, .f32⟩
  | 31 => ⟨S4096x4x1, .f32⟩
  | 32 => ⟨S_, .f32⟩
  | 33 => ⟨S4096x4, .f32⟩
  | 34 => ⟨S4096x4x128, .f32⟩
  | 35 => ⟨S4096x4x128, .f32⟩
  | 36 => ⟨S4096x512, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x512, .f32⟩
  | 53 => ⟨S4096x512, .bf16⟩
  | 54 => ⟨S4096x512, .f32⟩
  | 55 => ⟨S4096x512, .bf16⟩
  | 56 => ⟨S4x1x128, .f32⟩
  | 57 => ⟨S4x1x128, .f32⟩
  | 58 => ⟨S4x128x1, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_v52 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55_1 : Ref sig .tc := ⟨.hbm, 85, rfl⟩
abbrev main_call1_v1 : Ref sig .tc := ⟨.hbm, 86, rfl⟩
abbrev main_v55_0 : Ref sig .tc := ⟨.hbm, 87, rfl⟩
abbrev main_call1_cst : Ref sig .tc := ⟨.hbm, 88, rfl⟩
abbrev main_v55_2 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call2_cst : Ref sig .tc := ⟨.hbm, 119, rfl⟩
abbrev main_call2_v0 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_cst_19 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_20 : Ref sig .tc := ⟨.hbm, 134, rfl⟩
abbrev main_v92 : Ref sig .tc := ⟨.hbm, 135, rfl⟩
abbrev main_v93 : Ref sig .tc := ⟨.hbm, 136, rfl⟩
abbrev main_cst_21 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_22 : Ref sig .tc := ⟨.hbm, 143, rfl⟩
abbrev main_v99 : Ref sig .tc := ⟨.hbm, 144, rfl⟩
abbrev main_v100 : Ref sig .tc := ⟨.hbm, 145, rfl⟩
abbrev main_cst_23 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_24 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_v111 : Ref sig .tc := ⟨.hbm, 159, rfl⟩
abbrev main_cst_26 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_27 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_28 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩

abbrev nD : Nat := 1
abbrev τ : Topo := Topo.v7x

variable {F : FTy → Type} [FloatOps F]
-- ==== SwigluKernel.lean ====
abbrev S4096x2048 : Shape := ⟨2, ![4096, 2048]⟩
abbrev S5632x2048 : Shape := ⟨2, ![5632, 2048]⟩
abbrev S4096x5632 : Shape := ⟨2, ![4096, 5632]⟩
abbrev S4x1408x2x1024 : Shape := ⟨4, ![4, 1408, 2, 1024]⟩
abbrev S4x2x1408x1024 : Shape := ⟨4, ![4, 2, 1408, 1024]⟩
abbrev S8x1408x1024 : Shape := ⟨3, ![8, 1408, 1024]⟩
abbrev S512x2048 : Shape := ⟨2, ![512, 2048]⟩
abbrev S1x1408x1024 : Shape := ⟨3, ![1, 1408, 1024]⟩
abbrev S512x1408 : Shape := ⟨2, ![512, 1408]⟩
abbrev S1x256x1024 : Shape := ⟨3, ![1, 256, 1024]⟩
abbrev S256x1024 : Shape := ⟨2, ![256, 1024]⟩
abbrev S512x1024 : Shape := ⟨2, ![512, 1024]⟩
abbrev S512x256 : Shape := ⟨2, ![512, 256]⟩
abbrev S1x128x1024 : Shape := ⟨3, ![1, 128, 1024]⟩
abbrev S128x1024 : Shape := ⟨2, ![128, 1024]⟩
abbrev S512x128 : Shape := ⟨2, ![512, 128]⟩

abbrev nBuf : Space → Nat
  | .hbm => 11
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S5632x2048, .bf16⟩
  | .hbm, ⟨5, _⟩ => ⟨S4x1408x2x1024, .bf16⟩
  | .hbm, ⟨6, _⟩ => ⟨S4x2x1408x1024, .bf16⟩
  | .hbm, ⟨7, _⟩ => ⟨S8x1408x1024, .bf16⟩
  | .hbm, ⟨8, _⟩ => ⟨S4096x5632, .bf16⟩
  | .hbm, ⟨9, _⟩ => ⟨S4096x5632, .bf16⟩
  | .hbm, ⟨10, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwigluReferenceIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .bf16⟩
  | .hbm, ⟨33, _⟩ => ⟨S4096x5632, .bf16⟩
  | .hbm, ⟨34, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== LossKernel.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x1, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x1, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== RmsPleKernel.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2x8x2048 : Shape := ⟨3, ![2, 8, 2048]⟩

abbrev nBuf : Space → Nat
  | .hbm => 12
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S1x2048, .f32⟩
  | .hbm, ⟨10, _⟩ => ⟨S4096x2048, .bf16⟩
  | .hbm, ⟨11, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c16_i32 : BitVec 32 := 16#32
  let v4 : BitVec 32 := Scalar.muli c0_i32 c16_i32
  v4
def k0_off1 (c0_i32 : BitVec 32) : Fin 2 → Nat :=
  let c16_i32 : BitVec 32 := 16#32
  let v4 : BitVec 32 := Scalar.muli c0_i32 c16_i32
  let v5 : BitVec 32 := v4
  let v6 : Index := Scalar.indexCast v5
  let c0_1 : Index := 0#32
  ![v6.toNat, 0]
def k0_mult2 : BitVec 32 :=
  let c1_i32 : BitVec 32 := 1#32
  let c16_i32_26 : BitVec 32 := 16#32
  let v80 : BitVec 32 := Scalar.muli c1_i32 c16_i32_26
  v80
def k0_mult3 : BitVec 32 :=
  let c2_i32 : BitVec 32 := 2#32
  let c16_i32_52 : BitVec 32 := 16#32
  let v156 : BitVec 32 := Scalar.muli c2_i32 c16_i32_52
  v156
def k0_mult4 : BitVec 32 :=
  let c3_i32 : BitVec 32 := 3#32
  let c16_i32_78 : BitVec 32 := 16#32
  let v232 : BitVec 32 := Scalar.muli c3_i32 c16_i32_78
  v232
def k0_mult5 : BitVec 32 :=
  let c4_i32 : BitVec 32 := 4#32
  let c16_i32_104 : BitVec 32 := 16#32
  let v308 : BitVec 32 := Scalar.muli c4_i32 c16_i32_104
  v308
def k0_mult6 : BitVec 32 :=
  let c5_i32 : BitVec 32 := 5#32
  let c16_i32_130 : BitVec 32 := 16#32
  let v384 : BitVec 32 := Scalar.muli c5_i32 c16_i32_130
  v384
def k0_mult7 : BitVec 32 :=
  let c6_i32 : BitVec 32 := 6#32
  let c16_i32_156 : BitVec 32 := 16#32
  let v460 : BitVec 32 := Scalar.muli c6_i32 c16_i32_156
  v460
def k0_mult8 : BitVec 32 :=
  let c7_i32 : BitVec 32 := 7#32
  let c16_i32_182 : BitVec 32 := 16#32
  let v536 : BitVec 32 := Scalar.muli c7_i32 c16_i32_182
  v536
def k0_mult9 : BitVec 32 :=
  let c8_i32 : BitVec 32 := 8#32
  let c16_i32_208 : BitVec 32 := 16#32
  let v612 : BitVec 32 := Scalar.muli c8_i32 c16_i32_208
  v612
def k0_mult10 : BitVec 32 :=
  let c9_i32 : BitVec 32 := 9#32
  let c16_i32_234 : BitVec 32 := 16#32
  let v688 : BitVec 32 := Scalar.muli c9_i32 c16_i32_234
  v688
def k0_mult11 : BitVec 32 :=
  let c10_i32 : BitVec 32 := 10#32
  let c16_i32_260 : BitVec 32 := 16#32
  let v764 : BitVec 32 := Scalar.muli c10_i32 c16_i32_260
  v764
def k0_mult12 : BitVec 32 :=
  let c11_i32 : BitVec 32 := 11#32
  let c16_i32_286 : BitVec 32 := 16#32
  let v840 : BitVec 32 := Scalar.muli c11_i32 c16_i32_286
  v840
def k0_mult13 : BitVec 32 :=
  let c12_i32 : BitVec 32 := 12#32
  let c16_i32_312 : BitVec 32 := 16#32
  let v916 : BitVec 32 := Scalar.muli c12_i32 c16_i32_312
  v916
def k0_mult14 : BitVec 32 :=
  let c13_i32 : BitVec 32 := 13#32
  let c16_i32_338 : BitVec 32 := 16#32
  let v992 : BitVec 32 := Scalar.muli c13_i32 c16_i32_338
  v992
def k0_mult15 : BitVec 32 :=
  let c14_i32 : BitVec 32 := 14#32
  let c16_i32_364 : BitVec 32 := 16#32
  let v1068 : BitVec 32 := Scalar.muli c14_i32 c16_i32_364
  v1068
def k0_mult16 : BitVec 32 :=
  let c15_i32 : BitVec 32 := 15#32
  let c16_i32_390 : BitVec 32 := 16#32
  let v1144 : BitVec 32 := Scalar.muli c15_i32 c16_i32_390
  v1144
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RmsPleReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x2048, .f32⟩
  | .hbm, ⟨73, _⟩ => ⟨S4096x2048, .bf16⟩
  | .hbm, ⟨74, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== RmsKernel.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2x8x2048 : Shape := ⟨3, ![2, 8, 2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c16_i32 : BitVec 32 := 16#32
  let v4 : BitVec 32 := Scalar.muli c0_i32 c16_i32
  v4
def k0_off1 (c0_i32 : BitVec 32) : Fin 2 → Nat :=
  let c16_i32 : BitVec 32 := 16#32
  let v4 : BitVec 32 := Scalar.muli c0_i32 c16_i32
  let v5 : BitVec 32 := v4
  let v6 : Index := Scalar.indexCast v5
  let c0_1 : Index := 0#32
  ![v6.toNat, 0]
def k0_mult2 : BitVec 32 :=
  let c1_i32 : BitVec 32 := 1#32
  let c16_i32_18 : BitVec 32 := 16#32
  let v55 : BitVec 32 := Scalar.muli c1_i32 c16_i32_18
  v55
def k0_mult3 : BitVec 32 :=
  let c2_i32 : BitVec 32 := 2#32
  let c16_i32_36 : BitVec 32 := 16#32
  let v106 : BitVec 32 := Scalar.muli c2_i32 c16_i32_36
  v106
def k0_mult4 : BitVec 32 :=
  let c3_i32 : BitVec 32 := 3#32
  let c16_i32_54 : BitVec 32 := 16#32
  let v157 : BitVec 32 := Scalar.muli c3_i32 c16_i32_54
  v157
def k0_mult5 : BitVec 32 :=
  let c4_i32 : BitVec 32 := 4#32
  let c16_i32_72 : BitVec 32 := 16#32
  let v208 : BitVec 32 := Scalar.muli c4_i32 c16_i32_72
  v208
def k0_mult6 : BitVec 32 :=
  let c5_i32 : BitVec 32 := 5#32
  let c16_i32_90 : BitVec 32 := 16#32
  let v259 : BitVec 32 := Scalar.muli c5_i32 c16_i32_90
  v259
def k0_mult7 : BitVec 32 :=
  let c6_i32 : BitVec 32 := 6#32
  let c16_i32_108 : BitVec 32 := 16#32
  let v310 : BitVec 32 := Scalar.muli c6_i32 c16_i32_108
  v310
def k0_mult8 : BitVec 32 :=
  let c7_i32 : BitVec 32 := 7#32
  let c16_i32_126 : BitVec 32 := 16#32
  let v361 : BitVec 32 := Scalar.muli c7_i32 c16_i32_126
  v361
def k0_mult9 : BitVec 32 :=
  let c8_i32 : BitVec 32 := 8#32
  let c16_i32_144 : BitVec 32 := 16#32
  let v412 : BitVec 32 := Scalar.muli c8_i32 c16_i32_144
  v412
def k0_mult10 : BitVec 32 :=
  let c9_i32 : BitVec 32 := 9#32
  let c16_i32_162 : BitVec 32 := 16#32
  let v463 : BitVec 32 := Scalar.muli c9_i32 c16_i32_162
  v463
def k0_mult11 : BitVec 32 :=
  let c10_i32 : BitVec 32 := 10#32
  let c16_i32_180 : BitVec 32 := 16#32
  let v514 : BitVec 32 := Scalar.muli c10_i32 c16_i32_180
  v514
def k0_mult12 : BitVec 32 :=
  let c11_i32 : BitVec 32 := 11#32
  let c16_i32_198 : BitVec 32 := 16#32
  let v565 : BitVec 32 := Scalar.muli c11_i32 c16_i32_198
  v565
def k0_mult13 : BitVec 32 :=
  let c12_i32 : BitVec 32 := 12#32
  let c16_i32_216 : BitVec 32 := 16#32
  let v616 : BitVec 32 := Scalar.muli c12_i32 c16_i32_216
  v616
def k0_mult14 : BitVec 32 :=
  let c13_i32 : BitVec 32 := 13#32
  let c16_i32_234 : BitVec 32 := 16#32
  let v667 : BitVec 32 := Scalar.muli c13_i32 c16_i32_234
  v667
def k0_mult15 : BitVec 32 :=
  let c14_i32 : BitVec 32 := 14#32
  let c16_i32_252 : BitVec 32 := 16#32
  let v718 : BitVec 32 := Scalar.muli c14_i32 c16_i32_252
  v718
def k0_mult16 : BitVec 32 :=
  let c15_i32 : BitVec 32 := 15#32
  let c16_i32_270 : BitVec 32 := 16#32
  let v769 : BitVec 32 := Scalar.muli c15_i32 c16_i32_270
  v769
def k0_mult17 : BitVec 32 :=
  let c16_i32_288 : BitVec 32 := 16#32
  let c16_i32_289 : BitVec 32 := 16#32
  let v820 : BitVec 32 := Scalar.muli c16_i32_288 c16_i32_289
  v820
def k0_mult18 : BitVec 32 :=
  let c17_i32 : BitVec 32 := 17#32
  let c16_i32_307 : BitVec 32 := 16#32
  let v871 : BitVec 32 := Scalar.muli c17_i32 c16_i32_307
  v871
def k0_mult19 : BitVec 32 :=
  let c18_i32 : BitVec 32 := 18#32
  let c16_i32_325 : BitVec 32 := 16#32
  let v922 : BitVec 32 := Scalar.muli c18_i32 c16_i32_325
  v922
def k0_mult20 : BitVec 32 :=
  let c19_i32 : BitVec 32 := 19#32
  let c16_i32_343 : BitVec 32 := 16#32
  let v973 : BitVec 32 := Scalar.muli c19_i32 c16_i32_343
  v973
def k0_mult21 : BitVec 32 :=
  let c20_i32 : BitVec 32 := 20#32
  let c16_i32_361 : BitVec 32 := 16#32
  let v1024 : BitVec 32 := Scalar.muli c20_i32 c16_i32_361
  v1024
def k0_mult22 : BitVec 32 :=
  let c21_i32 : BitVec 32 := 21#32
  let c16_i32_379 : BitVec 32 := 16#32
  let v1075 : BitVec 32 := Scalar.muli c21_i32 c16_i32_379
  v1075
def k0_mult23 : BitVec 32 :=
  let c22_i32 : BitVec 32 := 22#32
  let c16_i32_397 : BitVec 32 := 16#32
  let v1126 : BitVec 32 := Scalar.muli c22_i32 c16_i32_397
  v1126
def k0_mult24 : BitVec 32 :=
  let c23_i32 : BitVec 32 := 23#32
  let c16_i32_415 : BitVec 32 := 16#32
  let v1177 : BitVec 32 := Scalar.muli c23_i32 c16_i32_415
  v1177
def k0_mult25 : BitVec 32 :=
  let c24_i32 : BitVec 32 := 24#32
  let c16_i32_433 : BitVec 32 := 16#32
  let v1228 : BitVec 32 := Scalar.muli c24_i32 c16_i32_433
  v1228
def k0_mult26 : BitVec 32 :=
  let c25_i32 : BitVec 32 := 25#32
  let c16_i32_451 : BitVec 32 := 16#32
  let v1279 : BitVec 32 := Scalar.muli c25_i32 c16_i32_451
  v1279
def k0_mult27 : BitVec 32 :=
  let c26_i32 : BitVec 32 := 26#32
  let c16_i32_469 : BitVec 32 := 16#32
  let v1330 : BitVec 32 := Scalar.muli c26_i32 c16_i32_469
  v1330
def k0_mult28 : BitVec 32 :=
  let c27_i32 : BitVec 32 := 27#32
  let c16_i32_487 : BitVec 32 := 16#32
  let v1381 : BitVec 32 := Scalar.muli c27_i32 c16_i32_487
  v1381
def k0_mult29 : BitVec 32 :=
  let c28_i32 : BitVec 32 := 28#32
  let c16_i32_505 : BitVec 32 := 16#32
  let v1432 : BitVec 32 := Scalar.muli c28_i32 c16_i32_505
  v1432
def k0_mult30 : BitVec 32 :=
  let c29_i32 : BitVec 32 := 29#32
  let c16_i32_523 : BitVec 32 := 16#32
  let v1483 : BitVec 32 := Scalar.muli c29_i32 c16_i32_523
  v1483
def k0_mult31 : BitVec 32 :=
  let c30_i32 : BitVec 32 := 30#32
  let c16_i32_541 : BitVec 32 := 16#32
  let v1534 : BitVec 32 := Scalar.muli c30_i32 c16_i32_541
  v1534
def k0_mult32 : BitVec 32 :=
  let c31_i32 : BitVec 32 := 31#32
  let c16_i32_559 : BitVec 32 := 16#32
  let v1585 : BitVec 32 := Scalar.muli c31_i32 c16_i32_559
  v1585
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== PoolKernel.lean ====
abbrev S4096x4096 : Shape := ⟨2, ![4096, 4096]⟩
abbrev S4096x2048 : Shape := ⟨2, ![4096, 2048]⟩
abbrev S4x128x128 : Shape := ⟨3, ![4, 128, 128]⟩
abbrev S512 : Shape := ⟨1, ![512]⟩
abbrev S4096x512 : Shape := ⟨2, ![4096, 512]⟩
abbrev S1x512 : Shape := ⟨2, ![1, 512]⟩
abbrev S4096x128 : Shape := ⟨2, ![4096, 128]⟩
abbrev S1x128x128 : Shape := ⟨3, ![1, 128, 128]⟩
abbrev S1x128 : Shape := ⟨2, ![1, 128]⟩
abbrev S4160x128 : Shape := ⟨2, ![4160, 128]⟩
abbrev S128x128 : Shape := ⟨2, ![128, 128]⟩
abbrev S8x128 : Shape := ⟨2, ![8, 128]⟩
abbrev S192x128 : Shape := ⟨2, ![192, 128]⟩
abbrev S128x1 : Shape := ⟨2, ![128, 1]⟩
abbrev S16x8x128 : Shape := ⟨3, ![16, 8, 128]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S4x128x128, .f32⟩
  | .hbm, ⟨3, _⟩ => ⟨S512, .f32⟩
  | .hbm, ⟨4, _⟩ => ⟨S4096x512, .bf16⟩
  | .hbm, ⟨5, _⟩ => ⟨S1x512, .f32⟩
  | .hbm, ⟨6, _⟩ => ⟨S4096x512, .bf16⟩
  | .hbm, ⟨7, _⟩ => ⟨S4x128x128, .f32⟩
  | .hbm, ⟨8, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S4160x128, .f32⟩
  | .local _ .vmem, ⟨15, _⟩ => ⟨S4160x128, .f32⟩
  | .local _ .vmem, ⟨16, _⟩ => ⟨S128x128, .f32⟩
  | .local _ .vmem, ⟨17, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v16 : BitVec 32 := Scalar.addi c0_i32 c32_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v30 : BitVec 32 := Scalar.muli arg12 c128_i32
  v30
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v30 : BitVec 32 := Scalar.muli arg12 c128_i32
  let v31 : BitVec 32 := v30
  let v32 : Index := Scalar.indexCast v31
  let c0_32 : Index := 0#32
  ![v32.toNat, 0]
def k0_mult2 (k0_t1 : Fin k0_t1_loop.trips) : BitVec 32 :=
  let c32_i32_33 : BitVec 32 := 32#32
  let c0_i32 : BitVec 32 := 0#32
  let c1_i32 : BitVec 32 := 1#32
  let arg12 : BitVec 32 := Scf.iv c0_i32 c1_i32 k0_t1
  let c128_i32 : BitVec 32 := 128#32
  let v30 : BitVec 32 := Scalar.muli arg12 c128_i32
  let v31 : BitVec 32 := v30
  let v34 : BitVec 32 := Scalar.addi c32_i32_33 v31
  v34
def k0_off2 (k0_t1 : Fin k0_t1_loop.trips) : Fin 2 → Nat :=
  let c32_i32_33 : BitVec 32 := 32#32
  let c0_i32 : BitVec 32 := 0#32
  let c1_i32 : BitVec 32 := 1#32
  let arg12 : BitVec 32 := Scf.iv c0_i32 c1_i32 k0_t1
  let c128_i32 : BitVec 32 := 128#32
  let v30 : BitVec 32 := Scalar.muli arg12 c128_i32
  let v31 : BitVec 32 := v30
  let v34 : BitVec 32 := Scalar.addi c32_i32_33 v31
  let v35 : BitVec 32 := v34
  let v36 : Index := Scalar.indexCast v35
  let c0_34 : Index := 0#32
  ![v36.toNat, 0]
@[reducible] def k0_t2_loop : Scf.Loop 32 :=
  let c0_i32_14 : BitVec 32 := 0#32
  let c32_i32_15 : BitVec 32 := 32#32
  let v20 : BitVec 32 := Scalar.addi c0_i32_14 c32_i32_15
  let c1_i32_16 : BitVec 32 := 1#32
  ⟨c0_i32_14, v20, c1_i32_16⟩
def k0_mult3 (k0_t2 : Fin k0_t2_loop.trips) : BitVec 32 :=
  let c0_i32_14 : BitVec 32 := 0#32
  let c1_i32_16 : BitVec 32 := 1#32
  let arg12 : BitVec 32 := Scf.iv c0_i32_14 c1_i32_16 k0_t2
  let c128_i32 : BitVec 32 := 128#32
  let v30 : BitVec 32 := Scalar.muli arg12 c128_i32
  v30
def k0_off3 (k0_t2 : Fin k0_t2_loop.trips) : Fin 2 → Nat :=
  let c0_i32_14 : BitVec 32 := 0#32
  let c1_i32_16 : BitVec 32 := 1#32
  let arg12 : BitVec 32 := Scf.iv c0_i32_14 c1_i32_16 k0_t2
  let c128_i32 : BitVec 32 := 128#32
  let v30 : BitVec 32 := Scalar.muli arg12 c128_i32
  let v31 : BitVec 32 := v30
  let v32 : Index := Scalar.indexCast v31
  let c0_32 : Index := 0#32
  ![v32.toNat, 0]
def k0_off4 (k0_t2 : Fin k0_t2_loop.trips) : Fin 2 → Nat :=
  let c0_i32_14 : BitVec 32 := 0#32
  let c1_i32_16 : BitVec 32 := 1#32
  let arg12 : BitVec 32 := Scf.iv c0_i32_14 c1_i32_16 k0_t2
  let c128_i32 : BitVec 32 := 128#32
  let v30 : BitVec 32 := Scalar.muli arg12 c128_i32
  let v31 : BitVec 32 := v30
  let v64 : Index := Scalar.indexCast v31
  let c0_40 : Index := 0#32
  ![v64.toNat, 0]
def k0_mult4 (k0_t2 : Fin k0_t2_loop.trips) : BitVec 32 :=
  let c32_i32_54 : BitVec 32 := 32#32
  let c0_i32_14 : BitVec 32 := 0#32
  let c1_i32_16 : BitVec 32 := 1#32
  let arg12 : BitVec 32 := Scf.iv c0_i32_14 c1_i32_16 k0_t2
  let c128_i32 : BitVec 32 := 128#32
  let v30 : BitVec 32 := Scalar.muli arg12 c128_i32
  let v31 : BitVec 32 := v30
  let v90 : BitVec 32 := Scalar.addi c32_i32_54 v31
  v90
def k0_off5 (k0_t2 : Fin k0_t2_loop.trips) : Fin 2 → Nat :=
  let c32_i32_54 : BitVec 32 := 32#32
  let c0_i32_14 : BitVec 32 := 0#32
  let c1_i32_16 : BitVec 32 := 1#32
  let arg12 : BitVec 32 := Scf.iv c0_i32_14 c1_i32_16 k0_t2
  let c128_i32 : BitVec 32 := 128#32
  let v30 : BitVec 32 := Scalar.muli arg12 c128_i32
  let v31 : BitVec 32 := v30
  let v90 : BitVec 32 := Scalar.addi c32_i32_54 v31
  let v91 : BitVec 32 := v90
  let v92 : Index := Scalar.indexCast v91
  let c0_55 : Index := 0#32
  ![v92.toNat, 0]
@[reducible] def k0_t3_loop : Scf.Loop 32 :=
  let c0_i32_18 : BitVec 32 := 0#32
  let c32_i32_19 : BitVec 32 := 32#32
  let v21 : BitVec 32 := Scalar.addi c0_i32_18 c32_i32_19
  let c1_i32_20 : BitVec 32 := 1#32
  ⟨c0_i32_18, v21, c1_i32_20⟩
def k0_mult5 (k0_t3 : Fin k0_t3_loop.trips) : BitVec 32 :=
  let c0_i32_18 : BitVec 32 := 0#32
  let c1_i32_20 : BitVec 32 := 1#32
  let arg12 : BitVec 32 := Scf.iv c0_i32_18 c1_i32_20 k0_t3
  let c128_i32 : BitVec 32 := 128#32
  let v30 : BitVec 32 := Scalar.muli arg12 c128_i32
  v30
def k0_off6 (k0_t3 : Fin k0_t3_loop.trips) : Fin 2 → Nat :=
  let c0_i32_18 : BitVec 32 := 0#32
  let c1_i32_20 : BitVec 32 := 1#32
  let arg12 : BitVec 32 := Scf.iv c0_i32_18 c1_i32_20 k0_t3
  let c128_i32 : BitVec 32 := 128#32
  let v30 : BitVec 32 := Scalar.muli arg12 c128_i32
  let v31 : BitVec 32 := v30
  let v32 : Index := Scalar.indexCast v31
  let c0_32 : Index := 0#32
  ![v32.toNat, 0]
def k0_off7 (k0_t3 : Fin k0_t3_loop.trips) : Fin 2 → Nat :=
  let c0_i32_18 : BitVec 32 := 0#32
  let c1_i32_20 : BitVec 32 := 1#32
  let arg12 : BitVec 32 := Scf.iv c0_i32_18 c1_i32_20 k0_t3
  let c128_i32 : BitVec 32 := 128#32
  let v30 : BitVec 32 := Scalar.muli arg12 c128_i32
  let v31 : BitVec 32 := v30
  let v63 : Index := Scalar.indexCast v31
  let c0_37 : Index := 0#32
  ![v63.toNat, 0]
def cc0_transform_0 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolReferenceIdeal.lean ====
abbrev S4096x4096 : Shape := ⟨2, ![4096, 4096]⟩
abbrev S4096x2048 : Shape := ⟨2, ![4096, 2048]⟩
abbrev S4x128x128 : Shape := ⟨3, ![4, 128, 128]⟩
abbrev S512 : Shape := ⟨1, ![512]⟩
abbrev S4096x512 : Shape := ⟨2, ![4096, 512]⟩
abbrev S4096x4x128 : Shape := ⟨3, ![4096, 4, 128]⟩
abbrev S_ : Shape := ⟨0, ![]⟩
abbrev S4096 : Shape := ⟨1, ![4096]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4096x1 : Shape := ⟨2, ![4096, 1]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S1x512 : Shape := ⟨2, ![1, 512]⟩
abbrev S4x4096x128 : Shape := ⟨3, ![4, 4096, 128]⟩

abbrev nBuf : Space → Nat
  | .hbm => 168
  | .vmem => 0
  | .smem => 0
  | _ => 0

abbrev hbmTy0_0 (i : Nat) : BufTy := match i % 128 with
  | 0 => ⟨S4096x4096, .f32⟩
  | 1 => ⟨S4096x2048, .bf16⟩
  | 2 => ⟨S4x128x128, .f32⟩
  | 3 => ⟨S512, .f32⟩
  | 4 => ⟨S4096x512, .f32⟩
  | 5 => ⟨S4096x4x128, .f32⟩
  | 6 => ⟨S_, .f32⟩
  | 7 => ⟨S_, .f32⟩
  | 8 => ⟨S4096x4x128, .f32⟩
  | 9 => ⟨S4096, .i32⟩
  | 10 => ⟨S_, .i32⟩
  | 11 => ⟨S4096, .i32⟩
  | 12 => ⟨S4096, .i32⟩
  | 13 => ⟨S4096x1x128, .f32⟩
  | 14 => ⟨S4096x128, .f32⟩
  | 15 => ⟨S_, .f32⟩
  | 16 => ⟨S2x128, .f32⟩
  | 17 => ⟨S4098x128, .f32⟩
  | 18 => ⟨S_, .f32⟩
  | 19 => ⟨S2x128, .f32⟩
  | 20 => ⟨S4096x128, .f32⟩
  | 21 => ⟨S_, .i32⟩
  | 22 => ⟨S4096, .i32⟩
  | 23 => ⟨S4096, .i32⟩
  | 24 => ⟨S4096, .f32⟩
  | 25 => ⟨S4096x128, .f32⟩
  | 26 => ⟨S4096x1, .f32⟩
  | 27 => ⟨S4096x128, .f32⟩
  | 28 => ⟨S4096x128, .f32⟩
  | 29 => ⟨S4096x1x128, .f32⟩
  | 30 => ⟨S4096x128, .f32⟩
  | 31 => ⟨S_, .f32⟩
  | 32 => ⟨S4x128, .f32⟩
  | 33 => ⟨S4100x128, .f32⟩
  | 34 => ⟨S_, .f32⟩
  | 35 => ⟨S4x128, .f32⟩
  | 36 => ⟨S4096x128, .f32⟩
  | 37 => ⟨S_, .i32⟩
  | 38 => ⟨S4096, .i32⟩
  | 39 => ⟨S4096, .i32⟩
  | 40 => ⟨S4096, .f32⟩
  | 41 => ⟨S4096x128, .f32⟩
  | 42 => ⟨S4096x1, .f32⟩
  | 43 => ⟨S4096x128, .f32⟩
  | 44 => ⟨S4096x128, .f32⟩
  | 45 => ⟨S4096x1x128, .f32⟩
  | 46 => ⟨S4096x128, .f32⟩
  | 47 => ⟨S_, .f32⟩
  | 48 => ⟨S8x128, .f32⟩
  | 49 => ⟨S4104x128, .f32⟩
  | 50 => ⟨S_, .f32⟩
  | 51 => ⟨S8x128, .f32⟩
  | 52 => ⟨S4096x128, .f32⟩
  | 53 => ⟨S_, .i32⟩
  | 54 => ⟨S4096, .i32⟩
  | 55 => ⟨S4096, .i32⟩
  | 56 => ⟨S4096, .f32⟩
  | 57 => ⟨S4096x128, .f32⟩
  | 58 => ⟨S4096x1, .f32⟩
  | 59 => ⟨S4096x128, .f32⟩
  | 60 => ⟨S4096x128, .f32⟩
  | 61 => ⟨S4096x1x128, .f32⟩
  | 62 => ⟨S4096x128, .f32⟩
  | 63 => ⟨S_, .f32⟩
  | 64 => ⟨S16x128, .f32⟩
  | 65 => ⟨S4112x128, .f32⟩
  | 66 => ⟨S_, .f32⟩
  | 67 => ⟨S16x128, .f32⟩
  | 68 => ⟨S4096x128, .f32⟩
  | 69 => ⟨S_, .i32⟩
  | 70 => ⟨S4096, .i32⟩
  | 71 => ⟨S4096, .i32⟩
  | 72 => ⟨S4096, .f32⟩
  | 73 => ⟨S4096x128, .f32⟩
  | 74 => ⟨S4096x1, .f32⟩
  | 75 => ⟨S4096x128, .f32⟩
  | 76 => ⟨S4096x128, .f32⟩
  | 77 => ⟨S4096x1x128, .f32⟩
  | 78 => ⟨S4096x1x128, .f32⟩
  | 79 => ⟨S4096x1x128, .f32⟩
  | 80 => ⟨S4096x1x128, .f32⟩
  | 81 => ⟨S4096x4x128, .f32⟩
  | 82 => ⟨S4096x4x128, .f32⟩
  | 83 => ⟨S4x128x4096, .f32⟩
  | 84 => ⟨S4096x4x128, .f32⟩
  | 85 => ⟨S4096x512, .f32⟩
  | 86 => ⟨S1x512, .f32⟩
  | 87 => ⟨S4096x512, .f32⟩
  | 88 => ⟨S4096x512, .f32⟩
  | 89 => ⟨S4096x512, .bf16⟩
  | 90 => ⟨S4096x512, .f32⟩
  | 91 => ⟨S4096x512, .f32⟩
  | 92 => ⟨S_, .f32⟩
  | 93 => ⟨S512, .f32⟩
  | 94 => ⟨S1x512, .f32⟩
  | 95 => ⟨S4096x512, .f32⟩
  | 96 => ⟨S4096x512, .f32⟩
  | 97 => ⟨S_, .f32⟩
  | 98 => ⟨S512, .f32⟩
  | 99 => ⟨S4096x4x128, .f32⟩
  | 100 => ⟨S4x128x4096, .f32⟩
  | 101 => ⟨S4x4096x128, .f32⟩
  | 102 => ⟨S4096x4x128, .f32⟩
  | 103 => ⟨S4x128x128, .f32⟩
  | 104 => ⟨S4x128x128, .f32⟩
  | 105 => ⟨S4096x4x128, .f32⟩
  | 106 => ⟨S4096x1x128, .f32⟩
  | 107 => ⟨S4096x128, .f32⟩
  | 108 => ⟨S4096x1x128, .f32⟩
  | 109 => ⟨S4096x128, .f32⟩
  | 110 => ⟨S4096x1x128, .f32⟩
  | 111 => ⟨S4096x128, .f32⟩
  | 112 => ⟨S4096x1x128, .f32⟩
  | 113 => ⟨S4096x128, .f32⟩
  | 114 => ⟨S4096x128, .f32⟩
  | 115 => ⟨S4096x128, .f32⟩
  | 116 => ⟨S4096x128, .f32⟩
  | 117 => ⟨S_, .f32⟩
  | 118 => ⟨S4112x128, .f32⟩
  | 119 => ⟨S16x128, .f32⟩
  | 120 => ⟨S4096x128, .f32⟩
  | 121 => ⟨S4096x128, .f32⟩
  | 122 => ⟨S4096x1x128, .f32⟩
  | 123 => ⟨S_, .f32⟩
  | 124 => ⟨S4096x4x128, .f32⟩
  | 125 => ⟨S4096x128, .f32⟩
  | 126 => ⟨S4096x128, .f32⟩
  | 127 => ⟨S4096x128, .f32⟩
  | _ => ⟨S4096x4096, .f32⟩

abbrev hbmTy0_1 (i : Nat) : BufTy := match i % 128 with
  | 0 => ⟨S_, .f32⟩
  | 1 => ⟨S4104x128, .f32⟩
  | 2 => ⟨S8x128, .f32⟩
  | 3 => ⟨S4096x128, .f32⟩
  | 4 => ⟨S4096x128, .f32⟩
  | 5 => ⟨S4096x1x128, .f32⟩
  | 6 => ⟨S_, .f32⟩
  | 7 => ⟨S4096x4x128, .f32⟩
  | 8 => ⟨S4096x4x128, .f32⟩
  | 9 => ⟨S4096x128, .f32⟩
  | 10 => ⟨S4096x128, .f32⟩
  | 11 => ⟨S4096x128, .f32⟩
  | 12 => ⟨S_, .f32⟩
  | 13 => ⟨S4100x128, .f32⟩
  | 14 => ⟨S4x128, .f32⟩
  | 15 => ⟨S4096x128, .f32⟩
  | 16 => ⟨S4096x128, .f32⟩
  | 17 => ⟨S4096x1x128, .f32⟩
  | 18 => ⟨S_, .f32⟩
  | 19 => ⟨S4096x4x128, .f32⟩
  | 20 => ⟨S4096x4x128, .f32⟩
  | 21 => ⟨S4096x128, .f32⟩
  | 22 => ⟨S4096x128, .f32⟩
  | 23 => ⟨S4096x128, .f32⟩
  | 24 => ⟨S_, .f32⟩
  | 25 => ⟨S4098x128, .f32⟩
  | 26 => ⟨S2x128, .f32⟩
  | 27 => ⟨S4096x128, .f32⟩
  | 28 => ⟨S4096x128, .f32⟩
  | 29 => ⟨S4096x1x128, .f32⟩
  | 30 => ⟨S_, .f32⟩
  | 31 => ⟨S4096x4x128, .f32⟩
  | 32 => ⟨S4096x4x128, .f32⟩
  | 33 => ⟨S_, .f32⟩
  | 34 => ⟨S_, .f32⟩
  | 35 => ⟨S4096x4x128, .f32⟩
  | 36 => ⟨S4096x4x128, .f32⟩
  | 37 => ⟨S4096x512, .f32⟩
  | 38 => ⟨S4096x512, .bf16⟩
  | 39 => ⟨S1x512, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_13 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_14 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_15 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_16 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_17 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_18 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_19 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_cst_20 : Ref sig .tc := ⟨.hbm, 158, rfl⟩
abbrev main_v130 : Ref sig .tc := ⟨.hbm, 159, rfl⟩
abbrev main_v131 : Ref sig .tc := ⟨.hbm, 160, rfl⟩
abbrev main_call1_call0_cst : Ref sig .tc := ⟨.hbm, 161, rfl⟩
abbrev main_call1_call0_v0 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩

abbrev nD : Nat := 1
abbrev τ : Topo := Topo.v7x

variable {F : FTy → Type} [FloatOps F]
-- ==== CfConvKernel.lean ====
abbrev S4096x4096 : Shape := ⟨2, ![4096, 4096]⟩
abbrev S4096x512 : Shape := ⟨2, ![4096, 512]⟩
abbrev S31x512 : Shape := ⟨2, ![31, 512]⟩
abbrev S4096x128 : Shape := ⟨2, ![4096, 128]⟩
abbrev S31x128 : Shape := ⟨2, ![31, 128]⟩
abbrev S4160x128 : Shape := ⟨2, ![4160, 128]⟩
abbrev S31x8x128 : Shape := ⟨3, ![31, 8, 128]⟩
abbrev S128x128 : Shape := ⟨2, ![128, 128]⟩
abbrev S192x128 : Shape := ⟨2, ![192, 128]⟩
abbrev S1x128 : Shape := ⟨2, ![1, 128]⟩
abbrev S1x8x128 : Shape := ⟨3, ![1, 8, 128]⟩
abbrev S8x128 : Shape := ⟨2, ![8, 128]⟩
abbrev S16x8x128 : Shape := ⟨3, ![16, 8, 128]⟩
abbrev S128 : Shape := ⟨1, ![128]⟩

abbrev nBuf : Space → Nat
  | .hbm => 6
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S31x512, .f32⟩
  | .hbm, ⟨3, _⟩ => ⟨S4096x512, .bf16⟩
  | .hbm, ⟨4, _⟩ => ⟨S4096x512, .bf16⟩
  | .hbm, ⟨5, _⟩ => ⟨S31x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S31x128, .f32⟩
  | .local _ .vmem, ⟨7, _⟩ => ⟨S31x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S31x128, .f32⟩
  | .local _ .vmem, ⟨13, _⟩ => ⟨S31x128, .f32⟩
  | .local _ .vmem, ⟨14, _⟩ => ⟨S4160x128, .f32⟩
  | .local _ .vmem, ⟨15, _⟩ => ⟨S4160x128, .f32⟩
  | .local _ .vmem, ⟨16, _⟩ => ⟨S31x8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v16 : BitVec 32 := Scalar.addi c0_i32 c32_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v173 : BitVec 32 := Scalar.muli arg11 c128_i32
  v173
def k0_mult2 (k0_t1 : Fin k0_t1_loop.trips) : BitVec 32 :=
  let c32_i32_175 : BitVec 32 := 32#32
  let c0_i32 : BitVec 32 := 0#32
  let c1_i32 : BitVec 32 := 1#32
  let arg11 : BitVec 32 := Scf.iv c0_i32 c1_i32 k0_t1
  let c128_i32 : BitVec 32 := 128#32
  let v173 : BitVec 32 := Scalar.muli arg11 c128_i32
  let v174 : BitVec 32 := v173
  let v175 : BitVec 32 := Scalar.addi c32_i32_175 v174
  v175
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v173 : BitVec 32 := Scalar.muli arg11 c128_i32
  let v174 : BitVec 32 := v173
  let v177 : Index := Scalar.indexCast v174
  let c0_176 : Index := 0#32
  ![v177.toNat, 0]
def k0_off2 (k0_t1 : Fin k0_t1_loop.trips) : Fin 2 → Nat :=
  let c32_i32_175 : BitVec 32 := 32#32
  let c0_i32 : BitVec 32 := 0#32
  let c1_i32 : BitVec 32 := 1#32
  let arg11 : BitVec 32 := Scf.iv c0_i32 c1_i32 k0_t1
  let c128_i32 : BitVec 32 := 128#32
  let v173 : BitVec 32 := Scalar.muli arg11 c128_i32
  let v174 : BitVec 32 := v173
  let v175 : BitVec 32 := Scalar.addi c32_i32_175 v174
  let v176 : BitVec 32 := v175
  let v189 : Index := Scalar.indexCast v176
  let c0_181 : Index := 0#32
  ![v189.toNat, 0]
@[reducible] def k0_t2_loop : Scf.Loop 32 :=
  let c0_i32_15 : BitVec 32 := 0#32
  let c32_i32_16 : BitVec 32 := 32#32
  let v17 : BitVec 32 := Scalar.addi c0_i32_15 c32_i32_16
  let c1_i32_17 : BitVec 32 := 1#32
  ⟨c0_i32_15, v17, c1_i32_17⟩
def k0_mult3 (k0_t2 : Fin k0_t2_loop.trips) : BitVec 32 :=
  let c0_i32_15 : BitVec 32 := 0#32
  let c1_i32_17 : BitVec 32 := 1#32
  let arg11 : BitVec 32 := Scf.iv c0_i32_15 c1_i32_17 k0_t2
  let c128_i32 : BitVec 32 := 128#32
  let v173 : BitVec 32 := Scalar.muli arg11 c128_i32
  v173
def k0_off3 (k0_t2 : Fin k0_t2_loop.trips) : Fin 2 → Nat :=
  let c0_i32_15 : BitVec 32 := 0#32
  let c1_i32_17 : BitVec 32 := 1#32
  let arg11 : BitVec 32 := Scf.iv c0_i32_15 c1_i32_17 k0_t2
  let c128_i32 : BitVec 32 := 128#32
  let v173 : BitVec 32 := Scalar.muli arg11 c128_i32
  let v174 : BitVec 32 := v173
  let v175 : Index := Scalar.indexCast v174
  let c0_175 : Index := 0#32
  ![v175.toNat, 0]
def k0_off4 (k0_t2 : Fin k0_t2_loop.trips) : Fin 2 → Nat :=
  let c0_i32_15 : BitVec 32 := 0#32
  let c1_i32_17 : BitVec 32 := 1#32
  let arg11 : BitVec 32 := Scf.iv c0_i32_15 c1_i32_17 k0_t2
  let c128_i32 : BitVec 32 := 128#32
  let v173 : BitVec 32 := Scalar.muli arg11 c128_i32
  let v174 : BitVec 32 := v173
  let v706 : Index := Scalar.indexCast v174
  let c0_458 : Index := 0#32
  ![v706.toNat, 0]
def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CfConvReferenceIdeal.lean ====
abbrev S4096x4096 : Shape := ⟨2, ![4096, 4096]⟩
abbrev S4096x512 : Shape := ⟨2, ![4096, 512]⟩
abbrev S31x512 : Shape := ⟨2, ![31, 512]⟩
abbrev S4096x1024 : Shape := ⟨2, ![4096, 1024]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S512 : Shape := ⟨1, ![512]⟩

abbrev nBuf : Space → Nat
  | .hbm => 718
  | .vmem => 0
  | .smem => 0
  | _ => 0

abbrev hbmTy0_0 (i : Nat) : BufTy := match i % 128 with
  | 0 => ⟨S4096x4096, .f32⟩
  | 1 => ⟨S4096x512, .f32⟩
  | 2 => ⟨S31x512, .f32⟩
  | 3 => ⟨S4096x1024, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S_, .f32⟩
  | 20 => ⟨S30x512, .f32⟩
  | 21 => ⟨S4126x512, .f32⟩
  | 22 => ⟨S_, .f32⟩
  | 23 => ⟨S30x512, .f32⟩
  | 24 => ⟨S1x512, .f32⟩
  | 25 => ⟨S512, .f32⟩
  | 26 => ⟨S4096x512, .f32⟩
  | 27 => ⟨S1x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S4096x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S1x512, .f32⟩
  | 90 => ⟨S512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S1x512, .f32⟩
  | 111 => ⟨S512, .f32⟩
  | 112 => ⟨S4096x512, .f32⟩
  | 113 => ⟨S1x512, .f32⟩
  | 114 => ⟨S4096x512, .f32⟩
  | 115 => ⟨S4096x512, .f32⟩
  | 116 => ⟨S4096x512, .f32⟩
  | 117 => ⟨S1x512, .f32⟩
  | 118 => ⟨S512, .f32⟩
  | 119 => ⟨S4096x512, .f32⟩
  | 120 => ⟨S1x512, .f32⟩
  | 121 => ⟨S4096x512, .f32⟩
  | 122 => ⟨S4096x512, .f32⟩
  | 123 => ⟨S4096x512, .f32⟩
  | 124 => ⟨S1x512, .f32⟩
  | 125 => ⟨S512, .f32⟩
  | 126 => ⟨S4096x512, .f32⟩
  | 127 => ⟨S1x512, .f32⟩
  | _ => ⟨S4096x4096, .f32⟩

abbrev hbmTy0_1 (i : Nat) : BufTy := match i % 128 with
  | 0 => ⟨S4096x512, .f32⟩
  | 1 => ⟨S4096x512, .f32⟩
  | 2 => ⟨S4096x512, .f32⟩
  | 3 => ⟨S1x512, .f32⟩
  | 4 => ⟨S512, .f32⟩
  | 5 => ⟨S4096x512, .f32⟩
  | 6 => ⟨S1x512, .f32⟩
  | 7 => ⟨S4096x512, .f32⟩
  | 8 => ⟨S4096x512, .f32⟩
  | 9 => ⟨S4096x512, .f32⟩
  | 10 => ⟨S1x512, .f32⟩
  | 11 => ⟨S512, .f32⟩
  | 12 => ⟨S4096x512, .f32⟩
  | 13 => ⟨S1x512, .f32⟩
  | 14 => ⟨S4096x512, .f32⟩
  | 15 => ⟨S4096x512, .f32⟩
  | 16 => ⟨S4096x512, .f32⟩
  | 17 => ⟨S1x512, .f32⟩
  | 18 => ⟨S512, .f32⟩
  | 19 => ⟨S4096x512, .f32⟩
  | 20 => ⟨S1x512, .f32⟩
  | 21 => ⟨S4096x512, .f32⟩
  | 22 => ⟨S4096x512, .f32⟩
  | 23 => ⟨S4096x512, .f32⟩
  | 24 => ⟨S1x512, .f32⟩
  | 25 => ⟨S512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S1x512, .f32⟩
  | 46 => ⟨S512, .f32⟩
  | 47 => ⟨S4096x512, .f32⟩
  | 48 => ⟨S1x512, .f32⟩
  | 49 => ⟨S4096x512, .f32⟩
  | 50 => ⟨S4096x512, .f32⟩
  | 51 => ⟨S4096x512, .f32⟩
  | 52 => ⟨S1x512, .f32⟩
  | 53 => ⟨S512, .f32⟩
  | 54 => ⟨S4096x512, .f32⟩
  | 55 => ⟨S1x512, .f32⟩
  | 56 => ⟨S4096x512, .f32⟩
  | 57 => ⟨S4096x512, .f32⟩
  | 58 => ⟨S4096x512, .f32⟩
  | 59 => ⟨S1x512, .f32⟩
  | 60 => ⟨S512, .f32⟩
  | 61 => ⟨S4096x512, .f32⟩
  | 62 => ⟨S1x512, .f32⟩
  | 63 => ⟨S4096x512, .f32⟩
  | 64 => ⟨S4096x512, .f32⟩
  | 65 => ⟨S4096x512, .f32⟩
  | 66 => ⟨S1x512, .f32⟩
  | 67 => ⟨S512, .f32⟩
  | 68 => ⟨S4096x512, .f32⟩
  | 69 => ⟨S1x512, .f32⟩
  | 70 => ⟨S4096x512, .f32⟩
  | 71 => ⟨S4096x512, .f32⟩
  | 72 => ⟨S4096x512, .f32⟩
  | 73 => ⟨S1x512, .f32⟩
  | 74 => ⟨S512, .f32⟩
  | 75 => ⟨S4096x512, .f32⟩
  | 76 => ⟨S1x512, .f32⟩
  | 77 => ⟨S4096x512, .f32⟩
  | 78 => ⟨S4096x512, .f32⟩
  | 79 => ⟨S4096x512, .f32⟩
  | 80 => ⟨S1x512, .f32⟩
  | 81 => ⟨S512, .f32⟩
  | 82 => ⟨S4096x512, .f32⟩
  | 83 => ⟨S1x512, .f32⟩
  | 84 => ⟨S4096x512, .f32⟩
  | 85 => ⟨S4096x512, .f32⟩
  | 86 => ⟨S4096x512, .f32⟩
  | 87 => ⟨S1x512, .f32⟩
  | 88 => ⟨S512, .f32⟩
  | 89 => ⟨S4096x512, .f32⟩
  | 90 => ⟨S1x512, .f32⟩
  | 91 => ⟨S4096x512, .f32⟩
  | 92 => ⟨S4096x512, .f32⟩
  | 93 => ⟨S4096x512, .f32⟩
  | 94 => ⟨S1x512, .f32⟩
  | 95 => ⟨S512, .f32⟩
  | 96 => ⟨S4096x512, .f32⟩
  | 97 => ⟨S1x512, .f32⟩
  | 98 => ⟨S4096x512, .f32⟩
  | 99 => ⟨S4096x512, .f32⟩
  | 100 => ⟨S4096x512, .f32⟩
  | 101 => ⟨S1x512, .f32⟩
  | 102 => ⟨S512, .f32⟩
  | 103 => ⟨S4096x512, .f32⟩
  | 104 => ⟨S1x512, .f32⟩
  | 105 => ⟨S4096x512, .f32⟩
  | 106 => ⟨S4096x512, .f32⟩
  | 107 => ⟨S4096x512, .f32⟩
  | 108 => ⟨S1x512, .f32⟩
  | 109 => ⟨S512, .f32⟩
  | 110 => ⟨S4096x512, .f32⟩
  | 111 => ⟨S1x512, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S4096x512, .f32⟩
  | 119 => ⟨S4096x512, .f32⟩
  | 120 => ⟨S_, .f32⟩
  | 121 => ⟨S512, .f32⟩
  | 122 => ⟨S1x512, .f32⟩
  | 123 => ⟨S_, .f32⟩
  | 124 => ⟨S512, .f32⟩
  | 125 => ⟨S_, .f32⟩
  | 126 => ⟨S4126x512, .f32⟩
  | 127 => ⟨S1x512, .f32⟩
  | _ => ⟨S4096x4096, .f32⟩

abbrev hbmTy0_2 (i : Nat) : BufTy := match i % 128 with
  | 0 => ⟨S_, .f32⟩
  | 1 => ⟨S31x512, .f32⟩
  | 2 => ⟨S4096x512, .f32⟩
  | 3 => ⟨S4096x512, .f32⟩
  | 4 => ⟨S4096x512, .f32⟩
  | 5 => ⟨S_, .f32⟩
  | 6 => ⟨S512, .f32⟩
  | 7 => ⟨S1x512, .f32⟩
  | 8 => ⟨S_, .f32⟩
  | 9 => ⟨S512, .f32⟩
  | 10 => ⟨S_, .f32⟩
  | 11 => ⟨S4126x512, .f32⟩
  | 12 => ⟨S4126x512, .f32⟩
  | 13 => ⟨S1x512, .f32⟩
  | 14 => ⟨S_, .f32⟩
  | 15 => ⟨S31x512, .f32⟩
  | 16 => ⟨S31x512, .f32⟩
  | 17 => ⟨S4096x512, .f32⟩
  | 18 => ⟨S4096x512, .f32⟩
  | 19 => ⟨S4096x512, .f32⟩
  | 20 => ⟨S_, .f32⟩
  | 21 => ⟨S512, .f32⟩
  | 22 => ⟨S1x512, .f32⟩
  | 23 => ⟨S_, .f32⟩
  | 24 => ⟨S512, .f32⟩
  | 25 => ⟨S_, .f32⟩
  | 26 => ⟨S4126x512, .f32⟩
  | 27 => ⟨S4126x512, .f32⟩
  | 28 => ⟨S1x512, .f32⟩
  | 29 => ⟨S_, .f32⟩
  | 30 => ⟨S31x512, .f32⟩
  | 31 => ⟨S31x512, .f32⟩
  | 32 => ⟨S4096x512, .f32⟩
  | 33 => ⟨S4096x512, .f32⟩
  | 34 => ⟨S4096x512, .f32⟩
  | 35 => ⟨S_, .f32⟩
  | 36 => ⟨S512, .f32⟩
  | 37 => ⟨S1x512, .f32⟩
  | 38 => ⟨S_, .f32⟩
  | 39 => ⟨S512, .f32⟩
  | 40 => ⟨S_, .f32⟩
  | 41 => ⟨S4126x512, .f32⟩
  | 42 => ⟨S4126x512, .f32⟩
  | 43 => ⟨S1x512, .f32⟩
  | 44 => ⟨S_, .f32⟩
  | 45 => ⟨S31x512, .f32⟩
  | 46 => ⟨S31x512, .f32⟩
  | 47 => ⟨S4096x512, .f32⟩
  | 48 => ⟨S4096x512, .f32⟩
  | 49 => ⟨S4096x512, .f32⟩
  | 50 => ⟨S_, .f32⟩
  | 51 => ⟨S512, .f32⟩
  | 52 => ⟨S1x512, .f32⟩
  | 53 => ⟨S_, .f32⟩
  | 54 => ⟨S512, .f32⟩
  | 55 => ⟨S_, .f32⟩
  | 56 => ⟨S4126x512, .f32⟩
  | 57 => ⟨S4126x512, .f32⟩
  | 58 => ⟨S1x512, .f32⟩
  | 59 => ⟨S_, .f32⟩
  | 60 => ⟨S31x512, .f32⟩
  | 61 => ⟨S31x512, .f32⟩
  | 62 => ⟨S4096x512, .f32⟩
  | 63 => ⟨S4096x512, .f32⟩
  | 64 => ⟨S4096x512, .f32⟩
  | 65 => ⟨S_, .f32⟩
  | 66 => ⟨S512, .f32⟩
  | 67 => ⟨S1x512, .f32⟩
  | 68 => ⟨S_, .f32⟩
  | 69 => ⟨S512, .f32⟩
  | 70 => ⟨S_, .f32⟩
  | 71 => ⟨S4126x512, .f32⟩
  | 72 => ⟨S4126x512, .f32⟩
  | 73 => ⟨S1x512, .f32⟩
  | 74 => ⟨S_, .f32⟩
  | 75 => ⟨S31x512, .f32⟩
  | 76 => ⟨S31x512, .f32⟩
  | 77 => ⟨S4096x512, .f32⟩
  | 78 => ⟨S4096x512, .f32⟩
  | 79 => ⟨S4096x512, .f32⟩
  | 80 => ⟨S_, .f32⟩
  | 81 => ⟨S512, .f32⟩
  | 82 => ⟨S1x512, .f32⟩
  | 83 => ⟨S_, .f32⟩
  | 84 => ⟨S512, .f32⟩
  | 85 => ⟨S_, .f32⟩
  | 86 => ⟨S4126x512, .f32⟩
  | 87 => ⟨S4126x512, .f32⟩
  | 88 => ⟨S1x512, .f32⟩
  | 89 => ⟨S_, .f32⟩
  | 90 => ⟨S31x512, .f32⟩
  | 91 => ⟨S31x512, .f32⟩
  | 92 => ⟨S4096x512, .f32⟩
  | 93 => ⟨S4096x512, .f32⟩
  | 94 => ⟨S4096x512, .f32⟩
  | 95 => ⟨S_, .f32⟩
  | 96 => ⟨S512, .f32⟩
  | 97 => ⟨S1x512, .f32⟩
  | 98 => ⟨S_, .f32⟩
  | 99 => ⟨S512, .f32⟩
  | 100 => ⟨S_, .f32⟩
  | 101 => ⟨S4126x512, .f32⟩
  | 102 => ⟨S4126x512, .f32⟩
  | 103 => ⟨S1x512, .f32⟩
  | 104 => ⟨S_, .f32⟩
  | 105 => ⟨S31x512, .f32⟩
  | 106 => ⟨S31x512, .f32⟩
  | 107 => ⟨S4096x512, .f32⟩
  | 108 => ⟨S4096x512, .f32⟩
  | 109 => ⟨S4096x512, .f32⟩
  | 110 => ⟨S_, .f32⟩
  | 111 => ⟨S512, .f32⟩
  | 112 => ⟨S1x512, .f32⟩
  | 113 => ⟨S_, .f32⟩
  | 114 => ⟨S512, .f32⟩
  | 115 => ⟨S_, .f32⟩
  | 116 => ⟨S4126x512, .f32⟩
  | 117 => ⟨S4126x512, .f32⟩
  | 118 => ⟨S1x512, .f32⟩
  | 119 => ⟨S_, .f32⟩
  | 120 => ⟨S31x512, .f32⟩
  | 121 => ⟨S31x512, .f32⟩
  | 122 => ⟨S4096x512, .f32⟩
  | 123 => ⟨S4096x512, .f32⟩
  | 124 => ⟨S4096x512, .f32⟩
  | 125 => ⟨S_, .f32⟩
  | 126 => ⟨S512, .f32⟩
  | 127 => ⟨S1x512, .f32⟩
  | _ => ⟨S4096x4096, .f32⟩

abbrev hbmTy0_3 (i : Nat) : BufTy := match i % 128 with
  | 0 => ⟨S_, .f32⟩
  | 1 => ⟨S512, .f32⟩
  | 2 => ⟨S_, .f32⟩
  | 3 => ⟨S4126x512, .f32⟩
  | 4 => ⟨S4126x512, .f32⟩
  | 5 => ⟨S1x512, .f32⟩
  | 6 => ⟨S_, .f32⟩
  | 7 => ⟨S31x512, .f32⟩
  | 8 => ⟨S31x512, .f32⟩
  | 9 => ⟨S4096x512, .f32⟩
  | 10 => ⟨S4096x512, .f32⟩
  | 11 => ⟨S4096x512, .f32⟩
  | 12 => ⟨S_, .f32⟩
  | 13 => ⟨S512, .f32⟩
  | 14 => ⟨S1x512, .f32⟩
  | 15 => ⟨S_, .f32⟩
  | 16 => ⟨S512, .f32⟩
  | 17 => ⟨S_, .f32⟩
  | 18 => ⟨S4126x512, .f32⟩
  | 19 => ⟨S4126x512, .f32⟩
  | 20 => ⟨S1x512, .f32⟩
  | 21 => ⟨S_, .f32⟩
  | 22 => ⟨S31x512, .f32⟩
  | 23 => ⟨S31x512, .f32⟩
  | 24 => ⟨S4096x512, .f32⟩
  | 25 => ⟨S4096x512, .f32⟩
  | 26 => ⟨S4096x512, .f32⟩
  | 27 => ⟨S_, .f32⟩
  | 28 => ⟨S512, .f32⟩
  | 29 => ⟨S1x512, .f32⟩
  | 30 => ⟨S_, .f32⟩
  | 31 => ⟨S512, .f32⟩
  | 32 => ⟨S_, .f32⟩
  | 33 => ⟨S4126x512, .f32⟩
  | 34 => ⟨S4126x512, .f32⟩
  | 35 => ⟨S1x512, .f32⟩
  | 36 => ⟨S_, .f32⟩
  | 37 => ⟨S31x512, .f32⟩
  | 38 => ⟨S31x512, .f32⟩
  | 39 => ⟨S4096x512, .f32⟩
  | 40 => ⟨S4096x512, .f32⟩
  | 41 => ⟨S4096x512, .f32⟩
  | 42 => ⟨S_, .f32⟩
  | 43 => ⟨S512, .f32⟩
  | 44 => ⟨S1x512, .f32⟩
  | 45 => ⟨S_, .f32⟩
  | 46 => ⟨S512, .f32⟩
  | 47 => ⟨S_, .f32⟩
  | 48 => ⟨S4126x512, .f32⟩
  | 49 => ⟨S4126x512, .f32⟩
  | 50 => ⟨S1x512, .f32⟩
  | 51 => ⟨S_, .f32⟩
  | 52 => ⟨S31x512, .f32⟩
  | 53 => ⟨S31x512, .f32⟩
  | 54 => ⟨S4096x512, .f32⟩
  | 55 => ⟨S4096x512, .f32⟩
  | 56 => ⟨S4096x512, .f32⟩
  | 57 => ⟨S_, .f32⟩
  | 58 => ⟨S512, .f32⟩
  | 59 => ⟨S1x512, .f32⟩
  | 60 => ⟨S_, .f32⟩
  | 61 => ⟨S512, .f32⟩
  | 62 => ⟨S_, .f32⟩
  | 63 => ⟨S4126x512, .f32⟩
  | 64 => ⟨S4126x512, .f32⟩
  | 65 => ⟨S1x512, .f32⟩
  | 66 => ⟨S_, .f32⟩
  | 67 => ⟨S31x512, .f32⟩
  | 68 => ⟨S31x512, .f32⟩
  | 69 => ⟨S4096x512, .f32⟩
  | 70 => ⟨S4096x512, .f32⟩
  | 71 => ⟨S4096x512, .f32⟩
  | 72 => ⟨S_, .f32⟩
  | 73 => ⟨S512, .f32⟩
  | 74 => ⟨S1x512, .f32⟩
  | 75 => ⟨S_, .f32⟩
  | 76 => ⟨S512, .f32⟩
  | 77 => ⟨S_, .f32⟩
  | 78 => ⟨S4126x512, .f32⟩
  | 79 => ⟨S4126x512, .f32⟩
  | 80 => ⟨S1x512, .f32⟩
  | 81 => ⟨S_, .f32⟩
  | 82 => ⟨S31x512, .f32⟩
  | 83 => ⟨S31x512, .f32⟩
  | 84 => ⟨S4096x512, .f32⟩
  | 85 => ⟨S4096x512, .f32⟩
  | 86 => ⟨S4096x512, .f32⟩
  | 87 => ⟨S_, .f32⟩
  | 88 => ⟨S512, .f32⟩
  | 89 => ⟨S1x512, .f32⟩
  | 90 => ⟨S_, .f32⟩
  | 91 => ⟨S512, .f32⟩
  | 92 => ⟨S_, .f32⟩
  | 93 => ⟨S4126x512, .f32⟩
  | 94 => ⟨S4126x512, .f32⟩
  | 95 => ⟨S1x512, .f32⟩
  | 96 => ⟨S_, .f32⟩
  | 97 => ⟨S31x512, .f32⟩
  | 98 => ⟨S31x512, .f32⟩
  | 99 => ⟨S4096x512, .f32⟩
  | 100 => ⟨S4096x512, .f32⟩
  | 101 => ⟨S4096x512, .f32⟩
  | 102 => ⟨S_, .f32⟩
  | 103 => ⟨S512, .f32⟩
  | 104 => ⟨S1x512, .f32⟩
  | 105 => ⟨S_, .f32⟩
  | 106 => ⟨S512, .f32⟩
  | 107 => ⟨S_, .f32⟩
  | 108 => ⟨S4126x512, .f32⟩
  | 109 => ⟨S4126x512, .f32⟩
  | 110 => ⟨S1x512, .f32⟩
  | 111 => ⟨S_, .f32⟩
  | 112 => ⟨S31x512, .f32⟩
  | 113 => ⟨S31x512, .f32⟩
  | 114 => ⟨S4096x512, .f32⟩
  | 115 => ⟨S4096x512, .f32⟩
  | 116 => ⟨S4096x512, .f32⟩
  | 117 => ⟨S_, .f32⟩
  | 118 => ⟨S512, .f32⟩
  | 119 => ⟨S1x512, .f32⟩
  | 120 => ⟨S_, .f32⟩
  | 121 => ⟨S512, .f32⟩
  | 122 => ⟨S_, .f32⟩
  | 123 => ⟨S4126x512, .f32⟩
  | 124 => ⟨S4126x512, .f32⟩
  | 125 => ⟨S1x512, .f32⟩
  | 126 => ⟨S_, .f32⟩
  | 127 => ⟨S31x512, .f32⟩
  | _ => ⟨S4096x4096, .f32⟩

abbrev hbmTy0_4 (i : Nat) : BufTy := match i % 128 with
  | 0 => ⟨S31x512, .f32⟩
  | 1 => ⟨S4096x512, .f32⟩
  | 2 => ⟨S4096x512, .f32⟩
  | 3 => ⟨S4096x512, .f32⟩
  | 4 => ⟨S_, .f32⟩
  | 5 => ⟨S512, .f32⟩
  | 6 => ⟨S1x512, .f32⟩
  | 7 => ⟨S_, .f32⟩
  | 8 => ⟨S512, .f32⟩
  | 9 => ⟨S_, .f32⟩
  | 10 => ⟨S4126x512, .f32⟩
  | 11 => ⟨S4126x512, .f32⟩
  | 12 => ⟨S1x512, .f32⟩
  | 13 => ⟨S_, .f32⟩
  | 14 => ⟨S31x512, .f32⟩
  | 15 => ⟨S31x512, .f32⟩
  | 16 => ⟨S4096x512, .f32⟩
  | 17 => ⟨S4096x512, .f32⟩
  | 18 => ⟨S4096x512, .f32⟩
  | 19 => ⟨S_, .f32⟩
  | 20 => ⟨S512, .f32⟩
  | 21 => ⟨S1x512, .f32⟩
  | 22 => ⟨S_, .f32⟩
  | 23 => ⟨S512, .f32⟩
  | 24 => ⟨S_, .f32⟩
  | 25 => ⟨S4126x512, .f32⟩
  | 26 => ⟨S4126x512, .f32⟩
  | 27 => ⟨S1x512, .f32⟩
  | 28 => ⟨S_, .f32⟩
  | 29 => ⟨S31x512, .f32⟩
  | 30 => ⟨S31x512, .f32⟩
  | 31 => ⟨S4096x512, .f32⟩
  | 32 => ⟨S4096x512, .f32⟩
  | 33 => ⟨S4096x512, .f32⟩
  | 34 => ⟨S_, .f32⟩
  | 35 => ⟨S512, .f32⟩
  | 36 => ⟨S1x512, .f32⟩
  | 37 => ⟨S_, .f32⟩
  | 38 => ⟨S512, .f32⟩
  | 39 => ⟨S_, .f32⟩
  | 40 => ⟨S4126x512, .f32⟩
  | 41 => ⟨S4126x512, .f32⟩
  | 42 => ⟨S1x512, .f32⟩
  | 43 => ⟨S_, .f32⟩
  | 44 => ⟨S31x512, .f32⟩
  | 45 => ⟨S31x512, .f32⟩
  | 46 => ⟨S4096x512, .f32⟩
  | 47 => ⟨S4096x512, .f32⟩
  | 48 => ⟨S4096x512, .f32⟩
  | 49 => ⟨S_, .f32⟩
  | 50 => ⟨S512, .f32⟩
  | 51 => ⟨S1x512, .f32⟩
  | 52 => ⟨S_, .f32⟩
  | 53 => ⟨S512, .f32⟩
  | 54 => ⟨S_, .f32⟩
  | 55 => ⟨S4126x512, .f32⟩
  | 56 => ⟨S4126x512, .f32⟩
  | 57 => ⟨S1x512, .f32⟩
  | 58 => ⟨S_, .f32⟩
  | 59 => ⟨S31x512, .f32⟩
  | 60 => ⟨S31x512, .f32⟩
  | 61 => ⟨S4096x512, .f32⟩
  | 62 => ⟨S4096x512, .f32⟩
  | 63 => ⟨S4096x512, .f32⟩
  | 64 => ⟨S_, .f32⟩
  | 65 => ⟨S512, .f32⟩
  | 66 => ⟨S1x512, .f32⟩
  | 67 => ⟨S_, .f32⟩
  | 68 => ⟨S512, .f32⟩
  | 69 => ⟨S_, .f32⟩
  | 70 => ⟨S4126x512, .f32⟩
  | 71 => ⟨S4126x512, .f32⟩
  | 72 => ⟨S1x512, .f32⟩
  | 73 => ⟨S_, .f32⟩
  | 74 => ⟨S31x512, .f32⟩
  | 75 => ⟨S31x512, .f32⟩
  | 76 => ⟨S4096x512, .f32⟩
  | 77 => ⟨S4096x512, .f32⟩
  | 78 => ⟨S4096x512, .f32⟩
  | 79 => ⟨S_, .f32⟩
  | 80 => ⟨S512, .f32⟩
  | 81 => ⟨S1x512, .f32⟩
  | 82 => ⟨S_, .f32⟩
  | 83 => ⟨S512, .f32⟩
  | 84 => ⟨S_, .f32⟩
  | 85 => ⟨S4126x512, .f32⟩
  | 86 => ⟨S4126x512, .f32⟩
  | 87 => ⟨S1x512, .f32⟩
  | 88 => ⟨S_, .f32⟩
  | 89 => ⟨S31x512, .f32⟩
  | 90 => ⟨S31x512, .f32⟩
  | 91 => ⟨S4096x512, .f32⟩
  | 92 => ⟨S4096x512, .f32⟩
  | 93 => ⟨S4096x512, .f32⟩
  | 94 => ⟨S_, .f32⟩
  | 95 => ⟨S512, .f32⟩
  | 96 => ⟨S1x512, .f32⟩
  | 97 => ⟨S_, .f32⟩
  | 98 => ⟨S512, .f32⟩
  | 99 => ⟨S_, .f32⟩
  | 100 => ⟨S4126x512, .f32⟩
  | 101 => ⟨S4126x512, .f32⟩
  | 102 => ⟨S1x512, .f32⟩
  | 103 => ⟨S_, .f32⟩
  | 104 => ⟨S31x512, .f32⟩
  | 105 => ⟨S31x512, .f32⟩
  | 106 => ⟨S4096x512, .f32⟩
  | 107 => ⟨S4096x512, .f32⟩
  | 108 => ⟨S4096x512, .f32⟩
  | 109 => ⟨S_, .f32⟩
  | 110 => ⟨S512, .f32⟩
  | 111 => ⟨S1x512, .f32⟩
  | 112 => ⟨S_, .f32⟩
  | 113 => ⟨S512, .f32⟩
  | 114 => ⟨S_, .f32⟩
  | 115 => ⟨S4126x512, .f32⟩
  | 116 => ⟨S4126x512, .f32⟩
  | 117 => ⟨S1x512, .f32⟩
  | 118 => ⟨S_, .f32⟩
  | 119 => ⟨S31x512, .f32⟩
  | 120 => ⟨S31x512, .f32⟩
  | 121 => ⟨S4096x512, .f32⟩
  | 122 => ⟨S4096x512, .f32⟩
  | 123 => ⟨S4096x512, .f32⟩
  | 124 => ⟨S_, .f32⟩
  | 125 => ⟨S512, .f32⟩
  | 126 => ⟨S1x512, .f32⟩
  | 127 => ⟨S_, .f32⟩
  | _ => ⟨S4096x4096, .f32⟩

abbrev hbmTy0_5 (i : Nat) : BufTy := match i % 128 with
  | 0 => ⟨S512, .f32⟩
  | 1 => ⟨S_, .f32⟩
  | 2 => ⟨S4126x512, .f32⟩
  | 3 => ⟨S4126x512, .f32⟩
  | 4 => ⟨S1x512, .f32⟩
  | 5 => ⟨S_, .f32⟩
  | 6 => ⟨S31x512, .f32⟩
  | 7 => ⟨S31x512, .f32⟩
  | 8 => ⟨S4096x512, .f32⟩
  | 9 => ⟨S4096x512, .f32⟩
  | 10 => ⟨S4096x512, .f32⟩
  | 11 => ⟨S_, .f32⟩
  | 12 => ⟨S512, .f32⟩
  | 13 => ⟨S1x512, .f32⟩
  | 14 => ⟨S_, .f32⟩
  | 15 => ⟨S512, .f32⟩
  | 16 => ⟨S_, .f32⟩
  | 17 => ⟨S4126x512, .f32⟩
  | 18 => ⟨S4126x512, .f32⟩
  | 19 => ⟨S1x512, .f32⟩
  | 20 => ⟨S_, .f32⟩
  | 21 => ⟨S31x512, .f32⟩
  | 22 => ⟨S31x512, .f32⟩
  | 23 => ⟨S4096x512, .f32⟩
  | 24 => ⟨S4096x512, .f32⟩
  | 25 => ⟨S4096x512, .f32⟩
  | 26 => ⟨S_, .f32⟩
  | 27 => ⟨S512, .f32⟩
  | 28 => ⟨S1x512, .f32⟩
  | 29 => ⟨S_, .f32⟩
  | 30 => ⟨S512, .f32⟩
  | 31 => ⟨S_, .f32⟩
  | 32 => ⟨S4126x512, .f32⟩
  | 33 => ⟨S4126x512, .f32⟩
  | 34 => ⟨S1x512, .f32⟩
  | 35 => ⟨S_, .f32⟩
  | 36 => ⟨S31x512, .f32⟩
  | 37 => ⟨S31x512, .f32⟩
  | 38 => ⟨S4096x512, .f32⟩
  | 39 => ⟨S4096x512, .f32⟩
  | 40 => ⟨S4096x512, .f32⟩
  | 41 => ⟨S_, .f32⟩
  | 42 => ⟨S512, .f32⟩
  | 43 => ⟨S1x512, .f32⟩
  | 44 => ⟨S_, .f32⟩
  | 45 => ⟨S512, .f32⟩
  | 46 => ⟨S_, .f32⟩
  | 47 => ⟨S4126x512, .f32⟩
  | 48 => ⟨S4126x512, .f32⟩
  | 49 => ⟨S1x512, .f32⟩
  | 50 => ⟨S_, .f32⟩
  | 51 => ⟨S31x512, .f32⟩
  | 52 => ⟨S31x512, .f32⟩
  | 53 => ⟨S4096x512, .f32⟩
  | 54 => ⟨S4096x512, .f32⟩
  | 55 => ⟨S4096x512, .f32⟩
  | 56 => ⟨S_, .f32⟩
  | 57 => ⟨S512, .f32⟩
  | 58 => ⟨S1x512, .f32⟩
  | 59 => ⟨S_, .f32⟩
  | 60 => ⟨S512, .f32⟩
  | 61 => ⟨S_, .f32⟩
  | 62 => ⟨S4126x512, .f32⟩
  | 63 => ⟨S4126x512, .f32⟩
  | 64 => ⟨S1x512, .f32⟩
  | 65 => ⟨S_, .f32⟩
  | 66 => ⟨S31x512, .f32⟩
  | 67 => ⟨S31x512, .f32⟩
  | 68 => ⟨S30x512, .f32⟩
  | 69 => ⟨S4096x512, .f32⟩
  | 70 => ⟨S4096x512, .f32⟩
  | 71 => ⟨S4096x512, .f32⟩
  | 72 => ⟨S4096x512, .f32⟩
  | 73 => ⟨S4096x1024, .f32⟩
  | 74 => ⟨S4096x512, .f32⟩
  | 75 => ⟨S4096x512, .f32⟩
  | 76 => ⟨S4096x512, .bf16⟩
  | 77 => ⟨S4096x512, .bf16⟩
  | _ => ⟨S4096x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_cst_5 : Ref sig .tc := ⟨.hbm, 248, rfl⟩
abbrev main_v239 : Ref sig .tc := ⟨.hbm, 249, rfl⟩
abbrev main_v240 : Ref sig .tc := ⟨.hbm, 250, rfl⟩
abbrev main_cst_6 : Ref sig .tc := ⟨.hbm, 251, rfl⟩
abbrev main_v241 : Ref sig .tc := ⟨.hbm, 252, rfl⟩
abbrev main_cst_7 : Ref sig .tc := ⟨.hbm, 253, rfl⟩
abbrev main_v242 : Ref sig .tc := ⟨.hbm, 254, rfl⟩
abbrev main_v243 : Ref sig .tc := ⟨.hbm, 255, rfl⟩
abbrev main_cst_8 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_cst_9 : Ref sig .tc := ⟨.hbm, 261, rfl⟩
abbrev main_v248 : Ref sig .tc := ⟨.hbm, 262, rfl⟩
abbrev main_v249 : Ref sig .tc := ⟨.hbm, 263, rfl⟩
abbrev main_cst_10 : Ref sig .tc := ⟨.hbm, 264, rfl⟩
abbrev main_v250 : Ref sig .tc := ⟨.hbm, 265, rfl⟩
abbrev main_cst_11 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_cst_12 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_cst_13 : Ref sig .tc := ⟨.hbm, 276, rfl⟩
abbrev main_v259 : Ref sig .tc := ⟨.hbm, 277, rfl⟩
abbrev main_v260 : Ref sig .tc := ⟨.hbm, 278, rfl⟩
abbrev main_cst_14 : Ref sig .tc := ⟨.hbm, 279, rfl⟩
abbrev main_v261 : Ref sig .tc := ⟨.hbm, 280, rfl⟩
abbrev main_cst_15 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_cst_16 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_cst_17 : Ref sig .tc := ⟨.hbm, 291, rfl⟩
abbrev main_v270 : Ref sig .tc := ⟨.hbm, 292, rfl⟩
abbrev main_v271 : Ref sig .tc := ⟨.hbm, 293, rfl⟩
abbrev main_cst_18 : Ref sig .tc := ⟨.hbm, 294, rfl⟩
abbrev main_v272 : Ref sig .tc := ⟨.hbm, 295, rfl⟩
abbrev main_cst_19 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_cst_20 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_cst_21 : Ref sig .tc := ⟨.hbm, 306, rfl⟩
abbrev main_v281 : Ref sig .tc := ⟨.hbm, 307, rfl⟩
abbrev main_v282 : Ref sig .tc := ⟨.hbm, 308, rfl⟩
abbrev main_cst_22 : Ref sig .tc := ⟨.hbm, 309, rfl⟩
abbrev main_v283 : Ref sig .tc := ⟨.hbm, 310, rfl⟩
abbrev main_cst_23 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_cst_24 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_cst_25 : Ref sig .tc := ⟨.hbm, 321, rfl⟩
abbrev main_v292 : Ref sig .tc := ⟨.hbm, 322, rfl⟩
abbrev main_v293 : Ref sig .tc := ⟨.hbm, 323, rfl⟩
abbrev main_cst_26 : Ref sig .tc := ⟨.hbm, 324, rfl⟩
abbrev main_v294 : Ref sig .tc := ⟨.hbm, 325, rfl⟩
abbrev main_cst_27 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_cst_28 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_cst_29 : Ref sig .tc := ⟨.hbm, 336, rfl⟩
abbrev main_v303 : Ref sig .tc := ⟨.hbm, 337, rfl⟩
abbrev main_v304 : Ref sig .tc := ⟨.hbm, 338, rfl⟩
abbrev main_cst_30 : Ref sig .tc := ⟨.hbm, 339, rfl⟩
abbrev main_v305 : Ref sig .tc := ⟨.hbm, 340, rfl⟩
abbrev main_cst_31 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_cst_32 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_cst_33 : Ref sig .tc := ⟨.hbm, 351, rfl⟩
abbrev main_v314 : Ref sig .tc := ⟨.hbm, 352, rfl⟩
abbrev main_v315 : Ref sig .tc := ⟨.hbm, 353, rfl⟩
abbrev main_cst_34 : Ref sig .tc := ⟨.hbm, 354, rfl⟩
abbrev main_v316 : Ref sig .tc := ⟨.hbm, 355, rfl⟩
abbrev main_cst_35 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_cst_36 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_cst_37 : Ref sig .tc := ⟨.hbm, 366, rfl⟩
abbrev main_v325 : Ref sig .tc := ⟨.hbm, 367, rfl⟩
abbrev main_v326 : Ref sig .tc := ⟨.hbm, 368, rfl⟩
abbrev main_cst_38 : Ref sig .tc := ⟨.hbm, 369, rfl⟩
abbrev main_v327 : Ref sig .tc := ⟨.hbm, 370, rfl⟩
abbrev main_cst_39 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_cst_40 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_cst_41 : Ref sig .tc := ⟨.hbm, 381, rfl⟩
abbrev main_v336 : Ref sig .tc := ⟨.hbm, 382, rfl⟩
abbrev main_v337 : Ref sig .tc := ⟨.hbm, 383, rfl⟩
abbrev main_cst_42 : Ref sig .tc := ⟨.hbm, 384, rfl⟩
abbrev main_v338 : Ref sig .tc := ⟨.hbm, 385, rfl⟩
abbrev main_cst_43 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_cst_44 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_cst_45 : Ref sig .tc := ⟨.hbm, 396, rfl⟩
abbrev main_v347 : Ref sig .tc := ⟨.hbm, 397, rfl⟩
abbrev main_v348 : Ref sig .tc := ⟨.hbm, 398, rfl⟩
abbrev main_cst_46 : Ref sig .tc := ⟨.hbm, 399, rfl⟩
abbrev main_v349 : Ref sig .tc := ⟨.hbm, 400, rfl⟩
abbrev main_cst_47 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_cst_48 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_cst_49 : Ref sig .tc := ⟨.hbm, 411, rfl⟩
abbrev main_v358 : Ref sig .tc := ⟨.hbm, 412, rfl⟩
abbrev main_v359 : Ref sig .tc := ⟨.hbm, 413, rfl⟩
abbrev main_cst_50 : Ref sig .tc := ⟨.hbm, 414, rfl⟩
abbrev main_v360 : Ref sig .tc := ⟨.hbm, 415, rfl⟩
abbrev main_cst_51 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_cst_52 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_cst_53 : Ref sig .tc := ⟨.hbm, 426, rfl⟩
abbrev main_v369 : Ref sig .tc := ⟨.hbm, 427, rfl⟩
abbrev main_v370 : Ref sig .tc := ⟨.hbm, 428, rfl⟩
abbrev main_cst_54 : Ref sig .tc := ⟨.hbm, 429, rfl⟩
abbrev main_v371 : Ref sig .tc := ⟨.hbm, 430, rfl⟩
abbrev main_cst_55 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_cst_56 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_cst_57 : Ref sig .tc := ⟨.hbm, 441, rfl⟩
abbrev main_v380 : Ref sig .tc := ⟨.hbm, 442, rfl⟩
abbrev main_v381 : Ref sig .tc := ⟨.hbm, 443, rfl⟩
abbrev main_cst_58 : Ref sig .tc := ⟨.hbm, 444, rfl⟩
abbrev main_v382 : Ref sig .tc := ⟨.hbm, 445, rfl⟩
abbrev main_cst_59 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_cst_60 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_v390 : Ref sig .tc := ⟨.hbm, 455, rfl⟩
abbrev main_cst_61 : Ref sig .tc := ⟨.hbm, 456, rfl⟩
abbrev main_v391 : Ref sig .tc := ⟨.hbm, 457, rfl⟩
abbrev main_v392 : Ref sig .tc := ⟨.hbm, 458, rfl⟩
abbrev main_cst_62 : Ref sig .tc := ⟨.hbm, 459, rfl⟩
abbrev main_v393 : Ref sig .tc := ⟨.hbm, 460, rfl⟩
abbrev main_cst_63 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_cst_64 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_cst_65 : Ref sig .tc := ⟨.hbm, 471, rfl⟩
abbrev main_v402 : Ref sig .tc := ⟨.hbm, 472, rfl⟩
abbrev main_v403 : Ref sig .tc := ⟨.hbm, 473, rfl⟩
abbrev main_cst_66 : Ref sig .tc := ⟨.hbm, 474, rfl⟩
abbrev main_v404 : Ref sig .tc := ⟨.hbm, 475, rfl⟩
abbrev main_cst_67 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_cst_68 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_cst_69 : Ref sig .tc := ⟨.hbm, 486, rfl⟩
abbrev main_v413 : Ref sig .tc := ⟨.hbm, 487, rfl⟩
abbrev main_v414 : Ref sig .tc := ⟨.hbm, 488, rfl⟩
abbrev main_cst_70 : Ref sig .tc := ⟨.hbm, 489, rfl⟩
abbrev main_v415 : Ref sig .tc := ⟨.hbm, 490, rfl⟩
abbrev main_cst_71 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_cst_72 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_cst_73 : Ref sig .tc := ⟨.hbm, 501, rfl⟩
abbrev main_v424 : Ref sig .tc := ⟨.hbm, 502, rfl⟩
abbrev main_v425 : Ref sig .tc := ⟨.hbm, 503, rfl⟩
abbrev main_cst_74 : Ref sig .tc := ⟨.hbm, 504, rfl⟩
abbrev main_v426 : Ref sig .tc := ⟨.hbm, 505, rfl⟩
abbrev main_cst_75 : Ref sig .tc := ⟨.hbm, 506, rfl⟩
abbrev main_v427 : Ref sig .tc := ⟨.hbm, 507, rfl⟩
abbrev main_v428 : Ref sig .tc := ⟨.hbm, 508, rfl⟩
abbrev main_v429 : Ref sig .tc := ⟨.hbm, 509, rfl⟩
abbrev main_cst_76 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_v434 : Ref sig .tc := ⟨.hbm, 515, rfl⟩
abbrev main_cst_77 : Ref sig .tc := ⟨.hbm, 516, rfl⟩
abbrev main_v435 : Ref sig .tc := ⟨.hbm, 517, rfl⟩
abbrev main_v436 : Ref sig .tc := ⟨.hbm, 518, rfl⟩
abbrev main_cst_78 : Ref sig .tc := ⟨.hbm, 519, rfl⟩
abbrev main_v437 : Ref sig .tc := ⟨.hbm, 520, rfl⟩
abbrev main_cst_79 : Ref sig .tc := ⟨.hbm, 521, rfl⟩
abbrev main_v438 : Ref sig .tc := ⟨.hbm, 522, rfl⟩
abbrev main_v439 : Ref sig .tc := ⟨.hbm, 523, rfl⟩
abbrev main_v440 : Ref sig .tc := ⟨.hbm, 524, rfl⟩
abbrev main_cst_80 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_v445 : Ref sig .tc := ⟨.hbm, 530, rfl⟩
abbrev main_cst_81 : Ref sig .tc := ⟨.hbm, 531, rfl⟩
abbrev main_v446 : Ref sig .tc := ⟨.hbm, 532, rfl⟩
abbrev main_v447 : Ref sig .tc := ⟨.hbm, 533, rfl⟩
abbrev main_cst_82 : Ref sig .tc := ⟨.hbm, 534, rfl⟩
abbrev main_v448 : Ref sig .tc := ⟨.hbm, 535, rfl⟩
abbrev main_cst_83 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_cst_84 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_v456 : Ref sig .tc := ⟨.hbm, 545, rfl⟩
abbrev main_cst_85 : Ref sig .tc := ⟨.hbm, 546, rfl⟩
abbrev main_v457 : Ref sig .tc := ⟨.hbm, 547, rfl⟩
abbrev main_v458 : Ref sig .tc := ⟨.hbm, 548, rfl⟩
abbrev main_cst_86 : Ref sig .tc := ⟨.hbm, 549, rfl⟩
abbrev main_v459 : Ref sig .tc := ⟨.hbm, 550, rfl⟩
abbrev main_cst_87 : Ref sig .tc := ⟨.hbm, 551, rfl⟩
abbrev main_v460 : Ref sig .tc := ⟨.hbm, 552, rfl⟩
abbrev main_v461 : Ref sig .tc := ⟨.hbm, 553, rfl⟩
abbrev main_v462 : Ref sig .tc := ⟨.hbm, 554, rfl⟩
abbrev main_cst_88 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_v467 : Ref sig .tc := ⟨.hbm, 560, rfl⟩
abbrev main_cst_89 : Ref sig .tc := ⟨.hbm, 561, rfl⟩
abbrev main_v468 : Ref sig .tc := ⟨.hbm, 562, rfl⟩
abbrev main_v469 : Ref sig .tc := ⟨.hbm, 563, rfl⟩
abbrev main_cst_90 : Ref sig .tc := ⟨.hbm, 564, rfl⟩
abbrev main_v470 : Ref sig .tc := ⟨.hbm, 565, rfl⟩
abbrev main_cst_91 : Ref sig .tc := ⟨.hbm, 566, rfl⟩
abbrev main_v471 : Ref sig .tc := ⟨.hbm, 567, rfl⟩
abbrev main_v472 : Ref sig .tc := ⟨.hbm, 568, rfl⟩
abbrev main_v473 : Ref sig .tc := ⟨.hbm, 569, rfl⟩
abbrev main_cst_92 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_cst_93 : Ref sig .tc := ⟨.hbm, 576, rfl⟩
abbrev main_v479 : Ref sig .tc := ⟨.hbm, 577, rfl⟩
abbrev main_v480 : Ref sig .tc := ⟨.hbm, 578, rfl⟩
abbrev main_cst_94 : Ref sig .tc := ⟨.hbm, 579, rfl⟩
abbrev main_v481 : Ref sig .tc := ⟨.hbm, 580, rfl⟩
abbrev main_cst_95 : Ref sig .tc := ⟨.hbm, 581, rfl⟩
abbrev main_v482 : Ref sig .tc := ⟨.hbm, 582, rfl⟩
abbrev main_v483 : Ref sig .tc := ⟨.hbm, 583, rfl⟩
abbrev main_v484 : Ref sig .tc := ⟨.hbm, 584, rfl⟩
abbrev main_cst_96 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_v489 : Ref sig .tc := ⟨.hbm, 590, rfl⟩
abbrev main_cst_97 : Ref sig .tc := ⟨.hbm, 591, rfl⟩
abbrev main_v490 : Ref sig .tc := ⟨.hbm, 592, rfl⟩
abbrev main_v491 : Ref sig .tc := ⟨.hbm, 593, rfl⟩
abbrev main_cst_98 : Ref sig .tc := ⟨.hbm, 594, rfl⟩
abbrev main_v492 : Ref sig .tc := ⟨.hbm, 595, rfl⟩
abbrev main_cst_99 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_cst_100 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_v500 : Ref sig .tc := ⟨.hbm, 605, rfl⟩
abbrev main_cst_101 : Ref sig .tc := ⟨.hbm, 606, rfl⟩
abbrev main_v501 : Ref sig .tc := ⟨.hbm, 607, rfl⟩
abbrev main_v502 : Ref sig .tc := ⟨.hbm, 608, rfl⟩
abbrev main_cst_102 : Ref sig .tc := ⟨.hbm, 609, rfl⟩
abbrev main_v503 : Ref sig .tc := ⟨.hbm, 610, rfl⟩
abbrev main_cst_103 : Ref sig .tc := ⟨.hbm, 611, rfl⟩
abbrev main_v504 : Ref sig .tc := ⟨.hbm, 612, rfl⟩
abbrev main_v505 : Ref sig .tc := ⟨.hbm, 613, rfl⟩
abbrev main_v506 : Ref sig .tc := ⟨.hbm, 614, rfl⟩
abbrev main_cst_104 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_v510 : Ref sig .tc := ⟨.hbm, 619, rfl⟩
abbrev main_v511 : Ref sig .tc := ⟨.hbm, 620, rfl⟩
abbrev main_cst_105 : Ref sig .tc := ⟨.hbm, 621, rfl⟩
abbrev main_v512 : Ref sig .tc := ⟨.hbm, 622, rfl⟩
abbrev main_v513 : Ref sig .tc := ⟨.hbm, 623, rfl⟩
abbrev main_cst_106 : Ref sig .tc := ⟨.hbm, 624, rfl⟩
abbrev main_v514 : Ref sig .tc := ⟨.hbm, 625, rfl⟩
abbrev main_cst_107 : Ref sig .tc := ⟨.hbm, 626, rfl⟩
abbrev main_v515 : Ref sig .tc := ⟨.hbm, 627, rfl⟩
abbrev main_v516 : Ref sig .tc := ⟨.hbm, 628, rfl⟩
abbrev main_v517 : Ref sig .tc := ⟨.hbm, 629, rfl⟩
abbrev main_cst_108 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_v521 : Ref sig .tc := ⟨.hbm, 634, rfl⟩
abbrev main_v522 : Ref sig .tc := ⟨.hbm, 635, rfl⟩
abbrev main_cst_109 : Ref sig .tc := ⟨.hbm, 636, rfl⟩
abbrev main_v523 : Ref sig .tc := ⟨.hbm, 637, rfl⟩
abbrev main_v524 : Ref sig .tc := ⟨.hbm, 638, rfl⟩
abbrev main_cst_110 : Ref sig .tc := ⟨.hbm, 639, rfl⟩
abbrev main_v525 : Ref sig .tc := ⟨.hbm, 640, rfl⟩
abbrev main_cst_111 : Ref sig .tc := ⟨.hbm, 641, rfl⟩
abbrev main_v526 : Ref sig .tc := ⟨.hbm, 642, rfl⟩
abbrev main_v527 : Ref sig .tc := ⟨.hbm, 643, rfl⟩
abbrev main_v528 : Ref sig .tc := ⟨.hbm, 644, rfl⟩
abbrev main_cst_112 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_v533 : Ref sig .tc := ⟨.hbm, 650, rfl⟩
abbrev main_cst_113 : Ref sig .tc := ⟨.hbm, 651, rfl⟩
abbrev main_v534 : Ref sig .tc := ⟨.hbm, 652, rfl⟩
abbrev main_v535 : Ref sig .tc := ⟨.hbm, 653, rfl⟩
abbrev main_cst_114 : Ref sig .tc := ⟨.hbm, 654, rfl⟩
abbrev main_v536 : Ref sig .tc := ⟨.hbm, 655, rfl⟩
abbrev main_cst_115 : Ref sig .tc := ⟨.hbm, 656, rfl⟩
abbrev main_v537 : Ref sig .tc := ⟨.hbm, 657, rfl⟩
abbrev main_v538 : Ref sig .tc := ⟨.hbm, 658, rfl⟩
abbrev main_v539 : Ref sig .tc := ⟨.hbm, 659, rfl⟩
abbrev main_cst_116 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_cst_117 : Ref sig .tc := ⟨.hbm, 666, rfl⟩
abbrev main_v545 : Ref sig .tc := ⟨.hbm, 667, rfl⟩
abbrev main_v546 : Ref sig .tc := ⟨.hbm, 668, rfl⟩
abbrev main_cst_118 : Ref sig .tc := ⟨.hbm, 669, rfl⟩
abbrev main_v547 : Ref sig .tc := ⟨.hbm, 670, rfl⟩
abbrev main_cst_119 : Ref sig .tc := ⟨.hbm, 671, rfl⟩
abbrev main_v548 : Ref sig .tc := ⟨.hbm, 672, rfl⟩
abbrev main_v549 : Ref sig .tc := ⟨.hbm, 673, rfl⟩
abbrev main_v550 : Ref sig .tc := ⟨.hbm, 674, rfl⟩
abbrev main_cst_120 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_v555 : Ref sig .tc := ⟨.hbm, 680, rfl⟩
abbrev main_cst_121 : Ref sig .tc := ⟨.hbm, 681, rfl⟩
abbrev main_v556 : Ref sig .tc := ⟨.hbm, 682, rfl⟩
abbrev main_v557 : Ref sig .tc := ⟨.hbm, 683, rfl⟩
abbrev main_cst_122 : Ref sig .tc := ⟨.hbm, 684, rfl⟩
abbrev main_v558 : Ref sig .tc := ⟨.hbm, 685, rfl⟩
abbrev main_cst_123 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_cst_124 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_v566 : Ref sig .tc := ⟨.hbm, 695, rfl⟩
abbrev main_cst_125 : Ref sig .tc := ⟨.hbm, 696, rfl⟩
abbrev main_v567 : Ref sig .tc := ⟨.hbm, 697, rfl⟩
abbrev main_v568 : Ref sig .tc := ⟨.hbm, 698, rfl⟩
abbrev main_cst_126 : Ref sig .tc := ⟨.hbm, 699, rfl⟩
abbrev main_v569 : Ref sig .tc := ⟨.hbm, 700, rfl⟩
abbrev main_cst_127 : Ref sig .tc := ⟨.hbm, 701, rfl⟩
abbrev main_v570 : Ref sig .tc := ⟨.hbm, 702, rfl⟩
abbrev main_v571 : Ref sig .tc := ⟨.hbm, 703, rfl⟩
abbrev main_v572 : Ref sig .tc := ⟨.hbm, 704, rfl⟩
abbrev main_cst_128 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_v581 : Ref sig .tc := ⟨.hbm, 714, rfl⟩
abbrev main_v582 : Ref sig .tc := ⟨.hbm, 715, rfl⟩
abbrev main_v583 : Ref sig .tc := ⟨.hbm, 716, rfl⟩
abbrev main_v584 : Ref sig .tc := ⟨.hbm, 717, rfl⟩

abbrev nD : Nat := 1
abbrev τ : Topo := Topo.v7x

variable {F : FTy → Type} [FloatOps F]
-- ==== ShortKernel.lean ====
abbrev S4096x4096 : Shape := ⟨2, ![4096, 4096]⟩
abbrev S4096x2048 : Shape := ⟨2, ![4096, 2048]⟩
abbrev S3x512 : Shape := ⟨2, ![3, 512]⟩
abbrev S4096x512 : Shape := ⟨2, ![4096, 512]⟩
abbrev S4096x128 : Shape := ⟨2, ![4096, 128]⟩
abbrev S3x128 : Shape := ⟨2, ![3, 128]⟩
abbrev S4160x128 : Shape := ⟨2, ![4160, 128]⟩
abbrev S3x8x128 : Shape := ⟨3, ![3, 8, 128]⟩
abbrev S128x128 : Shape := ⟨2, ![128, 128]⟩
abbrev S192x128 : Shape := ⟨2, ![192, 128]⟩
abbrev S1x128 : Shape := ⟨2, ![1, 128]⟩
abbrev S1x8x128 : Shape := ⟨3, ![1, 8, 128]⟩
abbrev S8x128 : Shape := ⟨2, ![8, 128]⟩
abbrev S16x8x128 : Shape := ⟨3, ![16, 8, 128]⟩
abbrev S128 : Shape := ⟨1, ![128]⟩

abbrev nBuf : Space → Nat
  | .hbm => 8
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S3x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S3x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | .local _ .vmem, ⟨18, _⟩ => ⟨S4160x128, .f32⟩
  | .local _ .vmem, ⟨19, _⟩ => ⟨S4160x128, .f32⟩
  | .local _ .vmem, ⟨20, _⟩ => ⟨S3x8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v18 : BitVec 32 := Scalar.addi c0_i32 c32_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v35 : BitVec 32 := Scalar.muli arg13 c128_i32
  v35
def k0_mult2 (k0_t1 : Fin k0_t1_loop.trips) : BitVec 32 :=
  let c32_i32_38 : BitVec 32 := 32#32
  let c0_i32 : BitVec 32 := 0#32
  let c1_i32 : BitVec 32 := 1#32
  let arg13 : BitVec 32 := Scf.iv c0_i32 c1_i32 k0_t1
  let c128_i32 : BitVec 32 := 128#32
  let v35 : BitVec 32 := Scalar.muli arg13 c128_i32
  let v36 : BitVec 32 := v35
  let v37 : BitVec 32 := Scalar.addi c32_i32_38 v36
  v37
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v35 : BitVec 32 := Scalar.muli arg13 c128_i32
  let v36 : BitVec 32 := v35
  let v39 : Index := Scalar.indexCast v36
  let c0_39 : Index := 0#32
  ![v39.toNat, 0]
def k0_off2 (k0_t1 : Fin k0_t1_loop.trips) : Fin 2 → Nat :=
  let c32_i32_38 : BitVec 32 := 32#32
  let c0_i32 : BitVec 32 := 0#32
  let c1_i32 : BitVec 32 := 1#32
  let arg13 : BitVec 32 := Scf.iv c0_i32 c1_i32 k0_t1
  let c128_i32 : BitVec 32 := 128#32
  let v35 : BitVec 32 := Scalar.muli arg13 c128_i32
  let v36 : BitVec 32 := v35
  let v37 : BitVec 32 := Scalar.addi c32_i32_38 v36
  let v38 : BitVec 32 := v37
  let v44 : Index := Scalar.indexCast v38
  let c0_41 : Index := 0#32
  ![v44.toNat, 0]
@[reducible] def k0_t2_loop : Scf.Loop 32 :=
  let c0_i32_18 : BitVec 32 := 0#32
  let c32_i32_19 : BitVec 32 := 32#32
  let v19 : BitVec 32 := Scalar.addi c0_i32_18 c32_i32_19
  let c1_i32_20 : BitVec 32 := 1#32
  ⟨c0_i32_18, v19, c1_i32_20⟩
def k0_mult3 (k0_t2 : Fin k0_t2_loop.trips) : BitVec 32 :=
  let c0_i32_18 : BitVec 32 := 0#32
  let c1_i32_20 : BitVec 32 := 1#32
  let arg13 : BitVec 32 := Scf.iv c0_i32_18 c1_i32_20 k0_t2
  let c128_i32 : BitVec 32 := 128#32
  let v35 : BitVec 32 := Scalar.muli arg13 c128_i32
  v35
def k0_off3 (k0_t2 : Fin k0_t2_loop.trips) : Fin 2 → Nat :=
  let c0_i32_18 : BitVec 32 := 0#32
  let c1_i32_20 : BitVec 32 := 1#32
  let arg13 : BitVec 32 := Scf.iv c0_i32_18 c1_i32_20 k0_t2
  let c128_i32 : BitVec 32 := 128#32
  let v35 : BitVec 32 := Scalar.muli arg13 c128_i32
  let v36 : BitVec 32 := v35
  let v37 : Index := Scalar.indexCast v36
  let c0_38 : Index := 0#32
  ![v37.toNat, 0]
def k0_off4 (k0_t2 : Fin k0_t2_loop.trips) : Fin 2 → Nat :=
  let c0_i32_18 : BitVec 32 := 0#32
  let c1_i32_20 : BitVec 32 := 1#32
  let arg13 : BitVec 32 := Scf.iv c0_i32_18 c1_i32_20 k0_t2
  let c128_i32 : BitVec 32 := 128#32
  let v35 : BitVec 32 := Scalar.muli arg13 c128_i32
  let v36 : BitVec 32 := v35
  let v105 : Index := Scalar.indexCast v36
  let c0_76 : Index := 0#32
  ![v105.toNat, 0]
def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ShortReferenceIdeal.lean ====
abbrev S4096x4096 : Shape := ⟨2, ![4096, 4096]⟩
abbrev S4096x2048 : Shape := ⟨2, ![4096, 2048]⟩
abbrev S3x512 : Shape := ⟨2, ![3, 512]⟩
abbrev S4096x1536 : Shape := ⟨2, ![4096, 1536]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 95
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S3x512, .f32⟩
  | .hbm, ⟨3, _⟩ => ⟨S4096x1536, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S2x512, .f32⟩
  | .hbm, ⟨10, _⟩ => ⟨S4098x512, .f32⟩
  | .hbm, ⟨11, _⟩ => ⟨S_, .f32⟩
  | .hbm, ⟨12, _⟩ => ⟨S2x512, .f32⟩
  | .hbm, ⟨13, _⟩ => ⟨S1x512, .f32⟩
  | .hbm, ⟨14, _⟩ => ⟨S512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S1x512, .f32⟩
  | .hbm, ⟨23, _⟩ => ⟨S512, .f32⟩
  | .hbm, ⟨24, _⟩ => ⟨S4096x512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S512, .f32⟩
  | .hbm, ⟨31, _⟩ => ⟨S4096x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .bf16⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S4098x512, .f32⟩
  | .hbm, ⟨51, _⟩ => ⟨S1x512, .f32⟩
  | .hbm, ⟨52, _⟩ => ⟨S_, .f32⟩
  | .hbm, ⟨53, _⟩ => ⟨S3x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | .hbm, ⟨62, _⟩ => ⟨S_, .f32⟩
  | .hbm, ⟨63, _⟩ => ⟨S4098x512, .f32⟩
  | .hbm, ⟨64, _⟩ => ⟨S4098x512, .f32⟩
  | .hbm, ⟨65, _⟩ => ⟨S1x512, .f32⟩
  | .hbm, ⟨66, _⟩ => ⟨S_, .f32⟩
  | .hbm, ⟨67, _⟩ => ⟨S3x512, .f32⟩
  | .hbm, ⟨68, _⟩ => ⟨S3x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S_, .f32⟩
  | .hbm, ⟨76, _⟩ => ⟨S512, .f32⟩
  | .hbm, ⟨77, _⟩ => ⟨S_, .f32⟩
  | .hbm, ⟨78, _⟩ => ⟨S4098x512, .f32⟩
  | .hbm, ⟨79, _⟩ => ⟨S4098x512, .f32⟩
  | .hbm, ⟨80, _⟩ => ⟨S1x512, .f32⟩
  | .hbm, ⟨81, _⟩ => ⟨S_, .f32⟩
  | .hbm, ⟨82, _⟩ => ⟨S3x512, .f32⟩
  | .hbm, ⟨83, _⟩ => ⟨S3x512, .f32⟩
  | .hbm, ⟨84, _⟩ => ⟨S2x512, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x1536, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S4096x512, .bf16⟩
  | .hbm, ⟨93, _⟩ => ⟨S4096x512, .bf16⟩
  | .hbm, ⟨94, _⟩ => ⟨S4096x512, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== RmsFKernel.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== CfLnFKernel.lean ====
abbrev S4096x4096 : Shape := ⟨2, ![4096, 4096]⟩
abbrev S31x512 : Shape := ⟨2, ![31, 512]⟩
abbrev S512 : Shape := ⟨1, ![512]⟩
abbrev S4096x1024 : Shape := ⟨2, ![4096, 1024]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S512x512 : Shape := ⟨2, ![512, 512]⟩
abbrev S512x1 : Shape := ⟨2, ![512, 1]⟩

abbrev nBuf : Space → Nat
  | .hbm => 245
  | .vmem => 6
  | .smem => 0
  | _ => 0

abbrev hbmTy0_0 (i : Nat) : BufTy := match i % 128 with
  | 0 => ⟨S4096x4096, .f32⟩
  | 1 => ⟨S31x512, .f32⟩
  | 2 => ⟨S512, .f32⟩
  | 3 => ⟨S512, .f32⟩
  | 4 => ⟨S512, .f32⟩
  | 5 => ⟨S4096x1024, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S30x512, .f32⟩
  | 19 => ⟨S4126x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S1x512, .f32⟩
  | 30 => ⟨S512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S1x512, .f32⟩
  | 37 => ⟨S512, .f32⟩
  | 38 => ⟨S4096x512, .f32⟩
  | 39 => ⟨S1x512, .f32⟩
  | 40 => ⟨S4096x512, .f32⟩
  | 41 => ⟨S4096x512, .f32⟩
  | 42 => ⟨S4096x512, .f32⟩
  | 43 => ⟨S1x512, .f32⟩
  | 44 => ⟨S512, .f32⟩
  | 45 => ⟨S4096x512, .f32⟩
  | 46 => ⟨S1x512, .f32⟩
  | 47 => ⟨S4096x512, .f32⟩
  | 48 => ⟨S4096x512, .f32⟩
  | 49 => ⟨S4096x512, .f32⟩
  | 50 => ⟨S1x512, .f32⟩
  | 51 => ⟨S512, .f32⟩
  | 52 => ⟨S4096x512, .f32⟩
  | 53 => ⟨S1x512, .f32⟩
  | 54 => ⟨S4096x512, .f32⟩
  | 55 => ⟨S4096x512, .f32⟩
  | 56 => ⟨S4096x512, .f32⟩
  | 57 => ⟨S1x512, .f32⟩
  | 58 => ⟨S512, .f32⟩
  | 59 => ⟨S4096x512, .f32⟩
  | 60 => ⟨S1x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S4096x512, .f32⟩
  | 67 => ⟨S1x512, .f32⟩
  | 68 => ⟨S4096x512, .f32⟩
  | 69 => ⟨S4096x512, .f32⟩
  | 70 => ⟨S4096x512, .f32⟩
  | 71 => ⟨S1x512, .f32⟩
  | 72 => ⟨S512, .f32⟩
  | 73 => ⟨S4096x512, .f32⟩
  | 74 => ⟨S1x512, .f32⟩
  | 75 => ⟨S4096x512, .f32⟩
  | 76 => ⟨S4096x512, .f32⟩
  | 77 => ⟨S4096x512, .f32⟩
  | 78 => ⟨S1x512, .f32⟩
  | 79 => ⟨S512, .f32⟩
  | 80 => ⟨S4096x512, .f32⟩
  | 81 => ⟨S1x512, .f32⟩
  | 82 => ⟨S4096x512, .f32⟩
  | 83 => ⟨S4096x512, .f32⟩
  | 84 => ⟨S4096x512, .f32⟩
  | 85 => ⟨S1x512, .f32⟩
  | 86 => ⟨S512, .f32⟩
  | 87 => ⟨S4096x512, .f32⟩
  | 88 => ⟨S1x512, .f32⟩
  | 89 => ⟨S4096x512, .f32⟩
  | 90 => ⟨S4096x512, .f32⟩
  | 91 => ⟨S4096x512, .f32⟩
  | 92 => ⟨S1x512, .f32⟩
  | 93 => ⟨S512, .f32⟩
  | 94 => ⟨S4096x512, .f32⟩
  | 95 => ⟨S1x512, .f32⟩
  | 96 => ⟨S4096x512, .f32⟩
  | 97 => ⟨S4096x512, .f32⟩
  | 98 => ⟨S4096x512, .f32⟩
  | 99 => ⟨S1x512, .f32⟩
  | 100 => ⟨S512, .f32⟩
  | 101 => ⟨S4096x512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S4096x512, .f32⟩
  | 109 => ⟨S1x512, .f32⟩
  | 110 => ⟨S4096x512, .f32⟩
  | 111 => ⟨S4096x512, .f32⟩
  | 112 => ⟨S4096x512, .f32⟩
  | 113 => ⟨S1x512, .f32⟩
  | 114 => ⟨S512, .f32⟩
  | 115 => ⟨S4096x512, .f32⟩
  | 116 => ⟨S1x512, .f32⟩
  | 117 => ⟨S4096x512, .f32⟩
  | 118 => ⟨S4096x512, .f32⟩
  | 119 => ⟨S4096x512, .f32⟩
  | 120 => ⟨S1x512, .f32⟩
  | 121 => ⟨S512, .f32⟩
  | 122 => ⟨S4096x512, .f32⟩
  | 123 => ⟨S1x512, .f32⟩
  | 124 => ⟨S4096x512, .f32⟩
  | 125 => ⟨S4096x512, .f32⟩
  | 126 => ⟨S4096x512, .f32⟩
  | 127 => ⟨S1x512, .f32⟩
  | _ => ⟨S4096x4096, .f32⟩

abbrev hbmTy0_1 (i : Nat) : BufTy := match i % 128 with
  | 0 => ⟨S512, .f32⟩
  | 1 => ⟨S4096x512, .f32⟩
  | 2 => ⟨S1x512, .f32⟩
  | 3 => ⟨S4096x512, .f32⟩
  | 4 => ⟨S4096x512, .f32⟩
  | 5 => ⟨S4096x512, .f32⟩
  | 6 => ⟨S1x512, .f32⟩
  | 7 => ⟨S512, .f32⟩
  | 8 => ⟨S4096x512, .f32⟩
  | 9 => ⟨S1x512, .f32⟩
  | 10 => ⟨S4096x512, .f32⟩
  | 11 => ⟨S4096x512, .f32⟩
  | 12 => ⟨S4096x512, .f32⟩
  | 13 => ⟨S1x512, .f32⟩
  | 14 => ⟨S512, .f32⟩
  | 15 => ⟨S4096x512, .f32⟩
  | 16 => ⟨S1x512, .f32⟩
  | 17 => ⟨S4096x512, .f32⟩
  | 18 => ⟨S4096x512, .f32⟩
  | 19 => ⟨S4096x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S4096x512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S4096x512, .f32⟩
  | 51 => ⟨S1x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S4096x512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S4096x512, .f32⟩
  | 86 => ⟨S1x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S4096x512, .f32⟩
  | 107 => ⟨S1x512, .f32⟩
  | 108 => ⟨S4096x512, .f32⟩
  | 109 => ⟨S4096x512, .f32⟩
  | 110 => ⟨S4096x512, .f32⟩
  | 111 => ⟨S1x512, .f32⟩
  | 112 => ⟨S4096x512, .f32⟩
  | 113 => ⟨S4096x512, .f32⟩
  | 114 => ⟨S1x512, .f32⟩
  | 115 => ⟨S1x512, .f32⟩
  | 116 => ⟨S4096x512, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CfLnFReferenceIdeal.lean ====
abbrev S4096x4096 : Shape := ⟨2, ![4096, 4096]⟩
abbrev S31x512 : Shape := ⟨2, ![31, 512]⟩
abbrev S512 : Shape := ⟨1, ![512]⟩
abbrev S4096x1024 : Shape := ⟨2, ![4096, 1024]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S4096 : Shape := ⟨1, ![4096]⟩
abbrev S4096x1 : Shape := ⟨2, ![4096, 1]⟩

abbrev nBuf : Space → Nat
  | .hbm => 279
  | .vmem => 0
  | .smem => 0
  | _ => 0

abbrev hbmTy0_0 (i : Nat) : BufTy := match i % 128 with
  | 0 => ⟨S4096x4096, .f32⟩
  | 1 => ⟨S31x512, .f32⟩
  | 2 => ⟨S512, .f32⟩
  | 3 => ⟨S512, .f32⟩
  | 4 => ⟨S512, .f32⟩
  | 5 => ⟨S4096x1024, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S30x512, .f32⟩
  | 19 => ⟨S4126x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S1x512, .f32⟩
  | 30 => ⟨S512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S1x512, .f32⟩
  | 37 => ⟨S512, .f32⟩
  | 38 => ⟨S4096x512, .f32⟩
  | 39 => ⟨S1x512, .f32⟩
  | 40 => ⟨S4096x512, .f32⟩
  | 41 => ⟨S4096x512, .f32⟩
  | 42 => ⟨S4096x512, .f32⟩
  | 43 => ⟨S1x512, .f32⟩
  | 44 => ⟨S512, .f32⟩
  | 45 => ⟨S4096x512, .f32⟩
  | 46 => ⟨S1x512, .f32⟩
  | 47 => ⟨S4096x512, .f32⟩
  | 48 => ⟨S4096x512, .f32⟩
  | 49 => ⟨S4096x512, .f32⟩
  | 50 => ⟨S1x512, .f32⟩
  | 51 => ⟨S512, .f32⟩
  | 52 => ⟨S4096x512, .f32⟩
  | 53 => ⟨S1x512, .f32⟩
  | 54 => ⟨S4096x512, .f32⟩
  | 55 => ⟨S4096x512, .f32⟩
  | 56 => ⟨S4096x512, .f32⟩
  | 57 => ⟨S1x512, .f32⟩
  | 58 => ⟨S512, .f32⟩
  | 59 => ⟨S4096x512, .f32⟩
  | 60 => ⟨S1x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S4096x512, .f32⟩
  | 67 => ⟨S1x512, .f32⟩
  | 68 => ⟨S4096x512, .f32⟩
  | 69 => ⟨S4096x512, .f32⟩
  | 70 => ⟨S4096x512, .f32⟩
  | 71 => ⟨S1x512, .f32⟩
  | 72 => ⟨S512, .f32⟩
  | 73 => ⟨S4096x512, .f32⟩
  | 74 => ⟨S1x512, .f32⟩
  | 75 => ⟨S4096x512, .f32⟩
  | 76 => ⟨S4096x512, .f32⟩
  | 77 => ⟨S4096x512, .f32⟩
  | 78 => ⟨S1x512, .f32⟩
  | 79 => ⟨S512, .f32⟩
  | 80 => ⟨S4096x512, .f32⟩
  | 81 => ⟨S1x512, .f32⟩
  | 82 => ⟨S4096x512, .f32⟩
  | 83 => ⟨S4096x512, .f32⟩
  | 84 => ⟨S4096x512, .f32⟩
  | 85 => ⟨S1x512, .f32⟩
  | 86 => ⟨S512, .f32⟩
  | 87 => ⟨S4096x512, .f32⟩
  | 88 => ⟨S1x512, .f32⟩
  | 89 => ⟨S4096x512, .f32⟩
  | 90 => ⟨S4096x512, .f32⟩
  | 91 => ⟨S4096x512, .f32⟩
  | 92 => ⟨S1x512, .f32⟩
  | 93 => ⟨S512, .f32⟩
  | 94 => ⟨S4096x512, .f32⟩
  | 95 => ⟨S1x512, .f32⟩
  | 96 => ⟨S4096x512, .f32⟩
  | 97 => ⟨S4096x512, .f32⟩
  | 98 => ⟨S4096x512, .f32⟩
  | 99 => ⟨S1x512, .f32⟩
  | 100 => ⟨S512, .f32⟩
  | 101 => ⟨S4096x512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S4096x512, .f32⟩
  | 109 => ⟨S1x512, .f32⟩
  | 110 => ⟨S4096x512, .f32⟩
  | 111 => ⟨S4096x512, .f32⟩
  | 112 => ⟨S4096x512, .f32⟩
  | 113 => ⟨S1x512, .f32⟩
  | 114 => ⟨S512, .f32⟩
  | 115 => ⟨S4096x512, .f32⟩
  | 116 => ⟨S1x512, .f32⟩
  | 117 => ⟨S4096x512, .f32⟩
  | 118 => ⟨S4096x512, .f32⟩
  | 119 => ⟨S4096x512, .f32⟩
  | 120 => ⟨S1x512, .f32⟩
  | 121 => ⟨S512, .f32⟩
  | 122 => ⟨S4096x512, .f32⟩
  | 123 => ⟨S1x512, .f32⟩
  | 124 => ⟨S4096x512, .f32⟩
  | 125 => ⟨S4096x512, .f32⟩
  | 126 => ⟨S4096x512, .f32⟩
  | 127 => ⟨S1x512, .f32⟩
  | _ => ⟨S4096x4096, .f32⟩

abbrev hbmTy0_1 (i : Nat) : BufTy := match i % 128 with
  | 0 => ⟨S512, .f32⟩
  | 1 => ⟨S4096x512, .f32⟩
  | 2 => ⟨S1x512, .f32⟩
  | 3 => ⟨S4096x512, .f32⟩
  | 4 => ⟨S4096x512, .f32⟩
  | 5 => ⟨S4096x512, .f32⟩
  | 6 => ⟨S1x512, .f32⟩
  | 7 => ⟨S512, .f32⟩
  | 8 => ⟨S4096x512, .f32⟩
  | 9 => ⟨S1x512, .f32⟩
  | 10 => ⟨S4096x512, .f32⟩
  | 11 => ⟨S4096x512, .f32⟩
  | 12 => ⟨S4096x512, .f32⟩
  | 13 => ⟨S1x512, .f32⟩
  | 14 => ⟨S512, .f32⟩
  | 15 => ⟨S4096x512, .f32⟩
  | 16 => ⟨S1x512, .f32⟩
  | 17 => ⟨S4096x512, .f32⟩
  | 18 => ⟨S4096x512, .f32⟩
  | 19 => ⟨S4096x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S4096x512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S4096x512, .f32⟩
  | 51 => ⟨S1x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S4096x512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S4096x512, .f32⟩
  | 86 => ⟨S1x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S4096x512, .f32⟩
  | 107 => ⟨S1x512, .f32⟩
  | 108 => ⟨S4096x512, .f32⟩
  | 109 => ⟨S4096x512, .f32⟩
  | 110 => ⟨S4096x512, .f32⟩
  | 111 => ⟨S1x512, .f32⟩
  | 112 => ⟨S4096x512, .f32⟩
  | 113 => ⟨S4096x512, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S4096x512, .f32⟩
  | 121 => ⟨S4096x512, .f32⟩
  | 122 => ⟨S4096x512, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x4096, .f32⟩

abbrev hbmTy0_2 (i : Nat) : BufTy := match i % 128 with
  | 0 => ⟨S4096x1, .f32⟩
  | 1 => ⟨S_, .f32⟩
  | 2 => ⟨S4096x1, .f32⟩
  | 3 => ⟨S4096x1, .f32⟩
  | 4 => ⟨S4096x1, .f32⟩
  | 5 => ⟨S4096x512, .f32⟩
  | 6 => ⟨S4096x512, .f32⟩
  | 7 => ⟨S1x512, .f32⟩
  | 8 => ⟨S4096x512, .f32⟩
  | 9 => ⟨S4096x512, .f32⟩
  | 10 => ⟨S1x512, .f32⟩
  | 11 => ⟨S4096x512, .f32⟩
  | 12 => ⟨S4096x512, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .bf16⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_cst_7 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== SguFKernel.lean ====
abbrev S4096x4096 : Shape := ⟨2, ![4096, 4096]⟩
abbrev S4x128 : Shape := ⟨2, ![4, 128]⟩
abbrev S4x128x128 : Shape := ⟨3, ![4, 128, 128]⟩
abbrev S4x1x128 : Shape := ⟨3, ![4, 1, 128]⟩
abbrev S4x128x1 : Shape := ⟨3, ![4, 128, 1]⟩
abbrev S4096x512 : Shape := ⟨2, ![4096, 512]⟩
abbrev S1024x128 : Shape := ⟨2, ![1024, 128]⟩
abbrev S1x1x128 : Shape := ⟨3, ![1, 1, 128]⟩
abbrev S1x128x128 : Shape := ⟨3, ![1, 128, 128]⟩
abbrev S1x128x1 : Shape := ⟨3, ![1, 128, 1]⟩
abbrev S128x128 : Shape := ⟨2, ![128, 128]⟩
abbrev S128 : Shape := ⟨1, ![128]⟩
abbrev S128x1 : Shape := ⟨2, ![128, 1]⟩
abbrev S1x128 : Shape := ⟨2, ![1, 128]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4x128, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S4x1x128, .f32⟩
  | .hbm, ⟨6, _⟩ => ⟨S4x1x128, .f32⟩
  | .hbm, ⟨7, _⟩ => ⟨S4x128x1, .f32⟩
  | .hbm, ⟨8, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1024x128, .bf16⟩
  | .local _ .vmem, ⟨13, _⟩ => ⟨S1024x128, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SguFKernelIdeal.lean ====
variable {F : FTy → Type} [FloatOps F] [Named F]
def κ : String → Option EReal := fun
  | "gelu_c" => some ((8943 / 200000 : ℝ) : EReal)
  | _ => none
-- ==== SguFReferenceIdeal.lean ====
abbrev S4096x4096 : Shape := ⟨2, ![4096, 4096]⟩
abbrev S4x128 : Shape := ⟨2, ![4, 128]⟩
abbrev S4x128x128 : Shape := ⟨3, ![4, 128, 128]⟩
abbrev S4096x1024 : Shape := ⟨2, ![4096, 1024]⟩
abbrev S_ : Shape := ⟨0, ![]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x128, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x512, .f32⟩
  | .hbm, ⟨26, _⟩ => ⟨S4096x512, .f32⟩
  | .hbm, ⟨27, _⟩ => ⟨S4096x4x128, .f32⟩
  | .hbm, ⟨28, _⟩ => ⟨S_, .f32⟩
  | .hbm, ⟨29, _⟩ => ⟨S4096x4, .f32⟩
  | .hbm, ⟨30, _⟩ => ⟨S4096x4x1, .f32⟩
  | .hbm, ⟨31, _⟩ => ⟨S_, .f32⟩
  | .hbm, ⟨32, _⟩ => ⟨S4096x4x1, .f32⟩
  | .hbm, ⟨33, _⟩ => ⟨S4096x4x1, .f32⟩
  | .hbm, ⟨34, _⟩ => ⟨S4096x4x128, .f32⟩
  | .hbm, ⟨35, _⟩ => ⟨S4096x4x128, .f32⟩
  | .hbm, ⟨36, _⟩ => ⟨S4096x4x128, .f32⟩
  | .hbm, ⟨37, _⟩ => ⟨S_, .f32⟩
  | .hbm, ⟨38, _⟩ => ⟨S4096x4, .f32⟩
  | .hbm, ⟨39, _⟩ => ⟨S4096x4x1, .f32⟩
  | .hbm, ⟨40, _⟩ => ⟨S_, .f32⟩
  | .hbm, ⟨41, _⟩ => ⟨S4096x4x1, .f32⟩
  | .hbm, ⟨42, _⟩ => ⟨S4096x4x1, .f32⟩
  | .hbm, ⟨43, _⟩ => ⟨S_, .f32⟩
  | .hbm, ⟨44, _⟩ => ⟨S4096x4x1, .f32⟩
  | .hbm, ⟨45, _⟩ => ⟨S4096x4x1, .f32⟩
  | .hbm, ⟨46, _⟩ => ⟨S4096x4x1, .f32⟩
  | .hbm, ⟨47, _⟩ => ⟨S4096x4x128, .f32⟩
  | .hbm, ⟨48, _⟩ => ⟨S4096x4x128, .f32⟩
  | .hbm, ⟨49, _⟩ => ⟨S1x4x128, .f32⟩
  | .hbm, ⟨50, _⟩ => ⟨S4096x4x128, .f32⟩
  | .hbm, ⟨51, _⟩ => ⟨S4096x4x128, .f32⟩
  | .hbm, ⟨52, _⟩ => ⟨S1x4x128, .f32⟩
  | .hbm, ⟨53, _⟩ => ⟨S4096x4x128, .f32⟩
  | .hbm, ⟨54, _⟩ => ⟨S4096x4x128, .f32⟩
  | .hbm, ⟨55, _⟩ => ⟨S32x128x4x128, .f32⟩
  | .hbm, ⟨56, _⟩ => ⟨S_, .i1⟩
  | .hbm, ⟨57, _⟩ => ⟨S128x128, .i1⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .i1⟩
  | .hbm, ⟨65, _⟩ => ⟨S128x128, .i1⟩
  | .hbm, ⟨66, _⟩ => ⟨S128x128, .i1⟩
  | .hbm, ⟨67, _⟩ => ⟨S1x128x128, .i1⟩
  | .hbm, ⟨68, _⟩ => ⟨S_, .f32⟩
  | .hbm, ⟨69, _⟩ => ⟨S4x128x128, .i1⟩
  | .hbm, ⟨70, _⟩ => ⟨S4x128x128, .f32⟩
  | .hbm, ⟨71, _⟩ => ⟨S4x128x128, .f32⟩
  | .hbm, ⟨72, _⟩ => ⟨S4x32x128x128, .f32⟩
  | .hbm, ⟨73, _⟩ => ⟨S32x128x4x128, .f32⟩
  | .hbm, ⟨74, _⟩ => ⟨S128x4, .f32⟩
  | .hbm, ⟨75, _⟩ => ⟨S128x4x1, .f32⟩
  | .hbm, ⟨76, _⟩ => ⟨S1x128x4x1, .f32⟩
  | .hbm, ⟨77, _⟩ => ⟨S32x128x4x128, .f32⟩
  | .hbm, ⟨78, _⟩ => ⟨S32x128x4x128, .f32⟩
  | .hbm, ⟨79, _⟩ => ⟨S32x128x4x128, .f32⟩
  | .hbm, ⟨80, _⟩ => ⟨S32x128x4x128, .f32⟩
  | .hbm, ⟨81, _⟩ => ⟨S4096x512, .f32⟩
  | .hbm, ⟨82, _⟩ => ⟨S4096x512, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== PoolFKernel.lean ====
abbrev S4096x4096 : Shape := ⟨2, ![4096, 4096]⟩
abbrev S4x128x128 : Shape := ⟨3, ![4, 128, 128]⟩
abbrev S512 : Shape := ⟨1, ![512]⟩
abbrev S1x512 : Shape := ⟨2, ![1, 512]⟩
abbrev S4096x512 : Shape := ⟨2, ![4096, 512]⟩
abbrev S4096x128 : Shape := ⟨2, ![4096, 128]⟩
abbrev S1x128x128 : Shape := ⟨3, ![1, 128, 128]⟩
abbrev S1x128 : Shape := ⟨2, ![1, 128]⟩
abbrev S4160x128 : Shape := ⟨2, ![4160, 128]⟩
abbrev S128x128 : Shape := ⟨2, ![128, 128]⟩
abbrev S192x128 : Shape := ⟨2, ![192, 128]⟩
abbrev S128x1 : Shape := ⟨2, ![128, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4x128x128, .f32⟩
  | .hbm, ⟨2, _⟩ => ⟨S512, .f32⟩
  | .hbm, ⟨3, _⟩ => ⟨S1x512, .f32⟩
  | .hbm, ⟨4, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S1x128x128, .f32⟩
  | .local _ .vmem, ⟨3, _⟩ => ⟨S1x128x128, .f32⟩
  | .local _ .vmem, ⟨4, _⟩ => ⟨S1x128, .f32⟩
  | .local _ .vmem, ⟨5, _⟩ => ⟨S1x128, .f32⟩
  | .local _ .vmem, ⟨6, _⟩ => ⟨S4096x128, .bf16⟩
  | .local _ .vmem, ⟨7, _⟩ => ⟨S4096x128, .bf16⟩
  | .local _ .vmem, ⟨8, _⟩ => ⟨S4160x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v9 : BitVec 32 := Scalar.muli arg6 c128_i32
  v9
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v9 : BitVec 32 := Scalar.muli arg6 c128_i32
  let v10 : BitVec 32 := v9
  let v11 : Index := Scalar.indexCast v10
  let c0_9 : Index := 0#32
  ![v11.toNat, 0]
def k0_mult2 (k0_t1 : Fin k0_t1_loop.trips) : BitVec 32 :=
  let c32_i32_10 : BitVec 32 := 32#32
  let c0_i32 : BitVec 32 := 0#32
  let c1_i32 : BitVec 32 := 1#32
  let arg6 : BitVec 32 := Scf.iv c0_i32 c1_i32 k0_t1
  let c128_i32 : BitVec 32 := 128#32
  let v9 : BitVec 32 := Scalar.muli arg6 c128_i32
  let v10 : BitVec 32 := v9
  let v13 : BitVec 32 := Scalar.addi c32_i32_10 v10
  v13
def k0_off2 (k0_t1 : Fin k0_t1_loop.trips) : Fin 2 → Nat :=
  let c32_i32_10 : BitVec 32 := 32#32
  let c0_i32 : BitVec 32 := 0#32
  let c1_i32 : BitVec 32 := 1#32
  let arg6 : BitVec 32 := Scf.iv c0_i32 c1_i32 k0_t1
  let c128_i32 : BitVec 32 := 128#32
  let v9 : BitVec 32 := Scalar.muli arg6 c128_i32
  let v10 : BitVec 32 := v9
  let v13 : BitVec 32 := Scalar.addi c32_i32_10 v10
  let v14 : BitVec 32 := v13
  let v15 : Index := Scalar.indexCast v14
  let c0_11 : Index := 0#32
  ![v15.toNat, 0]
@[reducible] def k0_t2_loop : Scf.Loop 32 :=
  let c0_i32_5 : BitVec 32 := 0#32
  let c32_i32_6 : BitVec 32 := 32#32
  let v8 : BitVec 32 := Scalar.addi c0_i32_5 c32_i32_6
  let c1_i32_7 : BitVec 32 := 1#32
  ⟨c0_i32_5, v8, c1_i32_7⟩
def k0_mult3 (k0_t2 : Fin k0_t2_loop.trips) : BitVec 32 :=
  let c0_i32_5 : BitVec 32 := 0#32
  let c1_i32_7 : BitVec 32 := 1#32
  let arg6 : BitVec 32 := Scf.iv c0_i32_5 c1_i32_7 k0_t2
  let c128_i32 : BitVec 32 := 128#32
  let v9 : BitVec 32 := Scalar.muli arg6 c128_i32
  v9
def k0_off3 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let c128_i32 : BitVec 32 := 128#32
  let v9 : BitVec 32 := Scalar.muli arg6 c128_i32
  let v10 : BitVec 32 := v9
  let v11 : Index := Scalar.indexCast v10
  let c0_9 : Index := 0#32
  ![v11.toNat, 0]
def k0_off4 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let c128_i32 : BitVec 32 := 128#32
  let v9 : BitVec 32 := Scalar.muli arg6 c128_i32
  let v10 : BitVec 32 := v9
  let v48 : Index := Scalar.indexCast v10
  let c0_19 : Index := 0#32
  ![v48.toNat, 0]
def cc0_transform_0 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFReferenceIdeal.lean ====
abbrev S4096x4096 : Shape := ⟨2, ![4096, 4096]⟩
abbrev S4x128x128 : Shape := ⟨3, ![4, 128, 128]⟩
abbrev S512 : Shape := ⟨1, ![512]⟩
abbrev S4096x512 : Shape := ⟨2, ![4096, 512]⟩
abbrev S4096x4x128 : Shape := ⟨3, ![4096, 4, 128]⟩
abbrev S_ : Shape := ⟨0, ![]⟩
abbrev S4096 : Shape := ⟨1, ![4096]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4096x1 : Shape := ⟨2, ![4096, 1]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S1x512 : Shape := ⟨2, ![1, 512]⟩

abbrev nBuf : Space → Nat
  | .hbm => 81
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x128x128, .f32⟩
  | .hbm, ⟨2, _⟩ => ⟨S512, .f32⟩
  | .hbm, ⟨3, _⟩ => ⟨S4096x512, .f32⟩
  | .hbm, ⟨4, _⟩ => ⟨S4096x4x128, .f32⟩
  | .hbm, ⟨5, _⟩ => ⟨S_, .f32⟩
  | .hbm, ⟨6, _⟩ => ⟨S_, .f32⟩
  | .hbm, ⟨7, _⟩ => ⟨S4096x4x128, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096x1x128, .f32⟩
  | .hbm, ⟨13, _⟩ => ⟨S4096x128, .f32⟩
  | .hbm, ⟨14, _⟩ => ⟨S_, .f32⟩
  | .hbm, ⟨15, _⟩ => ⟨S2x128, .f32⟩
  | .hbm, ⟨16, _⟩ => ⟨S4098x128, .f32⟩
  | .hbm, ⟨17, _⟩ => ⟨S4096x128, .f32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .f32⟩
  | .hbm, ⟨22, _⟩ => ⟨S4096x128, .f32⟩
  | .hbm, ⟨23, _⟩ => ⟨S4096x1, .f32⟩
  | .hbm, ⟨24, _⟩ => ⟨S4096x128, .f32⟩
  | .hbm, ⟨25, _⟩ => ⟨S4096x128, .f32⟩
  | .hbm, ⟨26, _⟩ => ⟨S4096x1x128, .f32⟩
  | .hbm, ⟨27, _⟩ => ⟨S4096x128, .f32⟩
  | .hbm, ⟨28, _⟩ => ⟨S_, .f32⟩
  | .hbm, ⟨29, _⟩ => ⟨S4x128, .f32⟩
  | .hbm, ⟨30, _⟩ => ⟨S4100x128, .f32⟩
  | .hbm, ⟨31, _⟩ => ⟨S4096x128, .f32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .f32⟩
  | .hbm, ⟨36, _⟩ => ⟨S4096x128, .f32⟩
  | .hbm, ⟨37, _⟩ => ⟨S4096x1, .f32⟩
  | .hbm, ⟨38, _⟩ => ⟨S4096x128, .f32⟩
  | .hbm, ⟨39, _⟩ => ⟨S4096x128, .f32⟩
  | .hbm, ⟨40, _⟩ => ⟨S4096x1x128, .f32⟩
  | .hbm, ⟨41, _⟩ => ⟨S4096x128, .f32⟩
  | .hbm, ⟨42, _⟩ => ⟨S_, .f32⟩
  | .hbm, ⟨43, _⟩ => ⟨S8x128, .f32⟩
  | .hbm, ⟨44, _⟩ => ⟨S4104x128, .f32⟩
  | .hbm, ⟨45, _⟩ => ⟨S4096x128, .f32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .f32⟩
  | .hbm, ⟨50, _⟩ => ⟨S4096x128, .f32⟩
  | .hbm, ⟨51, _⟩ => ⟨S4096x1, .f32⟩
  | .hbm, ⟨52, _⟩ => ⟨S4096x128, .f32⟩
  | .hbm, ⟨53, _⟩ => ⟨S4096x128, .f32⟩
  | .hbm, ⟨54, _⟩ => ⟨S4096x1x128, .f32⟩
  | .hbm, ⟨55, _⟩ => ⟨S4096x128, .f32⟩
  | .hbm, ⟨56, _⟩ => ⟨S_, .f32⟩
  | .hbm, ⟨57, _⟩ => ⟨S16x128, .f32⟩
  | .hbm, ⟨58, _⟩ => ⟨S4112x128, .f32⟩
  | .hbm, ⟨59, _⟩ => ⟨S4096x128, .f32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .f32⟩
  | .hbm, ⟨64, _⟩ => ⟨S4096x128, .f32⟩
  | .hbm, ⟨65, _⟩ => ⟨S4096x1, .f32⟩
  | .hbm, ⟨66, _⟩ => ⟨S4096x128, .f32⟩
  | .hbm, ⟨67, _⟩ => ⟨S4096x128, .f32⟩
  | .hbm, ⟨68, _⟩ => ⟨S4096x1x128, .f32⟩
  | .hbm, ⟨69, _⟩ => ⟨S4096x1x128, .f32⟩
  | .hbm, ⟨70, _⟩ => ⟨S4096x1x128, .f32⟩
  | .hbm, ⟨71, _⟩ => ⟨S4096x1x128, .f32⟩
  | .hbm, ⟨72, _⟩ => ⟨S4096x4x128, .f32⟩
  | .hbm, ⟨73, _⟩ => ⟨S4096x4x128, .f32⟩
  | .hbm, ⟨74, _⟩ => ⟨S4x128x4096, .f32⟩
  | .hbm, ⟨75, _⟩ => ⟨S4096x4x128, .f32⟩
  | .hbm, ⟨76, _⟩ => ⟨S4096x512, .f32⟩
  | .hbm, ⟨77, _⟩ => ⟨S1x512, .f32⟩
  | .hbm, ⟨78, _⟩ => ⟨S4096x512, .f32⟩
  | .hbm, ⟨79, _⟩ => ⟨S4096x512, .f32⟩
  | .hbm, ⟨80, _⟩ => ⟨S4096x512, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== SwigluFKernel.lean ====
abbrev S4096x2048 : Shape := ⟨2, ![4096, 2048]⟩
abbrev S2048x5632 : Shape := ⟨2, ![2048, 5632]⟩
abbrev S2x1024x4x1408 : Shape := ⟨4, ![2, 1024, 4, 1408]⟩
abbrev S4x2x1024x1408 : Shape := ⟨4, ![4, 2, 1024, 1408]⟩
abbrev S8x1024x1408 : Shape := ⟨3, ![8, 1024, 1408]⟩
abbrev S4096x5632 : Shape := ⟨2, ![4096, 5632]⟩
abbrev S512x2048 : Shape := ⟨2, ![512, 2048]⟩
abbrev S1x1024x1408 : Shape := ⟨3, ![1, 1024, 1408]⟩
abbrev S512x1408 : Shape := ⟨2, ![512, 1408]⟩
abbrev S1x1024x256 : Shape := ⟨3, ![1, 1024, 256]⟩
abbrev S1024x256 : Shape := ⟨2, ![1024, 256]⟩
abbrev S512x1024 : Shape := ⟨2, ![512, 1024]⟩
abbrev S512x256 : Shape := ⟨2, ![512, 256]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 14
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2x1024x4x1408, .bf16⟩
  | .hbm, ⟨5, _⟩ => ⟨S4x2x1024x1408, .bf16⟩
  | .hbm, ⟨6, _⟩ => ⟨S8x1024x1408, .bf16⟩
  | .hbm, ⟨7, _⟩ => ⟨S2048x5632, .bf16⟩
  | .hbm, ⟨8, _⟩ => ⟨S2x1024x4x1408, .bf16⟩
  | .hbm, ⟨9, _⟩ => ⟨S4x2x1024x1408, .bf16⟩
  | .hbm, ⟨10, _⟩ => ⟨S8x1024x1408, .bf16⟩
  | .hbm, ⟨11, _⟩ => ⟨S4096x5632, .bf16⟩
  | .hbm, ⟨12, _⟩ => ⟨S4096x5632, .bf16⟩
  | .hbm, ⟨13, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwigluFReferenceIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | .hbm, ⟨18, _⟩ => ⟨S4096x5632, .bf16⟩
  | .hbm, ⟨19, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== PleFKernel.lean ====
abbrev S4096x2048 : Shape := ⟨2, ![4096, 2048]⟩
abbrev S2048x2048 : Shape := ⟨2, ![2048, 2048]⟩
abbrev S4x512x2x1024 : Shape := ⟨4, ![4, 512, 2, 1024]⟩
abbrev S4x2x512x1024 : Shape := ⟨4, ![4, 2, 512, 1024]⟩
abbrev S8x512x1024 : Shape := ⟨3, ![8, 512, 1024]⟩
abbrev S1024x2048 : Shape := ⟨2, ![1024, 2048]⟩
abbrev S1x512x1024 : Shape := ⟨3, ![1, 512, 1024]⟩
abbrev S1024x1024 : Shape := ⟨2, ![1024, 1024]⟩
abbrev S1x512x256 : Shape := ⟨3, ![1, 512, 256]⟩
abbrev S512x256 : Shape := ⟨2, ![512, 256]⟩
abbrev S1024x512 : Shape := ⟨2, ![1024, 512]⟩
abbrev S1024x256 : Shape := ⟨2, ![1024, 256]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4x512x2x1024, .bf16⟩
  | .hbm, ⟨6, _⟩ => ⟨S4x2x512x1024, .bf16⟩
  | .hbm, ⟨7, _⟩ => ⟨S8x512x1024, .bf16⟩
  | .hbm, ⟨8, _⟩ => ⟨S4096x2048, .f32⟩
  | .hbm, ⟨9, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, v27.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c6_i32 : BitVec 32 := 6#32
  let v17 : BitVec 32 := Scalar.addi c6_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PleFReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== CfConvFKernel.lean ====
abbrev S4096x4096 : Shape := ⟨2, ![4096, 4096]⟩
abbrev S31x512 : Shape := ⟨2, ![31, 512]⟩
abbrev S512 : Shape := ⟨1, ![512]⟩
abbrev S1x512 : Shape := ⟨2, ![1, 512]⟩
abbrev S4096x512 : Shape := ⟨2, ![4096, 512]⟩
abbrev S4096x128 : Shape := ⟨2, ![4096, 128]⟩
abbrev S31x128 : Shape := ⟨2, ![31, 128]⟩
abbrev S1x128 : Shape := ⟨2, ![1, 128]⟩
abbrev S4160x128 : Shape := ⟨2, ![4160, 128]⟩
abbrev S128x128 : Shape := ⟨2, ![128, 128]⟩
abbrev S192x128 : Shape := ⟨2, ![192, 128]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S31x512, .f32⟩
  | .hbm, ⟨2, _⟩ => ⟨S512, .f32⟩
  | .hbm, ⟨3, _⟩ => ⟨S1x512, .f32⟩
  | .hbm, ⟨4, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4160x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  v6
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v8 : Index := Scalar.indexCast v7
  let c0_6 : Index := 0#32
  ![v8.toNat, 0]
def k0_mult2 (k0_t1 : Fin k0_t1_loop.trips) : BitVec 32 :=
  let c32_i32_11 : BitVec 32 := 32#32
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v20 : BitVec 32 := Scalar.addi c32_i32_11 v7
  v20
def k0_off2 (k0_t1 : Fin k0_t1_loop.trips) : Fin 2 → Nat :=
  let c32_i32_11 : BitVec 32 := 32#32
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v20 : BitVec 32 := Scalar.addi c32_i32_11 v7
  let v21 : BitVec 32 := v20
  let v22 : Index := Scalar.indexCast v21
  let c0_12 : Index := 0#32
  ![v22.toNat, 0]
@[reducible] def k0_t2_loop : Scf.Loop 32 :=
  let c0_i32_2 : BitVec 32 := 0#32
  let c32_i32_3 : BitVec 32 := 32#32
  let v5 : BitVec 32 := Scalar.addi c0_i32_2 c32_i32_3
  let c1_i32_4 : BitVec 32 := 1#32
  ⟨c0_i32_2, v5, c1_i32_4⟩
def k0_mult3 (k0_t2 : Fin k0_t2_loop.trips) : BitVec 32 :=
  let c0_i32_2 : BitVec 32 := 0#32
  let c1_i32_4 : BitVec 32 := 1#32
  let arg7 : BitVec 32 := Scf.iv c0_i32_2 c1_i32_4 k0_t2
  let c128_i32 : BitVec 32 := 128#32
  let v6 : BitVec 32 := Scalar.muli arg7 c128_i32
  v6
def k0_off3 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c128_i32 : BitVec 32 := 128#32
  let v6 : BitVec 32 := Scalar.muli arg7 c128_i32
  let v7 : BitVec 32 := v6
  let v8 : Index := Scalar.indexCast v7
  let c0_6 : Index := 0#32
  ![v8.toNat, 0]
def k0_off4 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c128_i32 : BitVec 32 := 128#32
  let v6 : BitVec 32 := Scalar.muli arg7 c128_i32
  let v7 : BitVec 32 := v6
  let v200 : Index := Scalar.indexCast v7
  let c0_43 : Index := 0#32
  ![v200.toNat, 0]
def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CfConvFReferenceIdeal.lean ====
abbrev S4096x4096 : Shape := ⟨2, ![4096, 4096]⟩
abbrev S31x512 : Shape := ⟨2, ![31, 512]⟩
abbrev S512 : Shape := ⟨1, ![512]⟩
abbrev S4096x1024 : Shape := ⟨2, ![4096, 1024]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩

abbrev nBuf : Space → Nat
  | .hbm => 240
  | .vmem => 0
  | .smem => 0
  | _ => 0

abbrev hbmTy0_0 (i : Nat) : BufTy := match i % 128 with
  | 0 => ⟨S4096x4096, .f32⟩
  | 1 => ⟨S31x512, .f32⟩
  | 2 => ⟨S512, .f32⟩
  | 3 => ⟨S4096x1024, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S4096x512, .f32⟩
  | 15 => ⟨S_, .f32⟩
  | 16 => ⟨S30x512, .f32⟩
  | 17 => ⟨S4126x512, .f32⟩
  | 18 => ⟨S1x512, .f32⟩
  | 19 => ⟨S512, .f32⟩
  | 20 => ⟨S4096x512, .f32⟩
  | 21 => ⟨S1x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S1x512, .f32⟩
  | 28 => ⟨S512, .f32⟩
  | 29 => ⟨S4096x512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S4096x512, .f32⟩
  | 51 => ⟨S1x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S4096x512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S4096x512, .f32⟩
  | 86 => ⟨S1x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S4096x512, .f32⟩
  | 107 => ⟨S1x512, .f32⟩
  | 108 => ⟨S4096x512, .f32⟩
  | 109 => ⟨S4096x512, .f32⟩
  | 110 => ⟨S4096x512, .f32⟩
  | 111 => ⟨S1x512, .f32⟩
  | 112 => ⟨S512, .f32⟩
  | 113 => ⟨S4096x512, .f32⟩
  | 114 => ⟨S1x512, .f32⟩
  | 115 => ⟨S4096x512, .f32⟩
  | 116 => ⟨S4096x512, .f32⟩
  | 117 => ⟨S4096x512, .f32⟩
  | 118 => ⟨S1x512, .f32⟩
  | 119 => ⟨S512, .f32⟩
  | 120 => ⟨S4096x512, .f32⟩
  | 121 => ⟨S1x512, .f32⟩
  | 122 => ⟨S4096x512, .f32⟩
  | 123 => ⟨S4096x512, .f32⟩
  | 124 => ⟨S4096x512, .f32⟩
  | 125 => ⟨S1x512, .f32⟩
  | 126 => ⟨S512, .f32⟩
  | 127 => ⟨S4096x512, .f32⟩
  | _ => ⟨S4096x4096, .f32⟩

abbrev hbmTy0_1 (i : Nat) : BufTy := match i % 128 with
  | 0 => ⟨S1x512, .f32⟩
  | 1 => ⟨S4096x512, .f32⟩
  | 2 => ⟨S4096x512, .f32⟩
  | 3 => ⟨S4096x512, .f32⟩
  | 4 => ⟨S1x512, .f32⟩
  | 5 => ⟨S512, .f32⟩
  | 6 => ⟨S4096x512, .f32⟩
  | 7 => ⟨S1x512, .f32⟩
  | 8 => ⟨S4096x512, .f32⟩
  | 9 => ⟨S4096x512, .f32⟩
  | 10 => ⟨S4096x512, .f32⟩
  | 11 => ⟨S1x512, .f32⟩
  | 12 => ⟨S512, .f32⟩
  | 13 => ⟨S4096x512, .f32⟩
  | 14 => ⟨S1x512, .f32⟩
  | 15 => ⟨S4096x512, .f32⟩
  | 16 => ⟨S4096x512, .f32⟩
  | 17 => ⟨S4096x512, .f32⟩
  | 18 => ⟨S1x512, .f32⟩
  | 19 => ⟨S512, .f32⟩
  | 20 => ⟨S4096x512, .f32⟩
  | 21 => ⟨S1x512, .f32⟩
  | 22 => ⟨S4096x512, .f32⟩
  | 23 => ⟨S4096x512, .f32⟩
  | 24 => ⟨S4096x512, .f32⟩
  | 25 => ⟨S1x512, .f32⟩
  | 26 => ⟨S512, .f32⟩
  | 27 => ⟨S4096x512, .f32⟩
  | 28 => ⟨S1x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S4096x512, .f32⟩
  | 35 => ⟨S1x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S4096x512, .f32⟩
  | 49 => ⟨S1x512, .f32⟩
  | 50 => ⟨S4096x512, .f32⟩
  | 51 => ⟨S4096x512, .f32⟩
  | 52 => ⟨S4096x512, .f32⟩
  | 53 => ⟨S1x512, .f32⟩
  | 54 => ⟨S512, .f32⟩
  | 55 => ⟨S4096x512, .f32⟩
  | 56 => ⟨S1x512, .f32⟩
  | 57 => ⟨S4096x512, .f32⟩
  | 58 => ⟨S4096x512, .f32⟩
  | 59 => ⟨S4096x512, .f32⟩
  | 60 => ⟨S1x512, .f32⟩
  | 61 => ⟨S512, .f32⟩
  | 62 => ⟨S4096x512, .f32⟩
  | 63 => ⟨S1x512, .f32⟩
  | 64 => ⟨S4096x512, .f32⟩
  | 65 => ⟨S4096x512, .f32⟩
  | 66 => ⟨S4096x512, .f32⟩
  | 67 => ⟨S1x512, .f32⟩
  | 68 => ⟨S512, .f32⟩
  | 69 => ⟨S4096x512, .f32⟩
  | 70 => ⟨S1x512, .f32⟩
  | 71 => ⟨S4096x512, .f32⟩
  | 72 => ⟨S4096x512, .f32⟩
  | 73 => ⟨S4096x512, .f32⟩
  | 74 => ⟨S1x512, .f32⟩
  | 75 => ⟨S512, .f32⟩
  | 76 => ⟨S4096x512, .f32⟩
  | 77 => ⟨S1x512, .f32⟩
  | 78 => ⟨S4096x512, .f32⟩
  | 79 => ⟨S4096x512, .f32⟩
  | 80 => ⟨S4096x512, .f32⟩
  | 81 => ⟨S1x512, .f32⟩
  | 82 => ⟨S512, .f32⟩
  | 83 => ⟨S4096x512, .f32⟩
  | 84 => ⟨S1x512, .f32⟩
  | 85 => ⟨S4096x512, .f32⟩
  | 86 => ⟨S4096x512, .f32⟩
  | 87 => ⟨S4096x512, .f32⟩
  | 88 => ⟨S1x512, .f32⟩
  | 89 => ⟨S512, .f32⟩
  | 90 => ⟨S4096x512, .f32⟩
  | 91 => ⟨S1x512, .f32⟩
  | 92 => ⟨S4096x512, .f32⟩
  | 93 => ⟨S4096x512, .f32⟩
  | 94 => ⟨S4096x512, .f32⟩
  | 95 => ⟨S1x512, .f32⟩
  | 96 => ⟨S512, .f32⟩
  | 97 => ⟨S4096x512, .f32⟩
  | 98 => ⟨S1x512, .f32⟩
  | 99 => ⟨S4096x512, .f32⟩
  | 100 => ⟨S4096x512, .f32⟩
  | 101 => ⟨S4096x512, .f32⟩
  | 102 => ⟨S1x512, .f32⟩
  | 103 => ⟨S512, .f32⟩
  | 104 => ⟨S4096x512, .f32⟩
  | 105 => ⟨S1x512, .f32⟩
  | 106 => ⟨S4096x512, .f32⟩
  | 107 => ⟨S4096x512, .f32⟩
  | 108 => ⟨S4096x512, .f32⟩
  | 109 => ⟨S1x512, .f32⟩
  | 110 => ⟨S4096x512, .f32⟩
  | 111 => ⟨S4096x512, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩

abbrev nD : Nat := 1
abbrev τ : Topo := Topo.v7x

variable {F : FTy → Type} [FloatOps F]
-- ==== ShortFKernel.lean ====
abbrev S4096x4096 : Shape := ⟨2, ![4096, 4096]⟩
abbrev S3x512 : Shape := ⟨2, ![3, 512]⟩
abbrev S4096x512 : Shape := ⟨2, ![4096, 512]⟩
abbrev S4096x128 : Shape := ⟨2, ![4096, 128]⟩
abbrev S3x128 : Shape := ⟨2, ![3, 128]⟩
abbrev S4160x128 : Shape := ⟨2, ![4160, 128]⟩
abbrev S128x128 : Shape := ⟨2, ![128, 128]⟩
abbrev S192x128 : Shape := ⟨2, ![192, 128]⟩
abbrev S1x128 : Shape := ⟨2, ![1, 128]⟩

abbrev nBuf : Space → Nat
  | .hbm => 3
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S3x512, .f32⟩
  | .hbm, ⟨2, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S4160x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  v6
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v8 : Index := Scalar.indexCast v7
  let c0_6 : Index := 0#32
  ![v8.toNat, 0]
def k0_mult2 (k0_t1 : Fin k0_t1_loop.trips) : BitVec 32 :=
  let c32_i32_8 : BitVec 32 := 32#32
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v13 : BitVec 32 := Scalar.addi c32_i32_8 v7
  v13
def k0_off2 (k0_t1 : Fin k0_t1_loop.trips) : Fin 2 → Nat :=
  let c32_i32_8 : BitVec 32 := 32#32
  let c0_i32 : BitVec 32 := 0#32
  let c1_i32 : BitVec 32 := 1#32
  let arg7 : BitVec 32 := Scf.iv c0_i32 c1_i32 k0_t1
  let c128_i32 : BitVec 32 := 128#32
  let v6 : BitVec 32 := Scalar.muli arg7 c128_i32
  let v7 : BitVec 32 := v6
  let v13 : BitVec 32 := Scalar.addi c32_i32_8 v7
  let v14 : BitVec 32 := v13
  let v15 : Index := Scalar.indexCast v14
  let c0_9 : Index := 0#32
  ![v15.toNat, 0]
@[reducible] def k0_t2_loop : Scf.Loop 32 :=
  let c0_i32_2 : BitVec 32 := 0#32
  let c32_i32_3 : BitVec 32 := 32#32
  let v5 : BitVec 32 := Scalar.addi c0_i32_2 c32_i32_3
  let c1_i32_4 : BitVec 32 := 1#32
  ⟨c0_i32_2, v5, c1_i32_4⟩
def k0_mult3 (k0_t2 : Fin k0_t2_loop.trips) : BitVec 32 :=
  let c0_i32_2 : BitVec 32 := 0#32
  let c1_i32_4 : BitVec 32 := 1#32
  let arg7 : BitVec 32 := Scf.iv c0_i32_2 c1_i32_4 k0_t2
  let c128_i32 : BitVec 32 := 128#32
  let v6 : BitVec 32 := Scalar.muli arg7 c128_i32
  v6
def k0_off3 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c128_i32 : BitVec 32 := 128#32
  let v6 : BitVec 32 := Scalar.muli arg7 c128_i32
  let v7 : BitVec 32 := v6
  let v8 : Index := Scalar.indexCast v7
  let c0_6 : Index := 0#32
  ![v8.toNat, 0]
def k0_off4 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c128_i32 : BitVec 32 := 128#32
  let v6 : BitVec 32 := Scalar.muli arg7 c128_i32
  let v7 : BitVec 32 := v6
  let v28 : Index := Scalar.indexCast v7
  let c0_13 : Index := 0#32
  ![v28.toNat, 0]
def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ShortFReferenceIdeal.lean ====
abbrev S4096x4096 : Shape := ⟨2, ![4096, 4096]⟩
abbrev S3x512 : Shape := ⟨2, ![3, 512]⟩
abbrev S4096x1536 : Shape := ⟨2, ![4096, 1536]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 35
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S3x512, .f32⟩
  | .hbm, ⟨2, _⟩ => ⟨S4096x1536, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S1x512, .f32⟩
  | .hbm, ⟨11, _⟩ => ⟨S512, .f32⟩
  | .hbm, ⟨12, _⟩ => ⟨S4096x512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S512, .f32⟩
  | .hbm, ⟨21, _⟩ => ⟨S4096x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S4096x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== WGradKernel.lean ====
abbrev S4096x2048 : Shape := ⟨2, ![4096, 2048]⟩
abbrev S4096x5632 : Shape := ⟨2, ![4096, 5632]⟩
abbrev S4x2048x1408 : Shape := ⟨3, ![4, 2048, 1408]⟩
abbrev S4096x512 : Shape := ⟨2, ![4096, 512]⟩
abbrev S4096x1408 : Shape := ⟨2, ![4096, 1408]⟩
abbrev S1x512x1408 : Shape := ⟨3, ![1, 512, 1408]⟩
abbrev S512x512 : Shape := ⟨2, ![512, 512]⟩
abbrev S1x512x512 : Shape := ⟨3, ![1, 512, 512]⟩
abbrev S4096x384 : Shape := ⟨2, ![4096, 384]⟩
abbrev S512x384 : Shape := ⟨2, ![512, 384]⟩
abbrev S1x512x384 : Shape := ⟨3, ![1, 512, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WGradReferenceIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ResidKernel.lean ====
abbrev S4096x5632 : Shape := ⟨2, ![4096, 5632]⟩
abbrev S5632x2048 : Shape := ⟨2, ![5632, 2048]⟩
abbrev S4096x2048 : Shape := ⟨2, ![4096, 2048]⟩
abbrev S4x1408x2x1024 : Shape := ⟨4, ![4, 1408, 2, 1024]⟩
abbrev S4x2x1408x1024 : Shape := ⟨4, ![4, 2, 1408, 1024]⟩
abbrev S8x1408x1024 : Shape := ⟨3, ![8, 1408, 1024]⟩
abbrev S1024x5632 : Shape := ⟨2, ![1024, 5632]⟩
abbrev S1x1408x512 : Shape := ⟨3, ![1, 1408, 512]⟩
abbrev S1024x512 : Shape := ⟨2, ![1024, 512]⟩
abbrev S1x1408x256 : Shape := ⟨3, ![1, 1408, 256]⟩
abbrev S1408x256 : Shape := ⟨2, ![1408, 256]⟩
abbrev S1024x1408 : Shape := ⟨2, ![1024, 1408]⟩
abbrev S1024x256 : Shape := ⟨2, ![1024, 256]⟩

abbrev nBuf : Space → Nat
  | .hbm => 8
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S5632x2048, .bf16⟩
  | .hbm, ⟨4, _⟩ => ⟨S4x1408x2x1024, .bf16⟩
  | .hbm, ⟨5, _⟩ => ⟨S4x2x1408x1024, .bf16⟩
  | .hbm, ⟨6, _⟩ => ⟨S8x1408x1024, .bf16⟩
  | .hbm, ⟨7, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x1408x512, .bf16⟩
  | .local _ .vmem, ⟨3, _⟩ => ⟨S1x1408x512, .bf16⟩
  | .local _ .vmem, ⟨4, _⟩ => ⟨S1x1408x512, .bf16⟩
  | .local _ .vmem, ⟨5, _⟩ => ⟨S1x1408x512, .bf16⟩
  | .local _ .vmem, ⟨6, _⟩ => ⟨S1x1408x512, .bf16⟩
  | .local _ .vmem, ⟨7, _⟩ => ⟨S1x1408x512, .bf16⟩
  | .local _ .vmem, ⟨8, _⟩ => ⟨S1x1408x512, .bf16⟩
  | .local _ .vmem, ⟨9, _⟩ => ⟨S1x1408x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ResidReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S4096x5632, .f32⟩
  | .hbm, ⟨4, _⟩ => ⟨S4096x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AGradKernel.lean ====
abbrev S4096x4096 : Shape := ⟨2, ![4096, 4096]⟩
abbrev S2048x4096 : Shape := ⟨2, ![2048, 4096]⟩
abbrev S2x1024x4x1024 : Shape := ⟨4, ![2, 1024, 4, 1024]⟩
abbrev S4x2x1024x1024 : Shape := ⟨4, ![4, 2, 1024, 1024]⟩
abbrev S8x1024x1024 : Shape := ⟨3, ![8, 1024, 1024]⟩
abbrev S4096x2048 : Shape := ⟨2, ![4096, 2048]⟩
abbrev S1024x4096 : Shape := ⟨2, ![1024, 4096]⟩
abbrev S1x512x1024 : Shape := ⟨3, ![1, 512, 1024]⟩
abbrev S1024x512 : Shape := ⟨2, ![1024, 512]⟩
abbrev S1x256x1024 : Shape := ⟨3, ![1, 256, 1024]⟩
abbrev S256x1024 : Shape := ⟨2, ![256, 1024]⟩
abbrev S1024x1024 : Shape := ⟨2, ![1024, 1024]⟩
abbrev S1024x256 : Shape := ⟨2, ![1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S2048x4096, .bf16⟩
  | .hbm, ⟨3, _⟩ => ⟨S2x1024x4x1024, .bf16⟩
  | .hbm, ⟨4, _⟩ => ⟨S4x2x1024x1024, .bf16⟩
  | .hbm, ⟨5, _⟩ => ⟨S8x1024x1024, .bf16⟩
  | .hbm, ⟨6, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x512, .bf16⟩
  | .local _ .vmem, ⟨11, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AGradReferenceIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x4096, .f32⟩
  | .hbm, ⟨6, _⟩ => ⟨S4096x2048, .f32⟩
  | .hbm, ⟨7, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FGradKernel.lean ====
abbrev S4096x5632 : Shape := ⟨2, ![4096, 5632]⟩
abbrev S2048x5632 : Shape := ⟨2, ![2048, 5632]⟩
abbrev S2x1024x4x1408 : Shape := ⟨4, ![2, 1024, 4, 1408]⟩
abbrev S4x2x1024x1408 : Shape := ⟨4, ![4, 2, 1024, 1408]⟩
abbrev S8x1024x1408 : Shape := ⟨3, ![8, 1024, 1408]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2x1024x4x1408, .bf16⟩
  | .hbm, ⟨6, _⟩ => ⟨S4x2x1024x1408, .bf16⟩
  | .hbm, ⟨7, _⟩ => ⟨S8x1024x1408, .bf16⟩
  | .hbm, ⟨8, _⟩ => ⟨S2048x5632, .bf16⟩
  | .hbm, ⟨9, _⟩ => ⟨S2x1024x4x1408, .bf16⟩
  | .hbm, ⟨10, _⟩ => ⟨S4x2x1024x1408, .bf16⟩
  | .hbm, ⟨11, _⟩ => ⟨S8x1024x1408, .bf16⟩
  | .hbm, ⟨12, _⟩ => ⟨S4096x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.divsi arg1 c1_i32_5
  let c0_i32_6 : BitVec 32 := 0#32
  let v19 : BitVec 1 := Scalar.cmpi .sgt arg1 c0_i32_6
  let v20 : BitVec 32 := Scalar.extui v19
  let c0_i32_7 : BitVec 32 := 0#32
  let v21 : BitVec 1 := Scalar.cmpi .slt arg1 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg1 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c1_i32_12 : BitVec 32 := 1#32
  let c0_i32_13 : BitVec 32 := 0#32
  let v36 : BitVec 1 := Scalar.cmpi .eq c1_i32_12 c0_i32_13
  let c1_i32_14 : BitVec 32 := 1#32
  let v37 : BitVec 32 := Scalar.select v36 c1_i32_14 c1_i32_12
  let v38 : BitVec 32 := Scalar.remsi arg1 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg2 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.divsi arg1 c1_i32_5
  let c0_i32_6 : BitVec 32 := 0#32
  let v19 : BitVec 1 := Scalar.cmpi .sgt arg1 c0_i32_6
  let v20 : BitVec 32 := Scalar.extui v19
  let c0_i32_7 : BitVec 32 := 0#32
  let v21 : BitVec 1 := Scalar.cmpi .slt arg1 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg1 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let v35 : BitVec 32 := Scalar.addi v17 v34
  let c1_i32_12 : BitVec 32 := 1#32
  let c0_i32_13 : BitVec 32 := 0#32
  let v36 : BitVec 1 := Scalar.cmpi .eq c1_i32_12 c0_i32_13
  let c1_i32_14 : BitVec 32 := 1#32
  let v37 : BitVec 32 := Scalar.select v36 c1_i32_14 c1_i32_12
  let v38 : BitVec 32 := Scalar.remsi arg1 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg2 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v45.toNat, v55.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FGradReferenceIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Sum8Kernel.lean ====
abbrev S8x4096x128 : Shape := ⟨3, ![8, 4096, 128]⟩
abbrev S4096x128 : Shape := ⟨2, ![4096, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x4096x128, .bf16⟩
  | .hbm, ⟨1, _⟩ => ⟨S4096x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Sum8ReferenceIdeal.lean ====
abbrev S8x4096x128 : Shape := ⟨3, ![8, 4096, 128]⟩
abbrev S_ : Shape := ⟨0, ![]⟩
abbrev S4096x128 : Shape := ⟨2, ![4096, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x4096x128, .bf16⟩
  | .hbm, ⟨1, _⟩ => ⟨S8x4096x128, .f32⟩
  | .hbm, ⟨2, _⟩ => ⟨S_, .f32⟩
  | .hbm, ⟨3, _⟩ => ⟨S4096x128, .f32⟩
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamKernel.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Lib.Scalar.lean ====
/- Facts about single extended reals that several of the step's gradients use: the float literals of the programs, and
   the gate's sigmoid in the two spellings. -/
module

public import Idealize.ShloMosaic.PureOps.Ideal

@[expose] public section

noncomputable section

namespace Cert.Step

open Idealize.ShloMosaic

/-- The literal 0.5. -/
theorem lit_half : Ideal.ofBits .f32 0x3F000000#32 = ((1 / 2 : ℝ) : EReal) := by
  simp [Ideal.ofBits, Ideal.ieee, -EReal.coe_mul]; norm_num

/-- The literal 1. -/
theorem lit_one : Ideal.ofBits .f32 0x3F800000#32 = ((1 : ℝ) : EReal) := by
  simp [Ideal.ofBits, Ideal.ieee, -EReal.coe_mul]; norm_num

/-- The literal 0. -/
theorem lit_zero : Ideal.ofBits .f32 0x00000000#32 = (0 : EReal) := by
  simp [Ideal.ofBits, Ideal.ieee, -EReal.coe_mul]

/-- The real identity behind the gate: `½ tanh(x/2) + ½` is the logistic function. -/
theorem half_tanh (x : ℝ) : 1 / 2 * Real.tanh (1 / 2 * x) + 1 / 2 = (1 + Real.exp (-x))⁻¹ := by
  have hp : 0 < Real.exp (1 / 2 * x) := Real.exp_pos _
  have hq : 0 < Real.exp (-(1 / 2 * x)) := Real.exp_pos _
  have hpq : Real.exp (1 / 2 * x) * Real.exp (-(1 / 2 * x)) = 1 := by rw [← Real.exp_add]; simp
  have hx : Real.exp (-x) = Real.exp (-(1 / 2 * x)) * Real.exp (-(1 / 2 * x)) := by
    rw [← Real.exp_add]; congr 1; ring
  rw [Real.tanh_eq, hx]
  generalize Real.exp (1 / 2 * x) = p at *
  generalize Real.exp (-(1 / 2 * x)) = q at *
  have hs : p + q ≠ 0 := by positivity
  have ht : (1 : ℝ) + q * q ≠ 0 := by positivity
  field_simp
  linear_combination (2 * q) * hpq

/-- The kernel's sigmoid, `½ tanh(½ x) + ½`, is the logistic function at every extended real. -/
theorem sigmoid_eq (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top]
    rw [show (1 : EReal) = ((1 : ℝ) : EReal) by simp, ← EReal.coe_mul, ← EReal.coe_add]; norm_num
  | coe r =>
    rw [← EReal.coe_mul, Ideal.tanh_coe, ← EReal.coe_mul, ← EReal.coe_add, Ideal.logistic_coe, half_tanh]

/-- The quotient the host spells the sigmoid by. -/
theorem quotient_eq (x : EReal) : Ideal.div ((1 : ℝ) : EReal) (((1 : ℝ) : EReal) + Ideal.exp (-x)) = Ideal.logistic x := by
  rw [EReal.coe_one]; rfl

end Cert.Step

end
-- ==== Proof.PleClaims.lean ====
/- The gate's gradient (`_ple_bwd`): from the cotangent of the residual stream, the gradients of the projected embedding
   and of the gate's argument. -/
module

public import proofs.«01_k».proof.Defs
public import proofs.«01_k».proof.Proof.Lib.Scalar
public import proofs.«01_k».proof.Proof.Gen.PleKernel.Frame
public import proofs.«01_k».proof.Proof.Gen.PleKernelIdeal.Value
public import proofs.«01_k».proof.Proof.Gen.PleReferenceIdeal.Run
public import proofs.«01_k».proof.Proof.Gen.PleReferenceIdeal.Read

@[expose] public section

noncomputable section

namespace Cert.Proof.PleClaims

open Idealize.ShloMosaic Idealize.SL.Sem Cert.Step

/-- The host's sigmoid of the gate's argument is the logistic function. -/
theorem gate_host (x1 : (⟨Cert.PleReferenceIdeal.S4096x2048, .bf16⟩ : BufTy).Contents (Elt Ideal))
    (i : Cert.PleReferenceIdeal.S4096x2048.Idx) :
    Cert.PleReferenceIdeal.Read.val_main_v7 (F := Ideal) x1 i = Ideal.logistic (x1 i) := by
  show Ideal.div (Ideal.ofBits .f32 0x3F800000#32) (Ideal.ofBits .f32 0x3F800000#32 + Ideal.exp (-(x1 i))) = _
  rw [lit_one]; exact quotient_eq _

/-- The projected embedding's gradient: `sigmoid(pg) · dh` both ways round. -/
theorem dpp_eq (x0 : (⟨Cert.PleReferenceIdeal.S4096x2048, .f32⟩ : BufTy).Contents (Elt Ideal))
    (x1 : (⟨Cert.PleReferenceIdeal.S4096x2048, .bf16⟩ : BufTy).Contents (Elt Ideal)) :
    Cert.PleReferenceIdeal.Read.val_main_v15 (F := Ideal) x0 x1 = Cert.PleKernelIdeal.Value.G3 (F := Ideal) x0 x1 := by
  funext i
  show Cert.PleReferenceIdeal.Read.val_main_v7 (F := Ideal) x1 i * x0 i
    = x0 i * (Ideal.ofBits .f32 0x3F000000#32 * Ideal.tanh (Ideal.ofBits .f32 0x3F000000#32 * x1 i) + Ideal.ofBits .f32 0x3F000000#32)
  rw [gate_host, lit_half, sigmoid_eq, mul_comm]

/-- The gate argument's gradient: `dh · pp · σ · (1 − σ)` whichever way the four factors are bracketed. -/
theorem dpg_eq (x0 : (⟨Cert.PleReferenceIdeal.S4096x2048, .f32⟩ : BufTy).Contents (Elt Ideal))
    (x1 x2 : (⟨Cert.PleReferenceIdeal.S4096x2048, .bf16⟩ : BufTy).Contents (Elt Ideal)) :
    Cert.PleReferenceIdeal.Read.val_main_v16 (F := Ideal) x0 x1 x2
      = Cert.PleKernelIdeal.Value.G4 (F := Ideal) x0 x1 x2 := by
  funext i
  show (x0 i * x2 i) * (Cert.PleReferenceIdeal.Read.val_main_v7 (F := Ideal) x1 i
      * (Ideal.ofBits .f32 0x3F800000#32 - Cert.PleReferenceIdeal.Read.val_main_v7 (F := Ideal) x1 i))
    = x0 i * x2 i * (Ideal.ofBits .f32 0x3F000000#32 * Ideal.tanh (Ideal.ofBits .f32 0x3F000000#32 * x1 i) + Ideal.ofBits .f32 0x3F000000#32)
      * (Ideal.ofBits .f32 0x3F800000#32 - (Ideal.ofBits .f32 0x3F000000#32 * Ideal.tanh (Ideal.ofBits .f32 0x3F000000#32 * x1 i) + Ideal.ofBits .f32 0x3F000000#32))
  rw [gate_host, lit_half, sigmoid_eq, mul_assoc]
  simp only [mul_assoc]

/-- The kernel's frame. -/
theorem frame_kernel : Cert.quiescent_PleKernel := fun m ρ _ => Cert.PleKernel.Gen.frame m ρ
/-- The idealized kernel's frame. -/
theorem frame_ideal : Cert.quiescent_PleKernelIdeal := fun m ρ _ => Cert.PleKernelIdeal.Gen.frame m ρ
/-- The reference's frame: its run leaves the arguments alone, and it has no semaphore. -/
theorem frame_reference : Cert.quiescent_PleReferenceIdeal := fun m ρ _ =>
  (θ_run Cert.PleReferenceIdeal.defs _ _).mono
    (fun r h => ⟨fun c => (h c).2.2, sem_eq_zero_of_no_sems (by decide) r.2⟩)
    (Cert.PleReferenceIdeal.Value.run (F := Ideal) m ρ)
/-- The ideal pass rewrote nothing. -/
theorem preserves : Cert.preserves_PleKernel_PleKernelIdeal := trivial

/-- Both programs end with the same two arrays. -/
theorem algebraic : Cert.algebraic_PleKernelIdeal_PleReferenceIdeal := by
  intro m ρ m' ρ' _ hag
  refine ⟨fun c => _, fun c => _, Cert.PleKernelIdeal.Value.run (F := Ideal) m ρ, ?_⟩
  refine (θ_run Cert.PleReferenceIdeal.defs _ _).mono (fun _ h c => ⟨(h c).1.trans ?_, (h c).2.1.trans ?_, (h c).2.2⟩)
    (Cert.PleReferenceIdeal.Value.run (F := Ideal) m' ρ')
  · rw [Cert.PleReferenceIdeal.Read.val_main_v15_eq, dpp_eq, (hag c).1, (hag c).2.1]
  · rw [Cert.PleReferenceIdeal.Read.val_main_v16_eq, dpg_eq, (hag c).1, (hag c).2.1, (hag c).2.2]

end Cert.Proof.PleClaims

end
-- ==== Proof.Lib.Real.lean ====
/- Real numbers inside the extended reals: the operations that a kernel or its reference applies to finite values give
   the finite value that real arithmetic gives, and a host test `|x| < ∞` of a whole array says its entries are finite. -/
module

public import Idealize.ShloMosaic.Lib.ReduceAll
public import Idealize.ShloMosaic.Lib.StableHlo
public import Idealize.ShloMosaic.PureOps.Ideal

@[expose] public section

noncomputable section

namespace Cert.Step

open Idealize.ShloMosaic

/-- A finite sum of real values is real. -/
theorem sum_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of real values by a divisor other than zero. -/
theorem div_real (a : ℝ) {b : ℝ} (hb : b ≠ 0) : Ideal.div (a : EReal) (b : EReal) = ((a / b : ℝ) : EReal) := by
  rw [Ideal.div_coe hb, ← EReal.coe_mul, mul_one_div]

/-- The reciprocal root of a positive real value. -/
theorem rsqrt_real {a : ℝ} (ha : 0 < a) : Ideal.rsqrt (a : EReal) = (((Real.sqrt a)⁻¹ : ℝ) : EReal) := by
  rw [Ideal.rsqrt_coe, if_neg ha.le.not_gt, if_neg ha.ne']

/-- Sums, products, differences and negations of real values, written as one real value. -/
theorem add_real (a b : ℝ) : (a : EReal) + (b : EReal) = ((a + b : ℝ) : EReal) := (EReal.coe_add a b).symm
theorem mul_real (a b : ℝ) : (a : EReal) * (b : EReal) = ((a * b : ℝ) : EReal) := (EReal.coe_mul a b).symm
theorem sub_real (a b : ℝ) : (a : EReal) - (b : EReal) = ((a - b : ℝ) : EReal) := (EReal.coe_sub a b).symm
theorem neg_real (a : ℝ) : -(a : EReal) = ((-a : ℝ) : EReal) := (EReal.coe_neg a).symm

/-- Every entry of an array is a real number. -/
def AllReal {s : Shape} (x : s.Idx → EReal) : Prop := ∀ i, ∃ r : ℝ, x i = (r : EReal)

/-- The real numbers that a finite array holds. -/
theorem lift_real {s : Shape} {x : s.Idx → EReal} (h : AllReal x) : ∃ r : s.Idx → ℝ, x = fun i => ((r i : ℝ) : EReal) :=
  ⟨fun i => (h i).choose, funext fun i => (h i).choose_spec⟩

/-- The infinity patterns that the tests compare with. -/
theorem inf_f32 : Ideal.ofBits .f32 0x7F800000#32 = (⊤ : EReal) := by simp [Ideal.ofBits, Ideal.ieee]
theorem inf_bf16 : Ideal.ofBits .bf16 0x7F80#16 = (⊤ : EReal) := by simp [Ideal.ofBits, Ideal.ieee]

/-- An extended real whose absolute value is below infinity is a real number. -/
theorem real_of_abs_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- The shape of a scalar. -/
abbrev Scal : Shape := ⟨0, ![]⟩

/-- The host's test `all(|x| < ∞)` of an array, where it answers true, says that every entry is a real number. -/
theorem finite_of_test {s : Shape} {φ : FTy} {axes : List (Fin s.rank)} (x : FVec Ideal s φ) (b : BitVec φ.bits)
    (hb : Ideal.ofBits φ b = (⊤ : EReal)) (bc : Scal.BroadcastsInDim s (![] : Fin 0 → Fin s.rank))
    (hr : s.ReducesTo axes Scal) (hu : 0 < Scal.numel) (j : Scal.Idx)
    (h : Host.reduce IntOp.andi (cmpf .olt (Host.absf x) (broadcastInDim s ![] bc (constant Scal φ b))) (constantI Scal 1 1#1) hr hu j = 1#1) :
    AllReal x := fun i => by
  haveI : Subsingleton Scal.Idx := ⟨fun a b => funext fun k => k.elim0⟩
  have e := Host.reduce_andi_all _ _ _ _ j h i
  refine real_of_abs_lt (x i) ?_
  rw [← hb]; exact e

end Cert.Step

end
-- ==== Proof.Lib.LayerNorm.lean ====
/- Layer norm of one row of real numbers and its gradient: the kernel's one formula for the row's gradient, and the
   reference's chain rule through the mean, the variance and the reciprocal root. -/
module

public import Idealize.ShloMosaic.PureOps.Ideal

@[expose] public section

noncomputable section

namespace Cert.Step

variable {n : ℕ}

/-- The mean of a row. -/
def mean (x : Fin n → ℝ) : ℝ := (∑ j, x j) / (n : ℝ)
/-- A row with its mean taken off. -/
def cen (x : Fin n → ℝ) (k : Fin n) : ℝ := x k - mean x
/-- The row's variance. -/
def var (x : Fin n → ℝ) : ℝ := mean fun j => cen x j * cen x j
/-- The reciprocal root of the variance, `ε` added. -/
def rstd (ε : ℝ) (x : Fin n → ℝ) : ℝ := (Real.sqrt (var x + ε))⁻¹
/-- The normalised row. -/
def xhat (ε : ℝ) (x : Fin n → ℝ) (k : Fin n) : ℝ := cen x k * rstd ε x

/-- The kernel's gradient of the row, of a cotangent `d` of the normalised row. -/
def lnGrad (ε : ℝ) (x d : Fin n → ℝ) (k : Fin n) : ℝ :=
  rstd ε x * (d k - mean d - xhat ε x k * mean fun j => d j * xhat ε x j)

/-- The chain rule's factor through the variance: what each centred entry receives, once per factor of its square. -/
def viaVar (ε : ℝ) (x d : Fin n → ℝ) : ℝ :=
  (∑ j, cen x j * d j) * (-(1 / 2) * (rstd ε x / (var x + ε))) / (n : ℝ)
/-- The chain rule's gradient of the centred row. -/
def cenGrad (ε : ℝ) (x d : Fin n → ℝ) (k : Fin n) : ℝ :=
  d k * rstd ε x + cen x k * viaVar ε x d + viaVar ε x d * cen x k
/-- The chain rule's gradient of the row: the centred row's, and the mean's share. -/
def lnGradChain (ε : ℝ) (x d : Fin n → ℝ) (k : Fin n) : ℝ :=
  cenGrad ε x d k + (∑ j, -cenGrad ε x d j) / (n : ℝ)

theorem var_nonneg (x : Fin n → ℝ) : 0 ≤ var x :=
  div_nonneg (Finset.sum_nonneg fun j _ => mul_self_nonneg _) (Nat.cast_nonneg n)

/-- The centred row sums to zero. -/
theorem sum_cen (hn : (n : ℝ) ≠ 0) (x : Fin n → ℝ) : ∑ j, cen x j = 0 := by
  simp only [cen, Finset.sum_sub_distrib, Finset.sum_const, Finset.card_univ, Fintype.card_fin, nsmul_eq_mul, mean]
  field_simp; ring

/-- The square of the reciprocal root. -/
theorem rstd_sq {ε : ℝ} (hε : 0 < ε) (x : Fin n → ℝ) : rstd ε x * rstd ε x = 1 / (var x + ε) := by
  have h : 0 < var x + ε := add_pos_of_nonneg_of_pos (var_nonneg x) hε
  rw [rstd, ← mul_inv, Real.mul_self_sqrt h.le, one_div]

/-- The kernel's formula is the chain rule's. -/
theorem lnGrad_eq_chain (hn : (n : ℝ) ≠ 0) {ε : ℝ} (hε : 0 < ε) (x d : Fin n → ℝ) (k : Fin n) :
    lnGradChain ε x d k = lnGrad ε x d k := by
  have hs : ∑ j, -cenGrad ε x d j = -(rstd ε x * ∑ j, d j) := by
    rw [Finset.sum_neg_distrib]
    congr 1
    have : ∀ j, cenGrad ε x d j = rstd ε x * d j + (2 * viaVar ε x d) * cen x j := fun j => by
      rw [cenGrad]; ring
    rw [Finset.sum_congr rfl fun j _ => this j, Finset.sum_add_distrib, ← Finset.mul_sum, ← Finset.mul_sum,
      sum_cen hn, mul_zero, add_zero]
  have hm : (mean fun j => d j * xhat ε x j) = rstd ε x * (∑ j, cen x j * d j) / (n : ℝ) := by
    rw [mean, Finset.mul_sum]
    congr 1
    exact Finset.sum_congr rfl fun j _ => by rw [xhat]; ring
  have hr : rstd ε x / (var x + ε) = rstd ε x * (rstd ε x * rstd ε x) := by rw [rstd_sq hε]; ring
  rw [lnGradChain, hs, cenGrad, viaVar, hr, lnGrad, hm, mean, xhat]
  ring

end Cert.Step

end
-- ==== Proof.Lib.LnIdeal.lean ====
/- The layer norm's literals and its steps on real values, as the programs spell them over the extended reals. -/
module

public import proofs.«01_k».proof.Proof.Lib.Real
public import proofs.«01_k».proof.Proof.Lib.Scalar
public import proofs.«01_k».proof.Proof.Lib.LayerNorm

@[expose] public section

noncomputable section

namespace Cert.Step

open Idealize.ShloMosaic

/-- The literal that the programs add to a variance. -/
def eps : ℝ := 8796093 / 8796093022208

theorem eps_pos : 0 < eps := by norm_num [eps]
theorem lit_eps : Ideal.ofBits .f32 0x358637BD#32 = (eps : EReal) := by
  simp [Ideal.ofBits, Ideal.ieee, -EReal.coe_mul, eps]; norm_num
/-- The literals 512, 128 and −½. -/
theorem lit_512 : Ideal.ofBits .f32 0x44000000#32 = (((512 : ℕ) : ℝ) : EReal) := by
  simp [Ideal.ofBits, Ideal.ieee, -EReal.coe_mul]; norm_num
theorem lit_128 : Ideal.ofBits .f32 0x43000000#32 = (((128 : ℕ) : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num

/-- A row's sum over the number of its entries is its mean. -/
theorem mean_real {n : ℕ} (hn : (n : ℝ) ≠ 0) (x : Fin n → ℝ) :
    Ideal.div (∑ j, ((x j : ℝ) : EReal)) ((n : ℝ) : EReal) = ((mean x : ℝ) : EReal) := by
  rw [sum_real, div_real _ hn, mean]

/-- The reciprocal root of a variance with the programs' literal added. -/
theorem rstd_real {n : ℕ} (x : Fin n → ℝ) :
    Ideal.rsqrt (((var x : ℝ) : EReal) + (eps : EReal)) = ((rstd eps x : ℝ) : EReal) := by
  rw [add_real, rsqrt_real (add_pos_of_nonneg_of_pos (var_nonneg x) eps_pos), rstd]

/-- The logistic function of a real number. -/
def sg (x : ℝ) : ℝ := (1 + Real.exp (-x))⁻¹
theorem logistic_real (x : ℝ) : Ideal.logistic (x : EReal) = ((sg x : ℝ) : EReal) := Ideal.logistic_coe x

/-- The kernel's sigmoid of a real value. -/
theorem sigmoid_real (x : ℝ) :
    Ideal.ofBits .f32 0x3F000000#32 * Ideal.tanh (Ideal.ofBits .f32 0x3F000000#32 * (x : EReal)) + Ideal.ofBits .f32 0x3F000000#32
      = ((sg x : ℝ) : EReal) := by
  rw [lit_half, sigmoid_eq, logistic_real]

/-- The host's sigmoid of a real value. -/
theorem quotient_real (x : ℝ) : Ideal.div 1 (1 + Ideal.exp (-(x : EReal))) = ((sg x : ℝ) : EReal) := by
  rw [← EReal.coe_one, quotient_eq, logistic_real]

/-- The literal 1 as a real value. -/
theorem one_real : (1 : EReal) = ((1 : ℝ) : EReal) := EReal.coe_one.symm

/-- The derivative of `l · σ(l)` as the kernel writes it. -/
def dsilu (l : ℝ) : ℝ := 1 + l * (1 - sg l)

end Cert.Step

end
-- ==== Proof.CfLnRows.lean ====
/- What the conformer mixer's norm kernel computes at one row of a block: over real rows, the layer norm, the SiLU's
   gradient and the row's gradient. -/
module

public import proofs.«01_k».proof.Proof.Lib.LnIdeal
public import proofs.«01_k».proof.Proof.Gen.CfLnKernelIdeal.Value
public import Idealize.ShloMosaic.Lib.Pipeline.ValueKit

@[expose] public section

set_option maxRecDepth 16384

noncomputable section

namespace Cert.Proof.CfLn

open Idealize.ShloMosaic Cert.CfLnKernelIdeal Cert.CfLnKernelIdeal.Gen Cert.Step

/-- The normalised row scaled and shifted: the SiLU's argument. -/
def lin (x g b : Fin 512 → ℝ) (k : Fin 512) : ℝ := xhat eps x k * g k + b k
/-- The SiLU argument's gradient. -/
def dlin (x g b d : Fin 512 → ℝ) (k : Fin 512) : ℝ := d k * sg (lin x g b k) * dsilu (lin x g b k)

/-- The cotangent's column that meets column `k` of this mixer's group. -/
abbrev col (k : Fin 512) : Fin 2048 := ⟨1024 + k.val, by omega⟩

theorem n512 : ((512 : ℕ) : ℝ) ≠ 0 := by norm_num

variable {v0 : Vec Ideal S512x512 .f32} {r : Fin 512} {x : Fin 512 → ℝ} (h : ∀ k, v0 (ix2 r k) = ((x k : ℝ) : EReal))
variable {vg vb : Vec Ideal S1x512 .f32} {g b : Fin 512 → ℝ} (hg : ∀ k, vg (ix2 0 k) = ((g k : ℝ) : EReal))
variable (hb : ∀ k, vb (ix2 0 k) = ((b k : ℝ) : EReal))
variable {vd : Vec Ideal S512x512 .bf16} {d : Fin 512 → ℝ} (hd : ∀ k, vd (ix2 r k) = ((d k : ℝ) : EReal))

include h in
theorem pay2_row (k : Fin 512) : k0_pay2 (F := Ideal) v0 (ix2 r k) = ((cen x k : ℝ) : EReal) := by
  unfold k0_pay2
  pointwise
  simp only [h, lit_512, mean_real n512, sub_real, cen]

include h in
theorem pay3_row : k0_pay3 (F := Ideal) v0 (ix2 r 0) = ((rstd eps x : ℝ) : EReal) := by
  unfold k0_pay3
  pointwise
  simp only [pay2_row h, lit_512, lit_eps, mul_real, mean_real n512]
  exact rstd_real x

include h in
theorem pay4_row (k : Fin 512) : k0_pay4 (F := Ideal) v0 (ix2 r k) = ((xhat eps x k : ℝ) : EReal) := by
  unfold k0_pay4
  pointwise
  simp only [pay2_row h, pay3_row h, mul_real, xhat]

include h hg hb in
theorem pay5_row (k : Fin 512) : k0_pay5 (F := Ideal) v0 vg vb (ix2 r k) = ((lin x g b k : ℝ) : EReal) := by
  unfold k0_pay5
  pointwise
  simp only [pay4_row h, hg, hb, mul_real, add_real, lin]

include h hg hb in
theorem pay6_row (k : Fin 512) : k0_pay6 (F := Ideal) v0 vg vb (ix2 r k) = ((sg (lin x g b k) : ℝ) : EReal) := by
  unfold k0_pay6
  pointwise
  rw [pay5_row h hg hb, sigmoid_real]

include h hg hb hd in
/-- The SiLU argument's gradient, as the kernel groups it. -/
theorem pay10_row (k : Fin 512) :
    k0_pay10 (F := Ideal) (k0_pay7 v0 vg vb vd) (k0_pay8 v0 vg vb) k0_pay9 (ix2 r k) = ((dlin x g b d k : ℝ) : EReal) := by
  unfold k0_pay10 k0_pay7 k0_pay8 k0_pay9
  pointwise
  simp only [pay6_row h hg hb, pay5_row h hg hb, hd, lit_one, mul_real, add_real, sub_real]
  rfl

include h hg hb hd in
/-- The row's gradient. -/
theorem pay11_row (k : Fin 512) :
    k0_pay11 (F := Ideal) (k0_pay3 v0) (k0_pay4 v0) (k0_pay7 v0 vg vb vd) (k0_pay8 v0 vg vb) k0_pay9 vg (ix2 r k)
      = ((lnGrad eps x (fun j => dlin x g b d j * g j) k : ℝ) : EReal) := by
  unfold k0_pay11
  pointwise
  simp only [pay10_row h hg hb hd, pay3_row h, pay4_row h, hg, lit_512, mul_real, mean_real n512, sub_real]
  rfl

end Cert.Proof.CfLn

end
-- ==== Proof.Lib.Bands.lean ====
/- A sum over the rows of an array, taken band by band. -/
module

public import Idealize.ShloMosaic.Lib.Pipeline.ValueKit

@[expose] public section

namespace Cert.Step

/-- Row `r` of band `p` is a row of the array. -/
theorem band_lt {N B L : ℕ} (h : L = N * B) (p : Fin N) (r : Fin B) : p.val * B + r.val < L := by
  have hp := p.isLt; have hr := r.isLt
  calc p.val * B + r.val < p.val * B + B := by omega
    _ = (p.val + 1) * B := by ring
    _ ≤ N * B := Nat.mul_le_mul_right _ hp
    _ = L := h.symm

/-- A sum over `N` bands of `B` rows each is the sum over the rows. -/
theorem sum_bands {M : Type*} [AddCommMonoid M] {N B L : ℕ} (h : L = N * B) (f : Fin L → M) :
    ∑ p : Fin N, ∑ r : Fin B, f ⟨p.val * B + r.val, band_lt h p r⟩ = ∑ i, f i := by
  subst h
  rw [← Fintype.sum_prod_type', ← Equiv.sum_comp finProdFinEquiv f]
  refine Finset.sum_congr rfl fun q _ => congrArg f (Fin.ext ?_)
  simp [finProdFinEquiv, Nat.mul_comm, Nat.add_comm]

end Cert.Step
-- ==== Proof.CfLnArrays.lean ====
/- What the conformer mixer's norm kernel leaves in its four result arrays, over real operand rows. -/
module

public import proofs.«01_k».proof.Proof.CfLnRows
public import proofs.«01_k».proof.Proof.Lib.Bands

@[expose] public section

set_option maxRecDepth 16384

noncomputable section

namespace Cert.Proof.CfLn

open Idealize.ShloMosaic Idealize.ShloMosaic.TcCoe Idealize.SL.Sem Cert.CfLnKernelIdeal Cert.CfLnKernelIdeal.Gen Cert.Step

variable {m : (ℓ : Loc nD τ sig) → Buf (Elt Ideal) ℓ} {c : Dev nD}

/-- Row `r` of the band at point `t`. -/
def rowAt (t : Fin cfg0.N) (r : Fin 512) : Fin 4096 := ⟨t.val * 512 + r.val, by have := lt_of_lt_of_eq t.isLt N_0; omega⟩

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

theorem read0 (t : Fin cfg0.N) (r k : Fin 512) : iblk m c 0 t (ix2 r k) = V m c main_v232 (ix2 (rowAt t r) k) := by
  blk_point [iblk, rowAt, idx t]
theorem read1 (t : Fin cfg0.N) (r k : Fin 512) : iblk m c 1 t (ix2 r k) = V m c main_v233 (ix2 (rowAt t r) k) := by
  blk_point [iblk, rowAt, idx t]
theorem read2 (t : Fin cfg0.N) (k : Fin 512) : iblk m c 2 t (ix2 0 k) = V m c main_v234 (ix2 0 k) := by
  blk_point [iblk, idx t]
theorem read3 (t : Fin cfg0.N) (k : Fin 512) : iblk m c 3 t (ix2 0 k) = V m c main_v235 (ix2 0 k) := by
  blk_point [iblk, idx t]

/-- The operand rows are real: the convolution's rows, the cotangent's, the norm's scale and shift. -/
structure RealRows (m : (ℓ : Loc nD τ sig) → Buf (Elt Ideal) ℓ) (c : Dev nD) (x d : Fin 4096 → Fin 512 → ℝ) (g b : Fin 512 → ℝ) : Prop where
  x : ∀ i k, V m c main_v232 (ix2 i k) = ((x i k : ℝ) : EReal)
  d : ∀ i k, V m c main_v233 (ix2 i k) = ((d i k : ℝ) : EReal)
  g : ∀ k, V m c main_v234 (ix2 0 k) = ((g k : ℝ) : EReal)
  b : ∀ k, V m c main_v235 (ix2 0 k) = ((b k : ℝ) : EReal)

/-- One row of the gradient in the convolution's output. -/
def dccRow (x d g b : Fin 512 → ℝ) : Fin 512 → ℝ := lnGrad eps x (fun j => dlin x g b d j * g j)

/-- One row's terms of the gradients in the norm's scale and shift. -/
def dgRow (x d g b : Fin 512 → ℝ) (k : Fin 512) : ℝ := dlin x g b d k * xhat eps x k

variable {x d : Fin 4096 → Fin 512 → ℝ} {g b : Fin 512 → ℝ} (H : RealRows m c x d g b)

section
include H

/-- The operand blocks' rows at point `t`. -/
theorem blk0 (t : Fin cfg0.N) (r k : Fin 512) : iblk m c 0 t (ix2 r k) = ((x (rowAt t r) k : ℝ) : EReal) := (read0 t r k).trans (H.x _ _)
theorem blk1 (t : Fin cfg0.N) (r k : Fin 512) : iblk m c 1 t (ix2 r k) = ((d (rowAt t r) k : ℝ) : EReal) := (read1 t r k).trans (H.d _ _)
theorem blk2 (t : Fin cfg0.N) (k : Fin 512) : iblk m c 2 t (ix2 0 k) = ((g k : ℝ) : EReal) := (read2 t k).trans (H.g _)
theorem blk3 (t : Fin cfg0.N) (k : Fin 512) : iblk m c 3 t (ix2 0 k) = ((b k : ℝ) : EReal) := (read3 t k).trans (H.b _)

/-- The first result's block at point `t`. -/
theorem pt11 (t : Fin cfg0.N) (r k : Fin 512) :
    k0_pay11 (F := Ideal) (k0_pay3 (iblk m c 0 t)) (k0_pay4 (iblk m c 0 t)) (k0_pay7 (iblk m c 0 t) (iblk m c 2 t) (iblk m c 3 t) (iblk m c 1 t))
      (k0_pay8 (iblk m c 0 t) (iblk m c 2 t) (iblk m c 3 t)) k0_pay9 (iblk m c 2 t) (ix2 r k)
      = ((dccRow (x (rowAt t r)) (d (rowAt t r)) g b k : ℝ) : EReal) :=
  pay11_row (blk0 H t r) (blk2 H t) (blk3 H t) (blk1 H t r) k

/-- The SiLU argument's gradient at point `t`. -/
theorem pt10 (t : Fin cfg0.N) (r k : Fin 512) :
    k0_pay10 (F := Ideal) (k0_pay7 (iblk m c 0 t) (iblk m c 2 t) (iblk m c 3 t) (iblk m c 1 t))
      (k0_pay8 (iblk m c 0 t) (iblk m c 2 t) (iblk m c 3 t)) k0_pay9 (ix2 r k)
      = ((dlin (x (rowAt t r)) g b (d (rowAt t r)) k : ℝ) : EReal) :=
  pay10_row (blk0 H t r) (blk2 H t) (blk3 H t) (blk1 H t r) k

/-- The three column accumulators take the block's column sums. -/
theorem pt15 (t : Fin cfg0.N) (acc : Vec Ideal S1x512 .f32) (k : Fin 512) :
    k0_pay15 (F := Ideal) (k0_pay4 (iblk m c 0 t)) (k0_pay7 (iblk m c 0 t) (iblk m c 2 t) (iblk m c 3 t) (iblk m c 1 t))
      (k0_pay8 (iblk m c 0 t) (iblk m c 2 t) (iblk m c 3 t)) k0_pay9 acc (ix2 0 k)
      = acc (ix2 0 k) + ∑ r : Fin 512, ((dgRow (x (rowAt t r)) (d (rowAt t r)) g b k : ℝ) : EReal) := by
  unfold k0_pay15
  pointwise
  simp only [pt10 H, pay4_row (blk0 H t _), mul_real, dgRow]
theorem pt16 (t : Fin cfg0.N) (acc : Vec Ideal S1x512 .f32) (k : Fin 512) :
    k0_pay16 (F := Ideal) (k0_pay7 (iblk m c 0 t) (iblk m c 2 t) (iblk m c 3 t) (iblk m c 1 t))
      (k0_pay8 (iblk m c 0 t) (iblk m c 2 t) (iblk m c 3 t)) k0_pay9 acc (ix2 0 k)
      = acc (ix2 0 k) + ∑ r : Fin 512, ((dlin (x (rowAt t r)) g b (d (rowAt t r)) k : ℝ) : EReal) := by
  unfold k0_pay16
  pointwise
  simp only [pt10 H]
theorem pt1 (t : Fin cfg0.N) (acc : Vec Ideal S1x512 .f32) (k : Fin 512) :
    k0_pay1 (F := Ideal) (k0_pay11 (F := Ideal) (k0_pay3 (iblk m c 0 t)) (k0_pay4 (iblk m c 0 t)) (k0_pay7 (iblk m c 0 t) (iblk m c 2 t) (iblk m c 3 t) (iblk m c 1 t))
      (k0_pay8 (iblk m c 0 t) (iblk m c 2 t) (iblk m c 3 t)) k0_pay9 (iblk m c 2 t)) acc (ix2 0 k)
      = acc (ix2 0 k) + ∑ r : Fin 512, ((dccRow (x (rowAt t r)) (d (rowAt t r)) g b k : ℝ) : EReal) := by
  unfold k0_pay1
  pointwise
  simp only [pt11 H]

end

theorem zero12 (j : S1x512.Idx) : k0_pay12 (F := Ideal) j = 0 := by unfold k0_pay12; pointwise
theorem zero13 (j : S1x512.Idx) : k0_pay13 (F := Ideal) j = 0 := by unfold k0_pay13; pointwise
theorem zero14 (j : S1x512.Idx) : k0_pay14 (F := Ideal) j = 0 := by unfold k0_pay14; pointwise

/-- Block terms, summed over the grid, are the array's rows summed. -/
theorem sum_points (f : Fin 4096 → ℝ) :
    ∑ p : Fin cfg0.N, ∑ r : Fin 512, ((f (rowAt p r) : ℝ) : EReal) = ((∑ i, f i : ℝ) : EReal) :=
  (sum_bands (B := 512) (show 4096 = cfg0.N * 512 from by rw [show cfg0.N = 8 from N_0]) (fun i => ((f i : ℝ) : EReal))).trans (sum_real _ _)

include H in
/-- The first result: every row's gradient. -/
theorem arr4 : (dats m 0 c).arrAt 4 cfg0.N
    = fun y : S4096x512.Idx => ((dccRow (x (y 0)) (d (y 0)) g b (y 1) : ℝ) : EReal) := by
  refine (dats m 0 c).arrAt_eq_of_covers 4 _ (by decide +kernel) fun t hf y => ?_
  blk_simp
  have e : ∀ y : S512x512.Idx, ((View.whole main_v236_0).slice (win0_4.rect t)).emb y = ix2 (rowAt t (y 0)) (y 1) := fun y => by
    blk_ext [rowAt, idx t]
  rw [after0_4, e y]
  by_cases h0 : t.val % 8 = 0
  · rw [outsAt0_A m c t h0]; frame_out
    exact (congrArg _ (eq_ix2 y)).trans (pt11 H t (y 0) (y 1))
  · rw [outsAt0_B m c t h0]; frame_out
    exact (congrArg _ (eq_ix2 y)).trans (pt11 H t (y 0) (y 1))

include H in
/-- A result summed over the grid: the gradient in the norm's scale. -/
theorem arr5 : (dats m 0 c).arrAt 5 cfg0.N = fun y : S1x512.Idx => ((∑ i, dgRow (x i) (d i) g b (y 1) : ℝ) : EReal) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0)
    (fun t j => ∑ r : Fin 512, ((dgRow (x (rowAt t r)) (d (rowAt t r)) g b (j 1) : ℝ) : EReal))
    (fun t h j => by rw [outsAt0_A m c t h]; frame_out; idx_vars j; obtain rfl : j0 = 0 := Subsingleton.elim _ _; exact (pt15 H t _ j1).trans (congrArg (· + _) (zero12 _)))
    (fun t h j => by rw [outsAt0_B m c t h]; frame_out; idx_vars j; obtain rfl : j0 = 0 := Subsingleton.elim _ _; exact pt15 H t _ j1)
    (le_of_eq N_0) t0_7 rfl j, zero_add]
  exact sum_points fun i => dgRow (x i) (d i) g b (j 1)

include H in
/-- A result summed over the grid: the gradient in the norm's shift. -/
theorem arr6 : (dats m 0 c).arrAt 6 cfg0.N = fun y : S1x512.Idx => ((∑ i, dlin (x i) g b (d i) (y 1) : ℝ) : EReal) := by
  refine (dats m 0 c).arrAt_eq_of_after_last 6 t0_7 (by decide +kernel) _ fun j => ?_
  blk_simp
  rw [after0_6, Pipeline.eq_sum_fin_of_reset_step_apply_last (fun n h => (outsAt0 m c n h).2.2.1) 8 (fun _ => 0)
    (fun t j => ∑ r : Fin 512, ((dlin (x (rowAt t r)) g b (d (rowAt t r)) (j 1) : ℝ) : EReal))
    (fun t h j => by rw [outsAt0_A m c t h]; frame_out; idx_vars j; obtain rfl : j0 = 0 := Subsingleton.elim _ _; exact (pt16 H t _ j1).trans (congrArg (· + _) (zero13 _)))
    (fun t h j => by rw [outsAt0_B m c t h]; frame_out; idx_vars j; obtain rfl : j0 = 0 := Subsingleton.elim _ _; exact pt16 H t _ j1)
    (le_of_eq N_0) t0_7 rfl j, zero_add]
  exact sum_points fun i => dlin (x i) g b (d i) (j 1)

include H in
/-- A result summed over the grid: the gradient in the convolution's bias. -/
theorem arr7 : (dats m 0 c).arrAt 7 cfg0.N = fun y : S1x512.Idx => ((∑ i, dccRow (x i) (d i) g b (y 1) : ℝ) : EReal) := by
  refine (dats m 0 c).arrAt_eq_of_after_last 7 t0_7 (by decide +kernel) _ fun j => ?_
  blk_simp
  rw [after0_7, Pipeline.eq_sum_fin_of_reset_step_apply_last (fun n h => (outsAt0 m c n h).2.2.2) 8 (fun _ => 0)
    (fun t j => ∑ r : Fin 512, ((dccRow (x (rowAt t r)) (d (rowAt t r)) g b (j 1) : ℝ) : EReal))
    (fun t h j => by rw [outsAt0_A m c t h]; frame_out; idx_vars j; obtain rfl : j0 = 0 := Subsingleton.elim _ _; exact (pt1 H t _ j1).trans (congrArg (· + _) (zero14 _)))
    (fun t h j => by rw [outsAt0_B m c t h]; frame_out; idx_vars j; obtain rfl : j0 = 0 := Subsingleton.elim _ _; exact pt1 H t _ j1)
    (le_of_eq N_0) t0_7 rfl j, zero_add]
  exact sum_points fun i => dccRow (x i) (d i) g b (j 1)

end Cert.Proof.CfLn

end
-- ==== Proof.CfLnRef.lean ====
/- What the reference of the conformer mixer's norm computes, row by row over real arrays: the host's layer norm and
   SiLU, and the chain rule through them. -/
module

public import proofs.«01_k».proof.Proof.CfLnRows
public import proofs.«01_k».proof.Proof.Gen.CfLnReferenceIdeal.Read

@[expose] public section

set_option maxRecDepth 16384

noncomputable section

namespace Cert.Proof.CfLn

open Idealize.ShloMosaic Cert.CfLnReferenceIdeal Cert.CfLnReferenceIdeal.Read Cert.Step

variable {x0 : (⟨S4096x4096, .f32⟩ : BufTy).Contents (Elt Ideal)} {x1 : (⟨S31x512, .f32⟩ : BufTy).Contents (Elt Ideal)}
variable {x2 x4 x5 : (⟨S512, .f32⟩ : BufTy).Contents (Elt Ideal)} {x3 : (⟨S4096x2048, .bf16⟩ : BufTy).Contents (Elt Ideal)}
variable {r : Fin 4096} {x g b d : Fin 512 → ℝ} (h : ∀ k, val_main_v232 (F := Ideal) x0 x1 x2 (ix2 r k) = ((x k : ℝ) : EReal))
variable (hg : ∀ k, x4 (ix1 k) = ((g k : ℝ) : EReal)) (hb : ∀ k, x5 (ix1 k) = ((b k : ℝ) : EReal))
variable (hd : ∀ k : Fin 512, x3 (ix2 r (col k)) = ((d k : ℝ) : EReal))

include h in
theorem ref_cen (k : Fin 512) : val_main_v238 (F := Ideal) x0 x1 x2 (ix2 r k) = ((cen x k : ℝ) : EReal) := by
  unfold val_main_v238 val_main_v237 val_main_v236 val_main_v235 val_main_cst_4 val_main_v234 val_main_v233 val_main_cst_3
  pointwise
  simp only [h, lit_512, mean_real n512, sub_real, cen]

include h in
theorem ref_var : val_main_v245 (F := Ideal) x0 x1 x2 (ix2 r 0) = ((var x + eps : ℝ) : EReal) := by
  unfold val_main_v245 val_main_v244 val_main_cst_7 val_main_v243 val_main_v242 val_main_cst_6 val_main_v241 val_main_v240 val_main_cst_5 val_main_v239
  pointwise
  simp only [ref_cen h, lit_512, lit_eps, mul_real, mean_real n512, add_real, var]

include h in
theorem ref_rstd : val_main_v246 (F := Ideal) x0 x1 x2 (ix2 r 0) = ((rstd eps x : ℝ) : EReal) := by
  unfold val_main_v246
  pointwise
  rw [ref_var h, ← add_real, rstd_real]

include h in
theorem ref_drstd : val_main_v249 (F := Ideal) x0 x1 x2 (ix2 r 0) = ((-(1 / 2) * (rstd eps x / (var x + eps)) : ℝ) : EReal) := by
  unfold val_main_v249 val_main_v248 val_main_cst_8 val_main_v247
  pointwise
  rw [ref_var h, ref_rstd h, lit_neg_half, div_real _ (add_pos_of_nonneg_of_pos (var_nonneg x) eps_pos).ne', mul_real]

include h in
theorem ref_xhat (k : Fin 512) : val_main_v251 (F := Ideal) x0 x1 x2 (ix2 r k) = ((xhat eps x k : ℝ) : EReal) := by
  unfold val_main_v251 val_main_v250
  pointwise
  rw [ref_cen h, ref_rstd h, mul_real, xhat]

include h hg hb in
theorem ref_lin (k : Fin 512) : val_main_v257 (F := Ideal) x0 x1 x2 x4 x5 (ix2 r k) = ((lin x g b k : ℝ) : EReal) := by
  unfold val_main_v257 val_main_v256 val_main_v255 val_main_v254 val_main_v253 val_main_v252
  pointwise
  simp only [ref_xhat h, hg, hb, mul_real, add_real, lin]

include h hg hb in
theorem ref_sg (k : Fin 512) : val_main_v258_2 (F := Ideal) x0 x1 x2 x4 x5 (ix2 r k) = ((sg (lin x g b k) : ℝ) : EReal) := by
  unfold val_main_v258_2 val_main_call0_v4 val_main_call0_cst_0 val_main_call0_v3 val_main_call0_v2 val_main_call0_cst val_main_call0_v1 val_main_call0_v0
  pointwise
  rw [ref_lin h hg hb, quotient_real]

include h hg hb hd in
/-- The SiLU argument's gradient: the host adds the two factors' shares. -/
theorem ref_dlin (k : Fin 512) : val_main_v261 (F := Ideal) x0 x1 x2 x3 x4 x5 (ix2 r k) = ((dlin x g b d k : ℝ) : EReal) := by
  unfold val_main_v261 val_main_call1_v2 val_main_call1_v1 val_main_call1_v0 val_main_v258_1 val_main_call0_v7 val_main_call0_v6 val_main_call0_cst_1 val_main_v260 val_main_v259
  pointwise
  simp only [ref_sg h hg hb, ref_lin h hg hb, hd, one_real, mul_real, add_real, sub_real, dlin, dsilu]
  congr 1; ring

include h hg hb hd in
/-- The normalised row's gradient. -/
theorem ref_dxhat (k : Fin 512) : val_main_v269 (F := Ideal) x0 x1 x2 x3 x4 x5 (ix2 r k) = ((dlin x g b d k * g k : ℝ) : EReal) := by
  unfold val_main_v269 val_main_v268 val_main_v252
  pointwise
  rw [ref_dlin h hg hb hd, hg, mul_real]

include h hg hb hd in
theorem ref_viaVar : val_main_v279 (F := Ideal) x0 x1 x2 x3 x4 x5 (ix1 r) = ((viaVar eps x (fun j => dlin x g b d j * g j) : ℝ) : EReal) := by
  unfold val_main_v279 val_main_cst_15 val_main_v278 val_main_v277 val_main_cst_14 val_main_v276 val_main_v273 val_main_v272 val_main_cst_13 val_main_v271
  pointwise
  simp only [ref_cen h, ref_dxhat h hg hb hd, ref_drstd h, lit_512, mul_real, sum_real, div_real _ n512, Fin.sum_univ_one]
  rfl

include h hg hb hd in
theorem ref_cenGrad (k : Fin 512) : val_main_v284 (F := Ideal) x0 x1 x2 x3 x4 x5 (ix2 r k)
    = ((cenGrad eps x (fun j => dlin x g b d j * g j) k : ℝ) : EReal) := by
  unfold val_main_v284 val_main_v283 val_main_v282 val_main_v281 val_main_v280 val_main_v275 val_main_v274
  pointwise
  simp only [ref_cen h, ref_dxhat h hg hb hd, ref_rstd h, ref_viaVar h hg hb hd, mul_real, add_real]
  rfl

include h hg hb hd in
/-- The row's gradient is the kernel's formula. -/
theorem ref_row (k : Fin 512) : val_main_v292 (F := Ideal) x0 x1 x2 x3 x4 x5 (ix2 r k)
    = ((lnGrad eps x (fun j => dlin x g b d j * g j) k : ℝ) : EReal) := by
  unfold val_main_v292 val_main_v291 val_main_v290 val_main_cst_18 val_main_v289 val_main_v288 val_main_cst_17 val_main_v287 val_main_v286 val_main_cst_16 val_main_v285
  pointwise
  simp only [ref_cenGrad h hg hb hd, neg_real, lit_512, sum_real, div_real _ n512, add_real, Fin.sum_univ_one]
  rw [← lnGrad_eq_chain n512 eps_pos]; rfl

/-- The reference's column sums: the gradients in the norm's scale, its shift and the convolution's bias. -/
theorem ref_dg {x d : Fin 4096 → Fin 512 → ℝ} (h : ∀ i k, val_main_v232 (F := Ideal) x0 x1 x2 (ix2 i k) = ((x i k : ℝ) : EReal))
    (hg : ∀ k, x4 (ix1 k) = ((g k : ℝ) : EReal)) (hb : ∀ k, x5 (ix1 k) = ((b k : ℝ) : EReal))
    (hd : ∀ i, ∀ k : Fin 512, x3 (ix2 i (col k)) = ((d i k : ℝ) : EReal)) (k : Fin 512) :
    val_main_v296 (F := Ideal) x0 x1 x2 x3 x4 x5 (ix2 0 k) = ((∑ i, dlin (x i) g b (d i) k * xhat eps (x i) k : ℝ) : EReal) := by
  unfold val_main_v296 val_main_v270 val_main_cst_12 val_main_v267 val_main_v266 val_main_cst_11 val_main_v265
  pointwise
  simp only [ref_xhat (h _), ref_dlin (h _) hg hb (hd _), mul_real, sum_real, Fin.sum_univ_one, mul_comm]
theorem ref_db {x d : Fin 4096 → Fin 512 → ℝ} (h : ∀ i k, val_main_v232 (F := Ideal) x0 x1 x2 (ix2 i k) = ((x i k : ℝ) : EReal))
    (hg : ∀ k, x4 (ix1 k) = ((g k : ℝ) : EReal)) (hb : ∀ k, x5 (ix1 k) = ((b k : ℝ) : EReal))
    (hd : ∀ i, ∀ k : Fin 512, x3 (ix2 i (col k)) = ((d i k : ℝ) : EReal)) (k : Fin 512) :
    val_main_v297 (F := Ideal) x0 x1 x2 x3 x4 x5 (ix2 0 k) = ((∑ i, dlin (x i) g b (d i) k : ℝ) : EReal) := by
  unfold val_main_v297 val_main_v264 val_main_cst_10 val_main_v263 val_main_v262 val_main_cst_9
  pointwise
  simp only [ref_dlin (h _) hg hb (hd _), sum_real, Fin.sum_univ_one]
theorem ref_dbias {x d : Fin 4096 → Fin 512 → ℝ} (h : ∀ i k, val_main_v232 (F := Ideal) x0 x1 x2 (ix2 i k) = ((x i k : ℝ) : EReal))
    (hg : ∀ k, x4 (ix1 k) = ((g k : ℝ) : EReal)) (hb : ∀ k, x5 (ix1 k) = ((b k : ℝ) : EReal))
    (hd : ∀ i, ∀ k : Fin 512, x3 (ix2 i (col k)) = ((d i k : ℝ) : EReal)) (k : Fin 512) :
    val_main_v298 (F := Ideal) x0 x1 x2 x3 x4 x5 (ix2 0 k)
      = ((∑ i, lnGrad eps (x i) (fun j => dlin (x i) g b (d i) j * g j) k : ℝ) : EReal) := by
  unfold val_main_v298 val_main_v295 val_main_cst_20 val_main_v294 val_main_v293 val_main_cst_19
  pointwise
  simp only [ref_row (h _) hg hb (hd _), sum_real, Fin.sum_univ_one]

end Cert.Proof.CfLn

end
-- ==== Proof.Lib.Finite.lean ====
/- Arrays whose entries are real numbers, under the host operations that prepare a call's operands. -/
module

public import proofs.«01_k».proof.Proof.Lib.LnIdeal

@[expose] public section

namespace Cert.Step

open Idealize.ShloMosaic

section
variable {s t : Shape} {φ : FTy} {x y : s.Idx → EReal}

theorem AllReal.add (hx : AllReal x) (hy : AllReal y) : AllReal (addf (F := Ideal) (φ := φ) x y) := fun i => by
  obtain ⟨a, ha⟩ := hx i; obtain ⟨b, hb⟩ := hy i
  exact ⟨a + b, by show x i + y i = _; rw [ha, hb, add_real]⟩
theorem AllReal.mul (hx : AllReal x) (hy : AllReal y) : AllReal (mulf (F := Ideal) (φ := φ) x y) := fun i => by
  obtain ⟨a, ha⟩ := hx i; obtain ⟨b, hb⟩ := hy i
  exact ⟨a * b, by show x i * y i = _; rw [ha, hb, mul_real]⟩
theorem AllReal.slice (hx : AllReal x) (off : Fin s.rank → Nat) (h : s.Slices off t) : AllReal (extractStridedSlice t off x h) := fun _ => hx _
theorem AllReal.cast (hx : AllReal x) (h : s.ShapeCasts t) : AllReal (shapeCast t x h) := fun _ => hx _
theorem AllReal.bcast (hx : AllReal x) (dims : Fin s.rank → Fin t.rank) (h : s.BroadcastsInDim t dims) : AllReal (broadcastInDim t dims h x) := fun _ => hx _
/-- The quotient `1 / (1 + exp (−x))`, as the host computes it. -/
theorem AllReal.sigmoid (hx : AllReal x) {one one' : s.Idx → EReal} (h1 : ∀ i, one i = 1) (h2 : ∀ i, one' i = 1) :
    AllReal (Host.divf (F := Ideal) (φ := φ) one (addf (F := Ideal) (φ := φ) one' (Host.exp (F := Ideal) (φ := φ) (Host.negf (F := Ideal) (φ := φ) x)))) := fun i => by
  obtain ⟨a, ha⟩ := hx i
  exact ⟨sg a, by show Ideal.div (one i) (one' i + Ideal.exp (-(x i))) = _; rw [h1, h2, ha, quotient_real]⟩
theorem allReal_zero : AllReal (constant (F := Ideal) s .f32 0x00000000#32) := fun i => ⟨0, lit_zero⟩
/-- A stack of arrays with real entries. -/
theorem AllReal.concat (a : Fin t.rank) (xs : List ((s : Shape) × (s.Idx → EReal))) (h : Shape.Concatenates (xs.map (·.1)) t a)
    (hx : ∀ p ∈ xs, AllReal p.2) : AllReal (concatenate t a xs h) := fun i => by
  unfold concatenate
  exact hx _ (List.getElem_mem _) _
end

/-- One tap of a depthwise convolution: the running sum and a row of taps times the shifted array. -/
theorem AllReal.tap {s v w w1 w2 w3 : Shape} {acc : s.Idx → EReal} {a : v.Idx → EReal} {k : w.Idx → EReal} (hacc : AllReal acc) (ha : AllReal a) (hk : AllReal k)
    {o : Fin v.rank → Nat} {o' : Fin w.rank → Nat} {d : Fin w2.rank → Fin w3.rank} {d' : Fin w3.rank → Fin s.rank}
    {h1 : v.Slices o s} {h2 : w.Slices o' w1} {h3 : w1.ShapeCasts w2} {h4 : w2.BroadcastsInDim w3 d} {h5 : w3.BroadcastsInDim s d'} :
    AllReal (addf (F := Ideal) (φ := .f32) acc (mulf (F := Ideal) (φ := .f32)
      (broadcastInDim (α := EReal) s d' h5 (broadcastInDim w3 d h4 (shapeCast w2 (extractStridedSlice w1 o' k h2) h3))) (extractStridedSlice (α := EReal) s o a h1))) :=
  hacc.add ((((hk.slice _ _).cast _).bcast _ _ |>.bcast _ _).mul (ha.slice _ _))

/-- Both parts of a conjunction of tests hold where the conjunction does. -/
theorem and_one {s : Shape} {x y : IVec s 1} {j : s.Idx} (h : andi x y j = 1#1) : x j = 1#1 ∧ y j = 1#1 := by
  have e : ∀ a b : BitVec 1, a &&& b = 1#1 → a = 1#1 ∧ b = 1#1 := by decide
  exact e _ _ h

end Cert.Step
-- ==== Proof.CfLnHost.lean ====
/- The convolution's rows the kernel program prepares on the host are the reference's. -/
module

public import proofs.«01_k».proof.Proof.Lib.Finite
public import proofs.«01_k».proof.Proof.CfLnRows
public import proofs.«01_k».proof.Proof.Gen.CfLnKernelIdeal.Value
public import proofs.«01_k».proof.Proof.Gen.CfLnReferenceIdeal.Read
public import Idealize.ShloMosaic.Lib.StableHlo.RunRead
public import Idealize.ShloMosaic.Lib.Pipeline.ValueKit

@[expose] public section

set_option maxRecDepth 16384

noncomputable section

namespace Cert.Proof.CfLn

open Cert.Step Idealize.ShloMosaic Idealize.ShloMosaic.TcCoe Idealize.SL.Sem Cert.CfLnKernelIdeal Cert.CfLnKernelIdeal.Gen

variable {m : (ℓ : Loc nD τ sig) → Buf (Elt Ideal) ℓ} {c : Dev nD}

set_option maxHeartbeats 4000000 in
theorem host_conv : V m c main_v232 = Cert.CfLnReferenceIdeal.Read.val_main_v232 (F := Ideal) (m ((c : Thread nD τ).loc main_arg0))
    (m ((c : Thread nD τ).loc main_arg1)) (m ((c : Thread nD τ).loc main_arg2)) := by
  rfl

section
open Cert.CfLnReferenceIdeal.Read
variable {x0 : (⟨Cert.CfLnReferenceIdeal.S4096x4096, .f32⟩ : BufTy).Contents (Elt Ideal)} {x1 : (⟨Cert.CfLnReferenceIdeal.S31x512, .f32⟩ : BufTy).Contents (Elt Ideal)}
variable {x2 : (⟨Cert.CfLnReferenceIdeal.S512, .f32⟩ : BufTy).Contents (Elt Ideal)}

/-- The gated array with its zero rows in front is real. -/
theorem real_gated (h0 : AllReal x0) : AllReal (val_main_v11 (F := Ideal) x0) := by
  refine AllReal.concat _ _ _ fun p hp => ?_
  simp only [List.mem_cons, List.not_mem_nil, or_false] at hp
  rcases hp with rfl | rfl
  · exact fun i => ⟨0, lit_zero⟩
  · refine ((h0.slice _ _).slice _ _).mul (((h0.slice _ _).slice _ _).sigmoid (fun i => ?_) fun i => ?_)
    · exact lit_one.trans rfl
    · exact lit_one.trans rfl

/-- So is the convolution's output. -/
theorem real_conv (h0 : AllReal x0) (h1 : AllReal x1) (h2 : AllReal x2) : AllReal (val_main_v232 (F := Ideal) x0 x1 x2) := by
  refine AllReal.add ?_ ((h2.bcast _ _).bcast _ _)
  iterate 31 refine AllReal.tap ?_ (real_gated h0) h1
  exact fun i => ⟨0, lit_zero⟩

end

/-- The other host-prepared operands. -/
theorem host_d (i : Fin 4096) (k : Fin 512) : V m c main_v233 (ix2 i k) = m ((c : Thread nD τ).loc main_arg3) (ix2 i (col k)) := by
  entry_read; pointwise
theorem host_g (k : Fin 512) : V m c main_v234 (ix2 0 k) = m ((c : Thread nD τ).loc main_arg4) (ix1 k) := by
  entry_read; pointwise
theorem host_b (k : Fin 512) : V m c main_v235 (ix2 0 k) = m ((c : Thread nD τ).loc main_arg5) (ix1 k) := by
  entry_read; pointwise

end Cert.Proof.CfLn

end
-- ==== Proof.CfLnClaims.lean ====
/- The conformer norm's gradient (`_conformer_ln_bwd`): through the SiLU and the layer norm, with the gradients in the
   norm's scale and shift and in the convolution's bias summed over the rows. -/
module

public import proofs.«01_k».proof.Defs
public import proofs.«01_k».proof.Proof.CfLnArrays
public import proofs.«01_k».proof.Proof.CfLnRef
public import proofs.«01_k».proof.Proof.CfLnHost
public import proofs.«01_k».proof.Proof.Gen.CfLnKernel.Frame
public import proofs.«01_k».proof.Proof.Gen.CfLnReferenceIdeal.Run
public import proofs.«01_k».proof.Proof.Gen.Pre_cfln_finite

@[expose] public section

set_option maxRecDepth 16384

noncomputable section

namespace Cert.Proof.CfLnClaims

open Idealize.ShloMosaic Idealize.ShloMosaic.TcCoe Idealize.SL.Sem Cert.Step Cert.Proof.CfLn

/-- The kernel's frame. -/
theorem frame_kernel : Cert.quiescent_CfLnKernel := fun m ρ _ => Cert.CfLnKernel.Gen.frame m ρ
/-- The idealized kernel's frame. -/
theorem frame_ideal : Cert.quiescent_CfLnKernelIdeal := fun m ρ _ => Cert.CfLnKernelIdeal.Gen.frame m ρ
/-- The reference's frame: its run leaves the arguments alone, and it has no semaphore. -/
theorem frame_reference : Cert.quiescent_CfLnReferenceIdeal := fun m ρ _ =>
  (θ_run Cert.CfLnReferenceIdeal.defs _ _).mono
    (fun r h => ⟨fun c => (h c).2.2.2.2, sem_eq_zero_of_no_sems (by decide) r.2⟩)
    (Cert.CfLnReferenceIdeal.Value.run (F := Ideal) m ρ)
/-- The ideal pass rewrote nothing. -/
theorem preserves : Cert.preserves_CfLnKernel_CfLnKernelIdeal := trivial

/-- The precondition: every argument's entries are real numbers. -/
theorem args_real {a0 a1 a2 a3 a4 a5}
    (h : Cert.Pre_cfln_finite.fn (F := Ideal) a0 a1 a2 a3 a4 a5 = fun _ => 1#1) :
    AllReal a0 ∧ AllReal a1 ∧ AllReal a2 ∧ AllReal a3 ∧ AllReal a4 ∧ AllReal a5 := by
  have e := congrFun h (show Cert.Pre_cfln_finite.S_.Idx from fun k => k.elim0)
  obtain ⟨e, h5⟩ := and_one e
  obtain ⟨e, h4⟩ := and_one e
  obtain ⟨e, h3⟩ := and_one e
  obtain ⟨e, h2⟩ := and_one e
  obtain ⟨h0, h1⟩ := and_one e
  exact ⟨finite_of_test _ _ inf_f32 _ _ _ _ h0, finite_of_test _ _ inf_f32 _ _ _ _ h1, finite_of_test _ _ inf_f32 _ _ _ _ h2,
    finite_of_test _ _ inf_bf16 _ _ _ _ h3, finite_of_test _ _ inf_f32 _ _ _ _ h4, finite_of_test _ _ inf_f32 _ _ _ _ h5⟩

set_option maxHeartbeats 2000000 in  -- four results, each a long host term
/-- Both programs end with the same four arrays. -/
theorem algebraic : Cert.algebraic_CfLnKernelIdeal_CfLnReferenceIdeal := by
  intro m ρ m' ρ' hp hag
  refine ⟨fun c => _, fun c => _, fun c => _, fun c => _, Cert.CfLnKernelIdeal.Value.run_blocks (F := Ideal) m ρ, ?_⟩
  refine (θ_run Cert.CfLnReferenceIdeal.defs _ _).mono
    (fun _ h c => ?_) (Cert.CfLnReferenceIdeal.Value.run (F := Ideal) m' ρ')
  obtain ⟨h0, h1, h2, h3, h4, h5⟩ := args_real (hp c)
  obtain ⟨X, hX⟩ := lift_real (real_conv h0 h1 h2)
  obtain ⟨D, hD⟩ := lift_real h3
  obtain ⟨G, hG⟩ := lift_real h4
  obtain ⟨B, hB⟩ := lift_real h5
  have H : RealRows m c (fun i k => X (ix2 i k)) (fun i k => D (ix2 i (col k)))
      (fun k => G (ix1 k)) (fun k => B (ix1 k)) :=
    ⟨fun i k => (congrFun (host_conv.trans hX) _), fun i k => (host_d i k).trans (congrFun hD _),
      fun k => (host_g k).trans (congrFun hG _), fun k => (host_b k).trans (congrFun hB _)⟩
  obtain ⟨a0, a1, a2, a3, a4, a5⟩ := hag c
  refine ⟨(h c).1.trans ?_, (h c).2.1.trans ?_, (h c).2.2.1.trans ?_, (h c).2.2.2.1.trans ?_, (h c).2.2.2.2⟩
  · refine ((Cert.CfLnReferenceIdeal.Read.val_main_v292_eq (StableHlo.launchContents m' c)).trans ?_).trans (arr4 H).symm
    dsimp only [StableHlo.launchContents]
    rw [a0, a1, a2, a3, a4, a5]
    funext y
    idx_vars y
    exact ref_row (fun k => congrFun hX _) (fun k => congrFun hG _) (fun k => congrFun hB _) (fun k => congrFun hD _) y1
  · refine ((Cert.CfLnReferenceIdeal.Read.val_main_v296_eq (StableHlo.launchContents m' c)).trans ?_).trans (arr5 H).symm
    dsimp only [StableHlo.launchContents]
    rw [a0, a1, a2, a3, a4, a5]
    funext y
    idx_vars y
    obtain rfl : y0 = 0 := Subsingleton.elim _ _
    exact ref_dg (fun i k => congrFun hX _) (fun k => congrFun hG _) (fun k => congrFun hB _) (fun i k => congrFun hD _) y1
  · refine ((Cert.CfLnReferenceIdeal.Read.val_main_v297_eq (StableHlo.launchContents m' c)).trans ?_).trans (arr6 H).symm
    dsimp only [StableHlo.launchContents]
    rw [a0, a1, a2, a3, a4, a5]
    funext y
    idx_vars y
    obtain rfl : y0 = 0 := Subsingleton.elim _ _
    exact ref_db (fun i k => congrFun hX _) (fun k => congrFun hG _) (fun k => congrFun hB _) (fun i k => congrFun hD _) y1
  · refine ((Cert.CfLnReferenceIdeal.Read.val_main_v298_eq (StableHlo.launchContents m' c)).trans ?_).trans (arr7 H).symm
    dsimp only [StableHlo.launchContents]
    rw [a0, a1, a2, a3, a4, a5]
    funext y
    idx_vars y
    obtain rfl : y0 = 0 := Subsingleton.elim _ _
    exact ref_dbias (fun i k => congrFun hX _) (fun k => congrFun hG _) (fun k => congrFun hB _) (fun i k => congrFun hD _) y1

end Cert.Proof.CfLnClaims

end
-- ==== Proof.Lib.Gelu.lean ====
/- The tanh form of gelu and its derivative on real numbers, with the literals the programs write them with. -/
module

public import proofs.«01_k».proof.Proof.Lib.LnIdeal

@[expose] public section

noncomputable section

namespace Cert.Step

open Idealize.ShloMosaic

/-- The root of 2/π as both programs round it. -/
def geluK : ℝ := 13386282 / 16777216

theorem lit_geluK : Ideal.ofBits .f32 0x3F4C422A#32 = (geluK : EReal) := by
  simp [Ideal.ofBits, Ideal.ieee, -EReal.coe_mul, geluK]; norm_num

/-- The integers whose quotient is the cubic term's factor, and the 3 of its derivative. -/
theorem lit_8943 : Ideal.ofBits .f32 0x460BBC00#32 = ((8943 : ℝ) : EReal) := by
  simp [Ideal.ofBits, Ideal.ieee, -EReal.coe_mul]; norm_num
theorem lit_200000 : Ideal.ofBits .f32 0x48435000#32 = ((200000 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem quotient_c : Ideal.div ((8943 : ℝ) : EReal) ((200000 : ℝ) : EReal) = ((8943 / 200000 : ℝ) : EReal) :=
  div_real _ (by norm_num)

/-- The hyperbolic tangent inside gelu. -/
def geluT (x : ℝ) : ℝ := Real.tanh (geluK * (x + 8943 / 200000 * x * x * x))

/-- gelu. -/
def gelu (x : ℝ) : ℝ := 1 / 2 * x * (1 + geluT x)

/-- Its derivative. -/
def geluD (x : ℝ) : ℝ := 1 / 2 * (1 + geluT x) + 1 / 2 * x * (1 - geluT x * geluT x) * geluK * (1 + 26829 / 200000 * x * x)

theorem tanh_real (x : ℝ) : Ideal.tanh (x : EReal) = ((Real.tanh x : ℝ) : EReal) := Ideal.tanh_coe x

/-- The argument of the tangent with the cube formed first. -/
theorem geluT_cube (x : ℝ) : Real.tanh (geluK * (x + 8943 / 200000 * (x * x * x))) = geluT x := by
  rw [geluT]; congr 2; ring

/-- gelu as a cumulative weight times its argument. -/
theorem gelu_weight (x : ℝ) : x * (1 / 2 * (1 + geluT x)) = gelu x := by rw [gelu]; ring

/-- The derivative's pull-back of `d`, as differentiating the weight's form writes it. -/
theorem geluD_pull (x d : ℝ) :
    d * (1 / 2 * (1 + geluT x)) + geluK * (1 / 2 * (x * d) * ((1 + geluT x) * (1 - geluT x)))
      + 8943 / 200000 * (geluK * (1 / 2 * (x * d) * ((1 + geluT x) * (1 - geluT x)))) * (3 * (x * x)) = d * geluD x := by
  rw [geluD]; ring

end Cert.Step

end
-- ==== Proof.SguMath.lean ====
/- One chunk of the spatial gating unit of one head, over real numbers: the gated product and its gradients. Rows are the
   chunk's 128 time steps, columns the head's 128 channels. -/
module

public import proofs.«01_k».proof.Proof.Lib.Gelu

@[expose] public section

noncomputable section

namespace Cert.Proof.Sgu

open Cert.Step

/-- A chunk's rows. -/
abbrev Mat := Fin 128 → Fin 128 → ℝ

/-- The lower triangle of a matrix, the rest zero. -/
def tril (w : Mat) : Mat := fun t s => if s ≤ t then w t s else 0

/-- The activated half's row `s`. -/
def act (zv : Mat) (s : Fin 128) : Fin 128 → ℝ := fun d => gelu (zv s d)

/-- The normalised half with the norm's scale and shift. -/
def vln (zv : Mat) (g b : Fin 128 → ℝ) : Mat := fun s d => xhat eps (act zv s) d * g d + b d

/-- The half mixed over time. -/
def mixed (wm zv : Mat) (g b bi : Fin 128 → ℝ) : Mat := fun t d => (∑ s, wm t s * vln zv g b s d) + bi t

/-- The gradient in the mixed half. -/
def dmix (zu dO : Mat) : Mat := fun t d => dO t d * gelu (zu t d)

/-- The gradient in the normalised half: the transposed mixing. -/
def dvln (wm zu dO : Mat) : Mat := fun s d => ∑ t, wm t s * dmix zu dO t d

/-- The gradient in the gating half's pre-activation. -/
def dzu (wm zu zv dO : Mat) (g b bi : Fin 128 → ℝ) : Mat := fun t d => dO t d * mixed wm zv g b bi t d * geluD (zu t d)

/-- The gradient in the mixed half's pre-activation. -/
def dzv (wm zu zv dO : Mat) (g : Fin 128 → ℝ) : Mat := fun s d =>
  lnGrad eps (act zv s) (fun j => dvln wm zu dO s j * g j) d * geluD (zv s d)

/-- The chunk's terms of the gradients in the norm's scale, its shift, and the mixing matrix. -/
def dScale (wm zu zv dO : Mat) (d : Fin 128) : ℝ := ∑ s, dvln wm zu dO s d * xhat eps (act zv s) d
def dShift (wm zu dO : Mat) (d : Fin 128) : ℝ := ∑ s, dvln wm zu dO s d
def dMixer (zu zv dO : Mat) (g b : Fin 128 → ℝ) : Mat := fun t s => ∑ d, dmix zu dO t d * vln zv g b s d

end Cert.Proof.Sgu

end
-- ==== Proof.SguRows.lean ====
/- One chunk of the kernel's payloads, entry by entry, over real operand rows. The kernel runs eight chunks with the same
   operations; the chunk's functions below are those of its first. -/
module

public import proofs.«01_k».proof.Proof.SguMath
public import proofs.«01_k».proof.Proof.Gen.SguKernelIdeal.Frame
public import Idealize.ShloMosaic.Lib.Pipeline.ValueKit

@[expose] public section

set_option maxRecDepth 16384

noncomputable section

namespace Cert.Proof.Sgu

open Idealize.ShloMosaic Idealize.ShloMosaic.TcCoe Cert.SguKernelIdeal Cert.SguKernelIdeal.Gen Cert.Step

abbrev M32 := Vec Ideal S128x128 .f32
abbrev M16 := Vec Ideal S128x128 .bf16
abbrev R3 := Vec Ideal S1x1x128 .f32

/-- The normalised half of a chunk. -/
def cVln (zv : M32) (lg lb : R3) : M16 := k0_pay18 (F := Ideal) zv (k0_pay14 zv) lg lb
/-- The gradient in the mixed half. -/
def cDmix (zu : M32) (o : M16) : M32 := k0_pay21 (F := Ideal) (k0_pay13 zu) o
/-- The chunk of the first result. -/
def cDzu (wm : M16) (zu zv : M32) (o : M16) (lg lb : R3) (bi : Vec Ideal S1x128x1 .f32) : M16 :=
  k0_pay31 (F := Ideal) zu (k0_pay20 wm zv (k0_pay14 zv) lg lb bi o) (k0_pay29 zu) (k0_pay30 zu) (Scalar.ofBits .f32 0x3F000000#32)
/-- The chunk of the second result. -/
def cDzv (wm : M16) (zu zv : M32) (o : M16) (lg : R3) : M16 :=
  k0_pay35 (F := Ideal) (k0_pay28 wm (k0_pay16 zv (k0_pay14 zv)) (k0_pay17 zv (k0_pay14 zv)) (cDmix zu o) lg) (k0_pay33 zv) (k0_pay34 zv)
/-- What a chunk adds to the four sums of a grid point. -/
def aMixer (acc : M32) (zu zv : M32) (o : M16) (lg lb : R3) : M32 := k0_pay24 (F := Ideal) acc (cVln zv lg lb) (cDmix zu o)
def aRows (acc : M32) (zu : M32) (o : M16) : M32 := k0_pay25 (F := Ideal) acc (cDmix zu o)
def aScale (acc : Vec Ideal S1x128 .f32) (wm : M16) (zu zv : M32) (o : M16) : Vec Ideal S1x128 .f32 :=
  k0_pay26 (F := Ideal) wm acc (k0_pay17 zv (k0_pay14 zv)) (cDmix zu o)
def aShift (acc : Vec Ideal S1x128 .f32) (wm : M16) (zu : M32) (o : M16) : Vec Ideal S1x128 .f32 :=
  k0_pay27 (F := Ideal) wm acc (cDmix zu o)

/-- The named constants' values. -/
theorem named_c : (Named.named κ "gelu_c" 0x3D372713#32 : Ideal .f32) = ((8943 / 200000 : ℝ) : EReal) :=
  IdealRules.named_const.ideal_named_scalar _ _ _ _ rfl
theorem named_3c : (Named.named κ "gelu_3c" 0x3E095D4F#32 : Ideal .f32) = ((26829 / 200000 : ℝ) : EReal) :=
  IdealRules.named_const.ideal_named_scalar _ _ _ _ rfl

theorem n128 : ((128 : ℕ) : ℝ) ≠ 0 := by norm_num

/-- A chunk's operands are real rows. -/
structure RealChunk (wm : M16) (zu zv : M32) (o : M16) (lg lb : R3) (bi : Vec Ideal S1x128x1 .f32)
    (Wm Zu Zv D : Mat) (g b c : Fin 128 → ℝ) : Prop where
  wm : ∀ t s, wm (ix2 t s) = ((Wm t s : ℝ) : EReal)
  zu : ∀ t d, zu (ix2 t d) = ((Zu t d : ℝ) : EReal)
  zv : ∀ t d, zv (ix2 t d) = ((Zv t d : ℝ) : EReal)
  o : ∀ t d, o (ix2 t d) = ((D t d : ℝ) : EReal)
  g : ∀ d, lg (ix3 0 0 d) = ((g d : ℝ) : EReal)
  b : ∀ d, lb (ix3 0 0 d) = ((b d : ℝ) : EReal)
  c : ∀ t, bi (ix3 0 t 0) = ((c t : ℝ) : EReal)

variable {wm : M16} {zu zv : M32} {o : M16} {lg lb : R3} {bi : Vec Ideal S1x128x1 .f32}
variable {Wm Zu Zv D : Mat} {g b c : Fin 128 → ℝ} (H : RealChunk wm zu zv o lg lb bi Wm Zu Zv D g b c)

include H

/-- gelu of the gating half. -/
theorem pay13_row (t d : Fin 128) : k0_pay13 (F := Ideal) zu (ix2 t d) = ((gelu (Zu t d) : ℝ) : EReal) := by
  unfold k0_pay13
  pointwise
  simp only [H.zu, lit_half, lit_geluK, named_c, one_real, mul_real, add_real, tanh_real]
  rfl

/-- The activated half with its mean taken off. -/
theorem pay15_row (t d : Fin 128) : k0_pay15 (F := Ideal) zv (k0_pay14 zv) (ix2 t d) = ((cen (act Zv t) d : ℝ) : EReal) := by
  unfold k0_pay15 k0_pay14
  pointwise
  simp only [H.zv, lit_half, lit_geluK, lit_128, named_c, one_real, mul_real, add_real, tanh_real, sum_real, div_real _ n128, sub_real]
  rfl

theorem pay16_row (t : Fin 128) : k0_pay16 (F := Ideal) zv (k0_pay14 zv) (ix2 t 0) = ((rstd eps (act Zv t) : ℝ) : EReal) := by
  unfold k0_pay16
  pointwise
  simp only [pay15_row H, lit_128, lit_eps, mul_real, mean_real n128]
  exact rstd_real _

/-- The normalised row. -/
theorem pay17_row (t d : Fin 128) : k0_pay17 (F := Ideal) zv (k0_pay14 zv) (ix2 t d) = ((xhat eps (act Zv t) d : ℝ) : EReal) := by
  unfold k0_pay17
  pointwise
  simp only [pay15_row H, pay16_row H, mul_real]
  rfl

theorem vln_row (t d : Fin 128) : cVln zv lg lb (ix2 t d) = ((vln Zv g b t d : ℝ) : EReal) := by
  unfold cVln k0_pay18
  pointwise
  simp only [pay17_row H, H.g, H.b, mul_real, add_real]
  rfl

theorem dmix_row (t d : Fin 128) : cDmix zu o (ix2 t d) = ((dmix Zu D t d : ℝ) : EReal) := by
  unfold cDmix k0_pay21 k0_pay19
  pointwise
  simp only [pay13_row H, H.o, mul_real]
  rfl

/-- The gradient in the normalised half. -/
theorem pay23_row (t d : Fin 128) : k0_pay23 (F := Ideal) wm (cDmix zu o) (ix2 t d) = ((dvln Wm Zu D t d : ℝ) : EReal) := by
  unfold k0_pay23 k0_pay22
  pointwise
  simp only [dmix_row H, H.wm, mul_real, sum_real]
  rfl

theorem pay29_row (t d : Fin 128) : k0_pay29 (F := Ideal) zu (ix2 t d) = ((geluT (Zu t d) : ℝ) : EReal) := by
  unfold k0_pay29
  pointwise
  simp only [H.zu, lit_geluK, named_c, mul_real, add_real, tanh_real]
  rfl

theorem pay32_row (t d : Fin 128) : k0_pay32 (F := Ideal) zv (ix2 t d) = ((geluT (Zv t d) : ℝ) : EReal) := by
  unfold k0_pay32
  pointwise
  simp only [H.zv, lit_geluK, named_c, mul_real, add_real, tanh_real]
  rfl

/-- The chunk of the first result. -/
theorem dzu_row (t d : Fin 128) : cDzu wm zu zv o lg lb bi (ix2 t d) = ((dzu Wm Zu Zv D g b c t d : ℝ) : EReal) := by
  unfold cDzu k0_pay31 k0_pay30 k0_pay20 k0_pay19
  pointwise
  simp only [show ∀ s d, k0_pay18 (F := Ideal) zv (k0_pay14 zv) lg lb (ix2 s d) = _ from vln_row H, pay29_row H, H.zu, H.o, H.wm, H.c,
    lit_half, lit_geluK, named_3c, one_real, mul_real, add_real, sub_real, sum_real]
  rfl

/-- The chunk of the second result. -/
theorem dzv_row (t d : Fin 128) : cDzv wm zu zv o lg (ix2 t d) = ((dzv Wm Zu Zv D g t d : ℝ) : EReal) := by
  unfold cDzv k0_pay35 k0_pay34 k0_pay33 k0_pay28
  pointwise
  simp only [pay16_row H, pay17_row H, pay23_row H, pay32_row H, H.zv, H.g, lit_128, lit_half, lit_geluK, named_3c, one_real, mul_real, add_real,
    sub_real, sum_real, div_real _ n128]
  rfl

/-- The sums over a grid point take a chunk's terms. -/
theorem mixer_row (acc : M32) (t s : Fin 128) : aMixer acc zu zv o lg lb (ix2 t s)
    = acc (ix2 t s) + ((dMixer Zu Zv D g b t s : ℝ) : EReal) := by
  unfold aMixer k0_pay24 k0_pay22
  pointwise
  simp only [dmix_row H, vln_row H, mul_real, sum_real]
  rfl
theorem rows_row (acc : M32) (t d : Fin 128) : aRows acc zu o (ix2 t d) = acc (ix2 t d) + ((dmix Zu D t d : ℝ) : EReal) := by
  unfold aRows k0_pay25
  pointwise
  rw [dmix_row H]
theorem scale_row (acc : Vec Ideal S1x128 .f32) (d : Fin 128) : aScale acc wm zu zv o (ix2 0 d)
    = acc (ix2 0 d) + ((dScale Wm Zu Zv D d : ℝ) : EReal) := by
  unfold aScale k0_pay26
  pointwise
  simp only [pay23_row H, pay17_row H, mul_real, sum_real]
  rfl
theorem shift_row (acc : Vec Ideal S1x128 .f32) (d : Fin 128) : aShift acc wm zu o (ix2 0 d)
    = acc (ix2 0 d) + ((dShift Wm Zu D d : ℝ) : EReal) := by
  unfold aShift k0_pay27
  pointwise
  simp only [pay23_row H, sum_real]
  rfl

end Cert.Proof.Sgu

end
-- ==== Proof.SguArrays.lean ====
/- What the spatial gating unit's gradient kernel leaves in its six result arrays, over real operand arrays. -/
module

public import proofs.«01_k».proof.Proof.SguRows
public import proofs.«01_k».proof.Proof.Lib.Bands

@[expose] public section

set_option maxRecDepth 16384

noncomputable section

namespace Cert.Proof.Sgu

open Idealize.ShloMosaic Idealize.ShloMosaic.TcCoe Idealize.SL.Sem Idealize.ShloMosaic.WordCmp Cert.SguKernelIdeal Cert.SguKernelIdeal.Gen Cert.Step

variable {m : (ℓ : Loc nD τ sig) → Buf (Elt Ideal) ℓ} {c : Dev nD}

/-- The head of a grid point, and the chunk its `k`th step handles. -/
def headAt (t : Fin cfg0.N) : Fin 4 := ⟨t.val / 4, by have := lt_of_lt_of_eq t.isLt N_0; omega⟩
def chunkAt (t : Fin cfg0.N) (k : Fin 8) : Fin 32 := ⟨t.val % 4 * 8 + k.val, by omega⟩
/-- Row `r` of chunk `n`; column `d` of head `h`, in the gating half and in the mixed half. -/
def rowOf (n : Fin 32) (r : Fin 128) : Fin 4096 := ⟨n.val * 128 + r.val, by omega⟩
def colO (h : Fin 4) (d : Fin 128) : Fin 512 := ⟨h.val * 128 + d.val, by omega⟩
def colU (h : Fin 4) (d : Fin 128) : Fin 4096 := ⟨h.val * 128 + d.val, by omega⟩
def colV (h : Fin 4) (d : Fin 128) : Fin 4096 := ⟨512 + h.val * 128 + d.val, by omega⟩

/-- Which chunk a row of a block lies in, and where in the chunk. -/
def chI (i : Fin 1024) : Fin 8 := ⟨i.val / 128, by omega⟩
def rwI (i : Fin 1024) : Fin 128 := ⟨i.val % 128, by omega⟩

theorem inb (k : Fin 8) : ∀ a, ![128 * k.val, 0] a + S128x128.size a ≤ S1024x128.size a := by
  decide +revert

/-- The `k`th tile of 128 rows of a block. -/
def tile {e : EltTy} (B : Vec Ideal S1024x128 e) (k : Fin 8) : Vec Ideal S128x128 e :=
  View.ld B (Rect.unit (s := S1024x128) ![128 * k.val, 0] S128x128.size (inb k))

theorem tile_apply {e : EltTy} (B : Vec Ideal S1024x128 e) (k : Fin 8) (r d : Fin 128) :
    tile B k (ix2 r d) = B (ix2 ⟨128 * k.val + r.val, by omega⟩ d) := by
  unfold tile
  rw [View.ld_apply]
  refine congrArg B (funext fun a => ?_)
  fin_cases a
  · exact Fin.ext (show 128 * k.val + 1 * r.val = 128 * k.val + r.val by omega)
  · exact Fin.ext (show 0 + 1 * d.val = d.val by omega)

theorem idx : ∀ t : Fin cfg0.N, win0_0.index t = ![t.val % 4, t.val / 4] ∧ win0_1.index t = ![t.val % 4, 4 + t.val / 4]
    ∧ win0_2.index t = ![t.val % 4, t.val / 4] ∧ win0_3.index t = ![t.val / 4, 0, 0] ∧ win0_4.index t = ![t.val / 4, 0, 0]
    ∧ win0_5.index t = ![t.val / 4, 0, 0] ∧ win0_6.index t = ![t.val / 4, 0, 0] ∧ win0_7.index t = ![t.val % 4, t.val / 4]
    ∧ win0_8.index t = ![t.val % 4, t.val / 4] ∧ win0_9.index t = ![t.val / 4, 0, 0] ∧ win0_10.index t = ![t.val / 4, 0, 0]
    ∧ win0_11.index t = ![t.val / 4, 0, 0] ∧ win0_12.index t = ![t.val / 4, 0, 0] :=
  (by decide +kernel : ∀ t : Fin grid0.N, _)

theorem read0 (t : Fin cfg0.N) (k : Fin 8) (r d : Fin 128) :
    tile (iblk m c 0 t) k (ix2 r d) = V m c main_arg0 (ix2 (rowOf (chunkAt t k) r) (colU (headAt t) d)) := by
  rw [tile_apply]; blk_point [iblk, rowOf, chunkAt, headAt, colU, idx t]
theorem read1 (t : Fin cfg0.N) (k : Fin 8) (r d : Fin 128) :
    tile (iblk m c 1 t) k (ix2 r d) = V m c main_arg0 (ix2 (rowOf (chunkAt t k) r) (colV (headAt t) d)) := by
  rw [tile_apply]; blk_point [iblk, rowOf, chunkAt, headAt, colV, idx t]
theorem read2 (t : Fin cfg0.N) (k : Fin 8) (r d : Fin 128) :
    tile (iblk m c 2 t) k (ix2 r d) = V m c main_v0 (ix2 (rowOf (chunkAt t k) r) (colO (headAt t) d)) := by
  rw [tile_apply]; blk_point [iblk, rowOf, chunkAt, headAt, colO, idx t]
theorem read3 (t : Fin cfg0.N) (d : Fin 128) : iblk m c 3 t (ix3 0 0 d) = V m c main_v1 (ix3 (headAt t) 0 d) := by
  blk_point [iblk, headAt, idx t]
theorem read4 (t : Fin cfg0.N) (d : Fin 128) : iblk m c 4 t (ix3 0 0 d) = V m c main_v2 (ix3 (headAt t) 0 d) := by
  blk_point [iblk, headAt, idx t]
theorem read5 (t : Fin cfg0.N) (r s : Fin 128) : iblk m c 5 t (ix3 0 r s) = V m c main_arg4 (ix3 (headAt t) r s) := by
  blk_point [iblk, headAt, idx t]
theorem read6 (t : Fin cfg0.N) (r : Fin 128) : iblk m c 6 t (ix3 0 r 0) = V m c main_v3 (ix3 (headAt t) r 0) := by
  blk_point [iblk, headAt, idx t]

/-- The mixing matrix's lower triangle. -/
theorem mask_row (w : Vec Ideal S1x128x128 .f32) (t s : Fin 128) :
    k0_pay4 (F := Ideal) w (ix2 t s) = if s ≤ t then w (ix3 0 t s) else 0 := by
  unfold k0_pay4 k0_pay3
  pointwise
  rw [cmpi_sge_ofNat (by omega) (by omega), select_decide]
  simp only [Fin.le_def]

/-- The operand arrays are real. -/
structure Reals (m : (ℓ : Loc nD τ sig) → Buf (Elt Ideal) ℓ) (c : Dev nD) (Z : Fin 4096 → Fin 4096 → ℝ) (D : Fin 4096 → Fin 512 → ℝ)
    (G B C : Fin 4 → Fin 128 → ℝ) (W : Fin 4 → Mat) : Prop where
  z : ∀ i j, V m c main_arg0 (ix2 i j) = ((Z i j : ℝ) : EReal)
  d : ∀ i j, V m c main_v0 (ix2 i j) = ((D i j : ℝ) : EReal)
  g : ∀ h d, V m c main_v1 (ix3 h 0 d) = ((G h d : ℝ) : EReal)
  b : ∀ h d, V m c main_v2 (ix3 h 0 d) = ((B h d : ℝ) : EReal)
  w : ∀ h t s, V m c main_arg4 (ix3 h t s) = ((W h t s : ℝ) : EReal)
  c : ∀ h t, V m c main_v3 (ix3 h t 0) = ((C h t : ℝ) : EReal)

/-- Chunk `n` of head `h`: the two halves' pre-activations and the cotangent. -/
def zuC (Z : Fin 4096 → Fin 4096 → ℝ) (h : Fin 4) (n : Fin 32) : Mat := fun r d => Z (rowOf n r) (colU h d)
def zvC (Z : Fin 4096 → Fin 4096 → ℝ) (h : Fin 4) (n : Fin 32) : Mat := fun r d => Z (rowOf n r) (colV h d)
def dC (D : Fin 4096 → Fin 512 → ℝ) (h : Fin 4) (n : Fin 32) : Mat := fun r d => D (rowOf n r) (colO h d)

/-- What chunk `n` of head `h` gives each result. -/
def rDzu (Z : Fin 4096 → Fin 4096 → ℝ) (D : Fin 4096 → Fin 512 → ℝ) (G B C : Fin 4 → Fin 128 → ℝ) (W : Fin 4 → Mat) (h : Fin 4) (n : Fin 32) : Mat :=
  dzu (tril (W h)) (zuC Z h n) (zvC Z h n) (dC D h n) (G h) (B h) (C h)

def rDzv (Z : Fin 4096 → Fin 4096 → ℝ) (D : Fin 4096 → Fin 512 → ℝ) (G : Fin 4 → Fin 128 → ℝ) (W : Fin 4 → Mat) (h : Fin 4) (n : Fin 32) : Mat :=
  dzv (tril (W h)) (zuC Z h n) (zvC Z h n) (dC D h n) (G h)
def rScale (Z : Fin 4096 → Fin 4096 → ℝ) (D : Fin 4096 → Fin 512 → ℝ) (W : Fin 4 → Mat) (h : Fin 4) (n : Fin 32) : Fin 128 → ℝ :=
  dScale (tril (W h)) (zuC Z h n) (zvC Z h n) (dC D h n)
def rShift (Z : Fin 4096 → Fin 4096 → ℝ) (D : Fin 4096 → Fin 512 → ℝ) (W : Fin 4 → Mat) (h : Fin 4) (n : Fin 32) : Fin 128 → ℝ :=
  dShift (tril (W h)) (zuC Z h n) (dC D h n)
def rMixer (Z : Fin 4096 → Fin 4096 → ℝ) (D : Fin 4096 → Fin 512 → ℝ) (G B : Fin 4 → Fin 128 → ℝ) (h : Fin 4) (n : Fin 32) : Mat :=
  dMixer (zuC Z h n) (zvC Z h n) (dC D h n) (G h) (B h)
def rMix (Z : Fin 4096 → Fin 4096 → ℝ) (D : Fin 4096 → Fin 512 → ℝ) (h : Fin 4) (n : Fin 32) : Mat := dmix (zuC Z h n) (dC D h n)

variable {Z : Fin 4096 → Fin 4096 → ℝ} {D : Fin 4096 → Fin 512 → ℝ} {G B C : Fin 4 → Fin 128 → ℝ} {W : Fin 4 → Mat}
  (H : Reals m c Z D G B C W)

section
include H

/-- Chunk `k` of point `t` is real. -/
theorem chunk (t : Fin cfg0.N) (k : Fin 8) :
    RealChunk (k0_pay4 (F := Ideal) (iblk m c 5 t)) (tile (iblk m c 0 t) k) (tile (iblk m c 1 t) k) (tile (iblk m c 2 t) k)
      (iblk m c 3 t) (iblk m c 4 t) (iblk m c 6 t) (tril (W (headAt t))) (zuC Z (headAt t) (chunkAt t k)) (zvC Z (headAt t) (chunkAt t k))
      (dC D (headAt t) (chunkAt t k)) (G (headAt t)) (B (headAt t)) (C (headAt t)) where
  wm r s := by rw [mask_row, read5, H.w, tril]; split <;> simp
  zu r d := (read0 t k r d).trans (H.z _ _)
  zv r d := (read1 t k r d).trans (H.z _ _)
  o r d := (read2 t k r d).trans (H.d _ _)
  g d := (read3 t d).trans (H.g _ _)
  b d := (read4 t d).trans (H.b _ _)
  c d := (read6 t d).trans (H.c _ _)

/-- The first result's tile, read in its block. -/
theorem ptU (t : Fin cfg0.N) (k : Fin 8) (x : S128x128.Idx) (y : S1024x128.Idx) (h0 : (y 0).val = 128 * k.val + (x 0).val) (h1 : (y 1).val = (x 1).val) :
    cDzu (k0_pay4 (F := Ideal) (iblk m c 5 t)) (tile (iblk m c 0 t) k) (tile (iblk m c 1 t) k) (tile (iblk m c 2 t) k)
      (iblk m c 3 t) (iblk m c 4 t) (iblk m c 6 t) x
      = ((rDzu Z D G B C W (headAt t) (chunkAt t (chI (y 0))) (rwI (y 0)) (y 1) : ℝ) : EReal) := by
  idx_vars x
  idx_vars y
  replace h0 : y0.val = 128 * k.val + x0.val := h0
  obtain rfl : y1 = x1 := Fin.ext h1
  obtain rfl : k = chI y0 := Fin.ext (by simp only [chI]; omega)
  obtain rfl : x0 = rwI y0 := Fin.ext (by simp only [rwI]; omega)
  exact dzu_row (chunk H t _) _ _

/-- The second result's tile, read in its block. -/
theorem ptV (t : Fin cfg0.N) (k : Fin 8) (x : S128x128.Idx) (y : S1024x128.Idx) (h0 : (y 0).val = 128 * k.val + (x 0).val) (h1 : (y 1).val = (x 1).val) :
    cDzv (k0_pay4 (F := Ideal) (iblk m c 5 t)) (tile (iblk m c 0 t) k) (tile (iblk m c 1 t) k) (tile (iblk m c 2 t) k) (iblk m c 3 t) x
      = ((rDzv Z D G W (headAt t) (chunkAt t (chI (y 0))) (rwI (y 0)) (y 1) : ℝ) : EReal) := by
  idx_vars x
  idx_vars y
  replace h0 : y0.val = 128 * k.val + x0.val := h0
  obtain rfl : y1 = x1 := Fin.ext h1
  obtain rfl : k = chI y0 := Fin.ext (by simp only [chI]; omega)
  obtain rfl : x0 = rwI y0 := Fin.ext (by simp only [rwI]; omega)
  exact dzv_row (chunk H t _) _ _

/-- What a point leaves in result 1's tile, whichever its place in the run. -/
theorem outU (t : Fin cfg0.N) (y : S1024x128.Idx) :
    (outsAt0 m c t.val t.isLt).1 y = ((rDzu Z D G B C W (headAt t) (chunkAt t (chI (y 0))) (rwI (y 0)) (y 1) : ℝ) : EReal) := by
  by_cases a : t.val % 4 = 0 <;> [rw [outsAt0_A m c t a (by omega)]; (by_cases b : t.val % 4 = 3 <;> [rw [outsAt0_C m c t a b]; rw [outsAt0_B m c t a b]])]
  all_goals
    frame_out
    canon_tiles x h <;> [exact ptU H t 7 x y h0 h1; exact ptU H t 6 x y h0 h1; exact ptU H t 5 x y h0 h1; exact ptU H t 4 x y h0 h1; exact ptU H t 3 x y h0 h1; exact ptU H t 2 x y h0 h1; exact ptU H t 1 x y h0 h1; exact ptU H t 0 x y (h0.trans (Nat.zero_add _).symm) h1]

/-- What a point leaves in result 2's tile, whichever its place in the run. -/
theorem outV (t : Fin cfg0.N) (y : S1024x128.Idx) :
    (outsAt0 m c t.val t.isLt).2.1 y = ((rDzv Z D G W (headAt t) (chunkAt t (chI (y 0))) (rwI (y 0)) (y 1) : ℝ) : EReal) := by
  by_cases a : t.val % 4 = 0 <;> [rw [outsAt0_A m c t a (by omega)]; (by_cases b : t.val % 4 = 3 <;> [rw [outsAt0_C m c t a b]; rw [outsAt0_B m c t a b]])]
  all_goals
    frame_out
    canon_tiles x h <;> [exact ptV H t 7 x y h0 h1; exact ptV H t 6 x y h0 h1; exact ptV H t 5 x y h0 h1; exact ptV H t 4 x y h0 h1; exact ptV H t 3 x y h0 h1; exact ptV H t 2 x y h0 h1; exact ptV H t 1 x y h0 h1; exact ptV H t 0 x y (h0.trans (Nat.zero_add _).symm) h1]

end

/-- Eight terms added one after another to zero. -/
theorem eight (f : Fin 8 → ℝ) : (0 : EReal) + ((f 0 : ℝ) : EReal) + ((f 1 : ℝ) : EReal) + ((f 2 : ℝ) : EReal) + ((f 3 : ℝ) : EReal) + ((f 4 : ℝ) : EReal)
    + ((f 5 : ℝ) : EReal) + ((f 6 : ℝ) : EReal) + ((f 7 : ℝ) : EReal) = ((∑ k, f k : ℝ) : EReal) := by
  rw [Fin.sum_univ_eight, zero_add]
  simp only [EReal.coe_add]

/-- A point's eight chunks added up: `aScale` applied to them in turn. -/
def allScale (m : (ℓ : Loc nD τ sig) → Buf (Elt Ideal) ℓ) (c : Dev nD) (t : Fin cfg0.N) : Vec Ideal S1x128 .f32 :=
  let step (k : Fin 8) (a : Vec Ideal S1x128 .f32) : Vec Ideal S1x128 .f32 := aScale a (k0_pay4 (F := Ideal) (iblk m c 5 t)) (tile (iblk m c 0 t) k) (tile (iblk m c 1 t) k) (tile (iblk m c 2 t) k)
  step 7 (step 6 (step 5 (step 4 (step 3 (step 2 (step 1 (step 0 (k0_pay9 (F := Ideal)))))))))

include H in
theorem allScale_row (t : Fin cfg0.N) (d : Fin 128) : allScale m c t (ix2 0 d) = ((∑ k : Fin 8, rScale Z D W (headAt t) (chunkAt t k) d : ℝ) : EReal) := by
  have z : (k0_pay9 (F := Ideal)) (ix2 0 d) = 0 := by unfold k0_pay9; pointwise
  dsimp only [allScale]
  simp only [scale_row (chunk H t _), z]
  exact eight (fun k => rScale Z D W (headAt t) (chunkAt t k) d)

/-- A point's eight chunks added up: `aShift` applied to them in turn. -/
def allShift (m : (ℓ : Loc nD τ sig) → Buf (Elt Ideal) ℓ) (c : Dev nD) (t : Fin cfg0.N) : Vec Ideal S1x128 .f32 :=
  let step (k : Fin 8) (a : Vec Ideal S1x128 .f32) : Vec Ideal S1x128 .f32 := aShift a (k0_pay4 (F := Ideal) (iblk m c 5 t)) (tile (iblk m c 0 t) k) (tile (iblk m c 2 t) k)
  step 7 (step 6 (step 5 (step 4 (step 3 (step 2 (step 1 (step 0 (k0_pay10 (F := Ideal)))))))))

include H in
theorem allShift_row (t : Fin cfg0.N) (d : Fin 128) : allShift m c t (ix2 0 d) = ((∑ k : Fin 8, rShift Z D W (headAt t) (chunkAt t k) d : ℝ) : EReal) := by
  have z : (k0_pay10 (F := Ideal)) (ix2 0 d) = 0 := by unfold k0_pay10; pointwise
  dsimp only [allShift]
  simp only [shift_row (chunk H t _), z]
  exact eight (fun k => rShift Z D W (headAt t) (chunkAt t k) d)

/-- A point's eight chunks added up: `aMixer` applied to them in turn. -/
def allMixer (m : (ℓ : Loc nD τ sig) → Buf (Elt Ideal) ℓ) (c : Dev nD) (t : Fin cfg0.N) : Vec Ideal S128x128 .f32 :=
  let step (k : Fin 8) (a : Vec Ideal S128x128 .f32) : Vec Ideal S128x128 .f32 := aMixer a (tile (iblk m c 0 t) k) (tile (iblk m c 1 t) k) (tile (iblk m c 2 t) k) (iblk m c 3 t) (iblk m c 4 t)
  step 7 (step 6 (step 5 (step 4 (step 3 (step 2 (step 1 (step 0 (k0_pay11 (F := Ideal)))))))))

include H in
theorem allMixer_row (t : Fin cfg0.N) (r s : Fin 128) : allMixer m c t (ix2 r s) = ((∑ k : Fin 8, rMixer Z D G B (headAt t) (chunkAt t k) r s : ℝ) : EReal) := by
  have z : (k0_pay11 (F := Ideal)) (ix2 r s) = 0 := by unfold k0_pay11; pointwise
  dsimp only [allMixer]
  simp only [mixer_row (chunk H t _), z]
  exact eight (fun k => rMixer Z D G B (headAt t) (chunkAt t k) r s)

/-- A point's eight chunks added up: `aRows` applied to them in turn. -/
def allMix (m : (ℓ : Loc nD τ sig) → Buf (Elt Ideal) ℓ) (c : Dev nD) (t : Fin cfg0.N) : Vec Ideal S128x128 .f32 :=
  let step (k : Fin 8) (a : Vec Ideal S128x128 .f32) : Vec Ideal S128x128 .f32 := aRows a (tile (iblk m c 0 t) k) (tile (iblk m c 2 t) k)
  step 7 (step 6 (step 5 (step 4 (step 3 (step 2 (step 1 (step 0 (k0_pay12 (F := Ideal)))))))))

include H in
theorem allMix_row (t : Fin cfg0.N) (r d : Fin 128) : allMix m c t (ix2 r d) = ((∑ k : Fin 8, rMix Z D (headAt t) (chunkAt t k) r d : ℝ) : EReal) := by
  have z : (k0_pay12 (F := Ideal)) (ix2 r d) = 0 := by unfold k0_pay12; pointwise
  dsimp only [allMix]
  simp only [rows_row (chunk H t _), z]
  exact eight (fun k => rMix Z D (headAt t) (chunkAt t k) r d)

section
include H

/-- Adding a point's share to what the buffers held. -/
theorem add9 (t : Fin cfg0.N) (p : Vec Ideal S1x1x128 .f32) (d : Fin 128) : k0_pay189 (allScale m c t) p (ix3 0 0 d)
    = p (ix3 0 0 d) + ((∑ k : Fin 8, rScale Z D W (headAt t) (chunkAt t k) d : ℝ) : EReal) := by
  unfold k0_pay189; pointwise; rw [allScale_row H]
theorem add10 (t : Fin cfg0.N) (p : Vec Ideal S1x1x128 .f32) (d : Fin 128) : k0_pay191 (k0_pay190 (allShift m c t) p) (ix3 0 0 d)
    = p (ix3 0 0 d) + ((∑ k : Fin 8, rShift Z D W (headAt t) (chunkAt t k) d : ℝ) : EReal) := by
  unfold k0_pay191 k0_pay190; pointwise; rw [allShift_row H]
theorem add11 (t : Fin cfg0.N) (p : Vec Ideal S1x128x128 .f32) (r s : Fin 128) : k0_pay192 k0_pay3 (allMixer m c t) p (ix3 0 r s)
    = p (ix3 0 r s) + ((if s ≤ r then ∑ k : Fin 8, rMixer Z D G B (headAt t) (chunkAt t k) r s else 0 : ℝ) : EReal) := by
  unfold k0_pay192 k0_pay3; pointwise
  rw [allMixer_row H, cmpi_sge_ofNat (by omega) (by omega), select_decide]
  simp only [Fin.le_def]
  split <;> simp
theorem add12 (t : Fin cfg0.N) (p : Vec Ideal S128x128 .f32) (r d : Fin 128) : k0_pay1 (k0_pay193 (allMix m c t) p) (ix2 r d)
    = p (ix2 r d) + ((∑ k : Fin 8, rMix Z D (headAt t) (chunkAt t k) r d : ℝ) : EReal) := by
  unfold k0_pay1 k0_pay193; pointwise; rw [allMix_row H]
end

theorem add12s (v : Vec Ideal S128x128 .f32) (r : Fin 128) : k0_pay2 (F := Ideal) v (ix3 0 r 0) = ∑ d, v (ix2 r d) := by
  unfold k0_pay2; pointwise
theorem zero9 (j : S1x1x128.Idx) : (k0_pay5 (F := Ideal)) j = 0 := by idx_vars j; unfold k0_pay5; pointwise
theorem zero10 (j : S1x1x128.Idx) : (k0_pay6 (F := Ideal)) j = 0 := by idx_vars j; unfold k0_pay6; pointwise
theorem zero11 (j : S1x128x128.Idx) : (k0_pay7 (F := Ideal)) j = 0 := by idx_vars j; unfold k0_pay7; pointwise
theorem zero12 (j : S128x128.Idx) : (k0_pay8 (F := Ideal)) j = 0 := by idx_vars j; unfold k0_pay8; pointwise

section
include H

/-- What a run of four points has gathered at its end, result 3. -/
theorem run9 (t : Fin cfg0.N) (hr : t.val % 4 = 3) (j : S1x1x128.Idx) : (outsAt0 m c t.val t.isLt).2.2.1 j
    = ∑ s : Fin 4, (fun (t : Fin cfg0.N) (j : S1x1x128.Idx) => (((∑ k : Fin 8, rScale Z D W (headAt t) (chunkAt t k) (j 2) : ℝ)) : EReal)) ⟨4 * (t.val / 4) + s.val, Pipeline.run_point_lt_of_flush t hr s⟩ j := by
  rw [Pipeline.eq_sum_fin_of_reset_step_apply_of_flush (fun n h => (outsAt0 m c n h).2.2.1) 4 (fun _ => 0)
    (fun t j => (((∑ k : Fin 8, rScale Z D W (headAt t) (chunkAt t k) (j 2) : ℝ)) : EReal))
    (fun t h j => by
      rw [outsAt0_A m c t h (by omega)]; frame_out; idx_vars j; obtain rfl : j0 = 0 := Subsingleton.elim _ _; obtain rfl : j1 = 0 := Subsingleton.elim _ _; exact (add9 H t _ j2).trans (congrArg (· + _) (zero9 _)))
    (fun t h j => by
      by_cases b : t.val % 4 = 3
      · rw [outsAt0_C m c t h b]; frame_out; idx_vars j; obtain rfl : j0 = 0 := Subsingleton.elim _ _; obtain rfl : j1 = 0 := Subsingleton.elim _ _; exact add9 H t _ j2
      · rw [outsAt0_B m c t h b]; frame_out; idx_vars j; obtain rfl : j0 = 0 := Subsingleton.elim _ _; obtain rfl : j1 = 0 := Subsingleton.elim _ _; exact add9 H t _ j2) t hr j, zero_add]

/-- What a run of four points has gathered at its end, result 4. -/
theorem run10 (t : Fin cfg0.N) (hr : t.val % 4 = 3) (j : S1x1x128.Idx) : (outsAt0 m c t.val t.isLt).2.2.2.1 j
    = ∑ s : Fin 4, (fun (t : Fin cfg0.N) (j : S1x1x128.Idx) => (((∑ k : Fin 8, rShift Z D W (headAt t) (chunkAt t k) (j 2) : ℝ)) : EReal)) ⟨4 * (t.val / 4) + s.val, Pipeline.run_point_lt_of_flush t hr s⟩ j := by
  rw [Pipeline.eq_sum_fin_of_reset_step_apply_of_flush (fun n h => (outsAt0 m c n h).2.2.2.1) 4 (fun _ => 0)
    (fun t j => (((∑ k : Fin 8, rShift Z D W (headAt t) (chunkAt t k) (j 2) : ℝ)) : EReal))
    (fun t h j => by
      rw [outsAt0_A m c t h (by omega)]; frame_out; idx_vars j; obtain rfl : j0 = 0 := Subsingleton.elim _ _; obtain rfl : j1 = 0 := Subsingleton.elim _ _; exact (add10 H t _ j2).trans (congrArg (· + _) (zero10 _)))
    (fun t h j => by
      by_cases b : t.val % 4 = 3
      · rw [outsAt0_C m c t h b]; frame_out; idx_vars j; obtain rfl : j0 = 0 := Subsingleton.elim _ _; obtain rfl : j1 = 0 := Subsingleton.elim _ _; exact add10 H t _ j2
      · rw [outsAt0_B m c t h b]; frame_out; idx_vars j; obtain rfl : j0 = 0 := Subsingleton.elim _ _; obtain rfl : j1 = 0 := Subsingleton.elim _ _; exact add10 H t _ j2) t hr j, zero_add]

/-- What a run of four points has gathered at its end, result 5. -/
theorem run11 (t : Fin cfg0.N) (hr : t.val % 4 = 3) (j : S1x128x128.Idx) : (outsAt0 m c t.val t.isLt).2.2.2.2.1 j
    = ∑ s : Fin 4, (fun (t : Fin cfg0.N) (j : S1x128x128.Idx) => (((if (j 2).val ≤ (j 1).val then ∑ k : Fin 8, rMixer Z D G B (headAt t) (chunkAt t k) (j 1) (j 2) else 0 : ℝ)) : EReal)) ⟨4 * (t.val / 4) + s.val, Pipeline.run_point_lt_of_flush t hr s⟩ j := by
  rw [Pipeline.eq_sum_fin_of_reset_step_apply_of_flush (fun n h => (outsAt0 m c n h).2.2.2.2.1) 4 (fun _ => 0)
    (fun t j => (((if (j 2).val ≤ (j 1).val then ∑ k : Fin 8, rMixer Z D G B (headAt t) (chunkAt t k) (j 1) (j 2) else 0 : ℝ)) : EReal))
    (fun t h j => by
      rw [outsAt0_A m c t h (by omega)]; frame_out; idx_vars j; obtain rfl : j0 = 0 := Subsingleton.elim _ _; exact (add11 H t _ j1 j2).trans (congrArg (· + _) (zero11 _)))
    (fun t h j => by
      by_cases b : t.val % 4 = 3
      · rw [outsAt0_C m c t h b]; frame_out; idx_vars j; obtain rfl : j0 = 0 := Subsingleton.elim _ _; exact add11 H t _ j1 j2
      · rw [outsAt0_B m c t h b]; frame_out; idx_vars j; obtain rfl : j0 = 0 := Subsingleton.elim _ _; exact add11 H t _ j1 j2) t hr j, zero_add]

/-- What a run of four points has gathered at its end, result 6. -/
theorem run12 (t : Fin cfg0.N) (hr : t.val % 4 = 3) (j : S128x128.Idx) : (outsAt0 m c t.val t.isLt).2.2.2.2.2.2 j
    = ∑ s : Fin 4, (fun (t : Fin cfg0.N) (j : S128x128.Idx) => (((∑ k : Fin 8, rMix Z D (headAt t) (chunkAt t k) (j 0) (j 1) : ℝ)) : EReal)) ⟨4 * (t.val / 4) + s.val, Pipeline.run_point_lt_of_flush t hr s⟩ j := by
  rw [Pipeline.eq_sum_fin_of_reset_step_apply_of_flush (fun n h => (outsAt0 m c n h).2.2.2.2.2.2) 4 (fun _ => 0)
    (fun t j => (((∑ k : Fin 8, rMix Z D (headAt t) (chunkAt t k) (j 0) (j 1) : ℝ)) : EReal))
    (fun t h j => by
      rw [outsAt0_A m c t h (by omega)]; frame_out; idx_vars j; exact (add12 H t _ j0 j1).trans (congrArg (· + _) (zero12 _)))
    (fun t h j => by
      by_cases b : t.val % 4 = 3
      · rw [outsAt0_C m c t h b]; frame_out; rw [show View.read _ (View.whole cc0_scratch0) _ = _ from Memref.IsWhole.read_unread _ _]; idx_vars j; exact add12 H t _ j0 j1
      · rw [outsAt0_B m c t h b]; frame_out; rw [show View.read _ (View.whole cc0_scratch0) _ = _ from Memref.IsWhole.read_unread _ _]; idx_vars j; exact add12 H t _ j0 j1) t hr j, zero_add]

/-- What the last point of a run leaves in result 6: the row sums of the gathered matrix. -/
theorem rows12 (t : Fin cfg0.N) (hr : t.val % 4 = 3) (r : Fin 128) : (outsAt0 m c t.val t.isLt).2.2.2.2.2.1 (ix3 0 r 0)
    = ∑ d : Fin 128, (outsAt0 m c t.val t.isLt).2.2.2.2.2.2 (ix2 r d) := by
  rw [outsAt0_C m c t (by omega) hr]; frame_out
  exact add12s _ _

end
end Cert.Proof.Sgu
end
-- ==== Proof.SguResults.lean ====
/- The six result arrays of the spatial gating unit's gradient kernel, over real operand arrays. -/
module

public import proofs.«01_k».proof.Proof.SguArrays
public import proofs.«01_k».proof.Proof.Lib.Bands

@[expose] public section

set_option maxRecDepth 16384

noncomputable section

namespace Cert.Proof.Sgu

open Idealize.ShloMosaic Idealize.ShloMosaic.TcCoe Idealize.SL.Sem Idealize.ShloMosaic.WordCmp Cert.SguKernelIdeal Cert.SguKernelIdeal.Gen Cert.Step

variable {m : (ℓ : Loc nD τ sig) → Buf (Elt Ideal) ℓ} {c : Dev nD}

variable {Z : Fin 4096 → Fin 4096 → ℝ} {D : Fin 4096 → Fin 512 → ℝ} {G B C : Fin 4 → Fin 128 → ℝ} {W : Fin 4 → Mat}

/-- The chunk of a row and its place there; the head of a column and its place there. -/
def chR (i : Fin 4096) : Fin 32 := ⟨i.val / 128, by omega⟩
def rwR (i : Fin 4096) : Fin 128 := ⟨i.val % 128, by omega⟩
def hdR (j : Fin 512) : Fin 4 := ⟨j.val / 128, by omega⟩
def clR (j : Fin 512) : Fin 128 := ⟨j.val % 128, by omega⟩
/-- A block's row and column in the array. -/
def rowAt (t : Fin cfg0.N) (i : Fin 1024) : Fin 4096 := ⟨t.val % 4 * 1024 + i.val, by omega⟩
def colAt (t : Fin cfg0.N) (j : Fin 128) : Fin 512 := ⟨t.val / 4 * 128 + j.val, by have := lt_of_lt_of_eq t.isLt N_0; omega⟩

theorem ch_row (t : Fin cfg0.N) (i : Fin 1024) : chR (rowAt t i) = chunkAt t (chI i) := Fin.ext (by simp only [chR, rowAt, chunkAt, chI]; omega)
theorem rw_row (t : Fin cfg0.N) (i : Fin 1024) : rwR (rowAt t i) = rwI i := Fin.ext (by simp only [rwR, rowAt, rwI]; omega)
theorem hd_col (t : Fin cfg0.N) (j : Fin 128) : hdR (colAt t j) = headAt t := Fin.ext (by simp only [hdR, colAt, headAt]; omega)
theorem cl_col (t : Fin cfg0.N) (j : Fin 128) : clR (colAt t j) = j := Fin.ext (by simp only [clR, colAt]; omega)

theorem place (f : Fin 4 → Fin 32 → Mat) (t : Fin cfg0.N) (i : Fin 1024) (j : Fin 128) : f (headAt t) (chunkAt t (chI i)) (rwI i) j
    = f (hdR (colAt t j)) (chR (rowAt t i)) (rwR (rowAt t i)) (clR (colAt t j)) := by
  rw [ch_row, rw_row, hd_col, cl_col]

/-- A quantity summed over a run's points and their chunks is summed over the head's chunks. -/
theorem run_sum (f : Fin 4 → Fin 32 → ℝ) (t : Fin cfg0.N) (hr : t.val % 4 = 3) :
    ∑ s : Fin 4, ((∑ k : Fin 8, f (headAt ⟨4 * (t.val / 4) + s.val, Pipeline.run_point_lt_of_flush t hr s⟩)
      (chunkAt ⟨4 * (t.val / 4) + s.val, Pipeline.run_point_lt_of_flush t hr s⟩ k) : ℝ) : EReal) = ((∑ n, f (headAt t) n : ℝ) : EReal) := by
  rw [sum_real, ← sum_bands (N := 4) (B := 8) rfl (f (headAt t))]
  refine congrArg _ (Finset.sum_congr rfl fun s _ => Finset.sum_congr rfl fun k _ => ?_)
  have a : headAt ⟨4 * (t.val / 4) + s.val, Pipeline.run_point_lt_of_flush t hr s⟩ = headAt t := Fin.ext (by simp only [headAt]; omega)
  have b : chunkAt ⟨4 * (t.val / 4) + s.val, Pipeline.run_point_lt_of_flush t hr s⟩ k = ⟨s.val * 8 + k.val, band_lt rfl s k⟩ :=
    Fin.ext (by simp only [chunkAt]; omega)
  rw [a, b]

/-- The last two results: the mixing matrix's gradient, kept on the lower triangle; the bias's gradient. -/
def gMixer (Z : Fin 4096 → Fin 4096 → ℝ) (D : Fin 4096 → Fin 512 → ℝ) (G B : Fin 4 → Fin 128 → ℝ) (h : Fin 4) (r s : Fin 128) : ℝ :=
  if s.val ≤ r.val then ∑ n, rMixer Z D G B h n r s else 0
def gBias (Z : Fin 4096 → Fin 4096 → ℝ) (D : Fin 4096 → Fin 512 → ℝ) (h : Fin 4) (r : Fin 128) : ℝ := ∑ d, ∑ n, rMix Z D h n r d

section
variable (H : Reals m c Z D G B C W)
include H

/-- Result 1: the gating half's gradient. -/
theorem arr7 : (dats m 0 c).arrAt 7 cfg0.N
    = fun y : S4096x512.Idx => ((rDzu Z D G B C W (hdR (y 1)) (chR (y 0)) (rwR (y 0)) (clR (y 1)) : ℝ) : EReal) := by
  refine (dats m 0 c).arrAt_eq_of_covers 7 _ (by decide +kernel) fun t hf y => ?_
  blk_simp
  have e : ∀ y : S1024x128.Idx, ((View.whole (Pipeline.arrRef spec0 7)).slice (win0_7.rect t)).emb y = ix2 (rowAt t (y 0)) (colAt t (y 1)) := fun y => by
    blk_ext [rowAt, colAt, idx t]
  rw [after0_7, e y, outU H]
  exact congrArg ((↑) : ℝ → EReal) (place (rDzu Z D G B C W) t (y 0) (y 1))

/-- Result 2: the mixed half's gradient. -/
theorem arr8 : (dats m 0 c).arrAt 8 cfg0.N
    = fun y : S4096x512.Idx => ((rDzv Z D G W (hdR (y 1)) (chR (y 0)) (rwR (y 0)) (clR (y 1)) : ℝ) : EReal) := by
  refine (dats m 0 c).arrAt_eq_of_covers 8 _ (by decide +kernel) fun t hf y => ?_
  blk_simp
  have e : ∀ y : S1024x128.Idx, ((View.whole (Pipeline.arrRef spec0 8)).slice (win0_8.rect t)).emb y = ix2 (rowAt t (y 0)) (colAt t (y 1)) := fun y => by
    blk_ext [rowAt, colAt, idx t]
  rw [after0_8, e y, outV H]
  exact congrArg ((↑) : ℝ → EReal) (place (rDzv Z D G W) t (y 0) (y 1))

/-- Result 3: the gradient in the norm's scale. -/
theorem arr9 : (dats m 0 c).arrAt 9 cfg0.N
    = fun y : S4x1x128.Idx => ((∑ n, rScale Z D W (y 0) n (y 2) : ℝ) : EReal) := by
  refine (dats m 0 c).arrAt_eq_of_covers 9 _ (by decide +kernel) fun t hf y => ?_
  blk_simp
  have e : ∀ y : S1x1x128.Idx, ((View.whole (Pipeline.arrRef spec0 9)).slice (win0_9.rect t)).emb y = ix3 (headAt t) 0 (y 2) := fun y => by
    blk_ext [headAt, idx t]
  rw [after0_9, e y, run9 H t ((flush0_9 t).mp hf)]
  exact run_sum (fun h n => rScale Z D W h n (y 2)) t ((flush0_9 t).mp hf)

/-- Result 4: the gradient in the norm's shift. -/
theorem arr10 : (dats m 0 c).arrAt 10 cfg0.N
    = fun y : S4x1x128.Idx => ((∑ n, rShift Z D W (y 0) n (y 2) : ℝ) : EReal) := by
  refine (dats m 0 c).arrAt_eq_of_covers 10 _ (by decide +kernel) fun t hf y => ?_
  blk_simp
  have e : ∀ y : S1x1x128.Idx, ((View.whole (Pipeline.arrRef spec0 10)).slice (win0_10.rect t)).emb y = ix3 (headAt t) 0 (y 2) := fun y => by
    blk_ext [headAt, idx t]
  rw [after0_10, e y, run10 H t ((flush0_10 t).mp hf)]
  exact run_sum (fun h n => rShift Z D W h n (y 2)) t ((flush0_10 t).mp hf)

/-- What a run leaves in result 5's block. -/
theorem end11 (t : Fin cfg0.N) (hr : t.val % 4 = 3) (y : S1x128x128.Idx) : (outsAt0 m c t.val t.isLt).2.2.2.2.1 y
    = ((gMixer Z D G B (headAt t) (y 1) (y 2) : ℝ) : EReal) := by
  rw [run11 H t hr]
  have q := run_sum (fun h n => if (y 2).val ≤ (y 1).val then rMixer Z D G B h n (y 1) (y 2) else 0) t hr
  refine Eq.trans ?_ (q.trans ?_)
  · refine Finset.sum_congr rfl fun s _ => congrArg ((↑) : ℝ → EReal) ?_
    dsimp only
    split
    · rfl
    · simp
  · refine congrArg ((↑) : ℝ → EReal) ?_
    unfold gMixer
    split
    · rfl
    · simp

/-- Result 5: the gradient in the mixing matrix, its lower triangle. -/
theorem arr11 : (dats m 0 c).arrAt 11 cfg0.N
    = fun y : S4x128x128.Idx => ((gMixer Z D G B (y 0) (y 1) (y 2) : ℝ) : EReal) := by
  refine (dats m 0 c).arrAt_eq_of_covers 11 _ (by decide +kernel) fun t hf y => ?_
  blk_simp
  have e : ∀ y : S1x128x128.Idx, ((View.whole (Pipeline.arrRef spec0 11)).slice (win0_11.rect t)).emb y = ix3 (headAt t) (y 1) (y 2) := fun y => by
    blk_ext [headAt, idx t]
  rw [after0_11, e y]
  exact end11 H t ((flush0_11 t).mp hf) y

/-- What a run leaves in result 6's block. -/
theorem end12 (t : Fin cfg0.N) (hr : t.val % 4 = 3) (y : S1x128x1.Idx) : (outsAt0 m c t.val t.isLt).2.2.2.2.2.1 y
    = ((gBias Z D (headAt t) (y 1) : ℝ) : EReal) := by
  idx_vars y
  obtain rfl : y0 = 0 := Subsingleton.elim _ _
  obtain rfl : y2 = 0 := Subsingleton.elim _ _
  rw [rows12 H t hr]
  simp only [run12 H t hr]
  exact (Finset.sum_congr rfl fun d _ => run_sum (fun h n => rMix Z D h n y1 d) t hr).trans (sum_real _ _)

/-- Result 6: the gradient in the mixer's bias. -/
theorem arr12 : (dats m 0 c).arrAt 12 cfg0.N
    = fun y : S4x128x1.Idx => ((gBias Z D (y 0) (y 1) : ℝ) : EReal) := by
  refine (dats m 0 c).arrAt_eq_of_covers 12 _ (by decide +kernel) fun t hf y => ?_
  blk_simp
  have e : ∀ y : S1x128x1.Idx, ((View.whole (Pipeline.arrRef spec0 12)).slice (win0_12.rect t)).emb y = ix3 (headAt t) (y 1) 0 := fun y => by
    blk_ext [headAt, idx t]
  rw [after0_12, e y]
  exact end12 H t ((flush0_12 t).mp hf) y

end
end Cert.Proof.Sgu
end
-- ==== Proof.SguRef.lean ====
/- What the reference of the spatial gating unit's gradient computes, entry by entry over real arrays. -/
module

public import proofs.«01_k».proof.Proof.SguResults
public import proofs.«01_k».proof.Proof.Gen.SguReferenceIdeal.Read

@[expose] public section

set_option maxRecDepth 16384

noncomputable section

namespace Cert.Proof.Sgu

open Idealize.ShloMosaic Idealize.ShloMosaic.WordCmp Cert.SguReferenceIdeal Cert.SguReferenceIdeal.Read Cert.Step

/-- A host sum over the outer and the last of four axes. -/
theorem sum_outer {a b c d : Nat} (h : (⟨4, ![a, b, c, d]⟩ : Shape).ReducesTo [0, 3] ⟨2, ![b, c]⟩) (x : (⟨4, ![a, b, c, d]⟩ : Shape).Idx → EReal) (init : EReal)
    (i : Fin b) (j : Fin c) : Ideal.hostReduceAdd h x init (ix2 i j) = init + ∑ n : Fin a, ∑ k : Fin d, x (ix4 n i j k) := by
  refine congrArg (init + ·) ((Finset.sum_filter_eq_sum_of_fiber _ (fun k : Fin a × Fin d => ix4 k.1 i j k.2)
    (fun _ _ e => Prod.ext (congrFun e 0) (congrFun e 3)) (fun y => ?_) x).trans (Fintype.sum_prod_type _))
  constructor
  · intro e
    refine ⟨(y 0, y 3), ?_⟩
    funext q; apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext q; apply Fin.ext
    match q with
    | ⟨0, _⟩ => rfl
    | ⟨1, _⟩ => rfl

/-- The arguments are real. -/
structure RefReal (x0 : (⟨S4096x4096, .f32⟩ : BufTy).Contents (Elt Ideal)) (x1 : (⟨S4096x2048, .bf16⟩ : BufTy).Contents (Elt Ideal))
    (x2 x3 : (⟨S4x128, .f32⟩ : BufTy).Contents (Elt Ideal)) (x4 : (⟨S4x128x128, .f32⟩ : BufTy).Contents (Elt Ideal)) (x5 : (⟨S4x128, .f32⟩ : BufTy).Contents (Elt Ideal))
    (Z : Fin 4096 → Fin 4096 → ℝ) (X : Fin 4096 → Fin 2048 → ℝ) (G B C : Fin 4 → Fin 128 → ℝ) (W : Fin 4 → Mat) : Prop where
  z : ∀ i j, x0 (ix2 i j) = ((Z i j : ℝ) : EReal)
  d : ∀ i j, x1 (ix2 i j) = ((X i j : ℝ) : EReal)
  g : ∀ h k, x2 (ix2 h k) = ((G h k : ℝ) : EReal)
  b : ∀ h k, x3 (ix2 h k) = ((B h k : ℝ) : EReal)
  w : ∀ h t s, x4 (ix3 h t s) = ((W h t s : ℝ) : EReal)
  c : ∀ h t, x5 (ix2 h t) = ((C h t : ℝ) : EReal)

/-- The columns of the cotangent this mixer owns; its row `i` of the activated half. -/
def cut (X : Fin 4096 → Fin 2048 → ℝ) (i : Fin 4096) (j : Fin 512) : ℝ := X i ⟨j.val, by omega⟩
def half (Z : Fin 4096 → Fin 4096 → ℝ) (i : Fin 4096) (h : Fin 4) : Fin 128 → ℝ := fun d => gelu (Z i (colV h d))
def wide (j : Fin 1024) : Fin 4096 := ⟨j.val, by omega⟩

theorem row_chunk (i : Fin 4096) : rowOf (chR i) (rwR i) = i := Fin.ext (by simp only [rowOf, chR, rwR]; omega)
theorem act_half (Z : Fin 4096 → Fin 4096 → ℝ) (i : Fin 4096) (h : Fin 4) : act (zvC Z h (chR i)) (rwR i) = half Z i h := by
  unfold act zvC half
  rw [row_chunk]

/-- The normalised half's gradient at row `i` of the array. -/
def dRow (Z : Fin 4096 → Fin 4096 → ℝ) (X : Fin 4096 → Fin 2048 → ℝ) (W : Fin 4 → Mat) (i : Fin 4096) (h : Fin 4) : Fin 128 → ℝ :=
  dvln (tril (W h)) (zuC Z h (chR i)) (dC (cut X) h (chR i)) (rwR i)
theorem ch_of (n : Fin 32) (r : Fin 128) : chR (rowOf n r) = n := Fin.ext (by simp only [rowOf, chR]; omega)
theorem rw_of (n : Fin 32) (r : Fin 128) : rwR (rowOf n r) = r := Fin.ext (by simp only [rowOf, rwR]; omega)

variable {x0 : (⟨S4096x4096, .f32⟩ : BufTy).Contents (Elt Ideal)} {x1 : (⟨S4096x2048, .bf16⟩ : BufTy).Contents (Elt Ideal)}
variable {x2 x3 : (⟨S4x128, .f32⟩ : BufTy).Contents (Elt Ideal)} {x4 : (⟨S4x128x128, .f32⟩ : BufTy).Contents (Elt Ideal)} {x5 : (⟨S4x128, .f32⟩ : BufTy).Contents (Elt Ideal)}
variable {Z : Fin 4096 → Fin 4096 → ℝ} {X : Fin 4096 → Fin 2048 → ℝ} {G B C : Fin 4 → Fin 128 → ℝ} {W : Fin 4 → Mat}
  (R : RefReal x0 x1 x2 x3 x4 x5 Z X G B C W)

/-- A sum over all rows is one over the chunks and their rows. -/
theorem sum_rows (f : Fin 4096 → ℝ) : ∑ i, f i = ∑ n : Fin 32, ∑ r : Fin 128, f (rowOf n r) := (sum_bands (N := 32) (B := 128) (by norm_num) f).symm

section
include R
/-- The hyperbolic tangent. -/
theorem ref_t (i : Fin 4096) (j : Fin 1024) : val_main_v12 (F := Ideal) x0 (ix2 i j) = ((geluT (Z i (wide j)) : ℝ) : EReal) := by
  unfold val_main_v12 val_main_v11 val_main_v9 val_main_v8 val_main_v3 val_main_v2 val_main_v7 val_main_v1 val_main_cst_0 val_main_cst val_main_v0 val_main_v10 val_main_cst_2
  pointwise
  simp only [R.z, lit_geluK, lit_8943, lit_200000, quotient_c, mul_real, add_real, tanh_real]
  rw [← geluT_cube]; rfl

/-- gelu's weight. -/
theorem ref_w (i : Fin 4096) (j : Fin 1024) : val_main_v21 (F := Ideal) x0 (ix2 i j) = ((1 / 2 * (1 + geluT (Z i (wide j))) : ℝ) : EReal) := by
  unfold val_main_v21 val_main_v19 val_main_v18 val_main_cst_5 val_main_v20 val_main_cst_6
  pointwise
  simp only [ref_t R, lit_half, one_real, mul_real, add_real]

/-- gelu. -/
theorem ref_gelu (i : Fin 4096) (j : Fin 1024) : val_main_v22 (F := Ideal) x0 (ix2 i j) = ((gelu (Z i (wide j)) : ℝ) : EReal) := by
  unfold val_main_v22 val_main_v0
  pointwise
  simp only [ref_w R, R.z, mul_real]
  rw [← gelu_weight]; rfl

/-- The gating half, chunked. -/
theorem ref_u (n : Fin 32) (r : Fin 128) (h : Fin 4) (d : Fin 128) : val_main_v63 (F := Ideal) x0 (ix4 n r h d) = ((gelu (zuC Z h n r d) : ℝ) : EReal) := by
  unfold val_main_v63 val_main_v23
  pointwise
  exact ref_gelu R _ _

/-- The other half, by heads. -/
theorem ref_v (i : Fin 4096) (h : Fin 4) (d : Fin 128) : val_main_v25 (F := Ideal) x0 (ix3 i h d) = ((half Z i h d : ℝ) : EReal) := by
  unfold val_main_v25 val_main_v24
  pointwise
  refine (ref_gelu R _ _).trans (congrArg (fun q : Fin 4096 => ((gelu (Z i q) : ℝ) : EReal)) (Fin.ext ?_))
  simp only [wide, colV]; omega

theorem ref_cen (i : Fin 4096) (h : Fin 4) (d : Fin 128) : val_main_v31 (F := Ideal) x0 (ix3 i h d) = ((cen (half Z i h) d : ℝ) : EReal) := by
  unfold val_main_v31 val_main_v30 val_main_v29 val_main_v28 val_main_cst_8 val_main_v27 val_main_v26 val_main_cst_7
  pointwise
  simp only [ref_v R, lit_128, mean_real n128, sub_real, cen]

theorem ref_var (i : Fin 4096) (h : Fin 4) : val_main_v38 (F := Ideal) x0 (ix3 i h 0) = ((var (half Z i h) + eps : ℝ) : EReal) := by
  unfold val_main_v38 val_main_v37 val_main_cst_11 val_main_v36 val_main_v35 val_main_cst_10 val_main_v34 val_main_v33 val_main_cst_9 val_main_v32
  pointwise
  simp only [ref_cen R, lit_128, lit_eps, mul_real, mean_real n128, add_real, var]

theorem ref_rstd (i : Fin 4096) (h : Fin 4) : val_main_v39 (F := Ideal) x0 (ix3 i h 0) = ((rstd eps (half Z i h) : ℝ) : EReal) := by
  unfold val_main_v39
  pointwise
  rw [ref_var R, ← add_real, rstd_real]

theorem ref_drstd (i : Fin 4096) (h : Fin 4) : val_main_v42 (F := Ideal) x0 (ix3 i h 0) = ((-(1 / 2) * (rstd eps (half Z i h) / (var (half Z i h) + eps)) : ℝ) : EReal) := by
  unfold val_main_v42 val_main_v40 val_main_v41 val_main_cst_12
  pointwise
  rw [ref_var R, ref_rstd R, lit_neg_half, div_real _ (add_pos_of_nonneg_of_pos (var_nonneg _) eps_pos).ne', mul_real]

theorem ref_xhat (i : Fin 4096) (h : Fin 4) (d : Fin 128) : val_main_v44 (F := Ideal) x0 (ix3 i h d) = ((xhat eps (half Z i h) d : ℝ) : EReal) := by
  unfold val_main_v44 val_main_v43
  pointwise
  rw [ref_cen R, ref_rstd R, mul_real, xhat]

/-- The normalised half with the norm's scale and shift. -/
theorem ref_lin (i : Fin 4096) (h : Fin 4) (d : Fin 128) : val_main_v50 (F := Ideal) x0 x2 x3 (ix3 i h d) = ((xhat eps (half Z i h) d * G h d + B h d : ℝ) : EReal) := by
  unfold val_main_v50 val_main_v49 val_main_v48 val_main_v47 val_main_v46 val_main_v45
  pointwise
  simp only [ref_xhat R, R.g, R.b, mul_real, add_real]

theorem ref_vln (n : Fin 32) (r : Fin 128) (h : Fin 4) (d : Fin 128) : val_main_v51 (F := Ideal) x0 x2 x3 (ix4 n r h d) = ((vln (zvC Z h n) (G h) (B h) r d : ℝ) : EReal) := by
  unfold val_main_v51
  pointwise
  exact ref_lin R _ _ _

/-- The mixing matrix's lower triangle. -/
theorem ref_tril (h : Fin 4) (t s : Fin 128) : val_main_v55_0 (F := Ideal) x4 (ix3 h t s) = ((tril (W h) t s : ℝ) : EReal) := by
  unfold val_main_v55_0 val_main_call1_v1 val_main_cst_13 val_main_v55_1 val_main_v54 val_main_v53 val_main_call0_v5 val_main_call0_c_0 val_main_v52 val_main_c val_main_call0_v4 val_main_call0_v3 val_main_call0_v2 val_main_call0_v1 val_main_call0_c val_main_call0_v0
  pointwise
  rw [show IntOp.addi (BitVec.ofNat 32 t.val) 0#32 = BitVec.ofNat 32 t.val from BitVec.add_zero _, cmpi_sge_ofNat (by omega) (by omega), select_decide, tril]
  by_cases q : s.val ≤ t.val
  · rw [if_pos q, if_pos (Fin.le_def.mpr q), select_one, R.w]
  · rw [if_neg q, if_neg (fun e => q (Fin.le_def.mp e)), select_zero]; rfl

/-- The half mixed over time. -/
theorem ref_mixed (n : Fin 32) (r : Fin 128) (h : Fin 4) (d : Fin 128) : val_main_v62 (F := Ideal) x0 x2 x3 x4 x5 (ix4 n r h d) = ((mixed (tril (W h)) (zvC Z h n) (G h) (B h) (C h) r d : ℝ) : EReal) := by
  unfold val_main_v62 val_main_v61 val_main_v60 val_main_v59 val_main_v58 val_main_v57 val_main_v56
  pointwise
  simp only [ref_vln R, ref_tril R, R.c, mul_real, sum_real, add_real, mixed, mul_comm]

/-- The cotangent, chunked. -/
theorem ref_d (n : Fin 32) (r : Fin 128) (h : Fin 4) (d : Fin 128) : val_main_v68 (F := Ideal) x1 (ix4 n r h d) = ((dC (cut X) h n r d : ℝ) : EReal) := by
  unfold val_main_v68 val_main_v67 val_main_v66
  pointwise
  exact R.d _ _

/-- The gradient in the mixed half. -/
theorem ref_dmix (n : Fin 32) (r : Fin 128) (h : Fin 4) (d : Fin 128) : val_main_v69 (F := Ideal) x0 x1 (ix4 n r h d) = ((dmix (zuC Z h n) (dC (cut X) h n) r d : ℝ) : EReal) := by
  unfold val_main_v69
  pointwise
  rw [ref_u R, ref_d R, mul_real, dmix, mul_comm]

/-- The transposed mixing. -/
theorem ref_dvln (n : Fin 32) (r : Fin 128) (h : Fin 4) (d : Fin 128) : val_main_v81 (F := Ideal) x0 x1 x4 (ix4 n r h d) = ((dvln (tril (W h)) (zuC Z h n) (dC (cut X) h n) r d : ℝ) : EReal) := by
  unfold val_main_v81 val_main_v80 val_main_v78
  pointwise
  simp only [ref_dmix R, ref_tril R, mul_real, sum_real, dvln, mul_comm]

theorem ref_dlin (i : Fin 4096) (h : Fin 4) (d : Fin 128) : val_main_v83 (F := Ideal) x0 x1 x4 (ix3 i h d) = ((dRow Z X W i h d : ℝ) : EReal) := by
  unfold val_main_v83
  pointwise
  exact ref_dvln R _ _ _ _

/-- The normalised row's gradient. -/
theorem ref_dxhat (i : Fin 4096) (h : Fin 4) (d : Fin 128) : val_main_v91 (F := Ideal) x0 x1 x2 x4 (ix3 i h d) = ((dRow Z X W i h d * G h d : ℝ) : EReal) := by
  unfold val_main_v91 val_main_v90 val_main_v45
  pointwise
  rw [ref_dlin R, R.g, mul_real]

theorem ref_viaVar (i : Fin 4096) (h : Fin 4) : val_main_v101 (F := Ideal) x0 x1 x2 x4 (ix2 i h) = ((viaVar eps (half Z i h) (fun j => dRow Z X W i h j * G h j) : ℝ) : EReal) := by
  unfold val_main_v101 val_main_cst_23 val_main_v100 val_main_v99 val_main_cst_22 val_main_v98 val_main_v95 val_main_v94 val_main_cst_21 val_main_v93
  pointwise
  simp only [ref_cen R, ref_dxhat R, ref_drstd R, lit_128, mul_real, sum_real, div_real _ n128, Fin.sum_univ_one]
  rfl

theorem ref_cenGrad (i : Fin 4096) (h : Fin 4) (d : Fin 128) : val_main_v106 (F := Ideal) x0 x1 x2 x4 (ix3 i h d) = ((cenGrad eps (half Z i h) (fun j => dRow Z X W i h j * G h j) d : ℝ) : EReal) := by
  unfold val_main_v106 val_main_v105 val_main_v104 val_main_v103 val_main_v102 val_main_v97 val_main_v96
  pointwise
  simp only [ref_cen R, ref_dxhat R, ref_rstd R, ref_viaVar R, mul_real, add_real]
  rfl

/-- The norm's gradient is the kernel's formula. -/
theorem ref_row (i : Fin 4096) (h : Fin 4) (d : Fin 128) : val_main_v114 (F := Ideal) x0 x1 x2 x4 (ix3 i h d) = ((lnGrad eps (half Z i h) (fun j => dRow Z X W i h j * G h j) d : ℝ) : EReal) := by
  unfold val_main_v114 val_main_v113 val_main_v112 val_main_cst_26 val_main_v111 val_main_v110 val_main_cst_25 val_main_v109 val_main_v108 val_main_cst_24 val_main_v107
  pointwise
  simp only [ref_cenGrad R, neg_real, lit_128, sum_real, div_real _ n128, add_real, Fin.sum_univ_one]
  rw [← lnGrad_eq_chain n128 eps_pos]; rfl

/-- gelu's pull-back. -/
theorem ref_pull (i : Fin 4096) (j : Fin 1024) (q : ℝ) (e : val_main_v116 (F := Ideal) x0 x1 x2 x3 x4 x5 (ix2 i j) = (q : EReal)) : val_main_v128 (F := Ideal) x0 x1 x2 x3 x4 x5 (ix2 i j) = ((q * geluD (Z i (wide j)) : ℝ) : EReal) := by
  unfold val_main_v128 val_main_v127 val_main_v6 val_main_v4 val_main_v5 val_main_cst_1 val_main_v126 val_main_v125 val_main_v1 val_main_cst_0 val_main_cst val_main_v124 val_main_v123 val_main_v121 val_main_v17 val_main_v16 val_main_v15 val_main_cst_4 val_main_v14 val_main_v13 val_main_cst_3 val_main_v120 val_main_v117 val_main_v0 val_main_v119 val_main_cst_27 val_main_v122 val_main_cst_28 val_main_v118
  pointwise
  simp only [e, ref_w R, ref_t R, R.z, lit_geluK, lit_8943, lit_200000, quotient_c, lit_three, lit_half, one_real, mul_real, add_real, sub_real]
  rw [← geluD_pull]; rfl

/-- Result 1. -/
theorem ref_dzu (i : Fin 4096) (j : Fin 512) : val_main_v130 (F := Ideal) x0 x1 x2 x3 x4 x5 (ix2 i j)
    = ((rDzu Z (cut X) G B C W (hdR j) (chR i) (rwR i) (clR j) : ℝ) : EReal) := by
  unfold val_main_v130 val_main_v129
  pointwise
  refine (ref_pull R i _ (dC (cut X) (hdR j) (chR i) (rwR i) (clR j) * mixed (tril (W (hdR j))) (zvC Z (hdR j) (chR i)) (G (hdR j)) (B (hdR j)) (C (hdR j)) (rwR i) (clR j)) ?_).trans ?_
  · unfold val_main_v116 val_main_v71 val_main_v70
    pointwise
    rw [← mul_real, ← ref_d R, ← ref_mixed R]
    rfl
  · unfold rDzu dzu zuC
    rw [row_chunk, show wide ⟨j.val, by omega⟩ = colU (hdR j) (clR j) from Fin.ext (by simp only [wide, colU, hdR, clR]; omega)]

/-- Result 2. -/
theorem ref_dzv (i : Fin 4096) (j : Fin 512) : val_main_v132 (F := Ideal) x0 x1 x2 x3 x4 x5 (ix2 i j)
    = ((rDzv Z (cut X) G W (hdR j) (chR i) (rwR i) (clR j) : ℝ) : EReal) := by
  unfold val_main_v132 val_main_v131
  pointwise
  refine (ref_pull R i _ (lnGrad eps (half Z i (hdR j)) (fun k => dRow Z X W i (hdR j) k * G (hdR j) k) (clR j)) ?_).trans ?_
  · unfold val_main_v116 val_main_v115
    pointwise
    rw [← ref_row R]
    rfl
  · unfold rDzv dzv
    rw [act_half]
    unfold zvC
    rw [row_chunk, show wide ⟨512 + j.val, by omega⟩ = colV (hdR j) (clR j) from Fin.ext (by simp only [wide, colV, hdR, clR]; omega)]
    rfl

/-- Result 3. -/
theorem ref_scale (h : Fin 4) (d : Fin 128) : val_main_v133 (F := Ideal) x0 x1 x4 (ix3 h 0 d) = ((∑ n, rScale Z (cut X) W h n d : ℝ) : EReal) := by
  unfold val_main_v133 val_main_v92 val_main_v89 val_main_v88 val_main_cst_19 val_main_cst_20 val_main_v87
  pointwise
  simp only [ref_xhat R, ref_dlin R, mul_real, sum_real, Fin.sum_univ_one]
  rw [sum_rows]
  unfold rScale dScale
  refine congrArg ((↑) : ℝ → EReal) (Finset.sum_congr rfl fun n _ => Finset.sum_congr rfl fun r _ => ?_)
  rw [mul_comm, ← act_half, dRow, ch_of, rw_of]

/-- Result 4. -/
theorem ref_shift (h : Fin 4) (d : Fin 128) : val_main_v134 (F := Ideal) x0 x1 x4 (ix3 h 0 d) = ((∑ n, rShift Z (cut X) W h n d : ℝ) : EReal) := by
  unfold val_main_v134 val_main_v86 val_main_v85 val_main_v84 val_main_cst_17 val_main_cst_18
  pointwise
  simp only [ref_dlin R, sum_real, Fin.sum_univ_one]
  rw [sum_rows]
  unfold rShift dShift
  refine congrArg ((↑) : ℝ → EReal) (Finset.sum_congr rfl fun n _ => Finset.sum_congr rfl fun r _ => ?_)
  rw [dRow, ch_of, rw_of]

/-- Result 5. -/
theorem ref_mixer (h : Fin 4) (t s : Fin 128) : val_main_v82 (F := Ideal) x0 x1 x2 x3 (ix3 h t s) = ((gMixer Z (cut X) G B h t s : ℝ) : EReal) := by
  unfold val_main_v82 val_main_v79 val_main_v78 val_main_call2_v0 val_main_call2_cst val_main_v55_1 val_main_v54 val_main_v53 val_main_call0_v5 val_main_call0_c_0 val_main_call0_v4 val_main_call0_v3 val_main_call0_v2 val_main_call0_v1 val_main_call0_v0 val_main_call0_c val_main_v52 val_main_c
  pointwise
  simp only [ref_dmix R, ref_vln R, mul_real, sum_real]
  rw [show IntOp.addi (BitVec.ofNat 32 t.val) 0#32 = BitVec.ofNat 32 t.val from BitVec.add_zero _, cmpi_sge_ofNat (by omega) (by omega), select_decide, gMixer]
  by_cases q : s.val ≤ t.val
  · rw [if_pos q, if_pos q, select_one]; rfl
  · rw [if_neg q, if_neg q, select_zero]; rfl

/-- Result 6. -/
theorem ref_bias (h : Fin 4) (t : Fin 128) : val_main_v135 (F := Ideal) x0 x1 (ix3 h t 0) = ((gBias Z (cut X) h t : ℝ) : EReal) := by
  unfold val_main_v135 val_main_v77 val_main_v76 val_main_v75 val_main_v74 val_main_v73 val_main_v72 val_main_cst_14 val_main_cst_15 val_main_cst_16
  pointwise
  rw [Fin.sum_univ_one, sum_outer]
  pointwise
  rw [Fin.sum_univ_one, Fin.sum_univ_one, sum_outer]
  simp only [ref_dmix R, sum_real, zero_add]
  rw [Finset.sum_comm]; rfl
end
end Cert.Proof.Sgu
end
-- ==== Proof.SguClaims.lean ====
/- The spatial gating unit's gradient (`_sgu_bwd`): through the gate, the mixing over time, the heads' layer norm and
   gelu, with the gradients in the norm's scale and shift and in the mixing matrix and its bias summed over the chunks. -/
module

public import proofs.«01_k».proof.Defs
public import proofs.«01_k».proof.Proof.Lib.Finite
public import proofs.«01_k».proof.Proof.SguResults
public import proofs.«01_k».proof.Proof.SguRef
public import proofs.«01_k».proof.Proof.Gen.SguKernel.Frame
public import proofs.«01_k».proof.Proof.Gen.SguKernelIdeal.Value
public import proofs.«01_k».proof.Proof.Gen.SguReferenceIdeal.Run
public import proofs.«01_k».proof.Proof.Gen.Pre_sgu_finite

@[expose] public section

set_option maxRecDepth 16384

noncomputable section

namespace Cert.Proof.Sgu

section
open Idealize.ShloMosaic Idealize.ShloMosaic.TcCoe Idealize.SL.Sem Cert.SguKernelIdeal Cert.SguKernelIdeal.Gen
variable {m : (ℓ : Loc nD τ sig) → Buf (Elt Ideal) ℓ} {c : Dev nD}

/-- The host-prepared operands. -/
theorem host_d (i : Fin 4096) (k : Fin 512) : V m c main_v0 (ix2 i k) = m ((c : Thread nD τ).loc main_arg1) (ix2 i ⟨k.val, by omega⟩) := by
  entry_read; pointwise
theorem host_g (h : Fin 4) (k : Fin 128) : V m c main_v1 (ix3 h 0 k) = m ((c : Thread nD τ).loc main_arg2) (ix2 h k) := by
  entry_read; pointwise
theorem host_b (h : Fin 4) (k : Fin 128) : V m c main_v2 (ix3 h 0 k) = m ((c : Thread nD τ).loc main_arg3) (ix2 h k) := by
  entry_read; pointwise
theorem host_c (h : Fin 4) (t : Fin 128) : V m c main_v3 (ix3 h t 0) = m ((c : Thread nD τ).loc main_arg5) (ix2 h t) := by
  entry_read; pointwise
end

end Cert.Proof.Sgu

namespace Cert.Proof.SguClaims

open Idealize.ShloMosaic Idealize.ShloMosaic.TcCoe Idealize.SL.Sem Cert.Step Cert.Proof.Sgu

/-- The kernel's frame. -/
theorem frame_kernel : Cert.quiescent_SguKernel := fun m ρ _ => Cert.SguKernel.Gen.frame m ρ
/-- The idealized kernel's frame. -/
theorem frame_ideal : Cert.quiescent_SguKernelIdeal := fun m ρ _ => Cert.SguKernelIdeal.Gen.frame m ρ
/-- The reference's frame: its run leaves the arguments alone, and it has no semaphore. -/
theorem frame_reference : Cert.quiescent_SguReferenceIdeal := fun m ρ _ =>
  (θ_run Cert.SguReferenceIdeal.defs _ _).mono
    (fun r h => ⟨fun c => (h c).2.2.2.2.2.2, sem_eq_zero_of_no_sems (by decide) r.2⟩)
    (Cert.SguReferenceIdeal.Value.run (F := Ideal) m ρ)
/-- The ideal pass named gelu's cubic factor and its triple, each time it is written. -/
theorem preserves : Cert.preserves_SguKernel_SguKernelIdeal :=
  ⟨IdealRules.named_const.statement _ _ _ _ _ rfl, IdealRules.named_const.statement _ _ _ _ _ rfl⟩

/-- The precondition: every argument's entries are real numbers. -/
theorem args_real {a0 a1 a2 a3 a4 a5}
    (h : Cert.Pre_sgu_finite.fn (F := Ideal) a0 a1 a2 a3 a4 a5 = fun _ => 1#1) :
    AllReal a0 ∧ AllReal a1 ∧ AllReal a2 ∧ AllReal a3 ∧ AllReal a4 ∧ AllReal a5 := by
  have e := congrFun h (show Cert.Pre_sgu_finite.S_.Idx from fun k => k.elim0)
  obtain ⟨e, h5⟩ := and_one e
  obtain ⟨e, h4⟩ := and_one e
  obtain ⟨e, h3⟩ := and_one e
  obtain ⟨e, h2⟩ := and_one e
  obtain ⟨h0, h1⟩ := and_one e
  exact ⟨finite_of_test _ _ inf_f32 _ _ _ _ h0, finite_of_test _ _ inf_bf16 _ _ _ _ h1, finite_of_test _ _ inf_f32 _ _ _ _ h2,
    finite_of_test _ _ inf_f32 _ _ _ _ h3, finite_of_test _ _ inf_f32 _ _ _ _ h4, finite_of_test _ _ inf_f32 _ _ _ _ h5⟩

set_option maxHeartbeats 2000000 in  -- six results, each a long host term
/-- Both programs end with the same six arrays. -/
theorem algebraic : Cert.algebraic_SguKernelIdeal_SguReferenceIdeal := by
  intro m ρ m' ρ' hp hag
  refine ⟨fun c => _, fun c => _, fun c => _, fun c => _, fun c => _, fun c => _, Cert.SguKernelIdeal.Value.run_blocks (F := Ideal) m ρ, ?_⟩
  refine (θ_run Cert.SguReferenceIdeal.defs _ _).mono
    (fun _ h c => ?_) (Cert.SguReferenceIdeal.Value.run (F := Ideal) m' ρ')
  obtain ⟨h0, h1, h2, h3, h4, h5⟩ := args_real (hp c)
  obtain ⟨Z, hZ⟩ := lift_real h0
  obtain ⟨X, hX⟩ := lift_real h1
  obtain ⟨G, hG⟩ := lift_real h2
  obtain ⟨B, hB⟩ := lift_real h3
  obtain ⟨W, hW⟩ := lift_real h4
  obtain ⟨C, hC⟩ := lift_real h5
  have H : Reals m c (fun i j => Z (ix2 i j)) (cut fun i j => X (ix2 i j)) (fun h k => G (ix2 h k)) (fun h k => B (ix2 h k))
      (fun h k => C (ix2 h k)) (fun h t s => W (ix3 h t s)) :=
    ⟨fun i j => congrFun hZ _, fun i j => (host_d i j).trans (congrFun hX _), fun h k => (host_g h k).trans (congrFun hG _),
      fun h k => (host_b h k).trans (congrFun hB _), fun h t s => congrFun hW _, fun h k => (host_c h k).trans (congrFun hC _)⟩
  obtain ⟨a0, a1, a2, a3, a4, a5⟩ := hag c
  have R : RefReal _ _ _ _ _ _ (fun i j => Z (ix2 i j)) (fun i j => X (ix2 i j)) (fun h k => G (ix2 h k)) (fun h k => B (ix2 h k))
      (fun h k => C (ix2 h k)) (fun h t s => W (ix3 h t s)) :=
    ⟨fun i j => congrFun hZ _, fun i j => congrFun hX _, fun h k => congrFun hG _, fun h k => congrFun hB _, fun h t s => congrFun hW _,
      fun h k => congrFun hC _⟩
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩
  · refine ((Cert.SguReferenceIdeal.Read.val_main_v130_eq (StableHlo.launchContents m' c)).trans ?_).trans (arr7 H).symm
    dsimp only [StableHlo.launchContents]
    rw [a0, a1, a2, a3, a4, a5]
    funext y; idx_vars y; exact ref_dzu R y0 y1
  · refine ((Cert.SguReferenceIdeal.Read.val_main_v132_eq (StableHlo.launchContents m' c)).trans ?_).trans (arr8 H).symm
    dsimp only [StableHlo.launchContents]
    rw [a0, a1, a2, a3, a4, a5]
    funext y; idx_vars y; exact ref_dzv R y0 y1
  · refine ((Cert.SguReferenceIdeal.Read.val_main_v133_eq (StableHlo.launchContents m' c)).trans ?_).trans (arr9 H).symm
    dsimp only [StableHlo.launchContents]
    rw [a0, a1, a4]
    funext y; idx_vars y
    obtain rfl : y1 = 0 := Subsingleton.elim _ _
    exact ref_scale R y0 y2
  · refine ((Cert.SguReferenceIdeal.Read.val_main_v134_eq (StableHlo.launchContents m' c)).trans ?_).trans (arr10 H).symm
    dsimp only [StableHlo.launchContents]
    rw [a0, a1, a4]
    funext y; idx_vars y
    obtain rfl : y1 = 0 := Subsingleton.elim _ _
    exact ref_shift R y0 y2
  · refine ((Cert.SguReferenceIdeal.Read.val_main_v82_eq (StableHlo.launchContents m' c)).trans ?_).trans (arr11 H).symm
    dsimp only [StableHlo.launchContents]
    rw [a0, a1, a2, a3]
    funext y; idx_vars y; exact ref_mixer R y0 y1 y2
  · refine ((Cert.SguReferenceIdeal.Read.val_main_v135_eq (StableHlo.launchContents m' c)).trans ?_).trans (arr12 H).symm
    dsimp only [StableHlo.launchContents]
    rw [a0, a1]
    funext y; idx_vars y
    obtain rfl : y2 = 0 := Subsingleton.elim _ _
    exact ref_bias R y0 y1

end Cert.Proof.SguClaims

end
-- ==== Proof.SwigluArrays.lean ====
/- What the down projection's input-gradient kernel leaves in its three result arrays, over real operand rows: the
   product's gradient, met by the SwiGLU gate's gradient and by the activation. -/
module

public import proofs.«01_k».proof.Proof.Lib.LnIdeal
public import proofs.«01_k».proof.Proof.Lib.Bands
public import proofs.«01_k».proof.Proof.Gen.SwigluKernelIdeal.Value
public import Idealize.ShloMosaic.Lib.Pipeline.ValueKit

@[expose] public section

set_option maxRecDepth 16384

noncomputable section

namespace Cert.Proof.Swiglu

open Idealize.ShloMosaic Idealize.ShloMosaic.TcCoe Idealize.SL.Sem Cert.SwigluKernelIdeal Cert.SwigluKernelIdeal.Gen Cert.Step

variable {m : (ℓ : Loc nD τ sig) → Buf (Elt Ideal) ℓ} {c : Dev nD}

/-- The gate's gradients and the activation, of the activation's cotangent `a`, the gate `g` and the other factor `u`. -/
def dGate (a g u : ℝ) : ℝ := a * u * sg g * (1 + g * (1 - sg g))
def dUp (a g : ℝ) : ℝ := a * g * sg g
def act (g u : ℝ) : ℝ := g * sg g * u

/-- A half's column in the whole contraction. -/
def lo (k : Fin 1024) : Fin 2048 := ⟨k.val, by omega⟩
def hi (k : Fin 1024) : Fin 2048 := ⟨1024 + k.val, by omega⟩

/-- The activation's cotangent: the contraction's two halves added. -/
def dAct (D : Fin 4096 → Fin 2048 → ℝ) (W : Fin 5632 → Fin 2048 → ℝ) (i : Fin 4096) (f : Fin 5632) : ℝ :=
  (∑ k, D i (lo k) * W f (lo k)) + ∑ k, D i (hi k) * W f (hi k)

/-- A block's row and column in the arrays, the quarter of the weights a point takes. -/
def rowAt (t : Fin cfg0.N) (r : Fin 512) : Fin 4096 := ⟨t.val / 4 * 512 + r.val, by have := lt_of_lt_of_eq t.isLt N_0; omega⟩
def colAt (t : Fin cfg0.N) (q : Fin 1408) : Fin 5632 := ⟨t.val % 4 * 1408 + q.val, by omega⟩
def wL (t : Fin cfg0.N) : Fin 8 := ⟨2 * (t.val % 4), by omega⟩
def wR (t : Fin cfg0.N) : Fin 8 := ⟨2 * (t.val % 4) + 1, by omega⟩

theorem idx : ∀ t : Fin cfg0.N, win0_0.index t = ![t.val / 4, 0] ∧ win0_1.index t = ![2 * (t.val % 4), 0, 0]
    ∧ win0_2.index t = ![2 * (t.val % 4) + 1, 0, 0] ∧ win0_3.index t = ![t.val / 4, t.val % 4] ∧ win0_4.index t = ![t.val / 4, t.val % 4]
    ∧ win0_5.index t = ![t.val / 4, t.val % 4] ∧ win0_6.index t = ![t.val / 4, t.val % 4] ∧ win0_7.index t = ![t.val / 4, t.val % 4] :=
  (by decide +kernel : ∀ t : Fin grid0.N, _)

theorem read0 (t : Fin cfg0.N) (r : Fin 512) (k : Fin 2048) : iblk m c 0 t (ix2 r k) = V m c main_arg0 (ix2 (rowAt t r) k) := by
  blk_point [iblk, rowAt, idx t]
theorem read1 (t : Fin cfg0.N) (q : Fin 1408) (k : Fin 1024) : iblk m c 1 t (ix3 0 q k) = V m c main_v3 (ix3 (wL t) q k) := by
  blk_point [iblk, wL, idx t]
theorem read2 (t : Fin cfg0.N) (q : Fin 1408) (k : Fin 1024) : iblk m c 2 t (ix3 0 q k) = V m c main_v3 (ix3 (wR t) q k) := by
  blk_point [iblk, wR, idx t]
theorem read3 (t : Fin cfg0.N) (r : Fin 512) (q : Fin 1408) : iblk m c 3 t (ix2 r q) = V m c main_arg2 (ix2 (rowAt t r) (colAt t q)) := by
  blk_point [iblk, rowAt, colAt, idx t]
theorem read4 (t : Fin cfg0.N) (r : Fin 512) (q : Fin 1408) : iblk m c 4 t (ix2 r q) = V m c main_arg3 (ix2 (rowAt t r) (colAt t q)) := by
  blk_point [iblk, rowAt, colAt, idx t]

/-- The operand arrays are real: the cotangent, the gathered weights, the gate and the other factor. -/
structure Reals (m : (ℓ : Loc nD τ sig) → Buf (Elt Ideal) ℓ) (c : Dev nD) (D : Fin 4096 → Fin 2048 → ℝ) (W : Fin 5632 → Fin 2048 → ℝ)
    (G U : Fin 4096 → Fin 5632 → ℝ) : Prop where
  d : ∀ i k, V m c main_arg0 (ix2 i k) = ((D i k : ℝ) : EReal)
  wl : ∀ t q k, V m c main_v3 (ix3 (wL t) q k) = ((W (colAt t q) (lo k) : ℝ) : EReal)
  wr : ∀ t q k, V m c main_v3 (ix3 (wR t) q k) = ((W (colAt t q) (hi k) : ℝ) : EReal)
  g : ∀ i f, V m c main_arg2 (ix2 i f) = ((G i f : ℝ) : EReal)
  u : ∀ i f, V m c main_arg3 (ix2 i f) = ((U i f : ℝ) : EReal)

variable {D : Fin 4096 → Fin 2048 → ℝ} {W : Fin 5632 → Fin 2048 → ℝ} {G U : Fin 4096 → Fin 5632 → ℝ}

section
variable (H : Reals m c D W G U)
include H

/-- What a point leaves in the three results' tiles. -/
theorem out5 (t : Fin cfg0.N) (y : S512x1408.Idx) : (outsAt0 m c t).1 y = ((dGate (dAct D W (rowAt t (y 0)) (colAt t (y 1))) (G (rowAt t (y 0)) (colAt t (y 1))) (U (rowAt t (y 0)) (colAt t (y 1))) : ℝ) : EReal) := by
  unfold outsAt0
  frame_out
  canon_tiles x h using View.cover_of_tiledBy (s := S512x1408) _ ![512, 128] (by sl_kernel_rfl) _
  all_goals
    idx_vars x
    idx_vars y
    obtain rfl : y0 = x0 := Fin.ext h0
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
    pointwise
    obtain ⟨y1, hy⟩ := y1
    dsimp only at h1
    subst h1
    simp only [read0, read1, read2, read3, read4, H.d, H.wl, H.wr, H.g, H.u, sigmoid_real, lit_one, one_real, mul_real, sum_real, add_real, sub_real]
    rfl
theorem out6 (t : Fin cfg0.N) (y : S512x1408.Idx) : (outsAt0 m c t).2.1 y = ((dUp (dAct D W (rowAt t (y 0)) (colAt t (y 1))) (G (rowAt t (y 0)) (colAt t (y 1))) : ℝ) : EReal) := by
  unfold outsAt0
  frame_out
  canon_tiles x h using View.cover_of_tiledBy (s := S512x1408) _ ![512, 128] (by sl_kernel_rfl) _
  all_goals
    idx_vars x
    idx_vars y
    obtain rfl : y0 = x0 := Fin.ext h0
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
    pointwise
    obtain ⟨y1, hy⟩ := y1
    dsimp only at h1
    subst h1
    simp only [read0, read1, read2, read3, H.d, H.wl, H.wr, H.g, sigmoid_real, mul_real, sum_real, add_real]
    rfl
theorem out7 (t : Fin cfg0.N) (y : S512x1408.Idx) : (outsAt0 m c t).2.2 y = ((act (G (rowAt t (y 0)) (colAt t (y 1))) (U (rowAt t (y 0)) (colAt t (y 1))) : ℝ) : EReal) := by
  unfold outsAt0
  frame_out
  canon_tiles x h using View.cover_of_tiledBy (s := S512x1408) _ ![512, 128] (by sl_kernel_rfl) _
  all_goals
    idx_vars x
    idx_vars y
    obtain rfl : y0 = x0 := Fin.ext h0
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
    pointwise
    obtain ⟨y1, hy⟩ := y1
    dsimp only at h1
    subst h1
    simp only [read3, read4, H.g, H.u, sigmoid_real, mul_real]
    rfl

/-- The three results: the gate's two gradients and the activation. -/
theorem arr5 : (dats m 0 c).arrAt 5 cfg0.N = fun y : S4096x5632.Idx => ((dGate (dAct D W (y 0) (y 1)) (G (y 0) (y 1)) (U (y 0) (y 1)) : ℝ) : EReal) := by
  refine (dats m 0 c).arrAt_eq_of_covers 5 _ (by decide +kernel) fun t hf y => ?_
  blk_simp
  have e : ∀ y : S512x1408.Idx, ((View.whole main_v4_0).slice (win0_5.rect t)).emb y = ix2 (rowAt t (y 0)) (colAt t (y 1)) := fun y => by
    blk_ext [rowAt, colAt, idx t]
  rw [after0_5, e y]
  exact out5 H t y
theorem arr6 : (dats m 0 c).arrAt 6 cfg0.N = fun y : S4096x5632.Idx => ((dUp (dAct D W (y 0) (y 1)) (G (y 0) (y 1)) : ℝ) : EReal) := by
  refine (dats m 0 c).arrAt_eq_of_covers 6 _ (by decide +kernel) fun t hf y => ?_
  blk_simp
  have e : ∀ y : S512x1408.Idx, ((View.whole main_v4_1).slice (win0_6.rect t)).emb y = ix2 (rowAt t (y 0)) (colAt t (y 1)) := fun y => by
    blk_ext [rowAt, colAt, idx t]
  rw [after0_6, e y]
  exact out6 H t y
theorem arr7 : (dats m 0 c).arrAt 7 cfg0.N = fun y : S4096x5632.Idx => ((act (G (y 0) (y 1)) (U (y 0) (y 1)) : ℝ) : EReal) := by
  refine (dats m 0 c).arrAt_eq_of_covers 7 _ (by decide +kernel) fun t hf y => ?_
  blk_simp
  have e : ∀ y : S512x1408.Idx, ((View.whole main_v4_2).slice (win0_7.rect t)).emb y = ix2 (rowAt t (y 0)) (colAt t (y 1)) := fun y => by
    blk_ext [rowAt, colAt, idx t]
  rw [after0_7, e y]
  exact out7 H t y

end

end Cert.Proof.Swiglu

end
-- ==== Proof.SwigluRef.lean ====
/- What the reference of the SwiGLU gate's gradient computes at one entry, over real arguments, and the operand the kernel
   program gathers on the host. -/
module

public import proofs.«01_k».proof.Proof.SwigluArrays
public import proofs.«01_k».proof.Proof.Gen.SwigluReferenceIdeal.Read
public import Idealize.ShloMosaic.Lib.StableHlo.RunRead

@[expose] public section

set_option maxRecDepth 16384

noncomputable section

namespace Cert.Proof.Swiglu

open Idealize.ShloMosaic Idealize.ShloMosaic.TcCoe Idealize.SL.Sem Cert.Step

section
open Cert.SwigluReferenceIdeal Cert.SwigluReferenceIdeal.Read

variable {x0 : (⟨S4096x2048, .bf16⟩ : BufTy).Contents (Elt Ideal)} {x1 : (⟨S5632x2048, .f32⟩ : BufTy).Contents (Elt Ideal)}
variable {x2 x3 : (⟨S4096x5632, .bf16⟩ : BufTy).Contents (Elt Ideal)}
variable {D : Fin 4096 → Fin 2048 → ℝ} {W : Fin 5632 → Fin 2048 → ℝ} {G U : Fin 4096 → Fin 5632 → ℝ}
variable (hd : ∀ i k, x0 (ix2 i k) = ((D i k : ℝ) : EReal)) (hw : ∀ f k, x1 (ix2 f k) = ((W f k : ℝ) : EReal))
variable (hg : ∀ i f, x2 (ix2 i f) = ((G i f : ℝ) : EReal)) (hu : ∀ i f, x3 (ix2 i f) = ((U i f : ℝ) : EReal))

/-- The contraction over all columns is the sum of its halves. -/
theorem halves (f : Fin 2048 → ℝ) : ∑ k, f k = (∑ k, f (lo k)) + ∑ k, f (hi k) := by
  rw [← sum_bands (N := 2) (B := 1024) (by norm_num) f, Fin.sum_univ_two]
  congr 1

include hd hw in
/-- The activation's cotangent. -/
theorem ref_dAct (i : Fin 4096) (f : Fin 5632) : val_main_v8 (F := Ideal) x0 x1 (ix2 i f) = ((dAct D W i f : ℝ) : EReal) := by
  unfold val_main_v8 val_main_v7 val_main_v6 val_main_v5 val_main_cst
  pointwise
  simp only [hd, hw, mul_real, sum_real, zero_add]
  exact congrArg ((↑) : ℝ → EReal) (halves fun k => D i k * W f k)

include hg in
/-- The gate's sigmoid. -/
theorem ref_sg (i : Fin 4096) (f : Fin 5632) : val_main_v2_2 (F := Ideal) x2 (ix2 i f) = ((sg (G i f) : ℝ) : EReal) := by
  unfold val_main_v2_2 val_main_call0_v4 val_main_call0_v3 val_main_call0_v2 val_main_call0_v1 val_main_call0_v0 val_main_v0 val_main_call0_cst_0
    val_main_call0_cst
  pointwise
  rw [hg, quotient_real]

include hd hw hg hu in
/-- The gate's gradient. -/
theorem ref_gate (i : Fin 4096) (f : Fin 5632) : val_main_v12 (F := Ideal) x0 x1 x2 x3 (ix2 i f) = ((dGate (dAct D W i f) (G i f) (U i f) : ℝ) : EReal) := by
  unfold val_main_v12 val_main_v11 val_main_call1_v2 val_main_call1_v1 val_main_call1_v0 val_main_v10 val_main_v2_1 val_main_call0_v7 val_main_call0_v6
    val_main_call0_cst_1 val_main_v1 val_main_v0
  pointwise
  simp only [ref_dAct hd hw, ref_sg hg, hg, hu, one_real, mul_real, sub_real, add_real]
  refine congrArg ((↑) : ℝ → EReal) ?_
  rw [dGate]; ring

include hd hw hg in
/-- The other factor's gradient. -/
theorem ref_up (i : Fin 4096) (f : Fin 5632) : val_main_v13 (F := Ideal) x0 x1 x2 (ix2 i f) = ((dUp (dAct D W i f) (G i f) : ℝ) : EReal) := by
  unfold val_main_v13 val_main_v9 val_main_v2_0 val_main_v0
  pointwise
  simp only [ref_dAct hd hw, ref_sg hg, hg, mul_real]
  refine congrArg ((↑) : ℝ → EReal) ?_
  rw [dUp]; ring

include hg hu in
/-- The activation. -/
theorem ref_act (i : Fin 4096) (f : Fin 5632) : val_main_v14 (F := Ideal) x2 x3 (ix2 i f) = ((act (G i f) (U i f) : ℝ) : EReal) := by
  unfold val_main_v14 val_main_v3 val_main_v2_0 val_main_v1 val_main_v0
  pointwise
  simp only [ref_sg hg, hg, hu, mul_real]
  rfl

end

open Cert.SwigluKernelIdeal Cert.SwigluKernelIdeal.Gen

variable {m : (ℓ : Loc nD τ sig) → Buf (Elt Ideal) ℓ} {c : Dev nD}

/-- The weights as the kernel program cuts them: quarter by quarter of their rows, half by half of their columns. -/
theorem host_wl (t : Fin cfg0.N) (q : Fin 1408) (k : Fin 1024) :
    V m c main_v3 (ix3 (wL t) q k) = m ((c : Thread nD τ).loc main_arg1) (ix2 (colAt t q) (lo k)) := by
  entry_read
  pointwise
  refine congrArg _ (congrArg₂ ix2 (Fin.ext ?_) (Fin.ext ?_)) <;> simp only [wL, colAt, lo] <;> omega
theorem host_wr (t : Fin cfg0.N) (q : Fin 1408) (k : Fin 1024) :
    V m c main_v3 (ix3 (wR t) q k) = m ((c : Thread nD τ).loc main_arg1) (ix2 (colAt t q) (hi k)) := by
  entry_read
  pointwise
  refine congrArg _ (congrArg₂ ix2 (Fin.ext ?_) (Fin.ext ?_)) <;> simp only [wR, colAt, hi] <;> omega

end Cert.Proof.Swiglu

end
-- ==== Proof.SwigluClaims.lean ====
/- The down projection's input gradient fused with the SwiGLU gate's (`_swiglu_bwd`): the gate's two gradients and the
   activation. -/
module

public import proofs.«01_k».proof.Defs
public import proofs.«01_k».proof.Proof.SwigluRef
public import proofs.«01_k».proof.Proof.Lib.Finite
public import proofs.«01_k».proof.Proof.Gen.SwigluKernel.Frame
public import proofs.«01_k».proof.Proof.Gen.SwigluReferenceIdeal.Run
public import proofs.«01_k».proof.Proof.Gen.Pre_swiglu_finite

@[expose] public section

set_option maxRecDepth 16384

noncomputable section

namespace Cert.Proof.SwigluClaims

open Idealize.ShloMosaic Idealize.ShloMosaic.TcCoe Idealize.SL.Sem Cert.Step Cert.Proof.Swiglu

/-- The kernel's frame. -/
theorem frame_kernel : Cert.quiescent_SwigluKernel := fun m ρ _ => Cert.SwigluKernel.Gen.frame m ρ
/-- The idealized kernel's frame. -/
theorem frame_ideal : Cert.quiescent_SwigluKernelIdeal := fun m ρ _ => Cert.SwigluKernelIdeal.Gen.frame m ρ
/-- The reference's frame: its run leaves the arguments alone, and it has no semaphore. -/
theorem frame_reference : Cert.quiescent_SwigluReferenceIdeal := fun m ρ _ =>
  (θ_run Cert.SwigluReferenceIdeal.defs _ _).mono
    (fun r h => ⟨fun c => (h c).2.2.2, sem_eq_zero_of_no_sems (by decide) r.2⟩)
    (Cert.SwigluReferenceIdeal.Value.run (F := Ideal) m ρ)
/-- The ideal pass rewrote nothing. -/
theorem preserves : Cert.preserves_SwigluKernel_SwigluKernelIdeal := trivial

/-- The precondition: every argument's entries are real numbers. -/
theorem args_real {a0 a1 a2 a3} (h : Cert.Pre_swiglu_finite.fn (F := Ideal) a0 a1 a2 a3 = fun _ => 1#1) :
    AllReal a0 ∧ AllReal a1 ∧ AllReal a2 ∧ AllReal a3 := by
  have e := congrFun h (show Cert.Pre_swiglu_finite.S_.Idx from fun k => k.elim0)
  obtain ⟨e, h3⟩ := and_one e
  obtain ⟨e, h2⟩ := and_one e
  obtain ⟨h0, h1⟩ := and_one e
  exact ⟨finite_of_test _ _ inf_bf16 _ _ _ _ h0, finite_of_test _ _ inf_f32 _ _ _ _ h1, finite_of_test _ _ inf_bf16 _ _ _ _ h2,
    finite_of_test _ _ inf_bf16 _ _ _ _ h3⟩

set_option maxHeartbeats 2000000 in  -- three results of large arrays
/-- Both programs end with the same three arrays. -/
theorem algebraic : Cert.algebraic_SwigluKernelIdeal_SwigluReferenceIdeal := by
  intro m ρ m' ρ' hp hag
  refine ⟨fun c => _, fun c => _, fun c => _, Cert.SwigluKernelIdeal.Value.run_blocks (F := Ideal) m ρ, ?_⟩
  refine (θ_run Cert.SwigluReferenceIdeal.defs _ _).mono
    (fun _ h c => ?_) (Cert.SwigluReferenceIdeal.Value.run (F := Ideal) m' ρ')
  obtain ⟨h0, h1, h2, h3⟩ := args_real (hp c)
  obtain ⟨D, hD⟩ := lift_real h0
  obtain ⟨W, hW⟩ := lift_real h1
  obtain ⟨G, hG⟩ := lift_real h2
  obtain ⟨U, hU⟩ := lift_real h3
  have H : Reals m c (fun i k => D (ix2 i k)) (fun f k => W (ix2 f k)) (fun i f => G (ix2 i f)) (fun i f => U (ix2 i f)) :=
    ⟨fun i k => congrFun hD _, fun t q k => (host_wl t q k).trans (congrFun hW _), fun t q k => (host_wr t q k).trans (congrFun hW _),
      fun i f => congrFun hG _, fun i f => congrFun hU _⟩
  obtain ⟨a0, a1, a2, a3⟩ := hag c
  refine ⟨(h c).1.trans ?_, (h c).2.1.trans ?_, (h c).2.2.1.trans ?_, (h c).2.2.2⟩
  · refine ((Cert.SwigluReferenceIdeal.Read.val_main_v12_eq _ _ _ _).trans ?_).trans (arr5 H).symm
    rw [a0, a1, a2, a3]
    funext y
    idx_vars y
    exact ref_gate (fun i k => congrFun hD _) (fun f k => congrFun hW _) (fun i f => congrFun hG _) (fun i f => congrFun hU _) y0 y1
  · refine ((Cert.SwigluReferenceIdeal.Read.val_main_v13_eq _ _ _).trans ?_).trans (arr6 H).symm
    rw [a0, a1, a2]
    funext y
    idx_vars y
    exact ref_up (fun i k => congrFun hD _) (fun f k => congrFun hW _) (fun i f => congrFun hG _) y0 y1
  · refine ((Cert.SwigluReferenceIdeal.Read.val_main_v14_eq _ _).trans ?_).trans (arr7 H).symm
    rw [a2, a3]
    funext y
    idx_vars y
    exact ref_act (fun i f => congrFun hG _) (fun i f => congrFun hU _) y0 y1

end Cert.Proof.SwigluClaims

end
-- ==== Proof.Lib.RmsNorm.lean ====
/- The root-mean-square norm's gradient over real rows: the formula the kernels apply, and the one the chain rule gives. -/
module

public import proofs.«01_k».proof.Proof.Lib.LnIdeal

@[expose] public section

noncomputable section

namespace Cert.Step

open Idealize.ShloMosaic

variable {n : ℕ}

/-- The mean square of a row, the programs' literal added. -/
def msq (x : Fin n → ℝ) : ℝ := (mean fun j => x j * x j) + eps
/-- Its reciprocal root. -/
def rr (x : Fin n → ℝ) : ℝ := (Real.sqrt (msq x))⁻¹

/-- The kernels' gradient of the row, of a cotangent `e` of the normalised row. -/
def rmsGrad (x e : Fin n → ℝ) (k : Fin n) : ℝ :=
  rr x * e k - x k * (rr x * rr x * rr x) * ((∑ j, e j * x j) * (1 / (n : ℝ)))

/-- The chain rule's factor through the mean square: what each entry receives, once per factor of its square. -/
def viaMsq (x e : Fin n → ℝ) : ℝ := (∑ j, x j * e j) * (-(1 / 2) * (rr x / msq x)) / (n : ℝ)
/-- The chain rule's gradient of the row. -/
def rmsGradChain (x e : Fin n → ℝ) (k : Fin n) : ℝ := e k * rr x + x k * viaMsq x e + viaMsq x e * x k

theorem msq_pos (x : Fin n → ℝ) : 0 < msq x :=
  add_pos_of_nonneg_of_pos (div_nonneg (Finset.sum_nonneg fun j _ => mul_self_nonneg _) (Nat.cast_nonneg n)) eps_pos

/-- The square of the reciprocal root. -/
theorem rr_sq (x : Fin n → ℝ) : rr x * rr x = 1 / msq x := by
  rw [rr, ← mul_inv, Real.mul_self_sqrt (msq_pos x).le, one_div]

/-- The two formulas agree. -/
theorem rmsGrad_eq_chain (x e : Fin n → ℝ) (k : Fin n) : rmsGradChain x e k = rmsGrad x e k := by
  have hr : rr x / msq x = rr x * (rr x * rr x) := by rw [rr_sq]; ring
  have hs : ∑ j, x j * e j = ∑ j, e j * x j := Finset.sum_congr rfl fun j _ => mul_comm _ _
  rw [rmsGradChain, viaMsq, hr, hs, rmsGrad]
  ring

/-- The reciprocal root of a mean square with the programs' literal added, as extended reals. -/
theorem rr_real (x : Fin n → ℝ) :
    Ideal.rsqrt ((((mean fun j => x j * x j) : ℝ) : EReal) + (eps : EReal)) = ((rr x : ℝ) : EReal) := by
  exact (congrArg Ideal.rsqrt (add_real _ _)).trans (rsqrt_real (msq_pos x))

/-- The literals 2048, its reciprocal and 2. -/
theorem lit_2048 : Ideal.ofBits .f32 0x45000000#32 = (((2048 : ℕ) : ℝ) : EReal) := by
  simp [Ideal.ofBits, Ideal.ieee, -EReal.coe_mul]; norm_num
theorem lit_inv_2048 : Ideal.ofBits .f32 0x3A000000#32 = ((1 / ((2048 : ℕ) : ℝ) : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem n2048 : ((2048 : ℕ) : ℝ) ≠ 0 := by norm_num

end Cert.Step

end
-- ==== Proof.LossArrays.lean ====
/- What the loss kernel leaves in its four result arrays, over real operand rows: the loss summed over the rows, each
   row's gradient through the norm (twice), and the gain's gradient summed over the rows. -/
module

public import proofs.«01_k».proof.Proof.Lib.RmsNorm
public import proofs.«01_k».proof.Proof.Lib.Bands
public import proofs.«01_k».proof.Proof.Gen.LossKernelIdeal.Value
public import Idealize.ShloMosaic.Lib.Pipeline.ValueKit

@[expose] public section

set_option maxRecDepth 16384

noncomputable section

namespace Cert.Proof.Loss

open Idealize.ShloMosaic Idealize.ShloMosaic.TcCoe Idealize.SL.Sem Cert.LossKernelIdeal Cert.LossKernelIdeal.Gen Cert.Step

variable {m : (ℓ : Loc nD τ sig) → Buf (Elt Ideal) ℓ} {c : Dev nD}

/-- A row's error after the norm, and its part of the loss. -/
def err (x g y : Fin 2048 → ℝ) (k : Fin 2048) : ℝ := x k * rr x * g k - y k
def lossRow (x g y : Fin 2048 → ℝ) : ℝ := (∑ k, err x g y k * err x g y k) * (1 / ((2048 : ℕ) : ℝ))
/-- The normalised row's cotangent before the gain, and the gain's. -/
def dErr (x g y : Fin 2048 → ℝ) (k : Fin 2048) : ℝ := err x g y k * (1 / ((2048 : ℕ) : ℝ))
def dxRow (x g y : Fin 2048 → ℝ) : Fin 2048 → ℝ := rmsGrad x fun j => dErr x g y j * g j
def dgRow (x g y : Fin 2048 → ℝ) (k : Fin 2048) : ℝ := dErr x g y k * x k * rr x

/-- Row `r` of the band at point `t`. -/
def rowAt (t : Fin cfg0.N) (r : Fin 256) : Fin 4096 := ⟨t.val * 256 + r.val, by have := lt_of_lt_of_eq t.isLt N_0; omega⟩

theorem idx : ∀ t : Fin cfg0.N, win0_0.index t = ![t.val, 0] ∧ win0_1.index t = ![0, 0] ∧ win0_2.index t = ![t.val, 0]
    ∧ win0_4.index t = ![t.val, 0] ∧ win0_5.index t = ![t.val, 0] :=
  (by decide +kernel : ∀ t : Fin grid0.N, _)

theorem read0 (t : Fin cfg0.N) (r : Fin 256) (k : Fin 2048) : iblk m c 0 t (ix2 r k) = V m c main_arg0 (ix2 (rowAt t r) k) := by
  blk_point [iblk, rowAt, idx t]
theorem read1 (t : Fin cfg0.N) (k : Fin 2048) : iblk m c 1 t (ix2 0 k) = V m c main_v0 (ix2 0 k) := by
  blk_point [iblk, idx t]
theorem read2 (t : Fin cfg0.N) (r : Fin 256) (k : Fin 2048) : iblk m c 2 t (ix2 r k) = V m c main_arg2 (ix2 (rowAt t r) k) := by
  blk_point [iblk, rowAt, idx t]

/-- The operand rows are real: the hidden state's, the gain, the target's. -/
structure RealRows (m : (ℓ : Loc nD τ sig) → Buf (Elt Ideal) ℓ) (c : Dev nD) (x : Fin 4096 → Fin 2048 → ℝ) (g : Fin 2048 → ℝ)
    (y : Fin 4096 → Fin 2048 → ℝ) : Prop where
  x : ∀ i k, V m c main_arg0 (ix2 i k) = ((x i k : ℝ) : EReal)
  g : ∀ k, V m c main_v0 (ix2 0 k) = ((g k : ℝ) : EReal)
  y : ∀ i k, V m c main_arg2 (ix2 i k) = ((y i k : ℝ) : EReal)

variable {x y : Fin 4096 → Fin 2048 → ℝ} {g : Fin 2048 → ℝ}

section
variable (H : RealRows m c x g y)
include H

/-- The operand blocks' rows at point `t`. -/
theorem blk0 (t : Fin cfg0.N) (r : Fin 256) (k : Fin 2048) : iblk m c 0 t (ix2 r k) = ((x (rowAt t r) k : ℝ) : EReal) := (read0 t r k).trans (H.x _ _)
theorem blk1 (t : Fin cfg0.N) (k : Fin 2048) : iblk m c 1 t (ix2 0 k) = ((g k : ℝ) : EReal) := (read1 t k).trans (H.g _)
theorem blk2 (t : Fin cfg0.N) (r : Fin 256) (k : Fin 2048) : iblk m c 2 t (ix2 r k) = ((y (rowAt t r) k : ℝ) : EReal) := (read2 t r k).trans (H.y _ _)

/-- The error. -/
theorem pt8 (t : Fin cfg0.N) (r : Fin 256) (k : Fin 2048) :
    k0_pay8 (F := Ideal) (iblk m c 0 t) (iblk m c 1 t) (iblk m c 2 t) (ix2 r k) = ((err (x (rowAt t r)) g (y (rowAt t r)) k : ℝ) : EReal) := by
  unfold k0_pay8 k0_pay7
  pointwise
  simp only [blk0 H, blk1 H, blk2 H, lit_2048, lit_eps, mul_real, mean_real n2048, rr_real, sub_real]
  rfl
/-- The reciprocal root. -/
theorem pt11 (t : Fin cfg0.N) (r : Fin 256) : k0_pay11 (F := Ideal) (iblk m c 0 t) (ix2 r 0) = ((rr (x (rowAt t r)) : ℝ) : EReal) := by
  unfold k0_pay11
  pointwise
  simp only [blk0 H, lit_2048, lit_eps, mul_real, mean_real n2048, rr_real]
/-- The error's cotangent. -/
theorem pt10 (t : Fin cfg0.N) (r : Fin 256) (k : Fin 2048) :
    k0_pay10 (F := Ideal) (iblk m c 0 t) (iblk m c 1 t) (iblk m c 2 t) (ix2 r k) = ((dErr (x (rowAt t r)) g (y (rowAt t r)) k : ℝ) : EReal) := by
  unfold k0_pay10
  pointwise
  simp only [pt8 H, lit_inv_2048, mul_real]
  rfl
theorem pt12 (t : Fin cfg0.N) (r : Fin 256) (k : Fin 2048) :
    k0_pay12 (F := Ideal) (iblk m c 0 t) (iblk m c 1 t) (iblk m c 2 t) (ix2 r k) = ((dErr (x (rowAt t r)) g (y (rowAt t r)) k * g k : ℝ) : EReal) := by
  unfold k0_pay12 k0_pay7
  pointwise
  simp only [pt10 H, blk1 H, mul_real]
/-- The row's gradient. -/
theorem pt1 (t : Fin cfg0.N) (r : Fin 256) (k : Fin 2048) :
    k0_pay1 (F := Ideal) (iblk m c 0 t) (k0_pay11 (iblk m c 0 t)) (k0_pay12 (iblk m c 0 t) (iblk m c 1 t) (iblk m c 2 t))
      (k0_pay13 (iblk m c 0 t) (iblk m c 1 t) (iblk m c 2 t)) (ix2 r k) = ((dxRow (x (rowAt t r)) g (y (rowAt t r)) k : ℝ) : EReal) := by
  unfold k0_pay1 k0_pay13
  pointwise
  simp only [pt11 H, pt12 H, blk0 H, lit_inv_2048, mul_real, sum_real, sub_real]
  rfl
/-- The accumulators take the block's sums. -/
theorem pt6 (t : Fin cfg0.N) (acc : Vec Ideal S1x1 .f32) :
    k0_pay6 (F := Ideal) (k0_pay9 (iblk m c 0 t) (iblk m c 1 t) (iblk m c 2 t)) acc (ix2 0 0)
      = acc (ix2 0 0) + ((1 / 2 * ∑ r : Fin 256, lossRow (x (rowAt t r)) g (y (rowAt t r)) : ℝ) : EReal) := by
  unfold k0_pay6 k0_pay9
  pointwise
  simp only [pt8 H, lit_inv_2048, lit_half, mul_real, sum_real]
  rfl
theorem pt5 (t : Fin cfg0.N) (acc : Vec Ideal S1x2048 .f32) (k : Fin 2048) :
    k0_pay5 (F := Ideal) (iblk m c 0 t) (k0_pay10 (iblk m c 0 t) (iblk m c 1 t) (iblk m c 2 t)) (k0_pay11 (iblk m c 0 t)) acc (ix2 0 k)
      = acc (ix2 0 k) + ∑ r : Fin 256, ((dgRow (x (rowAt t r)) g (y (rowAt t r)) k : ℝ) : EReal) := by
  unfold k0_pay5
  pointwise
  simp only [pt10 H, pt11 H, blk0 H, mul_real]
  rfl

end

theorem zero3 (j : S1x2048.Idx) : k0_pay3 (F := Ideal) j = 0 := by unfold k0_pay3; pointwise
theorem zero4 (j : S1x1.Idx) : k0_pay4 (F := Ideal) j = 0 := by unfold k0_pay4; pointwise

/-- Block terms, summed over the grid, are the array's rows summed. -/
theorem sum_points (f : Fin 4096 → ℝ) : ∑ p : Fin cfg0.N, ∑ r : Fin 256, ((f (rowAt p r) : ℝ) : EReal) = ((∑ i, f i : ℝ) : EReal) :=
  (sum_bands (B := 256) (show 4096 = cfg0.N * 256 from by rw [show cfg0.N = 16 from N_0]) (fun i => ((f i : ℝ) : EReal))).trans (sum_real _ _)

section
variable (H : RealRows m c x g y)
include H

/-- The loss: half the rows' mean squared errors, summed. -/
theorem arr3 : (dats m 0 c).arrAt 3 cfg0.N = fun _ : S1x1.Idx => ((1 / 2 * ∑ i, lossRow (x i) g (y i) : ℝ) : EReal) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0)
    (fun t _ => ((1 / 2 * ∑ r : Fin 256, lossRow (x (rowAt t r)) g (y (rowAt t r)) : ℝ) : EReal))
    (fun t h j => by rw [outsAt0_A m c t h]; frame_out; idx_vars j; obtain rfl : j0 = 0 := Subsingleton.elim _ _; obtain rfl : j1 = 0 := Subsingleton.elim _ _; exact (pt6 H t _).trans (congrArg (· + _) (zero4 _)))
    (fun t h j => by rw [outsAt0_B m c t h]; frame_out; idx_vars j; obtain rfl : j0 = 0 := Subsingleton.elim _ _; obtain rfl : j1 = 0 := Subsingleton.elim _ _; exact pt6 H t _)
    (le_of_eq N_0) t0_15 rfl j, zero_add, sum_real, ← Finset.mul_sum]
  exact congrArg (fun s : ℝ => ((1 / 2 * s : ℝ) : EReal)) (EReal.coe_injective (by
    rw [← sum_points fun i => lossRow (x i) g (y i), ← sum_real]; exact Finset.sum_congr rfl fun p _ => (sum_real _ _).symm))

/-- Every row's gradient, twice. -/
theorem arr4 : (dats m 0 c).arrAt 4 cfg0.N = fun z : S4096x2048.Idx => ((dxRow (x (z 0)) g (y (z 0)) (z 1) : ℝ) : EReal) := by
  refine (dats m 0 c).arrAt_eq_of_covers 4 _ (by decide +kernel) fun t hf z => ?_
  blk_simp
  have e : ∀ z : S256x2048.Idx, ((View.whole main_v1_1).slice (win0_4.rect t)).emb z = ix2 (rowAt t (z 0)) (z 1) := fun z => by
    blk_ext [rowAt, idx t]
  rw [after0_4, e z]
  by_cases h0 : t.val % 16 = 0
  · rw [outsAt0_A m c t h0]; frame_out
    exact (congrArg _ (eq_ix2 z)).trans (pt1 H t (z 0) (z 1))
  · rw [outsAt0_B m c t h0]; frame_out
    exact (congrArg _ (eq_ix2 z)).trans (pt1 H t (z 0) (z 1))
theorem arr5 : (dats m 0 c).arrAt 5 cfg0.N = fun z : S4096x2048.Idx => ((dxRow (x (z 0)) g (y (z 0)) (z 1) : ℝ) : EReal) := by
  refine (dats m 0 c).arrAt_eq_of_covers 5 _ (by decide +kernel) fun t hf z => ?_
  blk_simp
  have e : ∀ z : S256x2048.Idx, ((View.whole main_v1_2).slice (win0_5.rect t)).emb z = ix2 (rowAt t (z 0)) (z 1) := fun z => by
    blk_ext [rowAt, idx t]
  rw [after0_5, e z]
  by_cases h0 : t.val % 16 = 0
  · rw [outsAt0_A m c t h0]; frame_out
    exact (congrArg _ (eq_ix2 z)).trans (pt1 H t (z 0) (z 1))
  · rw [outsAt0_B m c t h0]; frame_out
    exact (congrArg _ (eq_ix2 z)).trans (pt1 H t (z 0) (z 1))

/-- The gain's gradient, summed over the rows. -/
theorem arr6 : (dats m 0 c).arrAt 6 cfg0.N = fun z : S1x2048.Idx => ((∑ i, dgRow (x i) g (y i) (z 1) : ℝ) : EReal) := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0)
    (fun t j => ∑ r : Fin 256, ((dgRow (x (rowAt t r)) g (y (rowAt t r)) (j 1) : ℝ) : EReal))
    (fun t h j => by rw [outsAt0_A m c t h]; frame_out; idx_vars j; obtain rfl : j0 = 0 := Subsingleton.elim _ _; exact (pt5 H t _ j1).trans (congrArg (· + _) (zero3 _)))
    (fun t h j => by rw [outsAt0_B m c t h]; frame_out; idx_vars j; obtain rfl : j0 = 0 := Subsingleton.elim _ _; exact pt5 H t _ j1)
    (le_of_eq N_0) t0_15 rfl j, zero_add]
  exact sum_points fun i => dgRow (x i) g (y i) (j 1)

end

end Cert.Proof.Loss

end
-- ==== Proof.LossRef.lean ====
/- What the loss's reference computes at one entry, over real arguments, and the gain's row the kernel program forms on the
   host. -/
module

public import proofs.«01_k».proof.Proof.LossArrays
public import proofs.«01_k».proof.Proof.Gen.LossReferenceIdeal.Read
public import Idealize.ShloMosaic.Lib.StableHlo.RunRead

@[expose] public section

set_option maxRecDepth 16384

noncomputable section

namespace Cert.Proof.Loss

open Idealize.ShloMosaic Idealize.ShloMosaic.TcCoe Idealize.SL.Sem Cert.Step

section
open Cert.LossReferenceIdeal Cert.LossReferenceIdeal.Read

variable {x0 x2 : (⟨S4096x2048, .f32⟩ : BufTy).Contents (Elt Ideal)} {x1 : (⟨S2048, .f32⟩ : BufTy).Contents (Elt Ideal)}
variable {x y : Fin 4096 → Fin 2048 → ℝ} {g : Fin 2048 → ℝ}
variable (hx : ∀ i k, x0 (ix2 i k) = ((x i k : ℝ) : EReal)) (hg : ∀ k, x1 (ix1 k) = ((g k : ℝ) : EReal)) (hy : ∀ i k, x2 (ix2 i k) = ((y i k : ℝ) : EReal))

section
include hx

/-- The mean square with the literal added, its reciprocal root, and that root's derivative's factor. -/
theorem ref_msq (i : Fin 4096) : val_main_v6 (F := Ideal) x0 (ix2 i 0) = ((msq (x i) : ℝ) : EReal) := by
  unfold val_main_v6 val_main_v5 val_main_v4 val_main_v3 val_main_v2 val_main_v1 val_main_v0 val_main_cst val_main_cst_0 val_main_cst_1
  pointwise
  simp only [hx, zero_add, lit_2048, lit_eps, mul_real, mean_real n2048, add_real]
  rfl
theorem ref_rr (i : Fin 4096) : val_main_v7 (F := Ideal) x0 (ix2 i 0) = ((rr (x i) : ℝ) : EReal) := by
  unfold val_main_v7
  pointwise
  rw [ref_msq hx, rsqrt_real (msq_pos _)]
  rfl
theorem ref_fac (i : Fin 4096) : val_main_v10 (F := Ideal) x0 (ix2 i 0) = ((-(1 / 2) * (rr (x i) / msq (x i)) : ℝ) : EReal) := by
  unfold val_main_v10 val_main_v9 val_main_v8 val_main_cst_2
  pointwise
  rw [ref_msq hx, ref_rr hx, div_real _ (msq_pos _).ne', lit_neg_half, mul_real]
/-- The normalised row. -/
theorem ref_hat (i : Fin 4096) (k : Fin 2048) : val_main_v12 (F := Ideal) x0 (ix2 i k) = ((x i k * rr (x i) : ℝ) : EReal) := by
  unfold val_main_v12 val_main_v11
  pointwise
  rw [ref_rr hx, hx, mul_real]

end

section
include hx hg hy

/-- The error, and its cotangent. -/
theorem ref_err (i : Fin 4096) (k : Fin 2048) : val_main_v16 (F := Ideal) x0 x1 x2 (ix2 i k) = ((err (x i) g (y i) k : ℝ) : EReal) := by
  unfold val_main_v16 val_main_v15 val_main_v14 val_main_v13
  pointwise
  simp only [ref_hat hx, hg, hy, mul_real, sub_real]
  rfl
theorem ref_dErr (i : Fin 4096) (k : Fin 2048) : val_main_v30 (F := Ideal) x0 x1 x2 (ix2 i k) = ((dErr (x i) g (y i) k : ℝ) : EReal) := by
  unfold val_main_v30 val_main_v29 val_main_v28 val_main_v27 val_main_v26 val_main_v25 val_main_v19 val_main_v18 val_main_cst_10 val_main_cst_9 val_main_cst_8
    val_main_cst_3
  pointwise
  simp only [ref_err hx hg hy, lit_half, lit_two, lit_2048, one_real, mul_real, div_real _ n2048]
  refine congrArg ((↑) : ℝ → EReal) ?_
  rw [dErr]; ring
theorem ref_e (i : Fin 4096) (k : Fin 2048) : val_main_v35 (F := Ideal) x0 x1 x2 (ix2 i k) = ((dErr (x i) g (y i) k * g k : ℝ) : EReal) := by
  unfold val_main_v35 val_main_v34 val_main_v13
  pointwise
  rw [ref_dErr hx hg hy, hg, mul_real]
/-- What each entry receives through the mean square. -/
theorem ref_via (i : Fin 4096) (k : Fin 2048) :
    val_main_v46 (F := Ideal) x0 x1 x2 (ix2 i k) = ((viaMsq (x i) (fun j => dErr (x i) g (y i) j * g j) : ℝ) : EReal) := by
  unfold val_main_v46 val_main_v45 val_main_v44 val_main_v43 val_main_v42 val_main_v39 val_main_v38 val_main_v37 val_main_cst_15 val_main_cst_14 val_main_cst_13
  pointwise
  simp only [ref_e hx hg hy, ref_fac hx, hx, zero_add, Fin.sum_univ_one, lit_2048, mul_real, sum_real, div_real _ n2048]
  rfl
/-- The row's gradient. -/
theorem ref_dx (i : Fin 4096) (k : Fin 2048) : val_main_v50 (F := Ideal) x0 x1 x2 (ix2 i k) = ((dxRow (x i) g (y i) k : ℝ) : EReal) := by
  unfold val_main_v50 val_main_v49 val_main_v48 val_main_v47 val_main_v41 val_main_v40
  pointwise
  simp only [ref_e hx hg hy, ref_via hx hg hy, ref_rr hx, hx, mul_real, add_real]
  exact congrArg ((↑) : ℝ → EReal) (rmsGrad_eq_chain (x i) (fun j => dErr (x i) g (y i) j * g j) k)
theorem ref_dx16 (i : Fin 4096) (k : Fin 2048) : val_main_v52 (F := Ideal) x0 x1 x2 (ix2 i k) = ((dxRow (x i) g (y i) k : ℝ) : EReal) := by
  unfold val_main_v52
  pointwise
  exact ref_dx hx hg hy i k
/-- The gain's gradient. -/
theorem ref_dg (k : Fin 2048) : val_main_v53 (F := Ideal) x0 x1 x2 (ix2 0 k) = ((∑ i, dgRow (x i) g (y i) k : ℝ) : EReal) := by
  unfold val_main_v53 val_main_v36 val_main_v33 val_main_v32 val_main_v31 val_main_cst_12 val_main_cst_11
  pointwise
  simp only [ref_dErr hx hg hy, ref_hat hx, zero_add, Fin.sum_univ_one, mul_real, sum_real]
  refine congrArg ((↑) : ℝ → EReal) (Finset.sum_congr rfl fun i _ => ?_)
  rw [dgRow]; ring
/-- The loss. -/
theorem ref_loss : val_main_v51 (F := Ideal) x0 x1 x2 (ix2 0 0) = ((1 / 2 * ∑ i, lossRow (x i) g (y i) : ℝ) : EReal) := by
  unfold val_main_v51 val_main_v24 val_main_v23 val_main_v22 val_main_v21 val_main_v20 val_main_v17 val_main_cst_7 val_main_cst_6 val_main_cst_5 val_main_cst_4
  pointwise
  simp only [ref_err hx hg hy, zero_add, lit_half, lit_2048, mul_real, sum_real, div_real _ n2048]
  refine congrArg (fun s : ℝ => ((1 / 2 * s : ℝ) : EReal)) (Finset.sum_congr rfl fun i _ => ?_)
  rw [lossRow]; ring

end
end

open Cert.LossKernelIdeal Cert.LossKernelIdeal.Gen

variable {m : (ℓ : Loc nD τ sig) → Buf (Elt Ideal) ℓ} {c : Dev nD}

/-- The gain as a row. -/
theorem host_g (k : Fin 2048) : V m c main_v0 (ix2 0 k) = m ((c : Thread nD τ).loc main_arg1) (ix1 k) := by
  entry_read
  pointwise

end Cert.Proof.Loss

end
-- ==== Proof.LossClaims.lean ====
/- The loss with its gradient through the last norm (`_loss_head`): the loss, the hidden state's gradient in both types, the
   gain's gradient. -/
module

public import proofs.«01_k».proof.Defs
public import proofs.«01_k».proof.Proof.LossRef
public import proofs.«01_k».proof.Proof.Lib.Finite
public import proofs.«01_k».proof.Proof.Gen.LossKernel.Frame
public import proofs.«01_k».proof.Proof.Gen.LossReferenceIdeal.Run
public import proofs.«01_k».proof.Proof.Gen.Pre_loss_finite

@[expose] public section

set_option maxRecDepth 16384

noncomputable section

namespace Cert.Proof.LossClaims

open Idealize.ShloMosaic Idealize.ShloMosaic.TcCoe Idealize.SL.Sem Cert.Step Cert.Proof.Loss

/-- The kernel's frame. -/
theorem frame_kernel : Cert.quiescent_LossKernel := fun m ρ _ => Cert.LossKernel.Gen.frame m ρ
/-- The idealized kernel's frame. -/
theorem frame_ideal : Cert.quiescent_LossKernelIdeal := fun m ρ _ => Cert.LossKernelIdeal.Gen.frame m ρ
/-- The reference's frame: its run leaves the arguments alone, and it has no semaphore. -/
theorem frame_reference : Cert.quiescent_LossReferenceIdeal := fun m ρ _ =>
  (θ_run Cert.LossReferenceIdeal.defs _ _).mono
    (fun r h => ⟨fun c => (h c).2.2.2.2, sem_eq_zero_of_no_sems (by decide) r.2⟩)
    (Cert.LossReferenceIdeal.Value.run (F := Ideal) m ρ)
/-- The ideal pass rewrote nothing. -/
theorem preserves : Cert.preserves_LossKernel_LossKernelIdeal := trivial

/-- The precondition: every argument's entries are real numbers. -/
theorem args_real {a0 a1 a2} (h : Cert.Pre_loss_finite.fn (F := Ideal) a0 a1 a2 = fun _ => 1#1) : AllReal a0 ∧ AllReal a1 ∧ AllReal a2 := by
  have e := congrFun h (show Cert.Pre_loss_finite.S_.Idx from fun k => k.elim0)
  obtain ⟨e, h2⟩ := and_one e
  obtain ⟨h0, h1⟩ := and_one e
  exact ⟨finite_of_test _ _ inf_f32 _ _ _ _ h0, finite_of_test _ _ inf_f32 _ _ _ _ h1, finite_of_test _ _ inf_f32 _ _ _ _ h2⟩

set_option maxHeartbeats 2000000 in  -- four results of large arrays
/-- Both programs end with the same four arrays. -/
theorem algebraic : Cert.algebraic_LossKernelIdeal_LossReferenceIdeal := by
  intro m ρ m' ρ' hp hag
  refine ⟨fun c => _, fun c => _, fun c => _, fun c => _, Cert.LossKernelIdeal.Value.run_blocks (F := Ideal) m ρ, ?_⟩
  refine (θ_run Cert.LossReferenceIdeal.defs _ _).mono
    (fun _ h c => ?_) (Cert.LossReferenceIdeal.Value.run (F := Ideal) m' ρ')
  obtain ⟨h0, h1, h2⟩ := args_real (hp c)
  obtain ⟨x, hx⟩ := lift_real h0
  obtain ⟨g, hg⟩ := lift_real h1
  obtain ⟨y, hy⟩ := lift_real h2
  have H : RealRows m c (fun i k => x (ix2 i k)) (fun k => g (ix1 k)) (fun i k => y (ix2 i k)) :=
    ⟨fun i k => congrFun hx _, fun k => (host_g k).trans (congrFun hg _), fun i k => congrFun hy _⟩
  obtain ⟨a0, a1, a2⟩ := hag c
  refine ⟨(h c).1.trans ?_, (h c).2.1.trans ?_, (h c).2.2.1.trans ?_, (h c).2.2.2.1.trans ?_, (h c).2.2.2.2⟩
  · refine ((Cert.LossReferenceIdeal.Read.val_main_v51_eq _ _ _).trans ?_).trans (arr3 H).symm
    rw [a0, a1, a2]
    funext j
    idx_vars j
    obtain rfl : j0 = 0 := Subsingleton.elim _ _
    obtain rfl : j1 = 0 := Subsingleton.elim _ _
    exact ref_loss (fun i k => congrFun hx _) (fun k => congrFun hg _) (fun i k => congrFun hy _)
  · refine ((Cert.LossReferenceIdeal.Read.val_main_v50_eq m' c).trans ?_).trans (arr4 H).symm
    rw [a0, a1, a2]
    funext j
    idx_vars j
    exact ref_dx (fun i k => congrFun hx _) (fun k => congrFun hg _) (fun i k => congrFun hy _) j0 j1
  · refine ((Cert.LossReferenceIdeal.Read.val_main_v52_eq m' c).trans ?_).trans (arr5 H).symm
    rw [a0, a1, a2]
    funext j
    idx_vars j
    exact ref_dx16 (fun i k => congrFun hx _) (fun k => congrFun hg _) (fun i k => congrFun hy _) j0 j1
  · refine ((Cert.LossReferenceIdeal.Read.val_main_v53_eq _ _ _).trans ?_).trans (arr6 H).symm
    rw [a0, a1, a2]
    funext j
    idx_vars j
    obtain rfl : j0 = 0 := Subsingleton.elim _ _
    exact ref_dg (fun i k => congrFun hx _) (fun k => congrFun hg _) (fun i k => congrFun hy _) j1

end Cert.Proof.LossClaims

end
-- ==== Proof.RmsPleRows.lean ====
/- A band of sixteen rows through the RMS norm's gradient, as the two norm kernels compute it over real operand rows: the
   rows' gradient added to the residual's, the gate's two gradients of that sum, the gain's share folded into eight rows. -/
module

public import proofs.«01_k».proof.Proof.Lib.RmsNorm
public import proofs.«01_k».proof.Proof.Lib.Bands
public import proofs.«01_k».proof.Proof.Gen.RmsPleKernelIdeal.Skeleton
public import Idealize.ShloMosaic.Lib.Pipeline.ValueKit

@[expose] public section

set_option maxRecDepth 16384

noncomputable section

namespace Cert.Proof.RmsPle

open Idealize.ShloMosaic Cert.RmsPleKernelIdeal Cert.RmsPleKernelIdeal.Gen Cert.Step

/-- A row's gradient through the norm, of the normalised and scaled row's cotangent; the gain's share of the row. -/
def dxRow (x γ d : Fin 2048 → ℝ) : Fin 2048 → ℝ := rmsGrad x fun j => d j * γ j
def dgRow (x d : Fin 2048 → ℝ) (k : Fin 2048) : ℝ := d k * x k * rr x

/-- The gradient of the norm's input, the residual's cotangent `s` with it. -/
def dhAt (s : EReal) (x γ d : Fin 2048 → ℝ) (k : Fin 2048) : EReal := s + ((dxRow x γ d k : ℝ) : EReal)
/-- The gate's two gradients of it: the projected embedding's, and the gate's own. -/
def ppOf (v s : EReal) : EReal := s * Ideal.logistic v
def pgOf (v w s : EReal) : EReal := s * w * Ideal.logistic v * (1 - Ideal.logistic v)

/-- A block of `R` rows. -/
abbrev Blk (R : ℕ) : Shape := ⟨2, ![R, 2048]⟩

variable {R N : ℕ}

theorem band_inb {k : ℕ} (h : 16 * k + 16 ≤ R) : ∀ a, ![16 * k, 0] a + S16x2048.size a ≤ (Blk R).size a := by
  intro a
  fin_cases a
  · exact h
  · exact Nat.le_refl 2048

/-- The `k`th band of a block, and its row `r`. -/
def band {e : EltTy} (B : Vec Ideal (Blk R) e) (k : ℕ) (h : 16 * k + 16 ≤ R) : Vec Ideal S16x2048 e :=
  View.ld B (Rect.unit (s := Blk R) ![16 * k, 0] S16x2048.size (band_inb h))
def rowB (k : ℕ) (h : 16 * k + 16 ≤ R) (r : Fin 16) : Fin R := ⟨16 * k + r.val, by omega⟩

theorem band_apply {e : EltTy} (B : Vec Ideal (Blk R) e) (k : ℕ) (h : 16 * k + 16 ≤ R) (r : Fin 16) (d : Fin 2048) :
    band B k h (ix2 r d) = B (ix2 (rowB k h r) d) := by
  unfold band
  rw [View.ld_apply]
  refine congrArg B (funext fun a => ?_)
  fin_cases a
  · exact Fin.ext (show 16 * k + 1 * r.val = 16 * k + r.val by omega)
  · exact Fin.ext (show 0 + 1 * d.val = d.val by omega)

/-- A block's index at a band's place. -/
theorem at_row {y : (Blk R).Idx} {k : ℕ} (h : 16 * k + 16 ≤ R) {r : Fin 16} {j : Fin 2048} (h0 : (y 0).val = 16 * k + r.val)
    (h1 : (y 1).val = j.val) : y = ix2 (rowB k h r) j := by
  funext a
  fin_cases a
  · exact Fin.ext h0
  · exact Fin.ext h1

/-- The blocks' rows are real: the norm's input, its gain, the cotangent. -/
structure RealBlk (X : Vec Ideal (Blk R) .f32) (g : Vec Ideal S1x2048 .f32) (D : Vec Ideal (Blk R) .bf16) (x : Fin R → Fin 2048 → ℝ)
    (γ : Fin 2048 → ℝ) (d : Fin R → Fin 2048 → ℝ) : Prop where
  x : ∀ i k, X (ix2 i k) = ((x i k : ℝ) : EReal)
  g : ∀ k, g (ix2 0 k) = ((γ k : ℝ) : EReal)
  d : ∀ i k, D (ix2 i k) = ((d i k : ℝ) : EReal)

variable {X : Vec Ideal (Blk R) .f32} {g : Vec Ideal S1x2048 .f32} {D : Vec Ideal (Blk R) .bf16}
variable {x d : Fin R → Fin 2048 → ℝ} {γ : Fin 2048 → ℝ}

section
variable (H : RealBlk X g D x γ d)
include H

theorem xb (k : ℕ) (h : 16 * k + 16 ≤ R) (r : Fin 16) (j : Fin 2048) : band X k h (ix2 r j) = ((x (rowB k h r) j : ℝ) : EReal) := (band_apply ..).trans (H.x _ _)
theorem db (k : ℕ) (h : 16 * k + 16 ≤ R) (r : Fin 16) (j : Fin 2048) : band D k h (ix2 r j) = ((d (rowB k h r) j : ℝ) : EReal) := (band_apply ..).trans (H.d _ _)

/-- The reciprocal root of a row of the band. -/
theorem rr_row (k : ℕ) (h : 16 * k + 16 ≤ R) (r : Fin 16) : k0_pay5 (F := Ideal) (band X k h) (ix2 r 0) = ((rr (x (rowB k h r)) : ℝ) : EReal) := by
  unfold k0_pay5
  pointwise
  simp only [xb H, lit_2048, lit_eps, mul_real, mean_real n2048, rr_real]
/-- The residual's cotangent plus the row's gradient. -/
theorem dh_row (S : Vec Ideal (Blk R) .f32) (k : ℕ) (h : 16 * k + 16 ≤ R) (r : Fin 16) (j : Fin 2048) :
    k0_pay7 (F := Ideal) (band X k h) g (band D k h) (band S k h) (ix2 r j)
      = S (ix2 (rowB k h r) j) + ((dxRow (x (rowB k h r)) γ (d (rowB k h r)) j : ℝ) : EReal) := by
  unfold k0_pay7 k0_pay4
  pointwise
  simp only [rr_row H, xb H, db H, H.g, band_apply S, lit_inv_2048, mul_real, sum_real, sub_real]
  rfl
/-- The gain's share of a row. -/
theorem part_row (k : ℕ) (h : 16 * k + 16 ≤ R) (r : Fin 16) (j : Fin 2048) :
    k0_pay6 (F := Ideal) (band X k h) (band D k h) (ix2 r j) = ((dgRow (x (rowB k h r)) (d (rowB k h r)) j : ℝ) : EReal) := by
  unfold k0_pay6 k0_pay4
  pointwise
  simp only [rr_row H, xb H, db H, mul_real]
  rfl

/-- What the bands' results hold at an index of the block. -/
theorem pt_dh (S : Vec Ideal (Blk R) .f32) (y : (Blk R).Idx) (k : ℕ) (h : 16 * k + 16 ≤ R) (z : S16x2048.Idx)
    (h0 : (y 0).val = 16 * k + (z 0).val) (h1 : (y 1).val = (z 1).val) :
    k0_pay7 (F := Ideal) (band X k h) g (band D k h) (band S k h) z = dhAt (S y) (x (y 0)) γ (d (y 0)) (y 1) := by
  idx_vars z
  obtain rfl := at_row h h0 h1
  exact dh_row H S k h z0 z1
theorem pt_dh16 (S : Vec Ideal (Blk R) .f32) (y : (Blk R).Idx) (k : ℕ) (h : 16 * k + 16 ≤ R) (z : S16x2048.Idx)
    (h0 : (y 0).val = 16 * k + (z 0).val) (h1 : (y 1).val = (z 1).val) :
    k0_pay8 (F := Ideal) (k0_pay7 (band X k h) g (band D k h) (band S k h)) z = dhAt (S y) (x (y 0)) γ (d (y 0)) (y 1) :=
  pt_dh H S y k h z h0 h1
/-- The projected embedding's gradient: the gate of the sum. -/
theorem pt_pp (S : Vec Ideal (Blk R) .f32) (V : Vec Ideal (Blk R) .bf16) (y : (Blk R).Idx) (k : ℕ) (h : 16 * k + 16 ≤ R) (z : S16x2048.Idx)
    (h0 : (y 0).val = 16 * k + (z 0).val) (h1 : (y 1).val = (z 1).val) :
    k0_pay11 (F := Ideal) (k0_pay7 (band X k h) g (band D k h) (band S k h)) (band V k h) z
      = ppOf (V y) (dhAt (S y) (x (y 0)) γ (d (y 0)) (y 1)) := by
  idx_vars z
  obtain rfl := at_row h h0 h1
  unfold k0_pay11 k0_pay10
  pointwise
  rw [dh_row H, band_apply, lit_half, sigmoid_eq]
  rfl
/-- The gate's gradient. -/
theorem pt_pg (S : Vec Ideal (Blk R) .f32) (V W : Vec Ideal (Blk R) .bf16) (y : (Blk R).Idx) (k : ℕ) (h : 16 * k + 16 ≤ R) (z : S16x2048.Idx)
    (h0 : (y 0).val = 16 * k + (z 0).val) (h1 : (y 1).val = (z 1).val) :
    k0_pay12 (F := Ideal) (k0_pay7 (band X k h) g (band D k h) (band S k h)) (band V k h) (band W k h) z
      = pgOf (V y) (W y) (dhAt (S y) (x (y 0)) γ (d (y 0)) (y 1)) := by
  idx_vars z
  obtain rfl := at_row h h0 h1
  unfold k0_pay12 k0_pay10
  pointwise
  rw [dh_row H, band_apply, band_apply, lit_half, sigmoid_eq]
  rfl

end

/-- The scratch block after the bands before `n`: each band's shares folded into its eight rows. -/
def folded (X : Vec Ideal (Blk R) .f32) (D : Vec Ideal (Blk R) .bf16) : (n : ℕ) → 16 * n ≤ R → Vec Ideal S8x2048 .f32
  | 0, _ => k0_pay3 (F := Ideal)
  | n + 1, h => k0_pay9 (k0_pay6 (band X n (by omega)) (band D n (by omega))) (folded X D n (by omega))

/-- A band's rows, as two rows of each of the eight. -/
def fold8 (q : Fin 2) (s : Fin 8) : Fin 16 := ⟨q.val * 8 + s.val, by omega⟩

/-- Row `r` of the `b`th of a block's first `n` bands. -/
def rowN (n : ℕ) (h : 16 * n ≤ R) (b : Fin n) (r : Fin 16) : Fin R := ⟨b.val * 16 + r.val, by omega⟩

variable (H : RealBlk X g D x γ d)
include H

theorem folded_row (n : ℕ) (h : 16 * n ≤ R) (s : Fin 8) (j : Fin 2048) :
    folded X D n h (ix2 s j) = ((∑ b : Fin n, ∑ q : Fin 2, dgRow (x (rowN n h b (fold8 q s))) (d (rowN n h b (fold8 q s))) j : ℝ) : EReal) := by
  induction n with
  | zero =>
    rw [folded]
    unfold k0_pay3
    pointwise
    simp
  | succ n ih =>
    rw [folded]
    unfold k0_pay9
    pointwise
    refine (congrArg₂ (· + ·) (ih (by omega)) ?_).trans ((add_real _ _).trans (congrArg ((↑) : ℝ → EReal) (Fin.sum_univ_castSucc fun b : Fin (n + 1) =>
      ∑ q : Fin 2, dgRow (x (rowN (n + 1) h b (fold8 q s))) (d (rowN (n + 1) h b (fold8 q s))) j).symm))
    refine Eq.trans ?_ (sum_real _ _)
    refine Finset.sum_congr rfl fun q _ => ?_
    refine (congrArg _ (congrArg₂ ix2 (Fin.ext ?_) rfl)).trans ((part_row H n (by omega) (fold8 q s) j).trans ?_)
    · simp only [fold8]
    · have e : rowB n (by omega) (fold8 q s) = rowN (n + 1) h (Fin.last n) (fold8 q s) :=
        Fin.ext (by simp only [rowB, rowN, Fin.val_last]; omega)
      rw [e]

/-- A block's share of the gain's gradient, added to what the result held. -/
theorem pt_dg (h : R = N * 16) (p : Vec Ideal S1x2048 .f32) (j : Fin 2048) :
    k0_pay2 (F := Ideal) p (folded X D N (by omega)) (ix2 0 j) = p (ix2 0 j) + ((∑ r, dgRow (x r) (d r) j : ℝ) : EReal) := by
  unfold k0_pay2
  pointwise
  simp only [folded_row H, sum_real]
  refine congrArg (fun v : ℝ => p (ix2 0 j) + (v : EReal)) ?_
  rw [Finset.sum_comm, ← sum_bands h fun r => dgRow (x r) (d r) j]
  refine Finset.sum_congr rfl fun b _ => ?_
  rw [Finset.sum_comm, ← sum_bands (N := 2) (B := 8) (by norm_num) fun r : Fin 16 => dgRow (x ⟨b.val * 16 + r.val, band_lt h b r⟩) (d ⟨b.val * 16 + r.val, band_lt h b r⟩) j]
  rfl

omit H in
/-- The gain's gradient starts from zero. -/
theorem zeroRow (j : S1x2048.Idx) : k0_pay1 (F := Ideal) j = 0 := by unfold k0_pay1; pointwise

end Cert.Proof.RmsPle

end
-- ==== Proof.RmsPleArrays.lean ====
/- What the kernel of the RMS norm and the gate below it leaves in its five result arrays, over real operand rows: the
   gradient of the norm's input (twice), the gain's summed over the rows, the gate's two. -/
module

public import proofs.«01_k».proof.Proof.RmsPleRows
public import proofs.«01_k».proof.Proof.Gen.RmsPleKernelIdeal.Value

@[expose] public section

set_option maxRecDepth 16384

noncomputable section

namespace Cert.Proof.RmsPle

open Idealize.ShloMosaic Idealize.ShloMosaic.TcCoe Idealize.SL.Sem Cert.RmsPleKernelIdeal Cert.RmsPleKernelIdeal.Gen Cert.Step

variable {m : (ℓ : Loc nD τ sig) → Buf (Elt Ideal) ℓ} {c : Dev nD}

/-- Row `r` of the block at point `t`. -/
def rowAt (t : Fin cfg0.N) (r : Fin 256) : Fin 4096 := ⟨t.val * 256 + r.val, by have := lt_of_lt_of_eq t.isLt N_0; omega⟩

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_9.index t = ![t.val, 0] ∧ win0_10.index t = ![t.val, 0] :=
  (by decide +kernel : ∀ t : Fin grid0.N, _)

theorem read0 (t : Fin cfg0.N) (r : Fin 256) (k : Fin 2048) : iblk m c 0 t (ix2 r k) = V m c main_arg0 (ix2 (rowAt t r) k) := by
  blk_point [iblk, rowAt, idx t]
theorem read1 (t : Fin cfg0.N) (k : Fin 2048) : iblk m c 1 t (ix2 0 k) = V m c main_v0 (ix2 0 k) := by
  blk_point [iblk, idx t]
theorem read2 (t : Fin cfg0.N) (r : Fin 256) (k : Fin 2048) : iblk m c 2 t (ix2 r k) = V m c main_arg2 (ix2 (rowAt t r) k) := by
  blk_point [iblk, rowAt, idx t]
theorem read3 (t : Fin cfg0.N) (y : S256x2048.Idx) : iblk m c 3 t y = V m c main_arg3 (ix2 (rowAt t (y 0)) (y 1)) := by
  idx_vars y
  blk_point [iblk, rowAt, idx t]
theorem read4 (t : Fin cfg0.N) (y : S256x2048.Idx) : iblk m c 4 t y = V m c main_arg4 (ix2 (rowAt t (y 0)) (y 1)) := by
  idx_vars y
  blk_point [iblk, rowAt, idx t]
theorem read5 (t : Fin cfg0.N) (y : S256x2048.Idx) : iblk m c 5 t y = V m c main_arg5 (ix2 (rowAt t (y 0)) (y 1)) := by
  idx_vars y
  blk_point [iblk, rowAt, idx t]

/-- The operand rows are real: the norm's input, its gain, the cotangent. -/
structure RealRows (m : (ℓ : Loc nD τ sig) → Buf (Elt Ideal) ℓ) (c : Dev nD) (x : Fin 4096 → Fin 2048 → ℝ) (γ : Fin 2048 → ℝ)
    (d : Fin 4096 → Fin 2048 → ℝ) : Prop where
  x : ∀ i k, V m c main_arg0 (ix2 i k) = ((x i k : ℝ) : EReal)
  g : ∀ k, V m c main_v0 (ix2 0 k) = ((γ k : ℝ) : EReal)
  d : ∀ i k, V m c main_arg2 (ix2 i k) = ((d i k : ℝ) : EReal)

variable {x d : Fin 4096 → Fin 2048 → ℝ} {γ : Fin 2048 → ℝ}

/-- So are the blocks' rows at point `t`. -/
theorem blk (H : RealRows m c x γ d) (t : Fin cfg0.N) :
    RealBlk (R := 256) (iblk m c 0 t) (iblk m c 1 t) (iblk m c 2 t) (fun r => x (rowAt t r)) γ (fun r => d (rowAt t r)) :=
  ⟨fun r k => (read0 t r k).trans (H.x _ _), fun k => (read1 t k).trans (H.g _), fun r k => (read2 t r k).trans (H.d _ _)⟩

section
variable (H : RealRows m c x γ d)
include H

set_option maxHeartbeats 4000000 in  -- one part for each of the block's bands, in both cases
/-- The gradient of the norm's input, twice. -/
theorem arr6 : (dats m 0 c).arrAt 6 cfg0.N = fun z : S4096x2048.Idx => dhAt (V m c main_arg3 (ix2 (z 0) (z 1))) (x (z 0)) γ (d (z 0)) (z 1) := by
  refine (dats m 0 c).arrAt_eq_of_covers 6 _ (by decide +kernel) fun t hf y => ?_
  blk_simp
  have e : ∀ y : S256x2048.Idx, ((View.whole main_v1_0).slice (win0_6.rect t)).emb y = ix2 (rowAt t (y 0)) (y 1) := fun y => by
    blk_ext [rowAt, idx t]
  rw [after0_6, e y]
  refine Eq.trans ?_ (show dhAt (iblk m c 3 t y) (x (rowAt t (y 0))) γ (d (rowAt t (y 0))) (y 1) = dhAt (V m c main_arg3 (ix2 (rowAt t (y 0)) (y 1))) (x (rowAt t (y 0))) γ (d (rowAt t (y 0))) (y 1) by rw [read3 t y])
  have p := fun (k : Fin 16) (z : S16x2048.Idx) (y : S256x2048.Idx) => pt_dh (blk H t) (iblk m c 3 t) y k (by omega) z
  by_cases hc : t.val % 16 = 0 <;> [rw [outsAt0_A m c t hc]; rw [outsAt0_B m c t hc]]
  all_goals
    frame_out
    canon_tiles x h
    exacts [p 15 _ _ h0 h1, p 14 _ _ h0 h1, p 13 _ _ h0 h1, p 12 _ _ h0 h1, p 11 _ _ h0 h1, p 10 _ _ h0 h1, p 9 _ _ h0 h1, p 8 _ _ h0 h1, p 7 _ _ h0 h1, p 6 _ _ h0 h1, p 5 _ _ h0 h1, p 4 _ _ h0 h1, p 3 _ _ h0 h1, p 2 _ _ h0 h1, p 1 _ _ h0 h1, p 0 _ _ (h0.trans (Nat.zero_add _).symm) h1]

set_option maxHeartbeats 4000000 in  -- one part for each of the block's bands, in both cases
/-- The same, rounded. -/
theorem arr7 : (dats m 0 c).arrAt 7 cfg0.N = fun z : S4096x2048.Idx => dhAt (V m c main_arg3 (ix2 (z 0) (z 1))) (x (z 0)) γ (d (z 0)) (z 1) := by
  refine (dats m 0 c).arrAt_eq_of_covers 7 _ (by decide +kernel) fun t hf y => ?_
  blk_simp
  have e : ∀ y : S256x2048.Idx, ((View.whole main_v1_1).slice (win0_7.rect t)).emb y = ix2 (rowAt t (y 0)) (y 1) := fun y => by
    blk_ext [rowAt, idx t]
  rw [after0_7, e y]
  refine Eq.trans ?_ (show dhAt (iblk m c 3 t y) (x (rowAt t (y 0))) γ (d (rowAt t (y 0))) (y 1) = dhAt (V m c main_arg3 (ix2 (rowAt t (y 0)) (y 1))) (x (rowAt t (y 0))) γ (d (rowAt t (y 0))) (y 1) by rw [read3 t y])
  have p := fun (k : Fin 16) (z : S16x2048.Idx) (y : S256x2048.Idx) => pt_dh16 (blk H t) (iblk m c 3 t) y k (by omega) z
  by_cases hc : t.val % 16 = 0 <;> [rw [outsAt0_A m c t hc]; rw [outsAt0_B m c t hc]]
  all_goals
    frame_out
    canon_tiles x h
    exacts [p 15 _ _ h0 h1, p 14 _ _ h0 h1, p 13 _ _ h0 h1, p 12 _ _ h0 h1, p 11 _ _ h0 h1, p 10 _ _ h0 h1, p 9 _ _ h0 h1, p 8 _ _ h0 h1, p 7 _ _ h0 h1, p 6 _ _ h0 h1, p 5 _ _ h0 h1, p 4 _ _ h0 h1, p 3 _ _ h0 h1, p 2 _ _ h0 h1, p 1 _ _ h0 h1, p 0 _ _ (h0.trans (Nat.zero_add _).symm) h1]

set_option maxHeartbeats 4000000 in  -- one part for each of the block's bands, in both cases
/-- The projected embedding's gradient. -/
theorem arr9 : (dats m 0 c).arrAt 9 cfg0.N = fun z : S4096x2048.Idx => ppOf (V m c main_arg4 (ix2 (z 0) (z 1)))
    (dhAt (V m c main_arg3 (ix2 (z 0) (z 1))) (x (z 0)) γ (d (z 0)) (z 1)) := by
  refine (dats m 0 c).arrAt_eq_of_covers 9 _ (by decide +kernel) fun t hf y => ?_
  blk_simp
  have e : ∀ y : S256x2048.Idx, ((View.whole main_v1_3).slice (win0_9.rect t)).emb y = ix2 (rowAt t (y 0)) (y 1) := fun y => by
    blk_ext [rowAt, idx t]
  rw [after0_9, e y]
  refine Eq.trans ?_ (show ppOf (iblk m c 4 t y) (dhAt (iblk m c 3 t y) (x (rowAt t (y 0))) γ (d (rowAt t (y 0))) (y 1)) = ppOf (V m c main_arg4 (ix2 (rowAt t (y 0)) (y 1))) (dhAt (V m c main_arg3 (ix2 (rowAt t (y 0)) (y 1))) (x (rowAt t (y 0))) γ (d (rowAt t (y 0))) (y 1)) by rw [read3 t y, read4 t y])
  have p := fun (k : Fin 16) (z : S16x2048.Idx) (y : S256x2048.Idx) => pt_pp (blk H t) (iblk m c 3 t) (iblk m c 4 t) y k (by omega) z
  by_cases hc : t.val % 16 = 0 <;> [rw [outsAt0_A m c t hc]; rw [outsAt0_B m c t hc]]
  all_goals
    frame_out
    canon_tiles x h
    exacts [p 15 _ _ h0 h1, p 14 _ _ h0 h1, p 13 _ _ h0 h1, p 12 _ _ h0 h1, p 11 _ _ h0 h1, p 10 _ _ h0 h1, p 9 _ _ h0 h1, p 8 _ _ h0 h1, p 7 _ _ h0 h1, p 6 _ _ h0 h1, p 5 _ _ h0 h1, p 4 _ _ h0 h1, p 3 _ _ h0 h1, p 2 _ _ h0 h1, p 1 _ _ h0 h1, p 0 _ _ (h0.trans (Nat.zero_add _).symm) h1]

set_option maxHeartbeats 4000000 in  -- one part for each of the block's bands, in both cases
/-- The gate's gradient. -/
theorem arr10 : (dats m 0 c).arrAt 10 cfg0.N = fun z : S4096x2048.Idx => pgOf (V m c main_arg4 (ix2 (z 0) (z 1)))
    (V m c main_arg5 (ix2 (z 0) (z 1))) (dhAt (V m c main_arg3 (ix2 (z 0) (z 1))) (x (z 0)) γ (d (z 0)) (z 1)) := by
  refine (dats m 0 c).arrAt_eq_of_covers 10 _ (by decide +kernel) fun t hf y => ?_
  blk_simp
  have e : ∀ y : S256x2048.Idx, ((View.whole main_v1_4).slice (win0_10.rect t)).emb y = ix2 (rowAt t (y 0)) (y 1) := fun y => by
    blk_ext [rowAt, idx t]
  rw [after0_10, e y]
  refine Eq.trans ?_ (show pgOf (iblk m c 4 t y) (iblk m c 5 t y) (dhAt (iblk m c 3 t y) (x (rowAt t (y 0))) γ (d (rowAt t (y 0))) (y 1)) = pgOf (V m c main_arg4 (ix2 (rowAt t (y 0)) (y 1))) (V m c main_arg5 (ix2 (rowAt t (y 0)) (y 1))) (dhAt (V m c main_arg3 (ix2 (rowAt t (y 0)) (y 1))) (x (rowAt t (y 0))) γ (d (rowAt t (y 0))) (y 1)) by rw [read3 t y, read4 t y, read5 t y])
  have p := fun (k : Fin 16) (z : S16x2048.Idx) (y : S256x2048.Idx) => pt_pg (blk H t) (iblk m c 3 t) (iblk m c 4 t) (iblk m c 5 t) y k (by omega) z
  by_cases hc : t.val % 16 = 0 <;> [rw [outsAt0_A m c t hc]; rw [outsAt0_B m c t hc]]
  all_goals
    frame_out
    canon_tiles x h
    exacts [p 15 _ _ h0 h1, p 14 _ _ h0 h1, p 13 _ _ h0 h1, p 12 _ _ h0 h1, p 11 _ _ h0 h1, p 10 _ _ h0 h1, p 9 _ _ h0 h1, p 8 _ _ h0 h1, p 7 _ _ h0 h1, p 6 _ _ h0 h1, p 5 _ _ h0 h1, p 4 _ _ h0 h1, p 3 _ _ h0 h1, p 2 _ _ h0 h1, p 1 _ _ h0 h1, p 0 _ _ (h0.trans (Nat.zero_add _).symm) h1]

end

/-- Blocks' row sums, summed over the grid, are the sum over the array's rows. -/
theorem sum_points (f : Fin 4096 → ℝ) : ∑ p : Fin cfg0.N, ((∑ r : Fin 256, f (rowAt p r) : ℝ) : EReal) = ((∑ i, f i : ℝ) : EReal) :=
  (sum_real _ _).trans (congrArg _ (sum_bands (B := 256) (show 4096 = cfg0.N * 256 from by rw [show cfg0.N = 16 from N_0]) f))

set_option maxHeartbeats 4000000 in  -- the bands' folds, nested
/-- The gain's gradient, summed over the rows. -/
theorem arr8 (H : RealRows m c x γ d) : (dats m 0 c).arrAt 8 cfg0.N = fun z : S1x2048.Idx => ((∑ i, dgRow (x i) (d i) (z 1) : ℝ) : EReal) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun t j => ((∑ r : Fin 256, dgRow (x (rowAt t r)) (d (rowAt t r)) (j 1) : ℝ) : EReal))
    (fun t h j => by rw [outsAt0_A m c t h]; frame_out; idx_vars j; obtain rfl : j0 = 0 := Subsingleton.elim _ _; exact (pt_dg (N := 16) (blk H t) rfl _ j1).trans (congrArg (· + _) (zeroRow _)))
    (fun t h j => by rw [outsAt0_B m c t h]; frame_out; idx_vars j; obtain rfl : j0 = 0 := Subsingleton.elim _ _; exact pt_dg (N := 16) (blk H t) rfl _ j1)
    (le_of_eq N_0) t0_15 rfl j, zero_add]
  exact sum_points fun i => dgRow (x i) (d i) (j 1)

end Cert.Proof.RmsPle

end
-- ==== Proof.RmsPleRef.lean ====
/- What the reference of the RMS norm and the gate computes at one entry, over real rows, and the gain's row the kernel program
   forms on the host. -/
module

public import proofs.«01_k».proof.Proof.RmsPleArrays
public import proofs.«01_k».proof.Proof.Gen.RmsPleReferenceIdeal.Read
public import Idealize.ShloMosaic.Lib.StableHlo.RunRead

@[expose] public section

set_option maxRecDepth 16384

noncomputable section

namespace Cert.Proof.RmsPle

open Idealize.ShloMosaic Idealize.ShloMosaic.TcCoe Idealize.SL.Sem Cert.Step

section
open Cert.RmsPleReferenceIdeal Cert.RmsPleReferenceIdeal.Read

variable {x0 x3 : (⟨S4096x2048, .f32⟩ : BufTy).Contents (Elt Ideal)} {x1 : (⟨S2048, .f32⟩ : BufTy).Contents (Elt Ideal)}
variable {x2 x4 x5 : (⟨S4096x2048, .bf16⟩ : BufTy).Contents (Elt Ideal)} {x d : Fin 4096 → Fin 2048 → ℝ} {γ : Fin 2048 → ℝ}
variable (hx : ∀ i k, x0 (ix2 i k) = ((x i k : ℝ) : EReal)) (hg : ∀ k, x1 (ix1 k) = ((γ k : ℝ) : EReal)) (hd : ∀ i k, x2 (ix2 i k) = ((d i k : ℝ) : EReal))

section
include hx

/-- The mean square and the literal, its reciprocal root, the factor of that root's derivative, the normalised row. -/
theorem ref_msq (i : Fin 4096) : val_main_v6 (F := Ideal) x0 (ix2 i 0) = ((msq (x i) : ℝ) : EReal) := by
  unfold val_main_v6 val_main_v5 val_main_v4 val_main_v3 val_main_v2 val_main_v1 val_main_v0 val_main_cst val_main_cst_0 val_main_cst_1
  pointwise
  simp only [hx, zero_add, lit_2048, lit_eps, mul_real, mean_real n2048, add_real]
  rfl
theorem ref_rr (i : Fin 4096) : val_main_v7 (F := Ideal) x0 (ix2 i 0) = ((rr (x i) : ℝ) : EReal) := by
  unfold val_main_v7
  pointwise
  rw [ref_msq hx, rsqrt_real (msq_pos _)]
  rfl
theorem ref_fac (i : Fin 4096) : val_main_v10 (F := Ideal) x0 (ix2 i 0) = ((-(1 / 2) * (rr (x i) / msq (x i)) : ℝ) : EReal) := by
  unfold val_main_v10 val_main_v9 val_main_v8 val_main_cst_2
  pointwise
  rw [ref_msq hx, ref_rr hx, div_real _ (msq_pos _).ne', lit_neg_half, mul_real]
theorem ref_hat (i : Fin 4096) (k : Fin 2048) : val_main_v12 (F := Ideal) x0 (ix2 i k) = ((x i k * rr (x i) : ℝ) : EReal) := by
  unfold val_main_v12 val_main_v11
  pointwise
  rw [ref_rr hx, hx, mul_real]

end

section
include hx hd

/-- The gain's gradient. -/
theorem ref_dg (k : Fin 2048) : val_main_v54 (F := Ideal) x0 x2 (ix2 0 k) = ((∑ i, dgRow (x i) (d i) k : ℝ) : EReal) := by
  unfold val_main_v54 val_main_v22 val_main_v19 val_main_v18 val_main_v17 val_main_v16 val_main_cst_4 val_main_cst_3
  pointwise
  simp only [ref_hat hx, hd, zero_add, Fin.sum_univ_one, mul_real, sum_real]
  refine congrArg ((↑) : ℝ → EReal) (Finset.sum_congr rfl fun i _ => ?_)
  rw [dgRow]; ring

include hg

/-- The cotangent times the gain. -/
theorem ref_e (i : Fin 4096) (k : Fin 2048) : val_main_v21 (F := Ideal) x1 x2 (ix2 i k) = ((d i k * γ k : ℝ) : EReal) := by
  unfold val_main_v21 val_main_v20 val_main_v16 val_main_v13
  pointwise
  rw [hd, hg, mul_real]
/-- What each entry receives through the mean square. -/
theorem ref_via (i : Fin 4096) (k : Fin 2048) :
    val_main_v32 (F := Ideal) x0 x1 x2 (ix2 i k) = ((viaMsq (x i) (fun j => d i j * γ j) : ℝ) : EReal) := by
  unfold val_main_v32 val_main_v31 val_main_v30 val_main_v29 val_main_v28 val_main_v25 val_main_v24 val_main_v23 val_main_cst_7 val_main_cst_6 val_main_cst_5
  pointwise
  simp only [ref_e hx hg hd, ref_fac hx, hx, zero_add, Fin.sum_univ_one, lit_2048, mul_real, sum_real, div_real _ n2048]
  rfl
/-- The gradient of the norm's input, the residual's cotangent with it. -/
theorem ref_dh (i : Fin 4096) (k : Fin 2048) :
    val_main_v37 (F := Ideal) x0 x1 x2 x3 (ix2 i k) = dhAt (x3 (ix2 i k)) (x i) γ (d i) k := by
  unfold val_main_v37 val_main_v36 val_main_v35 val_main_v34 val_main_v33 val_main_v27 val_main_v26
  pointwise
  simp only [ref_e hx hg hd, ref_via hx hg hd, ref_rr hx, hx, mul_real, add_real]
  exact congrArg (fun v : ℝ => x3 (ix2 i k) + (v : EReal)) (rmsGrad_eq_chain (x i) (fun j => d i j * γ j) k)
theorem ref_dh16 (i : Fin 4096) (k : Fin 2048) :
    val_main_v53 (F := Ideal) x0 x1 x2 x3 (ix2 i k) = dhAt (x3 (ix2 i k)) (x i) γ (d i) k := by
  unfold val_main_v53
  pointwise
  exact ref_dh hx hg hd i k

omit hx hg hd in
/-- The host's sigmoid of the gate's argument is the logistic function. -/
theorem ref_gate (i : Fin 4096) (k : Fin 2048) : val_main_v45 (F := Ideal) x4 (ix2 i k) = Ideal.logistic (x4 (ix2 i k)) := by
  unfold val_main_v45 val_main_v44 val_main_v43 val_main_v42 val_main_v41 val_main_v40 val_main_v38 val_main_cst_8 val_main_cst_9
  pointwise
  exact quotient_eq _
/-- The gate's two gradients. -/
theorem ref_pp (i : Fin 4096) (k : Fin 2048) :
    val_main_v55 (F := Ideal) x0 x1 x2 x3 x4 (ix2 i k) = ppOf (x4 (ix2 i k)) (dhAt (x3 (ix2 i k)) (x i) γ (d i) k) := by
  unfold val_main_v55 val_main_v50
  pointwise
  rw [ref_gate, ref_dh hx hg hd]
  exact mul_comm _ _
theorem ref_pg (i : Fin 4096) (k : Fin 2048) :
    val_main_v56 (F := Ideal) x0 x1 x2 x3 x4 x5 (ix2 i k) = pgOf (x4 (ix2 i k)) (x5 (ix2 i k)) (dhAt (x3 (ix2 i k)) (x i) γ (d i) k) := by
  unfold val_main_v56 val_main_v52 val_main_v51 val_main_v48 val_main_v47 val_main_v46 val_main_v39 val_main_cst_10
  pointwise
  rw [ref_gate, ref_dh hx hg hd]
  exact (mul_assoc _ _ _).symm

end
end

open Cert.RmsPleKernelIdeal Cert.RmsPleKernelIdeal.Gen

variable {m : (ℓ : Loc nD τ sig) → Buf (Elt Ideal) ℓ} {c : Dev nD}

/-- The gain as a row. -/
theorem host_g (k : Fin 2048) : V m c main_v0 (ix2 0 k) = m ((c : Thread nD τ).loc main_arg1) (ix1 k) := by
  entry_read
  pointwise

end Cert.Proof.RmsPle

end
-- ==== Proof.RmsPleClaims.lean ====
/- The RMS norm's gradient with the gate below it: the gradient of the norm's input in both types, the gain's, the gate's two. -/
module

public import proofs.«01_k».proof.Defs
public import proofs.«01_k».proof.Proof.RmsPleRef
public import proofs.«01_k».proof.Proof.Lib.Finite
public import proofs.«01_k».proof.Proof.Gen.RmsPleKernel.Frame
public import proofs.«01_k».proof.Proof.Gen.RmsPleReferenceIdeal.Run
public import proofs.«01_k».proof.Proof.Gen.Pre_rmsple_finite

@[expose] public section

set_option maxRecDepth 16384

noncomputable section

namespace Cert.Proof.RmsPleClaims

open Idealize.ShloMosaic Idealize.ShloMosaic.TcCoe Idealize.SL.Sem Cert.Step Cert.Proof.RmsPle

/-- The kernel's frame. -/
theorem frame_kernel : Cert.quiescent_RmsPleKernel := fun m ρ _ => Cert.RmsPleKernel.Gen.frame m ρ
/-- The idealized kernel's frame. -/
theorem frame_ideal : Cert.quiescent_RmsPleKernelIdeal := fun m ρ _ => Cert.RmsPleKernelIdeal.Gen.frame m ρ
/-- The reference's frame: its run leaves the arguments alone, and it has no semaphore. -/
theorem frame_reference : Cert.quiescent_RmsPleReferenceIdeal := fun m ρ _ =>
  (θ_run Cert.RmsPleReferenceIdeal.defs _ _).mono
    (fun r h => ⟨fun c => (h c).2.2.2.2.2, sem_eq_zero_of_no_sems (by decide) r.2⟩)
    (Cert.RmsPleReferenceIdeal.Value.run (F := Ideal) m ρ)
/-- The ideal pass rewrote nothing. -/
theorem preserves : Cert.preserves_RmsPleKernel_RmsPleKernelIdeal := trivial

/-- The precondition: the entries of the norm's input, its gain and the cotangent are real numbers. -/
theorem args_real {a0 a1 a2 a3 a4 a5} (h : Cert.Pre_rmsple_finite.fn (F := Ideal) a0 a1 a2 a3 a4 a5 = fun _ => 1#1) : AllReal a0 ∧ AllReal a1 ∧ AllReal a2 := by
  have e := congrFun h (show Cert.Pre_rmsple_finite.S_.Idx from fun k => k.elim0)
  obtain ⟨e, h2⟩ := and_one e
  obtain ⟨h0, h1⟩ := and_one e
  exact ⟨finite_of_test _ _ inf_f32 _ _ _ _ h0, finite_of_test _ _ inf_f32 _ _ _ _ h1, finite_of_test _ _ inf_bf16 _ _ _ _ h2⟩

set_option maxHeartbeats 2000000 in  -- five results of large arrays
/-- Both programs end with the same five arrays. -/
theorem algebraic : Cert.algebraic_RmsPleKernelIdeal_RmsPleReferenceIdeal := by
  intro m ρ m' ρ' hp hag
  refine ⟨fun c => _, fun c => _, fun c => _, fun c => _, fun c => _, Cert.RmsPleKernelIdeal.Value.run_blocks (F := Ideal) m ρ, ?_⟩
  refine (θ_run Cert.RmsPleReferenceIdeal.defs _ _).mono
    (fun _ h c => ?_) (Cert.RmsPleReferenceIdeal.Value.run (F := Ideal) m' ρ')
  obtain ⟨h0, h1, h2⟩ := args_real (hp c)
  obtain ⟨x, hx⟩ := lift_real h0
  obtain ⟨γ, hg⟩ := lift_real h1
  obtain ⟨d, hd⟩ := lift_real h2
  have H : RealRows m c (fun i k => x (ix2 i k)) (fun k => γ (ix1 k)) (fun i k => d (ix2 i k)) :=
    ⟨fun i k => congrFun hx _, fun k => (host_g k).trans (congrFun hg _), fun i k => congrFun hd _⟩
  obtain ⟨a0, a1, a2, a3, a4, a5⟩ := hag c
  refine ⟨(h c).1.trans ?_, (h c).2.1.trans ?_, (h c).2.2.1.trans ?_, (h c).2.2.2.1.trans ?_, (h c).2.2.2.2.1.trans ?_, (h c).2.2.2.2.2⟩
  · refine ((Cert.RmsPleReferenceIdeal.Read.val_main_v37_eq _ _ _ _).trans ?_).trans (arr6 H).symm
    rw [a0, a1, a2, a3]
    funext j
    idx_vars j
    exact ref_dh (fun i k => congrFun hx _) (fun k => congrFun hg _) (fun i k => congrFun hd _) j0 j1
  · refine ((Cert.RmsPleReferenceIdeal.Read.val_main_v53_eq m' c).trans ?_).trans (arr7 H).symm
    rw [a0, a1, a2, a3]
    funext j
    idx_vars j
    exact ref_dh16 (fun i k => congrFun hx _) (fun k => congrFun hg _) (fun i k => congrFun hd _) j0 j1
  · refine ((Cert.RmsPleReferenceIdeal.Read.val_main_v54_eq _ _).trans ?_).trans (arr8 H).symm
    rw [a0, a2]
    funext j
    idx_vars j
    obtain rfl : j0 = 0 := Subsingleton.elim _ _
    exact ref_dg (fun i k => congrFun hx _) (fun i k => congrFun hd _) j1
  · refine ((Cert.RmsPleReferenceIdeal.Read.val_main_v55_eq m' c).trans ?_).trans (arr9 H).symm
    rw [a0, a1, a2, a3, a4]
    funext j
    idx_vars j
    exact ref_pp (fun i k => congrFun hx _) (fun k => congrFun hg _) (fun i k => congrFun hd _) j0 j1
  · refine ((Cert.RmsPleReferenceIdeal.Read.val_main_v56_eq m' c).trans ?_).trans (arr10 H).symm
    rw [a0, a1, a2, a3, a4, a5]
    funext j
    idx_vars j
    exact ref_pg (fun i k => congrFun hx _) (fun k => congrFun hg _) (fun i k => congrFun hd _) j0 j1

end Cert.Proof.RmsPleClaims

end
-- ==== Proof.RmsArrays.lean ====
/- What the RMS norm's kernel leaves in its three result arrays, over real operand rows: the gradient of the norm's
   input (twice) and the gain's, summed over the rows. -/
module

public import proofs.«01_k».proof.Proof.RmsPleRows
public import proofs.«01_k».proof.Proof.Gen.RmsKernelIdeal.Value

@[expose] public section

set_option maxRecDepth 16384

noncomputable section

namespace Cert.Proof.Rms

open Idealize.ShloMosaic Idealize.ShloMosaic.TcCoe Idealize.SL.Sem Cert.RmsKernelIdeal Cert.RmsKernelIdeal.Gen Cert.Step
open Cert.Proof.RmsPle
variable {m : (ℓ : Loc nD τ sig) → Buf (Elt Ideal) ℓ} {c : Dev nD}

/-- Row `r` of the block at point `t`. -/
def rowAt (t : Fin cfg0.N) (r : Fin 512) : Fin 4096 := ⟨t.val * 512 + r.val, by have := lt_of_lt_of_eq t.isLt N_0; omega⟩

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] :=
  (by decide +kernel : ∀ t : Fin grid0.N, _)

theorem read0 (t : Fin cfg0.N) (r : Fin 512) (k : Fin 2048) : iblk m c 0 t (ix2 r k) = V m c main_arg0 (ix2 (rowAt t r) k) := by
  blk_point [iblk, rowAt, idx t]
theorem read1 (t : Fin cfg0.N) (k : Fin 2048) : iblk m c 1 t (ix2 0 k) = V m c main_v0 (ix2 0 k) := by
  blk_point [iblk, idx t]
theorem read2 (t : Fin cfg0.N) (r : Fin 512) (k : Fin 2048) : iblk m c 2 t (ix2 r k) = V m c main_arg2 (ix2 (rowAt t r) k) := by
  blk_point [iblk, rowAt, idx t]
theorem read3 (t : Fin cfg0.N) (y : S512x2048.Idx) : iblk m c 3 t y = V m c main_arg3 (ix2 (rowAt t (y 0)) (y 1)) := by
  idx_vars y
  blk_point [iblk, rowAt, idx t]

/-- The operand rows are real: the norm's input, its gain, the cotangent. -/
structure RealRows (m : (ℓ : Loc nD τ sig) → Buf (Elt Ideal) ℓ) (c : Dev nD) (x : Fin 4096 → Fin 2048 → ℝ) (γ : Fin 2048 → ℝ)
    (d : Fin 4096 → Fin 2048 → ℝ) : Prop where
  x : ∀ i k, V m c main_arg0 (ix2 i k) = ((x i k : ℝ) : EReal)
  g : ∀ k, V m c main_v0 (ix2 0 k) = ((γ k : ℝ) : EReal)
  d : ∀ i k, V m c main_arg2 (ix2 i k) = ((d i k : ℝ) : EReal)

variable {x d : Fin 4096 → Fin 2048 → ℝ} {γ : Fin 2048 → ℝ}

/-- So are the blocks' rows at point `t`. -/
theorem blk (H : RealRows m c x γ d) (t : Fin cfg0.N) :
    RealBlk (R := 512) (iblk m c 0 t) (iblk m c 1 t) (iblk m c 2 t) (fun r => x (rowAt t r)) γ (fun r => d (rowAt t r)) :=
  ⟨fun r k => (read0 t r k).trans (H.x _ _), fun k => (read1 t k).trans (H.g _), fun r k => (read2 t r k).trans (H.d _ _)⟩

section
variable (H : RealRows m c x γ d)
include H

set_option maxHeartbeats 4000000 in  -- one part for each of the block's bands, in both cases
/-- The gradient of the norm's input. -/
theorem arr4 : (dats m 0 c).arrAt 4 cfg0.N = fun z : S4096x2048.Idx => dhAt (V m c main_arg3 (ix2 (z 0) (z 1))) (x (z 0)) γ (d (z 0)) (z 1) := by
  refine (dats m 0 c).arrAt_eq_of_covers 4 _ (by decide +kernel) fun t hf y => ?_
  blk_simp
  have e : ∀ y : S512x2048.Idx, ((View.whole main_v1_0).slice (win0_4.rect t)).emb y = ix2 (rowAt t (y 0)) (y 1) := fun y => by
    blk_ext [rowAt, idx t]
  rw [after0_4, e y]
  refine Eq.trans ?_ (show dhAt (iblk m c 3 t y) (x (rowAt t (y 0))) γ (d (rowAt t (y 0))) (y 1) = dhAt (V m c main_arg3 (ix2 (rowAt t (y 0)) (y 1))) (x (rowAt t (y 0))) γ (d (rowAt t (y 0))) (y 1) by rw [read3 t y])
  have p := fun (k : Fin 32) (z : S16x2048.Idx) (y : S512x2048.Idx) => pt_dh (blk H t) (iblk m c 3 t) y k (by omega) z
  by_cases hc : t.val % 8 = 0 <;> [rw [outsAt0_A m c t hc]; rw [outsAt0_B m c t hc]]
  all_goals
    frame_out
    canon_tiles x h
    exacts [p 31 _ _ h0 h1, p 30 _ _ h0 h1, p 29 _ _ h0 h1, p 28 _ _ h0 h1, p 27 _ _ h0 h1, p 26 _ _ h0 h1, p 25 _ _ h0 h1, p 24 _ _ h0 h1, p 23 _ _ h0 h1, p 22 _ _ h0 h1, p 21 _ _ h0 h1, p 20 _ _ h0 h1, p 19 _ _ h0 h1, p 18 _ _ h0 h1, p 17 _ _ h0 h1, p 16 _ _ h0 h1, p 15 _ _ h0 h1, p 14 _ _ h0 h1, p 13 _ _ h0 h1, p 12 _ _ h0 h1, p 11 _ _ h0 h1, p 10 _ _ h0 h1, p 9 _ _ h0 h1, p 8 _ _ h0 h1, p 7 _ _ h0 h1, p 6 _ _ h0 h1, p 5 _ _ h0 h1, p 4 _ _ h0 h1, p 3 _ _ h0 h1, p 2 _ _ h0 h1, p 1 _ _ h0 h1, p 0 _ _ (h0.trans (Nat.zero_add _).symm) h1]

set_option maxHeartbeats 4000000 in  -- one part for each of the block's bands, in both cases
/-- The same, rounded. -/
theorem arr5 : (dats m 0 c).arrAt 5 cfg0.N = fun z : S4096x2048.Idx => dhAt (V m c main_arg3 (ix2 (z 0) (z 1))) (x (z 0)) γ (d (z 0)) (z 1) := by
  refine (dats m 0 c).arrAt_eq_of_covers 5 _ (by decide +kernel) fun t hf y => ?_
  blk_simp
  have e : ∀ y : S512x2048.Idx, ((View.whole main_v1_1).slice (win0_5.rect t)).emb y = ix2 (rowAt t (y 0)) (y 1) := fun y => by
    blk_ext [rowAt, idx t]
  rw [after0_5, e y]
  refine Eq.trans ?_ (show dhAt (iblk m c 3 t y) (x (rowAt t (y 0))) γ (d (rowAt t (y 0))) (y 1) = dhAt (V m c main_arg3 (ix2 (rowAt t (y 0)) (y 1))) (x (rowAt t (y 0))) γ (d (rowAt t (y 0))) (y 1) by rw [read3 t y])
  have p := fun (k : Fin 32) (z : S16x2048.Idx) (y : S512x2048.Idx) => pt_dh16 (blk H t) (iblk m c 3 t) y k (by omega) z
  by_cases hc : t.val % 8 = 0 <;> [rw [outsAt0_A m c t hc]; rw [outsAt0_B m c t hc]]
  all_goals
    frame_out
    canon_tiles x h
    exacts [p 31 _ _ h0 h1, p 30 _ _ h0 h1, p 29 _ _ h0 h1, p 28 _ _ h0 h1, p 27 _ _ h0 h1, p 26 _ _ h0 h1, p 25 _ _ h0 h1, p 24 _ _ h0 h1, p 23 _ _ h0 h1, p 22 _ _ h0 h1, p 21 _ _ h0 h1, p 20 _ _ h0 h1, p 19 _ _ h0 h1, p 18 _ _ h0 h1, p 17 _ _ h0 h1, p 16 _ _ h0 h1, p 15 _ _ h0 h1, p 14 _ _ h0 h1, p 13 _ _ h0 h1, p 12 _ _ h0 h1, p 11 _ _ h0 h1, p 10 _ _ h0 h1, p 9 _ _ h0 h1, p 8 _ _ h0 h1, p 7 _ _ h0 h1, p 6 _ _ h0 h1, p 5 _ _ h0 h1, p 4 _ _ h0 h1, p 3 _ _ h0 h1, p 2 _ _ h0 h1, p 1 _ _ h0 h1, p 0 _ _ (h0.trans (Nat.zero_add _).symm) h1]

end

/-- Blocks' row sums, summed over the grid, are the sum over the array's rows. -/
theorem sum_points (f : Fin 4096 → ℝ) : ∑ p : Fin cfg0.N, ((∑ r : Fin 512, f (rowAt p r) : ℝ) : EReal) = ((∑ i, f i : ℝ) : EReal) :=
  (sum_real _ _).trans (congrArg _ (sum_bands (B := 512) (show 4096 = cfg0.N * 512 from by rw [show cfg0.N = 8 from N_0]) f))

set_option maxHeartbeats 4000000 in  -- the bands' folds, nested
/-- The gain's gradient, summed over the rows. -/
theorem arr6 (H : RealRows m c x γ d) : (dats m 0 c).arrAt 6 cfg0.N = fun z : S1x2048.Idx => ((∑ i, dgRow (x i) (d i) (z 1) : ℝ) : EReal) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0)
    (fun t j => ((∑ r : Fin 512, dgRow (x (rowAt t r)) (d (rowAt t r)) (j 1) : ℝ) : EReal))
    (fun t h j => by rw [outsAt0_A m c t h]; frame_out; idx_vars j; obtain rfl : j0 = 0 := Subsingleton.elim _ _; exact (pt_dg (N := 32) (blk H t) rfl _ j1).trans (congrArg (· + _) (zeroRow _)))
    (fun t h j => by rw [outsAt0_B m c t h]; frame_out; idx_vars j; obtain rfl : j0 = 0 := Subsingleton.elim _ _; exact pt_dg (N := 32) (blk H t) rfl _ j1)
    (le_of_eq N_0) t0_7 rfl j, zero_add]
  exact sum_points fun i => dgRow (x i) (d i) (j 1)

end Cert.Proof.Rms

end
-- ==== Proof.RmsRef.lean ====
/- What the RMS norm's reference computes at one entry, over real rows, and the gain's row the kernel program forms on the
   host. -/
module

public import proofs.«01_k».proof.Proof.RmsArrays
public import proofs.«01_k».proof.Proof.Gen.RmsReferenceIdeal.Read
public import Idealize.ShloMosaic.Lib.StableHlo.RunRead

@[expose] public section

set_option maxRecDepth 16384

noncomputable section

namespace Cert.Proof.Rms

open Idealize.ShloMosaic Idealize.ShloMosaic.TcCoe Idealize.SL.Sem Cert.Step Cert.Proof.RmsPle

section
open Cert.RmsReferenceIdeal Cert.RmsReferenceIdeal.Read

variable {x0 x3 : (⟨S4096x2048, .f32⟩ : BufTy).Contents (Elt Ideal)} {x1 : (⟨S2048, .f32⟩ : BufTy).Contents (Elt Ideal)}
variable {x2 : (⟨S4096x2048, .bf16⟩ : BufTy).Contents (Elt Ideal)} {x d : Fin 4096 → Fin 2048 → ℝ} {γ : Fin 2048 → ℝ}
variable (hx : ∀ i k, x0 (ix2 i k) = ((x i k : ℝ) : EReal)) (hg : ∀ k, x1 (ix1 k) = ((γ k : ℝ) : EReal)) (hd : ∀ i k, x2 (ix2 i k) = ((d i k : ℝ) : EReal))

section
include hx

/-- The mean square and the literal, its reciprocal root, the factor of that root's derivative, the normalised row. -/
theorem ref_msq (i : Fin 4096) : val_main_v6 (F := Ideal) x0 (ix2 i 0) = ((msq (x i) : ℝ) : EReal) := by
  unfold val_main_v6 val_main_v5 val_main_v4 val_main_v3 val_main_v2 val_main_v1 val_main_v0 val_main_cst val_main_cst_0 val_main_cst_1
  pointwise
  simp only [hx, zero_add, lit_2048, lit_eps, mul_real, mean_real n2048, add_real]
  rfl
theorem ref_rr (i : Fin 4096) : val_main_v7 (F := Ideal) x0 (ix2 i 0) = ((rr (x i) : ℝ) : EReal) := by
  unfold val_main_v7
  pointwise
  rw [ref_msq hx, rsqrt_real (msq_pos _)]
  rfl
theorem ref_fac (i : Fin 4096) : val_main_v10 (F := Ideal) x0 (ix2 i 0) = ((-(1 / 2) * (rr (x i) / msq (x i)) : ℝ) : EReal) := by
  unfold val_main_v10 val_main_v9 val_main_v8 val_main_cst_2
  pointwise
  rw [ref_msq hx, ref_rr hx, div_real _ (msq_pos _).ne', lit_neg_half, mul_real]
theorem ref_hat (i : Fin 4096) (k : Fin 2048) : val_main_v12 (F := Ideal) x0 (ix2 i k) = ((x i k * rr (x i) : ℝ) : EReal) := by
  unfold val_main_v12 val_main_v11
  pointwise
  rw [ref_rr hx, hx, mul_real]

end

section
include hx hd

/-- The gain's gradient. -/
theorem ref_dg (k : Fin 2048) : val_main_v39 (F := Ideal) x0 x2 (ix2 0 k) = ((∑ i, dgRow (x i) (d i) k : ℝ) : EReal) := by
  unfold val_main_v39 val_main_v22 val_main_v19 val_main_v18 val_main_v17 val_main_v16 val_main_cst_4 val_main_cst_3
  pointwise
  simp only [ref_hat hx, hd, zero_add, Fin.sum_univ_one, mul_real, sum_real]
  refine congrArg ((↑) : ℝ → EReal) (Finset.sum_congr rfl fun i _ => ?_)
  rw [dgRow]; ring

include hg

/-- The cotangent times the gain. -/
theorem ref_e (i : Fin 4096) (k : Fin 2048) : val_main_v21 (F := Ideal) x1 x2 (ix2 i k) = ((d i k * γ k : ℝ) : EReal) := by
  unfold val_main_v21 val_main_v20 val_main_v16 val_main_v13
  pointwise
  rw [hd, hg, mul_real]
/-- What each entry receives through the mean square. -/
theorem ref_via (i : Fin 4096) (k : Fin 2048) :
    val_main_v32 (F := Ideal) x0 x1 x2 (ix2 i k) = ((viaMsq (x i) (fun j => d i j * γ j) : ℝ) : EReal) := by
  unfold val_main_v32 val_main_v31 val_main_v30 val_main_v29 val_main_v28 val_main_v25 val_main_v24 val_main_v23 val_main_cst_7 val_main_cst_6 val_main_cst_5
  pointwise
  simp only [ref_e hx hg hd, ref_fac hx, hx, zero_add, Fin.sum_univ_one, lit_2048, mul_real, sum_real, div_real _ n2048]
  rfl
/-- The gradient of the norm's input, the residual's cotangent with it. -/
theorem ref_dh (i : Fin 4096) (k : Fin 2048) :
    val_main_v37 (F := Ideal) x0 x1 x2 x3 (ix2 i k) = dhAt (x3 (ix2 i k)) (x i) γ (d i) k := by
  unfold val_main_v37 val_main_v36 val_main_v35 val_main_v34 val_main_v33 val_main_v27 val_main_v26
  pointwise
  simp only [ref_e hx hg hd, ref_via hx hg hd, ref_rr hx, hx, mul_real, add_real]
  exact congrArg (fun v : ℝ => x3 (ix2 i k) + (v : EReal)) (rmsGrad_eq_chain (x i) (fun j => d i j * γ j) k)
theorem ref_dh16 (i : Fin 4096) (k : Fin 2048) :
    val_main_v38 (F := Ideal) x0 x1 x2 x3 (ix2 i k) = dhAt (x3 (ix2 i k)) (x i) γ (d i) k := by
  unfold val_main_v38
  pointwise
  exact ref_dh hx hg hd i k

end
end

open Cert.RmsKernelIdeal Cert.RmsKernelIdeal.Gen

variable {m : (ℓ : Loc nD τ sig) → Buf (Elt Ideal) ℓ} {c : Dev nD}

/-- The gain as a row. -/
theorem host_g (k : Fin 2048) : V m c main_v0 (ix2 0 k) = m ((c : Thread nD τ).loc main_arg1) (ix1 k) := by
  entry_read
  pointwise

end Cert.Proof.Rms

end
-- ==== Proof.RmsClaims.lean ====
/- The RMS norm's gradient (`_rms_bwd`): the gradient of the norm's input in both types, and the gain's. -/
module

public import proofs.«01_k».proof.Defs
public import proofs.«01_k».proof.Proof.RmsRef
public import proofs.«01_k».proof.Proof.Lib.Finite
public import proofs.«01_k».proof.Proof.Gen.RmsKernel.Frame
public import proofs.«01_k».proof.Proof.Gen.RmsReferenceIdeal.Run
public import proofs.«01_k».proof.Proof.Gen.Pre_rms_finite

@[expose] public section

set_option maxRecDepth 16384

noncomputable section

namespace Cert.Proof.RmsClaims

open Idealize.ShloMosaic Idealize.ShloMosaic.TcCoe Idealize.SL.Sem Cert.Step Cert.Proof.Rms

/-- The kernel's frame. -/
theorem frame_kernel : Cert.quiescent_RmsKernel := fun m ρ _ => Cert.RmsKernel.Gen.frame m ρ
/-- The idealized kernel's frame. -/
theorem frame_ideal : Cert.quiescent_RmsKernelIdeal := fun m ρ _ => Cert.RmsKernelIdeal.Gen.frame m ρ
/-- The reference's frame: its run leaves the arguments alone, and it has no semaphore. -/
theorem frame_reference : Cert.quiescent_RmsReferenceIdeal := fun m ρ _ =>
  (θ_run Cert.RmsReferenceIdeal.defs _ _).mono
    (fun r h => ⟨fun c => (h c).2.2.2, sem_eq_zero_of_no_sems (by decide) r.2⟩)
    (Cert.RmsReferenceIdeal.Value.run (F := Ideal) m ρ)
/-- The ideal pass rewrote nothing. -/
theorem preserves : Cert.preserves_RmsKernel_RmsKernelIdeal := trivial

/-- The precondition: the entries of the norm's input, its gain and the cotangent are real numbers. -/
theorem args_real {a0 a1 a2 a3} (h : Cert.Pre_rms_finite.fn (F := Ideal) a0 a1 a2 a3 = fun _ => 1#1) : AllReal a0 ∧ AllReal a1 ∧ AllReal a2 := by
  have e := congrFun h (show Cert.Pre_rms_finite.S_.Idx from fun k => k.elim0)
  obtain ⟨e, h2⟩ := and_one e
  obtain ⟨h0, h1⟩ := and_one e
  exact ⟨finite_of_test _ _ inf_f32 _ _ _ _ h0, finite_of_test _ _ inf_f32 _ _ _ _ h1, finite_of_test _ _ inf_bf16 _ _ _ _ h2⟩

set_option maxHeartbeats 2000000 in  -- three results of large arrays
/-- Both programs end with the same three arrays. -/
theorem algebraic : Cert.algebraic_RmsKernelIdeal_RmsReferenceIdeal := by
  intro m ρ m' ρ' hp hag
  refine ⟨fun c => _, fun c => _, fun c => _, Cert.RmsKernelIdeal.Value.run_blocks (F := Ideal) m ρ, ?_⟩
  refine (θ_run Cert.RmsReferenceIdeal.defs _ _).mono
    (fun _ h c => ?_) (Cert.RmsReferenceIdeal.Value.run (F := Ideal) m' ρ')
  obtain ⟨h0, h1, h2⟩ := args_real (hp c)
  obtain ⟨x, hx⟩ := lift_real h0
  obtain ⟨γ, hg⟩ := lift_real h1
  obtain ⟨d, hd⟩ := lift_real h2
  have H : RealRows m c (fun i k => x (ix2 i k)) (fun k => γ (ix1 k)) (fun i k => d (ix2 i k)) :=
    ⟨fun i k => congrFun hx _, fun k => (host_g k).trans (congrFun hg _), fun i k => congrFun hd _⟩
  obtain ⟨a0, a1, a2, a3⟩ := hag c
  refine ⟨(h c).1.trans ?_, (h c).2.1.trans ?_, (h c).2.2.1.trans ?_, (h c).2.2.2⟩
  · refine ((Cert.RmsReferenceIdeal.Read.val_main_v37_eq _ _ _ _).trans ?_).trans (arr4 H).symm
    rw [a0, a1, a2, a3]
    funext j
    idx_vars j
    exact ref_dh (fun i k => congrFun hx _) (fun k => congrFun hg _) (fun i k => congrFun hd _) j0 j1
  · refine ((Cert.RmsReferenceIdeal.Read.val_main_v38_eq m' c).trans ?_).trans (arr5 H).symm
    rw [a0, a1, a2, a3]
    funext j
    idx_vars j
    exact ref_dh16 (fun i k => congrFun hx _) (fun k => congrFun hg _) (fun i k => congrFun hd _) j0 j1
  · refine ((Cert.RmsReferenceIdeal.Read.val_main_v39_eq _ _).trans ?_).trans (arr6 H).symm
    rw [a0, a2]
    funext j
    idx_vars j
    obtain rfl : j0 = 0 := Subsingleton.elim _ _
    exact ref_dg (fun i k => congrFun hx _) (fun i k => congrFun hd _) j1

end Cert.Proof.RmsClaims

end
-- ==== Proof.Lib.Window.lean ====
module

public import Idealize.ShloMosaic.Lib.Pipeline.ValueKit
public import proofs.«01_k».proof.Proof.Lib.Real

/-! # Moving sums

A column of `N` real numbers is continued by zeros. The sum of the `w` entries ending at a row is the difference of two running sums; the sum of the `w` entries
beginning at a row is the running sum from the end of each entry less the entry `w` rows on. -/

@[expose] public section

noncomputable section

namespace Cert.Step

open Idealize.ShloMosaic Finset

/-- A column continued by zeros. -/
def ext {N : ℕ} (f : Fin N → ℝ) (n : ℕ) : ℝ := if h : n < N then f ⟨n, h⟩ else 0

theorem ext_val {N : ℕ} (f : Fin N → ℝ) (i : Fin N) : ext f i.val = f i := dif_pos i.isLt

theorem ext_of_le {N : ℕ} (f : Fin N → ℝ) {n : ℕ} (h : N ≤ n) : ext f n = 0 := dif_neg (by omega)

/-- The same column with `H` rows of zeros in front. -/
def pad {N : ℕ} (H : ℕ) (f : Fin N → ℝ) (n : ℕ) : ℝ := if H ≤ n then ext f (n - H) else 0

/-- The sum of the `w` entries ending at row `s`. -/
def back {N : ℕ} (f : Fin N → ℝ) (w s : ℕ) : ℝ := ∑ i ∈ range w, if i ≤ s then ext f (s - i) else 0

/-- The sum of the `w` entries beginning at row `s`. -/
def ahead {N : ℕ} (f : Fin N → ℝ) (w s : ℕ) : ℝ := ∑ i ∈ range w, ext f (s + i)

theorem pad_add {N : ℕ} (H : ℕ) (f : Fin N → ℝ) (s : ℕ) : pad H f (H + s) = ext f s := by
  rw [pad, if_pos (Nat.le_add_right H s), Nat.add_sub_cancel_left]

theorem pad_out {N H n : ℕ} (f : Fin N → ℝ) (h : ¬(H ≤ n ∧ n < H + N)) : pad H f n = 0 := by
  rw [pad]
  split
  · exact ext_of_le f (by omega)
  · rfl

/-- Inside the padded column the entries behind a row are read by subtracting. -/
theorem back_pad {N : ℕ} (f : Fin N → ℝ) {H w : ℕ} (s : ℕ) (h : w ≤ H + 1) : ∑ i ∈ range w, pad H f (H + s - i) = back f w s := by
  refine sum_congr rfl fun i hi => ?_
  have := mem_range.mp hi
  unfold pad
  by_cases hs : i ≤ s
  · rw [if_pos (by omega), if_pos hs, show H + s - i - H = s - i by omega]
  · rw [if_neg (by omega), if_neg hs]

theorem ahead_pad {N : ℕ} (f : Fin N → ℝ) {H : ℕ} (w s : ℕ) : ∑ i ∈ range w, pad H f (H + s + i) = ahead f w s := by
  refine sum_congr rfl fun i _ => ?_
  unfold pad
  rw [if_pos (by omega), show H + s + i - H = s + i by omega]

/-- The entries ending at a row are the running sum less the running sum before them. -/
theorem back_eq {N : ℕ} (f : Fin N → ℝ) (w s : ℕ) :
    back f w s = ∑ i ∈ range (s + 1), ext f i - ∑ i ∈ range (s + 1 - w), ext f i := by
  induction w with
  | zero => simp [back]
  | succ w ih =>
    unfold back at ih ⊢
    rw [sum_range_succ, ih]
    by_cases h : w ≤ s
    · rw [if_pos h, show s + 1 - w = (s - w) + 1 by omega, sum_range_succ _ (s - w), show s + 1 - (w + 1) = s - w by omega]; ring
    · rw [if_neg h, show s + 1 - w = 0 by omega, show s + 1 - (w + 1) = 0 by omega]; simp

/-- The entries beginning at a row are the sum, over all rows from it on, of an entry less the entry `w` rows on. -/
theorem ahead_eq {N : ℕ} (f : Fin N → ℝ) (w s : ℕ) : ahead f w s = ∑ i ∈ range N, (ext f (s + i) - ext f (s + i + w)) := by
  induction w with
  | zero => simp [ahead]
  | succ w ih =>
    unfold ahead at ih ⊢
    rw [sum_range_succ, ih]
    have h : ∑ i ∈ range N, (ext f (s + i + w) - ext f (s + i + (w + 1))) = ext f (s + w) := by
      have h' := sum_range_sub' (fun i => ext f (s + i + w)) N
      rw [ext_of_le f (n := s + N + w) (by omega), sub_zero] at h'
      rw [← (show s + 0 + w = s + w from rfl), ← h']
      exact sum_congr rfl fun i _ => by rw [show s + i + (w + 1) = s + (i + 1) + w by omega]
    rw [← h, ← sum_add_distrib]
    exact sum_congr rfl fun i _ => by ring

/-- A left fold that adds is a sum. -/
theorem foldl_add {M ι : Type} [AddCommMonoid M] (g : ι → M) : ∀ (l : List ι) (v : M), l.foldl (fun r n => r + g n) v = v + (l.map g).sum
  | [], v => (add_zero v).symm
  | a :: l, v => by rw [List.foldl_cons, foldl_add g l, List.map_cons, List.sum_cons, add_assoc]

/-- The positions of a window over the first axis alone. -/
def posEquiv (N : ℕ) : Fin N ≃ (⟨3, ![N, 1, 1]⟩ : Shape).Idx where
  toFun i := ix3 i (0 : Fin 1) (0 : Fin 1)
  invFun p := p 0
  left_inv _ := rfl
  right_inv p := by
    funext a
    match a with
    | ⟨0, _⟩ => rfl
    | ⟨1, _⟩ => exact (Subsingleton.elim (α := Fin 1) _ _)
    | ⟨2, _⟩ => exact (Subsingleton.elim (α := Fin 1) _ _)

/-- The host's running sum down the first axis, its operand padded by `lo` rows of zeros in front and `hi` behind, over a finite column. -/
theorem window_sum {N M C lo hi : ℕ} (x : (⟨3, ![N, M, C]⟩ : Shape).Idx → EReal) (f : Fin N → ℝ) (a : Fin M) (b : Fin C)
    (hx : ∀ n, x (ix3 n a b) = ((f n : ℝ) : EReal))
    (h : (⟨3, ![N, M, C]⟩ : Shape).ReduceWindows (![N, 1, 1] : Fin 3 → ℕ) ![1, 1, 1] ![lo, 0, 0] ![hi, 0, 0] ⟨3, ![N, M, C]⟩) (j : Fin N) :
    Ideal.hostReduceWindowAdd (s := ⟨3, ![N, M, C]⟩) ![N, 1, 1] ![1, 1, 1] ![lo, 0, 0] ![hi, 0, 0] h x 0 (ix3 j a b)
      = ((∑ i ∈ range N, (if lo ≤ j.val + i then ext f (j.val + i - lo) else 0) : ℝ) : EReal) := by
  unfold Ideal.hostReduceWindowAdd Host.reduceWindow
  refine (foldl_add _ _ _).trans ?_
  rw [zero_add, ← List.ofFn_eq_map, List.sum_ofFn, ← sum_range (fun i => if lo ≤ j.val + i then ext f (j.val + i - lo) else 0) |>.symm, ← sum_real]
  refine Eq.trans (Fintype.sum_equiv ((⟨3, ![N, 1, 1]⟩ : Shape).rowMajor.symm.trans (posEquiv N).symm) _
    (fun i : Fin N => (((if lo ≤ j.val + i.val then ext f (j.val + i.val - lo) else 0 : ℝ)) : EReal)) fun n => ?_) rfl
  show _ = (((if lo ≤ j.val + ((⟨3, ![N, 1, 1]⟩ : Shape).rowMajor.symm n 0).val then
    ext f (j.val + ((⟨3, ![N, 1, 1]⟩ : Shape).rowMajor.symm n 0).val - lo) else 0 : ℝ)) : EReal)
  have h1 : ((⟨3, ![N, 1, 1]⟩ : Shape).rowMajor.symm n 1).val = 0 := Nat.lt_one_iff.mp ((⟨3, ![N, 1, 1]⟩ : Shape).rowMajor.symm n 1).isLt
  have h2 : ((⟨3, ![N, 1, 1]⟩ : Shape).rowMajor.symm n 2).val = 0 := Nat.lt_one_iff.mp ((⟨3, ![N, 1, 1]⟩ : Shape).rowMajor.symm n 2).isLt
  by_cases hc : lo ≤ j.val + ((⟨3, ![N, 1, 1]⟩ : Shape).rowMajor.symm n 0).val ∧ j.val + ((⟨3, ![N, 1, 1]⟩ : Shape).rowMajor.symm n 0).val - lo < N
  · rw [dif_pos (by
      intro c
      match c with
      | ⟨0, _⟩ =>
        show lo ≤ j.val * 1 + ((⟨3, ![N, 1, 1]⟩ : Shape).rowMajor.symm n 0).val ∧ j.val * 1 + ((⟨3, ![N, 1, 1]⟩ : Shape).rowMajor.symm n 0).val - lo < N
        omega
      | ⟨1, _⟩ =>
        show 0 ≤ a.val * 1 + ((⟨3, ![N, 1, 1]⟩ : Shape).rowMajor.symm n 1).val ∧ a.val * 1 + ((⟨3, ![N, 1, 1]⟩ : Shape).rowMajor.symm n 1).val - 0 < M
        omega
      | ⟨2, _⟩ =>
        show 0 ≤ b.val * 1 + ((⟨3, ![N, 1, 1]⟩ : Shape).rowMajor.symm n 2).val ∧ b.val * 1 + ((⟨3, ![N, 1, 1]⟩ : Shape).rowMajor.symm n 2).val - 0 < C
        omega), if_pos hc.1]
    refine (congrArg x (funext fun c => Fin.ext ?_)).trans ((hx ⟨_, hc.2⟩).trans (congrArg _ (ext_val f ⟨_, hc.2⟩).symm))
    match c with
    | ⟨0, _⟩ =>
      show j.val * 1 + ((⟨3, ![N, 1, 1]⟩ : Shape).rowMajor.symm n 0).val - lo = j.val + ((⟨3, ![N, 1, 1]⟩ : Shape).rowMajor.symm n 0).val - lo
      omega
    | ⟨1, _⟩ => show a.val * 1 + ((⟨3, ![N, 1, 1]⟩ : Shape).rowMajor.symm n 1).val - 0 = a.val; omega
    | ⟨2, _⟩ => show b.val * 1 + ((⟨3, ![N, 1, 1]⟩ : Shape).rowMajor.symm n 2).val - 0 = b.val; omega
  · rw [dif_neg fun hin => hc (by
      have h0 : lo ≤ j.val * 1 + ((⟨3, ![N, 1, 1]⟩ : Shape).rowMajor.symm n 0).val ∧ j.val * 1 + ((⟨3, ![N, 1, 1]⟩ : Shape).rowMajor.symm n 0).val - lo < N := hin 0
      omega)]
    by_cases hl : lo ≤ j.val + ((⟨3, ![N, 1, 1]⟩ : Shape).rowMajor.symm n 0).val
    · rw [if_pos hl, ext_of_le f (by omega)]; rfl
    · rw [if_neg hl]; rfl

/-- The same as the host states it, over an initial value of zero. -/
theorem host_window {N M C lo hi : ℕ} {u : Shape} {φ : FTy} (x : FVec Ideal ⟨3, ![N, M, C]⟩ φ) (v : u.Idx → Ideal φ) (hv : ∀ k, v k = (0 : EReal)) (f : Fin N → ℝ)
    (a : Fin M) (b : Fin C) (hx : ∀ n, x (ix3 n a b) = ((f n : ℝ) : EReal))
    (h : (⟨3, ![N, M, C]⟩ : Shape).ReduceWindows (![N, 1, 1] : Fin 3 → ℕ) ![1, 1, 1] ![lo, 0, 0] ![hi, 0, 0] ⟨3, ![N, M, C]⟩) (hu : 0 < u.numel) (j : Fin N) :
    Host.reduceWindowAdd (s := ⟨3, ![N, M, C]⟩) ![N, 1, 1] ![1, 1, 1] ![lo, 0, 0] ![hi, 0, 0] x v h hu (ix3 j a b)
      = ((∑ i ∈ range N, (if lo ≤ j.val + i then ext f (j.val + i - lo) else 0) : ℝ) : EReal) := by
  refine Eq.trans ?_ (window_sum x f a b hx h j)
  exact congrArg (fun z => Ideal.hostReduceWindowAdd (s := ⟨3, ![N, M, C]⟩) ![N, 1, 1] ![1, 1, 1] ![lo, 0, 0] ![hi, 0, 0] h x z (ix3 j a b)) (hv _)

/-- Padded in front by one row less than its length, the running sum at a row is the sum of the entries up to it; -/
theorem prefix_sum {N lo : ℕ} (hlo : lo = N - 1) (f : Fin N → ℝ) {j : ℕ} (hj : j < N) :
    ∑ i ∈ range N, (if lo ≤ j + i then ext f (j + i - lo) else 0) = ∑ i ∈ range (j + 1), ext f i := by
  subst hlo
  rw [show range N = range ((N - 1 - j) + (j + 1)) from congrArg range (by omega), sum_range_add, sum_eq_zero fun i hi => if_neg (by have := mem_range.mp hi; omega), zero_add]
  refine sum_congr rfl fun i _ => ?_
  rw [if_pos (by omega)]
  exact congrArg (ext _) (by omega)

end Cert.Step

end
-- ==== Proof.Lib.Taps.lean ====
module

public import proofs.«01_k».proof.Proof.Lib.Window
public import proofs.«01_k».proof.Proof.Lib.Bands

/-! # Causal convolutions tap by tap

A kernel reads a padded column through a window of 192 rows starting 32 rows early, and reaches a tap by rotating the window. The lemmas here turn rotations into
plain shifts, and running sums over chunks of 128 rows into sums over all rows. -/

@[expose] public section

noncomputable section

namespace Cert.Step

open Finset (range)

/-- A rotation that does not wrap, taken backward. -/
theorem rot_back {p k : ℕ} (h : k ≤ p) (h' : p < 192) : (p + 192 - k) % 192 = p - k := by omega

/-- A rotation that does not wrap, taken forward. -/
theorem rot_ahead {p k : ℕ} (h : k ≤ 192) (h' : p + (192 - k) < 192) : (p + 192 - k) % 192 = p + (192 - k) := by omega

/-- The adjoint of `K` causal taps at row `s`: tap `j` was multiplied by the row `K - 1 - j` before. -/
def tapsAhead {N K : ℕ} (W : Fin K → ℝ) (f : Fin N → ℝ) (s : ℕ) : ℝ := ∑ j ∈ range K, ext W j * ext f (s + (K - 1 - j))

/-- Row `s - t` of a column, rows before the first being zero. -/
def before {N : ℕ} (f : Fin N → ℝ) (t s : ℕ) : ℝ := if t ≤ s then ext f (s - t) else 0

theorem pad_before {N H : ℕ} (f : Fin N → ℝ) (s t : ℕ) (h : t ≤ H) : pad H f (H + s - t) = before f t s := by
  unfold before
  by_cases hs : t ≤ s
  · rw [if_pos hs, Nat.add_sub_assoc hs, pad_add]
  · rw [if_neg hs]; exact if_neg (by omega)

/-- `K` causal taps at row `s`. -/
def tapsBack {N K : ℕ} (W : Fin K → ℝ) (f : Fin N → ℝ) (s : ℕ) : ℝ := ∑ j ∈ range K, ext W j * before f (K - 1 - j) s

/-- The gradient of tap `t` rows back: the sum over all rows of the cotangent times the row `t` before. -/
def tapGrad {N : ℕ} (D H : Fin N → ℝ) (t : ℕ) : ℝ := ∑ s : Fin N, D s * before H t s.val

/-- The same sum over the first `k` chunks of 128 rows, kept as eight running sums, one per row number modulo eight. -/
def tapAcc {N : ℕ} (D H : Fin N → ℝ) (t k : ℕ) (a : Fin 8) : ℝ :=
  ∑ i ∈ range k, ∑ x : Fin 16, ext D (128 * i + (x.val * 8 + a.val)) * before H t (128 * i + (x.val * 8 + a.val))

theorem tapAcc_succ {N : ℕ} (D H : Fin N → ℝ) (t k : ℕ) (a : Fin 8) :
    tapAcc D H t (k + 1) a = tapAcc D H t k a + ∑ x : Fin 16, ext D (128 * k + (x.val * 8 + a.val)) * before H t (128 * k + (x.val * 8 + a.val)) :=
  Finset.sum_range_succ _ _

/-- Summing by residue and chunk is summing over all rows. -/
theorem rows_by_residue (f : ℕ → ℝ) : ∑ a : Fin 8, ∑ j ∈ range 32, ∑ x : Fin 16, f (128 * j + (x.val * 8 + a.val)) = ∑ i : Fin 4096, f i.val := by
  rw [Finset.sum_comm]
  have e1 : ∀ j, ∑ a : Fin 8, ∑ x : Fin 16, f (128 * j + (x.val * 8 + a.val)) = ∑ y : Fin 128, f (128 * j + y.val) := fun j => by
    rw [Finset.sum_comm]
    exact sum_bands (N := 16) (B := 8) (L := 128) rfl fun y => f (128 * j + y.val)
  rw [Finset.sum_congr rfl fun j _ => e1 j, ← Fin.sum_univ_eq_sum_range (fun j => ∑ y : Fin 128, f (128 * j + y.val)) 32]
  refine Eq.trans (Finset.sum_congr rfl fun j _ => Finset.sum_congr rfl fun y _ => ?_) (sum_bands (N := 32) (B := 128) (L := 4096) rfl fun i => f i.val)
  exact congrArg f (by show 128 * j.val + y.val = j.val * 128 + y.val; rw [Nat.mul_comm])

theorem tapAcc_all (D H : Fin 4096 → ℝ) (t : ℕ) : ∑ a : Fin 8, tapAcc D H t 32 a = tapGrad D H t := by
  refine (rows_by_residue fun n => ext D n * before H t n).trans (Finset.sum_congr rfl fun s _ => ?_)
  rw [ext_val]

end Cert.Step

end
-- ==== Proof.Lib.Pooling.lean ====
module

public import proofs.«01_k».proof.Proof.Lib.Taps
public import proofs.«01_k».proof.Proof.Lib.LnIdeal
public import Idealize.ShloMosaic.Lib.Pipeline.ValueKit

/-! # Windowed means

What the pooling mixer's two calls share: the four window lengths, the number of rows a mean is over, as the kernel and as the host compute it, and the pooled
difference over real rows. -/

@[expose] public section

set_option maxRecDepth 16384

noncomputable section

namespace Cert.Step

open Idealize.ShloMosaic
open Finset (range sum_congr)

/-- The window of level `l`: 2, 4, 8 or 16 rows. -/
def win (l : ℕ) : ℕ := 2 ^ (l + 1)

/-- How many rows the mean at row `s` of level `l` is over. -/
def cnt (l s : ℕ) : ℝ := ((min (s + 1) (win l) : ℕ) : ℝ)

theorem cnt_ne (l s : ℕ) : cnt l s ≠ 0 := by
  have : 0 < min (s + 1) (win l) := lt_min (Nat.succ_pos s) (Nat.pow_pos (by decide))
  exact Nat.cast_ne_zero.mpr this.ne'

/-- The count at row `n`, as the signed minimum the programs compute. -/
theorem count_real (l : ℕ) (hl : l < 4) (n : ℕ) (hn : n < 4096) :
    (FloatOps.sitofp .f32 (IntOp.minsi (BitVec.ofNat 32 (n + 1)) (BitVec.ofNat 32 (win l)) : BitVec 32) : Ideal .f32) = ((cnt l n : ℝ) : EReal) := by
  have h1 : (BitVec.ofNat 32 (n + 1)).toInt = (n + 1 : ℕ) := by
    have hn : (BitVec.ofNat 32 (n + 1)).toNat = n + 1 := by
      rw [BitVec.toNat_ofNat]; exact Nat.mod_eq_of_lt (by omega)
    rw [BitVec.toInt_eq_toNat_of_lt (by omega), hn]
  have h2 : (BitVec.ofNat 32 (win l)).toInt = (win l : ℕ) := by
    interval_cases l <;> decide +kernel
  have e3 : (IntOp.minsi (BitVec.ofNat 32 (n + 1)) (BitVec.ofNat 32 (win l)) : BitVec 32).toInt = (min (n + 1) (win l) : ℕ) := by
    unfold IntOp.minsi
    rw [BitVec.slt_eq_decide, h1, h2]
    by_cases h : n + 1 < win l
    · rw [if_pos (decide_eq_true (Int.ofNat_lt.mpr h)), h1, min_eq_left h.le]
    · rw [if_neg (fun hd => h (Int.ofNat_lt.mp (of_decide_eq_true hd))), h2, min_eq_right (by omega)]
  show (((IntOp.minsi (BitVec.ofNat 32 (n + 1)) (BitVec.ofNat 32 (win l)) : BitVec 32).toInt : ℝ) : EReal) = _
  rw [e3]; rfl

/-- The count as the kernel makes it, from the chunk number and the row in it. -/
theorem count_bits (l : ℕ) (hl : l < 4) (k : ℕ) (hk : k < 32) (r : Fin 128) :
    (FloatOps.sitofp .f32 (IntOp.minsi (IntOp.addi (IntOp.addi (Scalar.muli (Scf.iv 0#32 1#32 k) 128#32) (BitVec.ofNat 32 r.val)) 1#32) (Scalar.shli (2#32) (BitVec.ofNat 32 l)) : BitVec 32) : Ideal .f32)
      = ((cnt l (128 * k + r.val) : ℝ) : EReal) := by
  have e : (IntOp.addi (IntOp.addi (Scalar.muli (Scf.iv 0#32 1#32 k) 128#32) (BitVec.ofNat 32 r.val)) 1#32 : BitVec 32) = BitVec.ofNat 32 (128 * k + r.val + 1) := by
    exact (by decide +kernel : ∀ (k : Fin 32) (r : Fin 128), (IntOp.addi (IntOp.addi (Scalar.muli (Scf.iv 0#32 1#32 k.val) 128#32) (BitVec.ofNat 32 r.val)) 1#32 : BitVec 32)
      = BitVec.ofNat 32 (128 * k.val + r.val + 1)) ⟨k, hk⟩ r
  rw [e]
  have e2 : (Scalar.shli (2#32) (BitVec.ofNat 32 l) : BitVec 32) = BitVec.ofNat 32 (win l) := by
    interval_cases l <;> decide +kernel
  rw [e2]
  exact count_real l hl _ (by omega)

/-- Which of four values level `l` takes. -/
theorem level_pick (l : ℕ) (hl : l < 4) (A B C D : ℝ) :
    Scalar.select (Scalar.cmpi CmpIPredicate.eq (BitVec.ofNat 32 l) 0#32) (A : EReal) (Scalar.select (Scalar.cmpi CmpIPredicate.eq (BitVec.ofNat 32 l) 1#32) (B : EReal)
        (Scalar.select (Scalar.cmpi CmpIPredicate.eq (BitVec.ofNat 32 l) 2#32) (C : EReal) (D : EReal)))
      = ((if l = 0 then A else if l = 1 then B else if l = 2 then C else D : ℝ) : EReal) := by
  interval_cases l <;> rfl

/-- The level of a column, its channel in the level, and the column of a level's channel. -/
def lev (k : Fin 512) : Fin 4 := ⟨k.val / 128, by omega⟩
def chan (k : Fin 512) : Fin 128 := ⟨k.val % 128, by omega⟩
def col (l : Fin 4) (e : Fin 128) : Fin 512 := ⟨l.val * 128 + e.val, by omega⟩

theorem lev_col (l : Fin 4) (e : Fin 128) : lev (col l e) = l := Fin.ext (by show (l.val * 128 + e.val) / 128 = l.val; omega)
theorem chan_col (l : Fin 4) (e : Fin 128) : chan (col l e) = e := Fin.ext (by show (l.val * 128 + e.val) % 128 = e.val; omega)

theorem col_lev (k : Fin 512) : col (lev k) (chan k) = k := Fin.ext (by show k.val / 128 * 128 + k.val % 128 = k.val; omega)

/-- The column of the projection that feeds column `k` of the pooling mixer. -/
def zcol (k : Fin 512) : Fin 4096 := ⟨3584 + k.val, by omega⟩

/-- The count as the reference computes it. -/
theorem ref_cnt (l : ℕ) (hl : l < 4) {w : ℕ} (hw : w = win l) (i : Fin 4096) :
    (FloatOps.sitofp .f32 (IntOp.minsi (IntOp.addi (1#32) (BitVec.ofNat 32 i.val)) (BitVec.ofNat 32 w) : BitVec 32) : Ideal .f32) = ((cnt l i.val : ℝ) : EReal) := by
  have e : (IntOp.addi (1#32) (BitVec.ofNat 32 i.val) : BitVec 32) = BitVec.ofNat 32 (i.val + 1) := by
    show 1#32 + BitVec.ofNat 32 i.val = _
    rw [Nat.add_comm, BitVec.ofNat_add]
  rw [e, hw]
  exact count_real l hl _ i.isLt

/-- The running sum `w` rows back, zero in the first `w` rows. -/
theorem shift (f : Fin 4096 → ℝ) (w i : ℕ) {g : ¬ i < w → EReal} (hg : ∀ h, g h = ((∑ j ∈ range (i - w + 1), ext f j : ℝ) : EReal)) :
    (if h : i < w then (0 : EReal) else g h) = ((∑ j ∈ range (i + 1 - w), ext f j : ℝ) : EReal) := by
  split
  · rw [show i + 1 - w = 0 by omega, Finset.sum_range_zero]; exact EReal.coe_zero.symm
  · rw [hg, show i - w + 1 = i + 1 - w by omega]

/-- Row `s` of the pooled difference of level `l`: the mean of the rows in the window ending at `s`, less row `s`. -/
def pooled (l : ℕ) (Z : Fin 4096 → Fin 128 → ℝ) (s : ℕ) (e : Fin 128) : ℝ := back (fun r => Z r e) (win l) s / cnt l s - ext (fun r => Z r e) s

end Cert.Step

end
-- ==== Proof.PoolPay.lean ====
/- What the stores of the pooling backward kernel hold, over real numbers. -/
module

public import proofs.«01_k».proof.Proof.Gen.PoolKernelIdeal.Value
public import proofs.«01_k».proof.Proof.Lib.Pooling
public import proofs.«01_k».proof.Proof.Lib.Window
public import proofs.«01_k».proof.Proof.Lib.Real
public import Idealize.ShloMosaic.Lib.Pipeline.ValueKit

@[expose] public section

set_option maxRecDepth 16384

noncomputable section

namespace Cert.Proof.Pool

open Idealize.ShloMosaic Idealize.ShloMosaic.TcCoe Idealize.SL.Sem Cert.PoolKernelIdeal Cert.PoolKernelIdeal.Gen Cert.Step
open Finset (range sum_congr)

theorem trips1 : k0_t1_loop.trips = 32 := by decide +kernel
theorem trips2 : k0_t2_loop.trips = 32 := by decide +kernel
theorem trips3 : k0_t3_loop.trips = 32 := by decide +kernel

/-- The counts of a chunk. -/
theorem pay3 (l : ℕ) (hl : l < 4) (k : Fin k0_t2_loop.trips) (r : Fin 128) (q : Fin 1) :
    k0_pay3 (F := Ideal) (BitVec.ofNat 32 l) 0#32 1#32 k (ix2 r q) = ((cnt l (128 * k.val + r.val) : ℝ) : EReal) := by
  unfold k0_pay3
  pointwise
  exact count_bits l hl k.val (k.isLt.trans_eq trips2) r

/-- The difference of a windowed mean and the row itself. -/
theorem pay4 (l : ℕ) (hl : l < 4) (k : Fin k0_t2_loop.trips) (x : Vec Ideal S192x128 .f32) (X : ℕ → ℝ) (r d : Fin 128)
    (hx : ∀ n (h : n < 192), x (ix2 ⟨n, h⟩ d) = ((X n : ℝ) : EReal)) :
    k0_pay4 (F := Ideal) (BitVec.ofNat 32 l) 0#32 1#32 k x (ix2 r d)
      = (((∑ i ∈ range (win l), X (32 + r.val - i)) / cnt l (128 * k.val + r.val) - X (32 + r.val) : ℝ) : EReal) := by
  unfold k0_pay4
  pointwise
  simp only [hx, pay3 l hl k r]
  have hr := r.isLt
  simp (disch := omega) only [rot_back, Nat.sub_sub, Nat.reduceAdd, add_real]
  rw [level_pick l hl, div_real _ (cnt_ne _ _), sub_real]
  refine congrArg (fun a : ℝ => ((a / cnt l (128 * k.val + r.val) - X (32 + r.val) : ℝ) : EReal)) ?_
  interval_cases l <;>
    simp only [win, Finset.sum_range_succ, Finset.sum_range_zero, Nat.sub_zero, Nat.reduceAdd, Nat.reducePow, reduceIte, Nat.reduceEqDiff, OfNat.one_ne_ofNat, one_ne_zero, OfNat.ofNat_ne_zero, OfNat.ofNat_ne_one] <;>
    ring

/-- The adjoint of the window, run ahead, less the cotangent itself. -/
theorem pay17 (i : grid0.Coords) (k : Fin k0_t3_loop.trips) (x : Vec Ideal S192x128 .f32) (X : ℕ → ℝ) (r d : Fin 128)
    (hx : ∀ n (h : n < 192), x (ix2 ⟨n, h⟩ d) = ((X n : ℝ) : EReal)) :
    k0_pay17 (F := Ideal) i k x (ix2 r d)
      = (((∑ j ∈ range (win (i 0).val), X (32 + r.val + j)) - X (32 + r.val) * cnt (i 0).val (128 * k.val + r.val) : ℝ) : EReal) := by
  have hl : (i 0).val < 4 := (i 0).isLt
  generalize hq : (i 0).val = l at hl ⊢
  unfold k0_pay17
  rw [hq]
  pointwise
  have hc := count_bits l hl k.val (k.isLt.trans_eq trips3) r
  simp only [hx, hc]
  have hr := r.isLt
  simp (disch := omega) only [rot_ahead, Nat.reduceSub]
  simp only [Nat.add_assoc, Nat.reduceAdd, add_real]
  rw [level_pick l hl, mul_real, sub_real]
  refine congrArg (fun a : ℝ => ((a - X (32 + r.val) * cnt l (128 * k.val + r.val) : ℝ) : EReal)) ?_
  interval_cases l <;>
    simp only [win, Finset.sum_range_succ, Finset.sum_range_zero, Nat.add_zero, Nat.add_assoc, Nat.reduceAdd, Nat.reducePow, reduceIte, Nat.reduceEqDiff, OfNat.one_ne_ofNat, one_ne_zero, OfNat.ofNat_ne_zero, OfNat.ofNat_ne_one] <;>
    ring

theorem pay1 (x : Vec Ideal S128x128 .f32) (q : Fin 1) (a b : Fin 128) : k0_pay1 (F := Ideal) x (ix3 q a b) = x (ix2 a b) := by
  unfold k0_pay1
  pointwise

/-- The eight partial sums, summed. -/
theorem pay2 (x : Vec Ideal S8x128 .f32) (q : Fin 1) (b : Fin 128) : k0_pay2 (F := Ideal) x (ix2 q b) = ∑ j : Fin 8, x (ix2 j b) := by
  unfold k0_pay2
  pointwise

theorem pay7 (y : S4160x128.Idx) : k0_pay7 (F := Ideal) y = ((0 : ℝ) : EReal) := by
  idx_vars y
  unfold k0_pay7
  pointwise
  exact EReal.coe_zero.symm

theorem pay8 (y : S4160x128.Idx) : k0_pay8 (F := Ideal) y = ((0 : ℝ) : EReal) := by
  idx_vars y
  unfold k0_pay8
  pointwise
  exact EReal.coe_zero.symm

theorem pay9 (y : S128x128.Idx) : k0_pay9 (F := Ideal) y = ((0 : ℝ) : EReal) := by
  idx_vars y
  unfold k0_pay9
  pointwise
  exact EReal.coe_zero.symm

theorem pay10 (y : S8x128.Idx) : k0_pay10 (F := Ideal) y = ((0 : ℝ) : EReal) := by
  idx_vars y
  unfold k0_pay10
  pointwise
  exact EReal.coe_zero.symm

theorem pay11 (x : Vec Ideal S128x128 .f32) (a b : Fin 128) : k0_pay11 (F := Ideal) x (ix2 a b) = x (ix2 a b) := by
  unfold k0_pay11
  pointwise

theorem pay12 (x : Vec Ideal S1x128x128 .f32) (a b : Fin 128) : k0_pay12 (F := Ideal) x (ix2 a b) = x (ix3 0 a b) := by
  unfold k0_pay12
  pointwise

theorem pay5 (x : Vec Ideal S128x128 .bf16) (a b : Fin 128) : k0_pay5 (F := Ideal) x (ix2 a b) = x (ix2 a b) := by
  unfold k0_pay5
  pointwise

/-- The eight running sums of one trip for the scale gradient. -/
theorem pay13 (l : ℕ) (v17 : Vec Ideal S1x128x128 .f32) (k : Fin k0_t2_loop.trips) (v33 : Vec Ideal S192x128 .f32) (v65 : Vec Ideal S128x128 .bf16) (v68 : Vec Ideal S8x128 .f32) (P D W : Fin 128 → Fin 128 → ℝ) (A : ℝ)
    (a : Fin 8) (b : Fin 128)
    (hP : ∀ r d, k0_pay4 (F := Ideal) (BitVec.ofNat 32 l) 0#32 1#32 k v33 (ix2 r d) = ((P r d : ℝ) : EReal))
    (hD : ∀ r d, v65 (ix2 r d) = ((D r d : ℝ) : EReal)) (hW : ∀ e d, v17 (ix3 0 e d) = ((W e d : ℝ) : EReal)) (hA : v68 (ix2 a b) = ((A : ℝ) : EReal)) :
    k0_pay13 (F := Ideal) (k0_pay6 (F := Ideal) (BitVec.ofNat 32 l) (k0_pay12 v17) 0#32 1#32 k v33 v65 v68) (ix2 a b)
      = ((A + ∑ x : Fin 16, D ⟨x.val * 8 + a.val, by omega⟩ b * ∑ e : Fin 128, P ⟨x.val * 8 + a.val, by omega⟩ e * W e b : ℝ) : EReal) := by
  unfold k0_pay13 k0_pay6
  pointwise
  simp only [hP, pay5, hD, pay12, hW, hA, mul_real, sum_real, add_real]

/-- One trip's product for the weight gradient, added. -/
theorem pay15 (v62 : FVec Ideal S128x128 .bf16) (v67 : FVec Ideal S128x128 .f32) (v76 : Vec Ideal S1x128 .f32) (v81 : Vec Ideal S128x128 .f32) (P D : Fin 128 → Fin 128 → ℝ) (S : Fin 128 → ℝ) (A : ℝ) (a b : Fin 128)
    (hP : ∀ r d, v62 (ix2 r d) = ((P r d : ℝ) : EReal)) (hD : ∀ r d, v67 (ix2 r d) = ((D r d : ℝ) : EReal)) (hS : ∀ d, v76 (ix2 0 d) = ((S d : ℝ) : EReal)) (hA : v81 (ix2 a b) = ((A : ℝ) : EReal)) :
    k0_pay15 (F := Ideal) v62 v67 v76 v81 (ix2 a b) = ((A + ∑ x : Fin 128, P x a * (D x b * S b) : ℝ) : EReal) := by
  unfold k0_pay15 k0_pay14
  pointwise
  simp only [hP, hD, hS, hA, mul_real, sum_real, add_real]

/-- The pooled cotangent over the count. -/
theorem pay16 (v17 : Vec Ideal S1x128x128 .f32) (v42 : FVec Ideal S128x1 .f32) (v67 : FVec Ideal S128x128 .f32) (v76 : Vec Ideal S1x128 .f32) (D W : Fin 128 → Fin 128 → ℝ) (S : Fin 128 → ℝ) (C : ℝ) (hC : C ≠ 0) (a b : Fin 128)
    (hD : ∀ r d, v67 (ix2 r d) = ((D r d : ℝ) : EReal)) (hW : ∀ e d, v17 (ix3 0 e d) = ((W e d : ℝ) : EReal)) (hS : ∀ d, v76 (ix2 0 d) = ((S d : ℝ) : EReal)) (h42 : v42 (ix2 a 0) = ((C : ℝ) : EReal)) :
    k0_pay16 (F := Ideal) v17 v42 v67 v76 (ix2 a b) = (((∑ x : Fin 128, D a x * S x * W b x) / C : ℝ) : EReal) := by
  unfold k0_pay16 k0_pay14
  pointwise
  simp only [hD, hS, pay12, hW, h42, mul_real, sum_real]
  exact div_real _ hC

end Cert.Proof.Pool
end
-- ==== Proof.Lib.Loop.lean ====
module

public import Idealize.ShloMosaic.Lib.Pipeline.ValueKit

/-! # What a counted loop leaves in a buffer

A counted loop's stores are a list that grows by one store per trip. Two kinds occur here: trip `k` stores the `k`-th band of rows, or trip `k` stores over the whole
buffer a value made of what it held (an accumulator). -/

@[expose] public section

noncomputable section

namespace Cert.Step

open Idealize.ShloMosaic

variable {Val : EltTy → Type} [∀ e, Nonempty (Val e)] {e : EltTy}

/-- Where a band of rows puts its entries. -/
theorem emb_band {N W R o : ℕ} {off : Fin 2 → ℕ} (h : off = ![o, 0]) (inb : ∀ a : Fin 2, off a + (![R, W] : Fin 2 → ℕ) a ≤ (![N, W] : Fin 2 → ℕ) a)
    (r : Fin R) (b : Fin W) (hr : o + r.val < N) : (Rect.unit (s := ⟨2, ![N, W]⟩) off ![R, W] inb).emb (ix2 r b) = ix2 (⟨o + r.val, hr⟩ : Fin N) b := by
  subst h
  funext a
  revert a
  refine Fin.forall_fin_two.mpr ⟨Fin.ext ?_, Fin.ext ?_⟩
  · show o + 1 * r.val = o + r.val; omega
  · show 0 + 1 * b.val = b.val; omega

/-- Where a load of a band of rows takes its entries. -/
theorem idx_band {N W R o : ℕ} {off : Fin 2 → ℕ} (h : off = ![o, 0]) (inb : ∀ a : Fin 2, off a + (![R, W] : Fin 2 → ℕ) a ≤ (![N, W] : Fin 2 → ℕ) a)
    (r : Fin R) (b : Fin W) (hr : o + r.val < N) : (Rect.unit (s := ⟨2, ![N, W]⟩) off ![R, W] inb).toLoadRect.idx (ix2 r b) = ix2 (⟨o + r.val, hr⟩ : Fin N) b := by
  subst h
  funext a
  revert a
  refine Fin.forall_fin_two.mpr ⟨Fin.ext ?_, Fin.ext ?_⟩
  · show o + 1 * r.val = o + r.val; omega
  · show 0 + 1 * b.val = b.val; omega

/-- A loop whose trip `k` stores rows `o + R*k … o + R*(k+1)` of one array `G` leaves `G` on the rows stored so far, and elsewhere what the earlier stores `L` left. -/
theorem canon_bands {N W R o n : ℕ} (G : (⟨2, ![N, W]⟩ : Shape).Idx → Val e) (P : ℕ → List (View.Piece Val ⟨2, ![N, W]⟩ e)) (L : List (View.Piece Val ⟨2, ![N, W]⟩ e))
    (h0 : P 0 = [])
    (hs : ∀ k < n, ∃ (off : Fin 2 → ℕ) (inb : ∀ a : Fin 2, off a + (![R, W] : Fin 2 → ℕ) a ≤ (![N, W] : Fin 2 → ℕ) a)
      (w : (Rect.unit (s := ⟨2, ![N, W]⟩) off ![R, W] inb).shape.Idx → Val e),
      P (k + 1) = ⟨Rect.unit off ![R, W] inb, w⟩ :: P k ∧ off = ![o + R * k, 0]
        ∧ ∀ (r : Fin R) (b : Fin W) (h : o + R * k + r.val < N), w (ix2 r b) = G (ix2 (⟨o + R * k + r.val, h⟩ : Fin N) b)) :
    ∀ k ≤ n, ∀ y : (⟨2, ![N, W]⟩ : Shape).Idx,
      View.canon (P k ++ L) y = if o ≤ (y 0).val ∧ (y 0).val < o + R * k then G y else View.canon L y := by
  intro k
  induction k with
  | zero => intro _ y; rw [h0, if_neg (by omega)]; rfl
  | succ k ih =>
    intro hk y
    obtain ⟨off, inb, w, hP, hoff, hw⟩ := hs k hk
    rw [hP]
    have hm : y ∈ (Rect.unit (s := ⟨2, ![N, W]⟩) off ![R, W] inb).set ↔ (o + R * k ≤ (y 0).val ∧ (y 0).val < o + R * k + R) := by
      rw [Rect.mem_set_unit]
      subst hoff
      constructor
      · intro h; exact h 0
      · intro h a
        revert a
        refine Fin.forall_fin_two.mpr ⟨h, Nat.zero_le _, ?_⟩
        show (y 1).val < 0 + W
        have : (y 1).val < W := (y 1).isLt
        omega
    have hR : R * (k + 1) = R * k + R := Nat.mul_succ R k
    by_cases hy : y ∈ (Rect.unit (s := ⟨2, ![N, W]⟩) off ![R, W] inb).set
    · have h := hm.mp hy
      rw [if_pos (by omega)]
      obtain ⟨x, rfl⟩ := (Rect.unit (s := ⟨2, ![N, W]⟩) off ![R, W] inb).exists_idx_of_mem hy
      refine (View.canon_cons_emb _ w (P k ++ L) x).trans ?_
      have hin : o + R * k + R ≤ N := by have := inb 0; subst hoff; exact this
      have hx : ∀ x : (⟨2, ![R, W]⟩ : Shape).Idx, w x = G ((Rect.unit (s := ⟨2, ![N, W]⟩) off ![R, W] inb).emb x) := by
        intro x
        rw [eq_ix2 x]
        have hr : (x 0).val < R := (x 0).isLt
        exact (hw (x 0) (x 1) (by omega)).trans (congrArg G (emb_band hoff inb (x 0) (x 1) (by omega)).symm)
      exact hx x
    · have h := mt hm.mpr hy
      refine (View.canon_cons_of_not_mem _ (P k ++ L) hy).trans ?_
      rw [ih (Nat.le_of_succ_le hk) y]
      by_cases h' : o ≤ (y 0).val ∧ (y 0).val < o + R * k
      · rw [if_pos h', if_pos (by omega)]
      · rw [if_neg h', if_neg (by omega)]

/-- A loop whose trip `k` stores over the whole buffer the value `A (k + 1)`, provided that it found `A k`, leaves `A k` after `k` trips. -/
theorem canon_fold {S : Shape} {n : ℕ} (A : ℕ → S.Idx → Val e) (P : ℕ → List (View.Piece Val S e)) (L : List (View.Piece Val S e))
    (h0 : P 0 = []) (hL : View.canon L = A 0)
    (hs : ∀ k < n, View.canon (P k ++ L) = A k → ∃ (off : Fin S.rank → ℕ) (inb : ∀ a, off a + S.size a ≤ S.size a)
      (w : (Rect.unit off S.size inb).shape.Idx → Val e), P (k + 1) = ⟨Rect.unit off S.size inb, w⟩ :: P k ∧ (∀ a, off a = 0) ∧ w = A (k + 1)) :
    ∀ k ≤ n, View.canon (P k ++ L) = A k := by
  intro k
  induction k with
  | zero => intro _; rw [h0]; exact hL
  | succ k ih =>
    intro hk
    obtain ⟨off, inb, w, hP, hoff, hw⟩ := hs k hk (ih (Nat.le_of_succ_le hk))
    rw [hP, ← hw]
    exact View.canon_cons_unit_lit inb w (P k ++ L) hoff

/-- A load of a whole buffer, of what the pieces `P` over the earlier pieces `L` left. -/
theorem held {sig : RefSig} {κ : Kind} {sp : Space} {S : Shape} (v : View sig κ sp S e) (P L : List (View.Piece Val S e)) {off : Fin S.rank → ℕ} (inb : ∀ a, off a + S.size a ≤ S.size a) (h : ∀ a, off a = 0) :
    v.readAt Val (Rect.unit off S.size inb).toLoadRect (v.writes Val (v.writes Val v.junk L) P) = View.canon (P ++ L) := by
  rw [← View.writes_append, View.readAt_eq_ld, View.read_writes_junk_eq_canon]
  exact View.ld_unit_lit inb _ h

end Cert.Step

end
-- ==== Proof.PoolTrips.lean ====
/- What the three counted loops of the pooling backward kernel leave. -/
module

public import proofs.«01_k».proof.Proof.PoolPay
public import proofs.«01_k».proof.Proof.Lib.Loop

@[expose] public section

set_option maxRecDepth 16384

noncomputable section

namespace Cert.Proof.Pool

open Idealize.ShloMosaic Idealize.ShloMosaic.TcCoe Idealize.SL.Sem Cert.PoolKernelIdeal Cert.PoolKernelIdeal.Gen Cert.Step
open Finset (range)

variable {c : Dev nD} {i : grid0.Coords} {arg1 : Memref sig .tc .vmem S4096x128 .f32} {harg1 : arg1.IsWhole} {arg2 : Memref sig .tc .vmem S4096x128 .bf16} {harg2 : arg2.IsWhole} {arg3 : Memref sig .tc .vmem S1x128x128 .f32} {harg3 : arg3.IsWhole} {arg4 : Memref sig .tc .vmem S1x128 .f32} {harg4 : arg4.IsWhole} {arg5 : Memref sig .tc .vmem S4096x128 .bf16} {harg5 : arg5.IsWhole} {arg6 : Memref sig .tc .vmem S1x128x128 .f32} {harg6 : arg6.IsWhole} {arg7 : Memref sig .tc .vmem S1x128 .f32} {harg7 : arg7.IsWhole} {arg8 : Memref sig .tc .vmem S4160x128 .f32} {harg8 : arg8.IsWhole} {arg9 : Memref sig .tc .vmem S4160x128 .f32} {harg9 : arg9.IsWhole} {arg10 : Memref sig .tc .vmem S128x128 .f32} {harg10 : arg10.IsWhole} {arg11 : Memref sig .tc .vmem S8x128 .f32} {harg11 : arg11.IsWhole}

/-- The piece one trip of the first loop stores. -/
theorem trip1 (X : BufTy.Contents (Elt Ideal) arg1.view.ty) (k : Fin k0_t1_loop.trips) :
    tripL_k0_t1 Variants.none c none i arg1 harg1 arg2 harg2 arg3 harg3 arg4 harg4 arg5 harg5 arg6 harg6 arg7 harg7 arg8 harg8 arg9 harg9 arg10 harg10 arg11 harg11 X k
      = [⟨Rect.unit (k0_off2 k) S128x128.size (k0_off2_inb k), k0_pay11 (F := Ideal) (arg1.view.readAt (Elt Ideal) (Rect.unit (s := S4096x128) (k0_off1 k) S128x128.size (k0_off1_inb k)).toLoadRect X)⟩] := by
  unfold tripL_k0_t1 trip_k0_t1
  rfl

/-- The pieces one trip of the second loop stores. -/
theorem trip2 (arg0 : BitVec 32) (v17 : Vec Ideal S1x128x128 .f32) (X2 : BufTy.Contents (Elt Ideal) arg2.view.ty) (X4 : BufTy.Contents (Elt Ideal) arg4.view.ty) (X8 : BufTy.Contents (Elt Ideal) arg8.view.ty) (k : Fin k0_t2_loop.trips)
    (f9 : BufTy.Contents (Elt Ideal) arg9.view.ty) (f10 : BufTy.Contents (Elt Ideal) arg10.view.ty) (f11 : BufTy.Contents (Elt Ideal) arg11.view.ty) :
    tripL_k0_t2 Variants.none c none i arg1 harg1 arg2 harg2 arg3 harg3 arg4 harg4 arg5 harg5 arg6 harg6 arg7 harg7 arg8 harg8 arg9 harg9 arg10 harg10 arg11 harg11 arg0 v17 X2 X4 X8 k f9 f10 f11
      = ([⟨Rect.unit (k0_off5 k) S128x128.size (k0_off5_inb k),
            k0_pay16 (F := Ideal) v17 (k0_pay3 (F := Ideal) arg0 0#32 1#32 k) (k0_pay5 (F := Ideal) (arg2.view.readAt (Elt Ideal) (Rect.unit (s := S4096x128) (k0_off4 k) S128x128.size (k0_off4_inb k)).toLoadRect X2))
              (arg4.view.readAt (Elt Ideal) (Rect.unit (s := S1x128) ![0, 0] S1x128.size inb_S1x128_S1x128_0_0).toLoadRect X4)⟩],
         [⟨Rect.unit ![0, 0] S128x128.size inb_S128x128_S128x128_0_0,
            k0_pay15 (F := Ideal) (k0_pay4 (F := Ideal) arg0 0#32 1#32 k (arg8.view.readAt (Elt Ideal) (Rect.unit (s := S4160x128) (k0_off3 k) S192x128.size (k0_off3_inb k)).toLoadRect X8))
              (k0_pay5 (F := Ideal) (arg2.view.readAt (Elt Ideal) (Rect.unit (s := S4096x128) (k0_off4 k) S128x128.size (k0_off4_inb k)).toLoadRect X2))
              (arg4.view.readAt (Elt Ideal) (Rect.unit (s := S1x128) ![0, 0] S1x128.size inb_S1x128_S1x128_0_0).toLoadRect X4)
              (arg10.view.readAt (Elt Ideal) (Rect.unit (s := S128x128) ![0, 0] S128x128.size inb_S128x128_S128x128_0_0).toLoadRect f10)⟩],
         [⟨Rect.unit ![0, 0] S8x128.size inb_S8x128_S8x128_0_0,
            k0_pay13 (F := Ideal) (k0_pay6 (F := Ideal) arg0 (k0_pay12 (F := Ideal) v17) 0#32 1#32 k (arg8.view.readAt (Elt Ideal) (Rect.unit (s := S4160x128) (k0_off3 k) S192x128.size (k0_off3_inb k)).toLoadRect X8)
              (arg2.view.readAt (Elt Ideal) (Rect.unit (s := S4096x128) (k0_off4 k) S128x128.size (k0_off4_inb k)).toLoadRect X2)
              (arg11.view.readAt (Elt Ideal) (Rect.unit (s := S8x128) ![0, 0] S8x128.size inb_S8x128_S8x128_0_0).toLoadRect f11))⟩]) := by
  unfold tripL_k0_t2 trip_k0_t2
  rfl

/-- The piece one trip of the third loop stores. -/
theorem trip3 (X9 : BufTy.Contents (Elt Ideal) arg9.view.ty) (k : Fin k0_t3_loop.trips) :
    tripL_k0_t3 Variants.none c none i arg1 harg1 arg2 harg2 arg3 harg3 arg4 harg4 arg5 harg5 arg6 harg6 arg7 harg7 arg8 harg8 arg9 harg9 arg10 harg10 arg11 harg11 X9 k
      = [⟨Rect.unit (k0_off7 k) S128x128.size (k0_off7_inb k), k0_pay17 (F := Ideal) i k (arg9.view.readAt (Elt Ideal) (Rect.unit (s := S4160x128) (k0_off6 k) S192x128.size (k0_off6_inb k)).toLoadRect X9)⟩] := by
  unfold tripL_k0_t3 trip_k0_t3
  rfl

theorem off1 : ∀ k : Fin k0_t1_loop.trips, k0_off1 k = ![128 * k.val, 0] ∧ k0_off2 k = ![32 + 128 * k.val, 0] := by decide +kernel
theorem off2 : ∀ k : Fin k0_t2_loop.trips, k0_off3 k = ![128 * k.val, 0] ∧ k0_off4 k = ![128 * k.val, 0] ∧ k0_off5 k = ![32 + 128 * k.val, 0] := by decide +kernel
theorem off3 : ∀ k : Fin k0_t3_loop.trips, k0_off6 k = ![128 * k.val, 0] ∧ k0_off7 k = ![0 + 128 * k.val, 0] := by decide +kernel

end Cert.Proof.Pool
end
-- ==== Proof.PoolLoops.lean ====
/- What the three counted loops of the pooling backward kernel leave. -/
module

public import proofs.«01_k».proof.Proof.PoolTrips

@[expose] public section

set_option maxRecDepth 16384

noncomputable section

namespace Cert.Proof.Pool

open Idealize.ShloMosaic Idealize.ShloMosaic.TcCoe Idealize.SL.Sem Cert.PoolKernelIdeal Cert.PoolKernelIdeal.Gen Cert.Step
open Finset (range)

variable {c : Dev nD} {i : grid0.Coords} {arg1 : Memref sig .tc .vmem S4096x128 .f32} {harg1 : arg1.IsWhole} {arg2 : Memref sig .tc .vmem S4096x128 .bf16} {harg2 : arg2.IsWhole} {arg3 : Memref sig .tc .vmem S1x128x128 .f32} {harg3 : arg3.IsWhole} {arg4 : Memref sig .tc .vmem S1x128 .f32} {harg4 : arg4.IsWhole} {arg5 : Memref sig .tc .vmem S4096x128 .bf16} {harg5 : arg5.IsWhole} {arg6 : Memref sig .tc .vmem S1x128x128 .f32} {harg6 : arg6.IsWhole} {arg7 : Memref sig .tc .vmem S1x128 .f32} {harg7 : arg7.IsWhole} {arg8 : Memref sig .tc .vmem S4160x128 .f32} {harg8 : arg8.IsWhole} {arg9 : Memref sig .tc .vmem S4160x128 .f32} {harg9 : arg9.IsWhole} {arg10 : Memref sig .tc .vmem S128x128 .f32} {harg10 : arg10.IsWhole} {arg11 : Memref sig .tc .vmem S8x128 .f32} {harg11 : arg11.IsWhole}

/-- The cotangent of the pooled difference, over the count. -/
def quot (l : ℕ) (D : Fin 4096 → Fin 128 → ℝ) (W : Fin 128 → Fin 128 → ℝ) (S : Fin 128 → ℝ) (e : Fin 128) (s : Fin 4096) : ℝ := (∑ x, D s x * S x * W e x) / cnt l s.val

/-- The weight gradient over the first `k` chunks. -/
def accW (l : ℕ) (Z D : Fin 4096 → Fin 128 → ℝ) (S : Fin 128 → ℝ) (k : ℕ) (a b : Fin 128) : ℝ :=
  ∑ j ∈ range k, ∑ x : Fin 128, pooled l Z (128 * j + x.val) a * (ext (fun s => D s b) (128 * j + x.val) * S b)

/-- The scale gradient's eight running sums over the first `k` chunks. -/
def accS (l : ℕ) (Z D : Fin 4096 → Fin 128 → ℝ) (W : Fin 128 → Fin 128 → ℝ) (k : ℕ) (a : Fin 8) (b : Fin 128) : ℝ :=
  ∑ j ∈ range k, ∑ x : Fin 16, ext (fun s => D s b) (128 * j + (x.val * 8 + a.val)) * ∑ e : Fin 128, pooled l Z (128 * j + (x.val * 8 + a.val)) e * W e b

variable {x0 : Vec Ideal S4096x128 .f32} {x1 : Vec Ideal S4096x128 .bf16} {x2 : Vec Ideal S1x128x128 .f32} {x3 : Vec Ideal S1x128 .f32}
  {Z D : Fin 4096 → Fin 128 → ℝ} {W : Fin 128 → Fin 128 → ℝ} {S : Fin 128 → ℝ}

/-- After the first loop the padded buffer holds the rows below 32 rows of zeros. -/
theorem loop1 (hZ : ∀ s e, x0 (ix2 s e) = ((Z s e : ℝ) : EReal)) :
    View.canon (pb_k0_t1 (F := Ideal) Variants.none c none i arg1 harg1 arg2 harg2 arg3 harg3 arg4 harg4 arg5 harg5 arg6 harg6 arg7 harg7 arg8 harg8 arg9 harg9 arg10 harg10 arg11 harg11 (harg1.unread x0) 32 ++ kernelRun0_A.sl.HS0_1) = fun y : S4160x128.Idx => ((pad 32 (fun r => Z r (y 1)) (y 0).val : ℝ) : EReal) := by
  have hz : View.canon (kernelRun0_A.sl.HS0_1 (F := Ideal)) = fun _ : S4160x128.Idx => ((0 : ℝ) : EReal) :=
    (View.canon_cons_unit_lit _ _ _ (by decide)).trans (funext pay7)
  refine funext fun y => ((canon_bands (o := 32) (R := 128) (n := 32) (fun y : S4160x128.Idx => ((pad 32 (fun r => Z r (y 1)) (y 0).val : ℝ) : EReal))
    (pb_k0_t1 (F := Ideal) Variants.none c none i arg1 harg1 arg2 harg2 arg3 harg3 arg4 harg4 arg5 harg5 arg6 harg6 arg7 harg7 arg8 harg8 arg9 harg9 arg10 harg10 arg11 harg11 (harg1.unread x0)) kernelRun0_A.sl.HS0_1 rfl (fun k hk => ?_) 32 le_rfl y)).trans ?_
  · have hk' : k < k0_t1_loop.trips := hk.trans_eq trips1.symm
    refine ⟨k0_off2 ⟨k, hk'⟩, k0_off2_inb ⟨k, hk'⟩, _, (pb_k0_t1_succ _ _ _ _ _ _ _ _ _ _ _ _ _ _ _ _ _ _ _ _ _ _ _ _ _ _ _  ⟨k, hk'⟩).trans (congrArg (· ++ _) (trip1 _ ⟨k, hk'⟩)), (off1 ⟨k, hk'⟩).2, fun r d h => ?_⟩
    refine (pay11 _ r d).trans ((congrFun (Memref.IsWhole.read_unread harg1 x0) _).trans ?_)
    refine (congrArg x0 (idx_band (off1 ⟨k, hk'⟩).1 _ r d (by show 128 * k + r.val < 4096; have := r.isLt; omega))).trans ((hZ _ _).trans ?_)
    refine congrArg ((↑) : ℝ → EReal) ?_
    show Z ⟨128 * k + r.val, _⟩ d = pad 32 (fun s => Z s d) (32 + 128 * k + r.val)
    rw [Nat.add_assoc, pad_add]
    exact (ext_val (fun s => Z s d) ⟨128 * k + r.val, _⟩).symm
  · rw [hz]
    split
    · rfl
    · next h => exact congrArg ((↑) : ℝ → EReal) (pad_out (fun s => Z s (y 1)) (by omega)).symm

variable {v17 : Vec Ideal S1x128x128 .f32} {X8 : BufTy.Contents (Elt Ideal) arg8.view.ty}

theorem load8 (hX8 : arg8.view.read (Elt Ideal) X8 = fun y : S4160x128.Idx => ((pad 32 (fun r => Z r (y 1)) (y 0).val : ℝ) : EReal)) (k : Fin k0_t2_loop.trips) (d : Fin 128) :
    ∀ n (h : n < 192), arg8.view.readAt (Elt Ideal) (Rect.unit (s := S4160x128) (k0_off3 k) S192x128.size (k0_off3_inb k)).toLoadRect X8 (ix2 (⟨n, h⟩ : Fin 192) d)
      = ((pad 32 (fun r => Z r d) (128 * k.val + n) : ℝ) : EReal) := fun n h => by
  have hk := k.isLt.trans_eq trips2
  exact (congrFun hX8 _).trans (congrArg (fun y : S4160x128.Idx => ((pad 32 (fun r => Z r (y 1)) (y 0).val : ℝ) : EReal))
    (idx_band (off2 k).1 (k0_off3_inb k) (⟨n, h⟩ : Fin 192) d (by show 128 * k.val + n < 4160; omega)))

theorem load2 (hD : ∀ s e, x1 (ix2 s e) = ((D s e : ℝ) : EReal)) (k : Fin k0_t2_loop.trips) (r d : Fin 128) :
    arg2.view.readAt (Elt Ideal) (Rect.unit (s := S4096x128) (k0_off4 k) S128x128.size (k0_off4_inb k)).toLoadRect (harg2.unread x1) (ix2 r d)
      = ((ext (fun s => D s d) (128 * k.val + r.val) : ℝ) : EReal) := by
  have hk := k.isLt.trans_eq trips2
  have hb : 128 * k.val + r.val < 4096 := by have := r.isLt; omega
  refine (congrFun (Memref.IsWhole.read_unread harg2 x1) _).trans ((congrArg x1 (idx_band (off2 k).2.1 (k0_off4_inb k) r d hb)).trans ((hD _ _).trans ?_))
  exact congrArg ((↑) : ℝ → EReal) (ext_val (fun s => D s d) ⟨128 * k.val + r.val, hb⟩).symm

theorem load4 (hS : ∀ d, x3 (ix2 0 d) = ((S d : ℝ) : EReal)) (d : Fin 128) :
    arg4.view.readAt (Elt Ideal) (Rect.unit (s := S1x128) ![0, 0] S1x128.size inb_S1x128_S1x128_0_0).toLoadRect (harg4.unread x3) (ix2 0 d) = ((S d : ℝ) : EReal) :=
  (congrFun (Memref.IsWhole.read_unread harg4 x3) _).trans ((congrArg x3 (idx_band (o := 0) rfl inb_S1x128_S1x128_0_0 0 d (by decide))).trans (hS d))

/-- The pooled difference of a chunk. -/
theorem chunk (hX8 : arg8.view.read (Elt Ideal) X8 = fun y : S4160x128.Idx => ((pad 32 (fun r => Z r (y 1)) (y 0).val : ℝ) : EReal)) (l : ℕ) (hl : l < 4) (k : Fin k0_t2_loop.trips) (r d : Fin 128) :
    k0_pay4 (F := Ideal) (BitVec.ofNat 32 l) 0#32 1#32 k (arg8.view.readAt (Elt Ideal) (Rect.unit (s := S4160x128) (k0_off3 k) S192x128.size (k0_off3_inb k)).toLoadRect X8) (ix2 r d)
      = ((pooled l Z (128 * k.val + r.val) d : ℝ) : EReal) := by
  refine (pay4 l hl k _ (fun n => pad 32 (fun r => Z r d) (128 * k.val + n)) r d (load8 hX8 k d)).trans (congrArg ((↑) : ℝ → EReal) ?_)
  have hw : win l ≤ 16 := by interval_cases l <;> decide
  have e : ∀ j ∈ range (win l), pad 32 (fun r => Z r d) (128 * k.val + (32 + r.val - j)) = pad 32 (fun r => Z r d) (32 + (128 * k.val + r.val) - j) := fun j hj =>
    congrArg _ (by have := Finset.mem_range.mp hj; omega)
  show (∑ j ∈ range (win l), pad 32 (fun r => Z r d) (128 * k.val + (32 + r.val - j))) / cnt l (128 * k.val + r.val) - pad 32 (fun r => Z r d) (128 * k.val + (32 + r.val)) = _
  rw [Finset.sum_congr rfl e, back_pad _ _ (by omega), show 128 * k.val + (32 + r.val) = 32 + (128 * k.val + r.val) by omega, pad_add]
  rfl

variable {L9 : List (View.Piece (Elt Ideal) S4160x128 .f32)} {L10 : List (View.Piece (Elt Ideal) S128x128 .f32)} {L11 : List (View.Piece (Elt Ideal) S8x128 .f32)}

/-- The second loop's pieces after `k` trips. -/
abbrev P2 (c : Dev nD) (i : grid0.Coords) (arg1 : Memref sig .tc .vmem S4096x128 .f32) (harg1 : arg1.IsWhole) (arg2 : Memref sig .tc .vmem S4096x128 .bf16) (harg2 : arg2.IsWhole) (arg3 : Memref sig .tc .vmem S1x128x128 .f32) (harg3 : arg3.IsWhole) (arg4 : Memref sig .tc .vmem S1x128 .f32) (harg4 : arg4.IsWhole) (arg5 : Memref sig .tc .vmem S4096x128 .bf16) (harg5 : arg5.IsWhole) (arg6 : Memref sig .tc .vmem S1x128x128 .f32) (harg6 : arg6.IsWhole) (arg7 : Memref sig .tc .vmem S1x128 .f32) (harg7 : arg7.IsWhole) (arg8 : Memref sig .tc .vmem S4160x128 .f32) (harg8 : arg8.IsWhole) (arg9 : Memref sig .tc .vmem S4160x128 .f32) (harg9 : arg9.IsWhole) (arg10 : Memref sig .tc .vmem S128x128 .f32) (harg10 : arg10.IsWhole) (arg11 : Memref sig .tc .vmem S8x128 .f32) (harg11 : arg11.IsWhole) (v17 : Vec Ideal S1x128x128 .f32) (x1 : Vec Ideal S4096x128 .bf16) (x3 : Vec Ideal S1x128 .f32) (X8 : BufTy.Contents (Elt Ideal) arg8.view.ty)
    (L9 : List (View.Piece (Elt Ideal) S4160x128 .f32)) (L10 : List (View.Piece (Elt Ideal) S128x128 .f32)) (L11 : List (View.Piece (Elt Ideal) S8x128 .f32)) :=
  pb_k0_t2 (F := Ideal) Variants.none c none i arg1 harg1 arg2 harg2 arg3 harg3 arg4 harg4 arg5 harg5 arg6 harg6 arg7 harg7 arg8 harg8 arg9 harg9 arg10 harg10 arg11 harg11 (BitVec.ofNat 32 (i 0).val) v17 (harg2.unread x1) (harg4.unread x3) X8 (arg9.view.writes (Elt Ideal) arg9.view.junk L9) (arg10.view.writes (Elt Ideal) arg10.view.junk L10) (arg11.view.writes (Elt Ideal) arg11.view.junk L11)

theorem step9 (k : ℕ) (hk : k < k0_t2_loop.trips) :
    (P2 c i arg1 harg1 arg2 harg2 arg3 harg3 arg4 harg4 arg5 harg5 arg6 harg6 arg7 harg7 arg8 harg8 arg9 harg9 arg10 harg10 arg11 harg11 v17 x1 x3 X8 L9 L10 L11 (k + 1)).1 = ⟨Rect.unit (k0_off5 ⟨k, hk⟩) S128x128.size (k0_off5_inb ⟨k, hk⟩),
            k0_pay16 (F := Ideal) v17 (k0_pay3 (F := Ideal) (BitVec.ofNat 32 (i 0).val) 0#32 1#32 ⟨k, hk⟩) (k0_pay5 (F := Ideal) (arg2.view.readAt (Elt Ideal) (Rect.unit (s := S4096x128) (k0_off4 ⟨k, hk⟩) S128x128.size (k0_off4_inb ⟨k, hk⟩)).toLoadRect (harg2.unread x1)))
              (arg4.view.readAt (Elt Ideal) (Rect.unit (s := S1x128) ![0, 0] S1x128.size inb_S1x128_S1x128_0_0).toLoadRect (harg4.unread x3))⟩ :: (P2 c i arg1 harg1 arg2 harg2 arg3 harg3 arg4 harg4 arg5 harg5 arg6 harg6 arg7 harg7 arg8 harg8 arg9 harg9 arg10 harg10 arg11 harg11 v17 x1 x3 X8 L9 L10 L11 k).1 := by
  have h := pb_k0_t2_succ (F := Ideal) Variants.none c none i arg1 harg1 arg2 harg2 arg3 harg3 arg4 harg4 arg5 harg5 arg6 harg6 arg7 harg7 arg8 harg8 arg9 harg9 arg10 harg10 arg11 harg11 (BitVec.ofNat 32 (i 0).val) v17 (harg2.unread x1) (harg4.unread x3) X8 (arg9.view.writes (Elt Ideal) arg9.view.junk L9) (arg10.view.writes (Elt Ideal) arg10.view.junk L10) (arg11.view.writes (Elt Ideal) arg11.view.junk L11) ⟨k, hk⟩
  rw [trip2] at h
  exact congrArg (fun q => q.1) h

theorem step10 (k : ℕ) (hk : k < k0_t2_loop.trips) :
    (P2 c i arg1 harg1 arg2 harg2 arg3 harg3 arg4 harg4 arg5 harg5 arg6 harg6 arg7 harg7 arg8 harg8 arg9 harg9 arg10 harg10 arg11 harg11 v17 x1 x3 X8 L9 L10 L11 (k + 1)).2.1 = ⟨Rect.unit ![0, 0] S128x128.size inb_S128x128_S128x128_0_0,
            k0_pay15 (F := Ideal) (k0_pay4 (F := Ideal) (BitVec.ofNat 32 (i 0).val) 0#32 1#32 ⟨k, hk⟩ (arg8.view.readAt (Elt Ideal) (Rect.unit (s := S4160x128) (k0_off3 ⟨k, hk⟩) S192x128.size (k0_off3_inb ⟨k, hk⟩)).toLoadRect X8))
              (k0_pay5 (F := Ideal) (arg2.view.readAt (Elt Ideal) (Rect.unit (s := S4096x128) (k0_off4 ⟨k, hk⟩) S128x128.size (k0_off4_inb ⟨k, hk⟩)).toLoadRect (harg2.unread x1)))
              (arg4.view.readAt (Elt Ideal) (Rect.unit (s := S1x128) ![0, 0] S1x128.size inb_S1x128_S1x128_0_0).toLoadRect (harg4.unread x3))
              (View.canon ((P2 c i arg1 harg1 arg2 harg2 arg3 harg3 arg4 harg4 arg5 harg5 arg6 harg6 arg7 harg7 arg8 harg8 arg9 harg9 arg10 harg10 arg11 harg11 v17 x1 x3 X8 L9 L10 L11 k).2.1 ++ L10))⟩ :: (P2 c i arg1 harg1 arg2 harg2 arg3 harg3 arg4 harg4 arg5 harg5 arg6 harg6 arg7 harg7 arg8 harg8 arg9 harg9 arg10 harg10 arg11 harg11 v17 x1 x3 X8 L9 L10 L11 k).2.1 := by
  have h := pb_k0_t2_succ (F := Ideal) Variants.none c none i arg1 harg1 arg2 harg2 arg3 harg3 arg4 harg4 arg5 harg5 arg6 harg6 arg7 harg7 arg8 harg8 arg9 harg9 arg10 harg10 arg11 harg11 (BitVec.ofNat 32 (i 0).val) v17 (harg2.unread x1) (harg4.unread x3) X8 (arg9.view.writes (Elt Ideal) arg9.view.junk L9) (arg10.view.writes (Elt Ideal) arg10.view.junk L10) (arg11.view.writes (Elt Ideal) arg11.view.junk L11) ⟨k, hk⟩
  rw [trip2] at h
  exact (congrArg (fun q => q.2.1) h).trans (congrArg (fun w => (⟨Rect.unit ![0, 0] S128x128.size inb_S128x128_S128x128_0_0,
            k0_pay15 (F := Ideal) (k0_pay4 (F := Ideal) (BitVec.ofNat 32 (i 0).val) 0#32 1#32 ⟨k, hk⟩ (arg8.view.readAt (Elt Ideal) (Rect.unit (s := S4160x128) (k0_off3 ⟨k, hk⟩) S192x128.size (k0_off3_inb ⟨k, hk⟩)).toLoadRect X8))
              (k0_pay5 (F := Ideal) (arg2.view.readAt (Elt Ideal) (Rect.unit (s := S4096x128) (k0_off4 ⟨k, hk⟩) S128x128.size (k0_off4_inb ⟨k, hk⟩)).toLoadRect (harg2.unread x1)))
              (arg4.view.readAt (Elt Ideal) (Rect.unit (s := S1x128) ![0, 0] S1x128.size inb_S1x128_S1x128_0_0).toLoadRect (harg4.unread x3))
              w⟩ : View.Piece (Elt Ideal) S128x128 .f32) :: (P2 c i arg1 harg1 arg2 harg2 arg3 harg3 arg4 harg4 arg5 harg5 arg6 harg6 arg7 harg7 arg8 harg8 arg9 harg9 arg10 harg10 arg11 harg11 v17 x1 x3 X8 L9 L10 L11 k).2.1) (held arg10.view _ L10 _ (by decide)))

theorem step11 (k : ℕ) (hk : k < k0_t2_loop.trips) :
    (P2 c i arg1 harg1 arg2 harg2 arg3 harg3 arg4 harg4 arg5 harg5 arg6 harg6 arg7 harg7 arg8 harg8 arg9 harg9 arg10 harg10 arg11 harg11 v17 x1 x3 X8 L9 L10 L11 (k + 1)).2.2 = ⟨Rect.unit ![0, 0] S8x128.size inb_S8x128_S8x128_0_0,
            k0_pay13 (F := Ideal) (k0_pay6 (F := Ideal) (BitVec.ofNat 32 (i 0).val) (k0_pay12 (F := Ideal) v17) 0#32 1#32 ⟨k, hk⟩ (arg8.view.readAt (Elt Ideal) (Rect.unit (s := S4160x128) (k0_off3 ⟨k, hk⟩) S192x128.size (k0_off3_inb ⟨k, hk⟩)).toLoadRect X8)
              (arg2.view.readAt (Elt Ideal) (Rect.unit (s := S4096x128) (k0_off4 ⟨k, hk⟩) S128x128.size (k0_off4_inb ⟨k, hk⟩)).toLoadRect (harg2.unread x1))
              (View.canon ((P2 c i arg1 harg1 arg2 harg2 arg3 harg3 arg4 harg4 arg5 harg5 arg6 harg6 arg7 harg7 arg8 harg8 arg9 harg9 arg10 harg10 arg11 harg11 v17 x1 x3 X8 L9 L10 L11 k).2.2 ++ L11)))⟩ :: (P2 c i arg1 harg1 arg2 harg2 arg3 harg3 arg4 harg4 arg5 harg5 arg6 harg6 arg7 harg7 arg8 harg8 arg9 harg9 arg10 harg10 arg11 harg11 v17 x1 x3 X8 L9 L10 L11 k).2.2 := by
  have h := pb_k0_t2_succ (F := Ideal) Variants.none c none i arg1 harg1 arg2 harg2 arg3 harg3 arg4 harg4 arg5 harg5 arg6 harg6 arg7 harg7 arg8 harg8 arg9 harg9 arg10 harg10 arg11 harg11 (BitVec.ofNat 32 (i 0).val) v17 (harg2.unread x1) (harg4.unread x3) X8 (arg9.view.writes (Elt Ideal) arg9.view.junk L9) (arg10.view.writes (Elt Ideal) arg10.view.junk L10) (arg11.view.writes (Elt Ideal) arg11.view.junk L11) ⟨k, hk⟩
  rw [trip2] at h
  exact (congrArg (fun q => q.2.2) h).trans (congrArg (fun w => (⟨Rect.unit ![0, 0] S8x128.size inb_S8x128_S8x128_0_0,
            k0_pay13 (F := Ideal) (k0_pay6 (F := Ideal) (BitVec.ofNat 32 (i 0).val) (k0_pay12 (F := Ideal) v17) 0#32 1#32 ⟨k, hk⟩ (arg8.view.readAt (Elt Ideal) (Rect.unit (s := S4160x128) (k0_off3 ⟨k, hk⟩) S192x128.size (k0_off3_inb ⟨k, hk⟩)).toLoadRect X8)
              (arg2.view.readAt (Elt Ideal) (Rect.unit (s := S4096x128) (k0_off4 ⟨k, hk⟩) S128x128.size (k0_off4_inb ⟨k, hk⟩)).toLoadRect (harg2.unread x1))
              w)⟩ : View.Piece (Elt Ideal) S8x128 .f32) :: (P2 c i arg1 harg1 arg2 harg2 arg3 harg3 arg4 harg4 arg5 harg5 arg6 harg6 arg7 harg7 arg8 harg8 arg9 harg9 arg10 harg10 arg11 harg11 v17 x1 x3 X8 L9 L10 L11 k).2.2) (held arg11.view _ L11 _ (by decide)))

/-- After the second loop the other padded buffer holds the scaled cotangent. -/
theorem loop2q (hD : ∀ s e, x1 (ix2 s e) = ((D s e : ℝ) : EReal)) (hW : ∀ e d, v17 (ix3 0 e d) = ((W e d : ℝ) : EReal)) (hS : ∀ d, x3 (ix2 0 d) = ((S d : ℝ) : EReal)) (hL : ∀ y, View.canon L9 y = ((0 : ℝ) : EReal)) :
    View.canon ((P2 c i arg1 harg1 arg2 harg2 arg3 harg3 arg4 harg4 arg5 harg5 arg6 harg6 arg7 harg7 arg8 harg8 arg9 harg9 arg10 harg10 arg11 harg11 v17 x1 x3 X8 L9 L10 L11 32).1 ++ L9) = fun y : S4160x128.Idx => ((pad 32 (quot (i 0).val D W S (y 1)) (y 0).val : ℝ) : EReal) := by
  have hl : (i 0).val < 4 := (i 0).isLt
  refine funext fun y => ((canon_bands (o := 32) (R := 128) (n := 32) (fun y : S4160x128.Idx => ((pad 32 (quot (i 0).val D W S (y 1)) (y 0).val : ℝ) : EReal))
    (fun k => (P2 c i arg1 harg1 arg2 harg2 arg3 harg3 arg4 harg4 arg5 harg5 arg6 harg6 arg7 harg7 arg8 harg8 arg9 harg9 arg10 harg10 arg11 harg11 v17 x1 x3 X8 L9 L10 L11 k).1) L9 rfl (fun k hk => ?_) 32 le_rfl y)).trans ?_
  · have hk' : k < k0_t2_loop.trips := hk.trans_eq trips2.symm
    refine ⟨k0_off5 ⟨k, hk'⟩, k0_off5_inb ⟨k, hk'⟩, _, step9 k hk', (off2 ⟨k, hk'⟩).2.2, fun r d h => ?_⟩
    have hb : 128 * k + r.val < 4096 := by have := r.isLt; omega
    refine (pay16 v17 _ _ _ (fun r d => ext (fun s => D s d) (128 * k + r.val)) W S (cnt (i 0).val (128 * k + r.val)) (cnt_ne _ _) r d
      (fun r d => (pay5 _ r d).trans (load2 hD ⟨k, hk'⟩ r d)) hW (load4 hS) (pay3 _ hl ⟨k, hk'⟩ r 0)).trans (congrArg ((↑) : ℝ → EReal) ?_)
    show _ = pad 32 (quot (i 0).val D W S d) (32 + 128 * k + r.val)
    rw [Nat.add_assoc, pad_add]
    refine Eq.trans ?_ (ext_val (quot (i 0).val D W S d) ⟨128 * k + r.val, hb⟩).symm
    refine congrArg (· / cnt (i 0).val (128 * k + r.val)) (Finset.sum_congr rfl fun x _ => ?_)
    exact congrArg (fun a => a * S x * W d x) (ext_val (fun s => D s x) ⟨128 * k + r.val, hb⟩)
  · rw [hL]
    split
    · rfl
    · next h => exact congrArg ((↑) : ℝ → EReal) (pad_out (quot (i 0).val D W S (y 1)) (by omega)).symm

/-- After `k` trips the weight accumulator holds the gradient over the first `k` chunks. -/
theorem loop2w (hX8 : arg8.view.read (Elt Ideal) X8 = fun y : S4160x128.Idx => ((pad 32 (fun r => Z r (y 1)) (y 0).val : ℝ) : EReal)) (hD : ∀ s e, x1 (ix2 s e) = ((D s e : ℝ) : EReal)) (hS : ∀ d, x3 (ix2 0 d) = ((S d : ℝ) : EReal)) (hL : ∀ y, View.canon L10 y = ((0 : ℝ) : EReal)) :
    ∀ k ≤ 32, View.canon ((P2 c i arg1 harg1 arg2 harg2 arg3 harg3 arg4 harg4 arg5 harg5 arg6 harg6 arg7 harg7 arg8 harg8 arg9 harg9 arg10 harg10 arg11 harg11 v17 x1 x3 X8 L9 L10 L11 k).2.1 ++ L10) = fun y : S128x128.Idx => ((accW (i 0).val Z D S k (y 0) (y 1) : ℝ) : EReal) := by
  have hl : (i 0).val < 4 := (i 0).isLt
  refine canon_fold (fun k y => ((accW (i 0).val Z D S k (y 0) (y 1) : ℝ) : EReal)) (fun k => (P2 c i arg1 harg1 arg2 harg2 arg3 harg3 arg4 harg4 arg5 harg5 arg6 harg6 arg7 harg7 arg8 harg8 arg9 harg9 arg10 harg10 arg11 harg11 v17 x1 x3 X8 L9 L10 L11 k).2.1) L10 rfl (funext hL) fun k hk ih => ?_
  have hk' : k < k0_t2_loop.trips := hk.trans_eq trips2.symm
  refine ⟨_, _, _, step10 k hk', by decide, funext fun y => ?_⟩
  obtain ⟨a, b, rfl⟩ : ∃ a b, y = ix2 a b := ⟨y 0, y 1, eq_ix2 y⟩
  refine (pay15 _ _ _ _ (fun r d => pooled (i 0).val Z (128 * k + r.val) d) (fun r d => ext (fun s => D s d) (128 * k + r.val)) S (accW (i 0).val Z D S k a b) a b
    (chunk hX8 _ hl ⟨k, hk'⟩) (fun r d => (pay5 _ r d).trans (load2 hD ⟨k, hk'⟩ r d)) (load4 hS) (congrFun ih (ix2 a b))).trans (congrArg ((↑) : ℝ → EReal) ?_)
  exact (Finset.sum_range_succ (fun j => ∑ x : Fin 128, pooled (i 0).val Z (128 * j + x.val) a * (ext (fun s => D s b) (128 * j + x.val) * S b)) k).symm

/-- After `k` trips the scale accumulator holds the eight running sums over the first `k` chunks. -/
theorem loop2s (hX8 : arg8.view.read (Elt Ideal) X8 = fun y : S4160x128.Idx => ((pad 32 (fun r => Z r (y 1)) (y 0).val : ℝ) : EReal)) (hD : ∀ s e, x1 (ix2 s e) = ((D s e : ℝ) : EReal)) (hW : ∀ e d, v17 (ix3 0 e d) = ((W e d : ℝ) : EReal)) (hL : ∀ y, View.canon L11 y = ((0 : ℝ) : EReal)) :
    ∀ k ≤ 32, View.canon ((P2 c i arg1 harg1 arg2 harg2 arg3 harg3 arg4 harg4 arg5 harg5 arg6 harg6 arg7 harg7 arg8 harg8 arg9 harg9 arg10 harg10 arg11 harg11 v17 x1 x3 X8 L9 L10 L11 k).2.2 ++ L11) = fun y : S8x128.Idx => ((accS (i 0).val Z D W k (y 0) (y 1) : ℝ) : EReal) := by
  have hl : (i 0).val < 4 := (i 0).isLt
  refine canon_fold (fun k y => ((accS (i 0).val Z D W k (y 0) (y 1) : ℝ) : EReal)) (fun k => (P2 c i arg1 harg1 arg2 harg2 arg3 harg3 arg4 harg4 arg5 harg5 arg6 harg6 arg7 harg7 arg8 harg8 arg9 harg9 arg10 harg10 arg11 harg11 v17 x1 x3 X8 L9 L10 L11 k).2.2) L11 rfl (funext hL) fun k hk ih => ?_
  have hk' : k < k0_t2_loop.trips := hk.trans_eq trips2.symm
  refine ⟨_, _, _, step11 k hk', by decide, funext fun y => ?_⟩
  obtain ⟨a, b, rfl⟩ : ∃ a b, y = ix2 a b := ⟨y 0, y 1, eq_ix2 y⟩
  refine (pay13 _ v17 ⟨k, hk'⟩ _ _ _ (fun r d => pooled (i 0).val Z (128 * k + r.val) d) (fun r d => ext (fun s => D s d) (128 * k + r.val)) W (accS (i 0).val Z D W k a b) a b
    (chunk hX8 _ hl ⟨k, hk'⟩) (load2 hD ⟨k, hk'⟩) hW (congrFun ih (ix2 a b))).trans (congrArg ((↑) : ℝ → EReal) ?_)
  exact (Finset.sum_range_succ (fun j => ∑ x : Fin 16, ext (fun s => D s b) (128 * j + (x.val * 8 + a.val)) * ∑ e : Fin 128, pooled (i 0).val Z (128 * j + (x.val * 8 + a.val)) e * W e b) k).symm

/-- What the third loop stores: the window's adjoint of the scaled cotangent, less the cotangent. -/
theorem loop3 {X9 : BufTy.Contents (Elt Ideal) arg9.view.ty} {Q : Fin 128 → Fin 4096 → ℝ} (hX9 : arg9.view.read (Elt Ideal) X9 = fun y : S4160x128.Idx => ((pad 32 (Q (y 1)) (y 0).val : ℝ) : EReal)) (y : S4096x128.Idx) :
    View.canon (pb_k0_t3 (F := Ideal) Variants.none c none i arg1 harg1 arg2 harg2 arg3 harg3 arg4 harg4 arg5 harg5 arg6 harg6 arg7 harg7 arg8 harg8 arg9 harg9 arg10 harg10 arg11 harg11 X9 32) y
      = ((ahead (Q (y 1)) (win (i 0).val) (y 0).val - ext (Q (y 1)) (y 0).val * cnt (i 0).val (y 0).val : ℝ) : EReal) := by
  have hk3 : ∀ k, k < 32 → k < k0_t3_loop.trips := fun k hk => hk.trans_eq trips3.symm
  have hh := canon_bands (o := 0) (R := 128) (n := 32) (fun y : S4096x128.Idx => ((ahead (Q (y 1)) (win (i 0).val) (y 0).val - ext (Q (y 1)) (y 0).val * cnt (i 0).val (y 0).val : ℝ) : EReal))
    (pb_k0_t3 (F := Ideal) Variants.none c none i arg1 harg1 arg2 harg2 arg3 harg3 arg4 harg4 arg5 harg5 arg6 harg6 arg7 harg7 arg8 harg8 arg9 harg9 arg10 harg10 arg11 harg11 X9) [] rfl (fun k hk => ?_) 32 le_rfl y
  · rw [List.append_nil] at hh
    refine hh.trans (if_pos ⟨Nat.zero_le _, ?_⟩)
    have : (y 0).val < 4096 := (y 0).isLt
    omega
  · refine ⟨k0_off7 ⟨k, hk3 k hk⟩, k0_off7_inb ⟨k, hk3 k hk⟩, _, (pb_k0_t3_succ _ _ _ _ _ _ _ _ _ _ _ _ _ _ _ _ _ _ _ _ _ _ _ _ _ _ _  ⟨k, hk3 k hk⟩).trans (congrArg (· ++ _) (trip3 _ ⟨k, hk3 k hk⟩)), (off3 ⟨k, hk3 k hk⟩).2, fun r d h => ?_⟩
    refine (pay17 i ⟨k, hk3 k hk⟩ _ (fun n => pad 32 (Q d) (128 * k + n)) r d fun n hn => ?_).trans (congrArg ((↑) : ℝ → EReal) ?_)
    · exact (congrFun hX9 _).trans (congrArg (fun y : S4160x128.Idx => ((pad 32 (Q (y 1)) (y 0).val : ℝ) : EReal))
        (idx_band (off3 ⟨k, hk3 k hk⟩).1 (k0_off6_inb ⟨k, hk3 k hk⟩) (⟨n, hn⟩ : Fin 192) d (by show 128 * k + n < 4160; omega)))
    · show (∑ j ∈ range (win (i 0).val), pad 32 (Q d) (128 * k + (32 + r.val + j))) - pad 32 (Q d) (128 * k + (32 + r.val)) * cnt (i 0).val (128 * k + r.val)
        = ahead (Q d) (win (i 0).val) (0 + 128 * k + r.val) - ext (Q d) (0 + 128 * k + r.val) * cnt (i 0).val (0 + 128 * k + r.val)
      have e : ∀ j ∈ range (win (i 0).val), pad 32 (Q d) (128 * k + (32 + r.val + j)) = pad 32 (Q d) (32 + (128 * k + r.val) + j) := fun j _ => congrArg _ (by omega)
      rw [Finset.sum_congr rfl e, ahead_pad, show 128 * k + (32 + r.val) = 32 + (128 * k + r.val) by omega, pad_add, Nat.zero_add]

end Cert.Proof.Pool
end
-- ==== Proof.PoolBody.lean ====
/- What one level of the pooling backward kernel leaves in its three result blocks. -/
module

public import proofs.«01_k».proof.Proof.PoolLoops

@[expose] public section

set_option maxRecDepth 16384

noncomputable section

namespace Cert.Proof.Pool

open Idealize.ShloMosaic Idealize.ShloMosaic.TcCoe Idealize.SL.Sem Cert.PoolKernelIdeal Cert.PoolKernelIdeal.Gen Cert.Step
open Finset (range)

variable {c : Dev nD} {i : grid0.Coords} {arg1 : Memref sig .tc .vmem S4096x128 .f32} {harg1 : arg1.IsWhole} {arg2 : Memref sig .tc .vmem S4096x128 .bf16} {harg2 : arg2.IsWhole} {arg3 : Memref sig .tc .vmem S1x128x128 .f32} {harg3 : arg3.IsWhole} {arg4 : Memref sig .tc .vmem S1x128 .f32} {harg4 : arg4.IsWhole} {arg5 : Memref sig .tc .vmem S4096x128 .bf16} {harg5 : arg5.IsWhole} {arg6 : Memref sig .tc .vmem S1x128x128 .f32} {harg6 : arg6.IsWhole} {arg7 : Memref sig .tc .vmem S1x128 .f32} {harg7 : arg7.IsWhole} {arg8 : Memref sig .tc .vmem S4160x128 .f32} {harg8 : arg8.IsWhole} {arg9 : Memref sig .tc .vmem S4160x128 .f32} {harg9 : arg9.IsWhole} {arg10 : Memref sig .tc .vmem S128x128 .f32} {harg10 : arg10.IsWhole} {arg11 : Memref sig .tc .vmem S8x128 .f32} {harg11 : arg11.IsWhole}
  {x0 : Vec Ideal S4096x128 .f32} {x1 : Vec Ideal S4096x128 .bf16} {x2 : Vec Ideal S1x128x128 .f32} {x3 : Vec Ideal S1x128 .f32}
  {Z D : Fin 4096 → Fin 128 → ℝ} {W : Fin 128 → Fin 128 → ℝ} {S : Fin 128 → ℝ}

theorem zero9 (y) : View.canon (kernelRun0_A.sl.HS1_1 (F := Ideal)) y = ((0 : ℝ) : EReal) :=
  (congrFun (View.canon_cons_unit_lit _ _ _ (by decide)) y).trans (pay8 y)
theorem zero10 (y) : View.canon (kernelRun0_A.sl.HS2_1 (F := Ideal)) y = ((0 : ℝ) : EReal) :=
  (congrFun (View.canon_cons_unit_lit _ _ _ (by decide)) y).trans (pay9 y)
theorem zero11 (y) : View.canon (kernelRun0_A.sl.HS3_1 (F := Ideal)) y = ((0 : ℝ) : EReal) :=
  (congrFun (View.canon_cons_unit_lit _ _ _ (by decide)) y).trans (pay10 y)

/-- The weight block as the second loop is given it. -/
theorem weights (hW : ∀ e d, x2 (ix3 0 e d) = ((W e d : ℝ) : EReal)) (e d : Fin 128) :
    View.readAt (Elt Ideal) arg3.view (Rect.unit (s := S1x128x128) ![0, 0, 0] S1x128x128.size inb_S1x128x128_S1x128x128_0_0_0).toLoadRect (harg3.unread x2) (ix3 0 e d) = ((W e d : ℝ) : EReal) := by
  rw [View.readAt_eq_ld, Memref.IsWhole.read_unread]
  exact (congrFun (View.ld_unit_lit _ x2 (by decide)) _).trans (hW e d)

/-- The padded rows, read back. -/
theorem rows8 (hZ : ∀ s e, x0 (ix2 s e) = ((Z s e : ℝ) : EReal)) :
    arg8.view.read (Elt Ideal) (arg8.view.writes (Elt Ideal) arg8.view.junk (pb_k0_t1 (F := Ideal) Variants.none c none i arg1 harg1 arg2 harg2 arg3 harg3 arg4 harg4 arg5 harg5 arg6 harg6 arg7 harg7 arg8 harg8 arg9 harg9 arg10 harg10 arg11 harg11 (harg1.unread x0) 32 ++ kernelRun0_A.sl.HS0_1))
      = fun y : S4160x128.Idx => ((pad 32 (fun r => Z r (y 1)) (y 0).val : ℝ) : EReal) :=
  (View.read_writes_junk_eq_canon _ _).trans (loop1 hZ)

theorem out4 (hZ : ∀ s e, x0 (ix2 s e) = ((Z s e : ℝ) : EReal)) (hD : ∀ s e, x1 (ix2 s e) = ((D s e : ℝ) : EReal)) (hW : ∀ e d, x2 (ix3 0 e d) = ((W e d : ℝ) : EReal)) (hS : ∀ d, x3 (ix2 0 d) = ((S d : ℝ) : EReal)) (y : S4096x128.Idx) :
    out0_A_4 (F := Ideal) c i arg1 harg1 arg2 harg2 arg3 harg3 arg4 harg4 arg5 harg5 arg6 harg6 arg7 harg7 arg8 harg8 arg9 harg9 arg10 harg10 arg11 harg11 x0 x1 x2 x3 y
      = ((ahead (quot (i 0).val D W S (y 1)) (win (i 0).val) (y 0).val - ext (quot (i 0).val D W S (y 1)) (y 0).val * cnt (i 0).val (y 0).val : ℝ) : EReal) := by
  unfold out0_A_4 kernelRun0_A
  dsimp only
  refine (congrFun (View.read_writes_junk_eq_canon _ _) y).trans ?_
  exact loop3 ((View.read_writes_junk_eq_canon _ _).trans (loop2q hD (weights hW) hS zero9)) y

theorem out5 (hZ : ∀ s e, x0 (ix2 s e) = ((Z s e : ℝ) : EReal)) (hD : ∀ s e, x1 (ix2 s e) = ((D s e : ℝ) : EReal)) (hW : ∀ e d, x2 (ix3 0 e d) = ((W e d : ℝ) : EReal)) (hS : ∀ d, x3 (ix2 0 d) = ((S d : ℝ) : EReal)) (q : Fin 1) (a b : Fin 128) :
    out0_A_5 (F := Ideal) c i arg1 harg1 arg2 harg2 arg3 harg3 arg4 harg4 arg5 harg5 arg6 harg6 arg7 harg7 arg8 harg8 arg9 harg9 arg10 harg10 arg11 harg11 x0 x1 x2 x3 (ix3 q a b) = ((accW (i 0).val Z D S 32 a b : ℝ) : EReal) := by
  unfold out0_A_5 kernelRun0_A
  dsimp only
  refine (congrFun (View.read_writes_junk_eq_canon _ _) (ix3 q a b)).trans ((congrFun (View.canon_cons_unit_lit _ _ _ (by decide)) (ix3 q a b)).trans ((pay1 _ q a b).trans ?_))
  unfold kernelRun0_A.sl.v
  refine (congrFun ((View.readCov_eq_canon' _ _ _).trans (View.ld_unit_lit (S := S128x128) inb_S128x128_S128x128_0_0 (View.canon _) (by decide))) (ix2 a b)).trans ?_
  exact congrFun (loop2w (rows8 hZ) hD hS zero10 32 le_rfl) (ix2 a b)

theorem out6 (hZ : ∀ s e, x0 (ix2 s e) = ((Z s e : ℝ) : EReal)) (hD : ∀ s e, x1 (ix2 s e) = ((D s e : ℝ) : EReal)) (hW : ∀ e d, x2 (ix3 0 e d) = ((W e d : ℝ) : EReal)) (hS : ∀ d, x3 (ix2 0 d) = ((S d : ℝ) : EReal)) (q : Fin 1) (b : Fin 128) :
    out0_A_6 (F := Ideal) c i arg1 harg1 arg2 harg2 arg3 harg3 arg4 harg4 arg5 harg5 arg6 harg6 arg7 harg7 arg8 harg8 arg9 harg9 arg10 harg10 arg11 harg11 x0 x1 x2 x3 (ix2 q b) = ((∑ a : Fin 8, accS (i 0).val Z D W 32 a b : ℝ) : EReal) := by
  unfold out0_A_6 kernelRun0_A
  dsimp only
  refine (congrFun (View.read_writes_junk_eq_canon _ _) (ix2 q b)).trans ((congrFun (View.canon_cons_unit_lit _ _ _ (by decide)) (ix2 q b)).trans ((pay2 _ q b).trans ?_))
  unfold kernelRun0_A.sl.v26
  refine (Finset.sum_congr rfl fun a _ => ?_).trans (sum_real _ fun a : Fin 8 => accS (i 0).val Z D W 32 a b)
  refine (congrFun ((View.readCov_eq_canon' _ _ _).trans (View.ld_unit_lit (S := S8x128) inb_S8x128_S8x128_0_0 (View.canon _) (by decide))) (ix2 a b)).trans ?_
  exact congrFun (loop2s (rows8 hZ) hD (weights hW) zero11 32 le_rfl) (ix2 a b)

end Cert.Proof.Pool
end
-- ==== Proof.PoolArrays.lean ====
/- What the pooling backward kernel leaves in its three result arrays, over real arguments. -/
module

public import proofs.«01_k».proof.Proof.PoolBody

@[expose] public section

set_option maxRecDepth 16384

noncomputable section

namespace Cert.Proof.Pool

open Idealize.ShloMosaic Idealize.ShloMosaic.TcCoe Idealize.SL.Sem Cert.PoolKernelIdeal Cert.PoolKernelIdeal.Gen Cert.Step
open Finset (range)

variable {m : (ℓ : Loc nD τ sig) → Buf (Elt Ideal) ℓ} {c : Dev nD}

/-- The level of a grid point. -/
def lv (t : Fin cfg0.N) : Fin 4 := ⟨t.val, lt_of_lt_of_eq t.isLt N_0⟩

theorem coord : ∀ t : Fin cfg0.N, (grid0.coords t 0).val = t.val := (by decide +kernel : ∀ t : Fin grid0.N, _)

theorem idx : ∀ t : Fin cfg0.N, win0_0.index t = ![0, 28 + t.val] ∧ win0_1.index t = ![0, t.val] ∧ win0_2.index t = ![t.val, 0, 0] ∧ win0_3.index t = ![0, t.val]
    ∧ win0_4.index t = ![0, t.val] ∧ win0_5.index t = ![t.val, 0, 0] ∧ win0_6.index t = ![0, t.val] := (by decide +kernel : ∀ t : Fin grid0.N, _)

theorem read0 (t : Fin cfg0.N) (s : Fin 4096) (e : Fin 128) : iblk m c 0 t (ix2 s e) = V m c main_arg0 (ix2 s ⟨3584 + (col (lv t) e).val, by omega⟩) := by
  blk_point [iblk, lv, col, idx t]
theorem read1 (t : Fin cfg0.N) (s : Fin 4096) (e : Fin 128) : iblk m c 1 t (ix2 s e) = V m c main_v0 (ix2 s (col (lv t) e)) := by
  blk_point [iblk, lv, col, idx t]
theorem read2 (t : Fin cfg0.N) (a b : Fin 128) : iblk m c 2 t (ix3 0 a b) = V m c main_arg2 (ix3 (lv t) a b) := by
  blk_point [iblk, lv, col, idx t]
theorem read3 (t : Fin cfg0.N) (e : Fin 128) : iblk m c 3 t (ix2 0 e) = V m c main_v1 (ix2 0 (col (lv t) e)) := by
  blk_point [iblk, lv, col, idx t]

/-- The arguments are real numbers. -/
structure RealArgs (m : (ℓ : Loc nD τ sig) → Buf (Elt Ideal) ℓ) (c : Dev nD) (z d : Fin 4096 → Fin 512 → ℝ) (w : Fin 4 → Fin 128 → Fin 128 → ℝ) (s : Fin 512 → ℝ) : Prop where
  z : ∀ i (k : Fin 512), V m c main_arg0 (ix2 i ⟨3584 + k.val, by omega⟩) = ((z i k : ℝ) : EReal)
  d : ∀ i k, V m c main_v0 (ix2 i k) = ((d i k : ℝ) : EReal)
  w : ∀ l a b, V m c main_arg2 (ix3 l a b) = ((w l a b : ℝ) : EReal)
  s : ∀ k, V m c main_v1 (ix2 0 k) = ((s k : ℝ) : EReal)

variable {z d : Fin 4096 → Fin 512 → ℝ} {w : Fin 4 → Fin 128 → Fin 128 → ℝ} {s : Fin 512 → ℝ}

/-- The gradient of the pooled rows at row `r`, level `l`, channel `e`. -/
def dzAt (d : Fin 4096 → Fin 512 → ℝ) (w : Fin 4 → Fin 128 → Fin 128 → ℝ) (s : Fin 512 → ℝ) (l : Fin 4) (r : Fin 4096) (e : Fin 128) : ℝ :=
  ahead (quot l.val (fun r e => d r (col l e)) (w l) (fun e => s (col l e)) e) (win l.val) r.val
    - ext (quot l.val (fun r e => d r (col l e)) (w l) (fun e => s (col l e)) e) r.val * cnt l.val r.val

/-- The gradient of level `l`'s weights. -/
def dwAt (z d : Fin 4096 → Fin 512 → ℝ) (s : Fin 512 → ℝ) (l : Fin 4) (a b : Fin 128) : ℝ :=
  accW l.val (fun r e => z r (col l e)) (fun r e => d r (col l e)) (fun e => s (col l e)) 32 a b

/-- The gradient of level `l`'s scales. -/
def dsAt (z d : Fin 4096 → Fin 512 → ℝ) (w : Fin 4 → Fin 128 → Fin 128 → ℝ) (l : Fin 4) (b : Fin 128) : ℝ :=
  ∑ a : Fin 8, accS l.val (fun r e => z r (col l e)) (fun r e => d r (col l e)) (w l) 32 a b

section
variable (H : RealArgs m c z d w s)
include H

theorem blk0 (t : Fin cfg0.N) (r : Fin 4096) (e : Fin 128) : iblk m c 0 t (ix2 r e) = ((z r (col (lv t) e) : ℝ) : EReal) := (read0 t r e).trans (H.z _ _)
theorem blk1 (t : Fin cfg0.N) (r : Fin 4096) (e : Fin 128) : iblk m c 1 t (ix2 r e) = ((d r (col (lv t) e) : ℝ) : EReal) := (read1 t r e).trans (H.d _ _)
theorem blk2 (t : Fin cfg0.N) (a b : Fin 128) : iblk m c 2 t (ix3 0 a b) = ((w (lv t) a b : ℝ) : EReal) := (read2 t a b).trans (H.w _ _ _)
theorem blk3 (t : Fin cfg0.N) (e : Fin 128) : iblk m c 3 t (ix2 0 e) = ((s (col (lv t) e) : ℝ) : EReal) := (read3 t e).trans (H.s _)

/-- The rows' gradient. -/
theorem arr4 : (dats m 0 c).arrAt 4 cfg0.N = fun y : S4096x512.Idx => ((dzAt d w s (lev (y 1)) (y 0) (chan (y 1)) : ℝ) : EReal) := by
  refine (dats m 0 c).arrAt_eq_of_covers 4 _ (by decide +kernel) fun t hf y => ?_
  blk_simp
  have e : ((View.whole main_v2_0).slice (win0_4.rect t)).emb y = ix2 (y 0) (col (lv t) (y 1)) := by
    blk_ext [lv, col, idx t]
  rw [after0_4, e]
  refine Eq.trans ?_ (congrArg₂ (fun l e => ((dzAt d w s l (y 0) e : ℝ) : EReal)) (lev_col (lv t) (y 1)) (chan_col (lv t) (y 1))).symm
  idx_vars y
  refine (out4 (blk0 H t) (blk1 H t) (blk2 H t) (blk3 H t) (ix2 y0 y1)).trans ?_
  rw [coord t]
  rfl

set_option maxHeartbeats 4000000 in  -- a large array's block
/-- The weights' gradient. -/
theorem arr5 : (dats m 0 c).arrAt 5 cfg0.N = fun y : S4x128x128.Idx => ((dwAt z d s (y 0) (y 1) (y 2) : ℝ) : EReal) := by
  refine (dats m 0 c).arrAt_eq_of_covers 5 _ (by decide +kernel) fun t hf y => ?_
  blk_simp
  have e : ((View.whole main_v2_1).slice (win0_5.rect t)).emb y = ix3 (lv t) (y 1) (y 2) := by
    blk_ext [lv, col, idx t]
  rw [after0_5, e]
  idx_vars y
  refine (out5 (blk0 H t) (blk1 H t) (blk2 H t) (blk3 H t) y0 y1 y2).trans ?_
  rw [coord t]
  rfl

/-- The scales' gradient. -/
theorem arr6 : (dats m 0 c).arrAt 6 cfg0.N = fun y : S1x512.Idx => ((dsAt z d w (lev (y 1)) (chan (y 1)) : ℝ) : EReal) := by
  refine (dats m 0 c).arrAt_eq_of_covers 6 _ (by decide +kernel) fun t hf y => ?_
  blk_simp
  have e : ((View.whole main_v2_2).slice (win0_6.rect t)).emb y = ix2 0 (col (lv t) (y 1)) := by
    blk_ext [lv, col, idx t]
  rw [after0_6, e]
  refine Eq.trans ?_ (congrArg₂ (fun l e => ((dsAt z d w l e : ℝ) : EReal)) (lev_col (lv t) (y 1)) (chan_col (lv t) (y 1))).symm
  idx_vars y
  refine (out6 (blk0 H t) (blk1 H t) (blk2 H t) (blk3 H t) y0 y1).trans ?_
  rw [coord t]
  rfl

end

end Cert.Proof.Pool

end
-- ==== Proof.PoolRef.lean ====
/- The pooling reference's three gradients over real arguments. -/
module

public import proofs.«01_k».proof.Proof.PoolArrays
public import proofs.«01_k».proof.Proof.Gen.PoolReferenceIdeal.Read
public import Idealize.ShloMosaic.Lib.StableHlo.RunRead
public import proofs.«01_k».proof.Proof.Lib.Bands

@[expose] public section

set_option maxRecDepth 16384

noncomputable section

namespace Cert.Proof.Pool

open Idealize.ShloMosaic Idealize.ShloMosaic.TcCoe Idealize.SL.Sem Cert.Step
open Finset (range)

/-- The column of the mixers' output this mixer owns. -/
def ocol (k : Fin 512) : Fin 2048 := ⟨1536 + k.val, by omega⟩

/-- A row less the row `w` further on, zero past the end. -/
theorem drop (f : Fin 4096 → ℝ) (w : ℕ) (i : Fin 4096) {g : w + i.val < 4096 → EReal} (hg : ∀ h, g h = ((f ⟨w + i.val, h⟩ : ℝ) : EReal)) :
    ((f i : ℝ) : EReal) + (if h : w + i.val < 4096 then -(g h) else 0) = ((ext f i.val - ext f (i.val + w) : ℝ) : EReal) := by
  rw [ext_val]
  split
  next h => rw [hg, neg_real, add_real, ← sub_eq_add_neg, show ext f (i.val + w) = f ⟨w + i.val, h⟩ from by rw [Nat.add_comm]; exact dif_pos h]
  next h => rw [ext_of_le f (by omega), sub_zero, add_zero]

/-- The sum from the end of a row less the row `w` on is the sum of the `w` rows from here. -/
theorem from_end (f : Fin 4096 → ℝ) (w s : ℕ) :
    ∑ i ∈ range 4096, (if 0 ≤ s + i then ext (fun r : Fin 4096 => ext f r.val - ext f (r.val + w)) (s + i - 0) else 0) = ahead f w s := by
  rw [ahead_eq]
  refine Finset.sum_congr rfl fun i _ => ?_
  rw [if_pos (Nat.zero_le _), Nat.sub_zero]
  by_cases h : s + i < 4096
  · exact dif_pos h
  · rw [ext_of_le _ (by omega), ext_of_le f (by omega), ext_of_le f (by omega), sub_zero]

/-- Thirty-two chunks of 128 rows are all the rows. -/
theorem chunks (f : ℕ → ℝ) : ∑ j ∈ range 32, ∑ x : Fin 128, f (128 * j + x.val) = ∑ i : Fin 4096, f i.val := by
  rw [Finset.sum_range, ← sum_bands (N := 32) (B := 128) rfl (fun i : Fin 4096 => f i.val)]
  exact Finset.sum_congr rfl fun j _ => Finset.sum_congr rfl fun x _ => by rw [Nat.mul_comm]

/-- Eight residues over sixteen rows are a chunk. -/
theorem residues (f : ℕ → ℝ) : ∑ a : Fin 8, ∑ j ∈ range 32, ∑ x : Fin 16, f (128 * j + (x.val * 8 + a.val)) = ∑ i : Fin 4096, f i.val := by
  rw [Finset.sum_comm, ← chunks]
  refine Finset.sum_congr rfl fun j _ => ?_
  rw [Finset.sum_comm]
  exact sum_bands (N := 16) (B := 8) rfl (fun x : Fin 128 => f (128 * j + x.val))

section
open Cert.PoolReferenceIdeal Cert.PoolReferenceIdeal.Read

variable {x0 : (⟨S4096x4096, .f32⟩ : BufTy).Contents (Elt Ideal)} {x1 : (⟨S4096x2048, .bf16⟩ : BufTy).Contents (Elt Ideal)} {x2 : (⟨S4x128x128, .f32⟩ : BufTy).Contents (Elt Ideal)} {x3 : (⟨S512, .f32⟩ : BufTy).Contents (Elt Ideal)}
variable {z d : Fin 4096 → Fin 512 → ℝ} {w : Fin 4 → Fin 128 → Fin 128 → ℝ} {s : Fin 512 → ℝ}
variable (hz : ∀ i (k : Fin 512), x0 (ix2 i (zcol k)) = ((z i k : ℝ) : EReal)) (hd : ∀ i (k : Fin 512), x1 (ix2 i (ocol k)) = ((d i k : ℝ) : EReal))
variable (hw : ∀ l a b, x2 (ix3 l a b) = ((w l a b : ℝ) : EReal)) (hs : ∀ k, x3 (ix1 k) = ((s k : ℝ) : EReal))

section
include hz

/-- A level's channel; its running sum. -/
theorem ref_z (i : Fin 4096) (l : Fin 4) (e : Fin 128) : val_main_v1 (F := Ideal) x0 (ix3 i l e) = ((z i (col l e) : ℝ) : EReal) := by
  unfold val_main_v1 val_main_v0
  pointwise
  exact hz i (col l e)
theorem ref_run (i : Fin 4096) (l : Fin 4) (e : Fin 128) : val_main_v2 (F := Ideal) x0 (ix3 i l e) = ((∑ j ∈ range (i.val + 1), ext (fun r => z r (col l e)) j : ℝ) : EReal) := by
  have e0 : ∀ k, val_main_call0_call0_v0 (F := Ideal) k = 0 := fun k => by
    unfold val_main_call0_call0_v0 val_main_call0_call0_cst
    pointwise
  unfold val_main_v2
  refine Eq.trans ?_ (congrArg _ (prefix_sum (lo := 4095) rfl (fun r => z r (col l e)) i.isLt))
  exact host_window _ _ e0 (fun r => z r (col l e)) l e (fun n => ref_z hz n l e) _ _ i

/-- The means of the four levels. -/
theorem ref_mean0 (i : Fin 4096) (e : Fin 128) : val_main_v18 (F := Ideal) x0 (ix2 i e) = ((back (fun r => z r (col 0 e)) (win 0) i.val / cnt 0 i.val : ℝ) : EReal) := by
  unfold val_main_v18 val_main_v15 val_main_v17 val_main_v16 val_main_v14 val_main_v13 val_main_v12 val_main_v5 val_main_v4 val_main_v3 val_main_v11 val_main_v9 val_main_v8 val_main_v7 val_main_v6 val_main_c val_main_c_1 val_main_cst
  pointwise
  rw [ref_run hz, shift (fun r => z r (col 0 e)) 2 i.val (fun h => ref_run hz _ 0 e), ref_cnt 0 (w := 2) (by decide) rfl, sub_real, div_real _ (cnt_ne 0 _), back_eq]
  rfl
theorem ref_mean1 (i : Fin 4096) (e : Fin 128) : val_main_v31 (F := Ideal) x0 (ix2 i e) = ((back (fun r => z r (col 1 e)) (win 1) i.val / cnt 1 i.val : ℝ) : EReal) := by
  unfold val_main_v31 val_main_v28 val_main_v30 val_main_v29 val_main_v27 val_main_v26 val_main_v25 val_main_v5 val_main_v4 val_main_v3 val_main_v24 val_main_v22 val_main_v21 val_main_v20 val_main_v19 val_main_c val_main_c_4 val_main_cst_2
  pointwise
  rw [ref_run hz, shift (fun r => z r (col 1 e)) 4 i.val (fun h => ref_run hz _ 1 e), ref_cnt 1 (w := 4) (by decide) rfl, sub_real, div_real _ (cnt_ne 1 _), back_eq]
  rfl
theorem ref_mean2 (i : Fin 4096) (e : Fin 128) : val_main_v44 (F := Ideal) x0 (ix2 i e) = ((back (fun r => z r (col 2 e)) (win 2) i.val / cnt 2 i.val : ℝ) : EReal) := by
  unfold val_main_v44 val_main_v41 val_main_v43 val_main_v42 val_main_v40 val_main_v39 val_main_v38 val_main_v5 val_main_v4 val_main_v3 val_main_v37 val_main_v35 val_main_v34 val_main_v33 val_main_v32 val_main_c val_main_c_7 val_main_cst_5
  pointwise
  rw [ref_run hz, shift (fun r => z r (col 2 e)) 8 i.val (fun h => ref_run hz _ 2 e), ref_cnt 2 (w := 8) (by decide) rfl, sub_real, div_real _ (cnt_ne 2 _), back_eq]
  rfl
theorem ref_mean3 (i : Fin 4096) (e : Fin 128) : val_main_v57 (F := Ideal) x0 (ix2 i e) = ((back (fun r => z r (col 3 e)) (win 3) i.val / cnt 3 i.val : ℝ) : EReal) := by
  unfold val_main_v57 val_main_v54 val_main_v56 val_main_v55 val_main_v53 val_main_v52 val_main_v51 val_main_v5 val_main_v4 val_main_v3 val_main_v50 val_main_v48 val_main_v47 val_main_v46 val_main_v45 val_main_c val_main_c_10 val_main_cst_8
  pointwise
  rw [ref_run hz, shift (fun r => z r (col 3 e)) 16 i.val (fun h => ref_run hz _ 3 e), ref_cnt 3 (w := 16) (by decide) rfl, sub_real, div_real _ (cnt_ne 3 _), back_eq]
  rfl

/-- The pooled difference. -/
theorem ref_pooled (i : Fin 4096) (l : Fin 4) (e : Fin 128) : val_main_v63 (F := Ideal) x0 (ix3 i l e) = ((pooled l.val (fun r e => z r (col l e)) i.val e : ℝ) : EReal) := by
  unfold val_main_v63 val_main_v62 val_main_v58 val_main_v59 val_main_v60 val_main_v61
  pointwise
  rw [ref_z hz, pooled, ext_val]
  match l with
  | 0 => rw [dif_pos (by decide), ref_mean0 hz, sub_real]; rfl
  | 1 => rw [dif_neg (by decide), dif_pos (by decide), ref_mean1 hz, sub_real]; rfl
  | 2 => rw [dif_neg (by decide), dif_neg (by decide), dif_pos (by decide), ref_mean2 hz, sub_real]; rfl
  | 3 => rw [dif_neg (by decide), dif_neg (by decide), dif_neg (by decide), ref_mean3 hz, sub_real]; rfl

include hd hs in
/-- The gradient of the weights. -/
theorem ref_dw (l : Fin 4) (a b : Fin 128) : val_main_v83 (F := Ideal) x0 x1 x3 (ix3 l a b) = ((dwAt z d s l a b : ℝ) : EReal) := by
  unfold val_main_v83 val_main_v82 val_main_v79 val_main_v78 val_main_v76 val_main_v71 val_main_v70 val_main_v75 val_main_v67
  pointwise
  simp only [ref_pooled hz, fun i : Fin 4096 => show x1 (ix2 i ⟨1536 + (l.val * 128 + b.val), by omega⟩) = _ from hd i (col l b), show x3 (ix1 ⟨l.val * 128 + b.val, by omega⟩) = _ from hs (col l b), mul_real, sum_real]
  refine congrArg ((↑) : ℝ → EReal) ?_
  rw [dwAt, accW, chunks fun n => pooled l.val (fun r e => z r (col l e)) n a * (ext (fun r => d r (col l b)) n * s (col l b))]
  exact Finset.sum_congr rfl fun i _ => by rw [ext_val]; exact mul_comm _ _

include hd hw in
/-- The gradient of the scales. -/
theorem ref_ds (k : Fin 512) : val_main_v136 (F := Ideal) x0 x1 x2 (ix2 0 k) = ((dsAt z d w (lev k) (chan k) : ℝ) : EReal) := by
  unfold val_main_v136 val_main_v77 val_main_v74 val_main_v73 val_main_v72 val_main_v71 val_main_v70 val_main_v66 val_main_v65 val_main_v64 val_main_cst_11 val_main_cst_12
  pointwise
  simp only [Fin.sum_univ_one, zero_add, ref_pooled hz, fun i : Fin 4096 => show x1 (ix2 i ⟨1536 + k.val, by omega⟩) = _ from hd i k, hw, mul_real, sum_real]
  refine congrArg ((↑) : ℝ → EReal) ?_
  unfold dsAt accS
  rw [residues fun n => ext (fun r => d r (col (lev k) (chan k))) n * ∑ e, pooled (lev k).val (fun r e => z r (col (lev k) e)) n e * w (lev k) e (chan k)]
  refine Finset.sum_congr rfl fun i _ => ?_
  rw [ext_val, col_lev]
  refine (mul_comm _ _).trans (congrArg _ (Finset.sum_congr rfl fun e _ => ?_))
  exact mul_comm _ _

end

section
include hd hw hs

/-- The cotangent through the weights. -/
theorem ref_ct (i : Fin 4096) (l : Fin 4) (e : Fin 128) : val_main_v81 (F := Ideal) x1 x2 x3 (ix3 i l e) = ((∑ x, d i (col l x) * s (col l x) * w l e x : ℝ) : EReal) := by
  unfold val_main_v81 val_main_v80 val_main_v79 val_main_v78 val_main_v76 val_main_v71 val_main_v70 val_main_v75 val_main_v67
  pointwise
  simp only [fun x : Fin 128 => show x1 (ix2 i ⟨1536 + (l.val * 128 + x.val), by omega⟩) = _ from hd i (col l x), fun x : Fin 128 => show x3 (ix1 ⟨l.val * 128 + x.val, by omega⟩) = _ from hs (col l x), hw, mul_real, sum_real]

/-- At each level: the cotangent over the count, and the same less the row a window on. -/
theorem ref_quot0 (i : Fin 4096) (e : Fin 128) : val_main_v123 (F := Ideal) x1 x2 x3 (ix2 i e) = ((quot 0 (fun r e => d r (col 0 e)) (w 0) (fun e => s (col 0 e)) e i : ℝ) : EReal) := by
  unfold val_main_v123 val_main_v122 val_main_v86 val_main_v85 val_main_v16 val_main_v14 val_main_v13 val_main_v12 val_main_v5 val_main_v4 val_main_v3 val_main_c val_main_c_1
  pointwise
  rw [ref_ct hd hw hs, ref_cnt 0 (w := 2) (by decide) rfl, div_real _ (cnt_ne 0 _)]
  rfl
theorem ref_drop0 (i : Fin 4096) (e : Fin 128) : val_main_v128 (F := Ideal) x1 x2 x3 (ix2 i e)
    = ((ext (quot 0 (fun r e => d r (col 0 e)) (w 0) (fun e => s (col 0 e)) e) i.val - ext (quot 0 (fun r e => d r (col 0 e)) (w 0) (fun e => s (col 0 e)) e) (i.val + win 0) : ℝ) : EReal) := by
  unfold val_main_v128 val_main_v127 val_main_v125 val_main_v124 val_main_cst_19
  pointwise
  rw [ref_quot0 hd hw hs]
  exact drop (quot 0 (fun r e => d r (col 0 e)) (w 0) (fun e => s (col 0 e)) e) 2 i fun h => ref_quot0 hd hw hs _ e
theorem ref_quot1 (i : Fin 4096) (e : Fin 128) : val_main_v113 (F := Ideal) x1 x2 x3 (ix2 i e) = ((quot 1 (fun r e => d r (col 1 e)) (w 1) (fun e => s (col 1 e)) e i : ℝ) : EReal) := by
  unfold val_main_v113 val_main_v112 val_main_v88 val_main_v87 val_main_v29 val_main_v27 val_main_v26 val_main_v25 val_main_v5 val_main_v4 val_main_v3 val_main_c val_main_c_4
  pointwise
  rw [ref_ct hd hw hs, ref_cnt 1 (w := 4) (by decide) rfl, div_real _ (cnt_ne 1 _)]
  rfl
theorem ref_drop1 (i : Fin 4096) (e : Fin 128) : val_main_v118 (F := Ideal) x1 x2 x3 (ix2 i e)
    = ((ext (quot 1 (fun r e => d r (col 1 e)) (w 1) (fun e => s (col 1 e)) e) i.val - ext (quot 1 (fun r e => d r (col 1 e)) (w 1) (fun e => s (col 1 e)) e) (i.val + win 1) : ℝ) : EReal) := by
  unfold val_main_v118 val_main_v117 val_main_v115 val_main_v114 val_main_cst_17
  pointwise
  rw [ref_quot1 hd hw hs]
  exact drop (quot 1 (fun r e => d r (col 1 e)) (w 1) (fun e => s (col 1 e)) e) 4 i fun h => ref_quot1 hd hw hs _ e
theorem ref_quot2 (i : Fin 4096) (e : Fin 128) : val_main_v103 (F := Ideal) x1 x2 x3 (ix2 i e) = ((quot 2 (fun r e => d r (col 2 e)) (w 2) (fun e => s (col 2 e)) e i : ℝ) : EReal) := by
  unfold val_main_v103 val_main_v102 val_main_v90 val_main_v89 val_main_v42 val_main_v40 val_main_v39 val_main_v38 val_main_v5 val_main_v4 val_main_v3 val_main_c val_main_c_7
  pointwise
  rw [ref_ct hd hw hs, ref_cnt 2 (w := 8) (by decide) rfl, div_real _ (cnt_ne 2 _)]
  rfl
theorem ref_drop2 (i : Fin 4096) (e : Fin 128) : val_main_v108 (F := Ideal) x1 x2 x3 (ix2 i e)
    = ((ext (quot 2 (fun r e => d r (col 2 e)) (w 2) (fun e => s (col 2 e)) e) i.val - ext (quot 2 (fun r e => d r (col 2 e)) (w 2) (fun e => s (col 2 e)) e) (i.val + win 2) : ℝ) : EReal) := by
  unfold val_main_v108 val_main_v107 val_main_v105 val_main_v104 val_main_cst_15
  pointwise
  rw [ref_quot2 hd hw hs]
  exact drop (quot 2 (fun r e => d r (col 2 e)) (w 2) (fun e => s (col 2 e)) e) 8 i fun h => ref_quot2 hd hw hs _ e
theorem ref_quot3 (i : Fin 4096) (e : Fin 128) : val_main_v94 (F := Ideal) x1 x2 x3 (ix2 i e) = ((quot 3 (fun r e => d r (col 3 e)) (w 3) (fun e => s (col 3 e)) e i : ℝ) : EReal) := by
  unfold val_main_v94 val_main_v93 val_main_v92 val_main_v91 val_main_v55 val_main_v53 val_main_v52 val_main_v51 val_main_v5 val_main_v4 val_main_v3 val_main_c val_main_c_10
  pointwise
  rw [ref_ct hd hw hs, ref_cnt 3 (w := 16) (by decide) rfl, div_real _ (cnt_ne 3 _)]
  rfl
theorem ref_drop3 (i : Fin 4096) (e : Fin 128) : val_main_v99 (F := Ideal) x1 x2 x3 (ix2 i e)
    = ((ext (quot 3 (fun r e => d r (col 3 e)) (w 3) (fun e => s (col 3 e)) e) i.val - ext (quot 3 (fun r e => d r (col 3 e)) (w 3) (fun e => s (col 3 e)) e) (i.val + win 3) : ℝ) : EReal) := by
  unfold val_main_v99 val_main_v98 val_main_v96 val_main_v95 val_main_cst_13
  pointwise
  rw [ref_quot3 hd hw hs]
  exact drop (quot 3 (fun r e => d r (col 3 e)) (w 3) (fun e => s (col 3 e)) e) 16 i fun h => ref_quot3 hd hw hs _ e

/-- The four levels side by side. -/
theorem ref_steps (i : Fin 4096) (l : Fin 4) (e : Fin 128) : val_main_v131 (F := Ideal) x1 x2 x3 (ix3 i l e)
    = ((ext (quot l.val (fun r e => d r (col l e)) (w l) (fun e => s (col l e)) e) i.val - ext (quot l.val (fun r e => d r (col l e)) (w l) (fun e => s (col l e)) e) (i.val + win l.val) : ℝ) : EReal) := by
  unfold val_main_v131 val_main_v130 val_main_v121 val_main_v120 val_main_v111 val_main_v110 val_main_v101 val_main_v100 val_main_v109 val_main_v119 val_main_v129 val_main_cst_14 val_main_cst_16 val_main_cst_18 val_main_cst_20
  pointwise
  match l with
  | 0 => rw [dif_neg (by decide), dif_neg (by decide), dif_neg (by decide), dif_pos (by decide)]; simp only [zero_add, add_zero]; exact ref_drop0 hd hw hs i e
  | 1 => rw [dif_neg (by decide), dif_neg (by decide), dif_pos (by decide), dif_neg (by decide)]; simp only [zero_add, add_zero]; exact ref_drop1 hd hw hs i e
  | 2 => rw [dif_neg (by decide), dif_pos (by decide), dif_neg (by decide), dif_neg (by decide)]; simp only [zero_add, add_zero]; exact ref_drop2 hd hw hs i e
  | 3 => rw [dif_pos (by decide), dif_neg (by decide), dif_neg (by decide), dif_neg (by decide)]; simp only [zero_add, add_zero]; exact ref_drop3 hd hw hs i e

/-- The window's sum, taken as a running sum from the end. -/
theorem ref_ahead (i : Fin 4096) (l : Fin 4) (e : Fin 128) : val_main_v132 (F := Ideal) x1 x2 x3 (ix3 i l e)
    = ((ahead (quot l.val (fun r e => d r (col l e)) (w l) (fun e => s (col l e)) e) (win l.val) i.val : ℝ) : EReal) := by
  have e0 : ∀ k, val_main_call1_call0_v0 (F := Ideal) k = 0 := fun k => by
    unfold val_main_call1_call0_v0 val_main_call1_call0_cst
    pointwise
  unfold val_main_v132
  refine Eq.trans ?_ (congrArg _ (from_end (quot l.val (fun r e => d r (col l e)) (w l) (fun e => s (col l e)) e) (win l.val) i.val))
  exact host_window _ _ e0 (fun r => ext (quot l.val (fun r e => d r (col l e)) (w l) (fun e => s (col l e)) e) r.val - ext (quot l.val (fun r e => d r (col l e)) (w l) (fun e => s (col l e)) e) (r.val + win l.val)) l e (fun n => ref_steps hd hw hs n l e) _ _ i

/-- The rows' gradient. -/
theorem ref_dz (i : Fin 4096) (k : Fin 512) : val_main_v135 (F := Ideal) x1 x2 x3 (ix2 i k) = ((dzAt d w s (lev k) i (chan k) : ℝ) : EReal) := by
  unfold val_main_v135 val_main_v134 val_main_v133 val_main_v84
  pointwise
  refine (congrArg₂ (fun a b : EReal => -a + b) (ref_ct hd hw hs i (lev k) (chan k)) (ref_ahead hd hw hs i (lev k) (chan k))).trans ?_
  rw [neg_real, add_real]
  refine congrArg ((↑) : ℝ → EReal) ?_
  rw [dzAt, ext_val, quot, div_mul_cancel₀ _ (cnt_ne _ _)]
  ring

end
end

end Cert.Proof.Pool

end
-- ==== Proof.PoolClaims.lean ====
/- The pooling mixer's gradients (`_pool_bwd`). -/
module

public import proofs.«01_k».proof.Defs
public import proofs.«01_k».proof.Proof.Gen.PoolKernel.Frame
public import proofs.«01_k».proof.Proof.PoolRef
public import proofs.«01_k».proof.Proof.Lib.Finite
public import proofs.«01_k».proof.Proof.Gen.PoolReferenceIdeal.Run
public import proofs.«01_k».proof.Proof.Gen.Pre_pool_finite

@[expose] public section

set_option maxRecDepth 16384

noncomputable section

namespace Cert.Proof.PoolClaims

open Idealize.ShloMosaic Idealize.ShloMosaic.TcCoe Idealize.SL.Sem Cert.Step Cert.Proof.Pool

/-- The kernel's frame. -/
theorem frame_kernel : Cert.quiescent_PoolKernel := fun m ρ _ => Cert.PoolKernel.Gen.frame m ρ
/-- The idealized kernel's frame. -/
theorem frame_ideal : Cert.quiescent_PoolKernelIdeal := fun m ρ _ => Cert.PoolKernelIdeal.Gen.frame m ρ
/-- The reference's frame: its run leaves the arguments alone, and it has no semaphore. -/
theorem frame_reference : Cert.quiescent_PoolReferenceIdeal := fun m ρ _ =>
  (θ_run Cert.PoolReferenceIdeal.defs _ _).mono
    (fun r h => ⟨fun c => (h c).2.2.2, sem_eq_zero_of_no_sems (by decide) r.2⟩)
    (Cert.PoolReferenceIdeal.Value.run (F := Ideal) m ρ)
/-- The ideal pass rewrote nothing. -/
theorem preserves : Cert.preserves_PoolKernel_PoolKernelIdeal := trivial

section
open Cert.PoolKernelIdeal Cert.PoolKernelIdeal.Gen
variable {m : (ℓ : Loc nD τ sig) → Buf (Elt Ideal) ℓ} {c : Dev nD}

/-- What the host hands the kernel: the pooling part of the cotangent, the scales as a row. -/
theorem host_d (i : Fin 4096) (k : Fin 512) : V m c main_v0 (ix2 i k) = m ((c : Thread nD τ).loc main_arg1) (ix2 i (ocol k)) := by
  entry_read; pointwise; rfl
theorem host_s (k : Fin 512) : V m c main_v1 (ix2 0 k) = m ((c : Thread nD τ).loc main_arg3) (ix1 k) := by
  entry_read; pointwise

end

/-- The precondition: the entries of the rows, the cotangent, the weights and the scales are real numbers. -/
theorem args_real {a0 a1 a2 a3} (h : Cert.Pre_pool_finite.fn (F := Ideal) a0 a1 a2 a3 = fun _ => 1#1) : AllReal a0 ∧ AllReal a1 ∧ AllReal a2 ∧ AllReal a3 := by
  have e := congrFun h (show Cert.Pre_pool_finite.S_.Idx from fun k => k.elim0)
  obtain ⟨e, h3⟩ := and_one e
  obtain ⟨e, h2⟩ := and_one e
  obtain ⟨h0, h1⟩ := and_one e
  exact ⟨finite_of_test _ _ inf_f32 _ _ _ _ h0, finite_of_test _ _ inf_bf16 _ _ _ _ h1, finite_of_test _ _ inf_f32 _ _ _ _ h2, finite_of_test _ _ inf_f32 _ _ _ _ h3⟩

set_option maxHeartbeats 2000000 in  -- three results of large arrays
/-- Both programs end with the same three arrays. -/
theorem algebraic : Cert.algebraic_PoolKernelIdeal_PoolReferenceIdeal := by
  intro m ρ m' ρ' hp hag
  refine ⟨fun c => _, fun c => _, fun c => _, Cert.PoolKernelIdeal.Value.run_blocks (F := Ideal) m ρ, ?_⟩
  refine (θ_run Cert.PoolReferenceIdeal.defs _ _).mono
    (fun _ h c => ?_) (Cert.PoolReferenceIdeal.Value.run (F := Ideal) m' ρ')
  obtain ⟨h0, h1, h2, h3⟩ := args_real (hp c)
  obtain ⟨z, hz⟩ := lift_real h0
  obtain ⟨d, hd⟩ := lift_real h1
  obtain ⟨w, hw⟩ := lift_real h2
  obtain ⟨s, hs⟩ := lift_real h3
  have H : RealArgs m c (fun i k => z (ix2 i (zcol k))) (fun i k => d (ix2 i (ocol k))) (fun l a b => w (ix3 l a b)) (fun k => s (ix1 k)) :=
    ⟨fun i k => congrFun hz _, fun i k => (host_d i k).trans (congrFun hd _), fun l a b => congrFun hw _, fun k => (host_s k).trans (congrFun hs _)⟩
  obtain ⟨a0, a1, a2, a3⟩ := hag c
  refine ⟨(h c).1.trans ?_, (h c).2.1.trans ?_, (h c).2.2.1.trans ?_, (h c).2.2.2⟩
  · refine ((Cert.PoolReferenceIdeal.Read.val_main_v135_eq m' c).trans ?_).trans (arr4 H).symm
    rw [a1, a2, a3]
    funext j
    idx_vars j
    exact ref_dz (fun i k => congrFun hd _) (fun l a b => congrFun hw _) (fun k => congrFun hs _) j0 j1
  · refine ((Cert.PoolReferenceIdeal.Read.val_main_v83_eq m' c).trans ?_).trans (arr5 H).symm
    rw [a0, a1, a3]
    funext j
    idx_vars j
    exact ref_dw (fun i k => congrFun hz _) (fun i k => congrFun hd _) (fun k => congrFun hs _) j0 j1 j2
  · refine ((Cert.PoolReferenceIdeal.Read.val_main_v136_eq m' c).trans ?_).trans (arr6 H).symm
    rw [a0, a1, a2]
    funext j
    idx_vars j
    obtain rfl : j0 = 0 := Subsingleton.elim _ _
    exact ref_ds (fun i k => congrFun hz _) (fun i k => congrFun hd _) (fun l a b => congrFun hw _) j1

end Cert.Proof.PoolClaims

end
-- ==== Proof.Lib.Slab.lean ====
module

public import proofs.«01_k».proof.Proof.Lib.Loop

/-! # Stores slab by slab

A list of stores whose pieces are the slabs `J-1, …, 0` of a three-axis buffer, or the single rows `J-1, …, 0` of a two-axis buffer, leaves what each piece says on its own slab. -/

@[expose] public section

noncomputable section

namespace Cert.Step

open Idealize.ShloMosaic

variable {Val : EltTy → Type} [∀ e, Nonempty (Val e)] {e : EltTy}

/-- Stores of the slabs `J-1, …, 0`, each agreeing with the array `G`. -/
inductive Slabs {K R W : ℕ} (G : (⟨3, ![K, R, W]⟩ : Shape).Idx → Val e) : ℕ → List (View.Piece Val ⟨3, ![K, R, W]⟩ e) → Prop where
  | nil : Slabs G 0 []
  | cons {J : ℕ} {L : List (View.Piece Val ⟨3, ![K, R, W]⟩ e)} (h : J < K) (inb : ∀ a : Fin 3, (![J, 0, 0] : Fin 3 → ℕ) a + (![1, R, W] : Fin 3 → ℕ) a ≤ (![K, R, W] : Fin 3 → ℕ) a)
      (w : (Rect.unit (s := ⟨3, ![K, R, W]⟩) ![J, 0, 0] ![1, R, W] inb).shape.Idx → Val e) (hw : ∀ (a : Fin R) (b : Fin W), w (ix3 (0 : Fin 1) a b) = G (ix3 (⟨J, h⟩ : Fin K) a b)) (hL : Slabs G J L) :
      Slabs G (J + 1) (⟨Rect.unit ![J, 0, 0] ![1, R, W] inb, w⟩ :: L)

/-- Where a slab's entries lie. -/
theorem emb_slab {K R W J : ℕ} (h : J < K) (inb : ∀ a : Fin 3, (![J, 0, 0] : Fin 3 → ℕ) a + (![1, R, W] : Fin 3 → ℕ) a ≤ (![K, R, W] : Fin 3 → ℕ) a) (q : Fin 1) (a : Fin R) (b : Fin W) :
    (Rect.unit (s := ⟨3, ![K, R, W]⟩) ![J, 0, 0] ![1, R, W] inb).emb (ix3 q a b) = ix3 (⟨J, h⟩ : Fin K) a b := by
  funext c
  match c with
  | ⟨0, _⟩ => exact Fin.ext (by show J + 1 * q.val = J; omega)
  | ⟨1, _⟩ => exact Fin.ext (by show 0 + 1 * a.val = a.val; omega)
  | ⟨2, _⟩ => exact Fin.ext (by show 0 + 1 * b.val = b.val; omega)

/-- What a load of a slab reads of what the pieces `P` over the earlier pieces `L` left. -/
theorem held_slab {sig : RefSig} {κ : Kind} {sp : Space} {K R W J : ℕ} (v : View sig κ sp ⟨3, ![K, R, W]⟩ e) (P L : List (View.Piece Val ⟨3, ![K, R, W]⟩ e)) (h : J < K)
    (inb : ∀ a : Fin 3, (![J, 0, 0] : Fin 3 → ℕ) a + (![1, R, W] : Fin 3 → ℕ) a ≤ (![K, R, W] : Fin 3 → ℕ) a) (a : Fin R) (b : Fin W) :
    v.readAt Val (Rect.unit (s := ⟨3, ![K, R, W]⟩) ![J, 0, 0] ![1, R, W] inb).toLoadRect (v.writes Val (v.writes Val v.junk L) P) (ix3 (0 : Fin 1) a b) = View.canon (P ++ L) (ix3 (⟨J, h⟩ : Fin K) a b) := by
  rw [← View.writes_append, View.readAt_eq_ld, View.read_writes_junk_eq_canon]
  exact congrArg (View.canon (P ++ L)) (emb_slab h inb 0 a b)

/-- On the slabs stored the buffer holds the array. -/
theorem Slabs.canon {K R W J : ℕ} {G : (⟨3, ![K, R, W]⟩ : Shape).Idx → Val e} {L : List (View.Piece Val ⟨3, ![K, R, W]⟩ e)} (hL : Slabs G J L) (M : List (View.Piece Val ⟨3, ![K, R, W]⟩ e)) :
    ∀ y : (⟨3, ![K, R, W]⟩ : Shape).Idx, (y 0).val < J → View.canon (L ++ M) y = G y := by
  induction hL with
  | nil => intro y hy; exact absurd hy (Nat.not_lt_zero _)
  | @cons J L h inb w hw hL ih =>
    intro y hy
    by_cases hm : y ∈ (Rect.unit (s := ⟨3, ![K, R, W]⟩) ![J, 0, 0] ![1, R, W] inb).set
    · obtain ⟨x, rfl⟩ := (Rect.unit (s := ⟨3, ![K, R, W]⟩) ![J, 0, 0] ![1, R, W] inb).exists_idx_of_mem hm
      refine (View.canon_cons_emb _ w (L ++ M) x).trans ?_
      have hx : ∀ x : (⟨3, ![1, R, W]⟩ : Shape).Idx, w x = G ((Rect.unit (s := ⟨3, ![K, R, W]⟩) ![J, 0, 0] ![1, R, W] inb).emb x) := by
        intro x
        rw [eq_ix3 x, show x 0 = (0 : Fin 1) from Subsingleton.elim (α := Fin 1) _ _]
        exact (hw (x 1) (x 2)).trans (congrArg G (emb_slab h inb 0 (x 1) (x 2)).symm)
      exact hx x
    · refine (View.canon_cons_of_not_mem _ (L ++ M) hm).trans (ih y ?_)
      rcases Nat.lt_succ_iff_lt_or_eq.mp hy with h' | h'
      · exact h'
      · refine absurd ?_ hm
        rw [Rect.mem_set_unit]
        intro c
        match c with
        | ⟨0, _⟩ => exact ⟨h'.ge, by show (y 0).val < J + 1; omega⟩
        | ⟨1, _⟩ => exact ⟨Nat.zero_le _, by show (y 1).val < 0 + R; have : (y 1).val < R := (y 1).isLt; omega⟩
        | ⟨2, _⟩ => exact ⟨Nat.zero_le _, by show (y 2).val < 0 + W; have : (y 2).val < W := (y 2).isLt; omega⟩

/-- Stores of the rows `J-1, …, 0`, each agreeing with the array `G`. -/
inductive Rows {K W : ℕ} (G : (⟨2, ![K, W]⟩ : Shape).Idx → Val e) : ℕ → List (View.Piece Val ⟨2, ![K, W]⟩ e) → Prop where
  | nil : Rows G 0 []
  | cons {J : ℕ} {L : List (View.Piece Val ⟨2, ![K, W]⟩ e)} (h : J < K) (inb : ∀ a : Fin 2, (![J, 0] : Fin 2 → ℕ) a + (![1, W] : Fin 2 → ℕ) a ≤ (![K, W] : Fin 2 → ℕ) a)
      (w : (Rect.unit (s := ⟨2, ![K, W]⟩) ![J, 0] ![1, W] inb).shape.Idx → Val e) (hw : ∀ b : Fin W, w (ix2 (0 : Fin 1) b) = G (ix2 (⟨J, h⟩ : Fin K) b)) (hL : Rows G J L) :
      Rows G (J + 1) (⟨Rect.unit ![J, 0] ![1, W] inb, w⟩ :: L)

/-- On the rows stored the buffer holds the array. -/
theorem Rows.canon {K W J : ℕ} {G : (⟨2, ![K, W]⟩ : Shape).Idx → Val e} {L : List (View.Piece Val ⟨2, ![K, W]⟩ e)} (hL : Rows G J L) :
    ∀ y : (⟨2, ![K, W]⟩ : Shape).Idx, (y 0).val < J → View.canon L y = G y := by
  induction hL with
  | nil => intro y hy; exact absurd hy (Nat.not_lt_zero _)
  | @cons J L h inb w hw hL ih =>
    intro y hy
    by_cases hm : y ∈ (Rect.unit (s := ⟨2, ![K, W]⟩) ![J, 0] ![1, W] inb).set
    · obtain ⟨x, rfl⟩ := (Rect.unit (s := ⟨2, ![K, W]⟩) ![J, 0] ![1, W] inb).exists_idx_of_mem hm
      refine (View.canon_cons_emb _ w L x).trans ?_
      have hx : ∀ x : (⟨2, ![1, W]⟩ : Shape).Idx, w x = G ((Rect.unit (s := ⟨2, ![K, W]⟩) ![J, 0] ![1, W] inb).emb x) := by
        intro x
        rw [eq_ix2 x, show x 0 = (0 : Fin 1) from Subsingleton.elim (α := Fin 1) _ _]
        exact (hw (x 1)).trans (congrArg G (emb_band (o := J) rfl inb 0 (x 1) h).symm)
      exact hx x
    · refine (View.canon_cons_of_not_mem _ L hm).trans (ih y ?_)
      rcases Nat.lt_succ_iff_lt_or_eq.mp hy with h' | h'
      · exact h'
      · refine absurd ?_ hm
        rw [Rect.mem_set_unit]
        exact Fin.forall_fin_two.mpr ⟨⟨h'.ge, by show (y 0).val < J + 1; omega⟩, Nat.zero_le _, by show (y 1).val < 0 + W; have : (y 1).val < W := (y 1).isLt; omega⟩

end Cert.Step

end
-- ==== Proof.Lib.Chunks.lean ====
module

public import proofs.«01_k».proof.Proof.Lib.Taps
public import proofs.«01_k».proof.Proof.Lib.Real
public import proofs.«01_k».proof.Proof.Lib.Slab

/-! # Causal convolutions chunk by chunk, over the extended reals

What the backward kernels of the causal convolutions share: a window of a padded column, the accumulator that holds eight running sums per tap, and the shifted
products and single rows a differentiated convolution adds up. -/

@[expose] public section

noncomputable section

namespace Cert.Step

open Idealize.ShloMosaic
open Finset (range)

/-- A block of 192 rows whose entries in column `d` are the numbers `f`. -/
def Reads (x : (⟨2, ![192, 128]⟩ : Shape).Idx → EReal) (f : ℕ → ℝ) (d : Fin 128) : Prop := ∀ n (h : n < 192), x (ix2 (⟨n, h⟩ : Fin 192) d) = ((f n : ℝ) : EReal)

/-- Closing one slab of the weight gradient: what it held plus this chunk's sixteen products. -/
theorem slab_sum {V : EReal} {F G : Fin 16 → EReal} {A : ℝ} {f g : Fin 16 → ℝ} (hV : V = (A : EReal)) (hF : ∀ x, F x = ((f x : ℝ) : EReal)) (hG : ∀ x, G x = ((g x : ℝ) : EReal)) :
    V + ∑ x, F x * G x = ((A + ∑ x, f x * g x : ℝ) : EReal) := by
  simp only [hV, hF, hG, mul_real, sum_real, add_real]

/-- What a slab's store is after one chunk, at the tap that looks `s` rows back. -/
abbrev slabAfter (D H : ℕ → ℝ) (A : ℝ) (s : ℕ) (a : Fin 8) : EReal := ((A + ∑ x : Fin 16, D (32 + (x.val * 8 + a.val)) * H (32 + (x.val * 8 + a.val) - s) : ℝ) : EReal)

/-- One chunk added to one slab of the weight gradient. -/
theorem slab_step (f h : Fin 4096 → ℝ) (s k : ℕ) (hs : s ≤ 32) (a : Fin 8) :
    slabAfter (fun n => pad 32 f (128 * k + n)) (fun n => pad 32 h (128 * k + n)) (tapAcc f h s k a) s a = ((tapAcc f h s (k + 1) a : ℝ) : EReal) := by
  refine congrArg ((↑) : ℝ → EReal) ?_
  rw [tapAcc_succ]
  refine congrArg (tapAcc f h s k a + ·) (Finset.sum_congr rfl fun x _ => ?_)
  have e1 : pad 32 f (128 * k + (32 + (x.val * 8 + a.val))) = ext f (128 * k + (x.val * 8 + a.val)) := by
    rw [show 128 * k + (32 + (x.val * 8 + a.val)) = 32 + (128 * k + (x.val * 8 + a.val)) by omega, pad_add]
  have e2 : pad 32 h (128 * k + (32 + (x.val * 8 + a.val) - s)) = before h s (128 * k + (x.val * 8 + a.val)) := by
    rw [show 128 * k + (32 + (x.val * 8 + a.val) - s) = 32 + (128 * k + (x.val * 8 + a.val)) - s by omega, pad_before h _ _ hs]
  show pad 32 f (128 * k + (32 + (x.val * 8 + a.val))) * pad 32 h (128 * k + (32 + (x.val * 8 + a.val) - s)) = _
  rw [e1, e2]

/-- The weight gradient's running sums after `k` chunks, the accumulator of `K` taps. -/
abbrev running {K : ℕ} (D H : Fin 4096 → Fin 128 → ℝ) (k : ℕ) (y : (⟨3, ![K, 8, 128]⟩ : Shape).Idx) : EReal :=
  ((tapAcc (fun s => D s (y 2)) (fun s => H s (y 2)) (K - 1 - (y 0).val) k (y 1) : ℝ) : EReal)

/-- The eight running sums of one slab make the tap's gradient. -/
theorem eight_sums {v : Fin 8 → EReal} {f h : Fin 4096 → ℝ} {t : ℕ} (hv : ∀ a, v a = ((tapAcc f h t 32 a : ℝ) : EReal)) : ∑ a, v a = ((tapGrad f h t : ℝ) : EReal) :=
  (Finset.sum_congr rfl fun a _ => hv a).trans ((sum_real _ fun a : Fin 8 => tapAcc f h t 32 a).trans (congrArg ((↑) : ℝ → EReal) (tapAcc_all f h t)))

/-- Inside its rows a padded column is the column. -/
theorem pad_in {f : Fin 4096 → ℝ} {H p : ℕ} (h : H ≤ p) (h' : p - H < 4096) : pad H f p = f ⟨p - H, h'⟩ :=
  (if_pos h).trans (ext_val f ⟨p - H, h'⟩)

/-- A product shifted down by `J` rows, zeros around it. -/
theorem tap_pad {u : ℝ} {f : Fin 4096 → ℝ} {J p : ℕ} {x : J ≤ p ∧ p - J < 4096 → EReal} (hx : ∀ h, x h = ((u * f ⟨p - J, h.2⟩ : ℝ) : EReal)) :
    (if h : J ≤ p ∧ p - J < 4096 then x h else 0) = ((u * before f J p : ℝ) : EReal) := by
  by_cases h : J ≤ p ∧ p - J < 4096
  · rw [dif_pos h, hx, before, if_pos h.1]
    exact congrArg (fun b => ((u * b : ℝ) : EReal)) (ext_val f ⟨p - J, h.2⟩).symm
  · rw [dif_neg h]
    refine EReal.coe_zero.symm.trans (congrArg ((↑) : ℝ → EReal) ?_)
    have e : before f J p = 0 := by
      unfold before
      split
      · next h' => exact ext_of_le f (by omega)
      · rfl
    rw [e, mul_zero]

/-- The same, not shifted. -/
theorem tap_pad0 {u : ℝ} {f : Fin 4096 → ℝ} {p : ℕ} {x : p < 4096 → EReal} (hx : ∀ h, x h = ((u * f ⟨p, h⟩ : ℝ) : EReal)) :
    (if h : p < 4096 then x h else 0) = ((u * before f 0 p : ℝ) : EReal) := by
  by_cases h : p < 4096
  · rw [dif_pos h, hx, before, if_pos (Nat.zero_le p)]
    exact congrArg (fun b => ((u * b : ℝ) : EReal)) (ext_val f ⟨p, h⟩).symm
  · rw [dif_neg h, before, if_pos (Nat.zero_le p), ext_of_le f (by omega), mul_zero, EReal.coe_zero]

/-- A single row put at row `J` of the taps' gradient. -/
theorem row_pad {t : ℝ} {J j : ℕ} {x : J ≤ j ∧ j - J < 1 → EReal} (hx : ∀ h, x h = ((t : ℝ) : EReal)) :
    (if h : J ≤ j ∧ j - J < 1 then x h else 0) = ((if j = J then t else 0 : ℝ) : EReal) := by
  by_cases h : J ≤ j ∧ j - J < 1
  · rw [dif_pos h, if_pos (by omega), hx]
  · rw [dif_neg h, if_neg (by omega), EReal.coe_zero]

theorem row_pad0 {t : ℝ} {j : ℕ} {x : j < 1 → EReal} (hx : ∀ h, x h = ((t : ℝ) : EReal)) :
    (if h : j < 1 then x h else 0) = ((if j = 0 then t else 0 : ℝ) : EReal) := by
  by_cases h : j < 1
  · rw [dif_pos h, if_pos (by omega), hx]
  · rw [dif_neg h, if_neg (by omega), EReal.coe_zero]

/-- A tap's gradient as a sum of products. -/
theorem grad_sum {F G : Fin 4096 → EReal} {f h : Fin 4096 → ℝ} {t : ℕ} (hF : ∀ s, F s = ((f s : ℝ) : EReal)) (hG : ∀ s, G s = ((before h t s.val : ℝ) : EReal)) :
    ∑ s, F s * G s = ((tapGrad f h t : ℝ) : EReal) := by
  simp only [hF, hG, mul_real, sum_real, tapGrad]

end Cert.Step

end
-- ==== Proof.CfConvPay.lean ====
/- What the stores of the gated causal convolution backward kernel hold, over real numbers. -/
module

public import proofs.«01_k».proof.Proof.Gen.CfConvKernelIdeal.Value
public import proofs.«01_k».proof.Proof.Lib.Chunks
public import proofs.«01_k».proof.Proof.Lib.LnIdeal
public import Idealize.ShloMosaic.Lib.Pipeline.ValueKit

@[expose] public section

set_option maxRecDepth 16384

noncomputable section

namespace Cert.Proof.CfConv

open Idealize.ShloMosaic Idealize.ShloMosaic.TcCoe Idealize.SL.Sem Cert.CfConvKernelIdeal Cert.CfConvKernelIdeal.Gen Cert.Step
open Finset (range)

theorem trips1 : k0_t1_loop.trips = 32 := by decide +kernel
theorem trips2 : k0_t2_loop.trips = 32 := by decide +kernel
theorem off1 : ∀ k : Fin k0_t1_loop.trips, k0_off1 k = ![128 * k.val, 0] ∧ k0_off2 k = ![32 + 128 * k.val, 0] := by decide +kernel
theorem off2 : ∀ k : Fin k0_t2_loop.trips, k0_off3 k = ![128 * k.val, 0] ∧ k0_off4 k = ![0 + 128 * k.val, 0] := by decide +kernel

/-- The gated product as the first loop stores it. -/
theorem pay65 (p q : Vec Ideal S128x128 .f32) (P Q : ℝ) (r d : Fin 128) (hp : p (ix2 r d) = (P : EReal)) (hq : q (ix2 r d) = (Q : EReal)) :
    k0_pay65 (F := Ideal) p q (ix2 r d) = ((P * sg Q : ℝ) : EReal) := by
  unfold k0_pay65
  pointwise
  rw [hp, hq, sigmoid_real, mul_real]

theorem pay66 (p : Vec Ideal S128x128 .f32) (r d : Fin 128) : k0_pay66 (F := Ideal) p (ix2 r d) = p (ix2 r d) := by
  unfold k0_pay66
  pointwise

/-- The first half's gradient, given the convolution's adjoint. -/
theorem pay69 (p q : Vec Ideal S128x128 .f32) (P Q : ℝ) (r d : Fin 128) (hp : p (ix2 r d) = (P : EReal)) (hq : q (ix2 r d) = (Q : EReal)) :
    k0_pay69 (F := Ideal) p q (ix2 r d) = ((P * sg Q : ℝ) : EReal) := by
  unfold k0_pay69 k0_pay68
  pointwise
  rw [hp, hq, sigmoid_real, mul_real]

/-- The second half's gradient, given the convolution's adjoint. -/
theorem pay70 (p q s : Vec Ideal S128x128 .f32) (P Q S : ℝ) (r d : Fin 128) (hp : p (ix2 r d) = (P : EReal)) (hq : q (ix2 r d) = (Q : EReal)) (hs : s (ix2 r d) = (S : EReal)) :
    k0_pay70 (F := Ideal) p q s (ix2 r d) = ((P * S * sg Q * (1 - sg Q) : ℝ) : EReal) := by
  unfold k0_pay70 k0_pay68
  pointwise
  rw [hp, hq, hs, sigmoid_real, one_real]
  simp only [mul_real, sub_real]

/-- The adjoint of the 31 taps on one chunk: the kernel's chain of shifted products. -/
theorem taps (x : Vec Ideal S192x128 .f32) (X : ℕ → ℝ) (d r : Fin 128) (hx : Reads x X d) (u0 u1 u2 u3 u4 u5 u6 u7 u8 u9 u10 u11 u12 u13 u14 u15 u16 u17 u18 u19 u20 u21 u22 u23 u24 u25 u26 u27 u28 u29 u30 : Vec Ideal S1x128 .f32) (U : ℕ → ℝ)
    (h0 : u0 (ix2 0 d) = ((U 0 : ℝ) : EReal)) (h1 : u1 (ix2 0 d) = ((U 1 : ℝ) : EReal)) (h2 : u2 (ix2 0 d) = ((U 2 : ℝ) : EReal)) (h3 : u3 (ix2 0 d) = ((U 3 : ℝ) : EReal)) (h4 : u4 (ix2 0 d) = ((U 4 : ℝ) : EReal)) (h5 : u5 (ix2 0 d) = ((U 5 : ℝ) : EReal)) (h6 : u6 (ix2 0 d) = ((U 6 : ℝ) : EReal)) (h7 : u7 (ix2 0 d) = ((U 7 : ℝ) : EReal)) (h8 : u8 (ix2 0 d) = ((U 8 : ℝ) : EReal)) (h9 : u9 (ix2 0 d) = ((U 9 : ℝ) : EReal)) (h10 : u10 (ix2 0 d) = ((U 10 : ℝ) : EReal)) (h11 : u11 (ix2 0 d) = ((U 11 : ℝ) : EReal)) (h12 : u12 (ix2 0 d) = ((U 12 : ℝ) : EReal)) (h13 : u13 (ix2 0 d) = ((U 13 : ℝ) : EReal)) (h14 : u14 (ix2 0 d) = ((U 14 : ℝ) : EReal)) (h15 : u15 (ix2 0 d) = ((U 15 : ℝ) : EReal)) (h16 : u16 (ix2 0 d) = ((U 16 : ℝ) : EReal)) (h17 : u17 (ix2 0 d) = ((U 17 : ℝ) : EReal)) (h18 : u18 (ix2 0 d) = ((U 18 : ℝ) : EReal)) (h19 : u19 (ix2 0 d) = ((U 19 : ℝ) : EReal)) (h20 : u20 (ix2 0 d) = ((U 20 : ℝ) : EReal)) (h21 : u21 (ix2 0 d) = ((U 21 : ℝ) : EReal)) (h22 : u22 (ix2 0 d) = ((U 22 : ℝ) : EReal)) (h23 : u23 (ix2 0 d) = ((U 23 : ℝ) : EReal)) (h24 : u24 (ix2 0 d) = ((U 24 : ℝ) : EReal)) (h25 : u25 (ix2 0 d) = ((U 25 : ℝ) : EReal)) (h26 : u26 (ix2 0 d) = ((U 26 : ℝ) : EReal)) (h27 : u27 (ix2 0 d) = ((U 27 : ℝ) : EReal)) (h28 : u28 (ix2 0 d) = ((U 28 : ℝ) : EReal)) (h29 : u29 (ix2 0 d) = ((U 29 : ℝ) : EReal)) (h30 : u30 (ix2 0 d) = ((U 30 : ℝ) : EReal)) :
    k0_pay57 (F := Ideal) x (k0_pay53 (F := Ideal) x (k0_pay50 (F := Ideal) x (k0_pay47 (F := Ideal) x (k0_pay44 (F := Ideal) x (k0_pay38 (F := Ideal) x (k0_pay34 (F := Ideal) x (k0_pay31 (F := Ideal) x (k0_pay28 (F := Ideal) x (k0_pay25 (F := Ideal) x (k0_pay21 (F := Ideal) x (k0_pay17 (F := Ideal) x (k0_pay13 (F := Ideal) x (k0_pay8 (F := Ideal) x (k0_pay3 (F := Ideal) x u0 u1) u2 u3) u4 u5) u6 u7) u8 u9) u10 u11) u12 u13) u14 u15) u16 u17) u18 (k0_pay36 (F := Ideal) x) u19) (k0_pay40 (F := Ideal) x) (k0_pay41 (F := Ideal) u20) u21 u22) u23 u24) u25 u26) u27 u28) u29 u30 (ix2 r d)
      = ((∑ j ∈ range 31, U j * X (32 + r.val + (30 - j)) : ℝ) : EReal) := by
  unfold k0_pay57 k0_pay53 k0_pay50 k0_pay47 k0_pay44 k0_pay41 k0_pay40 k0_pay38 k0_pay36 k0_pay34 k0_pay31 k0_pay28 k0_pay25 k0_pay21 k0_pay17 k0_pay13 k0_pay8 k0_pay3
  pointwise
  have hr := r.isLt
  simp (disch := omega) only [rot_ahead]
  simp only [hx _ _, h0, h1, h2, h3, h4, h5, h6, h7, h8, h9, h10, h11, h12, h13, h14, h15, h16, h17, h18, h19, h20, h21, h22, h23, h24, h25, h26, h27, h28, h29, h30, mul_real, add_real]
  refine congrArg ((↑) : ℝ → EReal) ?_
  simp only [Finset.sum_range_succ, Finset.range_zero, Finset.sum_empty, zero_add, Nat.reduceSub, Nat.add_zero]

/-- A buffer read at a row that is named another way. -/
theorem at_ {x : Vec Ideal S192x128 .f32} {f : ℕ → ℝ} {d : Fin 128} (h : Reads x f d) {n k : ℕ} {hn : n < 192} (e : n = k) : x (ix2 (⟨n, hn⟩ : Fin 192) d) = ((f k : ℝ) : EReal) := e ▸ h n hn

section Slabs

variable (x8 x9 : Vec Ideal S192x128 .f32) (v : Vec Ideal S1x8x128 .f32) (D H : ℕ → ℝ) (A : ℝ) (a : Fin 8) (d : Fin 128)
variable (hx8 : Reads x8 H d) (hx9 : Reads x9 D d) (hv : v (ix3 0 a d) = (A : EReal))
include hx8 hx9 hv

theorem slab0 : k0_pay2 (F := Ideal) x8 x9 v (ix3 0 a d) = slabAfter D H A 30 a := by
  unfold k0_pay2  k0_pay1
  pointwise
  exact slab_sum hv (fun x => hx9 _ _) (fun x => at_ hx8 (by omega))

theorem slab1 : k0_pay6 (F := Ideal) (k0_pay4 (F := Ideal) v) (k0_pay5 (F := Ideal) x8 x9) (ix3 0 a d) = slabAfter D H A 29 a := by
  unfold k0_pay6 k0_pay4 k0_pay5 k0_pay1
  pointwise
  exact slab_sum hv (fun x => hx9 _ _) (fun x => at_ hx8 (by omega))

theorem slab2 : k0_pay7 (F := Ideal) x8 (k0_pay1 (F := Ideal) x9) v (ix3 0 a d) = slabAfter D H A 28 a := by
  unfold k0_pay7  k0_pay1
  pointwise
  exact slab_sum hv (fun x => hx9 _ _) (fun x => at_ hx8 (by omega))

theorem slab3 : k0_pay11 (F := Ideal) (k0_pay9 (F := Ideal) v) (k0_pay10 (F := Ideal) x8 (k0_pay1 (F := Ideal) x9)) (ix3 0 a d) = slabAfter D H A 27 a := by
  unfold k0_pay11 k0_pay9 k0_pay10 k0_pay1
  pointwise
  exact slab_sum hv (fun x => hx9 _ _) (fun x => at_ hx8 (by omega))

theorem slab4 : k0_pay12 (F := Ideal) x8 (k0_pay1 (F := Ideal) x9) v (ix3 0 a d) = slabAfter D H A 26 a := by
  unfold k0_pay12  k0_pay1
  pointwise
  exact slab_sum hv (fun x => hx9 _ _) (fun x => at_ hx8 (by omega))

theorem slab5 : k0_pay15 (F := Ideal) (k0_pay14 (F := Ideal) x8 (k0_pay1 (F := Ideal) x9) v) (ix3 0 a d) = slabAfter D H A 25 a := by
  unfold k0_pay15 k0_pay14 k0_pay1
  pointwise
  exact slab_sum hv (fun x => hx9 _ _) (fun x => at_ hx8 (by omega))

theorem slab6 : k0_pay16 (F := Ideal) x8 (k0_pay1 (F := Ideal) x9) v (ix3 0 a d) = slabAfter D H A 24 a := by
  unfold k0_pay16  k0_pay1
  pointwise
  exact slab_sum hv (fun x => hx9 _ _) (fun x => at_ hx8 (by omega))

theorem slab7 : k0_pay19 (F := Ideal) (k0_pay18 (F := Ideal) x8 (k0_pay1 (F := Ideal) x9) v) (ix3 0 a d) = slabAfter D H A 23 a := by
  unfold k0_pay19 k0_pay18 k0_pay1
  pointwise
  exact slab_sum hv (fun x => hx9 _ _) (fun x => at_ hx8 (by omega))

theorem slab8 : k0_pay20 (F := Ideal) x8 (k0_pay1 (F := Ideal) x9) v (ix3 0 a d) = slabAfter D H A 22 a := by
  unfold k0_pay20  k0_pay1
  pointwise
  exact slab_sum hv (fun x => hx9 _ _) (fun x => at_ hx8 (by omega))

theorem slab9 : k0_pay23 (F := Ideal) (k0_pay22 (F := Ideal) x8 (k0_pay1 (F := Ideal) x9) v) (ix3 0 a d) = slabAfter D H A 21 a := by
  unfold k0_pay23 k0_pay22 k0_pay1
  pointwise
  exact slab_sum hv (fun x => hx9 _ _) (fun x => at_ hx8 (by omega))

theorem slab10 : k0_pay24 (F := Ideal) x8 (k0_pay1 (F := Ideal) x9) v (ix3 0 a d) = slabAfter D H A 20 a := by
  unfold k0_pay24  k0_pay1
  pointwise
  exact slab_sum hv (fun x => hx9 _ _) (fun x => at_ hx8 (by omega))

theorem slab11 : k0_pay26 (F := Ideal) x8 (k0_pay1 (F := Ideal) x9) v (ix3 0 a d) = slabAfter D H A 19 a := by
  unfold k0_pay26  k0_pay1
  pointwise
  exact slab_sum hv (fun x => hx9 _ _) (fun x => at_ hx8 (by omega))

theorem slab12 : k0_pay27 (F := Ideal) x8 (k0_pay1 (F := Ideal) x9) v (ix3 0 a d) = slabAfter D H A 18 a := by
  unfold k0_pay27  k0_pay1
  pointwise
  exact slab_sum hv (fun x => hx9 _ _) (fun x => at_ hx8 (by omega))

theorem slab13 : k0_pay29 (F := Ideal) x8 (k0_pay1 (F := Ideal) x9) v (ix3 0 a d) = slabAfter D H A 17 a := by
  unfold k0_pay29  k0_pay1
  pointwise
  exact slab_sum hv (fun x => hx9 _ _) (fun x => at_ hx8 (by omega))

theorem slab14 : k0_pay30 (F := Ideal) x8 (k0_pay1 (F := Ideal) x9) v (ix3 0 a d) = slabAfter D H A 16 a := by
  unfold k0_pay30  k0_pay1
  pointwise
  exact slab_sum hv (fun x => hx9 _ _) (fun x => at_ hx8 (by omega))

theorem slab15 : k0_pay32 (F := Ideal) x8 (k0_pay1 (F := Ideal) x9) v (ix3 0 a d) = slabAfter D H A 15 a := by
  unfold k0_pay32  k0_pay1
  pointwise
  exact slab_sum hv (fun x => hx9 _ _) (fun x => at_ hx8 (by omega))

theorem slab16 : k0_pay33 (F := Ideal) x8 (k0_pay1 (F := Ideal) x9) v (ix3 0 a d) = slabAfter D H A 14 a := by
  unfold k0_pay33  k0_pay1
  pointwise
  exact slab_sum hv (fun x => hx9 _ _) (fun x => at_ hx8 (by omega))

theorem slab17 : k0_pay35 (F := Ideal) x8 (k0_pay1 (F := Ideal) x9) v (ix3 0 a d) = slabAfter D H A 13 a := by
  unfold k0_pay35  k0_pay1
  pointwise
  exact slab_sum hv (fun x => hx9 _ _) (fun x => at_ hx8 (by omega))

theorem slab18 : k0_pay37 (F := Ideal) x8 (k0_pay1 (F := Ideal) x9) v (ix3 0 a d) = slabAfter D H A 12 a := by
  unfold k0_pay37  k0_pay1
  pointwise
  exact slab_sum hv (fun x => hx9 _ _) (fun x => at_ hx8 (by omega))

theorem slab19 : k0_pay39 (F := Ideal) x8 (k0_pay1 (F := Ideal) x9) v (ix3 0 a d) = slabAfter D H A 11 a := by
  unfold k0_pay39  k0_pay1
  pointwise
  exact slab_sum hv (fun x => hx9 _ _) (fun x => at_ hx8 (by omega))

theorem slab20 : k0_pay42 (F := Ideal) x8 (k0_pay1 (F := Ideal) x9) v (ix3 0 a d) = slabAfter D H A 10 a := by
  unfold k0_pay42  k0_pay1
  pointwise
  exact slab_sum hv (fun x => hx9 _ _) (fun x => at_ hx8 (by omega))

theorem slab21 : k0_pay43 (F := Ideal) x8 (k0_pay1 (F := Ideal) x9) v (ix3 0 a d) = slabAfter D H A 9 a := by
  unfold k0_pay43  k0_pay1
  pointwise
  exact slab_sum hv (fun x => hx9 _ _) (fun x => at_ hx8 (by omega))

theorem slab22 : k0_pay45 (F := Ideal) x8 (k0_pay1 (F := Ideal) x9) v (ix3 0 a d) = slabAfter D H A 8 a := by
  unfold k0_pay45  k0_pay1
  pointwise
  exact slab_sum hv (fun x => hx9 _ _) (fun x => at_ hx8 (by omega))

theorem slab23 : k0_pay46 (F := Ideal) x8 (k0_pay1 (F := Ideal) x9) v (ix3 0 a d) = slabAfter D H A 7 a := by
  unfold k0_pay46  k0_pay1
  pointwise
  exact slab_sum hv (fun x => hx9 _ _) (fun x => at_ hx8 (by omega))

theorem slab24 : k0_pay48 (F := Ideal) x8 (k0_pay1 (F := Ideal) x9) v (ix3 0 a d) = slabAfter D H A 6 a := by
  unfold k0_pay48  k0_pay1
  pointwise
  exact slab_sum hv (fun x => hx9 _ _) (fun x => at_ hx8 (by omega))

theorem slab25 : k0_pay49 (F := Ideal) x8 (k0_pay1 (F := Ideal) x9) v (ix3 0 a d) = slabAfter D H A 5 a := by
  unfold k0_pay49  k0_pay1
  pointwise
  exact slab_sum hv (fun x => hx9 _ _) (fun x => at_ hx8 (by omega))

theorem slab26 : k0_pay51 (F := Ideal) x8 (k0_pay1 (F := Ideal) x9) v (ix3 0 a d) = slabAfter D H A 4 a := by
  unfold k0_pay51  k0_pay1
  pointwise
  exact slab_sum hv (fun x => hx9 _ _) (fun x => at_ hx8 (by omega))

theorem slab27 : k0_pay52 (F := Ideal) x8 (k0_pay1 (F := Ideal) x9) v (ix3 0 a d) = slabAfter D H A 3 a := by
  unfold k0_pay52  k0_pay1
  pointwise
  exact slab_sum hv (fun x => hx9 _ _) (fun x => at_ hx8 (by omega))

theorem slab28 : k0_pay55 (F := Ideal) x8 (k0_pay1 (F := Ideal) x9) (k0_pay54 (F := Ideal) v) 2#32 (ix3 0 a d) = slabAfter D H A 2 a := by
  unfold k0_pay55 k0_pay54 k0_pay1
  pointwise
  exact slab_sum hv (fun x => hx9 _ _) (fun x => at_ hx8 (by omega))

theorem slab29 : k0_pay56 (F := Ideal) x8 (k0_pay1 (F := Ideal) x9) v (ix3 0 a d) = slabAfter D H A 1 a := by
  unfold k0_pay56  k0_pay1
  pointwise
  exact slab_sum hv (fun x => hx9 _ _) (fun x => at_ hx8 (by omega))

theorem slab30 : k0_pay67 (F := Ideal) (k0_pay58 (F := Ideal) v) (k0_pay59 (F := Ideal) x8 (k0_pay1 (F := Ideal) x9)) (ix3 0 a d) = slabAfter D H A 0 a := by
  unfold k0_pay67 k0_pay58 k0_pay59 k0_pay1
  pointwise
  exact slab_sum hv (fun x => hx9 _ _) (fun x => hx8 _ _)

end Slabs

end Cert.Proof.CfConv
end
-- ==== Proof.CfConvLoops.lean ====
/- What the two counted loops of the gated causal convolution backward kernel leave. -/
module

public import proofs.«01_k».proof.Proof.CfConvPay

@[expose] public section

set_option maxRecDepth 16384

noncomputable section

namespace Cert.Proof.CfConv

open Idealize.ShloMosaic Idealize.ShloMosaic.TcCoe Idealize.SL.Sem Cert.CfConvKernelIdeal Cert.CfConvKernelIdeal.Gen Cert.Step
open Finset (range)

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S4096x128 .f32} {harg3 : arg3.IsWhole} {arg4 : Memref sig .tc .vmem S31x128 .f32} {harg4 : arg4.IsWhole} {arg5 : Memref sig .tc .vmem S4096x128 .bf16} {harg5 : arg5.IsWhole} {arg6 : Memref sig .tc .vmem S4096x128 .bf16} {harg6 : arg6.IsWhole} {arg7 : Memref sig .tc .vmem S31x128 .f32} {harg7 : arg7.IsWhole} {arg8 : Memref sig .tc .vmem S4160x128 .f32} {harg8 : arg8.IsWhole} {arg9 : Memref sig .tc .vmem S4160x128 .f32} {harg9 : arg9.IsWhole} {arg10 : Memref sig .tc .vmem S31x8x128 .f32} {harg10 : arg10.IsWhole}

/-- The pieces one trip of the first loop stores. -/
theorem trip1 (X1 : BufTy.Contents (Elt Ideal) arg1.view.ty) (X2 : BufTy.Contents (Elt Ideal) arg2.view.ty) (X3 : BufTy.Contents (Elt Ideal) arg3.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 X1 X2 X3 k
      = ([⟨Rect.unit (k0_off2 k) S128x128.size (k0_off2_inb k), k0_pay65 (F := Ideal) (arg1.view.readAt (Elt Ideal) (Rect.unit (s := S4096x128) (k0_off1 k) S128x128.size (k0_off1_inb k)).toLoadRect X1) (arg2.view.readAt (Elt Ideal) (Rect.unit (s := S4096x128) (k0_off1 k) S128x128.size (k0_off1_inb k)).toLoadRect X2)⟩],
         [⟨Rect.unit (k0_off2 k) S128x128.size (k0_off2_inb k), k0_pay66 (F := Ideal) (arg3.view.readAt (Elt Ideal) (Rect.unit (s := S4096x128) (k0_off1 k) S128x128.size (k0_off1_inb k)).toLoadRect X3)⟩]) := by
  unfold tripL_k0_t1 trip_k0_t1
  rfl

variable {x0 x1 x2 : Vec Ideal S4096x128 .f32} {x3 : Vec Ideal S31x128 .f32} {A G D : Fin 4096 → Fin 128 → ℝ} {W : Fin 31 → Fin 128 → ℝ}

/-- The gated product. -/
def gated (A G : Fin 4096 → Fin 128 → ℝ) (s : Fin 4096) (d : Fin 128) : ℝ := A s d * sg (G s d)

/-- A chunk of argument 1, row by row. -/
theorem load1 (h : ∀ s d, x0 (ix2 s d) = ((A s d : ℝ) : EReal)) (k : Fin k0_t1_loop.trips) (r d : Fin 128) (hb : 128 * k.val + r.val < 4096) :
    (arg1.view.readAt (Elt Ideal) (Rect.unit (s := S4096x128) (k0_off1 k) S128x128.size (k0_off1_inb k)).toLoadRect (harg1.unread x0)) (ix2 r d) = ((A ⟨128 * k.val + r.val, hb⟩ d : ℝ) : EReal) :=
  (congrFun (Memref.IsWhole.read_unread harg1 x0) _).trans ((congrArg x0 ((idx_band (off1 k).1 (k0_off1_inb k) r d (by omega)).trans (congrArg (fun n => ix2 n d) (Fin.ext (rfl))))).trans (h ⟨128 * k.val + r.val, hb⟩ d))

/-- A chunk of argument 2, row by row. -/
theorem load2 (h : ∀ s d, x1 (ix2 s d) = ((G s d : ℝ) : EReal)) (k : Fin k0_t1_loop.trips) (r d : Fin 128) (hb : 128 * k.val + r.val < 4096) :
    (arg2.view.readAt (Elt Ideal) (Rect.unit (s := S4096x128) (k0_off1 k) S128x128.size (k0_off1_inb k)).toLoadRect (harg2.unread x1)) (ix2 r d) = ((G ⟨128 * k.val + r.val, hb⟩ d : ℝ) : EReal) :=
  (congrFun (Memref.IsWhole.read_unread harg2 x1) _).trans ((congrArg x1 ((idx_band (off1 k).1 (k0_off1_inb k) r d (by omega)).trans (congrArg (fun n => ix2 n d) (Fin.ext (rfl))))).trans (h ⟨128 * k.val + r.val, hb⟩ d))

/-- A chunk of argument 3, row by row. -/
theorem load3 (h : ∀ s d, x2 (ix2 s d) = ((D s d : ℝ) : EReal)) (k : Fin k0_t1_loop.trips) (r d : Fin 128) (hb : 128 * k.val + r.val < 4096) :
    (arg3.view.readAt (Elt Ideal) (Rect.unit (s := S4096x128) (k0_off1 k) S128x128.size (k0_off1_inb k)).toLoadRect (harg3.unread x2)) (ix2 r d) = ((D ⟨128 * k.val + r.val, hb⟩ d : ℝ) : EReal) :=
  (congrFun (Memref.IsWhole.read_unread harg3 x2) _).trans ((congrArg x2 ((idx_band (off1 k).1 (k0_off1_inb k) r d (by omega)).trans (congrArg (fun n => ix2 n d) (Fin.ext (rfl))))).trans (h ⟨128 * k.val + r.val, hb⟩ d))

variable {L : List (View.Piece (Elt Ideal) S4160x128 .f32)}

local notation "pieces₁" => pb_k0_t1 (F := Ideal) Variants.none c none i arg1 harg1 arg2 harg2 arg3 harg3 arg4 harg4 arg5 harg5 arg6 harg6 arg7 harg7 arg8 harg8 arg9 harg9 arg10 harg10 (harg1.unread x0) (harg2.unread x1) (harg3.unread x2)

local notation "next₁" => pb_k0_t1_succ (F := Ideal) Variants.none c none i arg1 harg1 arg2 harg2 arg3 harg3 arg4 harg4 arg5 harg5 arg6 harg6 arg7 harg7 arg8 harg8 arg9 harg9 arg10 harg10 (harg1.unread x0) (harg2.unread x1) (harg3.unread x2)

/-- After the first loop the padded buffer holds the gated product, below 32 rows of zeros. -/
theorem loop1h (hA : ∀ s d, x0 (ix2 s d) = ((A s d : ℝ) : EReal)) (hG : ∀ s d, x1 (ix2 s d) = ((G s d : ℝ) : EReal)) (hL : ∀ y, View.canon L y = ((0 : ℝ) : EReal)) :
    View.canon ((pieces₁ 32).1 ++ L) = fun y : S4160x128.Idx => ((pad 32 (fun s => gated A G s (y 1)) (y 0).val : ℝ) : EReal) := by
  refine funext fun y => ((canon_bands (o := 32) (R := 128) (n := 32) (fun y : S4160x128.Idx => ((pad 32 (fun s => gated A G s (y 1)) (y 0).val : ℝ) : EReal))
    (fun k => (pieces₁ k).1) L rfl (fun k hk => ?_) 32 le_rfl y)).trans ?_
  · have hk' : k < k0_t1_loop.trips := hk.trans_eq trips1.symm
    have hs := next₁ ⟨k, hk'⟩
    rw [trip1] at hs
    refine ⟨k0_off2 ⟨k, hk'⟩, k0_off2_inb ⟨k, hk'⟩, _, congrArg (fun q => q.1) hs, (off1 ⟨k, hk'⟩).2, fun r d h => ?_⟩
    have hb : 128 * k + r.val < 4096 := by have := r.isLt; omega
    refine (pay65 _ _ _ _ r d (load1 hA ⟨k, hk'⟩ r d hb) (load2 hG ⟨k, hk'⟩ r d hb)).trans (congrArg ((↑) : ℝ → EReal) ?_)
    show _ = pad 32 (fun s => gated A G s d) (32 + 128 * k + r.val)
    rw [Nat.add_assoc, pad_add]
    exact (ext_val (fun s => gated A G s d) ⟨128 * k + r.val, hb⟩).symm
  · rw [hL]
    split
    · rfl
    · next h => exact congrArg ((↑) : ℝ → EReal) (pad_out (fun s => gated A G s (y 1)) (by omega)).symm

/-- After the first loop the other padded buffer holds the cotangent, below 32 rows of zeros. -/
theorem loop1d (hD : ∀ s d, x2 (ix2 s d) = ((D s d : ℝ) : EReal)) (hL : ∀ y, View.canon L y = ((0 : ℝ) : EReal)) :
    View.canon ((pieces₁ 32).2 ++ L) = fun y : S4160x128.Idx => ((pad 32 (fun s => D s (y 1)) (y 0).val : ℝ) : EReal) := by
  refine funext fun y => ((canon_bands (o := 32) (R := 128) (n := 32) (fun y : S4160x128.Idx => ((pad 32 (fun s => D s (y 1)) (y 0).val : ℝ) : EReal))
    (fun k => (pieces₁ k).2) L rfl (fun k hk => ?_) 32 le_rfl y)).trans ?_
  · have hk' : k < k0_t1_loop.trips := hk.trans_eq trips1.symm
    have hs := next₁ ⟨k, hk'⟩
    rw [trip1] at hs
    refine ⟨k0_off2 ⟨k, hk'⟩, k0_off2_inb ⟨k, hk'⟩, _, congrArg (fun q => q.2) hs, (off1 ⟨k, hk'⟩).2, fun r d h => ?_⟩
    have hb : 128 * k + r.val < 4096 := by have := r.isLt; omega
    refine ((pay66 _ r d).trans (load3 hD ⟨k, hk'⟩ r d hb)).trans (congrArg ((↑) : ℝ → EReal) ?_)
    show _ = pad 32 (fun s => D s d) (32 + 128 * k + r.val)
    rw [Nat.add_assoc, pad_add]
    exact (ext_val (fun s => D s d) ⟨128 * k + r.val, hb⟩).symm
  · rw [hL]
    split
    · rfl
    · next h => exact congrArg ((↑) : ℝ → EReal) (pad_out (fun s => D s (y 1)) (by omega)).symm

variable {H : Fin 4096 → Fin 128 → ℝ} {X8 : BufTy.Contents (Elt Ideal) arg8.view.ty} {X9 : BufTy.Contents (Elt Ideal) arg9.view.ty}

/-- The window of 192 padded rows around chunk `k`, from scratch buffer 8. -/
theorem window8 (hX : arg8.view.read (Elt Ideal) X8 = fun y : S4160x128.Idx => ((pad 32 (fun s => H s (y 1)) (y 0).val : ℝ) : EReal)) (k : Fin k0_t2_loop.trips) (d : Fin 128) :
    Reads (arg8.view.readAt (Elt Ideal) (Rect.unit (s := S4160x128) (k0_off3 k) S192x128.size (k0_off3_inb k)).toLoadRect X8) (fun n => pad 32 (fun s => H s d) (128 * k.val + n)) d := fun n h => by
  have hk := k.isLt.trans_eq trips2
  exact (congrFun hX _).trans (congrArg (fun y : S4160x128.Idx => ((pad 32 (fun s => H s (y 1)) (y 0).val : ℝ) : EReal))
    (idx_band (off2 k).1 (k0_off3_inb k) (⟨n, h⟩ : Fin 192) d (by show 128 * k.val + n < 4160; omega)))

/-- The window of 192 padded rows around chunk `k`, from scratch buffer 9. -/
theorem window9 (hX : arg9.view.read (Elt Ideal) X9 = fun y : S4160x128.Idx => ((pad 32 (fun s => D s (y 1)) (y 0).val : ℝ) : EReal)) (k : Fin k0_t2_loop.trips) (d : Fin 128) :
    Reads (arg9.view.readAt (Elt Ideal) (Rect.unit (s := S4160x128) (k0_off3 k) S192x128.size (k0_off3_inb k)).toLoadRect X9) (fun n => pad 32 (fun s => D s d) (128 * k.val + n)) d := fun n h => by
  have hk := k.isLt.trans_eq trips2
  exact (congrFun hX _).trans (congrArg (fun y : S4160x128.Idx => ((pad 32 (fun s => D s (y 1)) (y 0).val : ℝ) : EReal))
    (idx_band (off2 k).1 (k0_off3_inb k) (⟨n, h⟩ : Fin 192) d (by show 128 * k.val + n < 4160; omega)))

/-- One row of the taps. -/
theorem tapRow (hW : ∀ j d, x3 (ix2 j d) = ((W j d : ℝ) : EReal)) (j : ℕ) (hj : j < 31) (inb : ∀ a : Fin 2, (![j, 0] : Fin 2 → ℕ) a + S1x128.size a ≤ S31x128.size a) (d : Fin 128) :
    arg4.view.readAt (Elt Ideal) (Rect.unit (s := S31x128) ![j, 0] S1x128.size inb).toLoadRect (harg4.unread x3) (ix2 0 d) = ((ext (fun j : Fin 31 => W j d) j : ℝ) : EReal) :=
  (congrFun (Memref.IsWhole.read_unread harg4 x3) _).trans ((congrArg x3 (idx_band (o := j) rfl inb 0 d hj)).trans ((hW ⟨j, hj⟩ d).trans (congrArg ((↑) : ℝ → EReal) (ext_val (fun j : Fin 31 => W j d) ⟨j, hj⟩).symm)))

/-- The convolution's adjoint on chunk `k`, as the second loop makes it. -/
theorem adjoint (hX : arg9.view.read (Elt Ideal) X9 = fun y : S4160x128.Idx => ((pad 32 (fun s => D s (y 1)) (y 0).val : ℝ) : EReal)) (hW : ∀ j d, x3 (ix2 j d) = ((W j d : ℝ) : EReal)) (k : Fin k0_t2_loop.trips) (r d : Fin 128) :
    trip_k0_t2.sl.r_31 (F := Ideal) arg4 arg9 (harg4.unread x3) X9 k (ix2 r d) = ((tapsAhead (fun j => W j d) (fun s => D s d) (128 * k.val + r.val) : ℝ) : EReal) := by
  refine (taps (arg9.view.readAt (Elt Ideal) (Rect.unit (s := S4160x128) (k0_off3 k) S192x128.size (k0_off3_inb k)).toLoadRect X9) _ d r (window9 hX k d) _ _ _ _ _ _ _ _ _ _ _ _ _ _ _ _ _ _ _ _ _ _ _ _ _ _ _ _ _ _ _ (ext fun j => W j d)
    (tapRow hW 0 (by decide) _ d)
    (tapRow hW 1 (by decide) _ d)
    (tapRow hW 2 (by decide) _ d)
    (tapRow hW 3 (by decide) _ d)
    (tapRow hW 4 (by decide) _ d)
    (tapRow hW 5 (by decide) _ d)
    (tapRow hW 6 (by decide) _ d)
    (tapRow hW 7 (by decide) _ d)
    (tapRow hW 8 (by decide) _ d)
    (tapRow hW 9 (by decide) _ d)
    (tapRow hW 10 (by decide) _ d)
    (tapRow hW 11 (by decide) _ d)
    (tapRow hW 12 (by decide) _ d)
    (tapRow hW 13 (by decide) _ d)
    (tapRow hW 14 (by decide) _ d)
    (tapRow hW 15 (by decide) _ d)
    (tapRow hW 16 (by decide) _ d)
    (tapRow hW 17 (by decide) _ d)
    (tapRow hW 18 (by decide) _ d)
    (tapRow hW 19 (by decide) _ d)
    (tapRow hW 20 (by decide) _ d)
    (tapRow hW 21 (by decide) _ d)
    (tapRow hW 22 (by decide) _ d)
    (tapRow hW 23 (by decide) _ d)
    (tapRow hW 24 (by decide) _ d)
    (tapRow hW 25 (by decide) _ d)
    (tapRow hW 26 (by decide) _ d)
    (tapRow hW 27 (by decide) _ d)
    (tapRow hW 28 (by decide) _ d)
    (tapRow hW 29 (by decide) _ d)
    (tapRow hW 30 (by decide) _ d)).trans (congrArg ((↑) : ℝ → EReal) (Finset.sum_congr rfl fun j _ => ?_))
  show ext (fun j => W j d) j * pad 32 (fun s => D s d) (128 * k.val + (32 + r.val + (30 - j))) = _
  rw [show 128 * k.val + (32 + r.val + (30 - j)) = 32 + (128 * k.val + r.val + (30 - j)) by omega, pad_add]

/-- A chunk of argument 1, row by row. -/
theorem load1b (h : ∀ s d, x0 (ix2 s d) = ((A s d : ℝ) : EReal)) (k : Fin k0_t2_loop.trips) (r d : Fin 128) (hb : 128 * k.val + r.val < 4096) :
    (arg1.view.readAt (Elt Ideal) (Rect.unit (s := S4096x128) (k0_off4 k) S128x128.size (k0_off4_inb k)).toLoadRect (harg1.unread x0)) (ix2 r d) = ((A ⟨128 * k.val + r.val, hb⟩ d : ℝ) : EReal) :=
  (congrFun (Memref.IsWhole.read_unread harg1 x0) _).trans ((congrArg x0 ((idx_band (off2 k).2 (k0_off4_inb k) r d (by omega)).trans (congrArg (fun n => ix2 n d) (Fin.ext (by show 0 + 128 * k.val + r.val = 128 * k.val + r.val; omega))))).trans (h ⟨128 * k.val + r.val, hb⟩ d))

/-- A chunk of argument 2, row by row. -/
theorem load2b (h : ∀ s d, x1 (ix2 s d) = ((G s d : ℝ) : EReal)) (k : Fin k0_t2_loop.trips) (r d : Fin 128) (hb : 128 * k.val + r.val < 4096) :
    (arg2.view.readAt (Elt Ideal) (Rect.unit (s := S4096x128) (k0_off4 k) S128x128.size (k0_off4_inb k)).toLoadRect (harg2.unread x1)) (ix2 r d) = ((G ⟨128 * k.val + r.val, hb⟩ d : ℝ) : EReal) :=
  (congrFun (Memref.IsWhole.read_unread harg2 x1) _).trans ((congrArg x1 ((idx_band (off2 k).2 (k0_off4_inb k) r d (by omega)).trans (congrArg (fun n => ix2 n d) (Fin.ext (by show 0 + 128 * k.val + r.val = 128 * k.val + r.val; omega))))).trans (h ⟨128 * k.val + r.val, hb⟩ d))

variable {L5 L6 : List (View.Piece (Elt Ideal) S4096x128 .bf16)} {L10 : List (View.Piece (Elt Ideal) S31x8x128 .f32)}

/-- The second loop's pieces after `k` trips. -/
abbrev P2 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S31x128 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S31x128 .f32) (harg7 : arg7.IsWhole) (arg8 : Memref sig .tc .vmem S4160x128 .f32) (harg8 : arg8.IsWhole) (arg9 : Memref sig .tc .vmem S4160x128 .f32) (harg9 : arg9.IsWhole) (arg10 : Memref sig .tc .vmem S31x8x128 .f32) (harg10 : arg10.IsWhole) (x0 x1 : Vec Ideal S4096x128 .f32) (x3 : Vec Ideal S31x128 .f32) (X8 : BufTy.Contents (Elt Ideal) arg8.view.ty) (X9 : BufTy.Contents (Elt Ideal) arg9.view.ty) (L5 L6 : List (View.Piece (Elt Ideal) S4096x128 .bf16)) (L10 : List (View.Piece (Elt Ideal) S31x8x128 .f32)) :=
  pb_k0_t2 (F := Ideal) Variants.none c none i arg1 harg1 arg2 harg2 arg3 harg3 arg4 harg4 arg5 harg5 arg6 harg6 arg7 harg7 arg8 harg8 arg9 harg9 arg10 harg10 (harg1.unread x0) (harg2.unread x1) (harg4.unread x3) X8 X9 (arg5.view.writes (Elt Ideal) arg5.view.junk L5) (arg6.view.writes (Elt Ideal) arg6.view.junk L6) (arg10.view.writes (Elt Ideal) arg10.view.junk L10)

local notation "trip₂" => tripL_k0_t2 (F := Ideal) Variants.none c none i arg1 harg1 arg2 harg2 arg3 harg3 arg4 harg4 arg5 harg5 arg6 harg6 arg7 harg7 arg8 harg8 arg9 harg9 arg10 harg10

/-- The piece of the first result that one trip of the second loop stores. -/
theorem trip2a (X1 : BufTy.Contents (Elt Ideal) arg1.view.ty) (X2 : BufTy.Contents (Elt Ideal) arg2.view.ty) (X4 : BufTy.Contents (Elt Ideal) arg4.view.ty) (k : Fin k0_t2_loop.trips) (f5 : BufTy.Contents (Elt Ideal) arg5.view.ty) (f6 : BufTy.Contents (Elt Ideal) arg6.view.ty) (f10 : BufTy.Contents (Elt Ideal) arg10.view.ty) :
    (trip₂ X1 X2 X4 X8 X9 k f5 f6 f10).1
      = [⟨Rect.unit (k0_off4 k) S128x128.size (k0_off4_inb k), k0_pay69 (F := Ideal) (trip_k0_t2.sl.r_31 (F := Ideal) arg4 arg9 X4 X9 k) (arg2.view.readAt (Elt Ideal) (Rect.unit (s := S4096x128) (k0_off4 k) S128x128.size (k0_off4_inb k)).toLoadRect X2)⟩] := by
  unfold tripL_k0_t2 trip_k0_t2
  rfl

/-- The piece of the second result that one trip of the second loop stores. -/
theorem trip2g (X1 : BufTy.Contents (Elt Ideal) arg1.view.ty) (X2 : BufTy.Contents (Elt Ideal) arg2.view.ty) (X4 : BufTy.Contents (Elt Ideal) arg4.view.ty) (k : Fin k0_t2_loop.trips) (f5 : BufTy.Contents (Elt Ideal) arg5.view.ty) (f6 : BufTy.Contents (Elt Ideal) arg6.view.ty) (f10 : BufTy.Contents (Elt Ideal) arg10.view.ty) :
    (trip₂ X1 X2 X4 X8 X9 k f5 f6 f10).2.1
      = [⟨Rect.unit (k0_off4 k) S128x128.size (k0_off4_inb k), k0_pay70 (F := Ideal) (trip_k0_t2.sl.r_31 (F := Ideal) arg4 arg9 X4 X9 k) (arg2.view.readAt (Elt Ideal) (Rect.unit (s := S4096x128) (k0_off4 k) S128x128.size (k0_off4_inb k)).toLoadRect X2) (arg1.view.readAt (Elt Ideal) (Rect.unit (s := S4096x128) (k0_off4 k) S128x128.size (k0_off4_inb k)).toLoadRect X1)⟩] := by
  unfold tripL_k0_t2 trip_k0_t2
  rfl

/-- The gradient of the first half. -/
def gradA (G D : Fin 4096 → Fin 128 → ℝ) (W : Fin 31 → Fin 128 → ℝ) (s : Fin 4096) (d : Fin 128) : ℝ := tapsAhead (fun j => W j d) (fun s => D s d) s.val * sg (G s d)

/-- The gradient of the second half. -/
def gradG (A G D : Fin 4096 → Fin 128 → ℝ) (W : Fin 31 → Fin 128 → ℝ) (s : Fin 4096) (d : Fin 128) : ℝ := tapsAhead (fun j => W j d) (fun s => D s d) s.val * A s d * sg (G s d) * (1 - sg (G s d))

/-- What the second loop leaves as the gradient of the first half. -/
theorem loop2a (hX : arg9.view.read (Elt Ideal) X9 = fun y : S4160x128.Idx => ((pad 32 (fun s => D s (y 1)) (y 0).val : ℝ) : EReal)) (hG : ∀ s d, x1 (ix2 s d) = ((G s d : ℝ) : EReal)) (hW : ∀ j d, x3 (ix2 j d) = ((W j d : ℝ) : EReal)) (y : S4096x128.Idx) :
    View.canon ((P2 c i arg1 harg1 arg2 harg2 arg3 harg3 arg4 harg4 arg5 harg5 arg6 harg6 arg7 harg7 arg8 harg8 arg9 harg9 arg10 harg10 x0 x1 x3 X8 X9 L5 L6 L10 32).1 ++ L5) y = ((gradA G D W (y 0) (y 1) : ℝ) : EReal) := by
  refine ((canon_bands (o := 0) (R := 128) (n := 32) (fun y : S4096x128.Idx => ((gradA G D W (y 0) (y 1) : ℝ) : EReal))
    (fun k => (P2 c i arg1 harg1 arg2 harg2 arg3 harg3 arg4 harg4 arg5 harg5 arg6 harg6 arg7 harg7 arg8 harg8 arg9 harg9 arg10 harg10 x0 x1 x3 X8 X9 L5 L6 L10 k).1) L5 rfl (fun k hk => ?_) 32 le_rfl y)).trans (if_pos ⟨Nat.zero_le _, ?_⟩)
  · have hk' : k < k0_t2_loop.trips := hk.trans_eq trips2.symm
    refine ⟨k0_off4 ⟨k, hk'⟩, k0_off4_inb ⟨k, hk'⟩, _, (congrArg (fun q => q.1) (pb_k0_t2_succ (F := Ideal) _ _ _ _ _ _ _ _ _ _ _ _ _ _ _ _ _ _ _ _ _ _ _ _ _ _ _ _ _ _ _ _ ⟨k, hk'⟩)).trans (congrArg (fun l => l ++ (P2 c i arg1 harg1 arg2 harg2 arg3 harg3 arg4 harg4 arg5 harg5 arg6 harg6 arg7 harg7 arg8 harg8 arg9 harg9 arg10 harg10 x0 x1 x3 X8 X9 L5 L6 L10 k).1) (trip2a _ _ _ ⟨k, hk'⟩ _ _ _)), (off2 ⟨k, hk'⟩).2, fun r d h => ?_⟩
    have hb : 128 * k + r.val < 4096 := by have := r.isLt; omega
    refine (pay69 _ _ _ _ r d (adjoint hX hW ⟨k, hk'⟩ r d) (load2b hG ⟨k, hk'⟩ r d hb)).trans ?_
    show _ = ((gradA G D W ⟨0 + 128 * k + r.val, h⟩ d : ℝ) : EReal)
    rw [show (⟨0 + 128 * k + r.val, h⟩ : Fin 4096) = ⟨128 * k + r.val, hb⟩ from Fin.ext (by dsimp only; omega)]
    rfl
  · have : (y 0).val < 4096 := (y 0).isLt
    omega

/-- What the second loop leaves as the gradient of the second half. -/
theorem loop2g (hX : arg9.view.read (Elt Ideal) X9 = fun y : S4160x128.Idx => ((pad 32 (fun s => D s (y 1)) (y 0).val : ℝ) : EReal)) (hA : ∀ s d, x0 (ix2 s d) = ((A s d : ℝ) : EReal)) (hG : ∀ s d, x1 (ix2 s d) = ((G s d : ℝ) : EReal)) (hW : ∀ j d, x3 (ix2 j d) = ((W j d : ℝ) : EReal)) (y : S4096x128.Idx) :
    View.canon ((P2 c i arg1 harg1 arg2 harg2 arg3 harg3 arg4 harg4 arg5 harg5 arg6 harg6 arg7 harg7 arg8 harg8 arg9 harg9 arg10 harg10 x0 x1 x3 X8 X9 L5 L6 L10 32).2.1 ++ L6) y = ((gradG A G D W (y 0) (y 1) : ℝ) : EReal) := by
  refine ((canon_bands (o := 0) (R := 128) (n := 32) (fun y : S4096x128.Idx => ((gradG A G D W (y 0) (y 1) : ℝ) : EReal))
    (fun k => (P2 c i arg1 harg1 arg2 harg2 arg3 harg3 arg4 harg4 arg5 harg5 arg6 harg6 arg7 harg7 arg8 harg8 arg9 harg9 arg10 harg10 x0 x1 x3 X8 X9 L5 L6 L10 k).2.1) L6 rfl (fun k hk => ?_) 32 le_rfl y)).trans (if_pos ⟨Nat.zero_le _, ?_⟩)
  · have hk' : k < k0_t2_loop.trips := hk.trans_eq trips2.symm
    refine ⟨k0_off4 ⟨k, hk'⟩, k0_off4_inb ⟨k, hk'⟩, _, (congrArg (fun q => q.2.1) (pb_k0_t2_succ (F := Ideal) _ _ _ _ _ _ _ _ _ _ _ _ _ _ _ _ _ _ _ _ _ _ _ _ _ _ _ _ _ _ _ _ ⟨k, hk'⟩)).trans (congrArg (fun l => l ++ (P2 c i arg1 harg1 arg2 harg2 arg3 harg3 arg4 harg4 arg5 harg5 arg6 harg6 arg7 harg7 arg8 harg8 arg9 harg9 arg10 harg10 x0 x1 x3 X8 X9 L5 L6 L10 k).2.1) (trip2g _ _ _ ⟨k, hk'⟩ _ _ _)), (off2 ⟨k, hk'⟩).2, fun r d h => ?_⟩
    have hb : 128 * k + r.val < 4096 := by have := r.isLt; omega
    refine (pay70 _ _ _ _ _ _ r d (adjoint hX hW ⟨k, hk'⟩ r d) (load2b hG ⟨k, hk'⟩ r d hb) (load1b hA ⟨k, hk'⟩ r d hb)).trans ?_
    show _ = ((gradG A G D W ⟨0 + 128 * k + r.val, h⟩ d : ℝ) : EReal)
    rw [show (⟨0 + 128 * k + r.val, h⟩ : Fin 4096) = ⟨128 * k + r.val, hb⟩ from Fin.ext (by dsimp only; omega)]
    rfl
  · have : (y 0).val < 4096 := (y 0).isLt
    omega

/-- One trip of the second loop adds its chunk to each of the 31 slabs. -/
theorem trip2w (hX8 : arg8.view.read (Elt Ideal) X8 = fun y : S4160x128.Idx => ((pad 32 (fun s => H s (y 1)) (y 0).val : ℝ) : EReal)) (hX : arg9.view.read (Elt Ideal) X9 = fun y : S4160x128.Idx => ((pad 32 (fun s => D s (y 1)) (y 0).val : ℝ) : EReal))
    (X1 : BufTy.Contents (Elt Ideal) arg1.view.ty) (X2 : BufTy.Contents (Elt Ideal) arg2.view.ty) (X4 : BufTy.Contents (Elt Ideal) arg4.view.ty) (k : Fin k0_t2_loop.trips) (f5 : BufTy.Contents (Elt Ideal) arg5.view.ty) (f6 : BufTy.Contents (Elt Ideal) arg6.view.ty) (f10 : BufTy.Contents (Elt Ideal) arg10.view.ty)
    (hf : ∀ (J : ℕ) (hJ : J < 31) (inb : ∀ a : Fin 3, (![J, 0, 0] : Fin 3 → ℕ) a + (![1, 8, 128] : Fin 3 → ℕ) a ≤ (![31, 8, 128] : Fin 3 → ℕ) a) (a : Fin 8) (d : Fin 128),
      arg10.view.readAt (Elt Ideal) (Rect.unit (s := ⟨3, ![31, 8, 128]⟩) ![J, 0, 0] ![1, 8, 128] inb).toLoadRect f10 (ix3 (0 : Fin 1) a d) = running D H k.val (ix3 (⟨J, hJ⟩ : Fin 31) a d)) :
    Slabs (K := 31) (R := 8) (W := 128) (running D H (k.val + 1)) 31 (trip₂ X1 X2 X4 X8 X9 k f5 f6 f10).2.2 := by
  have r8 := window8 hX8 k
  have r9 := window9 hX k
  unfold tripL_k0_t2 trip_k0_t2
  refine Slabs.cons (by decide) _ _ (fun a d => (slab30 _ _ _ _ _ _ a d (r8 d) (r9 d) (hf 30 (by decide) _ a d)).trans (slab_step _ _ 0 k.val (by decide) a)) ?_
  refine Slabs.cons (by decide) _ _ (fun a d => (slab29 _ _ _ _ _ _ a d (r8 d) (r9 d) (hf 29 (by decide) _ a d)).trans (slab_step _ _ 1 k.val (by decide) a)) ?_
  refine Slabs.cons (by decide) _ _ (fun a d => (slab28 _ _ _ _ _ _ a d (r8 d) (r9 d) (hf 28 (by decide) _ a d)).trans (slab_step _ _ 2 k.val (by decide) a)) ?_
  refine Slabs.cons (by decide) _ _ (fun a d => (slab27 _ _ _ _ _ _ a d (r8 d) (r9 d) (hf 27 (by decide) _ a d)).trans (slab_step _ _ 3 k.val (by decide) a)) ?_
  refine Slabs.cons (by decide) _ _ (fun a d => (slab26 _ _ _ _ _ _ a d (r8 d) (r9 d) (hf 26 (by decide) _ a d)).trans (slab_step _ _ 4 k.val (by decide) a)) ?_
  refine Slabs.cons (by decide) _ _ (fun a d => (slab25 _ _ _ _ _ _ a d (r8 d) (r9 d) (hf 25 (by decide) _ a d)).trans (slab_step _ _ 5 k.val (by decide) a)) ?_
  refine Slabs.cons (by decide) _ _ (fun a d => (slab24 _ _ _ _ _ _ a d (r8 d) (r9 d) (hf 24 (by decide) _ a d)).trans (slab_step _ _ 6 k.val (by decide) a)) ?_
  refine Slabs.cons (by decide) _ _ (fun a d => (slab23 _ _ _ _ _ _ a d (r8 d) (r9 d) (hf 23 (by decide) _ a d)).trans (slab_step _ _ 7 k.val (by decide) a)) ?_
  refine Slabs.cons (by decide) _ _ (fun a d => (slab22 _ _ _ _ _ _ a d (r8 d) (r9 d) (hf 22 (by decide) _ a d)).trans (slab_step _ _ 8 k.val (by decide) a)) ?_
  refine Slabs.cons (by decide) _ _ (fun a d => (slab21 _ _ _ _ _ _ a d (r8 d) (r9 d) (hf 21 (by decide) _ a d)).trans (slab_step _ _ 9 k.val (by decide) a)) ?_
  refine Slabs.cons (by decide) _ _ (fun a d => (slab20 _ _ _ _ _ _ a d (r8 d) (r9 d) (hf 20 (by decide) _ a d)).trans (slab_step _ _ 10 k.val (by decide) a)) ?_
  refine Slabs.cons (by decide) _ _ (fun a d => (slab19 _ _ _ _ _ _ a d (r8 d) (r9 d) (hf 19 (by decide) _ a d)).trans (slab_step _ _ 11 k.val (by decide) a)) ?_
  refine Slabs.cons (by decide) _ _ (fun a d => (slab18 _ _ _ _ _ _ a d (r8 d) (r9 d) (hf 18 (by decide) _ a d)).trans (slab_step _ _ 12 k.val (by decide) a)) ?_
  refine Slabs.cons (by decide) _ _ (fun a d => (slab17 _ _ _ _ _ _ a d (r8 d) (r9 d) (hf 17 (by decide) _ a d)).trans (slab_step _ _ 13 k.val (by decide) a)) ?_
  refine Slabs.cons (by decide) _ _ (fun a d => (slab16 _ _ _ _ _ _ a d (r8 d) (r9 d) (hf 16 (by decide) _ a d)).trans (slab_step _ _ 14 k.val (by decide) a)) ?_
  refine Slabs.cons (by decide) _ _ (fun a d => (slab15 _ _ _ _ _ _ a d (r8 d) (r9 d) (hf 15 (by decide) _ a d)).trans (slab_step _ _ 15 k.val (by decide) a)) ?_
  refine Slabs.cons (by decide) _ _ (fun a d => (slab14 _ _ _ _ _ _ a d (r8 d) (r9 d) (hf 14 (by decide) _ a d)).trans (slab_step _ _ 16 k.val (by decide) a)) ?_
  refine Slabs.cons (by decide) _ _ (fun a d => (slab13 _ _ _ _ _ _ a d (r8 d) (r9 d) (hf 13 (by decide) _ a d)).trans (slab_step _ _ 17 k.val (by decide) a)) ?_
  refine Slabs.cons (by decide) _ _ (fun a d => (slab12 _ _ _ _ _ _ a d (r8 d) (r9 d) (hf 12 (by decide) _ a d)).trans (slab_step _ _ 18 k.val (by decide) a)) ?_
  refine Slabs.cons (by decide) _ _ (fun a d => (slab11 _ _ _ _ _ _ a d (r8 d) (r9 d) (hf 11 (by decide) _ a d)).trans (slab_step _ _ 19 k.val (by decide) a)) ?_
  refine Slabs.cons (by decide) _ _ (fun a d => (slab10 _ _ _ _ _ _ a d (r8 d) (r9 d) (hf 10 (by decide) _ a d)).trans (slab_step _ _ 20 k.val (by decide) a)) ?_
  refine Slabs.cons (by decide) _ _ (fun a d => (slab9 _ _ _ _ _ _ a d (r8 d) (r9 d) (hf 9 (by decide) _ a d)).trans (slab_step _ _ 21 k.val (by decide) a)) ?_
  refine Slabs.cons (by decide) _ _ (fun a d => (slab8 _ _ _ _ _ _ a d (r8 d) (r9 d) (hf 8 (by decide) _ a d)).trans (slab_step _ _ 22 k.val (by decide) a)) ?_
  refine Slabs.cons (by decide) _ _ (fun a d => (slab7 _ _ _ _ _ _ a d (r8 d) (r9 d) (hf 7 (by decide) _ a d)).trans (slab_step _ _ 23 k.val (by decide) a)) ?_
  refine Slabs.cons (by decide) _ _ (fun a d => (slab6 _ _ _ _ _ _ a d (r8 d) (r9 d) (hf 6 (by decide) _ a d)).trans (slab_step _ _ 24 k.val (by decide) a)) ?_
  refine Slabs.cons (by decide) _ _ (fun a d => (slab5 _ _ _ _ _ _ a d (r8 d) (r9 d) (hf 5 (by decide) _ a d)).trans (slab_step _ _ 25 k.val (by decide) a)) ?_
  refine Slabs.cons (by decide) _ _ (fun a d => (slab4 _ _ _ _ _ _ a d (r8 d) (r9 d) (hf 4 (by decide) _ a d)).trans (slab_step _ _ 26 k.val (by decide) a)) ?_
  refine Slabs.cons (by decide) _ _ (fun a d => (slab3 _ _ _ _ _ _ a d (r8 d) (r9 d) (hf 3 (by decide) _ a d)).trans (slab_step _ _ 27 k.val (by decide) a)) ?_
  refine Slabs.cons (by decide) _ _ (fun a d => (slab2 _ _ _ _ _ _ a d (r8 d) (r9 d) (hf 2 (by decide) _ a d)).trans (slab_step _ _ 28 k.val (by decide) a)) ?_
  refine Slabs.cons (by decide) _ _ (fun a d => (slab1 _ _ _ _ _ _ a d (r8 d) (r9 d) (hf 1 (by decide) _ a d)).trans (slab_step _ _ 29 k.val (by decide) a)) ?_
  refine Slabs.cons (by decide) _ _ (fun a d => (slab0 _ _ _ _ _ _ a d (r8 d) (r9 d) (hf 0 (by decide) _ a d)).trans (slab_step _ _ 30 k.val (by decide) a)) ?_
  exact Slabs.nil

/-- After `k` trips the accumulator holds the running sums over the first `k` chunks. -/
theorem loop2w (hX8 : arg8.view.read (Elt Ideal) X8 = fun y : S4160x128.Idx => ((pad 32 (fun s => H s (y 1)) (y 0).val : ℝ) : EReal)) (hX : arg9.view.read (Elt Ideal) X9 = fun y : S4160x128.Idx => ((pad 32 (fun s => D s (y 1)) (y 0).val : ℝ) : EReal)) (hL : ∀ y, View.canon L10 y = ((0 : ℝ) : EReal)) :
    ∀ k ≤ 32, ∀ y : S31x8x128.Idx, View.canon ((P2 c i arg1 harg1 arg2 harg2 arg3 harg3 arg4 harg4 arg5 harg5 arg6 harg6 arg7 harg7 arg8 harg8 arg9 harg9 arg10 harg10 x0 x1 x3 X8 X9 L5 L6 L10 k).2.2 ++ L10) y = running D H k y := by
  intro k
  induction k with
  | zero => exact fun _ y => hL y
  | succ k ih =>
    intro hk y
    have hk' : k < k0_t2_loop.trips := (Nat.lt_of_succ_le hk).trans_eq trips2.symm
    refine (congrArg (fun l => View.canon (l ++ L10) y) (congrArg (fun q => q.2.2) (pb_k0_t2_succ (F := Ideal) _ _ _ _ _ _ _ _ _ _ _ _ _ _ _ _ _ _ _ _ _ _ _ _ _ _ _ _ _ _ _ _ ⟨k, hk'⟩))).trans ?_
    refine (congrArg (fun l => View.canon l y) (List.append_assoc _ _ _)).trans ?_
    refine (trip2w hX8 hX _ _ _ ⟨k, hk'⟩ _ _ _ fun J hJ inb a d => ?_).canon _ y (y 0).isLt
    exact (held_slab arg10.view _ L10 hJ inb a d).trans (ih (Nat.le_of_succ_le hk) (ix3 (⟨J, hJ⟩ : Fin 31) a d))

end Cert.Proof.CfConv
end
-- ==== Proof.CfConvBody.lean ====
/- What one column block of the gated causal convolution backward kernel leaves in its three result blocks. -/
module

public import proofs.«01_k».proof.Proof.CfConvLoops

@[expose] public section

set_option maxRecDepth 16384

noncomputable section

namespace Cert.Proof.CfConv

open Idealize.ShloMosaic Idealize.ShloMosaic.TcCoe Idealize.SL.Sem Cert.CfConvKernelIdeal Cert.CfConvKernelIdeal.Gen Cert.Step
open Finset (range)

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S4096x128 .f32} {harg3 : arg3.IsWhole} {arg4 : Memref sig .tc .vmem S31x128 .f32} {harg4 : arg4.IsWhole} {arg5 : Memref sig .tc .vmem S4096x128 .bf16} {harg5 : arg5.IsWhole} {arg6 : Memref sig .tc .vmem S4096x128 .bf16} {harg6 : arg6.IsWhole} {arg7 : Memref sig .tc .vmem S31x128 .f32} {harg7 : arg7.IsWhole} {arg8 : Memref sig .tc .vmem S4160x128 .f32} {harg8 : arg8.IsWhole} {arg9 : Memref sig .tc .vmem S4160x128 .f32} {harg9 : arg9.IsWhole} {arg10 : Memref sig .tc .vmem S31x8x128 .f32} {harg10 : arg10.IsWhole}
  {x0 x1 x2 : Vec Ideal S4096x128 .f32} {x3 : Vec Ideal S31x128 .f32} {A G D : Fin 4096 → Fin 128 → ℝ} {W : Fin 31 → Fin 128 → ℝ}

theorem zero8 (y) : View.canon (kernelRun0_A.sl.HS0_1 (F := Ideal)) y = ((0 : ℝ) : EReal) := by
  refine (congrFun (View.canon_cons_unit_lit _ _ _ (by decide)) y).trans ?_
  unfold k0_pay60
  pointwise
  exact EReal.coe_zero.symm
theorem zero9 (y) : View.canon (kernelRun0_A.sl.HS1_1 (F := Ideal)) y = ((0 : ℝ) : EReal) := by
  refine (congrFun (View.canon_cons_unit_lit _ _ _ (by decide)) y).trans ?_
  unfold k0_pay61
  pointwise
  exact EReal.coe_zero.symm
theorem zero10 (y) : View.canon (kernelRun0_A.sl.HS2_1 (F := Ideal)) y = ((0 : ℝ) : EReal) := by
  refine (congrFun (View.canon_cons_unit_lit _ _ _ (by decide)) y).trans ?_
  unfold k0_pay62
  pointwise
  exact EReal.coe_zero.symm

local notation "pieces₁" => pb_k0_t1 (F := Ideal) Variants.none c none i arg1 harg1 arg2 harg2 arg3 harg3 arg4 harg4 arg5 harg5 arg6 harg6 arg7 harg7 arg8 harg8 arg9 harg9 arg10 harg10 (harg1.unread x0) (harg2.unread x1) (harg3.unread x2)

/-- The padded gated product, read back. -/
theorem rows8 (hA : ∀ s d, x0 (ix2 s d) = ((A s d : ℝ) : EReal)) (hG : ∀ s d, x1 (ix2 s d) = ((G s d : ℝ) : EReal)) :
    arg8.view.read (Elt Ideal) (arg8.view.writes (Elt Ideal) arg8.view.junk ((pieces₁ 32).1 ++ kernelRun0_A.sl.HS0_1))
      = fun y : S4160x128.Idx => ((pad 32 (fun s => gated A G s (y 1)) (y 0).val : ℝ) : EReal) :=
  (View.read_writes_junk_eq_canon _ _).trans (loop1h hA hG zero8)

/-- The padded cotangent, read back. -/
theorem rows9 (hD : ∀ s d, x2 (ix2 s d) = ((D s d : ℝ) : EReal)) :
    arg9.view.read (Elt Ideal) (arg9.view.writes (Elt Ideal) arg9.view.junk ((pieces₁ 32).2 ++ kernelRun0_A.sl.HS1_1))
      = fun y : S4160x128.Idx => ((pad 32 (fun s => D s (y 1)) (y 0).val : ℝ) : EReal) :=
  (View.read_writes_junk_eq_canon _ _).trans (loop1d hD zero9)

theorem out4 (hA : ∀ s d, x0 (ix2 s d) = ((A s d : ℝ) : EReal)) (hG : ∀ s d, x1 (ix2 s d) = ((G s d : ℝ) : EReal)) (hD : ∀ s d, x2 (ix2 s d) = ((D s d : ℝ) : EReal)) (hW : ∀ j d, x3 (ix2 j d) = ((W j d : ℝ) : EReal)) (y : S4096x128.Idx) :
    out0_A_4 (F := Ideal) c i arg1 harg1 arg2 harg2 arg3 harg3 arg4 harg4 arg5 harg5 arg6 harg6 arg7 harg7 arg8 harg8 arg9 harg9 arg10 harg10 x0 x1 x2 x3 y = ((gradA G D W (y 0) (y 1) : ℝ) : EReal) := by
  unfold out0_A_4 kernelRun0_A
  dsimp only
  refine (congrFun (View.read_writes_junk_eq_canon _ _) y).trans ?_
  exact loop2a (rows9 hD) hG hW y

theorem out5 (hA : ∀ s d, x0 (ix2 s d) = ((A s d : ℝ) : EReal)) (hG : ∀ s d, x1 (ix2 s d) = ((G s d : ℝ) : EReal)) (hD : ∀ s d, x2 (ix2 s d) = ((D s d : ℝ) : EReal)) (hW : ∀ j d, x3 (ix2 j d) = ((W j d : ℝ) : EReal)) (y : S4096x128.Idx) :
    out0_A_5 (F := Ideal) c i arg1 harg1 arg2 harg2 arg3 harg3 arg4 harg4 arg5 harg5 arg6 harg6 arg7 harg7 arg8 harg8 arg9 harg9 arg10 harg10 x0 x1 x2 x3 y = ((gradG A G D W (y 0) (y 1) : ℝ) : EReal) := by
  unfold out0_A_5 kernelRun0_A
  dsimp only
  refine (congrFun (View.read_writes_junk_eq_canon _ _) y).trans ?_
  exact loop2g (rows9 hD) hA hG hW y

/-- A row of the weight gradient: the eight running sums of one slab added up. -/
theorem row (v : Vec Ideal S1x8x128 .f32) (d : Fin 128) : k0_pay71 (F := Ideal) v (ix2 0 d) = ∑ a : Fin 8, v (ix3 0 a d) := by
  unfold k0_pay71
  pointwise

/-- One slab of the accumulator, as the end of the kernel loads it. -/
theorem slab_end (hA : ∀ s d, x0 (ix2 s d) = ((A s d : ℝ) : EReal)) (hG : ∀ s d, x1 (ix2 s d) = ((G s d : ℝ) : EReal)) (hD : ∀ s d, x2 (ix2 s d) = ((D s d : ℝ) : EReal)) (J : ℕ) (hJ : J < 31) (inb : ∀ a : Fin 3, (![J, 0, 0] : Fin 3 → ℕ) a + S1x8x128.size a ≤ S31x8x128.size a) (a : Fin 8) (d : Fin 128) :
    arg10.view.readCov ((P2 c i arg1 harg1 arg2 harg2 arg3 harg3 arg4 harg4 arg5 harg5 arg6 harg6 arg7 harg7 arg8 harg8 arg9 harg9 arg10 harg10 x0 x1 x3 (arg8.view.writes (Elt Ideal) arg8.view.junk ((pieces₁ 32).1 ++ kernelRun0_A.sl.HS0_1)) (arg9.view.writes (Elt Ideal) arg9.view.junk ((pieces₁ 32).2 ++ kernelRun0_A.sl.HS1_1)) kernelRun0_A.sl.H4_1 kernelRun0_A.sl.H5_1 kernelRun0_A.sl.HS2_1 32).2.2 ++ kernelRun0_A.sl.HS2_1) (Rect.unit (s := S31x8x128) ![J, 0, 0] S1x8x128.size inb).toLoadRect (ix3 0 a d) = running D (gated A G) 32 (ix3 (⟨J, hJ⟩ : Fin 31) a d) := by
  refine (congrFun (View.readCov_eq_canon' _ _ (Rect.unit (s := S31x8x128) ![J, 0, 0] S1x8x128.size inb).toLoadRect) (ix3 (0 : Fin 1) a d)).trans ?_
  refine (congrArg (View.canon ((P2 c i arg1 harg1 arg2 harg2 arg3 harg3 arg4 harg4 arg5 harg5 arg6 harg6 arg7 harg7 arg8 harg8 arg9 harg9 arg10 harg10 x0 x1 x3 (arg8.view.writes (Elt Ideal) arg8.view.junk ((pieces₁ 32).1 ++ kernelRun0_A.sl.HS0_1)) (arg9.view.writes (Elt Ideal) arg9.view.junk ((pieces₁ 32).2 ++ kernelRun0_A.sl.HS1_1)) kernelRun0_A.sl.H4_1 kernelRun0_A.sl.H5_1 kernelRun0_A.sl.HS2_1 32).2.2 ++ kernelRun0_A.sl.HS2_1)) (emb_slab hJ inb 0 a d)).trans ?_
  exact loop2w (rows8 hA hG) (rows9 hD) zero10 32 le_rfl (ix3 (⟨J, hJ⟩ : Fin 31) a d)

/-- One row of the weight gradient. -/
theorem row_end {v : Vec Ideal S1x8x128 .f32} {f h : Fin 4096 → ℝ} {t : ℕ} {d : Fin 128} (hv : ∀ a, v (ix3 0 a d) = ((tapAcc f h t 32 a : ℝ) : EReal)) :
    k0_pay71 (F := Ideal) v (ix2 0 d) = ((tapGrad f h t : ℝ) : EReal) := by
  exact (row v d).trans (eight_sums hv)

theorem out6 (hA : ∀ s d, x0 (ix2 s d) = ((A s d : ℝ) : EReal)) (hG : ∀ s d, x1 (ix2 s d) = ((G s d : ℝ) : EReal)) (hD : ∀ s d, x2 (ix2 s d) = ((D s d : ℝ) : EReal)) (j : Fin 31) (d : Fin 128) :
    out0_A_6 (F := Ideal) c i arg1 harg1 arg2 harg2 arg3 harg3 arg4 harg4 arg5 harg5 arg6 harg6 arg7 harg7 arg8 harg8 arg9 harg9 arg10 harg10 x0 x1 x2 x3 (ix2 j d) = ((tapGrad (fun s => D s d) (fun s => gated A G s d) (30 - j.val) : ℝ) : EReal) := by
  unfold out0_A_6 kernelRun0_A
  dsimp only
  refine (congrFun (View.read_writes_junk_eq_canon _ _) (ix2 j d)).trans ?_
  refine Rows.canon (Val := Elt Ideal) (e := .f32) (K := 31) (W := 128) (J := 31) (G := fun y => ((tapGrad (fun s => D s (y 1)) (fun s => gated A G s (y 1)) (30 - (y 0).val) : ℝ) : EReal)) ?_ (ix2 j d) j.isLt
  iterate 31 refine Rows.cons (by decide) _ _ (fun d => row_end (slab_end hA hG hD _ (by decide) _ · d)) ?_
  exact Rows.nil

end Cert.Proof.CfConv
end
-- ==== Proof.CfConvArrays.lean ====
/- What the gated causal convolution backward kernel leaves in its three result arrays, over real arguments. -/
module

public import proofs.«01_k».proof.Proof.CfConvBody

@[expose] public section

set_option maxRecDepth 16384

noncomputable section

namespace Cert.Proof.CfConv

open Idealize.ShloMosaic Idealize.ShloMosaic.TcCoe Idealize.SL.Sem Cert.CfConvKernelIdeal Cert.CfConvKernelIdeal.Gen Cert.Step

variable {m : (ℓ : Loc nD τ sig) → Buf (Elt Ideal) ℓ} {c : Dev nD}

/-- The column of the projection that feeds column `k` of the first half, and of the gate. -/
def acol (k : Fin 512) : Fin 4096 := ⟨2560 + k.val, by omega⟩
def gcol (k : Fin 512) : Fin 4096 := ⟨2560 + (512 + k.val), by omega⟩

/-- The column a grid point's block column is. -/
def col (t : Fin cfg0.N) (d : Fin 128) : Fin 512 := ⟨t.val * 128 + d.val, by have := lt_of_lt_of_eq t.isLt N_0; have := d.isLt; omega⟩

theorem idx : ∀ t : Fin cfg0.N, win0_0.index t = ![0, 20 + t.val] ∧ win0_1.index t = ![0, 24 + t.val] ∧ win0_2.index t = ![0, t.val] ∧ win0_3.index t = ![0, t.val]
    ∧ win0_4.index t = ![0, t.val] ∧ win0_5.index t = ![0, t.val] ∧ win0_6.index t = ![0, t.val] := (by decide +kernel : ∀ t : Fin grid0.N, _)

theorem read0 (t : Fin cfg0.N) (s : Fin 4096) (d : Fin 128) : iblk m c 0 t (ix2 s d) = V m c main_arg0 (ix2 s (acol (col t d))) := by
  blk_point [iblk, acol, col, idx t]
theorem read1 (t : Fin cfg0.N) (s : Fin 4096) (d : Fin 128) : iblk m c 1 t (ix2 s d) = V m c main_arg0 (ix2 s (gcol (col t d))) := by
  blk_point [iblk, gcol, col, idx t]
theorem read2 (t : Fin cfg0.N) (s : Fin 4096) (d : Fin 128) : iblk m c 2 t (ix2 s d) = V m c main_arg1 (ix2 s (col t d)) := by
  blk_point [iblk, col, idx t]
theorem read3 (t : Fin cfg0.N) (j : Fin 31) (d : Fin 128) : iblk m c 3 t (ix2 j d) = V m c main_arg2 (ix2 j (col t d)) := by
  blk_point [iblk, col, idx t]

/-- The arguments are real numbers. -/
structure RealArgs (m : (ℓ : Loc nD τ sig) → Buf (Elt Ideal) ℓ) (c : Dev nD) (a g D : Fin 4096 → Fin 512 → ℝ) (w : Fin 31 → Fin 512 → ℝ) : Prop where
  a : ∀ s k, V m c main_arg0 (ix2 s (acol k)) = ((a s k : ℝ) : EReal)
  g : ∀ s k, V m c main_arg0 (ix2 s (gcol k)) = ((g s k : ℝ) : EReal)
  D : ∀ s k, V m c main_arg1 (ix2 s k) = ((D s k : ℝ) : EReal)
  w : ∀ j k, V m c main_arg2 (ix2 j k) = ((w j k : ℝ) : EReal)

variable {a g D : Fin 4096 → Fin 512 → ℝ} {w : Fin 31 → Fin 512 → ℝ}

/-- The convolution's adjoint at row `s`, column `k`. -/
def dh (D : Fin 4096 → Fin 512 → ℝ) (w : Fin 31 → Fin 512 → ℝ) (s : Fin 4096) (k : Fin 512) : ℝ := tapsAhead (fun j => w j k) (fun s => D s k) s.val

/-- The gradients of the two halves and of the taps. -/
def daAt (g D : Fin 4096 → Fin 512 → ℝ) (w : Fin 31 → Fin 512 → ℝ) (s : Fin 4096) (k : Fin 512) : ℝ := dh D w s k * sg (g s k)
def dgAt (a g D : Fin 4096 → Fin 512 → ℝ) (w : Fin 31 → Fin 512 → ℝ) (s : Fin 4096) (k : Fin 512) : ℝ := dh D w s k * a s k * sg (g s k) * (1 - sg (g s k))
def dwAt (a g D : Fin 4096 → Fin 512 → ℝ) (j : Fin 31) (k : Fin 512) : ℝ := tapGrad (fun s => D s k) (fun s => a s k * sg (g s k)) (30 - j.val)

section
variable (H : RealArgs m c a g D w)
include H

theorem blk0 (t : Fin cfg0.N) (s : Fin 4096) (d : Fin 128) : iblk m c 0 t (ix2 s d) = ((a s (col t d) : ℝ) : EReal) := (read0 t s d).trans (H.a _ _)
theorem blk1 (t : Fin cfg0.N) (s : Fin 4096) (d : Fin 128) : iblk m c 1 t (ix2 s d) = ((g s (col t d) : ℝ) : EReal) := (read1 t s d).trans (H.g _ _)
theorem blk2 (t : Fin cfg0.N) (s : Fin 4096) (d : Fin 128) : iblk m c 2 t (ix2 s d) = ((D s (col t d) : ℝ) : EReal) := (read2 t s d).trans (H.D _ _)
theorem blk3 (t : Fin cfg0.N) (j : Fin 31) (d : Fin 128) : iblk m c 3 t (ix2 j d) = ((w j (col t d) : ℝ) : EReal) := (read3 t j d).trans (H.w _ _)

/-- The first half's gradient. -/
theorem arr4 : (dats m 0 c).arrAt 4 cfg0.N = fun y : S4096x512.Idx => ((daAt g D w (y 0) (y 1) : ℝ) : EReal) := by
  refine (dats m 0 c).arrAt_eq_of_covers 4 _ (by decide +kernel) fun t hf y => ?_
  blk_simp
  have e : ((View.whole main_v0_0).slice (win0_4.rect t)).emb y = ix2 (y 0) (col t (y 1)) := by
    blk_ext [col, idx t]
  rw [after0_4, e]
  idx_vars y
  exact out4 (blk0 H t) (blk1 H t) (blk2 H t) (blk3 H t) (ix2 y0 y1)

/-- The gate's gradient. -/
theorem arr5 : (dats m 0 c).arrAt 5 cfg0.N = fun y : S4096x512.Idx => ((dgAt a g D w (y 0) (y 1) : ℝ) : EReal) := by
  refine (dats m 0 c).arrAt_eq_of_covers 5 _ (by decide +kernel) fun t hf y => ?_
  blk_simp
  have e : ((View.whole main_v0_1).slice (win0_5.rect t)).emb y = ix2 (y 0) (col t (y 1)) := by
    blk_ext [col, idx t]
  rw [after0_5, e]
  idx_vars y
  exact out5 (blk0 H t) (blk1 H t) (blk2 H t) (blk3 H t) (ix2 y0 y1)

/-- The taps' gradient. -/
theorem arr6 : (dats m 0 c).arrAt 6 cfg0.N = fun y : S31x512.Idx => ((dwAt a g D (y 0) (y 1) : ℝ) : EReal) := by
  refine (dats m 0 c).arrAt_eq_of_covers 6 _ (by decide +kernel) fun t hf y => ?_
  blk_simp
  have e : ((View.whole main_v0_2).slice (win0_6.rect t)).emb y = ix2 (y 0) (col t (y 1)) := by
    blk_ext [col, idx t]
  rw [after0_6, e]
  idx_vars y
  exact out6 (blk0 H t) (blk1 H t) (blk2 H t) y0 y1

end

end Cert.Proof.CfConv
end
-- ==== Proof.Lib.Folds.lean ====
/- Long sums of arrays, added one after another, read at one place. -/
module

public import Idealize.ShloMosaic.Lib.Pipeline.ValueKit
public import Idealize.ShloMosaic.Lib.StableHlo.RunRead

@[expose] public section

noncomputable section

namespace Cert.Step

open Idealize.ShloMosaic

/-- Arrays added to `a` one after another. -/
def addAll {ι : Type} {s : Shape} (f : ι → FVec Ideal s .f32) (a : FVec Ideal s .f32) (l : List ι) : FVec Ideal s .f32 := l.foldl (fun a j => addf a (f j)) a

/-- At one place such a sum is the sum of the entries there. -/
theorem addAll_at {ι : Type} {s : Shape} (f : ι → FVec Ideal s .f32) (i : s.Idx) (l : List ι) : ∀ a : FVec Ideal s .f32, addAll f a l i = (a i : EReal) + (l.map fun j => (f j i : EReal)).sum := by
  induction l with
  | nil => exact fun a => (add_zero (show EReal from a i)).symm
  | cons j l ih => exact fun a => (ih (addf a (f j))).trans (add_assoc (show EReal from a i) (f j i) _)

/-- The numbers up to 30, up and down. -/
def up31 : List (Fin 31) := [0, 1, 2, 3, 4, 5, 6, 7, 8, 9, 10, 11, 12, 13, 14, 15, 16, 17, 18, 19, 20, 21, 22, 23, 24, 25, 26, 27, 28, 29, 30]
def down30 : List (Fin 31) := [29, 28, 27, 26, 25, 24, 23, 22, 21, 20, 19, 18, 17, 16, 15, 14, 13, 12, 11, 10, 9, 8, 7, 6, 5, 4, 3, 2, 1, 0]

theorem up31_sum {M : Type} [AddCommMonoid M] (F : Fin 31 → M) : (up31.map F).sum = ∑ j, F j := by
  rw [show up31 = List.finRange 31 by decide]
  exact (Fin.sum_univ_def F).symm

/-- The arrays added from the last down to the first, where each is a real number. -/
theorem down_at {s : Shape} {f : Fin 31 → FVec Ideal s .f32} {F : Fin 31 → ℝ} {i : s.Idx} (h : ∀ j, f j i = ((F j : ℝ) : EReal)) :
    addAll f (f 30) down30 i = ((∑ j, F j : ℝ) : EReal) := by
  have e : (∑ j, f j i) = ((∑ j, F j : ℝ) : EReal) := by
    rw [Finset.sum_congr rfl fun j _ => h j]
    exact (map_sum (⟨⟨((↑) : ℝ → EReal), EReal.coe_zero⟩, EReal.coe_add⟩ : ℝ →+ EReal) F Finset.univ).symm
  rw [addAll_at, ← e, ← up31_sum, show up31 = (30 :: down30).reverse by decide, List.map_reverse, List.sum_reverse]
  rfl

end Cert.Step

end
-- ==== Proof.CfConvRef.lean ====
/- The gated causal convolution reference's three gradients over real arguments. -/
module

public import proofs.«01_k».proof.Proof.CfConvArrays
public import proofs.«01_k».proof.Proof.Lib.Folds
public import proofs.«01_k».proof.Proof.Gen.CfConvReferenceIdeal.Read
public import Idealize.ShloMosaic.Lib.StableHlo.RunRead

@[expose] public section

set_option maxRecDepth 16384

noncomputable section

namespace Cert.Proof.CfConv

open Idealize.ShloMosaic Idealize.ShloMosaic.TcCoe Idealize.SL.Sem Cert.Step
open Finset (range)

section
open Cert.CfConvReferenceIdeal Cert.CfConvReferenceIdeal.Read

variable {x0 : Vec Ideal S4096x4096 .f32} {x1 : Vec Ideal S4096x512 .f32} {x2 : Vec Ideal S31x512 .f32} {a g D : Fin 4096 → Fin 512 → ℝ} {w : Fin 31 → Fin 512 → ℝ}

section
open Cert.CfConvReferenceIdeal.Gen Idealize.ShloMosaic.StableHlo

/-- Every tap's slice and its place among the zeros lie within bounds. -/
theorem cuts : ∀ J : Fin 31, S4126x512.Slices ![J.val, 0] S4096x512 := by decide
theorem tapCuts : ∀ J : Fin 31, S31x512.Slices ![J.val, 0] S1x512 := by decide
theorem rowFits : ∀ J : Fin 31, S1x512.Pads (![J.val, 0] : Fin 2 → Nat) ![30 - J.val, 0] ![0, 0] S31x512 := by decide
theorem padFits : ∀ J : Fin 31, S4096x512.Pads (![J.val, 0] : Fin 2 → Nat) ![30 - J.val, 0] ![0, 0] S4126x512 := by decide

/-- A tap times the cotangent, among the rows of zeros that tap calls for. -/
def padOf (x1 : FVec Ideal S4096x512 .f32) (x2 : FVec Ideal S31x512 .f32) (J : Fin 31) : FVec Ideal S4126x512 .f32 :=
  Idealize.ShloMosaic.pad (s := S4096x512) (α := Elt Ideal .f32) S4126x512 ![J.val, 0] ![30 - J.val, 0] ![0, 0]
    (mulf (F := Ideal) (φ := .f32) (broadcastInDim (s := S1x512) (α := Elt Ideal .f32) S4096x512 ![0, 1] bcast_S1x512_S4096x512_0_1 (broadcastInDim (s := S512) (α := Elt Ideal .f32) S1x512 ![1] bcast_S512_S1x512_1
      (shapeCast S512 (extractStridedSlice S1x512 ![J.val, 0] x2 (tapCuts J)) shapeCasts_S1x512_S512))) (val_main_v234 (F := Ideal) x1)) (val_main_cst_11 (F := Ideal)) (padFits J) h_S_

/-- A tap's row of the gradient, as the reference makes it: the cotangent times the rows that tap multiplied, summed, between rows of zeros. -/
def rowOf (x0 : FVec Ideal S4096x4096 .f32) (x1 : FVec Ideal S4096x512 .f32) (J : Fin 31) : FVec Ideal S31x512 .f32 :=
  Idealize.ShloMosaic.pad (s := S1x512) (α := Elt Ideal .f32) S31x512 ![J.val, 0] ![30 - J.val, 0] ![0, 0]
    (broadcastInDim (s := S512) (α := Elt Ideal .f32) S1x512 ![1] bcast_S512_S1x512_1 (Host.reduceAdd (F := Ideal) (φ := .f32) (shapeCast S1x512 (Host.reduceAdd (F := Ideal) (φ := .f32)
      (mulf (F := Ideal) (φ := .f32) (val_main_v234 (F := Ideal) x1) (extractStridedSlice S4096x512 ![J.val, 0] (val_main_v14 (F := Ideal) x0) (cuts J)))
      (val_main_cst_9 (F := Ideal)) reducesTo_S4096x512_S512_d0 h_S_) shapeCasts_S512_S1x512) (val_main_cst_10 (F := Ideal)) reducesTo_S1x512_S512_d0 h_S_)) (val_main_cst_12 (F := Ideal)) (rowFits J) h_S_

end

section
variable (hA : ∀ s k, x0 (ix2 s (acol k)) = ((a s k : ℝ) : EReal)) (hG : ∀ s k, x0 (ix2 s (gcol k)) = ((g s k : ℝ) : EReal))
include hG

/-- The gate. -/
theorem ref_gate (s : Fin 4096) (k : Fin 512) : val_main_v8 (F := Ideal) x0 (ix2 s k) = ((sg (g s k) : ℝ) : EReal) := by
  unfold val_main_v8 val_main_v7 val_main_v6 val_main_v5 val_main_v4 val_main_v3 val_main_v2 val_main_v0 val_main_cst val_main_cst_0
  pointwise
  exact (congrArg (fun z : EReal => Ideal.div 1 (1 + Ideal.exp (-z))) (hG s k)).trans (quotient_real _)

include hA

/-- The gated rows below thirty rows of zeros. -/
theorem ref_rows (p : Fin 4126) (k : Fin 512) : val_main_v14 (F := Ideal) x0 (ix2 p k) = ((pad 30 (fun s => a s k * sg (g s k)) p.val : ℝ) : EReal) := by
  unfold val_main_v14 val_main_v13 val_main_v12 val_main_v1 val_main_v0 val_main_cst_2
  pointwise
  by_cases h : p.val < 30
  · rw [dif_pos h, pad_out _ (by omega)]
    exact EReal.coe_zero.symm
  · rw [dif_neg h]
    refine (congrArg₂ (fun u v : EReal => u * v) (hA _ k) (ref_gate hG _ k)).trans ((mul_real _ _).trans (congrArg ((↑) : ℝ → EReal) (pad_in (f := fun s => a s k * sg (g s k)) (Nat.le_of_not_lt h) (by omega)).symm))

/-- The rows a tap multiplies. -/
theorem ref_tap (J : ℕ) (hJ : J ≤ 30) (s : Fin 4096) (k : Fin 512) (p : Fin 4126) (hp : p.val = J + s.val) :
    val_main_v14 (F := Ideal) x0 (ix2 p k) = ((before (fun s => a s k * sg (g s k)) (30 - J) s.val : ℝ) : EReal) := by
  rw [ref_rows hA hG, ← pad_before (H := 30) _ _ _ (by omega), hp]
  exact congrArg (fun n => ((pad 30 (fun s => a s k * sg (g s k)) n : ℝ) : EReal)) (by omega)

variable (hD : ∀ s k, x1 (ix2 s k) = ((D s k : ℝ) : EReal))
include hD

theorem rowOf_at (J j : Fin 31) (k : Fin 512) : rowOf x0 x1 J (ix2 j k) = ((if j.val = J.val then tapGrad (fun s => D s k) (fun s => a s k * sg (g s k)) (30 - J.val) else 0 : ℝ) : EReal) := by
  unfold rowOf val_main_cst_9 val_main_cst_10 val_main_cst_12 val_main_v234
  pointwise
  simp only [zero_add, Fin.sum_univ_one]
  exact row_pad fun _ => grad_sum (hD · k) fun s => ref_tap hA hG J.val (by omega) s k _ rfl

/-- The taps' gradient. -/
theorem ref_dw (j : Fin 31) (k : Fin 512) : val_main_v574 (F := Ideal) x0 x1 (ix2 j k) = ((dwAt a g D j k : ℝ) : EReal) := by
  refine (congrFun (show val_main_v574 (F := Ideal) x0 x1 = addAll (rowOf x0 x1) (rowOf x0 x1 30) down30 from rfl) _).trans ((down_at fun J => rowOf_at hA hG hD J j k).trans (congrArg ((↑) : ℝ → EReal) ?_))
  simp only [Fin.val_inj]
  exact (Finset.sum_ite_eq Finset.univ j fun J : Fin 31 => tapGrad (fun s => D s k) (fun s => a s k * sg (g s k)) (30 - J.val)).trans (if_pos (Finset.mem_univ j))

end

section
variable (hD : ∀ s k, x1 (ix2 s k) = ((D s k : ℝ) : EReal)) (hW : ∀ j k, x2 (ix2 j k) = ((w j k : ℝ) : EReal))
include hD hW

theorem padOf_at (J : Fin 31) (p : Fin 4126) (k : Fin 512) : padOf x1 x2 J (ix2 p k) = ((w J k * before (fun s => D s k) J.val p.val : ℝ) : EReal) := by
  unfold padOf val_main_cst_11 val_main_v234
  pointwise
  exact tap_pad fun _ => (congrArg₂ (fun u v : EReal => u * v) (hW J k) (hD _ k)).trans (mul_real _ _)

/-- The convolution's adjoint. -/
theorem ref_dh (s : Fin 4096) (k : Fin 512) (p : Fin 4126) (hp : p.val = 30 + s.val) : val_main_v571 (F := Ideal) x1 x2 (ix2 p k) = ((dh D w s k : ℝ) : EReal) := by
  refine (congrFun (show val_main_v571 (F := Ideal) x1 x2 = addAll (padOf x1 x2) (padOf x1 x2 30) down30 from rfl) _).trans ((down_at fun J => padOf_at hD hW J p k).trans (congrArg ((↑) : ℝ → EReal) ?_))
  unfold dh tapsAhead
  rw [← Fin.sum_univ_eq_sum_range (fun J => ext (fun j : Fin 31 => w j k) J * ext (fun s => D s k) (s.val + (31 - 1 - J))) 31]
  refine Finset.sum_congr rfl fun J _ => ?_
  rw [before, if_pos (by omega), ext_val (fun j : Fin 31 => w j k) J]
  exact congrArg (fun n => w J k * ext (fun s => D s k) n) (by omega)

end

section
variable (hA : ∀ s k, x0 (ix2 s (acol k)) = ((a s k : ℝ) : EReal)) (hG : ∀ s k, x0 (ix2 s (gcol k)) = ((g s k : ℝ) : EReal)) (hD : ∀ s k, x1 (ix2 s k) = ((D s k : ℝ) : EReal)) (hW : ∀ j k, x2 (ix2 j k) = ((w j k : ℝ) : EReal))
include hG hD hW

/-- The first half's gradient. -/
theorem ref_da (s : Fin 4096) (k : Fin 512) : val_main_v583 (F := Ideal) x0 x1 x2 (ix2 s k) = ((daAt g D w s k : ℝ) : EReal) := by
  unfold val_main_v583 val_main_v581 val_main_v580 val_main_v578 val_main_v576
  pointwise
  exact (congrArg₂ (fun u v : EReal => u * v) (ref_dh hD hW s k _ rfl) (ref_gate hG s k)).trans (mul_real _ _)

include hA

/-- The gate's gradient. -/
theorem ref_dg (s : Fin 4096) (k : Fin 512) : val_main_v584 (F := Ideal) x0 x1 x2 (ix2 s k) = ((dgAt a g D w s k : ℝ) : EReal) := by
  unfold val_main_v584 val_main_v582 val_main_v580 val_main_v579 val_main_v577 val_main_v576 val_main_v11 val_main_v10 val_main_v9 val_main_v1 val_main_v0 val_main_cst_1
  pointwise
  refine (congrArg₂ (fun u v : EReal => u * v) (congrArg₂ (fun u v : EReal => u * v) (hA s k) (ref_dh hD hW s k _ rfl))
    (congrArg (fun v : EReal => v * (1 - v)) (ref_gate hG s k))).trans ?_
  rw [one_real]
  simp only [mul_real, sub_real]
  refine congrArg ((↑) : ℝ → EReal) ?_
  rw [dgAt]
  ring

end
end

end Cert.Proof.CfConv
end
-- ==== Proof.CfConvClaims.lean ====
/- The conformer convolution's gradients (`_conformer_conv_bwd`). -/
module

public import proofs.«01_k».proof.Defs
public import proofs.«01_k».proof.Proof.Gen.CfConvKernel.Frame
public import proofs.«01_k».proof.Proof.CfConvRef
public import proofs.«01_k».proof.Proof.Lib.Finite
public import proofs.«01_k».proof.Proof.Gen.CfConvReferenceIdeal.Run
public import proofs.«01_k».proof.Proof.Gen.Pre_cfconv_finite

@[expose] public section

set_option maxRecDepth 16384

noncomputable section

namespace Cert.Proof.CfConvClaims

open Idealize.ShloMosaic Idealize.ShloMosaic.TcCoe Idealize.SL.Sem Cert.Step Cert.Proof.CfConv

/-- The kernel's frame. -/
theorem frame_kernel : Cert.quiescent_CfConvKernel := fun m ρ _ => Cert.CfConvKernel.Gen.frame m ρ
/-- The idealized kernel's frame. -/
theorem frame_ideal : Cert.quiescent_CfConvKernelIdeal := fun m ρ _ => Cert.CfConvKernelIdeal.Gen.frame m ρ
/-- The reference's frame: its run leaves the arguments alone, and it has no semaphore. -/
theorem frame_reference : Cert.quiescent_CfConvReferenceIdeal := fun m ρ _ =>
  (θ_run Cert.CfConvReferenceIdeal.defs _ _).mono
    (fun r h => ⟨fun c => (h c).2.2.2, sem_eq_zero_of_no_sems (by decide) r.2⟩)
    (Cert.CfConvReferenceIdeal.Value.run (F := Ideal) m ρ)
/-- The ideal pass rewrote nothing. -/
theorem preserves : Cert.preserves_CfConvKernel_CfConvKernelIdeal := trivial

/-- The precondition: the entries of the projection, the cotangent and the taps are real numbers. -/
theorem args_real {a0 a1 a2} (h : Cert.Pre_cfconv_finite.fn (F := Ideal) a0 a1 a2 = fun _ => 1#1) : AllReal a0 ∧ AllReal a1 ∧ AllReal a2 := by
  have e := congrFun h (show Cert.Pre_cfconv_finite.S_.Idx from fun k => k.elim0)
  obtain ⟨e, h2⟩ := and_one e
  obtain ⟨h0, h1⟩ := and_one e
  exact ⟨finite_of_test _ _ inf_f32 _ _ _ _ h0, finite_of_test _ _ inf_f32 _ _ _ _ h1, finite_of_test _ _ inf_f32 _ _ _ _ h2⟩

set_option maxHeartbeats 2000000 in  -- three results of large arrays
/-- Both programs end with the same three arrays. -/
theorem algebraic : Cert.algebraic_CfConvKernelIdeal_CfConvReferenceIdeal := by
  intro m ρ m' ρ' hp hag
  refine ⟨fun c => _, fun c => _, fun c => _, Cert.CfConvKernelIdeal.Value.run_blocks (F := Ideal) m ρ, ?_⟩
  refine (θ_run Cert.CfConvReferenceIdeal.defs _ _).mono
    (fun _ h c => ?_) (Cert.CfConvReferenceIdeal.Value.run (F := Ideal) m' ρ')
  obtain ⟨h0, h1, h2⟩ := args_real (hp c)
  obtain ⟨z, hz⟩ := lift_real h0
  obtain ⟨d, hd⟩ := lift_real h1
  obtain ⟨w, hw⟩ := lift_real h2
  have H : RealArgs m c (fun s k => z (ix2 s (acol k))) (fun s k => z (ix2 s (gcol k))) (fun s k => d (ix2 s k)) (fun j k => w (ix2 j k)) :=
    ⟨fun s k => congrFun hz _, fun s k => congrFun hz _, fun s k => congrFun hd _, fun j k => congrFun hw _⟩
  obtain ⟨a0, a1, a2⟩ := hag c
  refine ⟨(h c).1.trans ?_, (h c).2.1.trans ?_, (h c).2.2.1.trans ?_, (h c).2.2.2⟩
  · refine ((Cert.CfConvReferenceIdeal.Read.val_main_v583_eq _).trans ?_).trans (arr4 H).symm
    funext j
    idx_vars j
    refine ref_da (fun s k => ?_) (fun s k => ?_) (fun j k => ?_) j0 j1
    · exact (congrFun a0 _).trans (congrFun hz _)
    · exact (congrFun a1 _).trans (congrFun hd _)
    · exact (congrFun a2 _).trans (congrFun hw _)
  · refine ((Cert.CfConvReferenceIdeal.Read.val_main_v584_eq _).trans ?_).trans (arr5 H).symm
    funext j
    idx_vars j
    refine ref_dg (fun s k => ?_) (fun s k => ?_) (fun s k => ?_) (fun j k => ?_) j0 j1
    · exact (congrFun a0 _).trans (congrFun hz _)
    · exact (congrFun a0 _).trans (congrFun hz _)
    · exact (congrFun a1 _).trans (congrFun hd _)
    · exact (congrFun a2 _).trans (congrFun hw _)
  · refine ((Cert.CfConvReferenceIdeal.Read.val_main_v574_eq _).trans ?_).trans (arr6 H).symm
    funext j
    idx_vars j
    refine ref_dw (fun s k => ?_) (fun s k => ?_) (fun s k => ?_) j0 j1
    · exact (congrFun a0 _).trans (congrFun hz _)
    · exact (congrFun a0 _).trans (congrFun hz _)
    · exact (congrFun a1 _).trans (congrFun hd _)

end Cert.Proof.CfConvClaims

end
-- ==== Proof.ShortPay.lean ====
/- What the stores of the gated short convolution backward kernel hold, over real numbers. -/
module

public import proofs.«01_k».proof.Proof.Gen.ShortKernelIdeal.Value
public import proofs.«01_k».proof.Proof.Lib.Chunks
public import Idealize.ShloMosaic.Lib.Pipeline.ValueKit

@[expose] public section

set_option maxRecDepth 16384

noncomputable section

namespace Cert.Proof.Short

open Idealize.ShloMosaic Idealize.ShloMosaic.TcCoe Idealize.SL.Sem Cert.ShortKernelIdeal Cert.ShortKernelIdeal.Gen Cert.Step
open Finset (range)

theorem trips1 : k0_t1_loop.trips = 32 := by decide +kernel
theorem trips2 : k0_t2_loop.trips = 32 := by decide +kernel
theorem off1 : ∀ k : Fin k0_t1_loop.trips, k0_off1 k = ![128 * k.val, 0] ∧ k0_off2 k = ![32 + 128 * k.val, 0] := by decide +kernel
theorem off2 : ∀ k : Fin k0_t2_loop.trips, k0_off3 k = ![128 * k.val, 0] ∧ k0_off4 k = ![0 + 128 * k.val, 0] := by decide +kernel

/-- The product the first loop stores. -/
theorem pay22 (p : Vec Ideal S128x128 .f32) (q : Vec Ideal S128x128 .f32) (P Q : ℝ) (r d : Fin 128) (hp : p (ix2 r d) = (P : EReal)) (hq : q (ix2 r d) = (Q : EReal)) :
    k0_pay22 (F := Ideal) p q (ix2 r d) = ((P * Q : ℝ) : EReal) := by
  unfold k0_pay22
  pointwise
  rw [hp, hq, mul_real]

/-- The cotangent times its gate, as the first loop stores it. -/
theorem pay23 (p : Vec Ideal S128x128 .bf16) (q : Vec Ideal S128x128 .f32) (P Q : ℝ) (r d : Fin 128) (hp : p (ix2 r d) = (P : EReal)) (hq : q (ix2 r d) = (Q : EReal)) :
    k0_pay23 (F := Ideal) p q (ix2 r d) = ((P * Q : ℝ) : EReal) := by
  unfold k0_pay23
  pointwise
  rw [hp, hq, mul_real]

theorem pay24 (p : Vec Ideal S128x128 .f32) (q : Vec Ideal S128x128 .bf16) (P Q : ℝ) (r d : Fin 128) (hp : p (ix2 r d) = (P : EReal)) (hq : q (ix2 r d) = (Q : EReal)) :
    k0_pay24 (F := Ideal) p (k0_pay15 (F := Ideal) q) (ix2 r d) = ((Q * P : ℝ) : EReal) := by
  unfold k0_pay24 k0_pay15
  pointwise
  rw [hp, hq, mul_real]

theorem pay25 (p q : Vec Ideal S128x128 .f32) (P Q : ℝ) (r d : Fin 128) (hp : p (ix2 r d) = (P : EReal)) (hq : q (ix2 r d) = (Q : EReal)) :
    k0_pay25 (F := Ideal) p q (ix2 r d) = ((P * Q : ℝ) : EReal) := by
  unfold k0_pay25
  pointwise
  rw [hp, hq, mul_real]

theorem pay26 (p q : Vec Ideal S128x128 .f32) (P Q : ℝ) (r d : Fin 128) (hp : p (ix2 r d) = (P : EReal)) (hq : q (ix2 r d) = (Q : EReal)) :
    k0_pay26 (F := Ideal) p q (ix2 r d) = ((P * Q : ℝ) : EReal) := by
  unfold k0_pay26
  pointwise
  rw [hp, hq, mul_real]

section
variable (x : Vec Ideal S192x128 .f32) (X : ℕ → ℝ) (d r : Fin 128) (hx : Reads x X d) (u0 u1 u2 : Vec Ideal S1x128 .f32) (U : ℕ → ℝ)
    (h0 : u0 (ix2 0 d) = ((U 0 : ℝ) : EReal)) (h1 : u1 (ix2 0 d) = ((U 1 : ℝ) : EReal)) (h2 : u2 (ix2 0 d) = ((U 2 : ℝ) : EReal))
include hx h0 h1 h2

/-- The adjoint of the three taps on one chunk. -/
theorem taps : k0_pay13 (F := Ideal) x (k0_pay6 (F := Ideal) x u0) u1 u2 (ix2 r d) = ((∑ j ∈ range 3, U j * X (32 + r.val + (2 - j)) : ℝ) : EReal) := by
  unfold k0_pay13 k0_pay6
  pointwise
  have hr := r.isLt
  simp (disch := omega) only [rot_ahead]
  simp only [hx _ _, h0, h1, h2, mul_real, add_real]
  refine congrArg ((↑) : ℝ → EReal) ?_
  simp only [Finset.sum_range_succ, Finset.range_zero, Finset.sum_empty, zero_add, Nat.reduceSub, Nat.add_zero]

/-- The three taps on one chunk. -/
theorem tapsB : k0_pay12 (F := Ideal) x (k0_pay9 (F := Ideal) x u0 u1) u2 (ix2 r d) = ((∑ j ∈ range 3, U j * X (32 + r.val - (2 - j)) : ℝ) : EReal) := by
  unfold k0_pay12 k0_pay11 k0_pay9 k0_pay5 k0_pay8
  pointwise
  have hr := r.isLt
  simp (disch := omega) only [rot_back]
  simp only [hx _ _, h0, h1, h2, mul_real, add_real]
  refine congrArg ((↑) : ℝ → EReal) ?_
  simp only [Finset.sum_range_succ, Finset.range_zero, Finset.sum_empty, zero_add, Nat.reduceSub, Nat.sub_zero]

end

section Slabs

variable (x8 x9 : Vec Ideal S192x128 .f32) (v : Vec Ideal S1x8x128 .f32) (D H : ℕ → ℝ) (A : ℝ) (a : Fin 8) (d : Fin 128)

theorem slab0 (hx8 : Reads x8 H d) (hx9 : Reads x9 D d) (hv : v (ix3 0 a d) = (A : EReal)) : k0_pay7 (F := Ideal) x8 x9 v (ix3 0 a d) = slabAfter D H A 2 a := by
  unfold k0_pay7 k0_pay4 k0_pay5
  pointwise
  exact slab_sum hv (fun x => hx9 _ _) (fun x => (hx8 _ _).trans (congrArg (fun n => ((H n : ℝ) : EReal)) (by omega)))

theorem slab1 (hx8 : Reads x8 H d) (hx9 : Reads x9 D d) (hv : v (ix3 0 a d) = (A : EReal)) : k0_pay10 (F := Ideal) (k0_pay4 (F := Ideal) x9) (k0_pay8 (F := Ideal) x8) v (ix3 0 a d) = slabAfter D H A 1 a := by
  unfold k0_pay10 k0_pay4 k0_pay8
  pointwise
  exact slab_sum hv (fun x => hx9 _ _) (fun x => (hx8 _ _).trans (congrArg (fun n => ((H n : ℝ) : EReal)) (by omega)))

theorem slab2 (hx8 : Reads x8 H d) (hx9 : Reads x9 D d) (hv : v (ix3 0 a d) = (A : EReal)) : k0_pay14 (F := Ideal) x8 (k0_pay4 (F := Ideal) x9) v (ix3 0 a d) = slabAfter D H A 0 a := by
  unfold k0_pay14 k0_pay11 k0_pay4
  pointwise
  exact slab_sum hv (fun x => hx9 _ _) (fun x => hx8 _ _)

end Slabs

end Cert.Proof.Short
end
-- ==== Proof.ShortLoops.lean ====
/- What the two counted loops of the gated short convolution backward kernel leave. -/
module

public import proofs.«01_k».proof.Proof.ShortPay

@[expose] public section

set_option maxRecDepth 16384

noncomputable section

namespace Cert.Proof.Short

open Idealize.ShloMosaic Idealize.ShloMosaic.TcCoe Idealize.SL.Sem Cert.ShortKernelIdeal Cert.ShortKernelIdeal.Gen Cert.Step
open Finset (range)

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S4096x128 .f32} {harg3 : arg3.IsWhole} {arg4 : Memref sig .tc .vmem S4096x128 .bf16} {harg4 : arg4.IsWhole} {arg5 : Memref sig .tc .vmem S3x128 .f32} {harg5 : arg5.IsWhole} {arg6 : Memref sig .tc .vmem S4096x128 .bf16} {harg6 : arg6.IsWhole} {arg7 : Memref sig .tc .vmem S4096x128 .bf16} {harg7 : arg7.IsWhole} {arg8 : Memref sig .tc .vmem S4096x128 .bf16} {harg8 : arg8.IsWhole} {arg9 : Memref sig .tc .vmem S3x128 .f32} {harg9 : arg9.IsWhole} {arg10 : Memref sig .tc .vmem S4160x128 .f32} {harg10 : arg10.IsWhole} {arg11 : Memref sig .tc .vmem S4160x128 .f32} {harg11 : arg11.IsWhole} {arg12 : Memref sig .tc .vmem S3x8x128 .f32} {harg12 : arg12.IsWhole}

/-- The pieces one trip of the first loop stores. -/
theorem trip1 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 X1 X2 X3 X4 k
      = ([⟨Rect.unit (k0_off2 k) S128x128.size (k0_off2_inb k), k0_pay22 (F := Ideal) (arg3.view.readAt (Elt Ideal) (Rect.unit (s := S4096x128) (k0_off1 k) S128x128.size (k0_off1_inb k)).toLoadRect X3) (arg1.view.readAt (Elt Ideal) (Rect.unit (s := S4096x128) (k0_off1 k) S128x128.size (k0_off1_inb k)).toLoadRect X1)⟩],
         [⟨Rect.unit (k0_off2 k) S128x128.size (k0_off2_inb k), k0_pay23 (F := Ideal) (arg4.view.readAt (Elt Ideal) (Rect.unit (s := S4096x128) (k0_off1 k) S128x128.size (k0_off1_inb k)).toLoadRect X4) (arg2.view.readAt (Elt Ideal) (Rect.unit (s := S4096x128) (k0_off1 k) S128x128.size (k0_off1_inb k)).toLoadRect X2)⟩]) := by
  unfold tripL_k0_t1 trip_k0_t1
  rfl

variable {x0 x1 x2 : Vec Ideal S4096x128 .f32} {x3 : Vec Ideal S4096x128 .bf16} {x4 : Vec Ideal S3x128 .f32} {P G C D : Fin 4096 → Fin 128 → ℝ} {W : Fin 3 → Fin 128 → ℝ}

/-- An entrywise product. -/
def both (A G : Fin 4096 → Fin 128 → ℝ) (s : Fin 4096) (d : Fin 128) : ℝ := A s d * G s d

/-- A chunk of argument 1, row by row. -/
theorem load1 (hP : ∀ s d, x0 (ix2 s d) = ((P s d : ℝ) : EReal)) (k : Fin k0_t1_loop.trips) (r d : Fin 128) (hb : 128 * k.val + r.val < 4096) :
    (arg1.view.readAt (Elt Ideal) (Rect.unit (s := S4096x128) (k0_off1 k) S128x128.size (k0_off1_inb k)).toLoadRect (harg1.unread x0)) (ix2 r d) = ((P ⟨128 * k.val + r.val, hb⟩ d : ℝ) : EReal) :=
  (congrFun (Memref.IsWhole.read_unread harg1 x0) _).trans ((congrArg x0 ((idx_band (off1 k).1 (k0_off1_inb k) r d (by omega)).trans (congrArg (fun n => ix2 n d) (Fin.ext (rfl))))).trans (hP ⟨128 * k.val + r.val, hb⟩ d))

/-- A chunk of argument 2, row by row. -/
theorem load2 (hG : ∀ s d, x1 (ix2 s d) = ((G s d : ℝ) : EReal)) (k : Fin k0_t1_loop.trips) (r d : Fin 128) (hb : 128 * k.val + r.val < 4096) :
    (arg2.view.readAt (Elt Ideal) (Rect.unit (s := S4096x128) (k0_off1 k) S128x128.size (k0_off1_inb k)).toLoadRect (harg2.unread x1)) (ix2 r d) = ((G ⟨128 * k.val + r.val, hb⟩ d : ℝ) : EReal) :=
  (congrFun (Memref.IsWhole.read_unread harg2 x1) _).trans ((congrArg x1 ((idx_band (off1 k).1 (k0_off1_inb k) r d (by omega)).trans (congrArg (fun n => ix2 n d) (Fin.ext (rfl))))).trans (hG ⟨128 * k.val + r.val, hb⟩ d))

/-- A chunk of argument 3, row by row. -/
theorem load3 (hC : ∀ s d, x2 (ix2 s d) = ((C s d : ℝ) : EReal)) (k : Fin k0_t1_loop.trips) (r d : Fin 128) (hb : 128 * k.val + r.val < 4096) :
    (arg3.view.readAt (Elt Ideal) (Rect.unit (s := S4096x128) (k0_off1 k) S128x128.size (k0_off1_inb k)).toLoadRect (harg3.unread x2)) (ix2 r d) = ((C ⟨128 * k.val + r.val, hb⟩ d : ℝ) : EReal) :=
  (congrFun (Memref.IsWhole.read_unread harg3 x2) _).trans ((congrArg x2 ((idx_band (off1 k).1 (k0_off1_inb k) r d (by omega)).trans (congrArg (fun n => ix2 n d) (Fin.ext (rfl))))).trans (hC ⟨128 * k.val + r.val, hb⟩ d))

/-- A chunk of argument 4, row by row. -/
theorem load4 (hD : ∀ s d, x3 (ix2 s d) = ((D s d : ℝ) : EReal)) (k : Fin k0_t1_loop.trips) (r d : Fin 128) (hb : 128 * k.val + r.val < 4096) :
    (arg4.view.readAt (Elt Ideal) (Rect.unit (s := S4096x128) (k0_off1 k) S128x128.size (k0_off1_inb k)).toLoadRect (harg4.unread x3)) (ix2 r d) = ((D ⟨128 * k.val + r.val, hb⟩ d : ℝ) : EReal) :=
  (congrFun (Memref.IsWhole.read_unread harg4 x3) _).trans ((congrArg x3 ((idx_band (off1 k).1 (k0_off1_inb k) r d (by omega)).trans (congrArg (fun n => ix2 n d) (Fin.ext (rfl))))).trans (hD ⟨128 * k.val + r.val, hb⟩ d))

variable {L : List (View.Piece (Elt Ideal) S4160x128 .f32)}

local notation "pieces₁" => pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3)

local notation "next₁" => pb_k0_t1_succ (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3)

/-- After the first loop the first padded buffer holds the convolution's argument, below 32 rows of zeros. -/
theorem loop1q (hC : ∀ s d, x2 (ix2 s d) = ((C s d : ℝ) : EReal)) (hP : ∀ s d, x0 (ix2 s d) = ((P s d : ℝ) : EReal)) (hL : ∀ y, View.canon L y = ((0 : ℝ) : EReal)) :
    View.canon ((pieces₁ 32).1 ++ L) = fun y : S4160x128.Idx => ((pad 32 (fun s => both C P s (y 1)) (y 0).val : ℝ) : EReal) := by
  refine funext fun y => ((canon_bands (o := 32) (R := 128) (n := 32) (fun y : S4160x128.Idx => ((pad 32 (fun s => both C P s (y 1)) (y 0).val : ℝ) : EReal))
    (fun k => (pieces₁ k).1) L rfl (fun k hk => ?_) 32 le_rfl y)).trans ?_
  · have hk' : k < k0_t1_loop.trips := hk.trans_eq trips1.symm
    have hs := next₁ ⟨k, hk'⟩
    rw [trip1] at hs
    refine ⟨k0_off2 ⟨k, hk'⟩, k0_off2_inb ⟨k, hk'⟩, _, congrArg (fun q => q.1) hs, (off1 ⟨k, hk'⟩).2, fun r d h => ?_⟩
    have hb : 128 * k + r.val < 4096 := by have := r.isLt; omega
    refine (pay22 _ _ _ _ r d (load3 hC ⟨k, hk'⟩ r d hb) (load1 hP ⟨k, hk'⟩ r d hb)).trans (congrArg ((↑) : ℝ → EReal) ?_)
    show _ = pad 32 (fun s => both C P s d) (32 + 128 * k + r.val)
    rw [Nat.add_assoc, pad_add]
    exact (ext_val (fun s => both C P s d) ⟨128 * k + r.val, hb⟩).symm
  · rw [hL]
    split
    · rfl
    · next h => exact congrArg ((↑) : ℝ → EReal) (pad_out (fun s => both C P s (y 1)) (by omega)).symm

/-- After the first loop the second padded buffer holds the convolution's cotangent, below 32 rows of zeros. -/
theorem loop1d (hD : ∀ s d, x3 (ix2 s d) = ((D s d : ℝ) : EReal)) (hG : ∀ s d, x1 (ix2 s d) = ((G s d : ℝ) : EReal)) (hL : ∀ y, View.canon L y = ((0 : ℝ) : EReal)) :
    View.canon ((pieces₁ 32).2 ++ L) = fun y : S4160x128.Idx => ((pad 32 (fun s => both D G s (y 1)) (y 0).val : ℝ) : EReal) := by
  refine funext fun y => ((canon_bands (o := 32) (R := 128) (n := 32) (fun y : S4160x128.Idx => ((pad 32 (fun s => both D G s (y 1)) (y 0).val : ℝ) : EReal))
    (fun k => (pieces₁ k).2) L rfl (fun k hk => ?_) 32 le_rfl y)).trans ?_
  · have hk' : k < k0_t1_loop.trips := hk.trans_eq trips1.symm
    have hs := next₁ ⟨k, hk'⟩
    rw [trip1] at hs
    refine ⟨k0_off2 ⟨k, hk'⟩, k0_off2_inb ⟨k, hk'⟩, _, congrArg (fun q => q.2) hs, (off1 ⟨k, hk'⟩).2, fun r d h => ?_⟩
    have hb : 128 * k + r.val < 4096 := by have := r.isLt; omega
    refine (pay23 _ _ _ _ r d (load4 hD ⟨k, hk'⟩ r d hb) (load2 hG ⟨k, hk'⟩ r d hb)).trans (congrArg ((↑) : ℝ → EReal) ?_)
    show _ = pad 32 (fun s => both D G s d) (32 + 128 * k + r.val)
    rw [Nat.add_assoc, pad_add]
    exact (ext_val (fun s => both D G s d) ⟨128 * k + r.val, hb⟩).symm
  · rw [hL]
    split
    · rfl
    · next h => exact congrArg ((↑) : ℝ → EReal) (pad_out (fun s => both D G s (y 1)) (by omega)).symm

variable {Q T : Fin 4096 → Fin 128 → ℝ} {X10 : BufTy.Contents (Elt Ideal) arg10.view.ty} {X11 : BufTy.Contents (Elt Ideal) arg11.view.ty}

/-- The window of 192 padded rows around chunk `k`, from scratch buffer 10. -/
theorem window10 (hX10 : arg10.view.read (Elt Ideal) X10 = fun y : S4160x128.Idx => ((pad 32 (fun s => Q s (y 1)) (y 0).val : ℝ) : EReal)) (k : Fin k0_t2_loop.trips) (d : Fin 128) :
    Reads (arg10.view.readAt (Elt Ideal) (Rect.unit (s := S4160x128) (k0_off3 k) S192x128.size (k0_off3_inb k)).toLoadRect X10) (fun n => pad 32 (fun s => Q s d) (128 * k.val + n)) d := fun n h => by
  have hk := k.isLt.trans_eq trips2
  exact (congrFun hX10 _).trans (congrArg (fun y : S4160x128.Idx => ((pad 32 (fun s => Q s (y 1)) (y 0).val : ℝ) : EReal))
    (idx_band (off2 k).1 (k0_off3_inb k) (⟨n, h⟩ : Fin 192) d (by show 128 * k.val + n < 4160; omega)))

/-- The window of 192 padded rows around chunk `k`, from scratch buffer 11. -/
theorem window11 (hX11 : arg11.view.read (Elt Ideal) X11 = fun y : S4160x128.Idx => ((pad 32 (fun s => T s (y 1)) (y 0).val : ℝ) : EReal)) (k : Fin k0_t2_loop.trips) (d : Fin 128) :
    Reads (arg11.view.readAt (Elt Ideal) (Rect.unit (s := S4160x128) (k0_off3 k) S192x128.size (k0_off3_inb k)).toLoadRect X11) (fun n => pad 32 (fun s => T s d) (128 * k.val + n)) d := fun n h => by
  have hk := k.isLt.trans_eq trips2
  exact (congrFun hX11 _).trans (congrArg (fun y : S4160x128.Idx => ((pad 32 (fun s => T s (y 1)) (y 0).val : ℝ) : EReal))
    (idx_band (off2 k).1 (k0_off3_inb k) (⟨n, h⟩ : Fin 192) d (by show 128 * k.val + n < 4160; omega)))

/-- One row of the taps. -/
theorem tapRow (hW : ∀ j d, x4 (ix2 j d) = ((W j d : ℝ) : EReal)) (j : ℕ) (hj : j < 3) (inb : ∀ a : Fin 2, (![j, 0] : Fin 2 → ℕ) a + S1x128.size a ≤ S3x128.size a) (d : Fin 128) :
    arg5.view.readAt (Elt Ideal) (Rect.unit (s := S3x128) ![j, 0] S1x128.size inb).toLoadRect (harg5.unread x4) (ix2 0 d) = ((ext (fun j : Fin 3 => W j d) j : ℝ) : EReal) :=
  (congrFun (Memref.IsWhole.read_unread harg5 x4) _).trans ((congrArg x4 (idx_band (o := j) rfl inb 0 d hj)).trans ((hW ⟨j, hj⟩ d).trans (congrArg ((↑) : ℝ → EReal) (ext_val (fun j : Fin 3 => W j d) ⟨j, hj⟩).symm)))

/-- The convolution's adjoint on chunk `k`, as the second loop makes it. -/
theorem adjoint (hX11 : arg11.view.read (Elt Ideal) X11 = fun y : S4160x128.Idx => ((pad 32 (fun s => T s (y 1)) (y 0).val : ℝ) : EReal)) (hW : ∀ j d, x4 (ix2 j d) = ((W j d : ℝ) : EReal)) (k : Fin k0_t2_loop.trips) (r d : Fin 128) :
    trip_k0_t2.sl.r_7 (F := Ideal) arg5 arg11 (harg5.unread x4) X11 k (ix2 r d) = ((tapsAhead (fun j => W j d) (fun s => T s d) (128 * k.val + r.val) : ℝ) : EReal) := by
  refine (taps (arg11.view.readAt (Elt Ideal) (Rect.unit (s := S4160x128) (k0_off3 k) S192x128.size (k0_off3_inb k)).toLoadRect X11) _ d r (window11 hX11 k d) _ _ _ (ext fun j => W j d)
    (tapRow hW 0 (by decide) inb_S3x128_S1x128_0_0 d)
    (tapRow hW 1 (by decide) inb_S3x128_S1x128_1_0 d)
    (tapRow hW 2 (by decide) inb_S3x128_S1x128_2_0 d)).trans (congrArg ((↑) : ℝ → EReal) (Finset.sum_congr rfl fun j _ => ?_))
  show ext (fun j => W j d) j * pad 32 (fun s => T s d) (128 * k.val + (32 + r.val + (2 - j))) = _
  rw [show 128 * k.val + (32 + r.val + (2 - j)) = 32 + (128 * k.val + r.val + (2 - j)) by omega, pad_add]

/-- The convolution on chunk `k`, as the second loop makes it. -/
theorem conv (hX10 : arg10.view.read (Elt Ideal) X10 = fun y : S4160x128.Idx => ((pad 32 (fun s => Q s (y 1)) (y 0).val : ℝ) : EReal)) (hW : ∀ j d, x4 (ix2 j d) = ((W j d : ℝ) : EReal)) (k : Fin k0_t2_loop.trips) (r d : Fin 128) :
    trip_k0_t2.sl.r_6 (F := Ideal) arg5 arg10 (harg5.unread x4) X10 k (ix2 r d) = ((tapsBack (fun j => W j d) (fun s => Q s d) (128 * k.val + r.val) : ℝ) : EReal) := by
  refine (tapsB (arg10.view.readAt (Elt Ideal) (Rect.unit (s := S4160x128) (k0_off3 k) S192x128.size (k0_off3_inb k)).toLoadRect X10) _ d r (window10 hX10 k d) _ _ _ (ext fun j => W j d)
    (tapRow hW 0 (by decide) inb_S3x128_S1x128_0_0 d)
    (tapRow hW 1 (by decide) inb_S3x128_S1x128_1_0 d)
    (tapRow hW 2 (by decide) inb_S3x128_S1x128_2_0 d)).trans (congrArg ((↑) : ℝ → EReal) (Finset.sum_congr rfl fun j _ => ?_))
  show ext (fun j => W j d) j * pad 32 (fun s => Q s d) (128 * k.val + (32 + r.val - (2 - j))) = _
  rw [show 128 * k.val + (32 + r.val - (2 - j)) = 32 + (128 * k.val + r.val) - (2 - j) by omega, pad_before _ _ _ (by omega)]

/-- A chunk of argument 1, row by row. -/
theorem load1b (hP : ∀ s d, x0 (ix2 s d) = ((P s d : ℝ) : EReal)) (k : Fin k0_t2_loop.trips) (r d : Fin 128) (hb : 128 * k.val + r.val < 4096) :
    (arg1.view.readAt (Elt Ideal) (Rect.unit (s := S4096x128) (k0_off4 k) S128x128.size (k0_off4_inb k)).toLoadRect (harg1.unread x0)) (ix2 r d) = ((P ⟨128 * k.val + r.val, hb⟩ d : ℝ) : EReal) :=
  (congrFun (Memref.IsWhole.read_unread harg1 x0) _).trans ((congrArg x0 ((idx_band (off2 k).2 (k0_off4_inb k) r d (by omega)).trans (congrArg (fun n => ix2 n d) (Fin.ext (by show 0 + 128 * k.val + r.val = 128 * k.val + r.val; omega))))).trans (hP ⟨128 * k.val + r.val, hb⟩ d))

/-- A chunk of argument 3, row by row. -/
theorem load3b (hC : ∀ s d, x2 (ix2 s d) = ((C s d : ℝ) : EReal)) (k : Fin k0_t2_loop.trips) (r d : Fin 128) (hb : 128 * k.val + r.val < 4096) :
    (arg3.view.readAt (Elt Ideal) (Rect.unit (s := S4096x128) (k0_off4 k) S128x128.size (k0_off4_inb k)).toLoadRect (harg3.unread x2)) (ix2 r d) = ((C ⟨128 * k.val + r.val, hb⟩ d : ℝ) : EReal) :=
  (congrFun (Memref.IsWhole.read_unread harg3 x2) _).trans ((congrArg x2 ((idx_band (off2 k).2 (k0_off4_inb k) r d (by omega)).trans (congrArg (fun n => ix2 n d) (Fin.ext (by show 0 + 128 * k.val + r.val = 128 * k.val + r.val; omega))))).trans (hC ⟨128 * k.val + r.val, hb⟩ d))

/-- A chunk of argument 4, row by row. -/
theorem load4b (hD : ∀ s d, x3 (ix2 s d) = ((D s d : ℝ) : EReal)) (k : Fin k0_t2_loop.trips) (r d : Fin 128) (hb : 128 * k.val + r.val < 4096) :
    (arg4.view.readAt (Elt Ideal) (Rect.unit (s := S4096x128) (k0_off4 k) S128x128.size (k0_off4_inb k)).toLoadRect (harg4.unread x3)) (ix2 r d) = ((D ⟨128 * k.val + r.val, hb⟩ d : ℝ) : EReal) :=
  (congrFun (Memref.IsWhole.read_unread harg4 x3) _).trans ((congrArg x3 ((idx_band (off2 k).2 (k0_off4_inb k) r d (by omega)).trans (congrArg (fun n => ix2 n d) (Fin.ext (by show 0 + 128 * k.val + r.val = 128 * k.val + r.val; omega))))).trans (hD ⟨128 * k.val + r.val, hb⟩ d))

variable {L6 L7 L8 : List (View.Piece (Elt Ideal) S4096x128 .bf16)} {L12 : List (View.Piece (Elt Ideal) S3x8x128 .f32)}

/-- The second loop's pieces after `k` trips. -/
abbrev P2 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .bf16) (harg4 : arg4.IsWhole) (arg5 : Memref sig .tc .vmem S3x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S3x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S3x8x128 .f32) (harg12 : arg12.IsWhole) (x0 x2 : Vec Ideal S4096x128 .f32) (x3 : Vec Ideal S4096x128 .bf16) (x4 : Vec Ideal S3x128 .f32) (X10 : BufTy.Contents (Elt Ideal) arg10.view.ty) (X11 : BufTy.Contents (Elt Ideal) arg11.view.ty) (L6 L7 L8 : List (View.Piece (Elt Ideal) S4096x128 .bf16)) (L12 : List (View.Piece (Elt Ideal) S3x8x128 .f32)) :=
  pb_k0_t2 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) (harg5.unread x4) X10 X11 (arg6.view.writes (Elt Ideal) arg6.view.junk L6) (arg7.view.writes (Elt Ideal) arg7.view.junk L7) (arg8.view.writes (Elt Ideal) arg8.view.junk L8) (arg12.view.writes (Elt Ideal) arg12.view.junk L12)

local notation "trip₂" => tripL_k0_t2 (F := Ideal) Variants.none c none i arg1 harg1 arg2 harg2 arg3 harg3 arg4 harg4 arg5 harg5 arg6 harg6 arg7 harg7 arg8 harg8 arg9 harg9 arg10 harg10 arg11 harg11 arg12 harg12

/-- The piece of one result that one trip of the second loop stores. -/
theorem trip2h (X1 : BufTy.Contents (Elt Ideal) arg1.view.ty) (X3 : BufTy.Contents (Elt Ideal) arg3.view.ty) (X4 : BufTy.Contents (Elt Ideal) arg4.view.ty) (X5 : BufTy.Contents (Elt Ideal) arg5.view.ty) (k : Fin k0_t2_loop.trips) (f6 : BufTy.Contents (Elt Ideal) arg6.view.ty) (f7 : BufTy.Contents (Elt Ideal) arg7.view.ty) (f8 : BufTy.Contents (Elt Ideal) arg8.view.ty) (f12 : BufTy.Contents (Elt Ideal) arg12.view.ty) :
    (trip₂ X1 X3 X4 X5 X10 X11 k f6 f7 f8 f12).1
      = [⟨Rect.unit (k0_off4 k) S128x128.size (k0_off4_inb k), k0_pay26 (F := Ideal) (trip_k0_t2.sl.r_7 (F := Ideal) arg5 arg11 X5 X11 k) (arg3.view.readAt (Elt Ideal) (Rect.unit (s := S4096x128) (k0_off4 k) S128x128.size (k0_off4_inb k)).toLoadRect X3)⟩] := by
  unfold tripL_k0_t2 trip_k0_t2
  rfl

/-- The piece of one result that one trip of the second loop stores. -/
theorem trip2b (X1 : BufTy.Contents (Elt Ideal) arg1.view.ty) (X3 : BufTy.Contents (Elt Ideal) arg3.view.ty) (X4 : BufTy.Contents (Elt Ideal) arg4.view.ty) (X5 : BufTy.Contents (Elt Ideal) arg5.view.ty) (k : Fin k0_t2_loop.trips) (f6 : BufTy.Contents (Elt Ideal) arg6.view.ty) (f7 : BufTy.Contents (Elt Ideal) arg7.view.ty) (f8 : BufTy.Contents (Elt Ideal) arg8.view.ty) (f12 : BufTy.Contents (Elt Ideal) arg12.view.ty) :
    (trip₂ X1 X3 X4 X5 X10 X11 k f6 f7 f8 f12).2.1
      = [⟨Rect.unit (k0_off4 k) S128x128.size (k0_off4_inb k), k0_pay24 (F := Ideal) (trip_k0_t2.sl.r_6 (F := Ideal) arg5 arg10 X5 X10 k) (k0_pay15 (F := Ideal) (arg4.view.readAt (Elt Ideal) (Rect.unit (s := S4096x128) (k0_off4 k) S128x128.size (k0_off4_inb k)).toLoadRect X4))⟩] := by
  unfold tripL_k0_t2 trip_k0_t2
  rfl

/-- The piece of one result that one trip of the second loop stores. -/
theorem trip2c (X1 : BufTy.Contents (Elt Ideal) arg1.view.ty) (X3 : BufTy.Contents (Elt Ideal) arg3.view.ty) (X4 : BufTy.Contents (Elt Ideal) arg4.view.ty) (X5 : BufTy.Contents (Elt Ideal) arg5.view.ty) (k : Fin k0_t2_loop.trips) (f6 : BufTy.Contents (Elt Ideal) arg6.view.ty) (f7 : BufTy.Contents (Elt Ideal) arg7.view.ty) (f8 : BufTy.Contents (Elt Ideal) arg8.view.ty) (f12 : BufTy.Contents (Elt Ideal) arg12.view.ty) :
    (trip₂ X1 X3 X4 X5 X10 X11 k f6 f7 f8 f12).2.2.1
      = [⟨Rect.unit (k0_off4 k) S128x128.size (k0_off4_inb k), k0_pay25 (F := Ideal) (trip_k0_t2.sl.r_7 (F := Ideal) arg5 arg11 X5 X11 k) (arg1.view.readAt (Elt Ideal) (Rect.unit (s := S4096x128) (k0_off4 k) S128x128.size (k0_off4_inb k)).toLoadRect X1)⟩] := by
  unfold tripL_k0_t2 trip_k0_t2
  rfl

/-- The convolution's adjoint times another factor. -/
def gradT (T C : Fin 4096 → Fin 128 → ℝ) (W : Fin 3 → Fin 128 → ℝ) (s : Fin 4096) (d : Fin 128) : ℝ := tapsAhead (fun j => W j d) (fun s => T s d) s.val * C s d

/-- The cotangent times the convolution. -/
def gradB (D Q : Fin 4096 → Fin 128 → ℝ) (W : Fin 3 → Fin 128 → ℝ) (s : Fin 4096) (d : Fin 128) : ℝ := D s d * tapsBack (fun j => W j d) (fun s => Q s d) s.val

/-- What the second loop leaves as the gradient of the convolution's first factor. -/
theorem loop2h (hX11 : arg11.view.read (Elt Ideal) X11 = fun y : S4160x128.Idx => ((pad 32 (fun s => T s (y 1)) (y 0).val : ℝ) : EReal)) (hC : ∀ s d, x2 (ix2 s d) = ((C s d : ℝ) : EReal)) (hW : ∀ j d, x4 (ix2 j d) = ((W j d : ℝ) : EReal)) (y : S4096x128.Idx) :
    View.canon ((P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 32).1 ++ L6) y = ((gradT T C W (y 0) (y 1) : ℝ) : EReal) := by
  refine ((canon_bands (o := 0) (R := 128) (n := 32) (fun y : S4096x128.Idx => ((gradT T C W (y 0) (y 1) : ℝ) : EReal))
    (fun k => (P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 k).1) L6 rfl (fun k hk => ?_) 32 le_rfl y)).trans (if_pos ⟨Nat.zero_le _, ?_⟩)
  · have hk' : k < k0_t2_loop.trips := hk.trans_eq trips2.symm
    refine ⟨k0_off4 ⟨k, hk'⟩, k0_off4_inb ⟨k, hk'⟩, _, (congrArg (fun q => q.1) (pb_k0_t2_succ (F := Ideal) _ _ _ _ _ _ _ _ _ _ _ _ _ _ _ _ _ _ _ _ _ _ _ _ _ _ _ _ _ _ _ _ _ _ _ _ _ _ ⟨k, hk'⟩)).trans (congrArg (fun l => l ++ (P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 k).1) (trip2h _ _ _ _ ⟨k, hk'⟩ _ _ _ _)), (off2 ⟨k, hk'⟩).2, fun r d h => ?_⟩
    have hb : 128 * k + r.val < 4096 := by have := r.isLt; omega
    refine (pay26 _ _ _ _ r d (adjoint hX11 hW ⟨k, hk'⟩ r d) (load3b hC ⟨k, hk'⟩ r d hb)).trans ?_
    show _ = ((gradT T C W ⟨0 + 128 * k + r.val, h⟩ d : ℝ) : EReal)
    rw [show (⟨0 + 128 * k + r.val, h⟩ : Fin 4096) = ⟨128 * k + r.val, hb⟩ from Fin.ext (by dsimp only; omega)]
    rfl
  · have : (y 0).val < 4096 := (y 0).isLt
    omega

/-- What the second loop leaves as the gradient of the outer gate. -/
theorem loop2b (hX10 : arg10.view.read (Elt Ideal) X10 = fun y : S4160x128.Idx => ((pad 32 (fun s => Q s (y 1)) (y 0).val : ℝ) : EReal)) (hD : ∀ s d, x3 (ix2 s d) = ((D s d : ℝ) : EReal)) (hW : ∀ j d, x4 (ix2 j d) = ((W j d : ℝ) : EReal)) (y : S4096x128.Idx) :
    View.canon ((P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 32).2.1 ++ L7) y = ((gradB D Q W (y 0) (y 1) : ℝ) : EReal) := by
  refine ((canon_bands (o := 0) (R := 128) (n := 32) (fun y : S4096x128.Idx => ((gradB D Q W (y 0) (y 1) : ℝ) : EReal))
    (fun k => (P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 k).2.1) L7 rfl (fun k hk => ?_) 32 le_rfl y)).trans (if_pos ⟨Nat.zero_le _, ?_⟩)
  · have hk' : k < k0_t2_loop.trips := hk.trans_eq trips2.symm
    refine ⟨k0_off4 ⟨k, hk'⟩, k0_off4_inb ⟨k, hk'⟩, _, (congrArg (fun q => q.2.1) (pb_k0_t2_succ (F := Ideal) _ _ _ _ _ _ _ _ _ _ _ _ _ _ _ _ _ _ _ _ _ _ _ _ _ _ _ _ _ _ _ _ _ _ _ _ _ _ ⟨k, hk'⟩)).trans (congrArg (fun l => l ++ (P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 k).2.1) (trip2b _ _ _ _ ⟨k, hk'⟩ _ _ _ _)), (off2 ⟨k, hk'⟩).2, fun r d h => ?_⟩
    have hb : 128 * k + r.val < 4096 := by have := r.isLt; omega
    refine (pay24 _ _ _ _ r d (conv hX10 hW ⟨k, hk'⟩ r d) (load4b hD ⟨k, hk'⟩ r d hb)).trans ?_
    show _ = ((gradB D Q W ⟨0 + 128 * k + r.val, h⟩ d : ℝ) : EReal)
    rw [show (⟨0 + 128 * k + r.val, h⟩ : Fin 4096) = ⟨128 * k + r.val, hb⟩ from Fin.ext (by dsimp only; omega)]
    rfl
  · have : (y 0).val < 4096 := (y 0).isLt
    omega

/-- What the second loop leaves as the gradient of the convolution's second factor. -/
theorem loop2c (hX11 : arg11.view.read (Elt Ideal) X11 = fun y : S4160x128.Idx => ((pad 32 (fun s => T s (y 1)) (y 0).val : ℝ) : EReal)) (hP : ∀ s d, x0 (ix2 s d) = ((P s d : ℝ) : EReal)) (hW : ∀ j d, x4 (ix2 j d) = ((W j d : ℝ) : EReal)) (y : S4096x128.Idx) :
    View.canon ((P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 32).2.2.1 ++ L8) y = ((gradT T P W (y 0) (y 1) : ℝ) : EReal) := by
  refine ((canon_bands (o := 0) (R := 128) (n := 32) (fun y : S4096x128.Idx => ((gradT T P W (y 0) (y 1) : ℝ) : EReal))
    (fun k => (P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 k).2.2.1) L8 rfl (fun k hk => ?_) 32 le_rfl y)).trans (if_pos ⟨Nat.zero_le _, ?_⟩)
  · have hk' : k < k0_t2_loop.trips := hk.trans_eq trips2.symm
    refine ⟨k0_off4 ⟨k, hk'⟩, k0_off4_inb ⟨k, hk'⟩, _, (congrArg (fun q => q.2.2.1) (pb_k0_t2_succ (F := Ideal) _ _ _ _ _ _ _ _ _ _ _ _ _ _ _ _ _ _ _ _ _ _ _ _ _ _ _ _ _ _ _ _ _ _ _ _ _ _ ⟨k, hk'⟩)).trans (congrArg (fun l => l ++ (P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 k).2.2.1) (trip2c _ _ _ _ ⟨k, hk'⟩ _ _ _ _)), (off2 ⟨k, hk'⟩).2, fun r d h => ?_⟩
    have hb : 128 * k + r.val < 4096 := by have := r.isLt; omega
    refine (pay25 _ _ _ _ r d (adjoint hX11 hW ⟨k, hk'⟩ r d) (load1b hP ⟨k, hk'⟩ r d hb)).trans ?_
    show _ = ((gradT T P W ⟨0 + 128 * k + r.val, h⟩ d : ℝ) : EReal)
    rw [show (⟨0 + 128 * k + r.val, h⟩ : Fin 4096) = ⟨128 * k + r.val, hb⟩ from Fin.ext (by dsimp only; omega)]
    rfl
  · have : (y 0).val < 4096 := (y 0).isLt
    omega

/-- One trip of the second loop adds its chunk to each of the three slabs. -/
theorem trip2w (hX10 : arg10.view.read (Elt Ideal) X10 = fun y : S4160x128.Idx => ((pad 32 (fun s => Q s (y 1)) (y 0).val : ℝ) : EReal)) (hX11 : arg11.view.read (Elt Ideal) X11 = fun y : S4160x128.Idx => ((pad 32 (fun s => T s (y 1)) (y 0).val : ℝ) : EReal))
    (X1 : BufTy.Contents (Elt Ideal) arg1.view.ty) (X3 : BufTy.Contents (Elt Ideal) arg3.view.ty) (X4 : BufTy.Contents (Elt Ideal) arg4.view.ty) (X5 : BufTy.Contents (Elt Ideal) arg5.view.ty) (k : Fin k0_t2_loop.trips) (f6 : BufTy.Contents (Elt Ideal) arg6.view.ty) (f7 : BufTy.Contents (Elt Ideal) arg7.view.ty) (f8 : BufTy.Contents (Elt Ideal) arg8.view.ty) (f12 : BufTy.Contents (Elt Ideal) arg12.view.ty)
    (hf : ∀ (J : ℕ) (hJ : J < 3) (inb : ∀ a : Fin 3, (![J, 0, 0] : Fin 3 → ℕ) a + (![1, 8, 128] : Fin 3 → ℕ) a ≤ (![3, 8, 128] : Fin 3 → ℕ) a) (a : Fin 8) (d : Fin 128),
      arg12.view.readAt (Elt Ideal) (Rect.unit (s := ⟨3, ![3, 8, 128]⟩) ![J, 0, 0] ![1, 8, 128] inb).toLoadRect f12 (ix3 (0 : Fin 1) a d) = running T Q k.val (ix3 (⟨J, hJ⟩ : Fin 3) a d)) :
    Slabs (K := 3) (R := 8) (W := 128) (running T Q (k.val + 1)) 3 (trip₂ X1 X3 X4 X5 X10 X11 k f6 f7 f8 f12).2.2.2 := by
  have r10 := window10 hX10 k
  have r11 := window11 hX11 k
  unfold tripL_k0_t2 trip_k0_t2
  refine Slabs.cons (by decide) _ _ (fun a d => (slab2 _ _ _ _ _ _ a d (r10 d) (r11 d) (hf 2 (by decide) _ a d)).trans (slab_step _ _ 0 k.val (by decide) a)) ?_
  refine Slabs.cons (by decide) _ _ (fun a d => (slab1 _ _ _ _ _ _ a d (r10 d) (r11 d) (hf 1 (by decide) _ a d)).trans (slab_step _ _ 1 k.val (by decide) a)) ?_
  refine Slabs.cons (by decide) _ _ (fun a d => (slab0 _ _ _ _ _ _ a d (r10 d) (r11 d) (hf 0 (by decide) _ a d)).trans (slab_step _ _ 2 k.val (by decide) a)) ?_
  exact Slabs.nil

/-- After `k` trips the accumulator holds the running sums over the first `k` chunks. -/
theorem loop2w (hX10 : arg10.view.read (Elt Ideal) X10 = fun y : S4160x128.Idx => ((pad 32 (fun s => Q s (y 1)) (y 0).val : ℝ) : EReal)) (hX11 : arg11.view.read (Elt Ideal) X11 = fun y : S4160x128.Idx => ((pad 32 (fun s => T s (y 1)) (y 0).val : ℝ) : EReal)) (hL : ∀ y, View.canon L12 y = ((0 : ℝ) : EReal)) :
    ∀ k ≤ 32, ∀ y : S3x8x128.Idx, View.canon ((P2 c i arg1 harg1 arg2 harg2 arg3 harg3 arg4 harg4 arg5 harg5 arg6 harg6 arg7 harg7 arg8 harg8 arg9 harg9 arg10 harg10 arg11 harg11 arg12 harg12 x0 x2 x3 x4 X10 X11 L6 L7 L8 L12 k).2.2.2 ++ L12) y = running T Q k y := by
  intro k
  induction k with
  | zero => exact fun _ y => hL y
  | succ k ih =>
    intro hk y
    have hk' : k < k0_t2_loop.trips := (Nat.lt_of_succ_le hk).trans_eq trips2.symm
    refine (congrArg (fun l => View.canon (l ++ L12) y) (congrArg (fun q => q.2.2.2) (pb_k0_t2_succ (F := Ideal) _ _ _ _ _ _ _ _ _ _ _ _ _ _ _ _ _ _ _ _ _ _ _ _ _ _ _ _ _ _ _ _ _ _ _ _ _ _ ⟨k, hk'⟩))).trans ?_
    refine (congrArg (fun l => View.canon l y) (List.append_assoc _ _ _)).trans ?_
    refine (trip2w hX10 hX11 _ _ _ _ ⟨k, hk'⟩ _ _ _ _ fun J hJ inb a d => ?_).canon _ y (y 0).isLt
    exact (held_slab arg12.view _ L12 hJ inb a d).trans (ih (Nat.le_of_succ_le hk) (ix3 (⟨J, hJ⟩ : Fin 3) a d))

end Cert.Proof.Short
end
-- ==== Proof.ShortBody.lean ====
/- What one column block of the gated short convolution backward kernel leaves in its four result blocks. -/
module

public import proofs.«01_k».proof.Proof.ShortLoops

@[expose] public section

set_option maxRecDepth 16384

noncomputable section

namespace Cert.Proof.Short

open Idealize.ShloMosaic Idealize.ShloMosaic.TcCoe Idealize.SL.Sem Cert.ShortKernelIdeal Cert.ShortKernelIdeal.Gen Cert.Step
open Finset (range)

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S4096x128 .f32} {harg3 : arg3.IsWhole} {arg4 : Memref sig .tc .vmem S4096x128 .bf16} {harg4 : arg4.IsWhole} {arg5 : Memref sig .tc .vmem S3x128 .f32} {harg5 : arg5.IsWhole} {arg6 : Memref sig .tc .vmem S4096x128 .bf16} {harg6 : arg6.IsWhole} {arg7 : Memref sig .tc .vmem S4096x128 .bf16} {harg7 : arg7.IsWhole} {arg8 : Memref sig .tc .vmem S4096x128 .bf16} {harg8 : arg8.IsWhole} {arg9 : Memref sig .tc .vmem S3x128 .f32} {harg9 : arg9.IsWhole} {arg10 : Memref sig .tc .vmem S4160x128 .f32} {harg10 : arg10.IsWhole} {arg11 : Memref sig .tc .vmem S4160x128 .f32} {harg11 : arg11.IsWhole} {arg12 : Memref sig .tc .vmem S3x8x128 .f32} {harg12 : arg12.IsWhole}
  {x0 x1 x2 : Vec Ideal S4096x128 .f32} {x3 : Vec Ideal S4096x128 .bf16} {x4 : Vec Ideal S3x128 .f32} {P G C D : Fin 4096 → Fin 128 → ℝ} {W : Fin 3 → Fin 128 → ℝ}

theorem zero10 (y) : View.canon (kernelRun0_A.sl.HS0_1 (F := Ideal)) y = ((0 : ℝ) : EReal) := by
  refine (congrFun (View.canon_cons_unit_lit _ _ _ (by decide)) y).trans ?_
  unfold k0_pay16
  pointwise
  exact EReal.coe_zero.symm
theorem zero11 (y) : View.canon (kernelRun0_A.sl.HS1_1 (F := Ideal)) y = ((0 : ℝ) : EReal) := by
  refine (congrFun (View.canon_cons_unit_lit _ _ _ (by decide)) y).trans ?_
  unfold k0_pay17
  pointwise
  exact EReal.coe_zero.symm
theorem zero12 (y) : View.canon (kernelRun0_A.sl.HS2_1 (F := Ideal)) y = ((0 : ℝ) : EReal) := by
  refine (congrFun (View.canon_cons_unit_lit _ _ _ (by decide)) y).trans ?_
  unfold k0_pay18
  pointwise
  exact EReal.coe_zero.symm

local notation "pieces₁" => pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3)

/-- Padded scratch buffer 10, read back. -/
theorem rows10 (hC : ∀ s d, x2 (ix2 s d) = ((C s d : ℝ) : EReal)) (hP : ∀ s d, x0 (ix2 s d) = ((P s d : ℝ) : EReal)) :
    arg10.view.read (Elt Ideal) (arg10.view.writes (Elt Ideal) arg10.view.junk ((pieces₁ 32).1 ++ kernelRun0_A.sl.HS0_1))
      = fun y : S4160x128.Idx => ((pad 32 (fun s => both C P s (y 1)) (y 0).val : ℝ) : EReal) :=
  (View.read_writes_junk_eq_canon _ _).trans (loop1q hC hP zero10)

/-- Padded scratch buffer 11, read back. -/
theorem rows11 (hD : ∀ s d, x3 (ix2 s d) = ((D s d : ℝ) : EReal)) (hG : ∀ s d, x1 (ix2 s d) = ((G s d : ℝ) : EReal)) :
    arg11.view.read (Elt Ideal) (arg11.view.writes (Elt Ideal) arg11.view.junk ((pieces₁ 32).2 ++ kernelRun0_A.sl.HS1_1))
      = fun y : S4160x128.Idx => ((pad 32 (fun s => both D G s (y 1)) (y 0).val : ℝ) : EReal) :=
  (View.read_writes_junk_eq_canon _ _).trans (loop1d hD hG zero11)

/-- The gradient of the convolution's first factor. -/
theorem out5 (hP : ∀ s d, x0 (ix2 s d) = ((P s d : ℝ) : EReal)) (hG : ∀ s d, x1 (ix2 s d) = ((G s d : ℝ) : EReal)) (hC : ∀ s d, x2 (ix2 s d) = ((C s d : ℝ) : EReal)) (hD : ∀ s d, x3 (ix2 s d) = ((D s d : ℝ) : EReal)) (hW : ∀ j d, x4 (ix2 j d) = ((W j d : ℝ) : EReal)) (y : S4096x128.Idx) :
    out0_A_5 (F := Ideal) c i arg1 harg1 arg2 harg2 arg3 harg3 arg4 harg4 arg5 harg5 arg6 harg6 arg7 harg7 arg8 harg8 arg9 harg9 arg10 harg10 arg11 harg11 arg12 harg12 x0 x1 x2 x3 x4 y = ((gradT (both D G) C W (y 0) (y 1) : ℝ) : EReal) := by
  unfold out0_A_5 kernelRun0_A
  dsimp only
  refine (congrFun (View.read_writes_junk_eq_canon _ _) y).trans ?_
  exact loop2h (rows11 hD hG) hC hW y

/-- The gradient of the outer gate. -/
theorem out6 (hP : ∀ s d, x0 (ix2 s d) = ((P s d : ℝ) : EReal)) (hG : ∀ s d, x1 (ix2 s d) = ((G s d : ℝ) : EReal)) (hC : ∀ s d, x2 (ix2 s d) = ((C s d : ℝ) : EReal)) (hD : ∀ s d, x3 (ix2 s d) = ((D s d : ℝ) : EReal)) (hW : ∀ j d, x4 (ix2 j d) = ((W j d : ℝ) : EReal)) (y : S4096x128.Idx) :
    out0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 y = ((gradB D (both C P) W (y 0) (y 1) : ℝ) : EReal) := by
  unfold out0_A_6 kernelRun0_A
  dsimp only
  refine (congrFun (View.read_writes_junk_eq_canon _ _) y).trans ?_
  exact loop2b (rows10 hC hP) hD hW y

/-- The gradient of the convolution's second factor. -/
theorem out7 (hP : ∀ s d, x0 (ix2 s d) = ((P s d : ℝ) : EReal)) (hG : ∀ s d, x1 (ix2 s d) = ((G s d : ℝ) : EReal)) (hC : ∀ s d, x2 (ix2 s d) = ((C s d : ℝ) : EReal)) (hD : ∀ s d, x3 (ix2 s d) = ((D s d : ℝ) : EReal)) (hW : ∀ j d, x4 (ix2 j d) = ((W j d : ℝ) : EReal)) (y : S4096x128.Idx) :
    out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 y = ((gradT (both D G) P W (y 0) (y 1) : ℝ) : EReal) := by
  unfold out0_A_7 kernelRun0_A
  dsimp only
  refine (congrFun (View.read_writes_junk_eq_canon _ _) y).trans ?_
  exact loop2c (rows11 hD hG) hP hW y

/-- One slab of the accumulator, as the end of the kernel loads it. -/
theorem slab_end (hP : ∀ s d, x0 (ix2 s d) = ((P s d : ℝ) : EReal)) (hG : ∀ s d, x1 (ix2 s d) = ((G s d : ℝ) : EReal)) (hC : ∀ s d, x2 (ix2 s d) = ((C s d : ℝ) : EReal)) (hD : ∀ s d, x3 (ix2 s d) = ((D s d : ℝ) : EReal)) (J : ℕ) (hJ : J < 3) (inb : ∀ a : Fin 3, (![J, 0, 0] : Fin 3 → ℕ) a + S1x8x128.size a ≤ S3x8x128.size a) (a : Fin 8) (d : Fin 128) :
    arg12.view.readCov ((P2 c i arg1 harg1 arg2 harg2 arg3 harg3 arg4 harg4 arg5 harg5 arg6 harg6 arg7 harg7 arg8 harg8 arg9 harg9 arg10 harg10 arg11 harg11 arg12 harg12 x0 x2 x3 x4 (arg10.view.writes (Elt Ideal) arg10.view.junk ((pieces₁ 32).1 ++ kernelRun0_A.sl.HS0_1)) (arg11.view.writes (Elt Ideal) arg11.view.junk ((pieces₁ 32).2 ++ kernelRun0_A.sl.HS1_1)) kernelRun0_A.sl.H5_1 kernelRun0_A.sl.H6_1 kernelRun0_A.sl.H7_1 kernelRun0_A.sl.HS2_1 32).2.2.2 ++ kernelRun0_A.sl.HS2_1) (Rect.unit (s := S3x8x128) ![J, 0, 0] S1x8x128.size inb).toLoadRect (ix3 0 a d) = running (both D G) (both C P) 32 (ix3 (⟨J, hJ⟩ : Fin 3) a d) := by
  refine (congrFun (View.readCov_eq_canon' _ _ (Rect.unit (s := S3x8x128) ![J, 0, 0] S1x8x128.size inb).toLoadRect) (ix3 (0 : Fin 1) a d)).trans ?_
  refine (congrArg (View.canon ((P2 c i arg1 harg1 arg2 harg2 arg3 harg3 arg4 harg4 arg5 harg5 arg6 harg6 arg7 harg7 arg8 harg8 arg9 harg9 arg10 harg10 arg11 harg11 arg12 harg12 x0 x2 x3 x4 (arg10.view.writes (Elt Ideal) arg10.view.junk ((pieces₁ 32).1 ++ kernelRun0_A.sl.HS0_1)) (arg11.view.writes (Elt Ideal) arg11.view.junk ((pieces₁ 32).2 ++ kernelRun0_A.sl.HS1_1)) kernelRun0_A.sl.H5_1 kernelRun0_A.sl.H6_1 kernelRun0_A.sl.H7_1 kernelRun0_A.sl.HS2_1 32).2.2.2 ++ kernelRun0_A.sl.HS2_1)) (emb_slab hJ inb 0 a d)).trans ?_
  exact loop2w (rows10 hC hP) (rows11 hD hG) zero12 32 le_rfl (ix3 (⟨J, hJ⟩ : Fin 3) a d)

/-- One row of the weight gradient: the eight running sums of one slab added up. -/
theorem row_end1 {v : Vec Ideal S1x8x128 .f32} {f h : Fin 4096 → ℝ} {t : ℕ} {d : Fin 128} (hv : ∀ a, v (ix3 0 a d) = ((tapAcc f h t 32 a : ℝ) : EReal)) :
    k0_pay1 (F := Ideal) v (ix2 0 d) = ((tapGrad f h t : ℝ) : EReal) := by
  unfold k0_pay1
  pointwise
  exact eight_sums hv

/-- One row of the weight gradient: the eight running sums of one slab added up. -/
theorem row_end2 {v : Vec Ideal S1x8x128 .f32} {f h : Fin 4096 → ℝ} {t : ℕ} {d : Fin 128} (hv : ∀ a, v (ix3 0 a d) = ((tapAcc f h t 32 a : ℝ) : EReal)) :
    k0_pay2 (F := Ideal) v (ix2 0 d) = ((tapGrad f h t : ℝ) : EReal) := by
  unfold k0_pay2
  pointwise
  exact eight_sums hv

/-- One row of the weight gradient: the eight running sums of one slab added up. -/
theorem row_end3 {v : Vec Ideal S1x8x128 .f32} {f h : Fin 4096 → ℝ} {t : ℕ} {d : Fin 128} (hv : ∀ a, v (ix3 0 a d) = ((tapAcc f h t 32 a : ℝ) : EReal)) :
    k0_pay3 (F := Ideal) v (ix2 0 d) = ((tapGrad f h t : ℝ) : EReal) := by
  unfold k0_pay3
  pointwise
  exact eight_sums hv

theorem out8 (hP : ∀ s d, x0 (ix2 s d) = ((P s d : ℝ) : EReal)) (hG : ∀ s d, x1 (ix2 s d) = ((G s d : ℝ) : EReal)) (hC : ∀ s d, x2 (ix2 s d) = ((C s d : ℝ) : EReal)) (hD : ∀ s d, x3 (ix2 s d) = ((D s d : ℝ) : EReal)) (j : Fin 3) (d : Fin 128) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 (ix2 j d) = ((tapGrad (fun s => both D G s d) (fun s => both C P s d) (2 - j.val) : ℝ) : EReal) := by
  unfold out0_A_8 kernelRun0_A
  dsimp only
  refine (congrFun (View.read_writes_junk_eq_canon _ _) (ix2 j d)).trans ?_
  refine Rows.canon (Val := Elt Ideal) (e := .f32) (K := 3) (W := 128) (J := 3) (G := fun y => ((tapGrad (fun s => both D G s (y 1)) (fun s => both C P s (y 1)) (2 - (y 0).val) : ℝ) : EReal)) ?_ (ix2 j d) j.isLt
  refine Rows.cons (by decide) inb_S3x128_S1x128_2_0 _ (fun d => row_end3 (slab_end hP hG hC hD 2 (by decide) inb_S3x8x128_S1x8x128_2_0_0 · d)) ?_
  refine Rows.cons (by decide) inb_S3x128_S1x128_1_0 _ (fun d => row_end2 (slab_end hP hG hC hD 1 (by decide) inb_S3x8x128_S1x8x128_1_0_0 · d)) ?_
  refine Rows.cons (by decide) inb_S3x128_S1x128_0_0 _ (fun d => row_end1 (slab_end hP hG hC hD 0 (by decide) inb_S3x8x128_S1x8x128_0_0_0 · d)) ?_
  exact Rows.nil

end Cert.Proof.Short
end
-- ==== Proof.ShortArrays.lean ====
/- What the gated short convolution backward kernel leaves in its four result arrays, over real arguments. -/
module

public import proofs.«01_k».proof.Proof.ShortBody

@[expose] public section

set_option maxRecDepth 16384

noncomputable section

namespace Cert.Proof.Short

open Idealize.ShloMosaic Idealize.ShloMosaic.TcCoe Idealize.SL.Sem Cert.ShortKernelIdeal Cert.ShortKernelIdeal.Gen Cert.Step
open Finset (range)

variable {m : (ℓ : Loc nD τ sig) → Buf (Elt Ideal) ℓ} {c : Dev nD}

/-- The columns of the projection that feed column `k` of the convolution's two factors and of the outer gate, and of the cotangent. -/
def hcol (k : Fin 512) : Fin 4096 := ⟨1024 + k.val, by omega⟩
def bcol (k : Fin 512) : Fin 4096 := ⟨1024 + (512 + k.val), by omega⟩
def ccol (k : Fin 512) : Fin 4096 := ⟨1024 + (1024 + k.val), by omega⟩
def dcol (k : Fin 512) : Fin 2048 := ⟨512 + k.val, by omega⟩

/-- The column a grid point's block column is. -/
def col (t : Fin cfg0.N) (d : Fin 128) : Fin 512 := ⟨t.val * 128 + d.val, by have := lt_of_lt_of_eq t.isLt N_0; have := d.isLt; omega⟩

theorem idx : ∀ t : Fin cfg0.N, win0_0.index t = ![0, 8 + t.val] ∧ win0_1.index t = ![0, 12 + t.val] ∧ win0_2.index t = ![0, 16 + t.val] ∧ win0_3.index t = ![0, t.val] ∧ win0_4.index t = ![0, t.val]
    ∧ win0_5.index t = ![0, t.val] ∧ win0_6.index t = ![0, t.val] ∧ win0_7.index t = ![0, t.val] ∧ win0_8.index t = ![0, t.val] := (by decide +kernel : ∀ t : Fin grid0.N, _)

theorem read0 (t : Fin cfg0.N) (s : Fin 4096) (d : Fin 128) : iblk m c 0 t (ix2 s d) = V m c main_arg0 (ix2 s (hcol (col t d))) := by
  blk_point [iblk, hcol, col, idx t]
theorem read1 (t : Fin cfg0.N) (s : Fin 4096) (d : Fin 128) : iblk m c 1 t (ix2 s d) = V m c main_arg0 (ix2 s (bcol (col t d))) := by
  blk_point [iblk, bcol, col, idx t]
theorem read2 (t : Fin cfg0.N) (s : Fin 4096) (d : Fin 128) : iblk m c 2 t (ix2 s d) = V m c main_arg0 (ix2 s (ccol (col t d))) := by
  blk_point [iblk, ccol, col, idx t]
theorem read3 (t : Fin cfg0.N) (s : Fin 4096) (d : Fin 128) : iblk m c 3 t (ix2 s d) = V m c main_v0 (ix2 s (col t d)) := by
  blk_point [iblk, col, idx t]
theorem read4 (t : Fin cfg0.N) (j : Fin 3) (d : Fin 128) : iblk m c 4 t (ix2 j d) = V m c main_arg2 (ix2 j (col t d)) := by
  blk_point [iblk, col, idx t]

variable {p g q D : Fin 4096 → Fin 512 → ℝ} {w : Fin 3 → Fin 512 → ℝ}

/-- The arguments are real numbers. -/
structure RealArgs (m : (ℓ : Loc nD τ sig) → Buf (Elt Ideal) ℓ) (c : Dev nD) (p g q D : Fin 4096 → Fin 512 → ℝ) (w : Fin 3 → Fin 512 → ℝ) : Prop where
  p : ∀ s k, V m c main_arg0 (ix2 s (hcol k)) = ((p s k : ℝ) : EReal)
  g : ∀ s k, V m c main_arg0 (ix2 s (bcol k)) = ((g s k : ℝ) : EReal)
  q : ∀ s k, V m c main_arg0 (ix2 s (ccol k)) = ((q s k : ℝ) : EReal)
  D : ∀ s k, V m c main_v0 (ix2 s k) = ((D s k : ℝ) : EReal)
  w : ∀ j k, V m c main_arg2 (ix2 j k) = ((w j k : ℝ) : EReal)

/-- The convolution's adjoint at row `s`, column `k`. -/
def dq (g D : Fin 4096 → Fin 512 → ℝ) (w : Fin 3 → Fin 512 → ℝ) (s : Fin 4096) (k : Fin 512) : ℝ := tapsAhead (fun j => w j k) (fun s => D s k * g s k) s.val

/-- The gradients of the convolution's factors, of the outer gate and of the taps. -/
def dhAt (g q D : Fin 4096 → Fin 512 → ℝ) (w : Fin 3 → Fin 512 → ℝ) (s : Fin 4096) (k : Fin 512) : ℝ := dq g D w s k * q s k
def dbAt (p q D : Fin 4096 → Fin 512 → ℝ) (w : Fin 3 → Fin 512 → ℝ) (s : Fin 4096) (k : Fin 512) : ℝ := D s k * tapsBack (fun j => w j k) (fun s => q s k * p s k) s.val
def dcAt (p g D : Fin 4096 → Fin 512 → ℝ) (w : Fin 3 → Fin 512 → ℝ) (s : Fin 4096) (k : Fin 512) : ℝ := dq g D w s k * p s k
def dwAt (p g q D : Fin 4096 → Fin 512 → ℝ) (j : Fin 3) (k : Fin 512) : ℝ := tapGrad (fun s => D s k * g s k) (fun s => q s k * p s k) (2 - j.val)

section
variable (H : RealArgs m c p g q D w)
include H

theorem blk0 (t : Fin cfg0.N) (s : Fin 4096) (d : Fin 128) : iblk m c 0 t (ix2 s d) = ((p s (col t d) : ℝ) : EReal) := (read0 t s d).trans (H.p _ _)
theorem blk1 (t : Fin cfg0.N) (s : Fin 4096) (d : Fin 128) : iblk m c 1 t (ix2 s d) = ((g s (col t d) : ℝ) : EReal) := (read1 t s d).trans (H.g _ _)
theorem blk2 (t : Fin cfg0.N) (s : Fin 4096) (d : Fin 128) : iblk m c 2 t (ix2 s d) = ((q s (col t d) : ℝ) : EReal) := (read2 t s d).trans (H.q _ _)
theorem blk3 (t : Fin cfg0.N) (s : Fin 4096) (d : Fin 128) : iblk m c 3 t (ix2 s d) = ((D s (col t d) : ℝ) : EReal) := (read3 t s d).trans (H.D _ _)
theorem blk4 (t : Fin cfg0.N) (j : Fin 3) (d : Fin 128) : iblk m c 4 t (ix2 j d) = ((w j (col t d) : ℝ) : EReal) := (read4 t j d).trans (H.w _ _)

/-- The gradient of the convolution's first factor. -/
theorem arr5 : (dats m 0 c).arrAt 5 cfg0.N = fun y : S4096x512.Idx => ((dhAt g q D w (y 0) (y 1) : ℝ) : EReal) := by
  refine (dats m 0 c).arrAt_eq_of_covers 5 _ (by decide +kernel) fun t hf y => ?_
  blk_simp
  have e : ((View.whole main_v1_0).slice (win0_5.rect t)).emb y = ix2 (y 0) (col t (y 1)) := by
    blk_ext [col, idx t]
  rw [after0_5, e]
  idx_vars y
  exact out5 (blk0 H t) (blk1 H t) (blk2 H t) (blk3 H t) (blk4 H t) (ix2 y0 y1)

/-- The gradient of the outer gate. -/
theorem arr6 : (dats m 0 c).arrAt 6 cfg0.N = fun y : S4096x512.Idx => ((dbAt p q D w (y 0) (y 1) : ℝ) : EReal) := by
  refine (dats m 0 c).arrAt_eq_of_covers 6 _ (by decide +kernel) fun t hf y => ?_
  blk_simp
  have e : ((View.whole main_v1_1).slice (win0_6.rect t)).emb y = ix2 (y 0) (col t (y 1)) := by
    blk_ext [col, idx t]
  rw [after0_6, e]
  idx_vars y
  exact out6 (blk0 H t) (blk1 H t) (blk2 H t) (blk3 H t) (blk4 H t) (ix2 y0 y1)

/-- The gradient of the convolution's second factor. -/
theorem arr7 : (dats m 0 c).arrAt 7 cfg0.N = fun y : S4096x512.Idx => ((dcAt p g D w (y 0) (y 1) : ℝ) : EReal) := by
  refine (dats m 0 c).arrAt_eq_of_covers 7 _ (by decide +kernel) fun t hf y => ?_
  blk_simp
  have e : ((View.whole main_v1_2).slice (win0_7.rect t)).emb y = ix2 (y 0) (col t (y 1)) := by
    blk_ext [col, idx t]
  rw [after0_7, e]
  idx_vars y
  exact out7 (blk0 H t) (blk1 H t) (blk2 H t) (blk3 H t) (blk4 H t) (ix2 y0 y1)

/-- The gradient of the taps. -/
theorem arr8 : (dats m 0 c).arrAt 8 cfg0.N = fun y : S3x512.Idx => ((dwAt p g q D (y 0) (y 1) : ℝ) : EReal) := by
  refine (dats m 0 c).arrAt_eq_of_covers 8 _ (by decide +kernel) fun t hf y => ?_
  blk_simp
  have e : ((View.whole main_v1_3).slice (win0_8.rect t)).emb y = ix2 (y 0) (col t (y 1)) := by
    blk_ext [col, idx t]
  rw [after0_8, e]
  idx_vars y
  exact out8 (blk0 H t) (blk1 H t) (blk2 H t) (blk3 H t) y0 y1

end

end Cert.Proof.Short
end
-- ==== Proof.ShortRef.lean ====
/- The gated short convolution reference's four gradients over real arguments. -/
module

public import proofs.«01_k».proof.Proof.ShortArrays
public import proofs.«01_k».proof.Proof.Gen.ShortReferenceIdeal.Read
public import Idealize.ShloMosaic.Lib.StableHlo.RunRead

@[expose] public section

set_option maxRecDepth 16384

noncomputable section

namespace Cert.Proof.Short

open Idealize.ShloMosaic Idealize.ShloMosaic.TcCoe Idealize.SL.Sem Cert.Step
open Finset (range)

section
open Cert.ShortReferenceIdeal Cert.ShortReferenceIdeal.Read

variable {x0 : Vec Ideal S4096x4096 .f32} {x1 : Vec Ideal S4096x2048 .bf16} {x2 : Vec Ideal S3x512 .f32} {p g q D : Fin 4096 → Fin 512 → ℝ} {w : Fin 3 → Fin 512 → ℝ}
  (hp : ∀ s k, x0 (ix2 s (hcol k)) = ((p s k : ℝ) : EReal)) (hg : ∀ s k, x0 (ix2 s (bcol k)) = ((g s k : ℝ) : EReal)) (hq : ∀ s k, x0 (ix2 s (ccol k)) = ((q s k : ℝ) : EReal))
  (hD : ∀ s k, x1 (ix2 s (dcol k)) = ((D s k : ℝ) : EReal)) (hW : ∀ j k, x2 (ix2 j k) = ((w j k : ℝ) : EReal))

section
include hg hD

/-- The convolution's cotangent. -/
theorem ref_dd (s : Fin 4096) (k : Fin 512) : val_main_v33 (F := Ideal) x0 x1 (ix2 s k) = ((D s k * g s k : ℝ) : EReal) := by
  unfold val_main_v33 val_main_v32 val_main_v31 val_main_v2 val_main_v0
  pointwise
  exact (congrArg₂ (fun u v : EReal => u * v) (hg s k) (hD s k)).trans ((mul_real _ _).trans (congrArg ((↑) : ℝ → EReal) (mul_comm _ _)))

end

section
include hp hq

/-- The convolution's argument below two rows of zeros. -/
theorem ref_rows (r : Fin 4098) (k : Fin 512) : val_main_v6 (F := Ideal) x0 (ix2 r k) = ((pad 2 (fun s => q s k * p s k) r.val : ℝ) : EReal) := by
  unfold val_main_v6 val_main_v5 val_main_cst val_main_v4 val_main_v3 val_main_v1 val_main_v0
  pointwise
  by_cases h : r.val < 2
  · rw [dif_pos h, pad_out _ (by omega)]
    exact EReal.coe_zero.symm
  · rw [dif_neg h]
    exact (congrArg₂ (fun u v : EReal => u * v) (hq _ k) (hp _ k)).trans ((mul_real _ _).trans (congrArg ((↑) : ℝ → EReal) (pad_in (f := fun s => q s k * p s k) (Nat.le_of_not_lt h) (by omega)).symm))

/-- The rows a tap multiplies. -/
theorem ref_tap (J : ℕ) (hJ : J ≤ 2) (s : Fin 4096) (k : Fin 512) (r : Fin 4098) (hr : r.val = J + s.val) :
    val_main_v6 (F := Ideal) x0 (ix2 r k) = ((before (fun s => q s k * p s k) (2 - J) s.val : ℝ) : EReal) := by
  rw [ref_rows hp hq, ← pad_before (H := 2) _ _ _ (by omega), hr]
  exact congrArg (fun n => ((pad 2 (fun s => q s k * p s k) n : ℝ) : EReal)) (by omega)

end

section
include hp hg hq hD

theorem ref_row2 (j : Fin 3) (k : Fin 512) : val_main_v43 (F := Ideal) x0 x1 (ix2 j k) = ((if j.val = 2 then tapGrad (fun s => D s k * g s k) (fun s => q s k * p s k) 0 else 0 : ℝ) : EReal) := by
  unfold val_main_v43 val_main_cst_5 val_main_v42 val_main_v40 val_main_cst_3 val_main_v39 val_main_v38 val_main_cst_2 val_main_v37 val_main_v25
  pointwise
  simp only [zero_add, Fin.sum_univ_one]
  exact row_pad fun _ => grad_sum (ref_dd hg hD · k) fun s => ref_tap hp hq 2 (by decide) s k _ rfl
theorem ref_row1 (j : Fin 3) (k : Fin 512) : val_main_v53 (F := Ideal) x0 x1 (ix2 j k) = ((if j.val = 1 then tapGrad (fun s => D s k * g s k) (fun s => q s k * p s k) 1 else 0 : ℝ) : EReal) := by
  unfold val_main_v53 val_main_cst_9 val_main_v52 val_main_v49 val_main_cst_7 val_main_v48 val_main_v47 val_main_cst_6 val_main_v46 val_main_v18
  pointwise
  simp only [zero_add, Fin.sum_univ_one]
  exact row_pad fun _ => grad_sum (ref_dd hg hD · k) fun s => ref_tap hp hq 1 (by decide) s k _ rfl
theorem ref_row0 (j : Fin 3) (k : Fin 512) : val_main_v64 (F := Ideal) x0 x1 (ix2 j k) = ((if j.val = 0 then tapGrad (fun s => D s k * g s k) (fun s => q s k * p s k) 2 else 0 : ℝ) : EReal) := by
  unfold val_main_v64 val_main_cst_13 val_main_v63 val_main_v60 val_main_cst_11 val_main_v59 val_main_v58 val_main_cst_10 val_main_v57 val_main_v10
  pointwise
  simp only [zero_add, Fin.sum_univ_one]
  exact row_pad0 fun _ => grad_sum (ref_dd hg hD · k) fun s => ref_tap hp hq 0 (by decide) s k _ (Nat.zero_add _).symm

/-- The taps' gradient. -/
theorem ref_dw (j : Fin 3) (k : Fin 512) : val_main_v65 (F := Ideal) x0 x1 (ix2 j k) = ((dwAt p g q D j k : ℝ) : EReal) := by
  unfold val_main_v65 val_main_v54
  pointwise
  simp only [ref_row0 hp hg hq hD, ref_row1 hp hg hq hD, ref_row2 hp hg hq hD, add_real]
  refine congrArg ((↑) : ℝ → EReal) (Eq.trans ?_ (Finset.sum_ite_eq (range 3) j.val fun J => tapGrad (fun s => D s k * g s k) (fun s => q s k * p s k) (2 - J)) |>.trans (if_pos (Finset.mem_range.mpr j.isLt)))
  rw [← Finset.sum_range_reflect]
  simp only [Finset.sum_range_succ, Finset.range_zero, Finset.sum_empty, zero_add, Nat.reduceSub, Nat.reduceAdd]

end

section
include hg hD hW

theorem ref_pad2 (r : Fin 4098) (k : Fin 512) : val_main_v41 (F := Ideal) x0 x1 x2 (ix2 r k) = ((w 2 k * before (fun s => D s k * g s k) 2 r.val : ℝ) : EReal) := by
  unfold val_main_v41 val_main_cst_4 val_main_v36 val_main_v35 val_main_v26 val_main_v24 val_main_v23
  pointwise
  exact tap_pad (f := fun s => D s k * g s k) fun _ => (congrArg₂ (fun u v : EReal => u * v) (hW 2 k) (ref_dd hg hD _ k)).trans (mul_real _ _)
theorem ref_pad1 (r : Fin 4098) (k : Fin 512) : val_main_v50 (F := Ideal) x0 x1 x2 (ix2 r k) = ((w 1 k * before (fun s => D s k * g s k) 1 r.val : ℝ) : EReal) := by
  unfold val_main_v50 val_main_cst_8 val_main_v45 val_main_v44 val_main_v19 val_main_v17 val_main_v16
  pointwise
  exact tap_pad (f := fun s => D s k * g s k) fun _ => (congrArg₂ (fun u v : EReal => u * v) (hW 1 k) (ref_dd hg hD _ k)).trans (mul_real _ _)
theorem ref_pad0 (r : Fin 4098) (k : Fin 512) : val_main_v61 (F := Ideal) x0 x1 x2 (ix2 r k) = ((w 0 k * before (fun s => D s k * g s k) 0 r.val : ℝ) : EReal) := by
  unfold val_main_v61 val_main_cst_12 val_main_v56 val_main_v55 val_main_v11 val_main_v9 val_main_v8
  pointwise
  exact tap_pad0 (f := fun s => D s k * g s k) fun _ => (congrArg₂ (fun u v : EReal => u * v) (hW 0 k) (ref_dd hg hD _ k)).trans (mul_real _ _)

/-- The convolution's adjoint. -/
theorem ref_dq (s : Fin 4096) (k : Fin 512) (r : Fin 4098) (hr : r.val = 2 + s.val) : val_main_v62 (F := Ideal) x0 x1 x2 (ix2 r k) = ((dq g D w s k : ℝ) : EReal) := by
  have e : ∀ J ≤ 2, before (fun s => D s k * g s k) J r.val = ext (fun s => D s k * g s k) (s.val + (2 - J)) := fun J hJ => by
    rw [before, if_pos (by omega)]
    exact congrArg _ (by omega)
  have ew : ∀ (J : ℕ) (hJ : J < 3), ext (fun j : Fin 3 => w j k) J = w ⟨J, hJ⟩ k := fun J hJ => ext_val (fun j : Fin 3 => w j k) ⟨J, hJ⟩
  unfold val_main_v62 val_main_v51
  pointwise
  simp only [ref_pad0 hg hD hW, ref_pad1 hg hD hW, ref_pad2 hg hD hW, add_real]
  refine congrArg ((↑) : ℝ → EReal) ?_
  unfold dq tapsAhead
  rw [← Finset.sum_range_reflect]
  simp only [Finset.sum_range_succ, Finset.range_zero, Finset.sum_empty, zero_add, Nat.reduceSub, Nat.reduceAdd]
  rw [e 2 (by decide), e 1 (by decide), e 0 (by decide)]
  rw [ew 2 (by decide), ew 1 (by decide), ew 0 (by decide)]
  rfl

end

section
include hp hq hW

/-- The convolution. -/
theorem ref_conv (s : Fin 4096) (k : Fin 512) : val_main_v29 (F := Ideal) x0 x2 (ix2 s k) = ((tapsBack (fun j => w j k) (fun s => q s k * p s k) s.val : ℝ) : EReal) := by
  have ew : ∀ (J : ℕ) (hJ : J < 3), ext (fun j : Fin 3 => w j k) J = w ⟨J, hJ⟩ k := fun J hJ => ext_val (fun j : Fin 3 => w j k) ⟨J, hJ⟩
  unfold val_main_v29 val_main_v28 val_main_v27 val_main_v26 val_main_v25 val_main_v24 val_main_v23 val_main_v22 val_main_v21 val_main_v20 val_main_v19 val_main_v18 val_main_v17 val_main_v16 val_main_v15 val_main_v14 val_main_cst_1 val_main_v13 val_main_v12 val_main_v11 val_main_v10 val_main_v9 val_main_v8
  pointwise
  simp only [hW, ref_rows hp hq, mul_real, add_real, zero_add]
  refine congrArg ((↑) : ℝ → EReal) ?_
  simp only [tapsBack, Finset.sum_range_succ, Finset.range_zero, Finset.sum_empty, zero_add, Nat.reduceSub]
  rw [ew 0 (by decide), ew 1 (by decide), ew 2 (by decide)]
  rw [← pad_before (H := 2) _ _ 2 (by decide), ← pad_before (H := 2) _ _ 1 (by decide), ← pad_before (H := 2) _ _ 0 (by decide)]
  rw [show 2 + s.val - 2 = s.val by omega, show 2 + s.val - 1 = 1 + s.val by omega]
  rfl

end

section
include hp hg hq hD hW

/-- The gradient of the convolution's first factor. -/
theorem ref_dh (s : Fin 4096) (k : Fin 512) : val_main_v74 (F := Ideal) x0 x1 x2 (ix2 s k) = ((dhAt g q D w s k : ℝ) : EReal) := by
  unfold val_main_v74 val_main_v71 val_main_v70 val_main_v68 val_main_v67 val_main_v3 val_main_v0
  pointwise
  exact (congrArg₂ (fun u v : EReal => u * v) (hq s k) (ref_dq hg hD hW s k ⟨2 + s.val, by omega⟩ rfl)).trans ((mul_real _ _).trans (congrArg ((↑) : ℝ → EReal) (mul_comm _ _)))

/-- The gradient of the outer gate. -/
theorem ref_db (s : Fin 4096) (k : Fin 512) : val_main_v75 (F := Ideal) x0 x1 x2 (ix2 s k) = ((dbAt p q D w s k : ℝ) : EReal) := by
  unfold val_main_v75 val_main_v72 val_main_v70 val_main_v34 val_main_v32 val_main_v31
  pointwise
  exact (congrArg₂ (fun u v : EReal => u * v) (hD s k) (ref_conv hp hq hW s k)).trans (mul_real _ _)

/-- The gradient of the convolution's second factor. -/
theorem ref_dc (s : Fin 4096) (k : Fin 512) : val_main_v76 (F := Ideal) x0 x1 x2 (ix2 s k) = ((dcAt p g D w s k : ℝ) : EReal) := by
  unfold val_main_v76 val_main_v73 val_main_v70 val_main_v69 val_main_v67 val_main_v1 val_main_v0
  pointwise
  rw [dif_neg (by omega), dif_neg (by omega)]
  have e : ∀ h, (⟨1024 + k.val - 512 - 512, h⟩ : Fin 512) = k := fun h => Fin.ext (by dsimp only; omega)
  have e' : ∀ h, (⟨1024 + (1024 + k.val - 512 - 512), h⟩ : Fin 4096) = hcol k := fun h => Fin.ext (by dsimp only [hcol]; omega)
  exact (congrArg₂ (fun u v : EReal => u * v) ((congrArg (fun j => val_main_v62 (F := Ideal) x0 x1 x2 (ix2 ⟨2 + s.val, by omega⟩ j)) (e _)).trans (ref_dq hg hD hW s k ⟨2 + s.val, by omega⟩ rfl))
    ((congrArg (fun j => x0 (ix2 s j)) (e' _)).trans (hp s k))).trans (mul_real _ _)

end
end

end Cert.Proof.Short
end
-- ==== Proof.ShortClaims.lean ====
/- The gated short convolution's gradients (`_shortconv_bwd`). -/
module

public import proofs.«01_k».proof.Defs
public import proofs.«01_k».proof.Proof.Gen.ShortKernel.Frame
public import proofs.«01_k».proof.Proof.ShortRef
public import proofs.«01_k».proof.Proof.Lib.Finite
public import proofs.«01_k».proof.Proof.Gen.ShortReferenceIdeal.Run
public import proofs.«01_k».proof.Proof.Gen.Pre_short_finite

@[expose] public section

set_option maxRecDepth 16384

noncomputable section

namespace Cert.Proof.ShortClaims

open Idealize.ShloMosaic Idealize.ShloMosaic.TcCoe Idealize.SL.Sem Cert.Step Cert.Proof.Short

/-- The kernel's frame. -/
theorem frame_kernel : Cert.quiescent_ShortKernel := fun m ρ _ => Cert.ShortKernel.Gen.frame m ρ
/-- The idealized kernel's frame. -/
theorem frame_ideal : Cert.quiescent_ShortKernelIdeal := fun m ρ _ => Cert.ShortKernelIdeal.Gen.frame m ρ
/-- The reference's frame: its run leaves the arguments alone, and it has no semaphore. -/
theorem frame_reference : Cert.quiescent_ShortReferenceIdeal := fun m ρ _ =>
  (θ_run Cert.ShortReferenceIdeal.defs _ _).mono
    (fun r h => ⟨fun c => (h c).2.2.2.2, sem_eq_zero_of_no_sems (by decide) r.2⟩)
    (Cert.ShortReferenceIdeal.Value.run (F := Ideal) m ρ)
/-- The ideal pass rewrote nothing. -/
theorem preserves : Cert.preserves_ShortKernel_ShortKernelIdeal := trivial

section
open Cert.ShortKernelIdeal Cert.ShortKernelIdeal.Gen
variable {m : (ℓ : Loc nD τ sig) → Buf (Elt Ideal) ℓ} {c : Dev nD}

/-- What the host hands the kernel: the short convolution's part of the cotangent. -/
theorem host_d (s : Fin 4096) (k : Fin 512) : V m c main_v0 (ix2 s k) = m ((c : Thread nD τ).loc main_arg1) (ix2 s (dcol k)) := by
  entry_read; pointwise; rfl

end

/-- The precondition: the entries of the projection, the cotangent and the taps are real numbers. -/
theorem args_real {a0 a1 a2} (h : Cert.Pre_short_finite.fn (F := Ideal) a0 a1 a2 = fun _ => 1#1) : AllReal a0 ∧ AllReal a1 ∧ AllReal a2 := by
  have e := congrFun h (show Cert.Pre_short_finite.S_.Idx from fun k => k.elim0)
  obtain ⟨e, h2⟩ := and_one e
  obtain ⟨h0, h1⟩ := and_one e
  exact ⟨finite_of_test _ _ inf_f32 _ _ _ _ h0, finite_of_test _ _ inf_bf16 _ _ _ _ h1, finite_of_test _ _ inf_f32 _ _ _ _ h2⟩

set_option maxHeartbeats 2000000 in  -- four results of large arrays
/-- Both programs end with the same four arrays. -/
theorem algebraic : Cert.algebraic_ShortKernelIdeal_ShortReferenceIdeal := by
  intro m ρ m' ρ' hpre hag
  refine ⟨fun c => _, fun c => _, fun c => _, fun c => _, Cert.ShortKernelIdeal.Value.run_blocks (F := Ideal) m ρ, ?_⟩
  refine (θ_run Cert.ShortReferenceIdeal.defs _ _).mono
    (fun _ h c => ?_) (Cert.ShortReferenceIdeal.Value.run (F := Ideal) m' ρ')
  obtain ⟨h0, h1, h2⟩ := args_real (hpre c)
  obtain ⟨z, hz⟩ := lift_real h0
  obtain ⟨d, hd⟩ := lift_real h1
  obtain ⟨w, hw⟩ := lift_real h2
  have H : RealArgs m c (fun s k => z (ix2 s (hcol k))) (fun s k => z (ix2 s (bcol k))) (fun s k => z (ix2 s (ccol k))) (fun s k => d (ix2 s (dcol k))) (fun j k => w (ix2 j k)) :=
    ⟨fun s k => congrFun hz _, fun s k => congrFun hz _, fun s k => congrFun hz _, fun s k => (host_d s k).trans (congrFun hd _), fun j k => congrFun hw _⟩
  obtain ⟨a0, a1, a2⟩ := hag c
  have hp := fun (s : Fin 4096) (k : Fin 512) => (congrFun a0 (ix2 s (hcol k))).trans (congrFun hz _)
  have hg := fun (s : Fin 4096) (k : Fin 512) => (congrFun a0 (ix2 s (bcol k))).trans (congrFun hz _)
  have hq := fun (s : Fin 4096) (k : Fin 512) => (congrFun a0 (ix2 s (ccol k))).trans (congrFun hz _)
  have hD := fun (s : Fin 4096) (k : Fin 512) => (congrFun a1 (ix2 s (dcol k))).trans (congrFun hd _)
  have hW := fun (j : Fin 3) (k : Fin 512) => (congrFun a2 (ix2 j k)).trans (congrFun hw _)
  refine ⟨(h c).1.trans ?_, (h c).2.1.trans ?_, (h c).2.2.1.trans ?_, (h c).2.2.2.1.trans ?_, (h c).2.2.2.2⟩
  · refine ((Cert.ShortReferenceIdeal.Read.val_main_v74_eq m' c).trans ?_).trans (arr5 H).symm
    funext j
    idx_vars j
    exact ref_dh hp hg hq hD hW j0 j1
  · refine ((Cert.ShortReferenceIdeal.Read.val_main_v75_eq m' c).trans ?_).trans (arr6 H).symm
    funext j
    idx_vars j
    exact ref_db hp hg hq hD hW j0 j1
  · refine ((Cert.ShortReferenceIdeal.Read.val_main_v76_eq m' c).trans ?_).trans (arr7 H).symm
    funext j
    idx_vars j
    exact ref_dc hp hg hq hD hW j0 j1
  · refine ((Cert.ShortReferenceIdeal.Read.val_main_v65_eq m' c).trans ?_).trans (arr8 H).symm
    funext j
    idx_vars j
    exact ref_dw hp hg hq hD j0 j1

end Cert.Proof.ShortClaims

end
-- ==== Proof.Lib.Forward.lean ====
module

public import proofs.«01_k».proof.Proof.Lib.Scalar
public import Idealize.ShloMosaic.Lib.Pipeline.ValueKit

/-! # Rows of the forward calls, over extended reals

The forward calls compute each entry from one row of their arguments, by the same sums, quotients and roots as the reference. These are the formulas, at any
arguments, infinite ones included. -/

@[expose] public section

noncomputable section

namespace Cert.Step

open Idealize.ShloMosaic

/-- An entry of the RMS norm of the row `x`, with the gain `g` there. -/
def rmsRow {n : ℕ} (len : EReal) (x : Fin n → EReal) (g : EReal) (k : Fin n) : EReal :=
  x k * Ideal.rsqrt (Ideal.div (∑ j, x j * x j) len + Ideal.ofBits .f32 0x358637BD#32) * g

/-- The mean of a row of length `len`. -/
def meanRow {n : ℕ} (len : EReal) (x : Fin n → EReal) : EReal := Ideal.div (∑ j, x j) len

/-- An entry of the layer norm of the row `x`, with the scale `g` and the shift `b` there. -/
def lnRow {n : ℕ} (len : EReal) (x : Fin n → EReal) (g b : EReal) (k : Fin n) : EReal :=
  (x k - meanRow len x) * Ideal.rsqrt (meanRow len (fun j => (x j - meanRow len x) * (x j - meanRow len x)) + Ideal.ofBits .f32 0x358637BD#32) * g + b

/-- `x · σ(x)`. -/
def silu (x : EReal) : EReal := x * Ideal.logistic x

/-- The kernels' spelling of it. -/
theorem silu_kernel (x : EReal) :
    x * (Ideal.ofBits .f32 0x3F000000#32 * Ideal.tanh (Ideal.ofBits .f32 0x3F000000#32 * x) + Ideal.ofBits .f32 0x3F000000#32) = silu x := by
  rw [lit_half, sigmoid_eq]; rfl

/-- The host's spelling of it. -/
theorem silu_host (x : EReal) : x * Ideal.div 1 (1 + Ideal.exp (-x)) = silu x := rfl

end Cert.Step

end
-- ==== Proof.RmsFClaims.lean ====
/- The RMS norm (`_rms_fwd`): each row divided by its root mean square, times the gain. -/
module

public import proofs.«01_k».proof.Defs
public import proofs.«01_k».proof.Proof.Lib.Forward
public import proofs.«01_k».proof.Proof.Gen.RmsFKernel.Frame
public import proofs.«01_k».proof.Proof.Gen.RmsFKernelIdeal.Value
public import proofs.«01_k».proof.Proof.Gen.RmsFReferenceIdeal.Run
public import proofs.«01_k».proof.Proof.Gen.RmsFReferenceIdeal.Read

@[expose] public section

set_option maxRecDepth 16384

noncomputable section

namespace Cert.Proof.RmsF

section
open Idealize.ShloMosaic Idealize.ShloMosaic.TcCoe Idealize.SL.Sem Cert.RmsFKernelIdeal Cert.RmsFKernelIdeal.Gen Cert.Step

variable {m : (ℓ : Loc nD τ sig) → Buf (Elt Ideal) ℓ} {c : Dev nD}

/-- What one block's store holds. -/
theorem pay (x : Vec Ideal S512x2048 .f32) (g : Vec Ideal S1x2048 .f32) (r : Fin 512) (k : Fin 2048) :
    k0_pay1 (F := Ideal) x g (ix2 r k) = rmsRow (Ideal.ofBits .f32 0x45000000#32) (fun j => x (ix2 r j)) (g (ix2 0 k)) k := by
  unfold k0_pay1
  pointwise
  rfl

/-- Row `r` of the block at point `t`. -/
def rowAt (t : Fin cfg0.N) (r : Fin 512) : Fin 4096 := ⟨t.val * 512 + r.val, by have := lt_of_lt_of_eq t.isLt N_0; omega⟩

theorem idx : ∀ t : Fin cfg0.N, win0_0.index t = ![t.val, 0] ∧ win0_1.index t = ![0, 0] ∧ win0_2.index t = ![t.val, 0] := (by decide +kernel : ∀ t : Fin grid0.N, _)

theorem read0 (t : Fin cfg0.N) (r : Fin 512) (k : Fin 2048) : iblk m c 0 t (ix2 r k) = V m c main_arg0 (ix2 (rowAt t r) k) := by
  blk_point [iblk, rowAt, idx t]
theorem read1 (t : Fin cfg0.N) (k : Fin 2048) : iblk m c 1 t (ix2 0 k) = V m c main_v0 (ix2 0 k) := by
  blk_point [iblk, idx t]
/-- The gain is passed as one row. -/
theorem host_g (k : Fin 2048) : V m c main_v0 (ix2 0 k) = m ((c : Thread nD τ).loc main_arg1) (ix1 k) := by
  entry_read; pointwise

/-- The kernel's result array. -/
theorem arr2 : (dats m 0 c).arrAt 2 cfg0.N = fun y : S4096x2048.Idx =>
    rmsRow (Ideal.ofBits .f32 0x45000000#32) (fun j => V m c main_arg0 (ix2 (y 0) j)) (V m c main_v0 (ix2 0 (y 1))) (y 1) := by
  refine (dats m 0 c).arrAt_eq_of_covers 2 _ (by decide +kernel) fun t hf y => ?_
  blk_simp
  have e : ((View.whole main_v1).slice (win0_2.rect t)).emb y = ix2 (rowAt t (y 0)) (y 1) := by
    blk_ext [rowAt, idx t]
  rw [after0_2, e]
  frame_out
  idx_vars y
  refine (pay _ _ y0 y1).trans ?_
  simp only [read0, read1]

end

section
open Idealize.ShloMosaic Idealize.ShloMosaic.TcCoe Idealize.SL.Sem Cert.Step Cert.RmsFReferenceIdeal Cert.RmsFReferenceIdeal.Read

/-- The reference's result. -/
theorem ref (x0 : (⟨S4096x2048, .f32⟩ : BufTy).Contents (Elt Ideal)) (x1 : (⟨S2048, .f32⟩ : BufTy).Contents (Elt Ideal)) (i : Fin 4096) (k : Fin 2048) :
    val_main_v13 (F := Ideal) x0 x1 (ix2 i k) = rmsRow (Ideal.ofBits .f32 0x45000000#32) (fun j => x0 (ix2 i j)) (x1 (ix1 k)) k := by
  unfold val_main_v13 val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

end
end Cert.Proof.RmsF

namespace Cert.Proof.RmsFClaims

open Idealize.ShloMosaic Idealize.ShloMosaic.TcCoe Idealize.SL.Sem Cert.Step Cert.Proof.RmsF

/-- The kernel's frame. -/
theorem frame_kernel : Cert.quiescent_RmsFKernel := fun m ρ _ => Cert.RmsFKernel.Gen.frame m ρ
/-- The idealized kernel's frame. -/
theorem frame_ideal : Cert.quiescent_RmsFKernelIdeal := fun m ρ _ => Cert.RmsFKernelIdeal.Gen.frame m ρ
/-- The reference's frame: its run leaves the arguments alone, and it has no semaphore. -/
theorem frame_reference : Cert.quiescent_RmsFReferenceIdeal := fun m ρ _ =>
  (θ_run Cert.RmsFReferenceIdeal.defs _ _).mono
    (fun r h => ⟨fun c => (h c).2, sem_eq_zero_of_no_sems (by decide) r.2⟩)
    (Cert.RmsFReferenceIdeal.Value.run (F := Ideal) m ρ)
/-- The ideal pass rewrote nothing. -/
theorem preserves : Cert.preserves_RmsFKernel_RmsFKernelIdeal := trivial

/-- Both programs end with the same array. -/
theorem algebraic : Cert.algebraic_RmsFKernelIdeal_RmsFReferenceIdeal := by
  intro m ρ m' ρ' _ hag
  refine ⟨fun c => _, Cert.RmsFKernelIdeal.Value.run_blocks (F := Ideal) m ρ, ?_⟩
  refine (θ_run Cert.RmsFReferenceIdeal.defs _ _).mono
    (fun _ h c => ⟨(h c).1.trans ?_, (h c).2⟩) (Cert.RmsFReferenceIdeal.Value.run (F := Ideal) m' ρ')
  obtain ⟨a0, a1⟩ := hag c
  refine ((Cert.RmsFReferenceIdeal.Read.val_main_v13_eq _ _).trans ?_).trans arr2.symm
  rw [a0, a1]
  funext j
  idx_vars j
  refine (ref _ _ j0 j1).trans (congrArg (fun g => rmsRow _ _ g _) ?_)
  exact (host_g _).symm

end Cert.Proof.RmsFClaims

end
-- ==== Proof.CfLnFClaims.lean ====
/- The conformer mixer's layer norm and SiLU (`_conformer_ln_fwd`): each row of the convolution's output normalized, scaled, shifted and gated by itself. -/
module

public import proofs.«01_k».proof.Defs
public import proofs.«01_k».proof.Proof.Lib.Forward
public import proofs.«01_k».proof.Proof.Gen.CfLnFKernel.Frame
public import proofs.«01_k».proof.Proof.Gen.CfLnFKernelIdeal.Value
public import proofs.«01_k».proof.Proof.Gen.CfLnFReferenceIdeal.Run
public import proofs.«01_k».proof.Proof.Gen.CfLnFReferenceIdeal.Read

@[expose] public section

set_option maxRecDepth 16384

noncomputable section

namespace Cert.Proof.CfLnF

section
open Idealize.ShloMosaic Idealize.ShloMosaic.TcCoe Idealize.SL.Sem Cert.CfLnFKernelIdeal Cert.CfLnFKernelIdeal.Gen Cert.Step

variable {m : (ℓ : Loc nD τ sig) → Buf (Elt Ideal) ℓ} {c : Dev nD}

/-- What one block's store holds. -/
theorem pay (x : Vec Ideal S512x512 .f32) (g b : Vec Ideal S1x512 .f32) (r k : Fin 512) :
    k0_pay1 (F := Ideal) x g b (ix2 r k) = silu (lnRow (Ideal.ofBits .f32 0x44000000#32) (fun j => x (ix2 r j)) (g (ix2 0 k)) (b (ix2 0 k)) k) := by
  unfold k0_pay1
  pointwise
  exact silu_kernel _

/-- Row `r` of the block at point `t`. -/
def rowAt (t : Fin cfg0.N) (r : Fin 512) : Fin 4096 := ⟨t.val * 512 + r.val, by have := lt_of_lt_of_eq t.isLt N_0; omega⟩

theorem idx : ∀ t : Fin cfg0.N, win0_0.index t = ![t.val, 0] ∧ win0_1.index t = ![0, 0] ∧ win0_2.index t = ![0, 0] ∧ win0_3.index t = ![t.val, 0] := (by decide +kernel : ∀ t : Fin grid0.N, _)

theorem read0 (t : Fin cfg0.N) (r k : Fin 512) : iblk m c 0 t (ix2 r k) = V m c main_v232 (ix2 (rowAt t r) k) := by
  blk_point [iblk, rowAt, idx t]
theorem read1 (t : Fin cfg0.N) (k : Fin 512) : iblk m c 1 t (ix2 0 k) = V m c main_v233 (ix2 0 k) := by
  blk_point [iblk, idx t]
theorem read2 (t : Fin cfg0.N) (k : Fin 512) : iblk m c 2 t (ix2 0 k) = V m c main_v234 (ix2 0 k) := by
  blk_point [iblk, idx t]
/-- The scale and the shift are passed as one row each. -/
theorem host_g (k : Fin 512) : V m c main_v233 (ix2 0 k) = m ((c : Thread nD τ).loc main_arg3) (ix1 k) := by
  entry_read; pointwise
theorem host_b (k : Fin 512) : V m c main_v234 (ix2 0 k) = m ((c : Thread nD τ).loc main_arg4) (ix1 k) := by
  entry_read; pointwise

set_option maxHeartbeats 4000000 in  -- the convolution's 31 taps
/-- The convolution's rows the kernel program prepares on the host are the reference's. -/
theorem host_conv : V m c main_v232 = Cert.CfLnFReferenceIdeal.Read.val_main_v232 (F := Ideal) (m ((c : Thread nD τ).loc main_arg0))
    (m ((c : Thread nD τ).loc main_arg1)) (m ((c : Thread nD τ).loc main_arg2)) := by
  rfl

/-- The kernel's result array. -/
theorem arr3 : (dats m 0 c).arrAt 3 cfg0.N = fun y : S4096x512.Idx =>
    silu (lnRow (Ideal.ofBits .f32 0x44000000#32) (fun j => V m c main_v232 (ix2 (y 0) j)) (V m c main_v233 (ix2 0 (y 1))) (V m c main_v234 (ix2 0 (y 1))) (y 1)) := by
  refine (dats m 0 c).arrAt_eq_of_covers 3 _ (by decide +kernel) fun t hf y => ?_
  blk_simp
  have e : ((View.whole main_v235).slice (win0_3.rect t)).emb y = ix2 (rowAt t (y 0)) (y 1) := by
    blk_ext [rowAt, idx t]
  rw [after0_3, e]
  frame_out
  idx_vars y
  refine (pay _ _ _ y0 y1).trans ?_
  simp only [read0, read1, read2]

end

section
open Idealize.ShloMosaic Idealize.ShloMosaic.TcCoe Idealize.SL.Sem Cert.Step Cert.CfLnFReferenceIdeal Cert.CfLnFReferenceIdeal.Read

/-- The reference's result, over its convolution. -/
theorem ref (x0 : (⟨S4096x4096, .f32⟩ : BufTy).Contents (Elt Ideal)) (x1 : (⟨S31x512, .f32⟩ : BufTy).Contents (Elt Ideal))
    (x2 x3 x4 : (⟨S512, .f32⟩ : BufTy).Contents (Elt Ideal)) (i : Fin 4096) (k : Fin 512) :
    val_main_v256 (F := Ideal) x0 x1 x2 x3 x4 (ix2 i k)
      = silu (lnRow (Ideal.ofBits .f32 0x44000000#32) (fun j => val_main_v232 (F := Ideal) x0 x1 x2 (ix2 i j)) (x3 (ix1 k)) (x4 (ix1 k)) k) := by
  unfold val_main_v256 val_main_v255 val_main_call0_v5 val_main_call0_v4 val_main_call0_cst_0 val_main_call0_v3 val_main_call0_v2 val_main_call0_cst val_main_call0_v1 val_main_call0_v0 val_main_v254 val_main_v253 val_main_v252 val_main_v251 val_main_v250 val_main_v249 val_main_v248 val_main_v247 val_main_v246 val_main_v245 val_main_v244 val_main_cst_7 val_main_v243 val_main_v242 val_main_cst_6 val_main_v241 val_main_v240 val_main_cst_5 val_main_v239 val_main_v238 val_main_v237 val_main_v236 val_main_v235 val_main_cst_4 val_main_v234 val_main_v233 val_main_cst_3
  generalize val_main_v232 (F := Ideal) x0 x1 x2 = X
  pointwise
  exact silu_host _

end
end Cert.Proof.CfLnF

namespace Cert.Proof.CfLnFClaims

open Idealize.ShloMosaic Idealize.ShloMosaic.TcCoe Idealize.SL.Sem Cert.Step Cert.Proof.CfLnF

/-- The kernel's frame. -/
theorem frame_kernel : Cert.quiescent_CfLnFKernel := fun m ρ _ => Cert.CfLnFKernel.Gen.frame m ρ
/-- The idealized kernel's frame. -/
theorem frame_ideal : Cert.quiescent_CfLnFKernelIdeal := fun m ρ _ => Cert.CfLnFKernelIdeal.Gen.frame m ρ
/-- The reference's frame: its run leaves the arguments alone, and it has no semaphore. -/
theorem frame_reference : Cert.quiescent_CfLnFReferenceIdeal := fun m ρ _ =>
  (θ_run Cert.CfLnFReferenceIdeal.defs _ _).mono
    (fun r h => ⟨fun c => (h c).2, sem_eq_zero_of_no_sems (by decide) r.2⟩)
    (Cert.CfLnFReferenceIdeal.Value.run (F := Ideal) m ρ)
/-- The ideal pass rewrote nothing. -/
theorem preserves : Cert.preserves_CfLnFKernel_CfLnFKernelIdeal := trivial

/-- Both programs end with the same array. -/
theorem algebraic : Cert.algebraic_CfLnFKernelIdeal_CfLnFReferenceIdeal := by
  intro m ρ m' ρ' _ hag
  refine ⟨fun c => _, Cert.CfLnFKernelIdeal.Value.run_blocks (F := Ideal) m ρ, ?_⟩
  refine (θ_run Cert.CfLnFReferenceIdeal.defs _ _).mono
    (fun _ h c => ⟨(h c).1.trans ?_, (h c).2⟩) (Cert.CfLnFReferenceIdeal.Value.run (F := Ideal) m' ρ')
  obtain ⟨a0, a1, a2, a3, a4⟩ := hag c
  refine ((Cert.CfLnFReferenceIdeal.Read.val_main_v256_eq (StableHlo.launchContents m' c)).trans ?_).trans arr3.symm
  dsimp only [StableHlo.launchContents]
  rw [a0, a1, a2, a3, a4]
  funext j
  idx_vars j
  refine (ref _ _ _ _ _ j0 j1).trans ?_
  show _ = silu (lnRow _ (fun j => CfLnFKernelIdeal.Gen.V m c CfLnFKernelIdeal.main_v232 (ix2 j0 j)) (CfLnFKernelIdeal.Gen.V m c CfLnFKernelIdeal.main_v233 (ix2 0 j1)) (CfLnFKernelIdeal.Gen.V m c CfLnFKernelIdeal.main_v234 (ix2 0 j1)) j1)
  rw [host_conv, host_g, host_b]

end Cert.Proof.CfLnFClaims

end
-- ==== Proof.SguFRows.lean ====
/- The spatial gating unit (`_sgu_fwd`): what its kernel leaves in its result array, at any operand arrays. -/
module

public import proofs.«01_k».proof.Proof.Lib.Forward
public import proofs.«01_k».proof.Proof.Lib.Gelu
public import proofs.«01_k».proof.Proof.Lib.Bands
public import proofs.«01_k».proof.Proof.Gen.SguFKernelIdeal.Value

@[expose] public section

set_option maxRecDepth 16384

noncomputable section

namespace Cert.Proof.SguF

open Idealize.ShloMosaic Idealize.ShloMosaic.TcCoe Idealize.SL.Sem Idealize.ShloMosaic.WordCmp Cert.SguFKernelIdeal Cert.SguFKernelIdeal.Gen Cert.Step

theorem named_c : (Named.named κ "gelu_c" 0x3D372713#32 : Ideal .f32) = ((8943 / 200000 : ℝ) : EReal) :=
  IdealRules.named_const.ideal_named_scalar _ _ _ _ rfl

/-- gelu at any extended real, in the kernel's order. -/
def geluE (x : EReal) : EReal :=
  Ideal.ofBits .f32 0x3F000000#32 * x * (1
    + Ideal.tanh (Ideal.ofBits .f32 0x3F4C422A#32 * (x + ((8943 / 200000 : ℝ) : EReal) * x * x * x)))

/-- The reference's order. -/
theorem gelu_order (x : EReal) : x * (Ideal.ofBits .f32 0x3F000000#32 * (1
    + Ideal.tanh (Ideal.ofBits .f32 0x3F4C422A#32 * (x + ((8943 / 200000 : ℝ) : EReal) * (x * x * x))))) = geluE x := by
  unfold geluE
  rw [show ((8943 / 200000 : ℝ) : EReal) * (x * x * x) = ((8943 / 200000 : ℝ) : EReal) * x * x * x by simp only [mul_assoc], ← mul_assoc, mul_comm x]

/-- One entry of a chunk: the gating half's gelu times the causal mix of the other half's normalised gelu, plus a bias. -/
def unit (zu zv w : Fin 128 → Fin 128 → EReal) (g b c : Fin 128 → EReal) (t d : Fin 128) : EReal :=
  geluE (zu t d) * ((∑ s, (if s ≤ t then w t s else 0) * lnRow (Ideal.ofBits .f32 0x43000000#32) (fun j => geluE (zv s j)) (g d) (b d) d) + c t)

/-- The mixing matrix's lower triangle. -/
theorem mask (w : Vec Ideal S1x128x128 .f32) (t s : Fin 128) : k0_pay2 (F := Ideal) w (ix2 t s) = if s ≤ t then w (ix3 0 t s) else 0 := by
  unfold k0_pay2
  pointwise
  rw [cmpi_sge_ofNat (by omega) (by omega), select_decide]
  simp only [Fin.le_def]

/-- One chunk as the kernel computes it. -/
def chunk (w : Vec Ideal S1x128x128 .f32) (u v : Vec Ideal S128x128 .f32) (g b : Vec Ideal S1x1x128 .f32) (c : Vec Ideal S1x128x1 .f32) : Vec Ideal S128x128 .bf16 :=
  k0_pay6 (F := Ideal) (k0_pay2 (F := Ideal) w) (k0_pay3 (F := Ideal) u) (k0_pay4 (F := Ideal) v) (k0_pay5 (F := Ideal) v) g b c

theorem chunk_row (w : Vec Ideal S1x128x128 .f32) (u v : Vec Ideal S128x128 .f32) (g b : Vec Ideal S1x1x128 .f32) (c : Vec Ideal S1x128x1 .f32) (t d : Fin 128) :
    chunk w u v g b c (ix2 t d) = unit (fun r d => u (ix2 r d)) (fun r d => v (ix2 r d)) (fun t s => w (ix3 0 t s)) (fun d => g (ix3 0 0 d)) (fun d => b (ix3 0 0 d))
      (fun t => c (ix3 0 t 0)) t d := by
  unfold chunk k0_pay6 k0_pay5 k0_pay4 k0_pay3
  pointwise
  simp only [mask, named_c]
  rfl

variable {m : (ℓ : Loc nD τ sig) → Buf (Elt Ideal) ℓ} {c : Dev nD}

/-- The head of a grid point, and the chunk its `k`th step handles. -/
def headAt (t : Fin cfg0.N) : Fin 4 := ⟨t.val / 4, by have := lt_of_lt_of_eq t.isLt N_0; omega⟩
def chunkAt (t : Fin cfg0.N) (k : Fin 8) : Fin 32 := ⟨t.val % 4 * 8 + k.val, by omega⟩
/-- Row `r` of chunk `n`; column `d` of head `h`, in the result, in the gating half and in the mixed half. -/
def rowOf (n : Fin 32) (r : Fin 128) : Fin 4096 := ⟨n.val * 128 + r.val, by omega⟩
def colO (h : Fin 4) (d : Fin 128) : Fin 512 := ⟨h.val * 128 + d.val, by omega⟩
def colU (h : Fin 4) (d : Fin 128) : Fin 4096 := ⟨h.val * 128 + d.val, by omega⟩
def colV (h : Fin 4) (d : Fin 128) : Fin 4096 := ⟨512 + h.val * 128 + d.val, by omega⟩
/-- Which chunk, and which row of it, a row of a block is; the same for the whole array, and its columns by head. -/
def chI (i : Fin 1024) : Fin 8 := ⟨i.val / 128, by omega⟩
def rwI (i : Fin 1024) : Fin 128 := ⟨i.val % 128, by omega⟩
def chR (i : Fin 4096) : Fin 32 := ⟨i.val / 128, by omega⟩
def rwR (i : Fin 4096) : Fin 128 := ⟨i.val % 128, by omega⟩
def hdR (j : Fin 512) : Fin 4 := ⟨j.val / 128, by omega⟩
def clR (j : Fin 512) : Fin 128 := ⟨j.val % 128, by omega⟩

theorem inb (k : Fin 8) : ∀ a, ![128 * k.val, 0] a + S128x128.size a ≤ S1024x128.size a := by
  decide +revert

/-- The `k`th tile of 128 rows of a block. -/
def tile (B : Vec Ideal S1024x128 .f32) (k : Fin 8) : Vec Ideal S128x128 .f32 :=
  View.ld B (Rect.unit (s := S1024x128) ![128 * k.val, 0] S128x128.size (inb k))

theorem tile_apply (B : Vec Ideal S1024x128 .f32) (k : Fin 8) (r d : Fin 128) :
    tile B k (ix2 r d) = B (ix2 ⟨128 * k.val + r.val, by omega⟩ d) := by
  unfold tile
  rw [View.ld_apply]
  refine congrArg B (funext fun a => ?_)
  fin_cases a
  · exact Fin.ext (show 128 * k.val + 1 * r.val = 128 * k.val + r.val by omega)
  · exact Fin.ext (show 0 + 1 * d.val = d.val by omega)

theorem idx : ∀ t : Fin cfg0.N, win0_0.index t = ![t.val % 4, t.val / 4] ∧ win0_1.index t = ![t.val % 4, 4 + t.val / 4]
    ∧ win0_2.index t = ![t.val / 4, 0, 0] ∧ win0_3.index t = ![t.val / 4, 0, 0] ∧ win0_4.index t = ![t.val / 4, 0, 0]
    ∧ win0_5.index t = ![t.val / 4, 0, 0] ∧ win0_6.index t = ![t.val % 4, t.val / 4] :=
  (by decide +kernel : ∀ t : Fin grid0.N, _)

theorem read0 (t : Fin cfg0.N) (k : Fin 8) (r d : Fin 128) :
    tile (iblk m c 0 t) k (ix2 r d) = V m c main_arg0 (ix2 (rowOf (chunkAt t k) r) (colU (headAt t) d)) := by
  rw [tile_apply]; blk_point [iblk, rowOf, chunkAt, headAt, colU, idx t]
theorem read1 (t : Fin cfg0.N) (k : Fin 8) (r d : Fin 128) :
    tile (iblk m c 1 t) k (ix2 r d) = V m c main_arg0 (ix2 (rowOf (chunkAt t k) r) (colV (headAt t) d)) := by
  rw [tile_apply]; blk_point [iblk, rowOf, chunkAt, headAt, colV, idx t]
theorem read2 (t : Fin cfg0.N) (d : Fin 128) : iblk m c 2 t (ix3 0 0 d) = V m c main_v0 (ix3 (headAt t) 0 d) := by
  blk_point [iblk, headAt, idx t]
theorem read3 (t : Fin cfg0.N) (d : Fin 128) : iblk m c 3 t (ix3 0 0 d) = V m c main_v1 (ix3 (headAt t) 0 d) := by
  blk_point [iblk, headAt, idx t]
theorem read4 (t : Fin cfg0.N) (r s : Fin 128) : iblk m c 4 t (ix3 0 r s) = V m c main_arg3 (ix3 (headAt t) r s) := by
  blk_point [iblk, headAt, idx t]
theorem read5 (t : Fin cfg0.N) (r : Fin 128) : iblk m c 5 t (ix3 0 r 0) = V m c main_v2 (ix3 (headAt t) r 0) := by
  blk_point [iblk, headAt, idx t]

/-- Row `r`, column `d` of chunk `n`, head `h` of the result, from whole arrays. -/
def full (Z : Fin 4096 → Fin 4096 → EReal) (G B : Fin 4 → Fin 128 → EReal) (W : Fin 4 → Fin 128 → Fin 128 → EReal) (C : Fin 4 → Fin 128 → EReal)
    (h : Fin 4) (n : Fin 32) (r d : Fin 128) : EReal :=
  unit (fun r d => Z (rowOf n r) (colU h d)) (fun r d => Z (rowOf n r) (colV h d)) (W h) (G h) (B h) (C h) r d

/-- The kernel's operands as whole arrays. -/
def fullM (m : (ℓ : Loc nD τ sig) → Buf (Elt Ideal) ℓ) (c : Dev nD) : Fin 4 → Fin 32 → Fin 128 → Fin 128 → EReal :=
  full (fun i j => V m c main_arg0 (ix2 i j)) (fun h d => V m c main_v0 (ix3 h 0 d)) (fun h d => V m c main_v1 (ix3 h 0 d))
    (fun h t s => V m c main_arg3 (ix3 h t s)) (fun h t => V m c main_v2 (ix3 h t 0))

/-- One tile of the result, read in its block. -/
theorem pt (t : Fin cfg0.N) (k : Fin 8) (x : S128x128.Idx) (y : S1024x128.Idx) (h0 : (y 0).val = 128 * k.val + (x 0).val) (h1 : (y 1).val = (x 1).val) :
    chunk (iblk m c 4 t) (tile (iblk m c 0 t) k) (tile (iblk m c 1 t) k) (iblk m c 2 t) (iblk m c 3 t) (iblk m c 5 t) x
      = fullM m c (headAt t) (chunkAt t (chI (y 0))) (rwI (y 0)) (y 1) := by
  idx_vars x
  idx_vars y
  replace h0 : y0.val = 128 * k.val + x0.val := h0
  obtain rfl : y1 = x1 := Fin.ext h1
  obtain rfl : k = chI y0 := Fin.ext (by simp only [chI]; omega)
  obtain rfl : x0 = rwI y0 := Fin.ext (by simp only [rwI]; omega)
  refine (chunk_row _ _ _ _ _ _ _ _).trans ?_
  simp only [read0, read1, read2, read3, read4, read5]
  rfl

/-- What a point leaves in the result's block. -/
theorem out (t : Fin cfg0.N) (y : S1024x128.Idx) :
    out0_6 (F := Ideal) (iblk m c 0 t) (iblk m c 1 t) (iblk m c 2 t) (iblk m c 3 t) (iblk m c 4 t) (iblk m c 5 t) y
      = fullM m c (headAt t) (chunkAt t (chI (y 0))) (rwI (y 0)) (y 1) := by
  frame_out [k0_pay36]
  canon_tiles x h <;> [exact pt t 7 x y h0 h1; exact pt t 6 x y h0 h1; exact pt t 5 x y h0 h1; exact pt t 4 x y h0 h1; exact pt t 3 x y h0 h1; exact pt t 2 x y h0 h1; exact pt t 1 x y h0 h1; exact pt t 0 x y (h0.trans (Nat.zero_add _).symm) h1]

/-- Where a block's entry lies in the array. -/
theorem place (f : Fin 4 → Fin 32 → Fin 128 → Fin 128 → EReal) (t : Fin cfg0.N) (i : Fin 1024) (j : Fin 128) (I : Fin 4096) (J : Fin 512)
    (hI : I.val = t.val % 4 * 1024 + i.val) (hJ : J.val = t.val / 4 * 128 + j.val) :
    f (headAt t) (chunkAt t (chI i)) (rwI i) j = f (hdR J) (chR I) (rwR I) (clR J) := by
  have e1 : hdR J = headAt t := Fin.ext (by simp only [hdR, headAt]; omega)
  have e2 : chR I = chunkAt t (chI i) := Fin.ext (by simp only [chR, chunkAt, chI]; omega)
  have e3 : rwR I = rwI i := Fin.ext (by simp only [rwR, rwI]; omega)
  have e4 : clR J = j := Fin.ext (by simp only [clR]; omega)
  rw [e1, e2, e3, e4]

def rowAt (t : Fin cfg0.N) (i : Fin 1024) : Fin 4096 := ⟨t.val % 4 * 1024 + i.val, by omega⟩
def colAt (t : Fin cfg0.N) (j : Fin 128) : Fin 512 := ⟨t.val / 4 * 128 + j.val, by have := lt_of_lt_of_eq t.isLt N_0; omega⟩

/-- The result array. -/
theorem arr6 : (dats m 0 c).arrAt 6 cfg0.N = fun y : S4096x512.Idx => fullM m c (hdR (y 1)) (chR (y 0)) (rwR (y 0)) (clR (y 1)) := by
  refine (dats m 0 c).arrAt_eq_of_covers 6 _ (by decide +kernel) fun t hf y => ?_
  blk_simp
  have e : ((View.whole main_v3).slice (win0_6.rect t)).emb y = ix2 (rowAt t (y 0)) (colAt t (y 1)) := by
    blk_ext [rowAt, colAt, idx t]
  rw [after0_6, e, out]
  exact place _ t _ _ _ _ rfl rfl

end Cert.Proof.SguF

end
-- ==== Proof.SguFClaims.lean ====
/- The spatial gating unit (`_sgu_fwd`): the reference's entries and the pair's five claims. -/
module

public import proofs.«01_k».proof.Defs
public import proofs.«01_k».proof.Proof.SguFRows
public import proofs.«01_k».proof.Proof.Gen.SguFKernel.Frame
public import proofs.«01_k».proof.Proof.Gen.SguFReferenceIdeal.Run
public import proofs.«01_k».proof.Proof.Gen.SguFReferenceIdeal.Read

@[expose] public section

set_option maxRecDepth 16384

noncomputable section

namespace Cert.Proof.SguF

section
open Idealize.ShloMosaic Idealize.ShloMosaic.TcCoe Idealize.SL.Sem Cert.SguFKernelIdeal Cert.SguFKernelIdeal.Gen Cert.Step

variable {m : (ℓ : Loc nD τ sig) → Buf (Elt Ideal) ℓ} {c : Dev nD}

/-- The vectors per head are passed with one more axis. -/
theorem host_g (h : Fin 4) (k : Fin 128) : V m c main_v0 (ix3 h 0 k) = m ((c : Thread nD τ).loc main_arg1) (ix2 h k) := by
  entry_read; pointwise
theorem host_b (h : Fin 4) (k : Fin 128) : V m c main_v1 (ix3 h 0 k) = m ((c : Thread nD τ).loc main_arg2) (ix2 h k) := by
  entry_read; pointwise
theorem host_c (h : Fin 4) (t : Fin 128) : V m c main_v2 (ix3 h t 0) = m ((c : Thread nD τ).loc main_arg4) (ix2 h t) := by
  entry_read; pointwise

/-- The kernel's entries from the program's arguments. -/
theorem fullM_eq : fullM m c = full (fun i j => m ((c : Thread nD τ).loc main_arg0) (ix2 i j)) (fun h d => m ((c : Thread nD τ).loc main_arg1) (ix2 h d))
    (fun h d => m ((c : Thread nD τ).loc main_arg2) (ix2 h d)) (fun h t s => m ((c : Thread nD τ).loc main_arg3) (ix3 h t s)) (fun h t => m ((c : Thread nD τ).loc main_arg4) (ix2 h t)) := by
  unfold fullM
  refine congr (congr (congr (congr (congrArg full ?_) ?_) ?_) ?_) ?_
  · rfl
  · exact funext fun h => funext fun d => host_g h d
  · exact funext fun h => funext fun d => host_b h d
  · rfl
  · exact funext fun h => funext fun t => host_c h t

end

section
open Idealize.ShloMosaic Idealize.ShloMosaic.WordCmp Cert.SguFReferenceIdeal Cert.SguFReferenceIdeal.Read Cert.Step

variable {x0 : (⟨S4096x4096, .f32⟩ : BufTy).Contents (Elt Ideal)} {x1 x2 : (⟨S4x128, .f32⟩ : BufTy).Contents (Elt Ideal)}
  {x3 : (⟨S4x128x128, .f32⟩ : BufTy).Contents (Elt Ideal)} {x4 : (⟨S4x128, .f32⟩ : BufTy).Contents (Elt Ideal)}

def wide (j : Fin 1024) : Fin 4096 := ⟨j.val, by omega⟩

/-- gelu of the two halves. -/
theorem ref_gelu (i : Fin 4096) (j : Fin 1024) : val_main_v14 (F := Ideal) x0 (ix2 i j) = geluE (x0 (ix2 i (wide j))) := by
  unfold val_main_v14 val_main_v13 val_main_v12 val_main_cst_3 val_main_v11 val_main_v10 val_main_cst_2 val_main_v9 val_main_v8 val_main_v7 val_main_cst_1 val_main_v6 val_main_v5 val_main_v4 val_main_v3 val_main_v2 val_main_v1 val_main_cst_0 val_main_cst val_main_v0
  pointwise
  rw [lit_8943, lit_200000, quotient_c]
  exact gelu_order _

theorem ref_heads (i : Fin 4096) (h : Fin 4) (d : Fin 128) : val_main_v17 (F := Ideal) x0 (ix3 i h d) = geluE (x0 (ix2 i (colV h d))) := by
  unfold val_main_v17 val_main_v16
  pointwise
  refine (ref_gelu _ _).trans (congrArg (fun j => geluE (x0 (ix2 i j))) (Fin.ext ?_))
  simp only [wide, colV]; omega

/-- The layer norm of each head. -/
theorem ref_lin (i : Fin 4096) (h : Fin 4) (d : Fin 128) :
    val_main_v39 (F := Ideal) x0 x1 x2 (ix3 i h d) = lnRow (Ideal.ofBits .f32 0x43000000#32) (fun d => geluE (x0 (ix2 i (colV h d)))) (x1 (ix2 h d)) (x2 (ix2 h d)) d := by
  unfold val_main_v39 val_main_v38 val_main_v37 val_main_v36 val_main_v35 val_main_v34 val_main_v33 val_main_v32 val_main_v31 val_main_v30 val_main_v29 val_main_cst_8 val_main_v28 val_main_v27 val_main_cst_7 val_main_v26 val_main_v25 val_main_cst_6 val_main_v24 val_main_v23 val_main_v22 val_main_v21 val_main_v20 val_main_cst_5 val_main_v19 val_main_v18 val_main_cst_4
  pointwise
  simp only [ref_heads]
  rfl

theorem ref_vln (n : Fin 32) (r : Fin 128) (h : Fin 4) (d : Fin 128) : val_main_v40 (F := Ideal) x0 x1 x2 (ix4 n r h d)
    = lnRow (Ideal.ofBits .f32 0x43000000#32) (fun d => geluE (x0 (ix2 (rowOf n r) (colV h d)))) (x1 (ix2 h d)) (x2 (ix2 h d)) d := by
  unfold val_main_v40
  pointwise
  exact ref_lin _ _ _

/-- The mixing matrix's lower triangle. -/
theorem ref_tril (h : Fin 4) (t s : Fin 128) : val_main_v44 (F := Ideal) x3 (ix3 h t s) = if s ≤ t then x3 (ix3 h t s) else 0 := by
  unfold val_main_v44 val_main_call1_v1 val_main_cst_9 val_main_call1_v0 val_main_v43 val_main_v42 val_main_call0_v5 val_main_call0_c_0 val_main_v41 val_main_c val_main_call0_v4 val_main_call0_v3 val_main_call0_v2 val_main_call0_v1 val_main_call0_c val_main_call0_v0
  pointwise
  rw [show IntOp.addi (BitVec.ofNat 32 t.val) 0#32 = BitVec.ofNat 32 t.val from BitVec.add_zero _, cmpi_sge_ofNat (by omega) (by omega), select_decide]
  by_cases q : s.val ≤ t.val
  · rw [if_pos q, if_pos (Fin.le_def.mpr q), select_one]
  · rw [if_neg q, if_neg (fun e => q (Fin.le_def.mp e)), select_zero]

/-- One entry by chunk and head. -/
theorem ref_unit (n : Fin 32) (r : Fin 128) (h : Fin 4) (d : Fin 128) : val_main_v53 (F := Ideal) x0 x1 x2 x3 x4 (ix4 n r h d)
    = full (fun i j => x0 (ix2 i j)) (fun h d => x1 (ix2 h d)) (fun h d => x2 (ix2 h d)) (fun h t s => x3 (ix3 h t s)) (fun h t => x4 (ix2 h t)) h n r d := by
  unfold val_main_v53 val_main_v52 val_main_v51 val_main_v50 val_main_v49 val_main_v48 val_main_v47 val_main_v46 val_main_v45 val_main_v15
  pointwise
  simp only [ref_vln, ref_tril, ref_gelu]
  simp only [full, unit, mul_comm (lnRow _ _ _ _ _)]
  refine congrArg (fun j => geluE (x0 (ix2 (rowOf n r) j)) * _) (Fin.ext ?_)
  simp only [wide, colU]

theorem ref (i : Fin 4096) (j : Fin 512) : val_main_v55 (F := Ideal) x0 x1 x2 x3 x4 (ix2 i j)
    = full (fun i j => x0 (ix2 i j)) (fun h d => x1 (ix2 h d)) (fun h d => x2 (ix2 h d)) (fun h t s => x3 (ix3 h t s)) (fun h t => x4 (ix2 h t)) (hdR j) (chR i) (rwR i) (clR j) := by
  unfold val_main_v55 val_main_v54
  pointwise
  exact ref_unit _ _ _ _

end
end Cert.Proof.SguF

namespace Cert.Proof.SguFClaims

open Idealize.ShloMosaic Idealize.ShloMosaic.TcCoe Idealize.SL.Sem Cert.Step Cert.Proof.SguF

/-- The kernel's frame. -/
theorem frame_kernel : Cert.quiescent_SguFKernel := fun m ρ _ => Cert.SguFKernel.Gen.frame m ρ
/-- The idealized kernel's frame. -/
theorem frame_ideal : Cert.quiescent_SguFKernelIdeal := fun m ρ _ => Cert.SguFKernelIdeal.Gen.frame m ρ
/-- The reference's frame. -/
theorem frame_reference : Cert.quiescent_SguFReferenceIdeal := fun m ρ _ =>
  (θ_run Cert.SguFReferenceIdeal.defs _ _).mono
    (fun r h => ⟨fun c => (h c).2, sem_eq_zero_of_no_sems (by decide) r.2⟩)
    (Cert.SguFReferenceIdeal.Value.run (F := Ideal) m ρ)
/-- The ideal pass read the rounded cubic factor as the number it stands for. -/
theorem preserves : Cert.preserves_SguFKernel_SguFKernelIdeal := IdealRules.named_const.statement _ _ _ _ _ rfl

/-- Both programs end with the same array. -/
theorem algebraic : Cert.algebraic_SguFKernelIdeal_SguFReferenceIdeal := by
  intro m ρ m' ρ' _ hag
  refine ⟨fun c => _, Cert.SguFKernelIdeal.Value.run_blocks (F := Ideal) m ρ, ?_⟩
  refine (θ_run Cert.SguFReferenceIdeal.defs _ _).mono
    (fun _ h c => ⟨(h c).1.trans ?_, (h c).2⟩) (Cert.SguFReferenceIdeal.Value.run (F := Ideal) m' ρ')
  obtain ⟨a0, a1, a2, a3, a4⟩ := hag c
  refine ((Cert.SguFReferenceIdeal.Read.val_main_v55_eq _ _).trans ?_).trans arr6.symm
  rw [a0, a1, a2, a3, a4]
  funext j
  idx_vars j
  exact (ref j0 j1).trans (congrFun (congrFun (congrFun (congrFun fullM_eq _) _) _) _).symm

end Cert.Proof.SguFClaims

end
-- ==== Proof.PoolFPay.lean ====
/- What the stores of the pooling kernel hold, over real rows. -/
module

public import proofs.«01_k».proof.Proof.Gen.PoolFKernelIdeal.Value
public import proofs.«01_k».proof.Proof.Lib.Pooling
public import proofs.«01_k».proof.Proof.Lib.Real

@[expose] public section

set_option maxRecDepth 16384

noncomputable section

namespace Cert.Proof.PoolF

open Idealize.ShloMosaic Idealize.ShloMosaic.TcCoe Idealize.SL.Sem Cert.PoolFKernelIdeal Cert.PoolFKernelIdeal.Gen Cert.Step
open Finset (range)

/-- Row `s` of the mixer's result in one channel: the pooled difference through the mixing matrix, scaled. -/
def entry (P : Fin 128 → ℝ) (W : Fin 128 → EReal) (S : EReal) : EReal := (∑ e, ((P e : ℝ) : EReal) * W e) * S

theorem trips1 : k0_t1_loop.trips = 32 := by decide +kernel
theorem trips2 : k0_t2_loop.trips = 32 := by decide +kernel

theorem pay1 (y : S4160x128.Idx) : k0_pay1 (F := Ideal) y = ((0 : ℝ) : EReal) := by
  idx_vars y
  unfold k0_pay1
  pointwise
  exact EReal.coe_zero.symm

theorem pay2 (x : Vec Ideal S128x128 .f32) (a b : Fin 128) : k0_pay2 (F := Ideal) x (ix2 a b) = x (ix2 a b) := by
  unfold k0_pay2
  pointwise

set_option maxHeartbeats 2000000 in  -- the whole chain of one chunk
/-- A chunk's result from the rows around it. -/
theorem pay3 (i : grid0.Coords) (k : Fin k0_t2_loop.trips) (v5 : Vec Ideal S1x128x128 .f32) (x : Vec Ideal S192x128 .f32) (sc : Vec Ideal S1x128 .f32) (X : Fin 128 → ℕ → ℝ) (r d : Fin 128)
    (hx : ∀ e n (h : n < 192), x (ix2 ⟨n, h⟩ e) = ((X e n : ℝ) : EReal)) :
    k0_pay3 (F := Ideal) i v5 k x sc (ix2 r d)
      = entry (fun e => (∑ j ∈ range (win (i 0).val), X e (32 + r.val - j)) / cnt (i 0).val (128 * k.val + r.val) - X e (32 + r.val)) (fun e => v5 (ix3 0 e d)) (sc (ix2 0 d)) := by
  have hl : (i 0).val < 4 := (i 0).isLt
  generalize hq : (i 0).val = l at hl ⊢
  unfold k0_pay3
  rw [hq]
  pointwise
  refine congrArg (· * sc (ix2 0 d)) (Finset.sum_congr rfl fun e _ => congrArg (· * v5 (ix3 0 e d)) ?_)
  have hc := count_bits l hl k.val (k.isLt.trans_eq trips2) r
  simp only [hx e, hc]
  have hr := r.isLt
  simp (disch := omega) only [rot_back, Nat.sub_sub, Nat.reduceAdd, add_real]
  rw [level_pick l hl, div_real _ (cnt_ne _ _), sub_real]
  refine congrArg (fun a : ℝ => ((a / cnt l (128 * k.val + r.val) - X e (32 + r.val) : ℝ) : EReal)) ?_
  interval_cases l <;>
    simp only [win, Finset.sum_range_succ, Finset.sum_range_zero, Nat.sub_zero, Nat.reduceAdd, Nat.reducePow, reduceIte, Nat.reduceEqDiff, OfNat.one_ne_ofNat, one_ne_zero, OfNat.ofNat_ne_zero, OfNat.ofNat_ne_one] <;>
    ring

end Cert.Proof.PoolF

end
-- ==== Proof.PoolFBody.lean ====
/- What one level of the pooling kernel leaves in its result block. -/
module

public import proofs.«01_k».proof.Proof.PoolFPay
public import proofs.«01_k».proof.Proof.Lib.Loop

@[expose] public section

set_option maxRecDepth 16384

noncomputable section

namespace Cert.Proof.PoolF

open Idealize.ShloMosaic Idealize.ShloMosaic.TcCoe Idealize.SL.Sem Cert.PoolFKernelIdeal Cert.PoolFKernelIdeal.Gen Cert.Step
open Finset (range)

variable {c : Dev nD} {i : grid0.Coords} {arg1 : Memref sig .tc .vmem S4096x128 .f32} {harg1 : arg1.IsWhole} {arg2 : Memref sig .tc .vmem S1x128x128 .f32} {harg2 : arg2.IsWhole} {arg3 : Memref sig .tc .vmem S1x128 .f32} {harg3 : arg3.IsWhole} {arg4 : Memref sig .tc .vmem S4096x128 .bf16} {harg4 : arg4.IsWhole} {arg5 : Memref sig .tc .vmem S4160x128 .f32} {harg5 : arg5.IsWhole}

/-- The piece one trip of the first loop stores. -/
theorem trip1 (X : BufTy.Contents (Elt Ideal) arg1.view.ty) (k : Fin k0_t1_loop.trips) :
    tripL_k0_t1 Variants.none c none i arg1 harg1 arg2 harg2 arg3 harg3 arg4 harg4 arg5 harg5 X k
      = [⟨Rect.unit (k0_off2 k) S128x128.size (k0_off2_inb k), k0_pay2 (F := Ideal) (arg1.view.readAt (Elt Ideal) (Rect.unit (s := S4096x128) (k0_off1 k) S128x128.size (k0_off1_inb k)).toLoadRect X)⟩] := by
  unfold tripL_k0_t1 trip_k0_t1
  rfl

/-- The piece one trip of the second loop stores. -/
theorem trip2 (v5 : Vec Ideal S1x128x128 .f32) (X3 : BufTy.Contents (Elt Ideal) arg3.view.ty) (X5 : BufTy.Contents (Elt Ideal) arg5.view.ty) (k : Fin k0_t2_loop.trips) :
    tripL_k0_t2 Variants.none c none i arg1 harg1 arg2 harg2 arg3 harg3 arg4 harg4 arg5 harg5 v5 X3 X5 k
      = [⟨Rect.unit (k0_off4 k) S128x128.size (k0_off4_inb k),
          k0_pay3 (F := Ideal) i v5 k (arg5.view.readAt (Elt Ideal) (Rect.unit (s := S4160x128) (k0_off3 k) S192x128.size (k0_off3_inb k)).toLoadRect X5)
            (arg3.view.readAt (Elt Ideal) (Rect.unit (s := S1x128) ![0, 0] S1x128.size inb_S1x128_S1x128_0_0).toLoadRect X3)⟩] := by
  unfold tripL_k0_t2 trip_k0_t2
  rfl

theorem off1 : ∀ k : Fin k0_t1_loop.trips, k0_off1 k = ![128 * k.val, 0] ∧ k0_off2 k = ![32 + 128 * k.val, 0] := by decide +kernel
theorem off2 : ∀ k : Fin k0_t2_loop.trips, k0_off3 k = ![128 * k.val, 0] ∧ k0_off4 k = ![0 + 128 * k.val, 0] := by decide +kernel

variable {x0 : Vec Ideal S4096x128 .f32} {x1 : Vec Ideal S1x128x128 .f32} {x2 : Vec Ideal S1x128 .f32} {Z : Fin 4096 → Fin 128 → ℝ}

/-- After the first loop the padded buffer holds the rows between 32 rows of zeros. -/
theorem loop1 (hZ : ∀ s e, x0 (ix2 s e) = ((Z s e : ℝ) : EReal)) :
    View.canon (pb_k0_t1 (F := Ideal) Variants.none c none i arg1 harg1 arg2 harg2 arg3 harg3 arg4 harg4 arg5 harg5 (harg1.unread x0) 32 ++ kernelRun0_A.sl.HS0_1) = fun y : S4160x128.Idx => ((pad 32 (fun r => Z r (y 1)) (y 0).val : ℝ) : EReal) := by
  have hz : View.canon (kernelRun0_A.sl.HS0_1 (F := Ideal)) = fun _ : S4160x128.Idx => ((0 : ℝ) : EReal) :=
    (View.canon_cons_unit_lit _ _ _ (by decide)).trans (funext pay1)
  refine funext fun y => ((canon_bands (o := 32) (R := 128) (n := 32) (fun y : S4160x128.Idx => ((pad 32 (fun r => Z r (y 1)) (y 0).val : ℝ) : EReal))
    (pb_k0_t1 (F := Ideal) Variants.none c none i arg1 harg1 arg2 harg2 arg3 harg3 arg4 harg4 arg5 harg5 (harg1.unread x0)) kernelRun0_A.sl.HS0_1 rfl (fun k hk => ?_) 32 le_rfl y)).trans ?_
  · have hk' : k < k0_t1_loop.trips := hk.trans_eq trips1.symm
    refine ⟨k0_off2 ⟨k, hk'⟩, k0_off2_inb ⟨k, hk'⟩, _, (pb_k0_t1_succ _ _ _ _ _ _ _ _ _ _ _ _ _ _ _ ⟨k, hk'⟩).trans (congrArg (· ++ _) (trip1 _ ⟨k, hk'⟩)), (off1 ⟨k, hk'⟩).2, fun r d h => ?_⟩
    refine (pay2 _ r d).trans ((congrFun (Memref.IsWhole.read_unread harg1 x0) _).trans ?_)
    refine (congrArg x0 (idx_band (off1 ⟨k, hk'⟩).1 _ r d (by show 128 * k + r.val < 4096; have := r.isLt; omega))).trans ((hZ _ _).trans ?_)
    refine congrArg ((↑) : ℝ → EReal) ?_
    show Z ⟨128 * k + r.val, _⟩ d = pad 32 (fun s => Z s d) (32 + 128 * k + r.val)
    rw [Nat.add_assoc, pad_add]
    exact (ext_val (fun s => Z s d) ⟨128 * k + r.val, _⟩).symm
  · rw [hz]
    split
    · rfl
    · next h => exact congrArg ((↑) : ℝ → EReal) (pad_out (fun s => Z s (y 1)) (by omega)).symm

variable {v5 : Vec Ideal S1x128x128 .f32} {X5 : BufTy.Contents (Elt Ideal) arg5.view.ty}

theorem load3 (d : Fin 128) :
    arg3.view.readAt (Elt Ideal) (Rect.unit (s := S1x128) ![0, 0] S1x128.size inb_S1x128_S1x128_0_0).toLoadRect (harg3.unread x2) (ix2 0 d) = x2 (ix2 0 d) :=
  (congrFun (Memref.IsWhole.read_unread harg3 x2) _).trans (congrArg x2 (idx_band (o := 0) rfl inb_S1x128_S1x128_0_0 0 d (by decide)))

/-- What the second loop stores. -/
theorem loop2 (hX : arg5.view.read (Elt Ideal) X5 = fun y : S4160x128.Idx => ((pad 32 (fun r => Z r (y 1)) (y 0).val : ℝ) : EReal)) (y : S4096x128.Idx) :
    View.canon (pb_k0_t2 (F := Ideal) Variants.none c none i arg1 harg1 arg2 harg2 arg3 harg3 arg4 harg4 arg5 harg5 v5 (harg3.unread x2) X5 32) y
      = entry (fun e => pooled (i 0).val Z (y 0).val e) (fun e => v5 (ix3 0 e (y 1))) (x2 (ix2 0 (y 1))) := by
  have hl : (i 0).val < 4 := (i 0).isLt
  have hk2 : ∀ k, k < 32 → k < k0_t2_loop.trips := fun k hk => hk.trans_eq trips2.symm
  have hh := canon_bands (o := 0) (R := 128) (n := 32) (fun y : S4096x128.Idx => entry (fun e => pooled (i 0).val Z (y 0).val e) (fun e => v5 (ix3 0 e (y 1))) (x2 (ix2 0 (y 1))))
    (pb_k0_t2 (F := Ideal) Variants.none c none i arg1 harg1 arg2 harg2 arg3 harg3 arg4 harg4 arg5 harg5 v5 (harg3.unread x2) X5) [] rfl (fun k hk => ?_) 32 le_rfl y
  · rw [List.append_nil] at hh
    refine hh.trans (if_pos ⟨Nat.zero_le _, ?_⟩)
    have : (y 0).val < 4096 := (y 0).isLt
    omega
  · refine ⟨k0_off4 ⟨k, hk2 k hk⟩, k0_off4_inb ⟨k, hk2 k hk⟩, _, (pb_k0_t2_succ _ _ _ _ _ _ _ _ _ _ _ _ _ _ _ _ _ ⟨k, hk2 k hk⟩).trans (congrArg (· ++ _) (trip2 _ _ _ ⟨k, hk2 k hk⟩)), (off2 ⟨k, hk2 k hk⟩).2, fun r d h => ?_⟩
    refine (pay3 i ⟨k, hk2 k hk⟩ v5 _ _ (fun e n => pad 32 (fun r => Z r e) (128 * k + n)) r d fun e n hn => ?_).trans ?_
    · exact (congrFun hX _).trans (congrArg (fun y : S4160x128.Idx => ((pad 32 (fun r => Z r (y 1)) (y 0).val : ℝ) : EReal))
        (idx_band (off2 ⟨k, hk2 k hk⟩).1 (k0_off3_inb ⟨k, hk2 k hk⟩) (⟨n, hn⟩ : Fin 192) e (by show 128 * k + n < 4160; omega)))
    · rw [load3]
      refine congrArg (fun P => entry P (fun e => v5 (ix3 0 e d)) (x2 (ix2 0 d))) (funext fun e => ?_)
      have hw : win (i 0).val ≤ 16 := by
        generalize (i 0).val = l at hl
        interval_cases l <;> decide
      have e1 : ∀ j ∈ range (win (i 0).val), pad 32 (fun r => Z r e) (128 * k + (32 + r.val - j)) = pad 32 (fun r => Z r e) (32 + (128 * k + r.val) - j) := fun j hj =>
        congrArg _ (by have := Finset.mem_range.mp hj; omega)
      show (∑ j ∈ range (win (i 0).val), pad 32 (fun r => Z r e) (128 * k + (32 + r.val - j))) / cnt (i 0).val (128 * k + r.val) - pad 32 (fun r => Z r e) (128 * k + (32 + r.val)) = pooled (i 0).val Z (0 + 128 * k + r.val) e
      rw [Finset.sum_congr rfl e1, back_pad _ _ (by omega), show 128 * k + (32 + r.val) = 32 + (128 * k + r.val) by omega, pad_add, Nat.zero_add]
      rfl

/-- The weight block as the second loop is given it. -/
theorem weights (e d : Fin 128) :
    View.readAt (Elt Ideal) arg2.view (Rect.unit (s := S1x128x128) ![0, 0, 0] S1x128x128.size inb_S1x128x128_S1x128x128_0_0_0).toLoadRect (harg2.unread x1) (ix3 0 e d) = x1 (ix3 0 e d) := by
  rw [View.readAt_eq_ld, Memref.IsWhole.read_unread]
  exact congrFun (View.ld_unit_lit _ x1 (by decide)) _

/-- One level's result block. -/
theorem out (hZ : ∀ s e, x0 (ix2 s e) = ((Z s e : ℝ) : EReal)) (y : S4096x128.Idx) :
    out0_A_3 (F := Ideal) c i arg1 harg1 arg2 harg2 arg3 harg3 arg4 harg4 arg5 harg5 x0 x1 x2 y = entry (fun e => pooled (i 0).val Z (y 0).val e) (fun e => x1 (ix3 0 e (y 1))) (x2 (ix2 0 (y 1))) := by
  unfold out0_A_3 kernelRun0_A
  dsimp only
  refine (congrFun (View.read_writes_junk_eq_canon _ _) y).trans ((loop2 ((View.read_writes_junk_eq_canon _ _).trans (loop1 hZ)) y).trans ?_)
  exact congrArg (fun W => entry (fun e => pooled (i 0).val Z (y 0).val e) W (x2 (ix2 0 (y 1)))) (funext fun e => weights e (y 1))

end Cert.Proof.PoolF

end
-- ==== Proof.PoolFArrays.lean ====
/- What the pooling kernel leaves in its result array, over real rows. -/
module

public import proofs.«01_k».proof.Proof.PoolFBody

@[expose] public section

set_option maxRecDepth 16384

noncomputable section

namespace Cert.Proof.PoolF

open Idealize.ShloMosaic Idealize.ShloMosaic.TcCoe Idealize.SL.Sem Cert.PoolFKernelIdeal Cert.PoolFKernelIdeal.Gen Cert.Step
open Finset (range)

variable {m : (ℓ : Loc nD τ sig) → Buf (Elt Ideal) ℓ} {c : Dev nD}

/-- The level of a grid point. -/
def lv (t : Fin cfg0.N) : Fin 4 := ⟨t.val, lt_of_lt_of_eq t.isLt N_0⟩

theorem coord : ∀ t : Fin cfg0.N, (grid0.coords t 0).val = t.val := (by decide +kernel : ∀ t : Fin grid0.N, _)

theorem idx : ∀ t : Fin cfg0.N, win0_0.index t = ![0, 28 + t.val] ∧ win0_1.index t = ![t.val, 0, 0] ∧ win0_2.index t = ![0, t.val] ∧ win0_3.index t = ![0, t.val] := (by decide +kernel : ∀ t : Fin grid0.N, _)

theorem read0 (t : Fin cfg0.N) (s : Fin 4096) (e : Fin 128) : iblk m c 0 t (ix2 s e) = V m c main_arg0 (ix2 s (zcol (col (lv t) e))) := by
  blk_point [iblk, lv, col, zcol, idx t]
theorem read1 (t : Fin cfg0.N) (a b : Fin 128) : iblk m c 1 t (ix3 0 a b) = V m c main_arg1 (ix3 (lv t) a b) := by
  blk_point [iblk, lv, col, idx t]
theorem read2 (t : Fin cfg0.N) (e : Fin 128) : iblk m c 2 t (ix2 0 e) = V m c main_v0 (ix2 0 (col (lv t) e)) := by
  blk_point [iblk, lv, col, idx t]

/-- The mixer's result at row `s`, level `l`, channel `d`. -/
def mixed (z : Fin 4096 → Fin 512 → ℝ) (w : Fin 4 → Fin 128 → Fin 128 → EReal) (sc : Fin 512 → EReal) (l : Fin 4) (s : Fin 4096) (d : Fin 128) : EReal :=
  entry (fun e => pooled l.val (fun r e => z r (col l e)) s.val e) (fun e => w l e d) (sc (col l d))

/-- The scales are passed as a row. -/
theorem host_s (k : Fin 512) : V m c main_v0 (ix2 0 k) = m ((c : Thread nD τ).loc main_arg2) (ix1 k) := by
  entry_read; pointwise

/-- The result array. -/
theorem arr3 {z : Fin 4096 → Fin 512 → ℝ} (hz : ∀ i k, V m c main_arg0 (ix2 i (zcol k)) = ((z i k : ℝ) : EReal)) :
    (dats m 0 c).arrAt 3 cfg0.N = fun y : S4096x512.Idx => mixed z (fun l a b => m ((c : Thread nD τ).loc main_arg1) (ix3 l a b)) (fun k => m ((c : Thread nD τ).loc main_arg2) (ix1 k)) (lev (y 1)) (y 0) (chan (y 1)) := by
  refine (dats m 0 c).arrAt_eq_of_covers 3 _ (by decide +kernel) fun t hf y => ?_
  blk_simp
  have e : ((View.whole main_v1).slice (win0_3.rect t)).emb y = ix2 (y 0) (col (lv t) (y 1)) := by
    blk_ext [lv, col, idx t]
  rw [after0_3, e]
  refine Eq.trans ?_ (congrArg₂ (fun l e => mixed z (fun l a b => m ((c : Thread nD τ).loc main_arg1) (ix3 l a b)) (fun k => m ((c : Thread nD τ).loc main_arg2) (ix1 k)) l (y 0) e) (lev_col (lv t) (y 1)) (chan_col (lv t) (y 1))).symm
  idx_vars y
  refine (out (fun s e => (read0 t s e).trans (hz s (col (lv t) e))) (ix2 y0 y1)).trans ?_
  rw [coord t]
  refine congr (congrArg (entry _) (funext fun e => (read1 t e y1).trans rfl)) ((read2 t y1).trans (host_s _))

end Cert.Proof.PoolF

end
-- ==== Proof.PoolFRef.lean ====
/- The pooling reference's result over real rows. -/
module

public import proofs.«01_k».proof.Proof.PoolFArrays
public import proofs.«01_k».proof.Proof.Gen.PoolFReferenceIdeal.Read
public import Idealize.ShloMosaic.Lib.StableHlo.RunRead

@[expose] public section

set_option maxRecDepth 16384

noncomputable section

namespace Cert.Proof.PoolF

open Idealize.ShloMosaic Idealize.ShloMosaic.TcCoe Idealize.SL.Sem Cert.Step
open Finset (range)

section
open Cert.PoolFReferenceIdeal Cert.PoolFReferenceIdeal.Read

variable {x0 : (⟨S4096x4096, .f32⟩ : BufTy).Contents (Elt Ideal)} {x1 : (⟨S4x128x128, .f32⟩ : BufTy).Contents (Elt Ideal)} {x2 : (⟨S512, .f32⟩ : BufTy).Contents (Elt Ideal)}
  {z : Fin 4096 → Fin 512 → ℝ} (hz : ∀ i (k : Fin 512), x0 (ix2 i (zcol k)) = ((z i k : ℝ) : EReal))
include hz

/-- A level's channel; its running sum. -/
theorem ref_z (i : Fin 4096) (l : Fin 4) (e : Fin 128) : val_main_v1 (F := Ideal) x0 (ix3 i l e) = ((z i (col l e) : ℝ) : EReal) := by
  unfold val_main_v1 val_main_v0
  pointwise
  exact hz i (col l e)
theorem ref_run (i : Fin 4096) (l : Fin 4) (e : Fin 128) : val_main_v2 (F := Ideal) x0 (ix3 i l e) = ((∑ j ∈ range (i.val + 1), ext (fun r => z r (col l e)) j : ℝ) : EReal) := by
  have e0 : ∀ k, val_main_call0_call0_v0 (F := Ideal) k = 0 := fun k => by
    unfold val_main_call0_call0_v0 val_main_call0_call0_cst
    pointwise
  unfold val_main_v2
  refine Eq.trans ?_ (congrArg _ (prefix_sum (lo := 4095) rfl (fun r => z r (col l e)) i.isLt))
  exact host_window _ _ e0 (fun r => z r (col l e)) l e (fun n => ref_z hz n l e) _ _ i

/-- The means of the four levels. -/
theorem ref_mean0 (i : Fin 4096) (e : Fin 128) : val_main_v17 (F := Ideal) x0 (ix2 i e) = ((back (fun r => z r (col 0 e)) (win 0) i.val / cnt 0 i.val : ℝ) : EReal) := by
  unfold val_main_v17 val_main_v14 val_main_v16 val_main_v15 val_main_v13 val_main_v12 val_main_v11 val_main_v5 val_main_v4 val_main_v3 val_main_v10 val_main_v9 val_main_v8 val_main_v7 val_main_v6 val_main_c val_main_c_0 val_main_cst
  pointwise
  rw [ref_run hz, shift (fun r => z r (col 0 e)) 2 i.val (fun h => ref_run hz _ 0 e), ref_cnt 0 (w := 2) (by decide) rfl, sub_real, div_real _ (cnt_ne 0 _), back_eq]
  rfl
theorem ref_mean1 (i : Fin 4096) (e : Fin 128) : val_main_v29 (F := Ideal) x0 (ix2 i e) = ((back (fun r => z r (col 1 e)) (win 1) i.val / cnt 1 i.val : ℝ) : EReal) := by
  unfold val_main_v29 val_main_v26 val_main_v28 val_main_v27 val_main_v25 val_main_v24 val_main_v23 val_main_v5 val_main_v4 val_main_v3 val_main_v22 val_main_v21 val_main_v20 val_main_v19 val_main_v18 val_main_c val_main_c_2 val_main_cst_1
  pointwise
  rw [ref_run hz, shift (fun r => z r (col 1 e)) 4 i.val (fun h => ref_run hz _ 1 e), ref_cnt 1 (w := 4) (by decide) rfl, sub_real, div_real _ (cnt_ne 1 _), back_eq]
  rfl
theorem ref_mean2 (i : Fin 4096) (e : Fin 128) : val_main_v41 (F := Ideal) x0 (ix2 i e) = ((back (fun r => z r (col 2 e)) (win 2) i.val / cnt 2 i.val : ℝ) : EReal) := by
  unfold val_main_v41 val_main_v38 val_main_v40 val_main_v39 val_main_v37 val_main_v36 val_main_v35 val_main_v5 val_main_v4 val_main_v3 val_main_v34 val_main_v33 val_main_v32 val_main_v31 val_main_v30 val_main_c val_main_c_4 val_main_cst_3
  pointwise
  rw [ref_run hz, shift (fun r => z r (col 2 e)) 8 i.val (fun h => ref_run hz _ 2 e), ref_cnt 2 (w := 8) (by decide) rfl, sub_real, div_real _ (cnt_ne 2 _), back_eq]
  rfl
theorem ref_mean3 (i : Fin 4096) (e : Fin 128) : val_main_v53 (F := Ideal) x0 (ix2 i e) = ((back (fun r => z r (col 3 e)) (win 3) i.val / cnt 3 i.val : ℝ) : EReal) := by
  unfold val_main_v53 val_main_v50 val_main_v52 val_main_v51 val_main_v49 val_main_v48 val_main_v47 val_main_v5 val_main_v4 val_main_v3 val_main_v46 val_main_v45 val_main_v44 val_main_v43 val_main_v42 val_main_c val_main_c_6 val_main_cst_5
  pointwise
  rw [ref_run hz, shift (fun r => z r (col 3 e)) 16 i.val (fun h => ref_run hz _ 3 e), ref_cnt 3 (w := 16) (by decide) rfl, sub_real, div_real _ (cnt_ne 3 _), back_eq]
  rfl

/-- The pooled difference. -/
theorem ref_pooled (i : Fin 4096) (l : Fin 4) (e : Fin 128) : val_main_v59 (F := Ideal) x0 (ix3 i l e) = ((pooled l.val (fun r e => z r (col l e)) i.val e : ℝ) : EReal) := by
  unfold val_main_v59 val_main_v58 val_main_v54 val_main_v55 val_main_v56 val_main_v57
  pointwise
  rw [ref_z hz, pooled, ext_val]
  match l with
  | 0 => rw [dif_pos (by decide), ref_mean0 hz, sub_real]; rfl
  | 1 => rw [dif_neg (by decide), dif_pos (by decide), ref_mean1 hz, sub_real]; rfl
  | 2 => rw [dif_neg (by decide), dif_neg (by decide), dif_pos (by decide), ref_mean2 hz, sub_real]; rfl
  | 3 => rw [dif_neg (by decide), dif_neg (by decide), dif_neg (by decide), ref_mean3 hz, sub_real]; rfl

/-- The mixer's result. -/
theorem ref (i : Fin 4096) (k : Fin 512) : val_main_v66 (F := Ideal) x0 x1 x2 (ix2 i k) = mixed z (fun l a b => x1 (ix3 l a b)) (fun k => x2 (ix1 k)) (lev k) i (chan k) := by
  unfold val_main_v66 val_main_v65 val_main_v64 val_main_v63 val_main_v62 val_main_v61 val_main_v60
  pointwise
  unfold mixed entry
  rw [col_lev]
  refine congrArg (· * x2 (ix1 k)) (Finset.sum_congr rfl fun e _ => ?_)
  exact (mul_comm _ _).trans (congrArg (· * _) (ref_pooled hz i (lev k) e))

end

end Cert.Proof.PoolF

end
-- ==== Proof.PoolFClaims.lean ====
/- The pooling mixer (`_pool_fwd`). -/
module

public import proofs.«01_k».proof.Defs
public import proofs.«01_k».proof.Proof.Gen.PoolFKernel.Frame
public import proofs.«01_k».proof.Proof.PoolFRef
public import proofs.«01_k».proof.Proof.Lib.Finite
public import proofs.«01_k».proof.Proof.Gen.PoolFReferenceIdeal.Run
public import proofs.«01_k».proof.Proof.Gen.Pre_poolf_finite

@[expose] public section

set_option maxRecDepth 16384

noncomputable section

namespace Cert.Proof.PoolFClaims

open Idealize.ShloMosaic Idealize.ShloMosaic.TcCoe Idealize.SL.Sem Cert.Step Cert.Proof.PoolF

/-- The kernel's frame. -/
theorem frame_kernel : Cert.quiescent_PoolFKernel := fun m ρ _ => Cert.PoolFKernel.Gen.frame m ρ
/-- The idealized kernel's frame. -/
theorem frame_ideal : Cert.quiescent_PoolFKernelIdeal := fun m ρ _ => Cert.PoolFKernelIdeal.Gen.frame m ρ
/-- The reference's frame: its run leaves the arguments alone, and it has no semaphore. -/
theorem frame_reference : Cert.quiescent_PoolFReferenceIdeal := fun m ρ _ =>
  (θ_run Cert.PoolFReferenceIdeal.defs _ _).mono
    (fun r h => ⟨fun c => (h c).2, sem_eq_zero_of_no_sems (by decide) r.2⟩)
    (Cert.PoolFReferenceIdeal.Value.run (F := Ideal) m ρ)
/-- The ideal pass rewrote nothing. -/
theorem preserves : Cert.preserves_PoolFKernel_PoolFKernelIdeal := trivial

/-- The precondition: the rows are real numbers. -/
theorem args_real {a0 a1 a2} (h : Cert.Pre_poolf_finite.fn (F := Ideal) a0 a1 a2 = fun _ => 1#1) : AllReal a0 := by
  have e := congrFun h (show Cert.Pre_poolf_finite.S_.Idx from fun k => k.elim0)
  unfold Cert.Pre_poolf_finite.fn at e
  exact finite_of_test _ _ inf_f32 _ _ _ _ e

/-- Both programs end with the same array. -/
theorem algebraic : Cert.algebraic_PoolFKernelIdeal_PoolFReferenceIdeal := by
  intro m ρ m' ρ' hp hag
  refine ⟨fun c => _, Cert.PoolFKernelIdeal.Value.run_blocks (F := Ideal) m ρ, ?_⟩
  refine (θ_run Cert.PoolFReferenceIdeal.defs _ _).mono
    (fun _ h c => ?_) (Cert.PoolFReferenceIdeal.Value.run (F := Ideal) m' ρ')
  obtain ⟨z, hz⟩ := lift_real (args_real (hp c))
  obtain ⟨a0, a1, a2⟩ := hag c
  refine ⟨(h c).1.trans ?_, (h c).2⟩
  refine ((Cert.PoolFReferenceIdeal.Read.val_main_v66_eq _ _).trans ?_).trans (arr3 (z := fun i k => z (ix2 i (zcol k))) fun i k => congrFun hz _).symm
  rw [a0, a1, a2]
  funext j
  idx_vars j
  exact ref (z := fun i k => z (ix2 i (zcol k))) (fun i k => congrFun hz _) j0 j1

end Cert.Proof.PoolFClaims

end
-- ==== Proof.SwigluFArrays.lean ====
/- What the gate and up projections' kernel leaves in its three result arrays: two products and the SwiGLU activation of them. -/
module

public import proofs.«01_k».proof.Proof.Lib.Forward
public import proofs.«01_k».proof.Proof.Gen.SwigluFKernelIdeal.Value
public import Idealize.ShloMosaic.Lib.Pipeline.ValueKit

@[expose] public section

set_option maxRecDepth 16384

noncomputable section

namespace Cert.Proof.SwigluF

open Idealize.ShloMosaic Idealize.ShloMosaic.TcCoe Idealize.SL.Sem Cert.SwigluFKernelIdeal Cert.SwigluFKernelIdeal.Gen Cert.Step

variable {m : (ℓ : Loc nD τ sig) → Buf (Elt Ideal) ℓ} {c : Dev nD}

/-- A half's row in the whole contraction. -/
def lo (k : Fin 1024) : Fin 2048 := ⟨k.val, by omega⟩
def hi (k : Fin 1024) : Fin 2048 := ⟨1024 + k.val, by omega⟩

/-- A projection: the contraction's two halves added. -/
def proj (Y : Fin 4096 → Fin 2048 → EReal) (W : Fin 2048 → Fin 5632 → EReal) (i : Fin 4096) (f : Fin 5632) : EReal :=
  (∑ k, Y i (lo k) * W (lo k) f) + ∑ k, Y i (hi k) * W (hi k) f

/-- The two halves are the whole contraction. -/
theorem halves (f : Fin 2048 → EReal) : (∑ k : Fin 1024, f (lo k)) + ∑ k : Fin 1024, f (hi k) = ∑ k : Fin 2048, f k :=
  (Fin.sum_univ_add (a := 1024) (b := 1024) f).symm

/-- A block's row and column in the arrays, the quarter of the weights a point takes. -/
def rowAt (t : Fin cfg0.N) (r : Fin 512) : Fin 4096 := ⟨t.val / 4 * 512 + r.val, by have := lt_of_lt_of_eq t.isLt N_0; omega⟩
def colAt (t : Fin cfg0.N) (q : Fin 1408) : Fin 5632 := ⟨t.val % 4 * 1408 + q.val, by omega⟩
def wL (t : Fin cfg0.N) : Fin 8 := ⟨2 * (t.val % 4), by omega⟩
def wR (t : Fin cfg0.N) : Fin 8 := ⟨2 * (t.val % 4) + 1, by omega⟩

theorem idx : ∀ t : Fin cfg0.N, win0_0.index t = ![t.val / 4, 0] ∧ win0_1.index t = ![2 * (t.val % 4), 0, 0] ∧ win0_2.index t = ![2 * (t.val % 4) + 1, 0, 0]
    ∧ win0_3.index t = ![2 * (t.val % 4), 0, 0] ∧ win0_4.index t = ![2 * (t.val % 4) + 1, 0, 0] ∧ win0_5.index t = ![t.val / 4, t.val % 4]
    ∧ win0_6.index t = ![t.val / 4, t.val % 4] ∧ win0_7.index t = ![t.val / 4, t.val % 4] :=
  (by decide +kernel : ∀ t : Fin grid0.N, _)

/-- The activations and the two weight matrices. -/
abbrev Y (m : (ℓ : Loc nD τ sig) → Buf (Elt Ideal) ℓ) (c : Dev nD) (i : Fin 4096) (k : Fin 2048) : EReal := m ((c : Thread nD τ).loc main_arg0) (ix2 i k)
abbrev G (m : (ℓ : Loc nD τ sig) → Buf (Elt Ideal) ℓ) (c : Dev nD) (k : Fin 2048) (f : Fin 5632) : EReal := m ((c : Thread nD τ).loc main_arg1) (ix2 k f)
abbrev U (m : (ℓ : Loc nD τ sig) → Buf (Elt Ideal) ℓ) (c : Dev nD) (k : Fin 2048) (f : Fin 5632) : EReal := m ((c : Thread nD τ).loc main_arg2) (ix2 k f)

/-- The weights are gathered by quarter and half. -/
theorem host_gl (t : Fin cfg0.N) (q : Fin 1408) (k : Fin 1024) : V m c main_v3 (ix3 (wL t) k q) = G m c (lo k) (colAt t q) := by
  entry_read; pointwise
  refine congrArg (m _) (congrArg₂ ix2 (Fin.ext ?_) (Fin.ext ?_)) <;> simp only [wL, lo, colAt] <;> omega
theorem host_gr (t : Fin cfg0.N) (q : Fin 1408) (k : Fin 1024) : V m c main_v3 (ix3 (wR t) k q) = G m c (hi k) (colAt t q) := by
  entry_read; pointwise
  refine congrArg (m _) (congrArg₂ ix2 (Fin.ext ?_) (Fin.ext ?_)) <;> simp only [wR, hi, colAt] <;> omega
theorem host_ul (t : Fin cfg0.N) (q : Fin 1408) (k : Fin 1024) : V m c main_v7 (ix3 (wL t) k q) = U m c (lo k) (colAt t q) := by
  entry_read; pointwise
  refine congrArg (m _) (congrArg₂ ix2 (Fin.ext ?_) (Fin.ext ?_)) <;> simp only [wL, lo, colAt] <;> omega
theorem host_ur (t : Fin cfg0.N) (q : Fin 1408) (k : Fin 1024) : V m c main_v7 (ix3 (wR t) k q) = U m c (hi k) (colAt t q) := by
  entry_read; pointwise
  refine congrArg (m _) (congrArg₂ ix2 (Fin.ext ?_) (Fin.ext ?_)) <;> simp only [wR, hi, colAt] <;> omega

theorem read0 (t : Fin cfg0.N) (r : Fin 512) (k : Fin 2048) : iblk m c 0 t (ix2 r k) = Y m c (rowAt t r) k := by
  blk_point [iblk, rowAt, idx t]
theorem read1 (t : Fin cfg0.N) (q : Fin 1408) (k : Fin 1024) : iblk m c 1 t (ix3 0 k q) = G m c (lo k) (colAt t q) := by
  refine Eq.trans (b := V m c main_v3 (ix3 (wL t) k q)) ?_ (host_gl t q k)
  blk_point [iblk, wL, idx t]
theorem read2 (t : Fin cfg0.N) (q : Fin 1408) (k : Fin 1024) : iblk m c 2 t (ix3 0 k q) = G m c (hi k) (colAt t q) := by
  refine Eq.trans (b := V m c main_v3 (ix3 (wR t) k q)) ?_ (host_gr t q k)
  blk_point [iblk, wR, idx t]
theorem read3 (t : Fin cfg0.N) (q : Fin 1408) (k : Fin 1024) : iblk m c 3 t (ix3 0 k q) = U m c (lo k) (colAt t q) := by
  refine Eq.trans (b := V m c main_v7 (ix3 (wL t) k q)) ?_ (host_ul t q k)
  blk_point [iblk, wL, idx t]
theorem read4 (t : Fin cfg0.N) (q : Fin 1408) (k : Fin 1024) : iblk m c 4 t (ix3 0 k q) = U m c (hi k) (colAt t q) := by
  refine Eq.trans (b := V m c main_v7 (ix3 (wR t) k q)) ?_ (host_ur t q k)
  blk_point [iblk, wR, idx t]

/-- What a point leaves in the three results' tiles. -/
theorem out5 (t : Fin cfg0.N) (y : S512x1408.Idx) : (outsAt0 m c t).1 y = silu (proj (Y m c) (G m c) (rowAt t (y 0)) (colAt t (y 1))) * proj (Y m c) (U m c) (rowAt t (y 0)) (colAt t (y 1)) := by
  unfold outsAt0
  frame_out
  canon_tiles x h using View.cover_of_tiledBy (s := S512x1408) _ ![512, 128] (by sl_kernel_rfl) _
  all_goals
    idx_vars x
    idx_vars y
    obtain rfl : y0 = x0 := Fin.ext h0
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    pointwise
    obtain ⟨y1, hy⟩ := y1
    dsimp only at h1
    subst h1
    simp only [silu_kernel, read0, read1, read2, read3, read4]
    rfl
theorem out6 (t : Fin cfg0.N) (y : S512x1408.Idx) : (outsAt0 m c t).2.1 y = proj (Y m c) (G m c) (rowAt t (y 0)) (colAt t (y 1)) := by
  unfold outsAt0
  frame_out
  canon_tiles x h using View.cover_of_tiledBy (s := S512x1408) _ ![512, 128] (by sl_kernel_rfl) _
  all_goals
    idx_vars x
    idx_vars y
    obtain rfl : y0 = x0 := Fin.ext h0
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    pointwise
    obtain ⟨y1, hy⟩ := y1
    dsimp only at h1
    subst h1
    simp only [read0, read1, read2]
    rfl
theorem out7 (t : Fin cfg0.N) (y : S512x1408.Idx) : (outsAt0 m c t).2.2 y = proj (Y m c) (U m c) (rowAt t (y 0)) (colAt t (y 1)) := by
  unfold outsAt0
  frame_out
  canon_tiles x h using View.cover_of_tiledBy (s := S512x1408) _ ![512, 128] (by sl_kernel_rfl) _
  all_goals
    idx_vars x
    idx_vars y
    obtain rfl : y0 = x0 := Fin.ext h0
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    pointwise
    obtain ⟨y1, hy⟩ := y1
    dsimp only at h1
    subst h1
    simp only [read0, read3, read4]
    rfl

/-- The three results: the activation and its two factors. -/
theorem arr5 : (dats m 0 c).arrAt 5 cfg0.N = fun y : S4096x5632.Idx => silu (proj (Y m c) (G m c) (y 0) (y 1)) * proj (Y m c) (U m c) (y 0) (y 1) := by
  refine (dats m 0 c).arrAt_eq_of_covers 5 _ (by decide +kernel) fun t hf y => ?_
  blk_simp
  have e : ∀ y : S512x1408.Idx, ((View.whole main_v8_0).slice (win0_5.rect t)).emb y = ix2 (rowAt t (y 0)) (colAt t (y 1)) := fun y => by
    blk_ext [rowAt, colAt, idx t]
  rw [after0_5, e y]
  exact out5 t y
theorem arr6 : (dats m 0 c).arrAt 6 cfg0.N = fun y : S4096x5632.Idx => proj (Y m c) (G m c) (y 0) (y 1) := by
  refine (dats m 0 c).arrAt_eq_of_covers 6 _ (by decide +kernel) fun t hf y => ?_
  blk_simp
  have e : ∀ y : S512x1408.Idx, ((View.whole main_v8_1).slice (win0_6.rect t)).emb y = ix2 (rowAt t (y 0)) (colAt t (y 1)) := fun y => by
    blk_ext [rowAt, colAt, idx t]
  rw [after0_6, e y]
  exact out6 t y
theorem arr7 : (dats m 0 c).arrAt 7 cfg0.N = fun y : S4096x5632.Idx => proj (Y m c) (U m c) (y 0) (y 1) := by
  refine (dats m 0 c).arrAt_eq_of_covers 7 _ (by decide +kernel) fun t hf y => ?_
  blk_simp
  have e : ∀ y : S512x1408.Idx, ((View.whole main_v8_2).slice (win0_7.rect t)).emb y = ix2 (rowAt t (y 0)) (colAt t (y 1)) := fun y => by
    blk_ext [rowAt, colAt, idx t]
  rw [after0_7, e y]
  exact out7 t y

end Cert.Proof.SwigluF

end
-- ==== Proof.SwigluFClaims.lean ====
/- The gate and up projections with the SwiGLU gate (`_swiglu_fwd`). -/
module

public import proofs.«01_k».proof.Defs
public import proofs.«01_k».proof.Proof.SwigluFArrays
public import proofs.«01_k».proof.Proof.Gen.SwigluFKernel.Frame
public import proofs.«01_k».proof.Proof.Gen.SwigluFReferenceIdeal.Run
public import proofs.«01_k».proof.Proof.Gen.SwigluFReferenceIdeal.Read

@[expose] public section

set_option maxRecDepth 16384

noncomputable section

namespace Cert.Proof.SwigluFClaims

section
open Idealize.ShloMosaic Cert.SwigluFReferenceIdeal Cert.SwigluFReferenceIdeal.Read Cert.Step Cert.Proof.SwigluF

variable (x0 : (⟨S4096x2048, .bf16⟩ : BufTy).Contents (Elt Ideal)) (x1 x2 : (⟨S2048x5632, .f32⟩ : BufTy).Contents (Elt Ideal)) (i : Fin 4096) (f : Fin 5632)

/-- The reference's two products and its activation. -/
theorem ref_gate : val_main_v1 (F := Ideal) x0 x1 (ix2 i f) = proj (fun i k => x0 (ix2 i k)) (fun k f => x1 (ix2 k f)) i f := by
  unfold val_main_v1 val_main_v0
  pointwise
  exact (halves fun k => x0 (ix2 i k) * x1 (ix2 k f)).symm
theorem ref_up : val_main_v3 (F := Ideal) x0 x2 (ix2 i f) = proj (fun i k => x0 (ix2 i k)) (fun k f => x2 (ix2 k f)) i f := by
  unfold val_main_v3 val_main_v2
  pointwise
  exact (halves fun k => x0 (ix2 i k) * x2 (ix2 k f)).symm
theorem ref_act : val_main_v6 (F := Ideal) x0 x1 x2 (ix2 i f)
    = silu (proj (fun i k => x0 (ix2 i k)) (fun k f => x1 (ix2 k f)) i f) * proj (fun i k => x0 (ix2 i k)) (fun k f => x2 (ix2 k f)) i f := by
  unfold val_main_v6 val_main_v5 val_main_v4 val_main_call0_v5 val_main_call0_v4 val_main_call0_cst_0 val_main_call0_v3 val_main_call0_v2 val_main_call0_cst val_main_call0_v1 val_main_call0_v0
  pointwise
  rw [ref_gate, ref_up, silu_host]

end

open Idealize.ShloMosaic Idealize.ShloMosaic.TcCoe Idealize.SL.Sem Cert.Step Cert.Proof.SwigluF

/-- The kernel's frame. -/
theorem frame_kernel : Cert.quiescent_SwigluFKernel := fun m ρ _ => Cert.SwigluFKernel.Gen.frame m ρ
/-- The idealized kernel's frame. -/
theorem frame_ideal : Cert.quiescent_SwigluFKernelIdeal := fun m ρ _ => Cert.SwigluFKernelIdeal.Gen.frame m ρ
/-- The reference's frame: its run leaves the arguments alone, and it has no semaphore. -/
theorem frame_reference : Cert.quiescent_SwigluFReferenceIdeal := fun m ρ _ =>
  (θ_run Cert.SwigluFReferenceIdeal.defs _ _).mono
    (fun r h => ⟨fun c => (h c).2.2.2, sem_eq_zero_of_no_sems (by decide) r.2⟩)
    (Cert.SwigluFReferenceIdeal.Value.run (F := Ideal) m ρ)
/-- The ideal pass rewrote nothing. -/
theorem preserves : Cert.preserves_SwigluFKernel_SwigluFKernelIdeal := trivial

/-- Both programs end with the same three arrays. -/
theorem algebraic : Cert.algebraic_SwigluFKernelIdeal_SwigluFReferenceIdeal := by
  intro m ρ m' ρ' _ hag
  refine ⟨fun c => _, fun c => _, fun c => _, Cert.SwigluFKernelIdeal.Value.run_blocks (F := Ideal) m ρ, ?_⟩
  refine (θ_run Cert.SwigluFReferenceIdeal.defs _ _).mono
    (fun _ h c => ?_) (Cert.SwigluFReferenceIdeal.Value.run (F := Ideal) m' ρ')
  obtain ⟨a0, a1, a2⟩ := hag c
  refine ⟨(h c).1.trans ?_, (h c).2.1.trans ?_, (h c).2.2.1.trans ?_, (h c).2.2.2⟩
  · refine ((Cert.SwigluFReferenceIdeal.Read.val_main_v6_eq _ _ _).trans ?_).trans arr5.symm
    rw [a0, a1, a2]
    funext j
    idx_vars j
    exact ref_act _ _ _ j0 j1
  · refine ((Cert.SwigluFReferenceIdeal.Read.val_main_v7_eq _ _).trans ?_).trans arr6.symm
    rw [a0, a1]
    funext j
    idx_vars j
    exact ref_gate _ _ j0 j1
  · refine ((Cert.SwigluFReferenceIdeal.Read.val_main_v8_eq _ _).trans ?_).trans arr7.symm
    rw [a0, a2]
    funext j
    idx_vars j
    exact ref_up _ _ j0 j1

end Cert.Proof.SwigluFClaims

end
-- ==== Proof.Lib.Quarters.lean ====
module

public import proofs.«01_k».proof.Proof.Lib.Scalar

/-! # A contraction in four parts

The products with a gathered weight contract one quarter of their rows after another. -/

@[expose] public section

noncomputable section

namespace Cert.Step

/-- Position `k` of the `a`th quarter of a contraction. -/
def part {n N : ℕ} (h : N = n + n + n + n) (a : Fin 4) (k : Fin n) : Fin N :=
  ⟨n * a.val + k.val, by have := k.isLt; fin_cases a <;> simp only <;> omega⟩

/-- A sum over the contraction is the sum of its quarters. -/
theorem sum_parts {n N : ℕ} (h : N = n + n + n + n) (f : Fin N → EReal) :
    (((∑ k, f (part h 0 k)) + ∑ k, f (part h 1 k)) + ∑ k, f (part h 2 k)) + ∑ k, f (part h 3 k) = ∑ k, f k := by
  subst h
  rw [Fin.sum_univ_add, Fin.sum_univ_add, Fin.sum_univ_add]
  refine congrArg₂ _ (congrArg₂ _ (congrArg₂ _ ?_ ?_) ?_) ?_ <;>
    exact Finset.sum_congr rfl fun k _ => congrArg f (Fin.ext (by simp [part]; try omega))

end Cert.Step

end
-- ==== Proof.PleFArrays.lean ====
/- What the embedding gate's kernel leaves in its two result arrays. -/
module

public import proofs.«01_k».proof.Proof.Lib.Forward
public import proofs.«01_k».proof.Proof.Lib.Quarters
public import proofs.«01_k».proof.Proof.Gen.PleFKernelIdeal.Value
public import Idealize.ShloMosaic.Lib.Pipeline.ValueKit

@[expose] public section

set_option maxRecDepth 16384

noncomputable section

namespace Cert.Proof.PleF

open Idealize.ShloMosaic Idealize.ShloMosaic.TcCoe Idealize.SL.Sem Cert.PleFKernelIdeal Cert.PleFKernelIdeal.Gen Cert.Step

variable {m : (ℓ : Loc nD τ sig) → Buf (Elt Ideal) ℓ} {c : Dev nD}

/-- Row `k` of the `a`th quarter of the weight. -/
abbrev qr (a : Fin 4) (k : Fin 512) : Fin 2048 := part (n := 512) (by decide) a k

/-- The gate's product over the whole contraction. -/
def proj (Y : Fin 4096 → Fin 2048 → EReal) (W : Fin 2048 → Fin 2048 → EReal) (i : Fin 4096) (f : Fin 2048) : EReal :=
  ∑ k, Y i k * W k f

/-- A block's row and column in the arrays; the block of the gathered weight a point takes. -/
def rowAt (t : Fin cfg0.N) (r : Fin 1024) : Fin 4096 := ⟨t.val / 2 * 1024 + r.val, by have := lt_of_lt_of_eq t.isLt N_0; omega⟩
def colAt (t : Fin cfg0.N) (q : Fin 1024) : Fin 2048 := ⟨t.val % 2 * 1024 + q.val, by omega⟩
def wAt (a : Fin 4) (t : Fin cfg0.N) : Fin 8 := ⟨2 * a.val + t.val % 2, by omega⟩

theorem idx : ∀ t : Fin cfg0.N, win0_0.index t = ![t.val / 2, 0] ∧ win0_1.index t = ![t.val % 2, 0, 0] ∧ win0_2.index t = ![2 + t.val % 2, 0, 0]
    ∧ win0_3.index t = ![4 + t.val % 2, 0, 0] ∧ win0_4.index t = ![6 + t.val % 2, 0, 0] ∧ win0_5.index t = ![t.val / 2, t.val % 2]
    ∧ win0_6.index t = ![t.val / 2, t.val % 2] ∧ win0_7.index t = ![t.val / 2, t.val % 2] ∧ win0_8.index t = ![t.val / 2, t.val % 2] :=
  (by decide +kernel : ∀ t : Fin grid0.N, _)

/-- The activations, the gate's weight, the stream and the projected embedding. -/
abbrev Y (m : (ℓ : Loc nD τ sig) → Buf (Elt Ideal) ℓ) (c : Dev nD) (i : Fin 4096) (k : Fin 2048) : EReal := m ((c : Thread nD τ).loc main_arg0) (ix2 i k)
abbrev W (m : (ℓ : Loc nD τ sig) → Buf (Elt Ideal) ℓ) (c : Dev nD) (k : Fin 2048) (f : Fin 2048) : EReal := m ((c : Thread nD τ).loc main_arg1) (ix2 k f)
abbrev H (m : (ℓ : Loc nD τ sig) → Buf (Elt Ideal) ℓ) (c : Dev nD) (i : Fin 4096) (f : Fin 2048) : EReal := m ((c : Thread nD τ).loc main_arg2) (ix2 i f)
abbrev P (m : (ℓ : Loc nD τ sig) → Buf (Elt Ideal) ℓ) (c : Dev nD) (i : Fin 4096) (f : Fin 2048) : EReal := m ((c : Thread nD τ).loc main_arg3) (ix2 i f)

/-- The weight is gathered by quarter of its rows and half of its columns. -/
theorem host_w (a : Fin 4) (t : Fin cfg0.N) (k : Fin 512) (q : Fin 1024) : V m c main_v3 (ix3 (wAt a t) k q) = W m c (qr a k) (colAt t q) := by
  entry_read; pointwise
  refine congrArg (m _) (congrArg₂ ix2 (Fin.ext ?_) (Fin.ext ?_)) <;> simp only [wAt, part, colAt] <;> omega

theorem read0 (t : Fin cfg0.N) (r : Fin 1024) (k : Fin 2048) : iblk m c 0 t (ix2 r k) = Y m c (rowAt t r) k := by
  blk_point [iblk, rowAt, idx t]
theorem read1 (t : Fin cfg0.N) (k : Fin 512) (q : Fin 1024) : iblk m c 1 t (ix3 0 k q) = W m c (qr 0 k) (colAt t q) := by
  refine Eq.trans (b := V m c main_v3 (ix3 (wAt 0 t) k q)) ?_ (host_w 0 t k q)
  blk_point [iblk, wAt, idx t]
theorem read2 (t : Fin cfg0.N) (k : Fin 512) (q : Fin 1024) : iblk m c 2 t (ix3 0 k q) = W m c (qr 1 k) (colAt t q) := by
  refine Eq.trans (b := V m c main_v3 (ix3 (wAt 1 t) k q)) ?_ (host_w 1 t k q)
  blk_point [iblk, wAt, idx t]
theorem read3 (t : Fin cfg0.N) (k : Fin 512) (q : Fin 1024) : iblk m c 3 t (ix3 0 k q) = W m c (qr 2 k) (colAt t q) := by
  refine Eq.trans (b := V m c main_v3 (ix3 (wAt 2 t) k q)) ?_ (host_w 2 t k q)
  blk_point [iblk, wAt, idx t]
theorem read4 (t : Fin cfg0.N) (k : Fin 512) (q : Fin 1024) : iblk m c 4 t (ix3 0 k q) = W m c (qr 3 k) (colAt t q) := by
  refine Eq.trans (b := V m c main_v3 (ix3 (wAt 3 t) k q)) ?_ (host_w 3 t k q)
  blk_point [iblk, wAt, idx t]
theorem read5 (t : Fin cfg0.N) (r q : Fin 1024) : iblk m c 5 t (ix2 r q) = H m c (rowAt t r) (colAt t q) := by
  blk_point [iblk, rowAt, colAt, idx t]
theorem read6 (t : Fin cfg0.N) (r q : Fin 1024) : iblk m c 6 t (ix2 r q) = P m c (rowAt t r) (colAt t q) := by
  blk_point [iblk, rowAt, colAt, idx t]

/-- The gate, as the kernel writes it. -/
theorem sigma (x : EReal) : Ideal.ofBits .f32 0x3F000000#32 * Ideal.tanh (Ideal.ofBits .f32 0x3F000000#32 * x) + Ideal.ofBits .f32 0x3F000000#32 = Ideal.logistic x := by
  rw [lit_half, sigmoid_eq]

/-- The product's four parts, as the body adds them. -/
theorem dot_at (t : Fin cfg0.N) (r : Fin 1024) (f : Fin 2048) :
    (∑ k : Fin 512, Y m c (rowAt t r) ⟨k.val, by omega⟩ * W m c (qr 0 k) f) + (∑ k, Y m c (rowAt t r) (qr 1 k) * W m c (qr 1 k) f)
      + (∑ k, Y m c (rowAt t r) (qr 2 k) * W m c (qr 2 k) f) + (∑ k, Y m c (rowAt t r) (qr 3 k) * W m c (qr 3 k) f) = proj (Y m c) (W m c) (rowAt t r) f := by
  refine Eq.trans ?_ (sum_parts (n := 512) (by decide) fun k => Y m c (rowAt t r) k * W m c k f)
  refine congrArg (· + _ + _ + _) (Finset.sum_congr rfl fun k _ => ?_)
  exact congrArg (fun j => Y m c (rowAt t r) j * W m c (qr 0 k) f) (Fin.ext (Nat.zero_add _).symm)

/-- What a point leaves in the two results' tiles. -/
theorem out7 (t : Fin cfg0.N) (y : S1024x1024.Idx) : out0_7 (F := Ideal) (iblk m c 0 t) (iblk m c 1 t) (iblk m c 2 t) (iblk m c 3 t) (iblk m c 4 t) (iblk m c 5 t) (iblk m c 6 t) y = H m c (rowAt t (y 0)) (colAt t (y 1)) + Ideal.logistic (proj (Y m c) (W m c) (rowAt t (y 0)) (colAt t (y 1))) * P m c (rowAt t (y 0)) (colAt t (y 1)) := by
  frame_out [k0_pay16, k0_pay17, k0_pay18]
  canon_tiles x h
  all_goals
    idx_vars x
    idx_vars y
    obtain rfl : y0 = x0 := Fin.ext h0
    simp only [k0_pay1, k0_pay2, k0_pay3, k0_pay4, k0_pay5, k0_pay6, k0_pay7, k0_pay8, k0_pay9, k0_pay10, k0_pay11, k0_pay12, k0_pay13, k0_pay14, k0_pay15]
    pointwise
    obtain ⟨y1, hy⟩ := y1
    dsimp only at h1
    subst h1
    simp only [read0, read1, read2, read3, read4, read5, read6, sigma]
    exact congrArg (fun p => H m c _ _ + Ideal.logistic p * P m c _ _) (dot_at t y0 _)
theorem out8 (t : Fin cfg0.N) (y : S1024x1024.Idx) : out0_8 (F := Ideal) (iblk m c 0 t) (iblk m c 1 t) (iblk m c 2 t) (iblk m c 3 t) (iblk m c 4 t) (iblk m c 5 t) (iblk m c 6 t) y = proj (Y m c) (W m c) (rowAt t (y 0)) (colAt t (y 1)) := by
  frame_out [k0_pay16, k0_pay17, k0_pay18]
  canon_tiles x h
  all_goals
    idx_vars x
    idx_vars y
    obtain rfl : y0 = x0 := Fin.ext h0
    simp only [k0_pay1, k0_pay2, k0_pay3, k0_pay4, k0_pay5, k0_pay6, k0_pay7, k0_pay8, k0_pay9, k0_pay10, k0_pay11, k0_pay12, k0_pay13, k0_pay14, k0_pay15]
    pointwise
    obtain ⟨y1, hy⟩ := y1
    dsimp only at h1
    subst h1
    simp only [read0, read1, read2, read3, read4, read5, read6]
    exact dot_at t y0 _

/-- The two results: the gated stream, and the gate's product kept. -/
theorem arr7 : (dats m 0 c).arrAt 7 cfg0.N = fun y : S4096x2048.Idx => H m c (y 0) (y 1) + Ideal.logistic (proj (Y m c) (W m c) (y 0) (y 1)) * P m c (y 0) (y 1) := by
  refine (dats m 0 c).arrAt_eq_of_covers 7 _ (by decide +kernel) fun t hf y => ?_
  blk_simp
  have e : ∀ y : S1024x1024.Idx, ((View.whole main_v4_0).slice (win0_7.rect t)).emb y = ix2 (rowAt t (y 0)) (colAt t (y 1)) := fun y => by
    blk_ext [rowAt, colAt, idx t]
  rw [after0_7, e y]
  exact out7 t y
theorem arr8 : (dats m 0 c).arrAt 8 cfg0.N = fun y : S4096x2048.Idx => proj (Y m c) (W m c) (y 0) (y 1) := by
  refine (dats m 0 c).arrAt_eq_of_covers 8 _ (by decide +kernel) fun t hf y => ?_
  blk_simp
  have e : ∀ y : S1024x1024.Idx, ((View.whole main_v4_1).slice (win0_8.rect t)).emb y = ix2 (rowAt t (y 0)) (colAt t (y 1)) := fun y => by
    blk_ext [rowAt, colAt, idx t]
  rw [after0_8, e y]
  exact out8 t y

end Cert.Proof.PleF

end
-- ==== Proof.PleFClaims.lean ====
/- The embedding gate and the gated stream (`_ple_fwd`). -/
module

public import proofs.«01_k».proof.Defs
public import proofs.«01_k».proof.Proof.PleFArrays
public import proofs.«01_k».proof.Proof.Gen.PleFKernel.Frame
public import proofs.«01_k».proof.Proof.Gen.PleFReferenceIdeal.Run
public import proofs.«01_k».proof.Proof.Gen.PleFReferenceIdeal.Read

@[expose] public section

set_option maxRecDepth 16384

noncomputable section

namespace Cert.Proof.PleFClaims

section
open Idealize.ShloMosaic Cert.PleFReferenceIdeal Cert.PleFReferenceIdeal.Read Cert.Step Cert.Proof.PleF

variable (x0 : (⟨S4096x2048, .bf16⟩ : BufTy).Contents (Elt Ideal)) (x1 : (⟨S2048x2048, .f32⟩ : BufTy).Contents (Elt Ideal))
  (x2 : (⟨S4096x2048, .f32⟩ : BufTy).Contents (Elt Ideal)) (x3 : (⟨S4096x2048, .bf16⟩ : BufTy).Contents (Elt Ideal)) (i : Fin 4096) (f : Fin 2048)

/-- The reference's product, kept and through the gate. -/
theorem ref_dot : val_main_v1 (F := Ideal) x0 x1 (ix2 i f) = proj (fun i k => x0 (ix2 i k)) (fun k f => x1 (ix2 k f)) i f := by
  unfold val_main_v1 val_main_v0
  pointwise
  rfl
theorem ref_keep : val_main_v11 (F := Ideal) x0 x1 (ix2 i f) = proj (fun i k => x0 (ix2 i k)) (fun k f => x1 (ix2 k f)) i f := by
  unfold val_main_v11
  pointwise
  exact ref_dot x0 x1 i f
theorem ref_gate : val_main_v10 (F := Ideal) x0 x1 x2 x3 (ix2 i f)
    = x2 (ix2 i f) + Ideal.logistic (proj (fun i k => x0 (ix2 i k)) (fun k f => x1 (ix2 k f)) i f) * x3 (ix2 i f) := by
  unfold val_main_v10 val_main_v9 val_main_v8 val_main_v7 val_main_v6 val_main_cst_0 val_main_v5 val_main_v4 val_main_cst val_main_v3 val_main_v2
  pointwise
  rw [ref_dot]
  rfl

end

open Idealize.ShloMosaic Idealize.ShloMosaic.TcCoe Idealize.SL.Sem Cert.Step Cert.Proof.PleF

/-- The kernel's frame. -/
theorem frame_kernel : Cert.quiescent_PleFKernel := fun m ρ _ => Cert.PleFKernel.Gen.frame m ρ
/-- The idealized kernel's frame. -/
theorem frame_ideal : Cert.quiescent_PleFKernelIdeal := fun m ρ _ => Cert.PleFKernelIdeal.Gen.frame m ρ
/-- The reference's frame: its run leaves the arguments alone, and it has no semaphore. -/
theorem frame_reference : Cert.quiescent_PleFReferenceIdeal := fun m ρ _ =>
  (θ_run Cert.PleFReferenceIdeal.defs _ _).mono
    (fun r h => ⟨fun c => (h c).2.2, sem_eq_zero_of_no_sems (by decide) r.2⟩)
    (Cert.PleFReferenceIdeal.Value.run (F := Ideal) m ρ)
/-- The ideal pass rewrote nothing. -/
theorem preserves : Cert.preserves_PleFKernel_PleFKernelIdeal := trivial

/-- Both programs end with the same two arrays. -/
theorem algebraic : Cert.algebraic_PleFKernelIdeal_PleFReferenceIdeal := by
  intro m ρ m' ρ' _ hag
  refine ⟨fun c => _, fun c => _, Cert.PleFKernelIdeal.Value.run_blocks (F := Ideal) m ρ, ?_⟩
  refine (θ_run Cert.PleFReferenceIdeal.defs _ _).mono
    (fun _ h c => ?_) (Cert.PleFReferenceIdeal.Value.run (F := Ideal) m' ρ')
  obtain ⟨a0, a1, a2, a3⟩ := hag c
  refine ⟨(h c).1.trans ?_, (h c).2.1.trans ?_, (h c).2.2⟩
  · refine ((Cert.PleFReferenceIdeal.Read.val_main_v10_eq _ _ _ _).trans ?_).trans arr7.symm
    rw [a0, a1, a2, a3]
    funext j
    idx_vars j
    exact ref_gate _ _ _ _ j0 j1
  · refine ((Cert.PleFReferenceIdeal.Read.val_main_v11_eq _ _).trans ?_).trans arr8.symm
    rw [a0, a1]
    funext j
    idx_vars j
    exact ref_keep _ _ j0 j1

end Cert.Proof.PleFClaims

end
-- ==== Proof.Lib.Causal.lean ====
/- Causal taps over a column of extended reals, on the padded buffer and on the host's lengthened array. -/
module

public import proofs.«01_k».proof.Proof.Lib.Forward
public import proofs.«01_k».proof.Proof.Lib.Taps

@[expose] public section

noncomputable section

namespace Cert.Step

open Finset (range)

/-- A column below 32 rows of zeros (and above as many). -/
def padE (f : Fin 4096 → EReal) (p : ℕ) : EReal := if h : 32 ≤ p ∧ p - 32 < 4096 then f ⟨p - 32, h.2⟩ else 0

theorem padE_in (f : Fin 4096 → EReal) {s : ℕ} (h : s < 4096) : padE f (32 + s) = f ⟨s, h⟩ :=
  (dif_pos ⟨Nat.le_add_right _ _, by omega⟩).trans (congrArg f (Fin.ext (Nat.add_sub_cancel_left 32 s)))
theorem padE_out (f : Fin 4096 → EReal) {p : ℕ} (h : ¬(32 ≤ p ∧ p < 32 + 4096)) : padE f p = 0 := dif_neg (by omega)

/-- The host's array: `z` rows of zeros before the column. -/
theorem padE_host (f : Fin 4096 → EReal) {z p : ℕ} (hz : z ≤ 32) (hp : p < z + 4096) :
    padE f (32 - z + p) = if h : z ≤ p then f ⟨p - z, by omega⟩ else 0 := by
  split
  · next h => exact (dif_pos (show 32 ≤ 32 - z + p ∧ 32 - z + p - 32 < 4096 by omega)).trans (congrArg f (Fin.ext (by show 32 - z + p - 32 = p - z; omega)))
  · next h => exact dif_neg (by omega)

/-- A tap by its number. -/
def tap {K : ℕ} (W : Fin K → EReal) (k : ℕ) : EReal := if h : k < K then W ⟨k, h⟩ else 0
theorem tap_val {K : ℕ} (W : Fin K → EReal) {k : ℕ} (h : k < K) : tap W k = W ⟨k, h⟩ := dif_pos h

/-- The causal convolution at row `s`: tap `k` takes the row `K - 1 - k` before. -/
def conv {K : ℕ} (W : Fin K → EReal) (f : Fin 4096 → EReal) (s : ℕ) : EReal := ∑ k ∈ range K, tap W k * padE f (32 + s - (K - 1 - k))

end Cert.Step

end
-- ==== Proof.CfConvFBody.lean ====
/- What one column block of the gated causal convolution kernel leaves in its result block. -/
module

public import proofs.«01_k».proof.Proof.Gen.CfConvFKernelIdeal.Value
public import proofs.«01_k».proof.Proof.Lib.Causal
public import proofs.«01_k».proof.Proof.Lib.Loop
public import Idealize.ShloMosaic.Lib.Pipeline.ValueKit

@[expose] public section

set_option maxRecDepth 16384

noncomputable section

namespace Cert.Proof.CfConvF

open Idealize.ShloMosaic Idealize.ShloMosaic.TcCoe Idealize.SL.Sem Cert.CfConvFKernelIdeal Cert.CfConvFKernelIdeal.Gen Cert.Step
open Finset (range)

theorem trips1 : k0_t1_loop.trips = 32 := by decide +kernel
theorem trips2 : k0_t2_loop.trips = 32 := by decide +kernel
theorem off1 : ∀ k : Fin k0_t1_loop.trips, k0_off1 k = ![128 * k.val, 0] ∧ k0_off2 k = ![32 + 128 * k.val, 0] := by decide +kernel
theorem off2 : ∀ k : Fin k0_t2_loop.trips, k0_off3 k = ![128 * k.val, 0] ∧ k0_off4 k = ![0 + 128 * k.val, 0] := by decide +kernel

theorem pay1 (y : S4160x128.Idx) : k0_pay1 (F := Ideal) y = 0 := by
  idx_vars y
  unfold k0_pay1
  pointwise

/-- What the first loop stores of a row. -/
theorem pay2 (p q : Vec Ideal S128x128 .f32) (r d : Fin 128) : k0_pay2 (F := Ideal) p q (ix2 r d) = p (ix2 r d) * Ideal.logistic (q (ix2 r d)) := by
  unfold k0_pay2
  pointwise
  rw [lit_half, sigmoid_eq]

set_option maxHeartbeats 2000000 in  -- the whole chain of one chunk
/-- A chunk's result from the rows around it: the chain of shifted products. -/
theorem chunk (x : Vec Ideal S192x128 .f32) (u0 u1 u2 u3 u4 u5 u6 u7 u8 u9 u10 u11 u12 u13 u14 u15 u16 u17 u18 u19 u20 u21 u22 u23 u24 u25 u26 u27 u28 u29 u30 : Vec Ideal S1x128 .f32) (b : Vec Ideal S1x128 .f32) (r d : Fin 128) (X U : ℕ → EReal)
    (hx : ∀ n (h : n < 192), x (ix2 ⟨n, h⟩ d) = X n) (h0 : u0 (ix2 0 d) = U 0) (h1 : u1 (ix2 0 d) = U 1) (h2 : u2 (ix2 0 d) = U 2) (h3 : u3 (ix2 0 d) = U 3) (h4 : u4 (ix2 0 d) = U 4) (h5 : u5 (ix2 0 d) = U 5) (h6 : u6 (ix2 0 d) = U 6) (h7 : u7 (ix2 0 d) = U 7) (h8 : u8 (ix2 0 d) = U 8) (h9 : u9 (ix2 0 d) = U 9) (h10 : u10 (ix2 0 d) = U 10) (h11 : u11 (ix2 0 d) = U 11) (h12 : u12 (ix2 0 d) = U 12) (h13 : u13 (ix2 0 d) = U 13) (h14 : u14 (ix2 0 d) = U 14) (h15 : u15 (ix2 0 d) = U 15) (h16 : u16 (ix2 0 d) = U 16) (h17 : u17 (ix2 0 d) = U 17) (h18 : u18 (ix2 0 d) = U 18) (h19 : u19 (ix2 0 d) = U 19) (h20 : u20 (ix2 0 d) = U 20) (h21 : u21 (ix2 0 d) = U 21) (h22 : u22 (ix2 0 d) = U 22) (h23 : u23 (ix2 0 d) = U 23) (h24 : u24 (ix2 0 d) = U 24) (h25 : u25 (ix2 0 d) = U 25) (h26 : u26 (ix2 0 d) = U 26) (h27 : u27 (ix2 0 d) = U 27) (h28 : u28 (ix2 0 d) = U 28) (h29 : u29 (ix2 0 d) = U 29) (h30 : u30 (ix2 0 d) = U 30) :
    k0_pay9 (F := Ideal) x (k0_pay7 x (k0_pay6 x (k0_pay5 x (k0_pay3 x u0 u1 u2 u3 u4) u5 (k0_pay4 x) u6 u7 u8 u9 u10 u11) u12 u13 u14 u15 u16 u17 u18) u19 u20 u21 u22 u23 u24) u25 (k0_pay8 x) u26 u27 u28 u29 u30 b (ix2 r d)
      = (∑ k ∈ range 31, U k * X (32 + r.val - (30 - k))) + b (ix2 0 d) := by
  unfold k0_pay9 k0_pay8 k0_pay7 k0_pay6 k0_pay5 k0_pay4 k0_pay3
  pointwise
  have hr := r.isLt
  simp (disch := omega) only [rot_back]
  simp only [hx _ _, h0, h1, h2, h3, h4, h5, h6, h7, h8, h9, h10, h11, h12, h13, h14, h15, h16, h17, h18, h19, h20, h21, h22, h23, h24, h25, h26, h27, h28, h29, h30, Finset.sum_range_succ, Finset.range_zero, Finset.sum_empty, zero_add, Nat.reduceSub, Nat.sub_zero]

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S31x128 .f32} {harg3 : arg3.IsWhole} {arg4 : Memref sig .tc .vmem S1x128 .f32} {harg4 : arg4.IsWhole} {arg5 : Memref sig .tc .vmem S4096x128 .f32} {harg5 : arg5.IsWhole} {arg6 : Memref sig .tc .vmem S4160x128 .f32} {harg6 : arg6.IsWhole}

/-- The piece one trip of the first loop stores. -/
theorem trip1 (X1 : BufTy.Contents (Elt Ideal) arg1.view.ty) (X2 : BufTy.Contents (Elt Ideal) arg2.view.ty) (k : Fin k0_t1_loop.trips) :
    tripL_k0_t1 (F := Ideal) Variants.none c none i arg1 harg1 arg2 harg2 arg3 harg3 arg4 harg4 arg5 harg5 arg6 harg6 X1 X2 k
      = [⟨Rect.unit (k0_off2 k) S128x128.size (k0_off2_inb k), k0_pay2 (F := Ideal) (arg1.view.readAt (Elt Ideal) (Rect.unit (s := S4096x128) (k0_off1 k) S128x128.size (k0_off1_inb k)).toLoadRect X1) (arg2.view.readAt (Elt Ideal) (Rect.unit (s := S4096x128) (k0_off1 k) S128x128.size (k0_off1_inb k)).toLoadRect X2)⟩] := by
  unfold tripL_k0_t1 trip_k0_t1
  rfl

/-- The window of the padded buffer one trip reads. -/
abbrev window (X6 : BufTy.Contents (Elt Ideal) arg6.view.ty) (k : Fin k0_t2_loop.trips) : Vec Ideal S192x128 .f32 :=
  arg6.view.readAt (Elt Ideal) (Rect.unit (s := S4160x128) (k0_off3 k) S192x128.size (k0_off3_inb k)).toLoadRect X6

/-- One row of the taps as it is read. -/
abbrev tapped (X3 : BufTy.Contents (Elt Ideal) arg3.view.ty) (j : ℕ) (inb : ∀ a : Fin 2, (![j, 0] : Fin 2 → ℕ) a + S1x128.size a ≤ S31x128.size a) : Vec Ideal S1x128 .f32 :=
  arg3.view.readAt (Elt Ideal) (Rect.unit (s := S31x128) ![j, 0] S1x128.size inb).toLoadRect X3

/-- The piece one trip of the second loop stores. -/
theorem trip2 (X3 : BufTy.Contents (Elt Ideal) arg3.view.ty) (X4 : BufTy.Contents (Elt Ideal) arg4.view.ty) (X6 : BufTy.Contents (Elt Ideal) arg6.view.ty) (k : Fin k0_t2_loop.trips) :
    tripL_k0_t2 (F := Ideal) Variants.none c none i arg1 harg1 arg2 harg2 arg3 harg3 arg4 harg4 arg5 harg5 arg6 harg6 X3 X4 X6 k
      = [⟨Rect.unit (k0_off4 k) S128x128.size (k0_off4_inb k), k0_pay9 (F := Ideal) (window X6 k) (k0_pay7 (window X6 k) (k0_pay6 (window X6 k) (k0_pay5 (window X6 k) (k0_pay3 (window X6 k) (tapped X3 0 inb_S31x128_S1x128_0_0) (tapped X3 1 inb_S31x128_S1x128_1_0) (tapped X3 2 inb_S31x128_S1x128_2_0) (tapped X3 3 inb_S31x128_S1x128_3_0) (tapped X3 4 inb_S31x128_S1x128_4_0)) (tapped X3 5 inb_S31x128_S1x128_5_0) (k0_pay4 (window X6 k)) (tapped X3 6 inb_S31x128_S1x128_6_0) (tapped X3 7 inb_S31x128_S1x128_7_0) (tapped X3 8 inb_S31x128_S1x128_8_0) (tapped X3 9 inb_S31x128_S1x128_9_0) (tapped X3 10 inb_S31x128_S1x128_10_0) (tapped X3 11 inb_S31x128_S1x128_11_0)) (tapped X3 12 inb_S31x128_S1x128_12_0) (tapped X3 13 inb_S31x128_S1x128_13_0) (tapped X3 14 inb_S31x128_S1x128_14_0) (tapped X3 15 inb_S31x128_S1x128_15_0) (tapped X3 16 inb_S31x128_S1x128_16_0) (tapped X3 17 inb_S31x128_S1x128_17_0) (tapped X3 18 inb_S31x128_S1x128_18_0)) (tapped X3 19 inb_S31x128_S1x128_19_0) (tapped X3 20 inb_S31x128_S1x128_20_0) (tapped X3 21 inb_S31x128_S1x128_21_0) (tapped X3 22 inb_S31x128_S1x128_22_0) (tapped X3 23 inb_S31x128_S1x128_23_0) (tapped X3 24 inb_S31x128_S1x128_24_0)) (tapped X3 25 inb_S31x128_S1x128_25_0) (k0_pay8 (window X6 k)) (tapped X3 26 inb_S31x128_S1x128_26_0) (tapped X3 27 inb_S31x128_S1x128_27_0) (tapped X3 28 inb_S31x128_S1x128_28_0) (tapped X3 29 inb_S31x128_S1x128_29_0) (tapped X3 30 inb_S31x128_S1x128_30_0) (arg4.view.readAt (Elt Ideal) (Rect.unit (s := S1x128) ![0, 0] S1x128.size inb_S1x128_S1x128_0_0).toLoadRect X4)⟩] := by
  unfold tripL_k0_t2 trip_k0_t2
  rfl

variable {x0 : Vec Ideal S4096x128 .f32} {x1 : Vec Ideal S4096x128 .f32} {x2 : Vec Ideal S31x128 .f32} {x3 : Vec Ideal S1x128 .f32} {A G : Fin 4096 → Fin 128 → EReal}

/-- The convolution's input. -/
def gated (A G : Fin 4096 → Fin 128 → EReal) (s : Fin 4096) (d : Fin 128) : EReal := A s d * Ideal.logistic (G s d)

local notation "pieces₁" => pb_k0_t1 (F := Ideal) Variants.none c none i arg1 harg1 arg2 harg2 arg3 harg3 arg4 harg4 arg5 harg5 arg6 harg6 (harg1.unread x0) (harg2.unread x1)

/-- After the first loop the padded buffer holds the convolution's input, below 32 rows of zeros. -/
theorem loop1 (hA : ∀ s d, x0 (ix2 s d) = A s d) (hG : ∀ s d, x1 (ix2 s d) = G s d) :
    View.canon (pieces₁ 32 ++ kernelRun0_A.sl.HS0_1) = fun y : S4160x128.Idx => padE (fun s => gated A G s (y 1)) (y 0).val := by
  have hz : View.canon (kernelRun0_A.sl.HS0_1 (F := Ideal)) = fun _ : S4160x128.Idx => 0 :=
    (View.canon_cons_unit_lit _ _ _ (by decide)).trans (funext pay1)
  refine funext fun y => ((canon_bands (o := 32) (R := 128) (n := 32) (fun y : S4160x128.Idx => padE (fun s => gated A G s (y 1)) (y 0).val)
    (pieces₁) kernelRun0_A.sl.HS0_1 rfl (fun k hk => ?_) 32 le_rfl y)).trans ?_
  · have hk' : k < k0_t1_loop.trips := hk.trans_eq trips1.symm
    refine ⟨k0_off2 ⟨k, hk'⟩, k0_off2_inb ⟨k, hk'⟩, _, (pb_k0_t1_succ _ _ _ _ _ _ _ _ _ _ _ _ _ _ _ _ _ _ ⟨k, hk'⟩).trans (congrArg (· ++ _) (trip1 _ _ ⟨k, hk'⟩)), (off1 ⟨k, hk'⟩).2, fun r d h => ?_⟩
    have hb : 128 * k + r.val < 4096 := by have := r.isLt; omega
    have band : ∀ x : Vec Ideal S4096x128 .f32, x ((Rect.unit (s := S4096x128) (k0_off1 ⟨k, hk'⟩) S128x128.size (k0_off1_inb ⟨k, hk'⟩)).toLoadRect.idx (ix2 r d)) = x (ix2 ⟨128 * k + r.val, hb⟩ d) := fun x =>
      congrArg x (idx_band (off1 ⟨k, hk'⟩).1 _ r d hb)
    refine (pay2 _ _ r d).trans ?_
    show _ = padE (fun s => gated A G s d) (32 + 128 * k + r.val)
    rw [Nat.add_assoc, padE_in _ hb]
    have ea := ((congrFun (Memref.IsWhole.read_unread harg1 x0) _).trans (band x0)).trans (hA _ _)
    have eg := ((congrFun (Memref.IsWhole.read_unread harg2 x1) _).trans (band x1)).trans (hG _ _)
    exact congrArg₂ (fun a g : EReal => a * Ideal.logistic g) ea eg
  · rw [hz]
    split
    · rfl
    · next h => exact (padE_out (fun s => gated A G s (y 1)) (by omega)).symm

variable {w : Fin 31 → Fin 128 → EReal} {X6 : BufTy.Contents (Elt Ideal) arg6.view.ty}

/-- One row of the taps. -/
theorem tapRow (hW : ∀ j d, x2 (ix2 j d) = w j d) (j : ℕ) (hj : j < 31) (inb : ∀ a : Fin 2, (![j, 0] : Fin 2 → ℕ) a + S1x128.size a ≤ S31x128.size a) (d : Fin 128) :
    arg3.view.readAt (Elt Ideal) (Rect.unit (s := S31x128) ![j, 0] S1x128.size inb).toLoadRect (harg3.unread x2) (ix2 0 d) = tap (fun j => w j d) j :=
  (congrFun (Memref.IsWhole.read_unread harg3 x2) _).trans ((congrArg x2 (idx_band (o := j) rfl inb 0 d hj)).trans ((hW ⟨j, hj⟩ d).trans (tap_val (fun j => w j d) hj).symm))

local notation "pieces₂" => pb_k0_t2 (F := Ideal) Variants.none c none i arg1 harg1 arg2 harg2 arg3 harg3 arg4 harg4 arg5 harg5 arg6 harg6 (harg3.unread x2) (harg4.unread x3)

/-- What the second loop stores. -/
theorem loop2 (hX : arg6.view.read (Elt Ideal) X6 = fun y : S4160x128.Idx => padE (fun s => gated A G s (y 1)) (y 0).val) (hW : ∀ j d, x2 (ix2 j d) = w j d) (y : S4096x128.Idx) :
    View.canon (pieces₂ X6 32) y = conv (fun j => w j (y 1)) (fun s => gated A G s (y 1)) (y 0).val + x3 (ix2 0 (y 1)) := by
  have hh := canon_bands (Val := Elt Ideal) (e := .f32) (o := 0) (R := 128) (n := 32) (fun y : S4096x128.Idx => conv (fun j => w j (y 1)) (fun s => gated A G s (y 1)) (y 0).val + x3 (ix2 0 (y 1)))
    (pieces₂ X6) [] rfl (fun k hk => ?_) 32 le_rfl y
  · rw [List.append_nil] at hh
    refine hh.trans (if_pos ⟨Nat.zero_le _, ?_⟩)
    have : (y 0).val < 4096 := (y 0).isLt
    omega
  · have hk' : k < k0_t2_loop.trips := hk.trans_eq trips2.symm
    refine ⟨k0_off4 ⟨k, hk'⟩, k0_off4_inb ⟨k, hk'⟩, _, (pb_k0_t2_succ _ _ _ _ _ _ _ _ _ _ _ _ _ _ _ _ _ _ _ ⟨k, hk'⟩).trans (congrArg (· ++ _) (trip2 _ _ _ ⟨k, hk'⟩)), (off2 ⟨k, hk'⟩).2, fun r d h => ?_⟩
    have t := fun j hj inb => tapRow (harg3 := harg3) hW j hj inb d
    refine (chunk _ _ _ _ _ _ _ _ _ _ _ _ _ _ _ _ _ _ _ _ _ _ _ _ _ _ _ _ _ _ _ _ _ r d (fun n => padE (fun s => gated A G s d) (128 * k + n)) (tap fun j => w j d) (fun n hn => ?_)
      (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _) (t _ (by decide) _)).trans ?_
    · exact (congrFun hX _).trans (congrArg (fun y : S4160x128.Idx => padE (fun s => gated A G s (y 1)) (y 0).val)
        (idx_band (off2 ⟨k, hk'⟩).1 (k0_off3_inb ⟨k, hk'⟩) (⟨n, hn⟩ : Fin 192) d (by show 128 * k + n < 4160; omega)))
    have eb := (congrFun (Memref.IsWhole.read_unread harg4 x3) _).trans (congrArg x3 (idx_band (o := 0) rfl inb_S1x128_S1x128_0_0 0 d (by decide)))
    refine congrArg₂ (fun s b : EReal => s + b) (Finset.sum_congr rfl fun j hj => ?_) eb
    have hj' := Finset.mem_range.mp hj
    exact congrArg (fun n => tap (fun j => w j d) j * padE (fun s => gated A G s d) n) (by show 128 * k + (32 + r.val - (30 - j)) = 32 + (0 + 128 * k + r.val) - (31 - 1 - j); omega)

/-- One column block's result. -/
theorem out (hA : ∀ s d, x0 (ix2 s d) = A s d) (hG : ∀ s d, x1 (ix2 s d) = G s d) (hW : ∀ j d, x2 (ix2 j d) = w j d) (y : S4096x128.Idx) :
    out0_A_4 (F := Ideal) c i arg1 harg1 arg2 harg2 arg3 harg3 arg4 harg4 arg5 harg5 arg6 harg6 x0 x1 x2 x3 y = conv (fun j => w j (y 1)) (fun s => gated A G s (y 1)) (y 0).val + x3 (ix2 0 (y 1)) := by
  unfold out0_A_4 kernelRun0_A
  dsimp only
  refine (congrFun (View.read_writes_junk_eq_canon _ _) y).trans ?_
  exact loop2 ((View.read_writes_junk_eq_canon _ _).trans (loop1 hA hG)) hW y

end Cert.Proof.CfConvF

end
-- ==== Proof.CfConvFArrays.lean ====
/- What the gated causal convolution kernel leaves in its result array. -/
module

public import proofs.«01_k».proof.Proof.CfConvFBody

@[expose] public section

set_option maxRecDepth 16384

noncomputable section

namespace Cert.Proof.CfConvF

open Idealize.ShloMosaic Idealize.ShloMosaic.TcCoe Idealize.SL.Sem Cert.CfConvFKernelIdeal Cert.CfConvFKernelIdeal.Gen Cert.Step

variable {m : (ℓ : Loc nD τ sig) → Buf (Elt Ideal) ℓ} {c : Dev nD}

/-- The columns of the projection that feed column `k`. -/
def acol (k : Fin 512) : Fin 4096 := ⟨2560 + k.val, by omega⟩
def gcol (k : Fin 512) : Fin 4096 := ⟨3072 + k.val, by omega⟩

/-- The column a grid point's block column is. -/
def col (t : Fin cfg0.N) (d : Fin 128) : Fin 512 := ⟨t.val * 128 + d.val, by have := lt_of_lt_of_eq t.isLt N_0; have := d.isLt; omega⟩

theorem idx : ∀ t : Fin cfg0.N, win0_0.index t = ![0, 20 + t.val] ∧ win0_1.index t = ![0, 24 + t.val] ∧ win0_2.index t = ![0, t.val] ∧ win0_3.index t = ![0, t.val] ∧ win0_4.index t = ![0, t.val] :=
  (by decide +kernel : ∀ t : Fin grid0.N, _)

/-- The projection and the taps, and the bias. -/
abbrev Z (m : (ℓ : Loc nD τ sig) → Buf (Elt Ideal) ℓ) (c : Dev nD) (s k : Fin 4096) : EReal := m ((c : Thread nD τ).loc main_arg0) (ix2 s k)
abbrev Taps (m : (ℓ : Loc nD τ sig) → Buf (Elt Ideal) ℓ) (c : Dev nD) (j : Fin 31) (k : Fin 512) : EReal := m ((c : Thread nD τ).loc main_arg1) (ix2 j k)
abbrev Bias (m : (ℓ : Loc nD τ sig) → Buf (Elt Ideal) ℓ) (c : Dev nD) (k : Fin 512) : EReal := m ((c : Thread nD τ).loc main_arg2) (ix1 k)

theorem read0 (t : Fin cfg0.N) (s : Fin 4096) (d : Fin 128) : iblk m c 0 t (ix2 s d) = Z m c s (acol (col t d)) := by
  blk_point [iblk, acol, col, idx t]
theorem read1 (t : Fin cfg0.N) (s : Fin 4096) (d : Fin 128) : iblk m c 1 t (ix2 s d) = Z m c s (gcol (col t d)) := by
  blk_point [iblk, gcol, col, idx t]
theorem read2 (t : Fin cfg0.N) (j : Fin 31) (d : Fin 128) : iblk m c 2 t (ix2 j d) = Taps m c j (col t d) := by
  blk_point [iblk, col, idx t]
theorem host_b (k : Fin 512) : V m c main_v0 (ix2 0 k) = Bias m c k := by
  entry_read; pointwise
theorem read3 (t : Fin cfg0.N) (d : Fin 128) : iblk m c 3 t (ix2 0 d) = Bias m c (col t d) := by
  refine Eq.trans (b := V m c main_v0 (ix2 0 (col t d))) ?_ (host_b (col t d))
  blk_point [iblk, col, idx t]

/-- The result at row `s`, column `k`. -/
def entry (Z : Fin 4096 → Fin 4096 → EReal) (W : Fin 31 → Fin 512 → EReal) (B : Fin 512 → EReal) (s : Fin 4096) (k : Fin 512) : EReal := conv (fun j => W j k) (fun s => Z s (acol k) * Ideal.logistic (Z s (gcol k))) s.val + B k

/-- The result array. -/
theorem arr4 : (dats m 0 c).arrAt 4 cfg0.N = fun y : S4096x512.Idx => entry (Z m c) (Taps m c) (Bias m c) (y 0) (y 1) := by
  refine (dats m 0 c).arrAt_eq_of_covers 4 _ (by decide +kernel) fun t hf y => ?_
  blk_simp
  have e : ((View.whole main_v1).slice (win0_4.rect t)).emb y = ix2 (y 0) (col t (y 1)) := by
    blk_ext [col, idx t]
  rw [after0_4, e]
  idx_vars y
  refine (out (A := fun s d => Z m c s (acol (col t d))) (G := fun s d => Z m c s (gcol (col t d))) (w := fun j d => Taps m c j (col t d)) (read0 t) (read1 t) (read2 t) (ix2 y0 y1)).trans ?_
  exact congrArg (conv (fun j => Taps m c j (col t y1)) (fun s => Z m c s (acol (col t y1)) * Ideal.logistic (Z m c s (gcol (col t y1)))) y0.val + ·) (read3 t y1)

end Cert.Proof.CfConvF

end
-- ==== Proof.CfConvFClaims.lean ====
/- The gated causal convolution (`_conformer_conv_fwd`). -/
module

public import proofs.«01_k».proof.Defs
public import proofs.«01_k».proof.Proof.CfConvFArrays
public import proofs.«01_k».proof.Proof.Lib.Folds
public import proofs.«01_k».proof.Proof.Gen.CfConvFKernel.Frame
public import proofs.«01_k».proof.Proof.Gen.CfConvFReferenceIdeal.Run
public import proofs.«01_k».proof.Proof.Gen.CfConvFReferenceIdeal.Read

@[expose] public section

set_option maxRecDepth 16384

noncomputable section

namespace Cert.Proof.CfConvFClaims

section
open Idealize.ShloMosaic Cert.CfConvFReferenceIdeal Cert.CfConvFReferenceIdeal.Read Cert.Step Cert.Proof.CfConvF
open Finset (range)

variable (x0 : (⟨S4096x4096, .f32⟩ : BufTy).Contents (Elt Ideal)) (x1 : (⟨S31x512, .f32⟩ : BufTy).Contents (Elt Ideal))

/-- The convolution's input. -/
def input (k : Fin 512) : Fin 4096 → EReal := fun s => x0 (ix2 s (acol k)) * Ideal.logistic (x0 (ix2 s (gcol k)))
theorem ref_input (s : Fin 4096) (k : Fin 512) : val_main_v9 (F := Ideal) x0 (ix2 s k) = input x0 k s := by
  unfold val_main_v9 val_main_v8 val_main_v7 val_main_cst_0 val_main_v6 val_main_v5 val_main_cst val_main_v4 val_main_v3 val_main_v2 val_main_v1 val_main_v0
  pointwise
  refine congrArg₂ (fun a g : EReal => a * Ideal.logistic g) (congrArg x0 ?_) (congrArg x0 ?_) <;>
    exact congrArg₂ ix2 (Fin.ext (by simp)) (Fin.ext (by simp only [acol, gcol] <;> omega))

/-- The array the reference cuts its shifted copies from. -/
theorem ref_rows (p : Fin 4126) (k : Fin 512) : val_main_v11 (F := Ideal) x0 (ix2 p k) = padE (input x0 k) (32 - 30 + p.val) := by
  rw [padE_host _ (by decide) (by have := p.isLt; omega)]
  unfold val_main_v11 val_main_v10 val_main_cst_1
  pointwise
  by_cases h : p.val < 30
  · rw [dif_pos h, dif_neg (by omega)]
  · rw [dif_neg h, dif_pos (by omega)]
    exact ref_input x0 _ k

/-- Every tap's slices lie within bounds. -/
theorem cuts : ∀ J : Fin 31, S4126x512.Slices ![J.val, 0] S4096x512 := by decide
theorem tapCuts : ∀ J : Fin 31, S31x512.Slices ![J.val, 0] S1x512 := by decide

section
open Cert.CfConvFReferenceIdeal.Gen
/-- One tap's product, as the reference makes it: the tap's row repeated, times the rows it reaches. -/
def product (J : Fin 31) : FVec Ideal S4096x512 .f32 :=
  mulf (F := Ideal) (φ := .f32) (broadcastInDim (s := S1x512) (α := Elt Ideal .f32) S4096x512 ![0, 1] bcast_S1x512_S4096x512_0_1 (broadcastInDim (s := S512) (α := Elt Ideal .f32) S1x512 ![1] bcast_S512_S1x512_1
    (shapeCast S512 (extractStridedSlice S1x512 ![J.val, 0] x1 (tapCuts J)) shapeCasts_S1x512_S512))) (extractStridedSlice S4096x512 ![J.val, 0] (val_main_v11 (F := Ideal) x0) (cuts J))
end

theorem product_at (J : Fin 31) (s : Fin 4096) (k : Fin 512) : product x0 x1 J (ix2 s k) = tap (fun j => x1 (ix2 j k)) J.val * padE (input x0 k) (32 + s.val - (31 - 1 - J.val)) := by
  unfold product
  pointwise
  rw [tap_val _ J.isLt]
  refine congrArg (fun u => x1 (ix2 J k) * u) ((ref_rows x0 _ k).trans (congrArg (padE (input x0 k)) ?_))
  show 32 - 30 + (J.val + s.val) = 32 + s.val - (31 - 1 - J.val)
  omega

/-- The reference's sum over the taps. -/
theorem ref_conv (s : Fin 4096) (k : Fin 512) : val_main_v229 (F := Ideal) x0 x1 (ix2 s k) = conv (fun j => x1 (ix2 j k)) (input x0 k) s.val := by
  refine (congrFun (show val_main_v229 (F := Ideal) x0 x1 = addAll (product x0 x1) (val_main_v18 (F := Ideal)) up31 from rfl) _).trans ((addAll_at _ _ _ _).trans ?_)
  have h0 : val_main_v18 (F := Ideal) (ix2 s k) = 0 := by
    unfold val_main_v18 val_main_cst_2
    pointwise
  rw [h0, zero_add, up31_sum, Finset.sum_congr rfl fun J _ => product_at x0 x1 J s k]
  exact Fin.sum_univ_eq_sum_range (fun J => tap (fun j => x1 (ix2 j k)) J * padE (input x0 k) (32 + s.val - (31 - 1 - J))) 31

/-- The reference's result. -/
theorem ref_out (x2 : (⟨S512, .f32⟩ : BufTy).Contents (Elt Ideal)) (s : Fin 4096) (k : Fin 512) :
    val_main_v232 (F := Ideal) x0 x1 x2 (ix2 s k) = entry (fun s k => x0 (ix2 s k)) (fun j k => x1 (ix2 j k)) (fun k => x2 (ix1 k)) s k := by
  unfold val_main_v232 val_main_v231 val_main_v230
  pointwise
  exact congrArg (· + x2 (ix1 k)) (ref_conv x0 x1 s k)

end

open Idealize.ShloMosaic Idealize.ShloMosaic.TcCoe Idealize.SL.Sem Cert.Step Cert.Proof.CfConvF

/-- The kernel's frame. -/
theorem frame_kernel : Cert.quiescent_CfConvFKernel := fun m ρ _ => Cert.CfConvFKernel.Gen.frame m ρ
/-- The idealized kernel's frame. -/
theorem frame_ideal : Cert.quiescent_CfConvFKernelIdeal := fun m ρ _ => Cert.CfConvFKernelIdeal.Gen.frame m ρ
/-- The reference's frame: its run leaves the arguments alone, and it has no semaphore. -/
theorem frame_reference : Cert.quiescent_CfConvFReferenceIdeal := fun m ρ _ =>
  (θ_run Cert.CfConvFReferenceIdeal.defs _ _).mono
    (fun r h => ⟨fun c => (h c).2, sem_eq_zero_of_no_sems (by decide) r.2⟩)
    (Cert.CfConvFReferenceIdeal.Value.run (F := Ideal) m ρ)
/-- The ideal pass rewrote nothing. -/
theorem preserves : Cert.preserves_CfConvFKernel_CfConvFKernelIdeal := trivial

/-- Both programs end with the same array. -/
theorem algebraic : Cert.algebraic_CfConvFKernelIdeal_CfConvFReferenceIdeal := by
  intro m ρ m' ρ' _ hag
  refine ⟨fun c => _, Cert.CfConvFKernelIdeal.Value.run_blocks (F := Ideal) m ρ, ?_⟩
  refine (θ_run Cert.CfConvFReferenceIdeal.defs _ _).mono
    (fun _ h c => ?_) (Cert.CfConvFReferenceIdeal.Value.run (F := Ideal) m' ρ')
  obtain ⟨a0, a1, a2⟩ := hag c
  refine ⟨(h c).1.trans ?_, (h c).2⟩
  refine ((Cert.CfConvFReferenceIdeal.Read.val_main_v232_eq (StableHlo.launchContents m' c)).trans ?_).trans arr4.symm
  dsimp only [StableHlo.launchContents]
  rw [a0, a1, a2]
  funext j
  idx_vars j
  exact ref_out _ _ _ j0 j1

end Cert.Proof.CfConvFClaims

end
-- ==== Proof.ShortFBody.lean ====
/- What one column block of the short gated convolution kernel leaves in its result block. -/
module

public import proofs.«01_k».proof.Proof.Gen.ShortFKernelIdeal.Value
public import proofs.«01_k».proof.Proof.Lib.Causal
public import proofs.«01_k».proof.Proof.Lib.Loop
public import Idealize.ShloMosaic.Lib.Pipeline.ValueKit

@[expose] public section

set_option maxRecDepth 16384

noncomputable section

namespace Cert.Proof.ShortF

open Idealize.ShloMosaic Idealize.ShloMosaic.TcCoe Idealize.SL.Sem Cert.ShortFKernelIdeal Cert.ShortFKernelIdeal.Gen Cert.Step
open Finset (range)

theorem trips1 : k0_t1_loop.trips = 32 := by decide +kernel
theorem trips2 : k0_t2_loop.trips = 32 := by decide +kernel
theorem off1 : ∀ k : Fin k0_t1_loop.trips, k0_off1 k = ![128 * k.val, 0] ∧ k0_off2 k = ![32 + 128 * k.val, 0] := by decide +kernel
theorem off2 : ∀ k : Fin k0_t2_loop.trips, k0_off3 k = ![128 * k.val, 0] ∧ k0_off4 k = ![0 + 128 * k.val, 0] := by decide +kernel

theorem pay1 (y : S4160x128.Idx) : k0_pay1 (F := Ideal) y = 0 := by
  idx_vars y
  unfold k0_pay1
  pointwise

/-- What the first loop stores of a row. -/
theorem pay2 (p q : Vec Ideal S128x128 .f32) (r d : Fin 128) : k0_pay2 (F := Ideal) p q (ix2 r d) = p (ix2 r d) * q (ix2 r d) := by
  unfold k0_pay2
  pointwise

set_option maxHeartbeats 2000000 in  -- the whole chain of one chunk
/-- A chunk's result from the rows around it: the chain of shifted products. -/
theorem chunk (x : Vec Ideal S192x128 .f32) (u0 u1 u2 : Vec Ideal S1x128 .f32) (b : Vec Ideal S128x128 .f32) (r d : Fin 128) (X U : ℕ → EReal)
    (hx : ∀ n (h : n < 192), x (ix2 ⟨n, h⟩ d) = X n) (h0 : u0 (ix2 0 d) = U 0) (h1 : u1 (ix2 0 d) = U 1) (h2 : u2 (ix2 0 d) = U 2) :
    k0_pay3 (F := Ideal) x u0 u1 u2 b (ix2 r d)
      = b (ix2 r d) * (∑ k ∈ range 3, U k * X (32 + r.val - (2 - k))) := by
  unfold k0_pay3
  pointwise
  have hr := r.isLt
  simp (disch := omega) only [rot_back]
  simp only [hx _ _, h0, h1, h2, Finset.sum_range_succ, Finset.range_zero, Finset.sum_empty, zero_add, Nat.reduceSub, Nat.sub_zero]

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S4096x128 .f32} {harg3 : arg3.IsWhole} {arg4 : Memref sig .tc .vmem S3x128 .f32} {harg4 : arg4.IsWhole} {arg5 : Memref sig .tc .vmem S4096x128 .bf16} {harg5 : arg5.IsWhole} {arg6 : Memref sig .tc .vmem S4160x128 .f32} {harg6 : arg6.IsWhole}

/-- The pieces one trip of each loop stores. -/
theorem trip1 (X1 : BufTy.Contents (Elt Ideal) arg1.view.ty) (X3 : BufTy.Contents (Elt Ideal) arg3.view.ty) (k : Fin k0_t1_loop.trips) :
    tripL_k0_t1 (F := Ideal) Variants.none c none i arg1 harg1 arg2 harg2 arg3 harg3 arg4 harg4 arg5 harg5 arg6 harg6 X1 X3 k
      = [⟨Rect.unit (k0_off2 k) S128x128.size (k0_off2_inb k), k0_pay2 (F := Ideal) (arg3.view.readAt (Elt Ideal) (Rect.unit (s := S4096x128) (k0_off1 k) S128x128.size (k0_off1_inb k)).toLoadRect X3) (arg1.view.readAt (Elt Ideal) (Rect.unit (s := S4096x128) (k0_off1 k) S128x128.size (k0_off1_inb k)).toLoadRect X1)⟩] := by
  unfold tripL_k0_t1 trip_k0_t1
  rfl
theorem trip2 (X2 : BufTy.Contents (Elt Ideal) arg2.view.ty) (X4 : BufTy.Contents (Elt Ideal) arg4.view.ty) (X6 : BufTy.Contents (Elt Ideal) arg6.view.ty) (k : Fin k0_t2_loop.trips) :
    tripL_k0_t2 (F := Ideal) Variants.none c none i arg1 harg1 arg2 harg2 arg3 harg3 arg4 harg4 arg5 harg5 arg6 harg6 X2 X4 X6 k
      = [⟨Rect.unit (k0_off4 k) S128x128.size (k0_off4_inb k), k0_pay3 (F := Ideal) (arg6.view.readAt (Elt Ideal) (Rect.unit (s := S4160x128) (k0_off3 k) S192x128.size (k0_off3_inb k)).toLoadRect X6) (arg4.view.readAt (Elt Ideal) (Rect.unit (s := S3x128) ![0, 0] S1x128.size inb_S3x128_S1x128_0_0).toLoadRect X4) (arg4.view.readAt (Elt Ideal) (Rect.unit (s := S3x128) ![1, 0] S1x128.size inb_S3x128_S1x128_1_0).toLoadRect X4) (arg4.view.readAt (Elt Ideal) (Rect.unit (s := S3x128) ![2, 0] S1x128.size inb_S3x128_S1x128_2_0).toLoadRect X4) (arg2.view.readAt (Elt Ideal) (Rect.unit (s := S4096x128) (k0_off4 k) S128x128.size (k0_off4_inb k)).toLoadRect X2)⟩] := by
  unfold tripL_k0_t2 trip_k0_t2
  rfl

variable {x0 : Vec Ideal S4096x128 .f32} {x1 : Vec Ideal S4096x128 .f32} {x2 : Vec Ideal S4096x128 .f32} {x3 : Vec Ideal S3x128 .f32} {A G : Fin 4096 → Fin 128 → EReal}

/-- The convolution's input. -/
def gated (A G : Fin 4096 → Fin 128 → EReal) (s : Fin 4096) (d : Fin 128) : EReal := A s d * G s d

local notation "pieces₁" => pb_k0_t1 (F := Ideal) Variants.none c none i arg1 harg1 arg2 harg2 arg3 harg3 arg4 harg4 arg5 harg5 arg6 harg6 (harg1.unread x0) (harg3.unread x2)

/-- After the first loop the padded buffer holds the convolution's input, below 32 rows of zeros. -/
theorem loop1 (hA : ∀ s d, x2 (ix2 s d) = A s d) (hG : ∀ s d, x0 (ix2 s d) = G s d) :
    View.canon (pieces₁ 32 ++ kernelRun0_A.sl.HS0_1) = fun y : S4160x128.Idx => padE (fun s => gated A G s (y 1)) (y 0).val := by
  have hz : View.canon (kernelRun0_A.sl.HS0_1 (F := Ideal)) = fun _ : S4160x128.Idx => 0 :=
    (View.canon_cons_unit_lit _ _ _ (by decide)).trans (funext pay1)
  refine funext fun y => ((canon_bands (o := 32) (R := 128) (n := 32) (fun y : S4160x128.Idx => padE (fun s => gated A G s (y 1)) (y 0).val)
    (pieces₁) kernelRun0_A.sl.HS0_1 rfl (fun k hk => ?_) 32 le_rfl y)).trans ?_
  · have hk' : k < k0_t1_loop.trips := hk.trans_eq trips1.symm
    refine ⟨k0_off2 ⟨k, hk'⟩, k0_off2_inb ⟨k, hk'⟩, _, (pb_k0_t1_succ _ _ _ _ _ _ _ _ _ _ _ _ _ _ _ _ _ _ ⟨k, hk'⟩).trans (congrArg (· ++ _) (trip1 _ _ ⟨k, hk'⟩)), (off1 ⟨k, hk'⟩).2, fun r d h => ?_⟩
    have hb : 128 * k + r.val < 4096 := by have := r.isLt; omega
    have band : ∀ x : Vec Ideal S4096x128 .f32, x ((Rect.unit (s := S4096x128) (k0_off1 ⟨k, hk'⟩) S128x128.size (k0_off1_inb ⟨k, hk'⟩)).toLoadRect.idx (ix2 r d)) = x (ix2 ⟨128 * k + r.val, hb⟩ d) := fun x =>
      congrArg x (idx_band (off1 ⟨k, hk'⟩).1 _ r d hb)
    refine (pay2 _ _ r d).trans ?_
    show _ = padE (fun s => gated A G s d) (32 + 128 * k + r.val)
    rw [Nat.add_assoc, padE_in _ hb]
    have ea := ((congrFun (Memref.IsWhole.read_unread harg3 x2) _).trans (band x2)).trans (hA _ _)
    have eg := ((congrFun (Memref.IsWhole.read_unread harg1 x0) _).trans (band x0)).trans (hG _ _)
    exact congrArg₂ (fun a g : EReal => a * g) ea eg
  · rw [hz]
    split
    · rfl
    · next h => exact (padE_out (fun s => gated A G s (y 1)) (by omega)).symm

variable {w : Fin 3 → Fin 128 → EReal} {X6 : BufTy.Contents (Elt Ideal) arg6.view.ty}

/-- One row of the taps. -/
theorem tapRow (hW : ∀ j d, x3 (ix2 j d) = w j d) (j : ℕ) (hj : j < 3) (inb : ∀ a : Fin 2, (![j, 0] : Fin 2 → ℕ) a + S1x128.size a ≤ S3x128.size a) (d : Fin 128) :
    arg4.view.readAt (Elt Ideal) (Rect.unit (s := S3x128) ![j, 0] S1x128.size inb).toLoadRect (harg4.unread x3) (ix2 0 d) = tap (fun j => w j d) j :=
  (congrFun (Memref.IsWhole.read_unread harg4 x3) _).trans ((congrArg x3 (idx_band (o := j) rfl inb 0 d hj)).trans ((hW ⟨j, hj⟩ d).trans (tap_val (fun j => w j d) hj).symm))

local notation "pieces₂" => pb_k0_t2 (F := Ideal) Variants.none c none i arg1 harg1 arg2 harg2 arg3 harg3 arg4 harg4 arg5 harg5 arg6 harg6 (harg2.unread x1) (harg4.unread x3)

/-- What the second loop stores. -/
theorem loop2 (hX : arg6.view.read (Elt Ideal) X6 = fun y : S4160x128.Idx => padE (fun s => gated A G s (y 1)) (y 0).val) (hW : ∀ j d, x3 (ix2 j d) = w j d) (y : S4096x128.Idx) :
    View.canon (pieces₂ X6 32) y = x1 y * conv (fun j => w j (y 1)) (fun s => gated A G s (y 1)) (y 0).val := by
  have hh := canon_bands (Val := Elt Ideal) (e := .bf16) (o := 0) (R := 128) (n := 32) (fun y : S4096x128.Idx => x1 y * conv (fun j => w j (y 1)) (fun s => gated A G s (y 1)) (y 0).val)
    (pieces₂ X6) [] rfl (fun k hk => ?_) 32 le_rfl y
  · rw [List.append_nil] at hh
    refine hh.trans (if_pos ⟨Nat.zero_le _, ?_⟩)
    have : (y 0).val < 4096 := (y 0).isLt
    omega
  · have hk' : k < k0_t2_loop.trips := hk.trans_eq trips2.symm
    refine ⟨k0_off4 ⟨k, hk'⟩, k0_off4_inb ⟨k, hk'⟩, _, (pb_k0_t2_succ _ _ _ _ _ _ _ _ _ _ _ _ _ _ _ _ _ _ _ ⟨k, hk'⟩).trans (congrArg (· ++ _) (trip2 _ _ _ ⟨k, hk'⟩)), (off2 ⟨k, hk'⟩).2, fun r d h => ?_⟩
    refine (chunk _ _ _ _ _ r d (fun n => padE (fun s => gated A G s d) (128 * k + n)) (tap fun j => w j d) (fun n hn => ?_)
      (tapRow hW 0 (by decide) inb_S3x128_S1x128_0_0 d)
      (tapRow hW 1 (by decide) inb_S3x128_S1x128_1_0 d)
      (tapRow hW 2 (by decide) inb_S3x128_S1x128_2_0 d)).trans ?_
    · exact (congrFun hX _).trans (congrArg (fun y : S4160x128.Idx => padE (fun s => gated A G s (y 1)) (y 0).val)
        (idx_band (off2 ⟨k, hk'⟩).1 (k0_off3_inb ⟨k, hk'⟩) (⟨n, hn⟩ : Fin 192) d (by show 128 * k + n < 4160; omega)))
    have eb := (congrFun (Memref.IsWhole.read_unread harg2 x1) _).trans (congrArg x1 (idx_band (off2 ⟨k, hk'⟩).2 (k0_off4_inb ⟨k, hk'⟩) r d h))
    refine congrArg₂ (fun s b : EReal => b * s) (Finset.sum_congr rfl fun j hj => ?_) eb
    have hj' := Finset.mem_range.mp hj
    exact congrArg (fun n => tap (fun j => w j d) j * padE (fun s => gated A G s d) n) (by show 128 * k + (32 + r.val - (2 - j)) = 32 + (0 + 128 * k + r.val) - (3 - 1 - j); omega)

/-- One column block's result. -/
theorem out (hA : ∀ s d, x2 (ix2 s d) = A s d) (hG : ∀ s d, x0 (ix2 s d) = G s d) (hW : ∀ j d, x3 (ix2 j d) = w j d) (y : S4096x128.Idx) :
    out0_A_4 (F := Ideal) c i arg1 harg1 arg2 harg2 arg3 harg3 arg4 harg4 arg5 harg5 arg6 harg6 x0 x1 x2 x3 y = x1 y * conv (fun j => w j (y 1)) (fun s => gated A G s (y 1)) (y 0).val := by
  unfold out0_A_4 kernelRun0_A
  dsimp only
  refine (congrFun (View.read_writes_junk_eq_canon _ _) y).trans ?_
  exact loop2 ((View.read_writes_junk_eq_canon _ _).trans (loop1 hA hG)) hW y

end Cert.Proof.ShortF

end
-- ==== Proof.ShortFArrays.lean ====
/- What the short gated convolution kernel leaves in its result array. -/
module

public import proofs.«01_k».proof.Proof.ShortFBody

@[expose] public section

set_option maxRecDepth 16384

noncomputable section

namespace Cert.Proof.ShortF

open Idealize.ShloMosaic Idealize.ShloMosaic.TcCoe Idealize.SL.Sem Cert.ShortFKernelIdeal Cert.ShortFKernelIdeal.Gen Cert.Step

variable {m : (ℓ : Loc nD τ sig) → Buf (Elt Ideal) ℓ} {c : Dev nD}

/-- The columns of the projection that feed column `k`. -/
def hcol (k : Fin 512) : Fin 4096 := ⟨1024 + k.val, by omega⟩
def bcol (k : Fin 512) : Fin 4096 := ⟨1536 + k.val, by omega⟩
def ccol (k : Fin 512) : Fin 4096 := ⟨2048 + k.val, by omega⟩

/-- The column a grid point's block column is. -/
def col (t : Fin cfg0.N) (d : Fin 128) : Fin 512 := ⟨t.val * 128 + d.val, by have := lt_of_lt_of_eq t.isLt N_0; have := d.isLt; omega⟩

theorem idx : ∀ t : Fin cfg0.N, win0_0.index t = ![0, 8 + t.val] ∧ win0_1.index t = ![0, 12 + t.val] ∧ win0_2.index t = ![0, 16 + t.val] ∧ win0_3.index t = ![0, t.val] ∧ win0_4.index t = ![0, t.val] :=
  (by decide +kernel : ∀ t : Fin grid0.N, _)

/-- The projection and the taps. -/
abbrev Z (m : (ℓ : Loc nD τ sig) → Buf (Elt Ideal) ℓ) (c : Dev nD) (s k : Fin 4096) : EReal := m ((c : Thread nD τ).loc main_arg0) (ix2 s k)
abbrev Taps (m : (ℓ : Loc nD τ sig) → Buf (Elt Ideal) ℓ) (c : Dev nD) (j : Fin 3) (k : Fin 512) : EReal := m ((c : Thread nD τ).loc main_arg1) (ix2 j k)

theorem read0 (t : Fin cfg0.N) (s : Fin 4096) (d : Fin 128) : iblk m c 0 t (ix2 s d) = Z m c s (hcol (col t d)) := by
  blk_point [iblk, hcol, col, idx t]
theorem read1 (t : Fin cfg0.N) (s : Fin 4096) (d : Fin 128) : iblk m c 1 t (ix2 s d) = Z m c s (bcol (col t d)) := by
  blk_point [iblk, bcol, col, idx t]
theorem read2 (t : Fin cfg0.N) (s : Fin 4096) (d : Fin 128) : iblk m c 2 t (ix2 s d) = Z m c s (ccol (col t d)) := by
  blk_point [iblk, ccol, col, idx t]
theorem read3 (t : Fin cfg0.N) (j : Fin 3) (d : Fin 128) : iblk m c 3 t (ix2 j d) = Taps m c j (col t d) := by
  blk_point [iblk, col, idx t]

/-- The result at row `s`, column `k`. -/
def entry (Z : Fin 4096 → Fin 4096 → EReal) (W : Fin 3 → Fin 512 → EReal) (s : Fin 4096) (k : Fin 512) : EReal := Z s (bcol k) * conv (fun j => W j k) (fun s => Z s (ccol k) * Z s (hcol k)) s.val

/-- The result array. -/
theorem arr4 : (dats m 0 c).arrAt 4 cfg0.N = fun y : S4096x512.Idx => entry (Z m c) (Taps m c) (y 0) (y 1) := by
  refine (dats m 0 c).arrAt_eq_of_covers 4 _ (by decide +kernel) fun t hf y => ?_
  blk_simp
  have e : ((View.whole main_v0).slice (win0_4.rect t)).emb y = ix2 (y 0) (col t (y 1)) := by
    blk_ext [col, idx t]
  rw [after0_4, e]
  idx_vars y
  refine (out (A := fun s d => Z m c s (ccol (col t d))) (G := fun s d => Z m c s (hcol (col t d))) (w := fun j d => Taps m c j (col t d)) (read2 t) (read0 t) (read3 t) (ix2 y0 y1)).trans ?_
  exact congrArg (· * conv (fun j => Taps m c j (col t y1)) (fun s => Z m c s (ccol (col t y1)) * Z m c s (hcol (col t y1))) y0.val) (read1 t y0 y1)

end Cert.Proof.ShortF

end
-- ==== Proof.ShortFClaims.lean ====
/- The short gated convolution (`_shortconv_fwd`). -/
module

public import proofs.«01_k».proof.Defs
public import proofs.«01_k».proof.Proof.ShortFArrays
public import proofs.«01_k».proof.Proof.Gen.ShortFKernel.Frame
public import proofs.«01_k».proof.Proof.Gen.ShortFReferenceIdeal.Run
public import proofs.«01_k».proof.Proof.Gen.ShortFReferenceIdeal.Read

@[expose] public section

set_option maxRecDepth 16384

noncomputable section

namespace Cert.Proof.ShortFClaims

section
open Idealize.ShloMosaic Cert.ShortFReferenceIdeal Cert.ShortFReferenceIdeal.Read Cert.Step Cert.Proof.ShortF
open Finset (range)

variable (x0 : (⟨S4096x4096, .f32⟩ : BufTy).Contents (Elt Ideal)) (x1 : (⟨S3x512, .f32⟩ : BufTy).Contents (Elt Ideal))

/-- The convolution's input. -/
def input (k : Fin 512) : Fin 4096 → EReal := fun s => x0 (ix2 s (ccol k)) * x0 (ix2 s (hcol k))
theorem ref_input (s : Fin 4096) (k : Fin 512) : val_main_v4 (F := Ideal) x0 (ix2 s k) = input x0 k s := by
  unfold val_main_v4 val_main_v3 val_main_v1 val_main_v0
  pointwise
  refine congrArg₂ (fun a g : EReal => a * g) (congrArg x0 ?_) (congrArg x0 ?_) <;>
    exact congrArg₂ ix2 (Fin.ext (by simp)) (Fin.ext (by simp only [hcol, bcol, ccol] <;> omega))

/-- The array the reference cuts its shifted copies from. -/
theorem ref_rows (p : Fin 4098) (k : Fin 512) : val_main_v6 (F := Ideal) x0 (ix2 p k) = padE (input x0 k) (32 - 2 + p.val) := by
  rw [padE_host _ (by decide) (by have := p.isLt; omega)]
  unfold val_main_v6 val_main_v5 val_main_cst
  pointwise
  by_cases h : p.val < 2
  · rw [dif_pos h, dif_neg (by omega)]
  · rw [dif_neg h, dif_pos (by omega)]
    exact ref_input x0 _ k

/-- One tap's product. -/
theorem tap_of (j : Fin 3) (s : Fin 4096) (k : Fin 512) : x1 (ix2 j k) * val_main_v6 (F := Ideal) x0 (ix2 ⟨j.val + s.val, by omega⟩ k) = tap (fun j => x1 (ix2 j k)) j.val * padE (input x0 k) (32 + s.val - (3 - 1 - j.val)) := by
  rw [ref_rows, tap_val _ j.isLt]
  exact congrArg (fun n => x1 (ix2 j k) * padE (input x0 k) n) (by show 32 - 2 + (j.val + s.val) = 32 + s.val - (3 - 1 - j.val); omega)

theorem term0 (s : Fin 4096) (k : Fin 512) : val_main_v12 (F := Ideal) x0 x1 (ix2 s k) = tap (fun j => x1 (ix2 j k)) 0 * padE (input x0 k) (32 + s.val - (3 - 1 - 0)) := by
  unfold val_main_v12 val_main_v11 val_main_v10 val_main_v9 val_main_v8 val_main_v7
  pointwise
  exact (congrArg (fun p => x1 (ix2 0 k) * val_main_v6 (F := Ideal) x0 (ix2 p k)) (Fin.ext (Nat.zero_add s.val).symm)).trans (tap_of x0 x1 0 s k)
theorem term1 (s : Fin 4096) (k : Fin 512) : val_main_v20 (F := Ideal) x0 x1 (ix2 s k) = tap (fun j => x1 (ix2 j k)) 1 * padE (input x0 k) (32 + s.val - (3 - 1 - 1)) := by
  unfold val_main_v20 val_main_v19 val_main_v18 val_main_v17 val_main_v16 val_main_v15
  pointwise
  exact tap_of x0 x1 1 s k
theorem term2 (s : Fin 4096) (k : Fin 512) : val_main_v27 (F := Ideal) x0 x1 (ix2 s k) = tap (fun j => x1 (ix2 j k)) 2 * padE (input x0 k) (32 + s.val - (3 - 1 - 2)) := by
  unfold val_main_v27 val_main_v26 val_main_v25 val_main_v24 val_main_v23 val_main_v22
  pointwise
  exact tap_of x0 x1 2 s k

/-- The reference's sum of shifted products. -/
theorem ref_conv (s : Fin 4096) (k : Fin 512) : val_main_v28 (F := Ideal) x0 x1 (ix2 s k) = conv (fun j => x1 (ix2 j k)) (input x0 k) s.val := by
  have h0 : val_main_v13 (F := Ideal) (ix2 s k) = 0 := by
    unfold val_main_v13 val_main_cst_0
    pointwise
  unfold conv
  simp only [val_main_v28_apply, val_main_v21_apply, val_main_v14_apply, h0, term0, term1, term2, Finset.sum_range_succ, Finset.range_zero, Finset.sum_empty]
  rfl

/-- The reference's result. -/
theorem ref_out (s : Fin 4096) (k : Fin 512) : val_main_v30 (F := Ideal) x0 x1 (ix2 s k) = entry (fun s k => x0 (ix2 s k)) (fun j k => x1 (ix2 j k)) s k := by
  unfold val_main_v30 val_main_v29 val_main_v2 val_main_v0
  pointwise
  refine congrArg₂ (fun b v : EReal => b * v) (congrArg x0 ?_) (ref_conv x0 x1 s k)
  exact congrArg₂ ix2 (Fin.ext (by simp)) (Fin.ext (by simp only [bcol]; omega))

end

open Idealize.ShloMosaic Idealize.ShloMosaic.TcCoe Idealize.SL.Sem Cert.Step Cert.Proof.ShortF

/-- The kernel's frame. -/
theorem frame_kernel : Cert.quiescent_ShortFKernel := fun m ρ _ => Cert.ShortFKernel.Gen.frame m ρ
/-- The idealized kernel's frame. -/
theorem frame_ideal : Cert.quiescent_ShortFKernelIdeal := fun m ρ _ => Cert.ShortFKernelIdeal.Gen.frame m ρ
/-- The reference's frame: its run leaves the arguments alone, and it has no semaphore. -/
theorem frame_reference : Cert.quiescent_ShortFReferenceIdeal := fun m ρ _ =>
  (θ_run Cert.ShortFReferenceIdeal.defs _ _).mono
    (fun r h => ⟨fun c => (h c).2, sem_eq_zero_of_no_sems (by decide) r.2⟩)
    (Cert.ShortFReferenceIdeal.Value.run (F := Ideal) m ρ)
/-- The ideal pass rewrote nothing. -/
theorem preserves : Cert.preserves_ShortFKernel_ShortFKernelIdeal := trivial

/-- Both programs end with the same array. -/
theorem algebraic : Cert.algebraic_ShortFKernelIdeal_ShortFReferenceIdeal := by
  intro m ρ m' ρ' _ hag
  refine ⟨fun c => _, Cert.ShortFKernelIdeal.Value.run_blocks (F := Ideal) m ρ, ?_⟩
  refine (θ_run Cert.ShortFReferenceIdeal.defs _ _).mono
    (fun _ h c => ?_) (Cert.ShortFReferenceIdeal.Value.run (F := Ideal) m' ρ')
  obtain ⟨a0, a1⟩ := hag c
  refine ⟨(h c).1.trans ?_, (h c).2⟩
  refine ((Cert.ShortFReferenceIdeal.Read.val_main_v30_eq _ _).trans ?_).trans arr4.symm
  rw [a0, a1]
  funext j
  idx_vars j
  exact ref_out _ _ j0 j1

end Cert.Proof.ShortFClaims

end
-- ==== Proof.WGradClaims.lean ====
/- A weight's gradient (`_mm_tn_wide`): the activations' transpose times the cotangent, in four blocks of columns. -/
module

public import proofs.«01_k».proof.Defs
public import proofs.«01_k».proof.Proof.Lib.Forward
public import proofs.«01_k».proof.Proof.Gen.WGradKernel.Frame
public import proofs.«01_k».proof.Proof.Gen.WGradKernelIdeal.Value
public import proofs.«01_k».proof.Proof.Gen.WGradReferenceIdeal.Run
public import proofs.«01_k».proof.Proof.Gen.WGradReferenceIdeal.Read
public import Idealize.ShloMosaic.Lib.Pipeline.ValueKit

@[expose] public section

set_option maxRecDepth 16384

noncomputable section

namespace Cert.Proof.WGradClaims

/-- Column `q` of the `b`th block of columns. -/
def colOf (b : Fin 4) (q : Fin 1408) : Fin 5632 := ⟨1408 * b.val + q.val, by omega⟩

/-- The gradient at an entry: the sum over the rows of the activation times the cotangent. -/
def grad (Y : Fin 4096 → Fin 2048 → EReal) (G : Fin 4096 → Fin 5632 → EReal) (k : Fin 2048) (f : Fin 5632) : EReal := ∑ s, Y s k * G s f

section Kernel
open Idealize.ShloMosaic Idealize.ShloMosaic.TcCoe Idealize.SL.Sem Cert.WGradKernelIdeal Cert.WGradKernelIdeal.Gen Cert.Step

variable {m : (ℓ : Loc nD τ sig) → Buf (Elt Ideal) ℓ} {c : Dev nD}

/-- The activations and the cotangent. -/
abbrev Y (m : (ℓ : Loc nD τ sig) → Buf (Elt Ideal) ℓ) (c : Dev nD) (s : Fin 4096) (k : Fin 2048) : EReal := m ((c : Thread nD τ).loc main_arg0) (ix2 s k)
abbrev G (m : (ℓ : Loc nD τ sig) → Buf (Elt Ideal) ℓ) (c : Dev nD) (s : Fin 4096) (f : Fin 5632) : EReal := m ((c : Thread nD τ).loc main_arg1) (ix2 s f)

/-- A point's rows of the gradient, and its block of columns. -/
def rowAt (t : Fin cfg0.N) (r : Fin 512) : Fin 2048 := ⟨t.val % 4 * 512 + r.val, by omega⟩
def blkAt (t : Fin cfg0.N) : Fin 4 := ⟨t.val / 4, by have := lt_of_lt_of_eq t.isLt N_0; omega⟩

theorem idx : ∀ t : Fin cfg0.N, win0_0.index t = ![0, t.val % 4] ∧ win0_1.index t = ![0, t.val / 4] ∧ win0_2.index t = ![t.val / 4, t.val % 4, 0] :=
  (by decide +kernel : ∀ t : Fin grid0.N, _)

theorem read0 (t : Fin cfg0.N) (s : Fin 4096) (r : Fin 512) : iblk m c 0 t (ix2 s r) = Y m c s (rowAt t r) := by
  blk_point [iblk, rowAt, idx t]
theorem read1 (t : Fin cfg0.N) (s : Fin 4096) (q : Fin 1408) : iblk m c 1 t (ix2 s q) = G m c s (colOf (blkAt t) q) := by
  blk_point [iblk, colOf, blkAt, idx t]

/-- What a point leaves in the result's tile. -/
theorem out (t : Fin cfg0.N) (y : S1x512x1408.Idx) : outsAt0 m c t y = grad (Y m c) (G m c) (rowAt t (y 1)) (colOf (blkAt t) (y 2)) := by
  unfold outsAt0 out0_A_2 kernelRun0_A
  frame_out
  canon_tiles x h using View.cover_of_tiledBy _ ![1, 512, 128] (by sl_kernel_rfl) y
  all_goals
    idx_vars x
    idx_vars y
    obtain rfl : y1 = x1 := Fin.ext h1
    first | unfold k0_pay1 | unfold k0_pay2 | unfold k0_pay3
    pointwise
    exact Finset.sum_congr rfl fun s _ => congrArg₂ (· * ·) (read0 t s y1)
      ((congrArg (fun q => iblk m c 1 t (ix2 s q)) (Fin.ext (by dsimp only; omega))).trans (read1 t s y2))

/-- The result array. -/
theorem arr : (dats m 0 c).arrAt 2 cfg0.N = fun y : S4x2048x1408.Idx => grad (Y m c) (G m c) (y 1) (colOf (y 0) (y 2)) := by
  refine (dats m 0 c).arrAt_eq_of_covers 2 _ (by decide +kernel) fun t hf y => ?_
  blk_simp
  have e : ∀ y : S1x512x1408.Idx, ((View.whole main_v0).slice (win0_2.rect t)).emb y = ix3 (blkAt t) (rowAt t (y 1)) (y 2) := fun y => by
    blk_ext [rowAt, blkAt, idx t]
  rw [after0_2, e y]
  exact out t y

end Kernel

section Reference
open Idealize.ShloMosaic Cert.WGradReferenceIdeal Cert.WGradReferenceIdeal.Read Cert.Step

variable (x0 : (⟨S4096x2048, .bf16⟩ : BufTy).Contents (Elt Ideal)) (x1 : (⟨S4096x5632, .bf16⟩ : BufTy).Contents (Elt Ideal))

/-- The reference's gradient at an entry of the four blocks. -/
theorem ref (b : Fin 4) (k : Fin 2048) (q : Fin 1408) :
    val_main_v8 (F := Ideal) x0 x1 (ix3 b k q) = grad (fun s k => x0 (ix2 s k)) (fun s f => x1 (ix2 s f)) k (colOf b q) := by
  unfold val_main_v8 val_main_v7 val_main_v6 val_main_v5 val_main_v4 val_main_v3 val_main_v1
  pointwise
  refine Finset.sum_congr rfl fun s _ => ?_
  rw [mul_comm]
  exact congrArg (fun f => x0 (ix2 s k) * x1 (ix2 s f)) (Fin.ext (congrArg (· + q.val) (Nat.mul_comm _ _)))

end Reference

open Idealize.ShloMosaic Idealize.ShloMosaic.TcCoe Idealize.SL.Sem Cert.Step

/-- The kernel's frame. -/
theorem frame_kernel : Cert.quiescent_WGradKernel := fun m ρ _ => Cert.WGradKernel.Gen.frame m ρ
/-- The idealized kernel's frame. -/
theorem frame_ideal : Cert.quiescent_WGradKernelIdeal := fun m ρ _ => Cert.WGradKernelIdeal.Gen.frame m ρ
/-- The reference's frame: its run leaves the arguments alone, and it has no semaphore. -/
theorem frame_reference : Cert.quiescent_WGradReferenceIdeal := fun m ρ _ =>
  (θ_run Cert.WGradReferenceIdeal.defs _ _).mono
    (fun r h => ⟨fun c => (h c).2, sem_eq_zero_of_no_sems (by decide) r.2⟩)
    (Cert.WGradReferenceIdeal.Value.run (F := Ideal) m ρ)
/-- The ideal pass rewrote nothing. -/
theorem preserves : Cert.preserves_WGradKernel_WGradKernelIdeal := trivial

/-- Both programs end with the same gradient. -/
theorem algebraic : Cert.algebraic_WGradKernelIdeal_WGradReferenceIdeal := by
  intro m ρ m' ρ' _ hag
  refine ⟨fun c => _, Cert.WGradKernelIdeal.Value.run_blocks (F := Ideal) m ρ, ?_⟩
  refine (θ_run Cert.WGradReferenceIdeal.defs _ _).mono
    (fun _ h c => ?_) (Cert.WGradReferenceIdeal.Value.run (F := Ideal) m' ρ')
  obtain ⟨a0, a1⟩ := hag c
  refine ⟨(h c).1.trans ?_, (h c).2⟩
  refine ((Cert.WGradReferenceIdeal.Read.val_main_v8_eq _ _).trans ?_).trans arr.symm
  rw [a0, a1]
  funext j
  idx_vars j
  exact ref _ _ j0 j1 j2

end Cert.Proof.WGradClaims

end
-- ==== Proof.ResidClaims.lean ====
/- A projection added to the residual stream (`_mm_residual`). -/
module

public import proofs.«01_k».proof.Defs
public import proofs.«01_k».proof.Proof.Lib.Quarters
public import proofs.«01_k».proof.Proof.Gen.ResidKernel.Frame
public import proofs.«01_k».proof.Proof.Gen.ResidKernelIdeal.Value
public import proofs.«01_k».proof.Proof.Gen.ResidReferenceIdeal.Run
public import proofs.«01_k».proof.Proof.Gen.ResidReferenceIdeal.Read
public import Idealize.ShloMosaic.Lib.Pipeline.ValueKit

@[expose] public section

set_option maxRecDepth 16384

noncomputable section

namespace Cert.Proof.ResidClaims

open Cert.Step

/-- Row `k` of the `a`th quarter of the weight. -/
abbrev rowOf (a : Fin 4) (k : Fin 1408) : Fin 5632 := part (n := 1408) (by decide) a k

/-- An entry of the stream plus the product. -/
def plus (A : Fin 4096 → Fin 5632 → EReal) (W : Fin 5632 → Fin 2048 → EReal) (H : Fin 4096 → Fin 2048 → EReal) (i : Fin 4096) (f : Fin 2048) : EReal :=
  H i f + ∑ k, A i k * W k f

section Kernel
open Idealize.ShloMosaic Idealize.ShloMosaic.TcCoe Idealize.SL.Sem Cert.ResidKernelIdeal Cert.ResidKernelIdeal.Gen

variable {m : (ℓ : Loc nD τ sig) → Buf (Elt Ideal) ℓ} {c : Dev nD}

/-- The activations, the weight and the stream. -/
abbrev A (m : (ℓ : Loc nD τ sig) → Buf (Elt Ideal) ℓ) (c : Dev nD) (i : Fin 4096) (k : Fin 5632) : EReal := m ((c : Thread nD τ).loc main_arg0) (ix2 i k)
abbrev W (m : (ℓ : Loc nD τ sig) → Buf (Elt Ideal) ℓ) (c : Dev nD) (k : Fin 5632) (f : Fin 2048) : EReal := m ((c : Thread nD τ).loc main_arg1) (ix2 k f)
abbrev H (m : (ℓ : Loc nD τ sig) → Buf (Elt Ideal) ℓ) (c : Dev nD) (i : Fin 4096) (f : Fin 2048) : EReal := m ((c : Thread nD τ).loc main_arg2) (ix2 i f)

/-- A block's row and column in the arrays; the block of the gathered weight a point takes, and the column there. -/
def rowAt (t : Fin cfg0.N) (r : Fin 1024) : Fin 4096 := ⟨t.val / 4 * 1024 + r.val, by have := lt_of_lt_of_eq t.isLt N_0; omega⟩
def colAt (t : Fin cfg0.N) (q : Fin 512) : Fin 2048 := ⟨t.val % 4 * 512 + q.val, by omega⟩
def wAt (a : Fin 4) (t : Fin cfg0.N) : Fin 8 := ⟨2 * a.val + t.val % 4 / 2, by omega⟩
def inW (t : Fin cfg0.N) (q : Fin 512) : Fin 1024 := ⟨t.val % 4 % 2 * 512 + q.val, by omega⟩

theorem idx : ∀ t : Fin cfg0.N, win0_0.index t = ![t.val / 4, 0] ∧ win0_1.index t = ![t.val % 4 / 2, 0, t.val % 4 % 2] ∧ win0_2.index t = ![2 + t.val % 4 / 2, 0, t.val % 4 % 2]
    ∧ win0_3.index t = ![4 + t.val % 4 / 2, 0, t.val % 4 % 2] ∧ win0_4.index t = ![6 + t.val % 4 / 2, 0, t.val % 4 % 2] ∧ win0_5.index t = ![t.val / 4, t.val % 4]
    ∧ win0_6.index t = ![t.val / 4, t.val % 4] :=
  (by decide +kernel : ∀ t : Fin grid0.N, _)

/-- The weight is gathered by quarter of its rows and half of its columns. -/
theorem host_w (a : Fin 4) (t : Fin cfg0.N) (k : Fin 1408) (q : Fin 512) : V m c main_v3 (ix3 (wAt a t) k (inW t q)) = W m c (rowOf a k) (colAt t q) := by
  entry_read; pointwise
  refine congrArg (m _) (congrArg₂ ix2 (Fin.ext ?_) (Fin.ext ?_)) <;> simp only [wAt, inW, part, colAt] <;> omega

theorem read0 (t : Fin cfg0.N) (r : Fin 1024) (k : Fin 5632) : iblk m c 0 t (ix2 r k) = A m c (rowAt t r) k := by
  blk_point [iblk, rowAt, idx t]
theorem read1 (t : Fin cfg0.N) (k : Fin 1408) (q : Fin 512) : iblk m c 1 t (ix3 0 k q) = W m c (rowOf 0 k) (colAt t q) := by
  refine Eq.trans ?_ (host_w 0 t k q)
  blk_point [iblk, wAt, inW, idx t]
theorem read2 (t : Fin cfg0.N) (k : Fin 1408) (q : Fin 512) : iblk m c 2 t (ix3 0 k q) = W m c (rowOf 1 k) (colAt t q) := by
  refine Eq.trans ?_ (host_w 1 t k q)
  blk_point [iblk, wAt, inW, idx t]
theorem read3 (t : Fin cfg0.N) (k : Fin 1408) (q : Fin 512) : iblk m c 3 t (ix3 0 k q) = W m c (rowOf 2 k) (colAt t q) := by
  refine Eq.trans ?_ (host_w 2 t k q)
  blk_point [iblk, wAt, inW, idx t]
theorem read4 (t : Fin cfg0.N) (k : Fin 1408) (q : Fin 512) : iblk m c 4 t (ix3 0 k q) = W m c (rowOf 3 k) (colAt t q) := by
  refine Eq.trans ?_ (host_w 3 t k q)
  blk_point [iblk, wAt, inW, idx t]
theorem read5 (t : Fin cfg0.N) (r : Fin 1024) (q : Fin 512) : iblk m c 5 t (ix2 r q) = H m c (rowAt t r) (colAt t q) := by
  blk_point [iblk, rowAt, colAt, idx t]

/-- What a point leaves in the result's tile. -/
theorem out (t : Fin cfg0.N) (y : S1024x512.Idx) : out0_6 (F := Ideal) (iblk m c 0 t) (iblk m c 1 t) (iblk m c 2 t) (iblk m c 3 t) (iblk m c 4 t) (iblk m c 5 t) y
    = plus (A m c) (W m c) (H m c) (rowAt t (y 0)) (colAt t (y 1)) := by
  frame_out
  canon_tiles x h
  all_goals
    idx_vars x
    idx_vars y
    obtain rfl : y0 = x0 := Fin.ext h0
    first | unfold k0_pay1 k0_pay3 | unfold k0_pay2
    pointwise
    obtain ⟨y1, hy⟩ := y1
    dsimp only at h1
    subst h1
    simp only [read0, read1, read2, read3, read4, read5]
    refine congrArg (H m c _ _ + ·) (Eq.trans ?_ (sum_parts (n := 1408) (by decide) fun k => A m c (rowAt t y0) k * W m c k (colAt t _)))
    refine congrArg (· + _ + _ + _) (Finset.sum_congr rfl fun k _ => ?_)
    exact congrArg (fun j => A m c (rowAt t y0) j * W m c (rowOf 0 k) (colAt t _)) (Fin.ext (Nat.zero_add _).symm)

/-- The result array. -/
theorem arr : (dats m 0 c).arrAt 6 cfg0.N = fun y : S4096x2048.Idx => plus (A m c) (W m c) (H m c) (y 0) (y 1) := by
  refine (dats m 0 c).arrAt_eq_of_covers 6 _ (by decide +kernel) fun t hf y => ?_
  blk_simp
  have e : ∀ y : S1024x512.Idx, ((View.whole main_v4).slice (win0_6.rect t)).emb y = ix2 (rowAt t (y 0)) (colAt t (y 1)) := fun y => by
    blk_ext [rowAt, colAt, idx t]
  rw [after0_6, e y]
  exact out t y

end Kernel

section Reference
open Idealize.ShloMosaic Cert.ResidReferenceIdeal Cert.ResidReferenceIdeal.Read

variable (x0 : (⟨S4096x5632, .bf16⟩ : BufTy).Contents (Elt Ideal)) (x1 : (⟨S5632x2048, .f32⟩ : BufTy).Contents (Elt Ideal))
  (x2 : (⟨S4096x2048, .f32⟩ : BufTy).Contents (Elt Ideal))

/-- The reference's entry. -/
theorem ref (i : Fin 4096) (f : Fin 2048) :
    val_main_v2 (F := Ideal) x0 x1 x2 (ix2 i f) = plus (fun i k => x0 (ix2 i k)) (fun k f => x1 (ix2 k f)) (fun i f => x2 (ix2 i f)) i f := by
  unfold val_main_v2 val_main_v1 val_main_v0
  pointwise
  rfl

end Reference

open Idealize.ShloMosaic Idealize.ShloMosaic.TcCoe Idealize.SL.Sem

/-- The kernel's frame. -/
theorem frame_kernel : Cert.quiescent_ResidKernel := fun m ρ _ => Cert.ResidKernel.Gen.frame m ρ
/-- The idealized kernel's frame. -/
theorem frame_ideal : Cert.quiescent_ResidKernelIdeal := fun m ρ _ => Cert.ResidKernelIdeal.Gen.frame m ρ
/-- The reference's frame: its run leaves the arguments alone, and it has no semaphore. -/
theorem frame_reference : Cert.quiescent_ResidReferenceIdeal := fun m ρ _ =>
  (θ_run Cert.ResidReferenceIdeal.defs _ _).mono
    (fun r h => ⟨fun c => (h c).2, sem_eq_zero_of_no_sems (by decide) r.2⟩)
    (Cert.ResidReferenceIdeal.Value.run (F := Ideal) m ρ)
/-- The ideal pass rewrote nothing. -/
theorem preserves : Cert.preserves_ResidKernel_ResidKernelIdeal := trivial

/-- Both programs end with the same array. -/
theorem algebraic : Cert.algebraic_ResidKernelIdeal_ResidReferenceIdeal := by
  intro m ρ m' ρ' _ hag
  refine ⟨fun c => _, Cert.ResidKernelIdeal.Value.run_blocks (F := Ideal) m ρ, ?_⟩
  refine (θ_run Cert.ResidReferenceIdeal.defs _ _).mono
    (fun _ h c => ?_) (Cert.ResidReferenceIdeal.Value.run (F := Ideal) m' ρ')
  obtain ⟨a0, a1, a2⟩ := hag c
  refine ⟨(h c).1.trans ?_, (h c).2⟩
  refine ((Cert.ResidReferenceIdeal.Read.val_main_v2_eq _ _ _).trans ?_).trans arr.symm
  rw [a0, a1, a2]
  funext j
  idx_vars j
  exact ref _ _ _ j0 j1

end Cert.Proof.ResidClaims

end
-- ==== Proof.AGradClaims.lean ====
/- A projection's input gradient (`_mm_nt_wide`): the cotangent times the weight's transpose. -/
module

public import proofs.«01_k».proof.Defs
public import proofs.«01_k».proof.Proof.Lib.Quarters
public import proofs.«01_k».proof.Proof.Gen.AGradKernel.Frame
public import proofs.«01_k».proof.Proof.Gen.AGradKernelIdeal.Value
public import proofs.«01_k».proof.Proof.Gen.AGradReferenceIdeal.Run
public import proofs.«01_k».proof.Proof.Gen.AGradReferenceIdeal.Read
public import Idealize.ShloMosaic.Lib.Pipeline.ValueKit

@[expose] public section

set_option maxRecDepth 16384

noncomputable section

namespace Cert.Proof.AGradClaims

open Cert.Step

/-- Column `k` of the `a`th quarter of the weight. -/
abbrev colOf (a : Fin 4) (k : Fin 1024) : Fin 4096 := part (n := 1024) (by decide) a k

/-- An entry of the product with the transpose. -/
def back (D : Fin 4096 → Fin 4096 → EReal) (W : Fin 2048 → Fin 4096 → EReal) (i : Fin 4096) (f : Fin 2048) : EReal := ∑ k, D i k * W f k

section Kernel
open Idealize.ShloMosaic Idealize.ShloMosaic.TcCoe Idealize.SL.Sem Cert.AGradKernelIdeal Cert.AGradKernelIdeal.Gen

variable {m : (ℓ : Loc nD τ sig) → Buf (Elt Ideal) ℓ} {c : Dev nD}

/-- The cotangent and the weight. -/
abbrev D (m : (ℓ : Loc nD τ sig) → Buf (Elt Ideal) ℓ) (c : Dev nD) (i k : Fin 4096) : EReal := m ((c : Thread nD τ).loc main_arg0) (ix2 i k)
abbrev W (m : (ℓ : Loc nD τ sig) → Buf (Elt Ideal) ℓ) (c : Dev nD) (f : Fin 2048) (k : Fin 4096) : EReal := m ((c : Thread nD τ).loc main_arg1) (ix2 f k)

/-- A block's row and column in the result; the block of the gathered weight a point takes, and the row there. -/
def rowAt (t : Fin cfg0.N) (r : Fin 1024) : Fin 4096 := ⟨t.val / 4 * 1024 + r.val, by have := lt_of_lt_of_eq t.isLt N_0; omega⟩
def colAt (t : Fin cfg0.N) (q : Fin 512) : Fin 2048 := ⟨t.val % 4 * 512 + q.val, by omega⟩
def wAt (a : Fin 4) (t : Fin cfg0.N) : Fin 8 := ⟨2 * a.val + t.val % 4 / 2, by omega⟩
def inW (t : Fin cfg0.N) (q : Fin 512) : Fin 1024 := ⟨t.val % 4 % 2 * 512 + q.val, by omega⟩

theorem idx : ∀ t : Fin cfg0.N, win0_0.index t = ![t.val / 4, 0] ∧ win0_1.index t = ![t.val % 4 / 2, t.val % 4 % 2, 0] ∧ win0_2.index t = ![2 + t.val % 4 / 2, t.val % 4 % 2, 0]
    ∧ win0_3.index t = ![4 + t.val % 4 / 2, t.val % 4 % 2, 0] ∧ win0_4.index t = ![6 + t.val % 4 / 2, t.val % 4 % 2, 0] ∧ win0_5.index t = ![t.val / 4, t.val % 4] :=
  (by decide +kernel : ∀ t : Fin grid0.N, _)

/-- The weight is gathered by quarter of its columns and half of its rows. -/
theorem host_w (a : Fin 4) (t : Fin cfg0.N) (q : Fin 512) (k : Fin 1024) : V m c main_v3 (ix3 (wAt a t) (inW t q) k) = W m c (colAt t q) (colOf a k) := by
  entry_read; pointwise
  refine congrArg (m _) (congrArg₂ ix2 (Fin.ext ?_) (Fin.ext ?_)) <;> simp only [wAt, inW, part, colAt] <;> omega

theorem read0 (t : Fin cfg0.N) (r : Fin 1024) (k : Fin 4096) : iblk m c 0 t (ix2 r k) = D m c (rowAt t r) k := by
  blk_point [iblk, rowAt, idx t]
theorem read1 (t : Fin cfg0.N) (q : Fin 512) (k : Fin 1024) : iblk m c 1 t (ix3 0 q k) = W m c (colAt t q) (colOf 0 k) := by
  refine Eq.trans ?_ (host_w 0 t q k)
  blk_point [iblk, wAt, inW, idx t]
theorem read2 (t : Fin cfg0.N) (q : Fin 512) (k : Fin 1024) : iblk m c 2 t (ix3 0 q k) = W m c (colAt t q) (colOf 1 k) := by
  refine Eq.trans ?_ (host_w 1 t q k)
  blk_point [iblk, wAt, inW, idx t]
theorem read3 (t : Fin cfg0.N) (q : Fin 512) (k : Fin 1024) : iblk m c 3 t (ix3 0 q k) = W m c (colAt t q) (colOf 2 k) := by
  refine Eq.trans ?_ (host_w 2 t q k)
  blk_point [iblk, wAt, inW, idx t]
theorem read4 (t : Fin cfg0.N) (q : Fin 512) (k : Fin 1024) : iblk m c 4 t (ix3 0 q k) = W m c (colAt t q) (colOf 3 k) := by
  refine Eq.trans ?_ (host_w 3 t q k)
  blk_point [iblk, wAt, inW, idx t]

/-- What a point leaves in the result's tile. -/
theorem out (t : Fin cfg0.N) (y : S1024x512.Idx) : out0_5 (F := Ideal) (iblk m c 0 t) (iblk m c 1 t) (iblk m c 2 t) (iblk m c 3 t) (iblk m c 4 t) y
    = back (D m c) (W m c) (rowAt t (y 0)) (colAt t (y 1)) := by
  frame_out
  canon_tiles x h
  all_goals
    idx_vars x
    idx_vars y
    obtain rfl : y0 = x0 := Fin.ext h0
    first | unfold k0_pay1 k0_pay3 | unfold k0_pay2
    pointwise
    obtain ⟨y1, hy⟩ := y1
    dsimp only at h1
    subst h1
    simp only [read0, read1, read2, read3, read4]
    refine Eq.trans ?_ (sum_parts (n := 1024) (by decide) fun k => D m c (rowAt t y0) k * W m c (colAt t _) k)
    refine congrArg (· + _ + _ + _) (Finset.sum_congr rfl fun k _ => ?_)
    exact congrArg (fun j => D m c (rowAt t y0) j * W m c (colAt t _) (colOf 0 k)) (Fin.ext (Nat.zero_add _).symm)

/-- The result array. -/
theorem arr : (dats m 0 c).arrAt 5 cfg0.N = fun y : S4096x2048.Idx => back (D m c) (W m c) (y 0) (y 1) := by
  refine (dats m 0 c).arrAt_eq_of_covers 5 _ (by decide +kernel) fun t hf y => ?_
  blk_simp
  have e : ∀ y : S1024x512.Idx, ((View.whole main_v4).slice (win0_5.rect t)).emb y = ix2 (rowAt t (y 0)) (colAt t (y 1)) := fun y => by
    blk_ext [rowAt, colAt, idx t]
  rw [after0_5, e y]
  exact out t y

end Kernel

section Reference
open Idealize.ShloMosaic Cert.AGradReferenceIdeal Cert.AGradReferenceIdeal.Read

variable (x0 : (⟨S4096x4096, .bf16⟩ : BufTy).Contents (Elt Ideal)) (x1 : (⟨S2048x4096, .f32⟩ : BufTy).Contents (Elt Ideal))

/-- The reference's entry. -/
theorem ref (i : Fin 4096) (f : Fin 2048) :
    val_main_v4 (F := Ideal) x0 x1 (ix2 i f) = back (fun i k => x0 (ix2 i k)) (fun f k => x1 (ix2 f k)) i f := by
  unfold val_main_v4 val_main_v3 val_main_v2
  pointwise
  rfl

end Reference

open Idealize.ShloMosaic Idealize.ShloMosaic.TcCoe Idealize.SL.Sem

/-- The kernel's frame. -/
theorem frame_kernel : Cert.quiescent_AGradKernel := fun m ρ _ => Cert.AGradKernel.Gen.frame m ρ
/-- The idealized kernel's frame. -/
theorem frame_ideal : Cert.quiescent_AGradKernelIdeal := fun m ρ _ => Cert.AGradKernelIdeal.Gen.frame m ρ
/-- The reference's frame: its run leaves the arguments alone, and it has no semaphore. -/
theorem frame_reference : Cert.quiescent_AGradReferenceIdeal := fun m ρ _ =>
  (θ_run Cert.AGradReferenceIdeal.defs _ _).mono
    (fun r h => ⟨fun c => (h c).2, sem_eq_zero_of_no_sems (by decide) r.2⟩)
    (Cert.AGradReferenceIdeal.Value.run (F := Ideal) m ρ)
/-- The ideal pass rewrote nothing. -/
theorem preserves : Cert.preserves_AGradKernel_AGradKernelIdeal := trivial

/-- Both programs end with the same array. -/
theorem algebraic : Cert.algebraic_AGradKernelIdeal_AGradReferenceIdeal := by
  intro m ρ m' ρ' _ hag
  refine ⟨fun c => _, Cert.AGradKernelIdeal.Value.run_blocks (F := Ideal) m ρ, ?_⟩
  refine (θ_run Cert.AGradReferenceIdeal.defs _ _).mono
    (fun _ h c => ?_) (Cert.AGradReferenceIdeal.Value.run (F := Ideal) m' ρ')
  obtain ⟨a0, a1⟩ := hag c
  refine ⟨(h c).1.trans ?_, (h c).2⟩
  refine ((Cert.AGradReferenceIdeal.Read.val_main_v4_eq _ _).trans ?_).trans arr.symm
  rw [a0, a1]
  funext j
  idx_vars j
  exact ref _ _ j0 j1

end Cert.Proof.AGradClaims

end
-- ==== Proof.FGradClaims.lean ====
/- The gradient of the gate and up projections' common input (`_ffn_dy`): each cotangent times its weight's transpose,
   added up over the four quarters of the contraction, one in each step of the grid. -/
module

public import proofs.«01_k».proof.Defs
public import proofs.«01_k».proof.Proof.Lib.Quarters
public import proofs.«01_k».proof.Proof.Gen.FGradKernel.Frame
public import proofs.«01_k».proof.Proof.Gen.FGradKernelIdeal.Value
public import proofs.«01_k».proof.Proof.Gen.FGradReferenceIdeal.Run
public import proofs.«01_k».proof.Proof.Gen.FGradReferenceIdeal.Read
public import Idealize.ShloMosaic.Lib.Pipeline.ValueKit
public import Idealize.ShloMosaic.Lib.Pipeline.ReadBack

@[expose] public section

set_option maxRecDepth 16384

noncomputable section

namespace Cert.Proof.FGradClaims

open Cert.Step

/-- An entry of a product with the transpose. -/
def back (D : Fin 4096 → Fin 5632 → EReal) (W : Fin 2048 → Fin 5632 → EReal) (i : Fin 4096) (f : Fin 2048) : EReal := ∑ k, D i k * W f k

/-- Column `k` of the `a`th quarter of the contraction. -/
abbrev colOf (a : Fin 4) (k : Fin 1408) : Fin 5632 := part (n := 1408) (by decide) a k

section Kernel
open Idealize.ShloMosaic Idealize.ShloMosaic.TcCoe Idealize.SL.Sem Cert.FGradKernelIdeal Cert.FGradKernelIdeal.Gen

variable {m : (ℓ : Loc nD τ sig) → Buf (Elt Ideal) ℓ} {c : Dev nD}

/-- The two cotangents and the two weights. -/
abbrev DG (m : (ℓ : Loc nD τ sig) → Buf (Elt Ideal) ℓ) (c : Dev nD) (i : Fin 4096) (k : Fin 5632) : EReal := m ((c : Thread nD τ).loc main_arg0) (ix2 i k)
abbrev DU (m : (ℓ : Loc nD τ sig) → Buf (Elt Ideal) ℓ) (c : Dev nD) (i : Fin 4096) (k : Fin 5632) : EReal := m ((c : Thread nD τ).loc main_arg1) (ix2 i k)
abbrev G (m : (ℓ : Loc nD τ sig) → Buf (Elt Ideal) ℓ) (c : Dev nD) (f : Fin 2048) (k : Fin 5632) : EReal := m ((c : Thread nD τ).loc main_arg2) (ix2 f k)
abbrev U (m : (ℓ : Loc nD τ sig) → Buf (Elt Ideal) ℓ) (c : Dev nD) (f : Fin 2048) (k : Fin 5632) : EReal := m ((c : Thread nD τ).loc main_arg3) (ix2 f k)

/-- A block's row and column in the result; the quarter of the contraction a point takes, and its block of the weights. -/
def rowAt (t : Fin cfg0.N) (r : Fin 1024) : Fin 4096 := ⟨t.val / 8 * 1024 + r.val, by have := lt_of_lt_of_eq t.isLt N_0; omega⟩
def colAt (t : Fin cfg0.N) (q : Fin 1024) : Fin 2048 := ⟨t.val / 4 % 2 * 1024 + q.val, by omega⟩
def qAt (t : Fin cfg0.N) : Fin 4 := ⟨t.val % 4, by omega⟩
def wAt (t : Fin cfg0.N) : Fin 8 := ⟨2 * (t.val % 4) + t.val / 4 % 2, by omega⟩

theorem idx : ∀ t : Fin cfg0.N, win0_0.index t = ![t.val / 8, t.val % 4] ∧ win0_1.index t = ![t.val / 8, t.val % 4] ∧ win0_2.index t = ![2 * (t.val % 4) + t.val / 4 % 2, 0, 0]
    ∧ win0_3.index t = ![2 * (t.val % 4) + t.val / 4 % 2, 0, 0] ∧ win0_4.index t = ![t.val / 8, t.val / 4 % 2] :=
  (by decide +kernel : ∀ t : Fin grid0.N, _)

/-- The weights are gathered by quarter of their columns and half of their rows. -/
theorem host_g (t : Fin cfg0.N) (q : Fin 1024) (k : Fin 1408) : V m c main_v3 (ix3 (wAt t) q k) = G m c (colAt t q) (colOf (qAt t) k) := by
  entry_read; pointwise
  refine congrArg (m _) (congrArg₂ ix2 (Fin.ext ?_) (Fin.ext ?_)) <;> simp only [wAt, qAt, part, colAt] <;> omega
theorem host_u (t : Fin cfg0.N) (q : Fin 1024) (k : Fin 1408) : V m c main_v7 (ix3 (wAt t) q k) = U m c (colAt t q) (colOf (qAt t) k) := by
  entry_read; pointwise
  refine congrArg (m _) (congrArg₂ ix2 (Fin.ext ?_) (Fin.ext ?_)) <;> simp only [wAt, qAt, part, colAt] <;> omega

theorem read0 (t : Fin cfg0.N) (r : Fin 1024) (k : Fin 1408) : iblk m c 0 t (ix2 r k) = DG m c (rowAt t r) (colOf (qAt t) k) := by
  blk_point [iblk, rowAt, qAt, part, idx t]
theorem read1 (t : Fin cfg0.N) (r : Fin 1024) (k : Fin 1408) : iblk m c 1 t (ix2 r k) = DU m c (rowAt t r) (colOf (qAt t) k) := by
  blk_point [iblk, rowAt, qAt, part, idx t]
theorem read2 (t : Fin cfg0.N) (q : Fin 1024) (k : Fin 1408) : iblk m c 2 t (ix3 0 q k) = G m c (colAt t q) (colOf (qAt t) k) := by
  refine Eq.trans ?_ (host_g t q k)
  blk_point [iblk, wAt, idx t]
theorem read3 (t : Fin cfg0.N) (q : Fin 1024) (k : Fin 1408) : iblk m c 3 t (ix3 0 q k) = U m c (colAt t q) (colOf (qAt t) k) := by
  refine Eq.trans ?_ (host_u t q k)
  blk_point [iblk, wAt, idx t]

/-- What a point adds to the running sum. -/
def term (m : (ℓ : Loc nD τ sig) → Buf (Elt Ideal) ℓ) (c : Dev nD) (t : Fin cfg0.N) (y : S1024x1024.Idx) : EReal :=
  (∑ k, DG m c (rowAt t (y 0)) (colOf (qAt t) k) * G m c (colAt t (y 1)) (colOf (qAt t) k))
    + ∑ k, DU m c (rowAt t (y 0)) (colOf (qAt t) k) * U m c (colAt t (y 1)) (colOf (qAt t) k)

/-- The running sum's step. -/
theorem step (t : Fin cfg0.N) (a : Vec Ideal S1024x1024 .f32) (y : S1024x1024.Idx) :
    k0_pay3 (F := Ideal) (k0_pay2 a (iblk m c 0 t) (iblk m c 2 t)) (iblk m c 1 t) (iblk m c 3 t) y = a y + term m c t y := by
  idx_vars y
  unfold k0_pay3 k0_pay2
  pointwise
  simp only [read0, read1, read2, read3]
  exact add_assoc _ _ _

/-- The running sum at a point: from nothing at a run's first point, else from what the point before left. -/
theorem first (t : Fin cfg0.N) (h : t.val % 4 = 0) (y : S1024x1024.Idx) : (outsAt0 m c t.val t.isLt).2 y = 0 + term m c t y := by
  rw [outsAt0_A m c t h (by omega)]
  frame_out
  refine (step t _ y).trans (congrArg (· + _) ?_)
  idx_vars y
  unfold k0_pay1
  pointwise
theorem next (t : Fin cfg0.N) (h : ¬t.val % 4 = 0) (y : S1024x1024.Idx) : (outsAt0 m c t.val t.isLt).2 y
    = (outsAt0 m c (t.val - 1) (Nat.lt_of_le_of_lt (Nat.sub_le _ _) t.isLt)).2 y + term m c t y := by
  by_cases h' : t.val % 4 = 3 <;> [rw [outsAt0_C m c t h h']; rw [outsAt0_B m c t h h']]
  all_goals
    frame_out
    simp only [read_unread_whole]
    exact step t _ y

/-- At a run's last point the running sum is the result. -/
theorem done (t : Fin cfg0.N) (h : t.val % 4 = 3) (y : S1024x1024.Idx) : (outsAt0 m c t.val t.isLt).1 y = (outsAt0 m c t.val t.isLt).2 y := by
  rw [outsAt0_C m c t (by omega) h]
  frame_out
  rfl

/-- A run's four points take the contraction's four quarters. -/
theorem run_sum (t : Fin cfg0.N) (h : t.val % 4 = 4 - 1) (y : S1024x1024.Idx) :
    ∑ s : Fin 4, term m c ⟨4 * (t.val / 4) + s.val, Pipeline.run_point_lt_of_flush t h s⟩ y
      = back (DU m c) (U m c) (rowAt t (y 0)) (colAt t (y 1)) + back (DG m c) (G m c) (rowAt t (y 0)) (colAt t (y 1)) := by
  have e : ∀ s : Fin 4, term m c ⟨4 * (t.val / 4) + s.val, Pipeline.run_point_lt_of_flush t h s⟩ y
      = (∑ k, DG m c (rowAt t (y 0)) (colOf s k) * G m c (colAt t (y 1)) (colOf s k))
        + ∑ k, DU m c (rowAt t (y 0)) (colOf s k) * U m c (colAt t (y 1)) (colOf s k) := fun s => by
    have hr : rowAt ⟨4 * (t.val / 4) + s.val, Pipeline.run_point_lt_of_flush t h s⟩ (y 0) = rowAt t (y 0) := Fin.ext (by simp only [rowAt]; omega)
    have hc : colAt ⟨4 * (t.val / 4) + s.val, Pipeline.run_point_lt_of_flush t h s⟩ (y 1) = colAt t (y 1) := Fin.ext (by simp only [colAt]; omega)
    have hq : qAt ⟨4 * (t.val / 4) + s.val, Pipeline.run_point_lt_of_flush t h s⟩ = s := Fin.ext (by simp only [qAt]; omega)
    unfold term
    rw [hr, hc, hq]
  rw [Finset.sum_congr rfl fun s _ => e s, Finset.sum_add_distrib, add_comm, Fin.sum_univ_four, Fin.sum_univ_four]
  exact congrArg₂ (· + ·) (sum_parts (n := 1408) (by decide) fun k => DU m c _ k * U m c _ k) (sum_parts (n := 1408) (by decide) fun k => DG m c _ k * G m c _ k)

/-- The result array. -/
theorem arr : (dats m 0 c).arrAt 4 cfg0.N = fun y : S4096x2048.Idx => back (DU m c) (U m c) (y 0) (y 1) + back (DG m c) (G m c) (y 0) (y 1) := by
  refine (dats m 0 c).arrAt_eq_of_covers 4 _ (by decide +kernel) fun t hf y => ?_
  have h : t.val % 4 = 3 := (flush0_4 t).mp hf
  blk_simp
  have e : ∀ y : S1024x1024.Idx, ((View.whole main_v8).slice (win0_4.rect t)).emb y = ix2 (rowAt t (y 0)) (colAt t (y 1)) := fun y => by
    blk_ext [rowAt, colAt, idx t]
  rw [after0_4, e y, done t h, Pipeline.eq_sum_fin_of_reset_step_apply_of_flush (fun n h => (outsAt0 m c n h).2) 4 (fun _ => 0) (term m c) first next t h y, zero_add]
  exact run_sum t h y

end Kernel

section Reference
open Idealize.ShloMosaic Cert.FGradReferenceIdeal Cert.FGradReferenceIdeal.Read

variable (x0 x1 : (⟨S4096x5632, .bf16⟩ : BufTy).Contents (Elt Ideal)) (x2 x3 : (⟨S2048x5632, .f32⟩ : BufTy).Contents (Elt Ideal))

/-- The reference's entry. -/
theorem ref (i : Fin 4096) (f : Fin 2048) : val_main_v8 (F := Ideal) x0 x1 x2 x3 (ix2 i f)
    = back (fun i k => x1 (ix2 i k)) (fun f k => x3 (ix2 f k)) i f + back (fun i k => x0 (ix2 i k)) (fun f k => x2 (ix2 f k)) i f := by
  unfold val_main_v8 val_main_v7 val_main_v6 val_main_v5 val_main_v4 val_main_v3
  pointwise
  rfl

end Reference

open Idealize.ShloMosaic Idealize.ShloMosaic.TcCoe Idealize.SL.Sem

/-- The kernel's frame. -/
theorem frame_kernel : Cert.quiescent_FGradKernel := fun m ρ _ => Cert.FGradKernel.Gen.frame m ρ
/-- The idealized kernel's frame. -/
theorem frame_ideal : Cert.quiescent_FGradKernelIdeal := fun m ρ _ => Cert.FGradKernelIdeal.Gen.frame m ρ
/-- The reference's frame: its run leaves the arguments alone, and it has no semaphore. -/
theorem frame_reference : Cert.quiescent_FGradReferenceIdeal := fun m ρ _ =>
  (θ_run Cert.FGradReferenceIdeal.defs _ _).mono
    (fun r h => ⟨fun c => (h c).2, sem_eq_zero_of_no_sems (by decide) r.2⟩)
    (Cert.FGradReferenceIdeal.Value.run (F := Ideal) m ρ)
/-- The ideal pass rewrote nothing. -/
theorem preserves : Cert.preserves_FGradKernel_FGradKernelIdeal := trivial

/-- Both programs end with the same array. -/
theorem algebraic : Cert.algebraic_FGradKernelIdeal_FGradReferenceIdeal := by
  intro m ρ m' ρ' _ hag
  refine ⟨fun c => _, Cert.FGradKernelIdeal.Value.run_blocks (F := Ideal) m ρ, ?_⟩
  refine (θ_run Cert.FGradReferenceIdeal.defs _ _).mono
    (fun _ h c => ?_) (Cert.FGradReferenceIdeal.Value.run (F := Ideal) m' ρ')
  obtain ⟨a0, a1, a2, a3⟩ := hag c
  refine ⟨(h c).1.trans ?_, (h c).2⟩
  refine ((Cert.FGradReferenceIdeal.Read.val_main_v8_eq _ _ _ _).trans ?_).trans arr.symm
  rw [a0, a1, a2, a3]
  funext j
  idx_vars j
  exact ref _ _ _ _ j0 j1

end Cert.Proof.FGradClaims

end
-- ==== Proof.Sum8Claims.lean ====
/- The sum of eight parts (`_sum8`): eight arrays stacked along the first axis, added in order. -/
module

public import proofs.«01_k».proof.Defs
public import proofs.«01_k».proof.Proof.Lib.Scalar
public import proofs.«01_k».proof.Proof.Gen.Sum8Kernel.Frame
public import proofs.«01_k».proof.Proof.Gen.Sum8KernelIdeal.Value
public import proofs.«01_k».proof.Proof.Gen.Sum8ReferenceIdeal.Run
public import proofs.«01_k».proof.Proof.Gen.Sum8ReferenceIdeal.Read
public import Idealize.ShloMosaic.Lib.Pipeline.ValueKit

@[expose] public section

set_option maxRecDepth 16384

noncomputable section

namespace Cert.Proof.Sum8Claims

open Cert.Step

/-- An entry of the sum of the eight parts. -/
def total (P : Fin 8 → Fin 4096 → Fin 128 → EReal) (i : Fin 4096) (j : Fin 128) : EReal := ∑ k, P k i j

section Kernel
open Idealize.ShloMosaic Idealize.ShloMosaic.TcCoe Idealize.SL.Sem Cert.Sum8KernelIdeal Cert.Sum8KernelIdeal.Gen

variable {m : (ℓ : Loc nD τ sig) → Buf (Elt Ideal) ℓ} {c : Dev nD}

/-- The parts. -/
abbrev P (m : (ℓ : Loc nD τ sig) → Buf (Elt Ideal) ℓ) (c : Dev nD) (k : Fin 8) (i : Fin 4096) (j : Fin 128) : EReal := m ((c : Thread nD τ).loc main_arg0) (ix3 k i j)

/-- A block's row in the arrays. -/
def rowAt (t : Fin cfg0.N) (r : Fin 512) : Fin 4096 := ⟨t.val * 512 + r.val, by have := lt_of_lt_of_eq t.isLt N_0; omega⟩

theorem idx : ∀ t : Fin cfg0.N, win0_0.index t = ![0, t.val, 0] ∧ win0_1.index t = ![t.val, 0] :=
  (by decide +kernel : ∀ t : Fin grid0.N, _)

theorem read (t : Fin cfg0.N) (k : Fin 8) (r : Fin 512) (j : Fin 128) : iblk m c 0 t (ix3 k r j) = P m c k (rowAt t r) j := by
  blk_point [iblk, rowAt, idx t]

/-- What a point leaves in the result's tile. -/
theorem out (t : Fin cfg0.N) (y : S512x128.Idx) : out0_1 (F := Ideal) (iblk m c 0 t) y = total (P m c) (rowAt t (y 0)) (y 1) := by
  frame_out
  idx_vars y
  unfold k0_pay1
  pointwise
  simp only [read]
  exact (Fin.sum_univ_eight fun k => P m c k (rowAt t y0) y1).symm

/-- The result array. -/
theorem arr : (dats m 0 c).arrAt 1 cfg0.N = fun y : S4096x128.Idx => total (P m c) (y 0) (y 1) := by
  refine (dats m 0 c).arrAt_eq_of_covers 1 _ (by decide +kernel) fun t hf y => ?_
  blk_simp
  have e : ∀ y : S512x128.Idx, ((View.whole main_v0).slice (win0_1.rect t)).emb y = ix2 (rowAt t (y 0)) (y 1) := fun y => by
    blk_ext [rowAt, idx t]
  rw [after0_1, e y]
  exact out t y

end Kernel

section Reference
open Idealize.ShloMosaic Cert.Sum8ReferenceIdeal Cert.Sum8ReferenceIdeal.Read

/-- The reference's entry: its sum starts at zero. -/
theorem ref (x0 : (⟨S8x4096x128, .bf16⟩ : BufTy).Contents (Elt Ideal)) (i : Fin 4096) (j : Fin 128) :
    val_main_v1 (F := Ideal) x0 (ix2 i j) = total (fun k i j => x0 (ix3 k i j)) i j := by
  rw [val_main_v1_apply]
  refine (congrArg (· + _) (show Ideal.ofBits .f32 0x00000000#32 = 0 from lit_zero)).trans ((zero_add _).trans ?_)
  refine Finset.sum_congr rfl fun k _ => congrArg x0 ?_
  funext a; fin_cases a <;> rfl

end Reference

open Idealize.ShloMosaic Idealize.ShloMosaic.TcCoe Idealize.SL.Sem

/-- The kernel's frame. -/
theorem frame_kernel : Cert.quiescent_Sum8Kernel := fun m ρ _ => Cert.Sum8Kernel.Gen.frame m ρ
/-- The idealized kernel's frame. -/
theorem frame_ideal : Cert.quiescent_Sum8KernelIdeal := fun m ρ _ => Cert.Sum8KernelIdeal.Gen.frame m ρ
/-- The reference's frame: its run leaves the arguments alone, and it has no semaphore. -/
theorem frame_reference : Cert.quiescent_Sum8ReferenceIdeal := fun m ρ _ =>
  (θ_run Cert.Sum8ReferenceIdeal.defs _ _).mono
    (fun r h => ⟨fun c => (h c).2, sem_eq_zero_of_no_sems (by decide) r.2⟩)
    (Cert.Sum8ReferenceIdeal.Value.run (F := Ideal) m ρ)
/-- The ideal pass rewrote nothing. -/
theorem preserves : Cert.preserves_Sum8Kernel_Sum8KernelIdeal := trivial

/-- Both programs end with the same array. -/
theorem algebraic : Cert.algebraic_Sum8KernelIdeal_Sum8ReferenceIdeal := by
  intro m ρ m' ρ' _ hag
  refine ⟨fun c => _, Cert.Sum8KernelIdeal.Value.run_blocks (F := Ideal) m ρ, ?_⟩
  refine (θ_run Cert.Sum8ReferenceIdeal.defs _ _).mono
    (fun _ h c => ?_) (Cert.Sum8ReferenceIdeal.Value.run (F := Ideal) m' ρ')
  refine ⟨(h c).1.trans ?_, (h c).2⟩
  refine ((Cert.Sum8ReferenceIdeal.Read.val_main_v1_eq _).trans ?_).trans arr.symm
  rw [hag c]
  funext j
  idx_vars j
  exact ref _ j0 j1

end Cert.Proof.Sum8Claims

end
-- ==== Proof.AdamClaims.lean ====
/- The optimiser's step (`_adamw`) on one weight: from the weight, its gradient and the two running means, the step and the
   two new means. -/
module

public import proofs.«01_k».proof.Defs
public import proofs.«01_k».proof.Proof.Gen.AdamKernel.Frame
public import proofs.«01_k».proof.Proof.Gen.AdamKernelIdeal.Value
public import proofs.«01_k».proof.Proof.Gen.AdamReferenceIdeal.Run
public import proofs.«01_k».proof.Proof.Gen.AdamReferenceIdeal.Read

@[expose] public section

set_option maxRecDepth 16384

noncomputable section

namespace Cert.Proof.AdamClaims

open Idealize.ShloMosaic Idealize.SL.Sem

section Equal
open Cert.AdamReferenceIdeal Cert.AdamReferenceIdeal.Read

variable (x0 x1 x2 x3 : (⟨S8192x1408, .f32⟩ : BufTy).Contents (Elt Ideal))

/-- The new mean of the gradient. -/
theorem mean_eq : val_main_v4 (F := Ideal) x1 x2 = Cert.AdamKernelIdeal.Value.G5 (F := Ideal) x1 x2 := rfl
/-- The new mean of its square. -/
theorem square_eq : val_main_v10 (F := Ideal) x1 x3 = Cert.AdamKernelIdeal.Value.G6 (F := Ideal) x1 x3 := rfl
/-- The step: operation for operation the same at every entry. -/
theorem step_eq : val_main_v23 (F := Ideal) x0 x1 x2 x3 = Cert.AdamKernelIdeal.Value.G4 (F := Ideal) x1 x2 x3 x0 := rfl

end Equal

/-- The kernel's frame. -/
theorem frame_kernel : Cert.quiescent_AdamKernel := fun m ρ _ => Cert.AdamKernel.Gen.frame m ρ
/-- The idealized kernel's frame. -/
theorem frame_ideal : Cert.quiescent_AdamKernelIdeal := fun m ρ _ => Cert.AdamKernelIdeal.Gen.frame m ρ
/-- The reference's frame: its run leaves the arguments alone, and it has no semaphore. -/
theorem frame_reference : Cert.quiescent_AdamReferenceIdeal := fun m ρ _ =>
  (θ_run Cert.AdamReferenceIdeal.defs _ _).mono
    (fun r h => ⟨fun c => (h c).2.2.2, sem_eq_zero_of_no_sems (by decide) r.2⟩)
    (Cert.AdamReferenceIdeal.Value.run (F := Ideal) m ρ)
/-- The ideal pass rewrote nothing. -/
theorem preserves : Cert.preserves_AdamKernel_AdamKernelIdeal := trivial

/-- Both programs end with the same three arrays. -/
theorem algebraic : Cert.algebraic_AdamKernelIdeal_AdamReferenceIdeal := by
  intro m ρ m' ρ' _ hag
  refine ⟨fun c => _, fun c => _, fun c => _, Cert.AdamKernelIdeal.Value.run (F := Ideal) m ρ, ?_⟩
  refine (θ_run Cert.AdamReferenceIdeal.defs _ _).mono
    (fun _ h c => ?_) (Cert.AdamReferenceIdeal.Value.run (F := Ideal) m' ρ')
  obtain ⟨a0, a1, a2, a3⟩ := hag c
  refine ⟨(h c).1.trans ?_, (h c).2.1.trans ?_, (h c).2.2.1.trans ?_, (h c).2.2.2⟩
  · rw [Cert.AdamReferenceIdeal.Read.val_main_v23_eq, step_eq, a0, a1, a2, a3]
  · rw [Cert.AdamReferenceIdeal.Read.val_main_v4_eq, mean_eq, a1, a2]
  · rw [Cert.AdamReferenceIdeal.Read.val_main_v10_eq, square_eq, a1, a3]

end Cert.Proof.AdamClaims

end
-- ==== Proof.lean ====
/- The certificate's claims together: each kernel call's own module proves its five. -/
module

public import proofs.«01_k».proof.Defs
public import proofs.«01_k».proof.Proof.PleClaims
public import proofs.«01_k».proof.Proof.CfLnClaims
public import proofs.«01_k».proof.Proof.SguClaims
public import proofs.«01_k».proof.Proof.SwigluClaims
public import proofs.«01_k».proof.Proof.LossClaims
public import proofs.«01_k».proof.Proof.RmsPleClaims
public import proofs.«01_k».proof.Proof.RmsClaims
public import proofs.«01_k».proof.Proof.PoolClaims
public import proofs.«01_k».proof.Proof.CfConvClaims
public import proofs.«01_k».proof.Proof.ShortClaims
public import proofs.«01_k».proof.Proof.RmsFClaims
public import proofs.«01_k».proof.Proof.CfLnFClaims
public import proofs.«01_k».proof.Proof.SguFClaims
public import proofs.«01_k».proof.Proof.PoolFClaims
public import proofs.«01_k».proof.Proof.SwigluFClaims
public import proofs.«01_k».proof.Proof.PleFClaims
public import proofs.«01_k».proof.Proof.CfConvFClaims
public import proofs.«01_k».proof.Proof.ShortFClaims
public import proofs.«01_k».proof.Proof.WGradClaims
public import proofs.«01_k».proof.Proof.ResidClaims
public import proofs.«01_k».proof.Proof.AGradClaims
public import proofs.«01_k».proof.Proof.FGradClaims
public import proofs.«01_k».proof.Proof.Sum8Claims
public import proofs.«01_k».proof.Proof.AdamClaims
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.PleKernel.Gen.facts, Cert.PleKernelIdeal.Gen.facts, Cert.PleReferenceIdeal.Gen.facts,
    Cert.CfLnKernel.Gen.facts, Cert.CfLnKernelIdeal.Gen.facts, Cert.CfLnReferenceIdeal.Gen.facts,
    Cert.SguKernel.Gen.facts, Cert.SguKernelIdeal.Gen.facts, Cert.SguReferenceIdeal.Gen.facts,
    Cert.SwigluKernel.Gen.facts, Cert.SwigluKernelIdeal.Gen.facts, Cert.SwigluReferenceIdeal.Gen.facts,
    Cert.LossKernel.Gen.facts, Cert.LossKernelIdeal.Gen.facts, Cert.LossReferenceIdeal.Gen.facts,
    Cert.RmsPleKernel.Gen.facts, Cert.RmsPleKernelIdeal.Gen.facts, Cert.RmsPleReferenceIdeal.Gen.facts,
    Cert.RmsKernel.Gen.facts, Cert.RmsKernelIdeal.Gen.facts, Cert.RmsReferenceIdeal.Gen.facts,
    Cert.PoolKernel.Gen.facts, Cert.PoolKernelIdeal.Gen.facts, Cert.PoolReferenceIdeal.Gen.facts,
    Cert.CfConvKernel.Gen.facts, Cert.CfConvKernelIdeal.Gen.facts, Cert.CfConvReferenceIdeal.Gen.facts,
    Cert.ShortKernel.Gen.facts, Cert.ShortKernelIdeal.Gen.facts, Cert.ShortReferenceIdeal.Gen.facts,
    Cert.RmsFKernel.Gen.facts, Cert.RmsFKernelIdeal.Gen.facts, Cert.RmsFReferenceIdeal.Gen.facts,
    Cert.CfLnFKernel.Gen.facts, Cert.CfLnFKernelIdeal.Gen.facts, Cert.CfLnFReferenceIdeal.Gen.facts,
    Cert.SguFKernel.Gen.facts, Cert.SguFKernelIdeal.Gen.facts, Cert.SguFReferenceIdeal.Gen.facts,
    Cert.PoolFKernel.Gen.facts, Cert.PoolFKernelIdeal.Gen.facts, Cert.PoolFReferenceIdeal.Gen.facts,
    Cert.SwigluFKernel.Gen.facts, Cert.SwigluFKernelIdeal.Gen.facts, Cert.SwigluFReferenceIdeal.Gen.facts,
    Cert.PleFKernel.Gen.facts, Cert.PleFKernelIdeal.Gen.facts, Cert.PleFReferenceIdeal.Gen.facts,
    Cert.CfConvFKernel.Gen.facts, Cert.CfConvFKernelIdeal.Gen.facts, Cert.CfConvFReferenceIdeal.Gen.facts,
    Cert.ShortFKernel.Gen.facts, Cert.ShortFKernelIdeal.Gen.facts, Cert.ShortFReferenceIdeal.Gen.facts,
    Cert.WGradKernel.Gen.facts, Cert.WGradKernelIdeal.Gen.facts, Cert.WGradReferenceIdeal.Gen.facts,
    Cert.ResidKernel.Gen.facts, Cert.ResidKernelIdeal.Gen.facts, Cert.ResidReferenceIdeal.Gen.facts,
    Cert.AGradKernel.Gen.facts, Cert.AGradKernelIdeal.Gen.facts, Cert.AGradReferenceIdeal.Gen.facts,
    Cert.FGradKernel.Gen.facts, Cert.FGradKernelIdeal.Gen.facts, Cert.FGradReferenceIdeal.Gen.facts,
    Cert.Sum8Kernel.Gen.facts, Cert.Sum8KernelIdeal.Gen.facts, Cert.Sum8ReferenceIdeal.Gen.facts,
    Cert.AdamKernel.Gen.facts, Cert.AdamKernelIdeal.Gen.facts, Cert.AdamReferenceIdeal.Gen.facts,
    Cert.Pre_cfln_finite.Gen.facts, Cert.Pre_sgu_finite.Gen.facts, Cert.Pre_swiglu_finite.Gen.facts,
    Cert.Pre_loss_finite.Gen.facts, Cert.Pre_rmsple_finite.Gen.facts, Cert.Pre_rms_finite.Gen.facts,
    Cert.Pre_pool_finite.Gen.facts, Cert.Pre_cfconv_finite.Gen.facts, Cert.Pre_short_finite.Gen.facts,
    Cert.Pre_poolf_finite.Gen.facts,
    PleClaims.frame_kernel, PleClaims.frame_ideal, PleClaims.frame_reference, CfLnClaims.frame_kernel, CfLnClaims.frame_ideal,
    CfLnClaims.frame_reference, SguClaims.frame_kernel, SguClaims.frame_ideal, SguClaims.frame_reference, SwigluClaims.frame_kernel,
    SwigluClaims.frame_ideal, SwigluClaims.frame_reference, LossClaims.frame_kernel, LossClaims.frame_ideal, LossClaims.frame_reference,
    RmsPleClaims.frame_kernel, RmsPleClaims.frame_ideal, RmsPleClaims.frame_reference, RmsClaims.frame_kernel, RmsClaims.frame_ideal,
    RmsClaims.frame_reference, PoolClaims.frame_kernel, PoolClaims.frame_ideal, PoolClaims.frame_reference, CfConvClaims.frame_kernel,
    CfConvClaims.frame_ideal, CfConvClaims.frame_reference, ShortClaims.frame_kernel, ShortClaims.frame_ideal, ShortClaims.frame_reference,
    RmsFClaims.frame_kernel, RmsFClaims.frame_ideal, RmsFClaims.frame_reference, CfLnFClaims.frame_kernel, CfLnFClaims.frame_ideal,
    CfLnFClaims.frame_reference, SguFClaims.frame_kernel, SguFClaims.frame_ideal, SguFClaims.frame_reference, PoolFClaims.frame_kernel,
    PoolFClaims.frame_ideal, PoolFClaims.frame_reference, SwigluFClaims.frame_kernel, SwigluFClaims.frame_ideal, SwigluFClaims.frame_reference,
    PleFClaims.frame_kernel, PleFClaims.frame_ideal, PleFClaims.frame_reference, CfConvFClaims.frame_kernel, CfConvFClaims.frame_ideal,
    CfConvFClaims.frame_reference, ShortFClaims.frame_kernel, ShortFClaims.frame_ideal, ShortFClaims.frame_reference, WGradClaims.frame_kernel,
    WGradClaims.frame_ideal, WGradClaims.frame_reference, ResidClaims.frame_kernel, ResidClaims.frame_ideal, ResidClaims.frame_reference,
    AGradClaims.frame_kernel, AGradClaims.frame_ideal, AGradClaims.frame_reference, FGradClaims.frame_kernel, FGradClaims.frame_ideal,
    FGradClaims.frame_reference, Sum8Claims.frame_kernel, Sum8Claims.frame_ideal, Sum8Claims.frame_reference, AdamClaims.frame_kernel,
    AdamClaims.frame_ideal, AdamClaims.frame_reference, PleClaims.preserves, PleClaims.algebraic, CfLnClaims.preserves,
    CfLnClaims.algebraic, SguClaims.preserves, SguClaims.algebraic, SwigluClaims.preserves, SwigluClaims.algebraic,
    LossClaims.preserves, LossClaims.algebraic, RmsPleClaims.preserves, RmsPleClaims.algebraic, RmsClaims.preserves,
    RmsClaims.algebraic, PoolClaims.preserves, PoolClaims.algebraic, CfConvClaims.preserves, CfConvClaims.algebraic,
    ShortClaims.preserves, ShortClaims.algebraic, RmsFClaims.preserves, RmsFClaims.algebraic, CfLnFClaims.preserves,
    CfLnFClaims.algebraic, SguFClaims.preserves, SguFClaims.algebraic, PoolFClaims.preserves, PoolFClaims.algebraic,
    SwigluFClaims.preserves, SwigluFClaims.algebraic, PleFClaims.preserves, PleFClaims.algebraic, CfConvFClaims.preserves,
    CfConvFClaims.algebraic, ShortFClaims.preserves, ShortFClaims.algebraic, WGradClaims.preserves, WGradClaims.algebraic,
    ResidClaims.preserves, ResidClaims.algebraic, AGradClaims.preserves, AGradClaims.algebraic, FGradClaims.preserves,
    FGradClaims.algebraic, Sum8Claims.preserves, Sum8Claims.algebraic, AdamClaims.preserves, AdamClaims.algebraic⟩

end Cert.Proof

end
